-- ==== Defs.lean ====
def Pre_Kernel [hPre_lens_in_range : Cert.Pre_lens_in_range.Facts] (m : (ℓ : Loc Cert.Kernel.nD Cert.Kernel.τ Cert.Kernel.sig) → Buf (Elt Bits) ℓ) : Prop :=
  ∀ c : Dev Cert.Kernel.nD,
    (Cert.Pre_lens_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_lens_in_range : Cert.Pre_lens_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_lens_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_lens_in_range [hPre_lens_in_range : Cert.Pre_lens_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_lens_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Transform (m : (ℓ : Loc Cert.Transform.nD Cert.Transform.τ Cert.Transform.sig) → Buf (Elt Bits) ℓ) : Prop :=
  True

def Pre_TransformIdeal (m : (ℓ : Loc Cert.TransformIdeal.nD Cert.TransformIdeal.τ Cert.TransformIdeal.sig) → Buf (Elt Ideal) ℓ) : Prop :=
  True

def Pre_TransformReferenceIdeal (m : (ℓ : Loc Cert.TransformReferenceIdeal.nD Cert.TransformReferenceIdeal.τ Cert.TransformReferenceIdeal.sig) → Buf (Elt Ideal) ℓ) : Prop :=
  True

def Pre_Stats (m : (ℓ : Loc Cert.Stats.nD Cert.Stats.τ Cert.Stats.sig) → Buf (Elt Bits) ℓ) : Prop :=
  True

def Pre_StatsIdeal (m : (ℓ : Loc Cert.StatsIdeal.nD Cert.StatsIdeal.τ Cert.StatsIdeal.sig) → Buf (Elt Ideal) ℓ) : Prop :=
  True

def Pre_StatsReferenceIdeal (m : (ℓ : Loc Cert.StatsReferenceIdeal.nD Cert.StatsReferenceIdeal.τ Cert.StatsReferenceIdeal.sig) → Buf (Elt Ideal) ℓ) : Prop :=
  True

def quiescent_Kernel [hKernel : Cert.Kernel.Facts] [hPre_lens_in_range : Cert.Pre_lens_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_lens_in_range : Cert.Pre_lens_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_lens_in_range [hReferenceIdeal : Cert.ReferenceIdeal.Facts] [hPre_lens_in_range : Cert.Pre_lens_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_lens_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Transform [hTransform : Cert.Transform.Facts] : Prop :=
  ∀ (m : (ℓ : Loc Cert.Transform.nD Cert.Transform.τ Cert.Transform.sig) → Buf (Elt Bits) ℓ) (g : Dev Cert.Transform.nD → PrngReg), Pre_Transform m →
    θ_run (Cert.Transform.defs (F := Bits)) (onTc (τ := Cert.Transform.τ) (Cert.Transform.main (F := Bits))) ⟨m, fun _ => 0, g⟩ (fun r => (∀ c : Dev Cert.Transform.nD,
      r.2.mem ((c.tc : Thread Cert.Transform.nD Cert.Transform.τ).loc Cert.Transform.main_arg0) = m ((c.tc : Thread Cert.Transform.nD Cert.Transform.τ).loc Cert.Transform.main_arg0)
      ∧ r.2.mem ((c.tc : Thread Cert.Transform.nD Cert.Transform.τ).loc Cert.Transform.main_arg1) = m ((c.tc : Thread Cert.Transform.nD Cert.Transform.τ).loc Cert.Transform.main_arg1)
      ∧ r.2.mem ((c.tc : Thread Cert.Transform.nD Cert.Transform.τ).loc Cert.Transform.main_arg2) = m ((c.tc : Thread Cert.Transform.nD Cert.Transform.τ).loc Cert.Transform.main_arg2)
      ∧ r.2.mem ((c.tc : Thread Cert.Transform.nD Cert.Transform.τ).loc Cert.Transform.main_arg3) = m ((c.tc : Thread Cert.Transform.nD Cert.Transform.τ).loc Cert.Transform.main_arg3)
      ∧ r.2.mem ((c.tc : Thread Cert.Transform.nD Cert.Transform.τ).loc Cert.Transform.main_arg4) = m ((c.tc : Thread Cert.Transform.nD Cert.Transform.τ).loc Cert.Transform.main_arg4)
      ∧ r.2.mem ((c.tc : Thread Cert.Transform.nD Cert.Transform.τ).loc Cert.Transform.main_arg5) = m ((c.tc : Thread Cert.Transform.nD Cert.Transform.τ).loc Cert.Transform.main_arg5)
      ∧ r.2.mem ((c.tc : Thread Cert.Transform.nD Cert.Transform.τ).loc Cert.Transform.main_arg6) = m ((c.tc : Thread Cert.Transform.nD Cert.Transform.τ).loc Cert.Transform.main_arg6))
      ∧ r.2.sem = fun _ => 0)

def quiescent_TransformIdeal [hTransformIdeal : Cert.TransformIdeal.Facts] : Prop :=
  ∀ (m : (ℓ : Loc Cert.TransformIdeal.nD Cert.TransformIdeal.τ Cert.TransformIdeal.sig) → Buf (Elt Ideal) ℓ) (g : Dev Cert.TransformIdeal.nD → PrngReg), Pre_TransformIdeal m →
    θ_run (Cert.TransformIdeal.defs (F := Ideal)) (onTc (τ := Cert.TransformIdeal.τ) (Cert.TransformIdeal.main (F := Ideal))) ⟨m, fun _ => 0, g⟩ (fun r => (∀ c : Dev Cert.TransformIdeal.nD,
      r.2.mem ((c.tc : Thread Cert.TransformIdeal.nD Cert.TransformIdeal.τ).loc Cert.TransformIdeal.main_arg0) = m ((c.tc : Thread Cert.TransformIdeal.nD Cert.TransformIdeal.τ).loc Cert.TransformIdeal.main_arg0)
      ∧ r.2.mem ((c.tc : Thread Cert.TransformIdeal.nD Cert.TransformIdeal.τ).loc Cert.TransformIdeal.main_arg1) = m ((c.tc : Thread Cert.TransformIdeal.nD Cert.TransformIdeal.τ).loc Cert.TransformIdeal.main_arg1)
      ∧ r.2.mem ((c.tc : Thread Cert.TransformIdeal.nD Cert.TransformIdeal.τ).loc Cert.TransformIdeal.main_arg2) = m ((c.tc : Thread Cert.TransformIdeal.nD Cert.TransformIdeal.τ).loc Cert.TransformIdeal.main_arg2)
      ∧ r.2.mem ((c.tc : Thread Cert.TransformIdeal.nD Cert.TransformIdeal.τ).loc Cert.TransformIdeal.main_arg3) = m ((c.tc : Thread Cert.TransformIdeal.nD Cert.TransformIdeal.τ).loc Cert.TransformIdeal.main_arg3)
      ∧ r.2.mem ((c.tc : Thread Cert.TransformIdeal.nD Cert.TransformIdeal.τ).loc Cert.TransformIdeal.main_arg4) = m ((c.tc : Thread Cert.TransformIdeal.nD Cert.TransformIdeal.τ).loc Cert.TransformIdeal.main_arg4)
      ∧ r.2.mem ((c.tc : Thread Cert.TransformIdeal.nD Cert.TransformIdeal.τ).loc Cert.TransformIdeal.main_arg5) = m ((c.tc : Thread Cert.TransformIdeal.nD Cert.TransformIdeal.τ).loc Cert.TransformIdeal.main_arg5)
      ∧ r.2.mem ((c.tc : Thread Cert.TransformIdeal.nD Cert.TransformIdeal.τ).loc Cert.TransformIdeal.main_arg6) = m ((c.tc : Thread Cert.TransformIdeal.nD Cert.TransformIdeal.τ).loc Cert.TransformIdeal.main_arg6))
      ∧ r.2.sem = fun _ => 0)

def quiescent_TransformReferenceIdeal [hTransformReferenceIdeal : Cert.TransformReferenceIdeal.Facts] : Prop :=
  ∀ (m : (ℓ : Loc Cert.TransformReferenceIdeal.nD Cert.TransformReferenceIdeal.τ Cert.TransformReferenceIdeal.sig) → Buf (Elt Ideal) ℓ) (g : Dev Cert.TransformReferenceIdeal.nD → PrngReg), Pre_TransformReferenceIdeal m →
    θ_run (Cert.TransformReferenceIdeal.defs (F := Ideal)) (onTc (τ := Cert.TransformReferenceIdeal.τ) (Cert.TransformReferenceIdeal.main (F := Ideal))) ⟨m, fun _ => 0, g⟩ (fun r => (∀ c : Dev Cert.TransformReferenceIdeal.nD,
      r.2.mem ((c.tc : Thread Cert.TransformReferenceIdeal.nD Cert.TransformReferenceIdeal.τ).loc Cert.TransformReferenceIdeal.main_arg0) = m ((c.tc : Thread Cert.TransformReferenceIdeal.nD Cert.TransformReferenceIdeal.τ).loc Cert.TransformReferenceIdeal.main_arg0)
      ∧ r.2.mem ((c.tc : Thread Cert.TransformReferenceIdeal.nD Cert.TransformReferenceIdeal.τ).loc Cert.TransformReferenceIdeal.main_arg1) = m ((c.tc : Thread Cert.TransformReferenceIdeal.nD Cert.TransformReferenceIdeal.τ).loc Cert.TransformReferenceIdeal.main_arg1)
      ∧ r.2.mem ((c.tc : Thread Cert.TransformReferenceIdeal.nD Cert.TransformReferenceIdeal.τ).loc Cert.TransformReferenceIdeal.main_arg2) = m ((c.tc : Thread Cert.TransformReferenceIdeal.nD Cert.TransformReferenceIdeal.τ).loc Cert.TransformReferenceIdeal.main_arg2)
      ∧ r.2.mem ((c.tc : Thread Cert.TransformReferenceIdeal.nD Cert.TransformReferenceIdeal.τ).loc Cert.TransformReferenceIdeal.main_arg3) = m ((c.tc : Thread Cert.TransformReferenceIdeal.nD Cert.TransformReferenceIdeal.τ).loc Cert.TransformReferenceIdeal.main_arg3)
      ∧ r.2.mem ((c.tc : Thread Cert.TransformReferenceIdeal.nD Cert.TransformReferenceIdeal.τ).loc Cert.TransformReferenceIdeal.main_arg4) = m ((c.tc : Thread Cert.TransformReferenceIdeal.nD Cert.TransformReferenceIdeal.τ).loc Cert.TransformReferenceIdeal.main_arg4)
      ∧ r.2.mem ((c.tc : Thread Cert.TransformReferenceIdeal.nD Cert.TransformReferenceIdeal.τ).loc Cert.TransformReferenceIdeal.main_arg5) = m ((c.tc : Thread Cert.TransformReferenceIdeal.nD Cert.TransformReferenceIdeal.τ).loc Cert.TransformReferenceIdeal.main_arg5)
      ∧ r.2.mem ((c.tc : Thread Cert.TransformReferenceIdeal.nD Cert.TransformReferenceIdeal.τ).loc Cert.TransformReferenceIdeal.main_arg6) = m ((c.tc : Thread Cert.TransformReferenceIdeal.nD Cert.TransformReferenceIdeal.τ).loc Cert.TransformReferenceIdeal.main_arg6))
      ∧ r.2.sem = fun _ => 0)

def quiescent_Stats [hStats : Cert.Stats.Facts] : Prop :=
  ∀ (m : (ℓ : Loc Cert.Stats.nD Cert.Stats.τ Cert.Stats.sig) → Buf (Elt Bits) ℓ) (g : Dev Cert.Stats.nD → PrngReg), Pre_Stats m →
    θ_run (Cert.Stats.defs (F := Bits)) (onTc (τ := Cert.Stats.τ) (Cert.Stats.main (F := Bits))) ⟨m, fun _ => 0, g⟩ (fun r => (∀ c : Dev Cert.Stats.nD,
      r.2.mem ((c.tc : Thread Cert.Stats.nD Cert.Stats.τ).loc Cert.Stats.main_arg0) = m ((c.tc : Thread Cert.Stats.nD Cert.Stats.τ).loc Cert.Stats.main_arg0))
      ∧ r.2.sem = fun _ => 0)

def quiescent_StatsIdeal [hStatsIdeal : Cert.StatsIdeal.Facts] : Prop :=
  ∀ (m : (ℓ : Loc Cert.StatsIdeal.nD Cert.StatsIdeal.τ Cert.StatsIdeal.sig) → Buf (Elt Ideal) ℓ) (g : Dev Cert.StatsIdeal.nD → PrngReg), Pre_StatsIdeal m →
    θ_run (Cert.StatsIdeal.defs (F := Ideal)) (onTc (τ := Cert.StatsIdeal.τ) (Cert.StatsIdeal.main (F := Ideal))) ⟨m, fun _ => 0, g⟩ (fun r => (∀ c : Dev Cert.StatsIdeal.nD,
      r.2.mem ((c.tc : Thread Cert.StatsIdeal.nD Cert.StatsIdeal.τ).loc Cert.StatsIdeal.main_arg0) = m ((c.tc : Thread Cert.StatsIdeal.nD Cert.StatsIdeal.τ).loc Cert.StatsIdeal.main_arg0))
      ∧ r.2.sem = fun _ => 0)

def quiescent_StatsReferenceIdeal [hStatsReferenceIdeal : Cert.StatsReferenceIdeal.Facts] : Prop :=
  ∀ (m : (ℓ : Loc Cert.StatsReferenceIdeal.nD Cert.StatsReferenceIdeal.τ Cert.StatsReferenceIdeal.sig) → Buf (Elt Ideal) ℓ) (g : Dev Cert.StatsReferenceIdeal.nD → PrngReg), Pre_StatsReferenceIdeal m →
    θ_run (Cert.StatsReferenceIdeal.defs (F := Ideal)) (onTc (τ := Cert.StatsReferenceIdeal.τ) (Cert.StatsReferenceIdeal.main (F := Ideal))) ⟨m, fun _ => 0, g⟩ (fun r => (∀ c : Dev Cert.StatsReferenceIdeal.nD,
      r.2.mem ((c.tc : Thread Cert.StatsReferenceIdeal.nD Cert.StatsReferenceIdeal.τ).loc Cert.StatsReferenceIdeal.main_arg0) = m ((c.tc : Thread Cert.StatsReferenceIdeal.nD Cert.StatsReferenceIdeal.τ).loc Cert.StatsReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_lens_in_range : Cert.Pre_lens_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Transform_TransformIdeal : Prop :=
  True

def algebraic_TransformIdeal_TransformReferenceIdeal [hTransformIdeal : Cert.TransformIdeal.Facts] [hTransformReferenceIdeal : Cert.TransformReferenceIdeal.Facts] : Prop :=
  ∀ (m : (ℓ : Loc Cert.TransformIdeal.nD Cert.TransformIdeal.τ Cert.TransformIdeal.sig) → Buf (Elt Ideal) ℓ) (g : Dev Cert.TransformIdeal.nD → PrngReg)
    (m' : (ℓ : Loc Cert.TransformReferenceIdeal.nD Cert.TransformReferenceIdeal.τ Cert.TransformReferenceIdeal.sig) → Buf (Elt Ideal) ℓ) (g' : Dev Cert.TransformReferenceIdeal.nD → PrngReg), Pre_TransformIdeal m →
    (∀ c : Dev Cert.TransformIdeal.nD,
      m' ((c.tc : Thread Cert.TransformReferenceIdeal.nD Cert.TransformReferenceIdeal.τ).loc Cert.TransformReferenceIdeal.main_arg0) = m ((c.tc : Thread Cert.TransformIdeal.nD Cert.TransformIdeal.τ).loc Cert.TransformIdeal.main_arg0)
      ∧ m' ((c.tc : Thread Cert.TransformReferenceIdeal.nD Cert.TransformReferenceIdeal.τ).loc Cert.TransformReferenceIdeal.main_arg1) = m ((c.tc : Thread Cert.TransformIdeal.nD Cert.TransformIdeal.τ).loc Cert.TransformIdeal.main_arg1)
      ∧ m' ((c.tc : Thread Cert.TransformReferenceIdeal.nD Cert.TransformReferenceIdeal.τ).loc Cert.TransformReferenceIdeal.main_arg2) = m ((c.tc : Thread Cert.TransformIdeal.nD Cert.TransformIdeal.τ).loc Cert.TransformIdeal.main_arg2)
      ∧ m' ((c.tc : Thread Cert.TransformReferenceIdeal.nD Cert.TransformReferenceIdeal.τ).loc Cert.TransformReferenceIdeal.main_arg3) = m ((c.tc : Thread Cert.TransformIdeal.nD Cert.TransformIdeal.τ).loc Cert.TransformIdeal.main_arg3)
      ∧ m' ((c.tc : Thread Cert.TransformReferenceIdeal.nD Cert.TransformReferenceIdeal.τ).loc Cert.TransformReferenceIdeal.main_arg4) = m ((c.tc : Thread Cert.TransformIdeal.nD Cert.TransformIdeal.τ).loc Cert.TransformIdeal.main_arg4)
      ∧ m' ((c.tc : Thread Cert.TransformReferenceIdeal.nD Cert.TransformReferenceIdeal.τ).loc Cert.TransformReferenceIdeal.main_arg5) = m ((c.tc : Thread Cert.TransformIdeal.nD Cert.TransformIdeal.τ).loc Cert.TransformIdeal.main_arg5)
      ∧ m' ((c.tc : Thread Cert.TransformReferenceIdeal.nD Cert.TransformReferenceIdeal.τ).loc Cert.TransformReferenceIdeal.main_arg6) = m ((c.tc : Thread Cert.TransformIdeal.nD Cert.TransformIdeal.τ).loc Cert.TransformIdeal.main_arg6)) →
    ∃ (v0 : (c : Dev Cert.TransformIdeal.nD) → Buf (Elt Ideal) ((c.tc : Thread Cert.TransformIdeal.nD Cert.TransformIdeal.τ).loc Cert.TransformIdeal.main_v6_0)) (v1 : (c : Dev Cert.TransformIdeal.nD) → Buf (Elt Ideal) ((c.tc : Thread Cert.TransformIdeal.nD Cert.TransformIdeal.τ).loc Cert.TransformIdeal.main_v6_1)),
      θ_run (Cert.TransformIdeal.defs (F := Ideal)) (onTc (τ := Cert.TransformIdeal.τ) (Cert.TransformIdeal.main (F := Ideal))) ⟨m, fun _ => 0, g⟩ (fun r => ∀ c : Dev Cert.TransformIdeal.nD,
          r.2.mem ((c.tc : Thread Cert.TransformIdeal.nD Cert.TransformIdeal.τ).loc Cert.TransformIdeal.main_v6_0) = v0 c
          ∧ r.2.mem ((c.tc : Thread Cert.TransformIdeal.nD Cert.TransformIdeal.τ).loc Cert.TransformIdeal.main_v6_1) = v1 c
          ∧ r.2.mem ((c.tc : Thread Cert.TransformIdeal.nD Cert.TransformIdeal.τ).loc Cert.TransformIdeal.main_arg0) = m ((c.tc : Thread Cert.TransformIdeal.nD Cert.TransformIdeal.τ).loc Cert.TransformIdeal.main_arg0)
          ∧ r.2.mem ((c.tc : Thread Cert.TransformIdeal.nD Cert.TransformIdeal.τ).loc Cert.TransformIdeal.main_arg1) = m ((c.tc : Thread Cert.TransformIdeal.nD Cert.TransformIdeal.τ).loc Cert.TransformIdeal.main_arg1)
          ∧ r.2.mem ((c.tc : Thread Cert.TransformIdeal.nD Cert.TransformIdeal.τ).loc Cert.TransformIdeal.main_arg2) = m ((c.tc : Thread Cert.TransformIdeal.nD Cert.TransformIdeal.τ).loc Cert.TransformIdeal.main_arg2)
          ∧ r.2.mem ((c.tc : Thread Cert.TransformIdeal.nD Cert.TransformIdeal.τ).loc Cert.TransformIdeal.main_arg3) = m ((c.tc : Thread Cert.TransformIdeal.nD Cert.TransformIdeal.τ).loc Cert.TransformIdeal.main_arg3)
          ∧ r.2.mem ((c.tc : Thread Cert.TransformIdeal.nD Cert.TransformIdeal.τ).loc Cert.TransformIdeal.main_arg4) = m ((c.tc : Thread Cert.TransformIdeal.nD Cert.TransformIdeal.τ).loc Cert.TransformIdeal.main_arg4)
          ∧ r.2.mem ((c.tc : Thread Cert.TransformIdeal.nD Cert.TransformIdeal.τ).loc Cert.TransformIdeal.main_arg5) = m ((c.tc : Thread Cert.TransformIdeal.nD Cert.TransformIdeal.τ).loc Cert.TransformIdeal.main_arg5)
          ∧ r.2.mem ((c.tc : Thread Cert.TransformIdeal.nD Cert.TransformIdeal.τ).loc Cert.TransformIdeal.main_arg6) = m ((c.tc : Thread Cert.TransformIdeal.nD Cert.TransformIdeal.τ).loc Cert.TransformIdeal.main_arg6))
      ∧ θ_run (Cert.TransformReferenceIdeal.defs (F := Ideal)) (onTc (τ := Cert.TransformReferenceIdeal.τ) (Cert.TransformReferenceIdeal.main (F := Ideal))) ⟨m', fun _ => 0, g'⟩ (fun r => ∀ c : Dev Cert.TransformReferenceIdeal.nD,
          r.2.mem ((c.tc : Thread Cert.TransformReferenceIdeal.nD Cert.TransformReferenceIdeal.τ).loc Cert.TransformReferenceIdeal.main_v6_0) = v0 c
          ∧ r.2.mem ((c.tc : Thread Cert.TransformReferenceIdeal.nD Cert.TransformReferenceIdeal.τ).loc Cert.TransformReferenceIdeal.main_v6_1) = v1 c
          ∧ r.2.mem ((c.tc : Thread Cert.TransformReferenceIdeal.nD Cert.TransformReferenceIdeal.τ).loc Cert.TransformReferenceIdeal.main_arg0) = m' ((c.tc : Thread Cert.TransformReferenceIdeal.nD Cert.TransformReferenceIdeal.τ).loc Cert.TransformReferenceIdeal.main_arg0)
          ∧ r.2.mem ((c.tc : Thread Cert.TransformReferenceIdeal.nD Cert.TransformReferenceIdeal.τ).loc Cert.TransformReferenceIdeal.main_arg1) = m' ((c.tc : Thread Cert.TransformReferenceIdeal.nD Cert.TransformReferenceIdeal.τ).loc Cert.TransformReferenceIdeal.main_arg1)
          ∧ r.2.mem ((c.tc : Thread Cert.TransformReferenceIdeal.nD Cert.TransformReferenceIdeal.τ).loc Cert.TransformReferenceIdeal.main_arg2) = m' ((c.tc : Thread Cert.TransformReferenceIdeal.nD Cert.TransformReferenceIdeal.τ).loc Cert.TransformReferenceIdeal.main_arg2)
          ∧ r.2.mem ((c.tc : Thread Cert.TransformReferenceIdeal.nD Cert.TransformReferenceIdeal.τ).loc Cert.TransformReferenceIdeal.main_arg3) = m' ((c.tc : Thread Cert.TransformReferenceIdeal.nD Cert.TransformReferenceIdeal.τ).loc Cert.TransformReferenceIdeal.main_arg3)
          ∧ r.2.mem ((c.tc : Thread Cert.TransformReferenceIdeal.nD Cert.TransformReferenceIdeal.τ).loc Cert.TransformReferenceIdeal.main_arg4) = m' ((c.tc : Thread Cert.TransformReferenceIdeal.nD Cert.TransformReferenceIdeal.τ).loc Cert.TransformReferenceIdeal.main_arg4)
          ∧ r.2.mem ((c.tc : Thread Cert.TransformReferenceIdeal.nD Cert.TransformReferenceIdeal.τ).loc Cert.TransformReferenceIdeal.main_arg5) = m' ((c.tc : Thread Cert.TransformReferenceIdeal.nD Cert.TransformReferenceIdeal.τ).loc Cert.TransformReferenceIdeal.main_arg5)
          ∧ r.2.mem ((c.tc : Thread Cert.TransformReferenceIdeal.nD Cert.TransformReferenceIdeal.τ).loc Cert.TransformReferenceIdeal.main_arg6) = m' ((c.tc : Thread Cert.TransformReferenceIdeal.nD Cert.TransformReferenceIdeal.τ).loc Cert.TransformReferenceIdeal.main_arg6))

def preserves_Stats_StatsIdeal : Prop :=
  True

def algebraic_StatsIdeal_StatsReferenceIdeal [hStatsIdeal : Cert.StatsIdeal.Facts] [hStatsReferenceIdeal : Cert.StatsReferenceIdeal.Facts] : Prop :=
  ∀ (m : (ℓ : Loc Cert.StatsIdeal.nD Cert.StatsIdeal.τ Cert.StatsIdeal.sig) → Buf (Elt Ideal) ℓ) (g : Dev Cert.StatsIdeal.nD → PrngReg)
    (m' : (ℓ : Loc Cert.StatsReferenceIdeal.nD Cert.StatsReferenceIdeal.τ Cert.StatsReferenceIdeal.sig) → Buf (Elt Ideal) ℓ) (g' : Dev Cert.StatsReferenceIdeal.nD → PrngReg), Pre_StatsIdeal m →
    (∀ c : Dev Cert.StatsIdeal.nD,
      m' ((c.tc : Thread Cert.StatsReferenceIdeal.nD Cert.StatsReferenceIdeal.τ).loc Cert.StatsReferenceIdeal.main_arg0) = m ((c.tc : Thread Cert.StatsIdeal.nD Cert.StatsIdeal.τ).loc Cert.StatsIdeal.main_arg0)) →
    ∃ (v0 : (c : Dev Cert.StatsIdeal.nD) → Buf (Elt Ideal) ((c.tc : Thread Cert.StatsIdeal.nD Cert.StatsIdeal.τ).loc Cert.StatsIdeal.main_v0_0)) (v1 : (c : Dev Cert.StatsIdeal.nD) → Buf (Elt Ideal) ((c.tc : Thread Cert.StatsIdeal.nD Cert.StatsIdeal.τ).loc Cert.StatsIdeal.main_v0_1)) (v2 : (c : Dev Cert.StatsIdeal.nD) → Buf (Elt Ideal) ((c.tc : Thread Cert.StatsIdeal.nD Cert.StatsIdeal.τ).loc Cert.StatsIdeal.main_v0_2)) (v3 : (c : Dev Cert.StatsIdeal.nD) → Buf (Elt Ideal) ((c.tc : Thread Cert.StatsIdeal.nD Cert.StatsIdeal.τ).loc Cert.StatsIdeal.main_v0_3)) (v4 : (c : Dev Cert.StatsIdeal.nD) → Buf (Elt Ideal) ((c.tc : Thread Cert.StatsIdeal.nD Cert.StatsIdeal.τ).loc Cert.StatsIdeal.main_v0_4)),
      θ_run (Cert.StatsIdeal.defs (F := Ideal)) (onTc (τ := Cert.StatsIdeal.τ) (Cert.StatsIdeal.main (F := Ideal))) ⟨m, fun _ => 0, g⟩ (fun r => ∀ c : Dev Cert.StatsIdeal.nD,
          r.2.mem ((c.tc : Thread Cert.StatsIdeal.nD Cert.StatsIdeal.τ).loc Cert.StatsIdeal.main_v0_0) = v0 c
          ∧ r.2.mem ((c.tc : Thread Cert.StatsIdeal.nD Cert.StatsIdeal.τ).loc Cert.StatsIdeal.main_v0_1) = v1 c
          ∧ r.2.mem ((c.tc : Thread Cert.StatsIdeal.nD Cert.StatsIdeal.τ).loc Cert.StatsIdeal.main_v0_2) = v2 c
          ∧ r.2.mem ((c.tc : Thread Cert.StatsIdeal.nD Cert.StatsIdeal.τ).loc Cert.StatsIdeal.main_v0_3) = v3 c
          ∧ r.2.mem ((c.tc : Thread Cert.StatsIdeal.nD Cert.StatsIdeal.τ).loc Cert.StatsIdeal.main_v0_4) = v4 c
          ∧ r.2.mem ((c.tc : Thread Cert.StatsIdeal.nD Cert.StatsIdeal.τ).loc Cert.StatsIdeal.main_arg0) = m ((c.tc : Thread Cert.StatsIdeal.nD Cert.StatsIdeal.τ).loc Cert.StatsIdeal.main_arg0))
      ∧ θ_run (Cert.StatsReferenceIdeal.defs (F := Ideal)) (onTc (τ := Cert.StatsReferenceIdeal.τ) (Cert.StatsReferenceIdeal.main (F := Ideal))) ⟨m', fun _ => 0, g'⟩ (fun r => ∀ c : Dev Cert.StatsReferenceIdeal.nD,
          r.2.mem ((c.tc : Thread Cert.StatsReferenceIdeal.nD Cert.StatsReferenceIdeal.τ).loc Cert.StatsReferenceIdeal.main_v12) = v0 c
          ∧ r.2.mem ((c.tc : Thread Cert.StatsReferenceIdeal.nD Cert.StatsReferenceIdeal.τ).loc Cert.StatsReferenceIdeal.main_v20) = v1 c
          ∧ r.2.mem ((c.tc : Thread Cert.StatsReferenceIdeal.nD Cert.StatsReferenceIdeal.τ).loc Cert.StatsReferenceIdeal.main_v22) = v2 c
          ∧ r.2.mem ((c.tc : Thread Cert.StatsReferenceIdeal.nD Cert.StatsReferenceIdeal.τ).loc Cert.StatsReferenceIdeal.main_v23) = v3 c
          ∧ r.2.mem ((c.tc : Thread Cert.StatsReferenceIdeal.nD Cert.StatsReferenceIdeal.τ).loc Cert.StatsReferenceIdeal.main_v26) = v4 c
          ∧ r.2.mem ((c.tc : Thread Cert.StatsReferenceIdeal.nD Cert.StatsReferenceIdeal.τ).loc Cert.StatsReferenceIdeal.main_arg0) = m' ((c.tc : Thread Cert.StatsReferenceIdeal.nD Cert.StatsReferenceIdeal.τ).loc Cert.StatsReferenceIdeal.main_arg0))

def Claim : Prop :=
  ∃ (hKernel : Cert.Kernel.Facts) (hKernelIdeal : Cert.KernelIdeal.Facts) (hReferenceIdeal : Cert.ReferenceIdeal.Facts) (hTransform : Cert.Transform.Facts) (hTransformIdeal : Cert.TransformIdeal.Facts) (hTransformReferenceIdeal : Cert.TransformReferenceIdeal.Facts) (hStats : Cert.Stats.Facts) (hStatsIdeal : Cert.StatsIdeal.Facts) (hStatsReferenceIdeal : Cert.StatsReferenceIdeal.Facts) (hPre_lens_in_range : Cert.Pre_lens_in_range.Facts),
    quiescent_Kernel (hKernel := hKernel) (hPre_lens_in_range := hPre_lens_in_range)
    ∧ quiescent_KernelIdeal (hKernelIdeal := hKernelIdeal) (hPre_lens_in_range := hPre_lens_in_range)
    ∧ quiescent_ReferenceIdeal (hReferenceIdeal := hReferenceIdeal)
    ∧ quiescent_ReferenceIdeal_pre_lens_in_range (hReferenceIdeal := hReferenceIdeal) (hPre_lens_in_range := hPre_lens_in_range)
    ∧ quiescent_Transform (hTransform := hTransform)
    ∧ quiescent_TransformIdeal (hTransformIdeal := hTransformIdeal)
    ∧ quiescent_TransformReferenceIdeal (hTransformReferenceIdeal := hTransformReferenceIdeal)
    ∧ quiescent_Stats (hStats := hStats)
    ∧ quiescent_StatsIdeal (hStatsIdeal := hStatsIdeal)
    ∧ quiescent_StatsReferenceIdeal (hStatsReferenceIdeal := hStatsReferenceIdeal)
    ∧ preserves_Kernel_KernelIdeal
    ∧ algebraic_KernelIdeal_ReferenceIdeal (hKernelIdeal := hKernelIdeal) (hReferenceIdeal := hReferenceIdeal) (hPre_lens_in_range := hPre_lens_in_range)
    ∧ preserves_Transform_TransformIdeal
    ∧ algebraic_TransformIdeal_TransformReferenceIdeal (hTransformIdeal := hTransformIdeal) (hTransformReferenceIdeal := hTransformReferenceIdeal)
    ∧ preserves_Stats_StatsIdeal
    ∧ algebraic_StatsIdeal_StatsReferenceIdeal (hStatsIdeal := hStatsIdeal) (hStatsReferenceIdeal := hStatsReferenceIdeal)
-- ==== Pre_lens_in_range.lean ====
abbrev S24 : Shape := ⟨1, ![24]⟩
abbrev S21504x1024 : Shape := ⟨2, ![21504, 1024]⟩
abbrev S24x896 : Shape := ⟨2, ![24, 896]⟩
abbrev S50368x1024 : Shape := ⟨2, ![50368, 1024]⟩
abbrev S50368 : Shape := ⟨1, ![50368]⟩
abbrev S_ : Shape := ⟨0, ![]⟩

class Facts : Prop where
  bcast_S_S24 : S_.BroadcastsInDim S24 (![] : Fin 0 → Fin S24.rank)
  reducesTo_S24_S_d0 : S24.ReducesTo [0] S_
  h_S_ : 0 < S_.numel

variable [Facts]

def fn {F : FTy → Type} [FloatOps F] (main_arg0 : IVec S24 32) (main_arg1 : FVec F S21504x1024 .fp8e4m3) (main_arg2 : FVec F S24x896 .f32) (main_arg3 : FVec F S50368x1024 .fp8e4m3) (main_arg4 : FVec F S50368 .f32) (main_arg5 : FVec F S50368 .f32) : IVec S_ 1 :=
  let main_c : IVec S_ 32 := constantI S_ 32 0#32
  let main_v0 : IVec S24 32 := broadcastInDim S24 ![] bcast_S_S24 main_c
  let main_v1 : IVec S24 1 := cmpi .sge main_arg0 main_v0
  let main_c_0 : IVec S_ 32 := constantI S_ 32 896#32
  let main_v2 : IVec S24 32 := broadcastInDim S24 ![] bcast_S_S24 main_c_0
  let main_v3 : IVec S24 1 := cmpi .sle main_arg0 main_v2
  let main_v4 : IVec S24 1 := andi main_v1 main_v3
  let main_c_1 : IVec S_ 1 := constantI S_ 1 1#1
  let main_v5 : IVec S_ 1 := (fun x v => Host.reduce IntOp.andi x v reducesTo_S24_S_d0 h_S_) main_v4 main_c_1
  main_v5
-- ==== Kernel.lean ====
abbrev S24 : Shape := ⟨1, ![24]⟩
abbrev S21504x1024 : Shape := ⟨2, ![21504, 1024]⟩
abbrev S24x896 : Shape := ⟨2, ![24, 896]⟩
abbrev S50368x1024 : Shape := ⟨2, ![50368, 1024]⟩
abbrev S50368 : Shape := ⟨1, ![50368]⟩
abbrev S24x7x128 : Shape := ⟨3, ![24, 7, 128]⟩
abbrev S1x50368 : Shape := ⟨2, ![1, 50368]⟩
abbrev S24x50368 : Shape := ⟨2, ![24, 50368]⟩
abbrev S512x1024 : Shape := ⟨2, ![512, 1024]⟩
abbrev S1x512 : Shape := ⟨2, ![1, 512]⟩
abbrev S24x512 : Shape := ⟨2, ![24, 512]⟩
abbrev S22016x1024 : Shape := ⟨2, ![22016, 1024]⟩
abbrev S22016x128 : Shape := ⟨2, ![22016, 128]⟩
abbrev S24x8x512 : Shape := ⟨3, ![24, 8, 512]⟩
abbrev S688 : Shape := ⟨1, ![688]⟩
abbrev S1 : Shape := ⟨1, ![1]⟩
abbrev S_ : Shape := ⟨0, ![]⟩
abbrev S32x1024 : Shape := ⟨2, ![32, 1024]⟩
abbrev S1x1x128 : Shape := ⟨3, ![1, 1, 128]⟩
abbrev S1x128 : Shape := ⟨2, ![1, 128]⟩
abbrev S128x128 : Shape := ⟨2, ![128, 128]⟩
abbrev S32x128 : Shape := ⟨2, ![32, 128]⟩
abbrev S32x512 : Shape := ⟨2, ![32, 512]⟩
abbrev S512x512 : Shape := ⟨2, ![512, 512]⟩
abbrev S8x512 : Shape := ⟨2, ![8, 512]⟩
abbrev S1x8x512 : Shape := ⟨3, ![1, 8, 512]⟩
abbrev S512 : Shape := ⟨1, ![512]⟩

abbrev nBuf : Space → Nat
  | .hbm => 9
  | .vmem => 12
  | .smem => 4
  | _ => 0

abbrev bufTy : (tb : Table) → Fin (tcTables nBuf tb) → BufTy
  | .hbm, ⟨0, _⟩ => ⟨S21504x1024, .fp8e4m3⟩
  | .hbm, ⟨1, _⟩ => ⟨S24x896, .f32⟩
  | .hbm, ⟨2, _⟩ => ⟨S50368x1024, .fp8e4m3⟩
  | .hbm, ⟨3, _⟩ => ⟨S50368, .f32⟩
  | .hbm, ⟨4, _⟩ => ⟨S50368, .f32⟩
  | .hbm, ⟨5, _⟩ => ⟨S24x7x128, .f32⟩
  | .hbm, ⟨6, _⟩ => ⟨S1x50368, .f32⟩
  | .hbm, ⟨7, _⟩ => ⟨S1x50368, .f32⟩
  | .hbm, ⟨8, _⟩ => ⟨S24x50368, .f32⟩
  | .local _ .vmem, ⟨0, _⟩ => ⟨S24x7x128, .f32⟩
  | .local _ .vmem, ⟨1, _⟩ => ⟨S512x1024, .fp8e4m3⟩
  | .local _ .vmem, ⟨2, _⟩ => ⟨S512x1024, .fp8e4m3⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S24x512, .f32⟩
  | .local _ .vmem, ⟨8, _⟩ => ⟨S24x512, .f32⟩
  | .local _ .vmem, ⟨9, _⟩ => ⟨S22016x1024, .fp8e4m3⟩
  | .local _ .vmem, ⟨10, _⟩ => ⟨S22016x128, .f32⟩
  | .local _ .vmem, ⟨11, _⟩ => ⟨S24x8x512, .f32⟩
  | .local _ .smem, ⟨0, _⟩ => ⟨S24, .i32⟩
  | .local _ .smem, ⟨1, _⟩ => ⟨S688, .i32⟩
  | .local _ .smem, ⟨2, _⟩ => ⟨S688, .i32⟩
  | .local _ .smem, ⟨3, _⟩ => ⟨S1, .i32⟩
  | _, _ => ⟨S21504x1024, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.smem, 1, rfl⟩
abbrev cc0_scratch4 : Ref sig .tc := ⟨.smem, 2, rfl⟩
abbrev cc0_scratch5 : Ref sig .tc := ⟨.smem, 3, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![99], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_132 : BitVec 32 := 0#32
  let c24_i32 : BitVec 32 := 24#32
  let v135 : BitVec 32 := Scalar.addi c0_i32_132 c24_i32
  let c1_i32_133 : BitVec 32 := 1#32
  ⟨c0_i32_132, v135, c1_i32_133⟩
def k0_off1 (k0_t1 : Fin k0_t1_loop.trips) : Fin 1 → Nat :=
  let c0_i32_132 : BitVec 32 := 0#32
  let c1_i32_133 : BitVec 32 := 1#32
  let arg15 : BitVec 32 := Scf.iv c0_i32_132 c1_i32_133 k0_t1
  let v151 : Index := Scalar.indexCast arg15
  ![v151.toNat]
@[reducible] def k0_t2_loop (v152 : BitVec 32) : Scf.Loop 32 :=
  let c0_i32_147 : BitVec 32 := 0#32
  let c31_i32 : BitVec 32 := 31#32
  let v153 : BitVec 32 := Scalar.addi v152 c31_i32
  let c32_i32 : BitVec 32 := 32#32
  let v154 : BitVec 32 := Scalar.divsi v153 c32_i32
  let v155 : BitVec 32 := Scalar.subi v154 c0_i32_147
  let c1_i32_148 : BitVec 32 := 1#32
  let v157 : BitVec 32 := Scalar.divsi v155 c1_i32_148
  let v158 : BitVec 32 := Scalar.muli v157 c1_i32_148
  let v159 : BitVec 32 := Scalar.addi c0_i32_147 v158
  let c1_i32_149 : BitVec 32 := 1#32
  ⟨c0_i32_147, v159, c1_i32_149⟩

def k0_mult1 (k0_t1 : Fin k0_t1_loop.trips) (v152 : BitVec 32) (k0_t2 : Fin (k0_t2_loop v152).trips) : BitVec 32 :=
  let c0_i32_132 : BitVec 32 := 0#32
  let c1_i32_133 : BitVec 32 := 1#32
  let arg15 : BitVec 32 := Scf.iv c0_i32_132 c1_i32_133 k0_t1
  let c28_i32 : BitVec 32 := 28#32
  let v182 : BitVec 32 := Scalar.muli arg15 c28_i32
  let c0_i32_147 : BitVec 32 := 0#32
  let c1_i32_149 : BitVec 32 := 1#32
  let arg17 : BitVec 32 := Scf.iv c0_i32_147 c1_i32_149 k0_t2
  let v183 : BitVec 32 := Scalar.addi v182 arg17
  let c32_i32_159 : BitVec 32 := 32#32
  let v185 : BitVec 32 := Scalar.muli v183 c32_i32_159
  v185
def k0_mult2 (arg16 : BitVec 32) (v152 : BitVec 32) (k0_t2 : Fin (k0_t2_loop v152).trips) : BitVec 32 :=
  let c0_i32_147 : BitVec 32 := 0#32
  let c1_i32_149 : BitVec 32 := 1#32
  let arg17 : BitVec 32 := Scf.iv c0_i32_147 c1_i32_149 k0_t2
  let v184 : BitVec 32 := Scalar.addi arg16 arg17
  let c32_i32_160 : BitVec 32 := 32#32
  let v187 : BitVec 32 := Scalar.muli v184 c32_i32_160
  v187
def k0_off2 (arg16 : BitVec 32) (v152 : BitVec 32) (k0_t2 : Fin (k0_t2_loop v152).trips) : Fin 2 → Nat :=
  let c0_i32_147 : BitVec 32 := 0#32
  let c1_i32_149 : BitVec 32 := 1#32
  let arg17 : BitVec 32 := Scf.iv c0_i32_147 c1_i32_149 k0_t2
  let v184 : BitVec 32 := Scalar.addi arg16 arg17
  let c32_i32_160 : BitVec 32 := 32#32
  let v187 : BitVec 32 := Scalar.muli v184 c32_i32_160
  let v188 : BitVec 32 := v187
  let c0_i32_161 : BitVec 32 := 0#32
  ![v188.toNat, 0]
def k0_off3 (k0_t1 : Fin k0_t1_loop.trips) (v152 : BitVec 32) (k0_t2 : Fin (k0_t2_loop v152).trips) : Fin 2 → Nat :=
  let c0_i32_132 : BitVec 32 := 0#32
  let c1_i32_133 : BitVec 32 := 1#32
  let arg15 : BitVec 32 := Scf.iv c0_i32_132 c1_i32_133 k0_t1
  let c28_i32 : BitVec 32 := 28#32
  let v182 : BitVec 32 := Scalar.muli arg15 c28_i32
  let c0_i32_147 : BitVec 32 := 0#32
  let c1_i32_149 : BitVec 32 := 1#32
  let arg17 : BitVec 32 := Scf.iv c0_i32_147 c1_i32_149 k0_t2
  let v183 : BitVec 32 := Scalar.addi v182 arg17
  let c32_i32_159 : BitVec 32 := 32#32
  let v185 : BitVec 32 := Scalar.muli v183 c32_i32_159
  let v186 : BitVec 32 := v185
  let c0_i32_162 : BitVec 32 := 0#32
  ![v186.toNat, 0]
def k0_off4 (arg16 : BitVec 32) (v152 : BitVec 32) (k0_t2 : Fin (k0_t2_loop v152).trips) : Fin 1 → Nat :=
  let c0_i32_147 : BitVec 32 := 0#32
  let c1_i32_149 : BitVec 32 := 1#32
  let arg17 : BitVec 32 := Scf.iv c0_i32_147 c1_i32_149 k0_t2
  let v191 : BitVec 32 := Scalar.addi arg16 arg17
  let v192 : Index := Scalar.indexCast v191
  ![v192.toNat]
@[reducible] def k0_t3_loop (v152 : BitVec 32) : Scf.Loop 32 :=
  let c0_i32_147 : BitVec 32 := 0#32
  let c31_i32 : BitVec 32 := 31#32
  let v153 : BitVec 32 := Scalar.addi v152 c31_i32
  let c32_i32 : BitVec 32 := 32#32
  let v154 : BitVec 32 := Scalar.divsi v153 c32_i32
  let v155 : BitVec 32 := Scalar.subi v154 c0_i32_147
  let c1_i32_148 : BitVec 32 := 1#32
  let v157 : BitVec 32 := Scalar.divsi v155 c1_i32_148
  let v158 : BitVec 32 := Scalar.muli v157 c1_i32_148
  let v159 : BitVec 32 := Scalar.addi c0_i32_147 v158
  let v156 : BitVec 32 := Scalar.addi c0_i32_147 v155
  let c1_i32_150 : BitVec 32 := 1#32
  ⟨v159, v156, c1_i32_150⟩
def k0_mult3 (k0_t1 : Fin k0_t1_loop.trips) (v152 : BitVec 32) (k0_t3 : Fin (k0_t3_loop v152).trips) : BitVec 32 :=
  let c0_i32_132 : BitVec 32 := 0#32
  let c1_i32_133 : BitVec 32 := 1#32
  let arg15 : BitVec 32 := Scf.iv c0_i32_132 c1_i32_133 k0_t1
  let c28_i32 : BitVec 32 := 28#32
  let v182 : BitVec 32 := Scalar.muli arg15 c28_i32
  let c0_i32_147 : BitVec 32 := 0#32
  let c31_i32 : BitVec 32 := 31#32
  let v153 : BitVec 32 := Scalar.addi v152 c31_i32
  let c32_i32 : BitVec 32 := 32#32
  let v154 : BitVec 32 := Scalar.divsi v153 c32_i32
  let v155 : BitVec 32 := Scalar.subi v154 c0_i32_147
  let c1_i32_148 : BitVec 32 := 1#32
  let v157 : BitVec 32 := Scalar.divsi v155 c1_i32_148
  let v158 : BitVec 32 := Scalar.muli v157 c1_i32_148
  let v159 : BitVec 32 := Scalar.addi c0_i32_147 v158
  let c1_i32_150 : BitVec 32 := 1#32
  let arg17 : BitVec 32 := Scf.iv v159 c1_i32_150 k0_t3
  let v183 : BitVec 32 := Scalar.addi v182 arg17
  let c32_i32_159 : BitVec 32 := 32#32
  let v185 : BitVec 32 := Scalar.muli v183 c32_i32_159
  v185
def k0_mult4 (arg16 : BitVec 32) (v152 : BitVec 32) (k0_t3 : Fin (k0_t3_loop v152).trips) : BitVec 32 :=
  let c0_i32_147 : BitVec 32 := 0#32
  let c31_i32 : BitVec 32 := 31#32
  let v153 : BitVec 32 := Scalar.addi v152 c31_i32
  let c32_i32 : BitVec 32 := 32#32
  let v154 : BitVec 32 := Scalar.divsi v153 c32_i32
  let v155 : BitVec 32 := Scalar.subi v154 c0_i32_147
  let c1_i32_148 : BitVec 32 := 1#32
  let v157 : BitVec 32 := Scalar.divsi v155 c1_i32_148
  let v158 : BitVec 32 := Scalar.muli v157 c1_i32_148
  let v159 : BitVec 32 := Scalar.addi c0_i32_147 v158
  let c1_i32_150 : BitVec 32 := 1#32
  let arg17 : BitVec 32 := Scf.iv v159 c1_i32_150 k0_t3
  let v184 : BitVec 32 := Scalar.addi arg16 arg17
  let c32_i32_160 : BitVec 32 := 32#32
  let v187 : BitVec 32 := Scalar.muli v184 c32_i32_160
  v187
def k0_off5 (arg16 : BitVec 32) (v152 : BitVec 32) (k0_t3 : Fin (k0_t3_loop v152).trips) : Fin 2 → Nat :=
  let c0_i32_147 : BitVec 32 := 0#32
  let c31_i32 : BitVec 32 := 31#32
  let v153 : BitVec 32 := Scalar.addi v152 c31_i32
  let c32_i32 : BitVec 32 := 32#32
  let v154 : BitVec 32 := Scalar.divsi v153 c32_i32
  let v155 : BitVec 32 := Scalar.subi v154 c0_i32_147
  let c1_i32_148 : BitVec 32 := 1#32
  let v157 : BitVec 32 := Scalar.divsi v155 c1_i32_148
  let v158 : BitVec 32 := Scalar.muli v157 c1_i32_148
  let v159 : BitVec 32 := Scalar.addi c0_i32_147 v158
  let c1_i32_150 : BitVec 32 := 1#32
  let arg17 : BitVec 32 := Scf.iv v159 c1_i32_150 k0_t3
  let v184 : BitVec 32 := Scalar.addi arg16 arg17
  let c32_i32_160 : BitVec 32 := 32#32
  let v187 : BitVec 32 := Scalar.muli v184 c32_i32_160
  let v188 : BitVec 32 := v187
  let c0_i32_161 : BitVec 32 := 0#32
  ![v188.toNat, 0]
def k0_off6 (k0_t1 : Fin k0_t1_loop.trips) (v152 : BitVec 32) (k0_t3 : Fin (k0_t3_loop v152).trips) : Fin 2 → Nat :=
  let c0_i32_132 : BitVec 32 := 0#32
  let c1_i32_133 : BitVec 32 := 1#32
  let arg15 : BitVec 32 := Scf.iv c0_i32_132 c1_i32_133 k0_t1
  let c28_i32 : BitVec 32 := 28#32
  let v182 : BitVec 32 := Scalar.muli arg15 c28_i32
  let c0_i32_147 : BitVec 32 := 0#32
  let c31_i32 : BitVec 32 := 31#32
  let v153 : BitVec 32 := Scalar.addi v152 c31_i32
  let c32_i32 : BitVec 32 := 32#32
  let v154 : BitVec 32 := Scalar.divsi v153 c32_i32
  let v155 : BitVec 32 := Scalar.subi v154 c0_i32_147
  let c1_i32_148 : BitVec 32 := 1#32
  let v157 : BitVec 32 := Scalar.divsi v155 c1_i32_148
  let v158 : BitVec 32 := Scalar.muli v157 c1_i32_148
  let v159 : BitVec 32 := Scalar.addi c0_i32_147 v158
  let c1_i32_150 : BitVec 32 := 1#32
  let arg17 : BitVec 32 := Scf.iv v159 c1_i32_150 k0_t3
  let v183 : BitVec 32 := Scalar.addi v182 arg17
  let c32_i32_159 : BitVec 32 := 32#32
  let v185 : BitVec 32 := Scalar.muli v183 c32_i32_159
  let v186 : BitVec 32 := v185
  let c0_i32_162 : BitVec 32 := 0#32
  ![v186.toNat, 0]
def k0_off7 (arg16 : BitVec 32) (v152 : BitVec 32) (k0_t3 : Fin (k0_t3_loop v152).trips) : Fin 1 → Nat :=
  let c0_i32_147 : BitVec 32 := 0#32
  let c31_i32 : BitVec 32 := 31#32
  let v153 : BitVec 32 := Scalar.addi v152 c31_i32
  let c32_i32 : BitVec 32 := 32#32
  let v154 : BitVec 32 := Scalar.divsi v153 c32_i32
  let v155 : BitVec 32 := Scalar.subi v154 c0_i32_147
  let c1_i32_148 : BitVec 32 := 1#32
  let v157 : BitVec 32 := Scalar.divsi v155 c1_i32_148
  let v158 : BitVec 32 := Scalar.muli v157 c1_i32_148
  let v159 : BitVec 32 := Scalar.addi c0_i32_147 v158
  let c1_i32_150 : BitVec 32 := 1#32
  let arg17 : BitVec 32 := Scf.iv v159 c1_i32_150 k0_t3
  let v191 : BitVec 32 := Scalar.addi arg16 arg17
  let v192 : Index := Scalar.indexCast v191
  ![v192.toNat]
def k0_off8 (k0_t1 : Fin k0_t1_loop.trips) : Fin 3 → Nat :=
  let c0_i32_132 : BitVec 32 := 0#32
  let c1_i32_133 : BitVec 32 := 1#32
  let arg15 : BitVec 32 := Scf.iv c0_i32_132 c1_i32_133 k0_t1
  let v182 : Index := Scalar.indexCast arg15
  let c0_159 : Index := 0#32
  let c0_160 : Index := 0#32
  ![v182.toNat, 0, 0]
def k0_mult5 (arg16 : BitVec 32) : BitVec 32 :=
  let c0_i32_167 : BitVec 32 := 0#32
  let v200 : BitVec 32 := Scalar.addi arg16 c0_i32_167
  let c0_i32_168 : BitVec 32 := 0#32
  let v201 : BitVec 32 := Scalar.addi v200 c0_i32_168
  let c32_i32_169 : BitVec 32 := 32#32
  let v202 : BitVec 32 := Scalar.muli v201 c32_i32_169
  v202
def k0_cond2 (v152 : BitVec 32) : BitVec 1 :=
  let c0_i32_151 : BitVec 32 := 0#32
  let v160 : BitVec 1 := Scalar.cmpi .sgt v152 c0_i32_151
  let v161 : BitVec 32 := Scalar.extui v160
  let c0_i32_152 : BitVec 32 := 0#32
  let v162 : BitVec 1 := Scalar.cmpi .ne v161 c0_i32_152
  v162

def k0_cond3 (v152 : BitVec 32) : BitVec 1 :=
  let c0_i32_161 : BitVec 32 := 0#32
  let v188 : BitVec 1 := Scalar.cmpi .sgt v152 c0_i32_161
  let v189 : BitVec 32 := Scalar.extui v188
  let c0_i32_162 : BitVec 32 := 0#32
  let v190 : BitVec 1 := Scalar.cmpi .ne v189 c0_i32_162
  v190

def k0_off9 (arg16 : BitVec 32) : Fin 2 → Nat :=
  let c0_i32_167 : BitVec 32 := 0#32
  let v200 : BitVec 32 := Scalar.addi arg16 c0_i32_167
  let c0_i32_168 : BitVec 32 := 0#32
  let v201 : BitVec 32 := Scalar.addi v200 c0_i32_168
  let c32_i32_169 : BitVec 32 := 32#32
  let v202 : BitVec 32 := Scalar.muli v201 c32_i32_169
  let v204 : BitVec 32 := v202
  let v205 : Index := Scalar.indexCast v204
  let c0_170 : Index := 0#32
  ![v205.toNat, 0]
def k0_mult6 (arg16 : BitVec 32) : BitVec 32 :=
  let c0_i32_167 : BitVec 32 := 0#32
  let v200 : BitVec 32 := Scalar.addi arg16 c0_i32_167
  let c1_i32_168 : BitVec 32 := 1#32
  let v201 : BitVec 32 := Scalar.addi v200 c1_i32_168
  let c32_i32_169 : BitVec 32 := 32#32
  let v202 : BitVec 32 := Scalar.muli v201 c32_i32_169
  v202
def k0_cond4 (v152 : BitVec 32) : BitVec 1 :=
  let c32_i32_163 : BitVec 32 := 32#32
  let v191 : BitVec 1 := Scalar.cmpi .sgt v152 c32_i32_163
  let v192 : BitVec 32 := Scalar.extui v191
  let c0_i32_164 : BitVec 32 := 0#32
  let v193 : BitVec 1 := Scalar.cmpi .ne v192 c0_i32_164
  v193

def k0_off10 (arg16 : BitVec 32) : Fin 2 → Nat :=
  let c0_i32_167 : BitVec 32 := 0#32
  let v200 : BitVec 32 := Scalar.addi arg16 c0_i32_167
  let c1_i32_168 : BitVec 32 := 1#32
  let v201 : BitVec 32 := Scalar.addi v200 c1_i32_168
  let c32_i32_169 : BitVec 32 := 32#32
  let v202 : BitVec 32 := Scalar.muli v201 c32_i32_169
  let v204 : BitVec 32 := v202
  let v205 : Index := Scalar.indexCast v204
  let c0_170 : Index := 0#32
  ![v205.toNat, 0]
def k0_mult7 (arg16 : BitVec 32) : BitVec 32 :=
  let c0_i32_167 : BitVec 32 := 0#32
  let v200 : BitVec 32 := Scalar.addi arg16 c0_i32_167
  let c2_i32 : BitVec 32 := 2#32
  let v201 : BitVec 32 := Scalar.addi v200 c2_i32
  let c32_i32_168 : BitVec 32 := 32#32
  let v202 : BitVec 32 := Scalar.muli v201 c32_i32_168
  v202
def k0_cond5 (v152 : BitVec 32) : BitVec 1 :=
  let c64_i32 : BitVec 32 := 64#32
  let v194 : BitVec 1 := Scalar.cmpi .sgt v152 c64_i32
  let v195 : BitVec 32 := Scalar.extui v194
  let c0_i32_165 : BitVec 32 := 0#32
  let v196 : BitVec 1 := Scalar.cmpi .ne v195 c0_i32_165
  v196

def k0_off11 (arg16 : BitVec 32) : Fin 2 → Nat :=
  let c0_i32_167 : BitVec 32 := 0#32
  let v200 : BitVec 32 := Scalar.addi arg16 c0_i32_167
  let c2_i32 : BitVec 32 := 2#32
  let v201 : BitVec 32 := Scalar.addi v200 c2_i32
  let c32_i32_168 : BitVec 32 := 32#32
  let v202 : BitVec 32 := Scalar.muli v201 c32_i32_168
  let v204 : BitVec 32 := v202
  let v205 : Index := Scalar.indexCast v204
  let c0_169 : Index := 0#32
  ![v205.toNat, 0]
def k0_mult8 (arg16 : BitVec 32) : BitVec 32 :=
  let c0_i32_167 : BitVec 32 := 0#32
  let v200 : BitVec 32 := Scalar.addi arg16 c0_i32_167
  let c3_i32 : BitVec 32 := 3#32
  let v201 : BitVec 32 := Scalar.addi v200 c3_i32
  let c32_i32_168 : BitVec 32 := 32#32
  let v202 : BitVec 32 := Scalar.muli v201 c32_i32_168
  v202
def k0_cond6 (v152 : BitVec 32) : BitVec 1 :=
  let c96_i32 : BitVec 32 := 96#32
  let v197 : BitVec 1 := Scalar.cmpi .sgt v152 c96_i32
  let v198 : BitVec 32 := Scalar.extui v197
  let c0_i32_166 : BitVec 32 := 0#32
  let v199 : BitVec 1 := Scalar.cmpi .ne v198 c0_i32_166
  v199

def k0_off12 (arg16 : BitVec 32) : Fin 2 → Nat :=
  let c0_i32_167 : BitVec 32 := 0#32
  let v200 : BitVec 32 := Scalar.addi arg16 c0_i32_167
  let c3_i32 : BitVec 32 := 3#32
  let v201 : BitVec 32 := Scalar.addi v200 c3_i32
  let c32_i32_168 : BitVec 32 := 32#32
  let v202 : BitVec 32 := Scalar.muli v201 c32_i32_168
  let v204 : BitVec 32 := v202
  let v205 : Index := Scalar.indexCast v204
  let c0_169 : Index := 0#32
  ![v205.toNat, 0]
def k0_off13 (k0_t1 : Fin k0_t1_loop.trips) : Fin 3 → Nat :=
  let c0_i32_132 : BitVec 32 := 0#32
  let c1_i32_133 : BitVec 32 := 1#32
  let arg15 : BitVec 32 := Scf.iv c0_i32_132 c1_i32_133 k0_t1
  let v182 : Index := Scalar.indexCast arg15
  let c1_159 : Index := 1#32
  let c0_160 : Index := 0#32
  ![v182.toNat, 1, 0]
def k0_mult9 (arg16 : BitVec 32) : BitVec 32 :=
  let c4_i32 : BitVec 32 := 4#32
  let v200 : BitVec 32 := Scalar.addi arg16 c4_i32
  let c0_i32_166 : BitVec 32 := 0#32
  let v201 : BitVec 32 := Scalar.addi v200 c0_i32_166
  let c32_i32_167 : BitVec 32 := 32#32
  let v202 : BitVec 32 := Scalar.muli v201 c32_i32_167
  v202
def k0_cond7 (v152 : BitVec 32) : BitVec 1 :=
  let c128_i32 : BitVec 32 := 128#32
  let v163 : BitVec 1 := Scalar.cmpi .sgt v152 c128_i32
  let v164 : BitVec 32 := Scalar.extui v163
  let c0_i32_153 : BitVec 32 := 0#32
  let v165 : BitVec 1 := Scalar.cmpi .ne v164 c0_i32_153
  v165

def k0_cond8 (v152 : BitVec 32) : BitVec 1 :=
  let c128_i32_161 : BitVec 32 := 128#32
  let v188 : BitVec 1 := Scalar.cmpi .sgt v152 c128_i32_161
  let v189 : BitVec 32 := Scalar.extui v188
  let c0_i32_162 : BitVec 32 := 0#32
  let v190 : BitVec 1 := Scalar.cmpi .ne v189 c0_i32_162
  v190

def k0_off14 (arg16 : BitVec 32) : Fin 2 → Nat :=
  let c4_i32 : BitVec 32 := 4#32
  let v200 : BitVec 32 := Scalar.addi arg16 c4_i32
  let c0_i32_166 : BitVec 32 := 0#32
  let v201 : BitVec 32 := Scalar.addi v200 c0_i32_166
  let c32_i32_167 : BitVec 32 := 32#32
  let v202 : BitVec 32 := Scalar.muli v201 c32_i32_167
  let v204 : BitVec 32 := v202
  let v205 : Index := Scalar.indexCast v204
  let c0_168 : Index := 0#32
  ![v205.toNat, 0]
def k0_mult10 (arg16 : BitVec 32) : BitVec 32 :=
  let c4_i32 : BitVec 32 := 4#32
  let v200 : BitVec 32 := Scalar.addi arg16 c4_i32
  let c1_i32_166 : BitVec 32 := 1#32
  let v201 : BitVec 32 := Scalar.addi v200 c1_i32_166
  let c32_i32_167 : BitVec 32 := 32#32
  let v202 : BitVec 32 := Scalar.muli v201 c32_i32_167
  v202
def k0_cond9 (v152 : BitVec 32) : BitVec 1 :=
  let c160_i32 : BitVec 32 := 160#32
  let v191 : BitVec 1 := Scalar.cmpi .sgt v152 c160_i32
  let v192 : BitVec 32 := Scalar.extui v191
  let c0_i32_163 : BitVec 32 := 0#32
  let v193 : BitVec 1 := Scalar.cmpi .ne v192 c0_i32_163
  v193

def k0_off15 (arg16 : BitVec 32) : Fin 2 → Nat :=
  let c4_i32 : BitVec 32 := 4#32
  let v200 : BitVec 32 := Scalar.addi arg16 c4_i32
  let c1_i32_166 : BitVec 32 := 1#32
  let v201 : BitVec 32 := Scalar.addi v200 c1_i32_166
  let c32_i32_167 : BitVec 32 := 32#32
  let v202 : BitVec 32 := Scalar.muli v201 c32_i32_167
  let v204 : BitVec 32 := v202
  let v205 : Index := Scalar.indexCast v204
  let c0_168 : Index := 0#32
  ![v205.toNat, 0]
def k0_mult11 (arg16 : BitVec 32) : BitVec 32 :=
  let c4_i32 : BitVec 32 := 4#32
  let v200 : BitVec 32 := Scalar.addi arg16 c4_i32
  let c2_i32 : BitVec 32 := 2#32
  let v201 : BitVec 32 := Scalar.addi v200 c2_i32
  let c32_i32_166 : BitVec 32 := 32#32
  let v202 : BitVec 32 := Scalar.muli v201 c32_i32_166
  v202
def k0_cond10 (v152 : BitVec 32) : BitVec 1 :=
  let c192_i32 : BitVec 32 := 192#32
  let v194 : BitVec 1 := Scalar.cmpi .sgt v152 c192_i32
  let v195 : BitVec 32 := Scalar.extui v194
  let c0_i32_164 : BitVec 32 := 0#32
  let v196 : BitVec 1 := Scalar.cmpi .ne v195 c0_i32_164
  v196

def k0_off16 (arg16 : BitVec 32) : Fin 2 → Nat :=
  let c4_i32 : BitVec 32 := 4#32
  let v200 : BitVec 32 := Scalar.addi arg16 c4_i32
  let c2_i32 : BitVec 32 := 2#32
  let v201 : BitVec 32 := Scalar.addi v200 c2_i32
  let c32_i32_166 : BitVec 32 := 32#32
  let v202 : BitVec 32 := Scalar.muli v201 c32_i32_166
  let v204 : BitVec 32 := v202
  let v205 : Index := Scalar.indexCast v204
  let c0_167 : Index := 0#32
  ![v205.toNat, 0]
def k0_mult12 (arg16 : BitVec 32) : BitVec 32 :=
  let c4_i32 : BitVec 32 := 4#32
  let v200 : BitVec 32 := Scalar.addi arg16 c4_i32
  let c3_i32 : BitVec 32 := 3#32
  let v201 : BitVec 32 := Scalar.addi v200 c3_i32
  let c32_i32_166 : BitVec 32 := 32#32
  let v202 : BitVec 32 := Scalar.muli v201 c32_i32_166
  v202
def k0_cond11 (v152 : BitVec 32) : BitVec 1 :=
  let c224_i32 : BitVec 32 := 224#32
  let v197 : BitVec 1 := Scalar.cmpi .sgt v152 c224_i32
  let v198 : BitVec 32 := Scalar.extui v197
  let c0_i32_165 : BitVec 32 := 0#32
  let v199 : BitVec 1 := Scalar.cmpi .ne v198 c0_i32_165
  v199

def k0_off17 (arg16 : BitVec 32) : Fin 2 → Nat :=
  let c4_i32 : BitVec 32 := 4#32
  let v200 : BitVec 32 := Scalar.addi arg16 c4_i32
  let c3_i32 : BitVec 32 := 3#32
  let v201 : BitVec 32 := Scalar.addi v200 c3_i32
  let c32_i32_166 : BitVec 32 := 32#32
  let v202 : BitVec 32 := Scalar.muli v201 c32_i32_166
  let v204 : BitVec 32 := v202
  let v205 : Index := Scalar.indexCast v204
  let c0_167 : Index := 0#32
  ![v205.toNat, 0]
def k0_off18 (k0_t1 : Fin k0_t1_loop.trips) : Fin 3 → Nat :=
  let c0_i32_132 : BitVec 32 := 0#32
  let c1_i32_133 : BitVec 32 := 1#32
  let arg15 : BitVec 32 := Scf.iv c0_i32_132 c1_i32_133 k0_t1
  let v182 : Index := Scalar.indexCast arg15
  let c2_159 : Index := 2#32
  let c0_160 : Index := 0#32
  ![v182.toNat, 2, 0]
def k0_mult13 (arg16 : BitVec 32) : BitVec 32 :=
  let c8_i32 : BitVec 32 := 8#32
  let v200 : BitVec 32 := Scalar.addi arg16 c8_i32
  let c0_i32_166 : BitVec 32 := 0#32
  let v201 : BitVec 32 := Scalar.addi v200 c0_i32_166
  let c32_i32_167 : BitVec 32 := 32#32
  let v202 : BitVec 32 := Scalar.muli v201 c32_i32_167
  v202
def k0_cond12 (v152 : BitVec 32) : BitVec 1 :=
  let c256_i32 : BitVec 32 := 256#32
  let v166 : BitVec 1 := Scalar.cmpi .sgt v152 c256_i32
  let v167 : BitVec 32 := Scalar.extui v166
  let c0_i32_154 : BitVec 32 := 0#32
  let v168 : BitVec 1 := Scalar.cmpi .ne v167 c0_i32_154
  v168

def k0_cond13 (v152 : BitVec 32) : BitVec 1 :=
  let c256_i32_161 : BitVec 32 := 256#32
  let v188 : BitVec 1 := Scalar.cmpi .sgt v152 c256_i32_161
  let v189 : BitVec 32 := Scalar.extui v188
  let c0_i32_162 : BitVec 32 := 0#32
  let v190 : BitVec 1 := Scalar.cmpi .ne v189 c0_i32_162
  v190

def k0_off19 (arg16 : BitVec 32) : Fin 2 → Nat :=
  let c8_i32 : BitVec 32 := 8#32
  let v200 : BitVec 32 := Scalar.addi arg16 c8_i32
  let c0_i32_166 : BitVec 32 := 0#32
  let v201 : BitVec 32 := Scalar.addi v200 c0_i32_166
  let c32_i32_167 : BitVec 32 := 32#32
  let v202 : BitVec 32 := Scalar.muli v201 c32_i32_167
  let v204 : BitVec 32 := v202
  let v205 : Index := Scalar.indexCast v204
  let c0_168 : Index := 0#32
  ![v205.toNat, 0]
def k0_mult14 (arg16 : BitVec 32) : BitVec 32 :=
  let c8_i32 : BitVec 32 := 8#32
  let v200 : BitVec 32 := Scalar.addi arg16 c8_i32
  let c1_i32_166 : BitVec 32 := 1#32
  let v201 : BitVec 32 := Scalar.addi v200 c1_i32_166
  let c32_i32_167 : BitVec 32 := 32#32
  let v202 : BitVec 32 := Scalar.muli v201 c32_i32_167
  v202
def k0_cond14 (v152 : BitVec 32) : BitVec 1 :=
  let c288_i32 : BitVec 32 := 288#32
  let v191 : BitVec 1 := Scalar.cmpi .sgt v152 c288_i32
  let v192 : BitVec 32 := Scalar.extui v191
  let c0_i32_163 : BitVec 32 := 0#32
  let v193 : BitVec 1 := Scalar.cmpi .ne v192 c0_i32_163
  v193

def k0_off20 (arg16 : BitVec 32) : Fin 2 → Nat :=
  let c8_i32 : BitVec 32 := 8#32
  let v200 : BitVec 32 := Scalar.addi arg16 c8_i32
  let c1_i32_166 : BitVec 32 := 1#32
  let v201 : BitVec 32 := Scalar.addi v200 c1_i32_166
  let c32_i32_167 : BitVec 32 := 32#32
  let v202 : BitVec 32 := Scalar.muli v201 c32_i32_167
  let v204 : BitVec 32 := v202
  let v205 : Index := Scalar.indexCast v204
  let c0_168 : Index := 0#32
  ![v205.toNat, 0]
def k0_mult15 (arg16 : BitVec 32) : BitVec 32 :=
  let c8_i32 : BitVec 32 := 8#32
  let v200 : BitVec 32 := Scalar.addi arg16 c8_i32
  let c2_i32 : BitVec 32 := 2#32
  let v201 : BitVec 32 := Scalar.addi v200 c2_i32
  let c32_i32_166 : BitVec 32 := 32#32
  let v202 : BitVec 32 := Scalar.muli v201 c32_i32_166
  v202
def k0_cond15 (v152 : BitVec 32) : BitVec 1 :=
  let c320_i32 : BitVec 32 := 320#32
  let v194 : BitVec 1 := Scalar.cmpi .sgt v152 c320_i32
  let v195 : BitVec 32 := Scalar.extui v194
  let c0_i32_164 : BitVec 32 := 0#32
  let v196 : BitVec 1 := Scalar.cmpi .ne v195 c0_i32_164
  v196

def k0_off21 (arg16 : BitVec 32) : Fin 2 → Nat :=
  let c8_i32 : BitVec 32 := 8#32
  let v200 : BitVec 32 := Scalar.addi arg16 c8_i32
  let c2_i32 : BitVec 32 := 2#32
  let v201 : BitVec 32 := Scalar.addi v200 c2_i32
  let c32_i32_166 : BitVec 32 := 32#32
  let v202 : BitVec 32 := Scalar.muli v201 c32_i32_166
  let v204 : BitVec 32 := v202
  let v205 : Index := Scalar.indexCast v204
  let c0_167 : Index := 0#32
  ![v205.toNat, 0]
def k0_mult16 (arg16 : BitVec 32) : BitVec 32 :=
  let c8_i32 : BitVec 32 := 8#32
  let v200 : BitVec 32 := Scalar.addi arg16 c8_i32
  let c3_i32 : BitVec 32 := 3#32
  let v201 : BitVec 32 := Scalar.addi v200 c3_i32
  let c32_i32_166 : BitVec 32 := 32#32
  let v202 : BitVec 32 := Scalar.muli v201 c32_i32_166
  v202
def k0_cond16 (v152 : BitVec 32) : BitVec 1 :=
  let c352_i32 : BitVec 32 := 352#32
  let v197 : BitVec 1 := Scalar.cmpi .sgt v152 c352_i32
  let v198 : BitVec 32 := Scalar.extui v197
  let c0_i32_165 : BitVec 32 := 0#32
  let v199 : BitVec 1 := Scalar.cmpi .ne v198 c0_i32_165
  v199

def k0_off22 (arg16 : BitVec 32) : Fin 2 → Nat :=
  let c8_i32 : BitVec 32 := 8#32
  let v200 : BitVec 32 := Scalar.addi arg16 c8_i32
  let c3_i32 : BitVec 32 := 3#32
  let v201 : BitVec 32 := Scalar.addi v200 c3_i32
  let c32_i32_166 : BitVec 32 := 32#32
  let v202 : BitVec 32 := Scalar.muli v201 c32_i32_166
  let v204 : BitVec 32 := v202
  let v205 : Index := Scalar.indexCast v204
  let c0_167 : Index := 0#32
  ![v205.toNat, 0]
def k0_off23 (k0_t1 : Fin k0_t1_loop.trips) : Fin 3 → Nat :=
  let c0_i32_132 : BitVec 32 := 0#32
  let c1_i32_133 : BitVec 32 := 1#32
  let arg15 : BitVec 32 := Scf.iv c0_i32_132 c1_i32_133 k0_t1
  let v182 : Index := Scalar.indexCast arg15
  let c3_159 : Index := 3#32
  let c0_160 : Index := 0#32
  ![v182.toNat, 3, 0]
def k0_mult17 (arg16 : BitVec 32) : BitVec 32 :=
  let c12_i32 : BitVec 32 := 12#32
  let v200 : BitVec 32 := Scalar.addi arg16 c12_i32
  let c0_i32_166 : BitVec 32 := 0#32
  let v201 : BitVec 32 := Scalar.addi v200 c0_i32_166
  let c32_i32_167 : BitVec 32 := 32#32
  let v202 : BitVec 32 := Scalar.muli v201 c32_i32_167
  v202
def k0_cond17 (v152 : BitVec 32) : BitVec 1 :=
  let c384_i32 : BitVec 32 := 384#32
  let v169 : BitVec 1 := Scalar.cmpi .sgt v152 c384_i32
  let v170 : BitVec 32 := Scalar.extui v169
  let c0_i32_155 : BitVec 32 := 0#32
  let v171 : BitVec 1 := Scalar.cmpi .ne v170 c0_i32_155
  v171

def k0_cond18 (v152 : BitVec 32) : BitVec 1 :=
  let c384_i32_161 : BitVec 32 := 384#32
  let v188 : BitVec 1 := Scalar.cmpi .sgt v152 c384_i32_161
  let v189 : BitVec 32 := Scalar.extui v188
  let c0_i32_162 : BitVec 32 := 0#32
  let v190 : BitVec 1 := Scalar.cmpi .ne v189 c0_i32_162
  v190

def k0_off24 (arg16 : BitVec 32) : Fin 2 → Nat :=
  let c12_i32 : BitVec 32 := 12#32
  let v200 : BitVec 32 := Scalar.addi arg16 c12_i32
  let c0_i32_166 : BitVec 32 := 0#32
  let v201 : BitVec 32 := Scalar.addi v200 c0_i32_166
  let c32_i32_167 : BitVec 32 := 32#32
  let v202 : BitVec 32 := Scalar.muli v201 c32_i32_167
  let v204 : BitVec 32 := v202
  let v205 : Index := Scalar.indexCast v204
  let c0_168 : Index := 0#32
  ![v205.toNat, 0]
def k0_mult18 (arg16 : BitVec 32) : BitVec 32 :=
  let c12_i32 : BitVec 32 := 12#32
  let v200 : BitVec 32 := Scalar.addi arg16 c12_i32
  let c1_i32_166 : BitVec 32 := 1#32
  let v201 : BitVec 32 := Scalar.addi v200 c1_i32_166
  let c32_i32_167 : BitVec 32 := 32#32
  let v202 : BitVec 32 := Scalar.muli v201 c32_i32_167
  v202
def k0_cond19 (v152 : BitVec 32) : BitVec 1 :=
  let c416_i32 : BitVec 32 := 416#32
  let v191 : BitVec 1 := Scalar.cmpi .sgt v152 c416_i32
  let v192 : BitVec 32 := Scalar.extui v191
  let c0_i32_163 : BitVec 32 := 0#32
  let v193 : BitVec 1 := Scalar.cmpi .ne v192 c0_i32_163
  v193

def k0_off25 (arg16 : BitVec 32) : Fin 2 → Nat :=
  let c12_i32 : BitVec 32 := 12#32
  let v200 : BitVec 32 := Scalar.addi arg16 c12_i32
  let c1_i32_166 : BitVec 32 := 1#32
  let v201 : BitVec 32 := Scalar.addi v200 c1_i32_166
  let c32_i32_167 : BitVec 32 := 32#32
  let v202 : BitVec 32 := Scalar.muli v201 c32_i32_167
  let v204 : BitVec 32 := v202
  let v205 : Index := Scalar.indexCast v204
  let c0_168 : Index := 0#32
  ![v205.toNat, 0]
def k0_mult19 (arg16 : BitVec 32) : BitVec 32 :=
  let c12_i32 : BitVec 32 := 12#32
  let v200 : BitVec 32 := Scalar.addi arg16 c12_i32
  let c2_i32 : BitVec 32 := 2#32
  let v201 : BitVec 32 := Scalar.addi v200 c2_i32
  let c32_i32_166 : BitVec 32 := 32#32
  let v202 : BitVec 32 := Scalar.muli v201 c32_i32_166
  v202
def k0_cond20 (v152 : BitVec 32) : BitVec 1 :=
  let c448_i32 : BitVec 32 := 448#32
  let v194 : BitVec 1 := Scalar.cmpi .sgt v152 c448_i32
  let v195 : BitVec 32 := Scalar.extui v194
  let c0_i32_164 : BitVec 32 := 0#32
  let v196 : BitVec 1 := Scalar.cmpi .ne v195 c0_i32_164
  v196

def k0_off26 (arg16 : BitVec 32) : Fin 2 → Nat :=
  let c12_i32 : BitVec 32 := 12#32
  let v200 : BitVec 32 := Scalar.addi arg16 c12_i32
  let c2_i32 : BitVec 32 := 2#32
  let v201 : BitVec 32 := Scalar.addi v200 c2_i32
  let c32_i32_166 : BitVec 32 := 32#32
  let v202 : BitVec 32 := Scalar.muli v201 c32_i32_166
  let v204 : BitVec 32 := v202
  let v205 : Index := Scalar.indexCast v204
  let c0_167 : Index := 0#32
  ![v205.toNat, 0]
def k0_mult20 (arg16 : BitVec 32) : BitVec 32 :=
  let c12_i32 : BitVec 32 := 12#32
  let v200 : BitVec 32 := Scalar.addi arg16 c12_i32
  let c3_i32 : BitVec 32 := 3#32
  let v201 : BitVec 32 := Scalar.addi v200 c3_i32
  let c32_i32_166 : BitVec 32 := 32#32
  let v202 : BitVec 32 := Scalar.muli v201 c32_i32_166
  v202
def k0_cond21 (v152 : BitVec 32) : BitVec 1 :=
  let c480_i32 : BitVec 32 := 480#32
  let v197 : BitVec 1 := Scalar.cmpi .sgt v152 c480_i32
  let v198 : BitVec 32 := Scalar.extui v197
  let c0_i32_165 : BitVec 32 := 0#32
  let v199 : BitVec 1 := Scalar.cmpi .ne v198 c0_i32_165
  v199

def k0_off27 (arg16 : BitVec 32) : Fin 2 → Nat :=
  let c12_i32 : BitVec 32 := 12#32
  let v200 : BitVec 32 := Scalar.addi arg16 c12_i32
  let c3_i32 : BitVec 32 := 3#32
  let v201 : BitVec 32 := Scalar.addi v200 c3_i32
  let c32_i32_166 : BitVec 32 := 32#32
  let v202 : BitVec 32 := Scalar.muli v201 c32_i32_166
  let v204 : BitVec 32 := v202
  let v205 : Index := Scalar.indexCast v204
  let c0_167 : Index := 0#32
  ![v205.toNat, 0]
def k0_off28 (k0_t1 : Fin k0_t1_loop.trips) : Fin 3 → Nat :=
  let c0_i32_132 : BitVec 32 := 0#32
  let c1_i32_133 : BitVec 32 := 1#32
  let arg15 : BitVec 32 := Scf.iv c0_i32_132 c1_i32_133 k0_t1
  let v182 : Index := Scalar.indexCast arg15
  let c4_159 : Index := 4#32
  let c0_160 : Index := 0#32
  ![v182.toNat, 4, 0]
def k0_mult21 (arg16 : BitVec 32) : BitVec 32 :=
  let c16_i32_166 : BitVec 32 := 16#32
  let v200 : BitVec 32 := Scalar.addi arg16 c16_i32_166
  let c0_i32_167 : BitVec 32 := 0#32
  let v201 : BitVec 32 := Scalar.addi v200 c0_i32_167
  let c32_i32_168 : BitVec 32 := 32#32
  let v202 : BitVec 32 := Scalar.muli v201 c32_i32_168
  v202
def k0_cond22 (v152 : BitVec 32) : BitVec 1 :=
  let c512_i32 : BitVec 32 := 512#32
  let v172 : BitVec 1 := Scalar.cmpi .sgt v152 c512_i32
  let v173 : BitVec 32 := Scalar.extui v172
  let c0_i32_156 : BitVec 32 := 0#32
  let v174 : BitVec 1 := Scalar.cmpi .ne v173 c0_i32_156
  v174

def k0_cond23 (v152 : BitVec 32) : BitVec 1 :=
  let c512_i32_161 : BitVec 32 := 512#32
  let v188 : BitVec 1 := Scalar.cmpi .sgt v152 c512_i32_161
  let v189 : BitVec 32 := Scalar.extui v188
  let c0_i32_162 : BitVec 32 := 0#32
  let v190 : BitVec 1 := Scalar.cmpi .ne v189 c0_i32_162
  v190

def k0_off29 (arg16 : BitVec 32) : Fin 2 → Nat :=
  let c16_i32_166 : BitVec 32 := 16#32
  let v200 : BitVec 32 := Scalar.addi arg16 c16_i32_166
  let c0_i32_167 : BitVec 32 := 0#32
  let v201 : BitVec 32 := Scalar.addi v200 c0_i32_167
  let c32_i32_168 : BitVec 32 := 32#32
  let v202 : BitVec 32 := Scalar.muli v201 c32_i32_168
  let v204 : BitVec 32 := v202
  let v205 : Index := Scalar.indexCast v204
  let c0_169 : Index := 0#32
  ![v205.toNat, 0]
def k0_mult22 (arg16 : BitVec 32) : BitVec 32 :=
  let c16_i32_166 : BitVec 32 := 16#32
  let v200 : BitVec 32 := Scalar.addi arg16 c16_i32_166
  let c1_i32_167 : BitVec 32 := 1#32
  let v201 : BitVec 32 := Scalar.addi v200 c1_i32_167
  let c32_i32_168 : BitVec 32 := 32#32
  let v202 : BitVec 32 := Scalar.muli v201 c32_i32_168
  v202
def k0_cond24 (v152 : BitVec 32) : BitVec 1 :=
  let c544_i32 : BitVec 32 := 544#32
  let v191 : BitVec 1 := Scalar.cmpi .sgt v152 c544_i32
  let v192 : BitVec 32 := Scalar.extui v191
  let c0_i32_163 : BitVec 32 := 0#32
  let v193 : BitVec 1 := Scalar.cmpi .ne v192 c0_i32_163
  v193

def k0_off30 (arg16 : BitVec 32) : Fin 2 → Nat :=
  let c16_i32_166 : BitVec 32 := 16#32
  let v200 : BitVec 32 := Scalar.addi arg16 c16_i32_166
  let c1_i32_167 : BitVec 32 := 1#32
  let v201 : BitVec 32 := Scalar.addi v200 c1_i32_167
  let c32_i32_168 : BitVec 32 := 32#32
  let v202 : BitVec 32 := Scalar.muli v201 c32_i32_168
  let v204 : BitVec 32 := v202
  let v205 : Index := Scalar.indexCast v204
  let c0_169 : Index := 0#32
  ![v205.toNat, 0]
def k0_mult23 (arg16 : BitVec 32) : BitVec 32 :=
  let c16_i32_166 : BitVec 32 := 16#32
  let v200 : BitVec 32 := Scalar.addi arg16 c16_i32_166
  let c2_i32 : BitVec 32 := 2#32
  let v201 : BitVec 32 := Scalar.addi v200 c2_i32
  let c32_i32_167 : BitVec 32 := 32#32
  let v202 : BitVec 32 := Scalar.muli v201 c32_i32_167
  v202
def k0_cond25 (v152 : BitVec 32) : BitVec 1 :=
  let c576_i32 : BitVec 32 := 576#32
  let v194 : BitVec 1 := Scalar.cmpi .sgt v152 c576_i32
  let v195 : BitVec 32 := Scalar.extui v194
  let c0_i32_164 : BitVec 32 := 0#32
  let v196 : BitVec 1 := Scalar.cmpi .ne v195 c0_i32_164
  v196

def k0_off31 (arg16 : BitVec 32) : Fin 2 → Nat :=
  let c16_i32_166 : BitVec 32 := 16#32
  let v200 : BitVec 32 := Scalar.addi arg16 c16_i32_166
  let c2_i32 : BitVec 32 := 2#32
  let v201 : BitVec 32 := Scalar.addi v200 c2_i32
  let c32_i32_167 : BitVec 32 := 32#32
  let v202 : BitVec 32 := Scalar.muli v201 c32_i32_167
  let v204 : BitVec 32 := v202
  let v205 : Index := Scalar.indexCast v204
  let c0_168 : Index := 0#32
  ![v205.toNat, 0]
def k0_mult24 (arg16 : BitVec 32) : BitVec 32 :=
  let c16_i32_166 : BitVec 32 := 16#32
  let v200 : BitVec 32 := Scalar.addi arg16 c16_i32_166
  let c3_i32 : BitVec 32 := 3#32
  let v201 : BitVec 32 := Scalar.addi v200 c3_i32
  let c32_i32_167 : BitVec 32 := 32#32
  let v202 : BitVec 32 := Scalar.muli v201 c32_i32_167
  v202
def k0_cond26 (v152 : BitVec 32) : BitVec 1 :=
  let c608_i32 : BitVec 32 := 608#32
  let v197 : BitVec 1 := Scalar.cmpi .sgt v152 c608_i32
  let v198 : BitVec 32 := Scalar.extui v197
  let c0_i32_165 : BitVec 32 := 0#32
  let v199 : BitVec 1 := Scalar.cmpi .ne v198 c0_i32_165
  v199

def k0_off32 (arg16 : BitVec 32) : Fin 2 → Nat :=
  let c16_i32_166 : BitVec 32 := 16#32
  let v200 : BitVec 32 := Scalar.addi arg16 c16_i32_166
  let c3_i32 : BitVec 32 := 3#32
  let v201 : BitVec 32 := Scalar.addi v200 c3_i32
  let c32_i32_167 : BitVec 32 := 32#32
  let v202 : BitVec 32 := Scalar.muli v201 c32_i32_167
  let v204 : BitVec 32 := v202
  let v205 : Index := Scalar.indexCast v204
  let c0_168 : Index := 0#32
  ![v205.toNat, 0]
def k0_off33 (k0_t1 : Fin k0_t1_loop.trips) : Fin 3 → Nat :=
  let c0_i32_132 : BitVec 32 := 0#32
  let c1_i32_133 : BitVec 32 := 1#32
  let arg15 : BitVec 32 := Scf.iv c0_i32_132 c1_i32_133 k0_t1
  let v182 : Index := Scalar.indexCast arg15
  let c5_159 : Index := 5#32
  let c0_160 : Index := 0#32
  ![v182.toNat, 5, 0]
def k0_mult25 (arg16 : BitVec 32) : BitVec 32 :=
  let c20_i32 : BitVec 32 := 20#32
  let v200 : BitVec 32 := Scalar.addi arg16 c20_i32
  let c0_i32_166 : BitVec 32 := 0#32
  let v201 : BitVec 32 := Scalar.addi v200 c0_i32_166
  let c32_i32_167 : BitVec 32 := 32#32
  let v202 : BitVec 32 := Scalar.muli v201 c32_i32_167
  v202
def k0_cond27 (v152 : BitVec 32) : BitVec 1 :=
  let c640_i32 : BitVec 32 := 640#32
  let v175 : BitVec 1 := Scalar.cmpi .sgt v152 c640_i32
  let v176 : BitVec 32 := Scalar.extui v175
  let c0_i32_157 : BitVec 32 := 0#32
  let v177 : BitVec 1 := Scalar.cmpi .ne v176 c0_i32_157
  v177

def k0_cond28 (v152 : BitVec 32) : BitVec 1 :=
  let c640_i32_161 : BitVec 32 := 640#32
  let v188 : BitVec 1 := Scalar.cmpi .sgt v152 c640_i32_161
  let v189 : BitVec 32 := Scalar.extui v188
  let c0_i32_162 : BitVec 32 := 0#32
  let v190 : BitVec 1 := Scalar.cmpi .ne v189 c0_i32_162
  v190

def k0_off34 (arg16 : BitVec 32) : Fin 2 → Nat :=
  let c20_i32 : BitVec 32 := 20#32
  let v200 : BitVec 32 := Scalar.addi arg16 c20_i32
  let c0_i32_166 : BitVec 32 := 0#32
  let v201 : BitVec 32 := Scalar.addi v200 c0_i32_166
  let c32_i32_167 : BitVec 32 := 32#32
  let v202 : BitVec 32 := Scalar.muli v201 c32_i32_167
  let v204 : BitVec 32 := v202
  let v205 : Index := Scalar.indexCast v204
  let c0_168 : Index := 0#32
  ![v205.toNat, 0]
def k0_mult26 (arg16 : BitVec 32) : BitVec 32 :=
  let c20_i32 : BitVec 32 := 20#32
  let v200 : BitVec 32 := Scalar.addi arg16 c20_i32
  let c1_i32_166 : BitVec 32 := 1#32
  let v201 : BitVec 32 := Scalar.addi v200 c1_i32_166
  let c32_i32_167 : BitVec 32 := 32#32
  let v202 : BitVec 32 := Scalar.muli v201 c32_i32_167
  v202
def k0_cond29 (v152 : BitVec 32) : BitVec 1 :=
  let c672_i32 : BitVec 32 := 672#32
  let v191 : BitVec 1 := Scalar.cmpi .sgt v152 c672_i32
  let v192 : BitVec 32 := Scalar.extui v191
  let c0_i32_163 : BitVec 32 := 0#32
  let v193 : BitVec 1 := Scalar.cmpi .ne v192 c0_i32_163
  v193

def k0_off35 (arg16 : BitVec 32) : Fin 2 → Nat :=
  let c20_i32 : BitVec 32 := 20#32
  let v200 : BitVec 32 := Scalar.addi arg16 c20_i32
  let c1_i32_166 : BitVec 32 := 1#32
  let v201 : BitVec 32 := Scalar.addi v200 c1_i32_166
  let c32_i32_167 : BitVec 32 := 32#32
  let v202 : BitVec 32 := Scalar.muli v201 c32_i32_167
  let v204 : BitVec 32 := v202
  let v205 : Index := Scalar.indexCast v204
  let c0_168 : Index := 0#32
  ![v205.toNat, 0]
def k0_mult27 (arg16 : BitVec 32) : BitVec 32 :=
  let c20_i32 : BitVec 32 := 20#32
  let v200 : BitVec 32 := Scalar.addi arg16 c20_i32
  let c2_i32 : BitVec 32 := 2#32
  let v201 : BitVec 32 := Scalar.addi v200 c2_i32
  let c32_i32_166 : BitVec 32 := 32#32
  let v202 : BitVec 32 := Scalar.muli v201 c32_i32_166
  v202
def k0_cond30 (v152 : BitVec 32) : BitVec 1 :=
  let c704_i32 : BitVec 32 := 704#32
  let v194 : BitVec 1 := Scalar.cmpi .sgt v152 c704_i32
  let v195 : BitVec 32 := Scalar.extui v194
  let c0_i32_164 : BitVec 32 := 0#32
  let v196 : BitVec 1 := Scalar.cmpi .ne v195 c0_i32_164
  v196

def k0_off36 (arg16 : BitVec 32) : Fin 2 → Nat :=
  let c20_i32 : BitVec 32 := 20#32
  let v200 : BitVec 32 := Scalar.addi arg16 c20_i32
  let c2_i32 : BitVec 32 := 2#32
  let v201 : BitVec 32 := Scalar.addi v200 c2_i32
  let c32_i32_166 : BitVec 32 := 32#32
  let v202 : BitVec 32 := Scalar.muli v201 c32_i32_166
  let v204 : BitVec 32 := v202
  let v205 : Index := Scalar.indexCast v204
  let c0_167 : Index := 0#32
  ![v205.toNat, 0]
def k0_mult28 (arg16 : BitVec 32) : BitVec 32 :=
  let c20_i32 : BitVec 32 := 20#32
  let v200 : BitVec 32 := Scalar.addi arg16 c20_i32
  let c3_i32 : BitVec 32 := 3#32
  let v201 : BitVec 32 := Scalar.addi v200 c3_i32
  let c32_i32_166 : BitVec 32 := 32#32
  let v202 : BitVec 32 := Scalar.muli v201 c32_i32_166
  v202
def k0_cond31 (v152 : BitVec 32) : BitVec 1 :=
  let c736_i32 : BitVec 32 := 736#32
  let v197 : BitVec 1 := Scalar.cmpi .sgt v152 c736_i32
  let v198 : BitVec 32 := Scalar.extui v197
  let c0_i32_165 : BitVec 32 := 0#32
  let v199 : BitVec 1 := Scalar.cmpi .ne v198 c0_i32_165
  v199

def k0_off37 (arg16 : BitVec 32) : Fin 2 → Nat :=
  let c20_i32 : BitVec 32 := 20#32
  let v200 : BitVec 32 := Scalar.addi arg16 c20_i32
  let c3_i32 : BitVec 32 := 3#32
  let v201 : BitVec 32 := Scalar.addi v200 c3_i32
  let c32_i32_166 : BitVec 32 := 32#32
  let v202 : BitVec 32 := Scalar.muli v201 c32_i32_166
  let v204 : BitVec 32 := v202
  let v205 : Index := Scalar.indexCast v204
  let c0_167 : Index := 0#32
  ![v205.toNat, 0]
def k0_off38 (k0_t1 : Fin k0_t1_loop.trips) : Fin 3 → Nat :=
  let c0_i32_132 : BitVec 32 := 0#32
  let c1_i32_133 : BitVec 32 := 1#32
  let arg15 : BitVec 32 := Scf.iv c0_i32_132 c1_i32_133 k0_t1
  let v182 : Index := Scalar.indexCast arg15
  let c6_159 : Index := 6#32
  let c0_160 : Index := 0#32
  ![v182.toNat, 6, 0]
def k0_mult29 (arg16 : BitVec 32) : BitVec 32 :=
  let c24_i32_166 : BitVec 32 := 24#32
  let v200 : BitVec 32 := Scalar.addi arg16 c24_i32_166
  let c0_i32_167 : BitVec 32 := 0#32
  let v201 : BitVec 32 := Scalar.addi v200 c0_i32_167
  let c32_i32_168 : BitVec 32 := 32#32
  let v202 : BitVec 32 := Scalar.muli v201 c32_i32_168
  v202
def k0_cond32 (v152 : BitVec 32) : BitVec 1 :=
  let c768_i32 : BitVec 32 := 768#32
  let v178 : BitVec 1 := Scalar.cmpi .sgt v152 c768_i32
  let v179 : BitVec 32 := Scalar.extui v178
  let c0_i32_158 : BitVec 32 := 0#32
  let v180 : BitVec 1 := Scalar.cmpi .ne v179 c0_i32_158
  v180

def k0_cond33 (v152 : BitVec 32) : BitVec 1 :=
  let c768_i32_161 : BitVec 32 := 768#32
  let v188 : BitVec 1 := Scalar.cmpi .sgt v152 c768_i32_161
  let v189 : BitVec 32 := Scalar.extui v188
  let c0_i32_162 : BitVec 32 := 0#32
  let v190 : BitVec 1 := Scalar.cmpi .ne v189 c0_i32_162
  v190

def k0_off39 (arg16 : BitVec 32) : Fin 2 → Nat :=
  let c24_i32_166 : BitVec 32 := 24#32
  let v200 : BitVec 32 := Scalar.addi arg16 c24_i32_166
  let c0_i32_167 : BitVec 32 := 0#32
  let v201 : BitVec 32 := Scalar.addi v200 c0_i32_167
  let c32_i32_168 : BitVec 32 := 32#32
  let v202 : BitVec 32 := Scalar.muli v201 c32_i32_168
  let v204 : BitVec 32 := v202
  let v205 : Index := Scalar.indexCast v204
  let c0_169 : Index := 0#32
  ![v205.toNat, 0]
def k0_mult30 (arg16 : BitVec 32) : BitVec 32 :=
  let c24_i32_166 : BitVec 32 := 24#32
  let v200 : BitVec 32 := Scalar.addi arg16 c24_i32_166
  let c1_i32_167 : BitVec 32 := 1#32
  let v201 : BitVec 32 := Scalar.addi v200 c1_i32_167
  let c32_i32_168 : BitVec 32 := 32#32
  let v202 : BitVec 32 := Scalar.muli v201 c32_i32_168
  v202
def k0_cond34 (v152 : BitVec 32) : BitVec 1 :=
  let c800_i32 : BitVec 32 := 800#32
  let v191 : BitVec 1 := Scalar.cmpi .sgt v152 c800_i32
  let v192 : BitVec 32 := Scalar.extui v191
  let c0_i32_163 : BitVec 32 := 0#32
  let v193 : BitVec 1 := Scalar.cmpi .ne v192 c0_i32_163
  v193

def k0_off40 (arg16 : BitVec 32) : Fin 2 → Nat :=
  let c24_i32_166 : BitVec 32 := 24#32
  let v200 : BitVec 32 := Scalar.addi arg16 c24_i32_166
  let c1_i32_167 : BitVec 32 := 1#32
  let v201 : BitVec 32 := Scalar.addi v200 c1_i32_167
  let c32_i32_168 : BitVec 32 := 32#32
  let v202 : BitVec 32 := Scalar.muli v201 c32_i32_168
  let v204 : BitVec 32 := v202
  let v205 : Index := Scalar.indexCast v204
  let c0_169 : Index := 0#32
  ![v205.toNat, 0]
def k0_mult31 (arg16 : BitVec 32) : BitVec 32 :=
  let c24_i32_166 : BitVec 32 := 24#32
  let v200 : BitVec 32 := Scalar.addi arg16 c24_i32_166
  let c2_i32 : BitVec 32 := 2#32
  let v201 : BitVec 32 := Scalar.addi v200 c2_i32
  let c32_i32_167 : BitVec 32 := 32#32
  let v202 : BitVec 32 := Scalar.muli v201 c32_i32_167
  v202
def k0_cond35 (v152 : BitVec 32) : BitVec 1 :=
  let c832_i32 : BitVec 32 := 832#32
  let v194 : BitVec 1 := Scalar.cmpi .sgt v152 c832_i32
  let v195 : BitVec 32 := Scalar.extui v194
  let c0_i32_164 : BitVec 32 := 0#32
  let v196 : BitVec 1 := Scalar.cmpi .ne v195 c0_i32_164
  v196

def k0_off41 (arg16 : BitVec 32) : Fin 2 → Nat :=
  let c24_i32_166 : BitVec 32 := 24#32
  let v200 : BitVec 32 := Scalar.addi arg16 c24_i32_166
  let c2_i32 : BitVec 32 := 2#32
  let v201 : BitVec 32 := Scalar.addi v200 c2_i32
  let c32_i32_167 : BitVec 32 := 32#32
  let v202 : BitVec 32 := Scalar.muli v201 c32_i32_167
  let v204 : BitVec 32 := v202
  let v205 : Index := Scalar.indexCast v204
  let c0_168 : Index := 0#32
  ![v205.toNat, 0]
def k0_mult32 (arg16 : BitVec 32) : BitVec 32 :=
  let c24_i32_166 : BitVec 32 := 24#32
  let v200 : BitVec 32 := Scalar.addi arg16 c24_i32_166
  let c3_i32 : BitVec 32 := 3#32
  let v201 : BitVec 32 := Scalar.addi v200 c3_i32
  let c32_i32_167 : BitVec 32 := 32#32
  let v202 : BitVec 32 := Scalar.muli v201 c32_i32_167
  v202
def k0_cond36 (v152 : BitVec 32) : BitVec 1 :=
  let c864_i32 : BitVec 32 := 864#32
  let v197 : BitVec 1 := Scalar.cmpi .sgt v152 c864_i32
  let v198 : BitVec 32 := Scalar.extui v197
  let c0_i32_165 : BitVec 32 := 0#32
  let v199 : BitVec 1 := Scalar.cmpi .ne v198 c0_i32_165
  v199

def k0_off42 (arg16 : BitVec 32) : Fin 2 → Nat :=
  let c24_i32_166 : BitVec 32 := 24#32
  let v200 : BitVec 32 := Scalar.addi arg16 c24_i32_166
  let c3_i32 : BitVec 32 := 3#32
  let v201 : BitVec 32 := Scalar.addi v200 c3_i32
  let c32_i32_167 : BitVec 32 := 32#32
  let v202 : BitVec 32 := Scalar.muli v201 c32_i32_167
  let v204 : BitVec 32 := v202
  let v205 : Index := Scalar.indexCast v204
  let c0_168 : Index := 0#32
  ![v205.toNat, 0]

def k0_chk1_0 (i : grid0.Coords) (k0_t1 : Fin k0_t1_loop.trips) (arg16 : BitVec 32) (v152 : BitVec 32) : Prop :=
  (∀ (k0_h1 : k0_cond1 i = 1#1), (k0_t2_loop v152).OK) ∧
  (∀ k0_t2 : Fin (k0_t2_loop v152).trips, ∀ (k0_h1 : k0_cond1 i = 1#1), 32 ∣ (k0_mult1 k0_t1 v152 k0_t2).toNat) ∧
  (∀ k0_t2 : Fin (k0_t2_loop v152).trips, ∀ (k0_h1 : k0_cond1 i = 1#1), 32 ∣ (k0_mult2 arg16 v152 k0_t2).toNat) ∧
  (∀ k0_t2 : Fin (k0_t2_loop v152).trips, ∀ (k0_h1 : k0_cond1 i = 1#1), ∀ a, (k0_off2 arg16 v152 k0_t2) a + S32x1024.size a ≤ S22016x1024.size a) ∧
  (∀ k0_t2 : Fin (k0_t2_loop v152).trips, ∀ (k0_h1 : k0_cond1 i = 1#1), ∀ a, (k0_off3 k0_t1 v152 k0_t2) a + S32x1024.size a ≤ S21504x1024.size a) ∧
  (∀ k0_t2 : Fin (k0_t2_loop v152).trips, ∀ (k0_h1 : k0_cond1 i = 1#1), ∀ (hinb : ∀ a, (k0_off3 k0_t1 v152 k0_t2) a + S32x1024.size a ≤ S21504x1024.size a), (Rect.unit (s := S21504x1024) (k0_off3 k0_t1 v152 k0_t2) S32x1024.size hinb).WholeWords (EltTy.packing .fp8e4m3)) ∧
  (∀ k0_t2 : Fin (k0_t2_loop v152).trips, ∀ (k0_h1 : k0_cond1 i = 1#1), ∀ (hinb : ∀ a, (k0_off2 arg16 v152 k0_t2) a + S32x1024.size a ≤ S22016x1024.size a), (Rect.unit (s := S22016x1024) (k0_off2 arg16 v152 k0_t2) S32x1024.size hinb).WholeWords (EltTy.packing .fp8e4m3)) ∧
  (∀ k0_t2 : Fin (k0_t2_loop v152).trips, ∀ (k0_h1 : k0_cond1 i = 1#1), ∀ a, (k0_off4 arg16 v152 k0_t2) a + S1.size a ≤ S688.size a) ∧
  (∀ (k0_h1 : k0_cond1 i = 1#1), (k0_t3_loop v152).OK) ∧
  (∀ k0_t3 : Fin (k0_t3_loop v152).trips, ∀ (k0_h1 : k0_cond1 i = 1#1), 32 ∣ (k0_mult3 k0_t1 v152 k0_t3).toNat) ∧
  (∀ k0_t3 : Fin (k0_t3_loop v152).trips, ∀ (k0_h1 : k0_cond1 i = 1#1), 32 ∣ (k0_mult4 arg16 v152 k0_t3).toNat) ∧
  (∀ k0_t3 : Fin (k0_t3_loop v152).trips, ∀ (k0_h1 : k0_cond1 i = 1#1), ∀ a, (k0_off5 arg16 v152 k0_t3) a + S32x1024.size a ≤ S22016x1024.size a) ∧
  (∀ k0_t3 : Fin (k0_t3_loop v152).trips, ∀ (k0_h1 : k0_cond1 i = 1#1), ∀ a, (k0_off6 k0_t1 v152 k0_t3) a + S32x1024.size a ≤ S21504x1024.size a) ∧
  (∀ k0_t3 : Fin (k0_t3_loop v152).trips, ∀ (k0_h1 : k0_cond1 i = 1#1), ∀ (hinb : ∀ a, (k0_off6 k0_t1 v152 k0_t3) a + S32x1024.size a ≤ S21504x1024.size a), (Rect.unit (s := S21504x1024) (k0_off6 k0_t1 v152 k0_t3) S32x1024.size hinb).WholeWords (EltTy.packing .fp8e4m3)) ∧
  (∀ k0_t3 : Fin (k0_t3_loop v152).trips, ∀ (k0_h1 : k0_cond1 i = 1#1), ∀ (hinb : ∀ a, (k0_off5 arg16 v152 k0_t3) a + S32x1024.size a ≤ S22016x1024.size a), (Rect.unit (s := S22016x1024) (k0_off5 arg16 v152 k0_t3) S32x1024.size hinb).WholeWords (EltTy.packing .fp8e4m3)) ∧
  (∀ k0_t3 : Fin (k0_t3_loop v152).trips, ∀ (k0_h1 : k0_cond1 i = 1#1), ∀ a, (k0_off7 arg16 v152 k0_t3) a + S1.size a ≤ S688.size a) ∧
  (∀ (k0_h1 : k0_cond1 i = 1#1), ∀ (k0_h2 : k0_cond2 v152 = 1#1), ∀ (k0_h3 : k0_cond3 v152 = 1#1), 32 ∣ (k0_mult5 arg16).toNat) ∧
  (∀ (k0_h1 : k0_cond1 i = 1#1), ∀ (k0_h2 : k0_cond2 v152 = 1#1), ∀ (k0_h3 : k0_cond3 v152 = 1#1), ∀ a, (k0_off9 arg16) a + S32x128.size a ≤ S22016x128.size a) ∧
  (∀ (k0_h1 : k0_cond1 i = 1#1), ∀ (k0_h2 : k0_cond2 v152 = 1#1), ∀ (k0_h4 : k0_cond4 v152 = 1#1), 32 ∣ (k0_mult6 arg16).toNat) ∧
  (∀ (k0_h1 : k0_cond1 i = 1#1), ∀ (k0_h2 : k0_cond2 v152 = 1#1), ∀ (k0_h4 : k0_cond4 v152 = 1#1), ∀ a, (k0_off10 arg16) a + S32x128.size a ≤ S22016x128.size a) ∧
  (∀ (k0_h1 : k0_cond1 i = 1#1), ∀ (k0_h2 : k0_cond2 v152 = 1#1), ∀ (k0_h5 : k0_cond5 v152 = 1#1), 32 ∣ (k0_mult7 arg16).toNat) ∧
  (∀ (k0_h1 : k0_cond1 i = 1#1), ∀ (k0_h2 : k0_cond2 v152 = 1#1), ∀ (k0_h5 : k0_cond5 v152 = 1#1), ∀ a, (k0_off11 arg16) a + S32x128.size a ≤ S22016x128.size a) ∧
  (∀ (k0_h1 : k0_cond1 i = 1#1), ∀ (k0_h2 : k0_cond2 v152 = 1#1), ∀ (k0_h6 : k0_cond6 v152 = 1#1), 32 ∣ (k0_mult8 arg16).toNat) ∧
  (∀ (k0_h1 : k0_cond1 i = 1#1), ∀ (k0_h2 : k0_cond2 v152 = 1#1), ∀ (k0_h6 : k0_cond6 v152 = 1#1), ∀ a, (k0_off12 arg16) a + S32x128.size a ≤ S22016x128.size a) ∧
  (∀ (k0_h1 : k0_cond1 i = 1#1), ∀ (k0_h7 : k0_cond7 v152 = 1#1), ∀ (k0_h8 : k0_cond8 v152 = 1#1), 32 ∣ (k0_mult9 arg16).toNat) ∧
  (∀ (k0_h1 : k0_cond1 i = 1#1), ∀ (k0_h7 : k0_cond7 v152 = 1#1), ∀ (k0_h8 : k0_cond8 v152 = 1#1), ∀ a, (k0_off14 arg16) a + S32x128.size a ≤ S22016x128.size a) ∧
  (∀ (k0_h1 : k0_cond1 i = 1#1), ∀ (k0_h7 : k0_cond7 v152 = 1#1), ∀ (k0_h9 : k0_cond9 v152 = 1#1), 32 ∣ (k0_mult10 arg16).toNat) ∧
  (∀ (k0_h1 : k0_cond1 i = 1#1), ∀ (k0_h7 : k0_cond7 v152 = 1#1), ∀ (k0_h9 : k0_cond9 v152 = 1#1), ∀ a, (k0_off15 arg16) a + S32x128.size a ≤ S22016x128.size a) ∧
  (∀ (k0_h1 : k0_cond1 i = 1#1), ∀ (k0_h7 : k0_cond7 v152 = 1#1), ∀ (k0_h10 : k0_cond10 v152 = 1#1), 32 ∣ (k0_mult11 arg16).toNat) ∧
  (∀ (k0_h1 : k0_cond1 i = 1#1), ∀ (k0_h7 : k0_cond7 v152 = 1#1), ∀ (k0_h10 : k0_cond10 v152 = 1#1), ∀ a, (k0_off16 arg16) a + S32x128.size a ≤ S22016x128.size a) ∧
  (∀ (k0_h1 : k0_cond1 i = 1#1), ∀ (k0_h7 : k0_cond7 v152 = 1#1), ∀ (k0_h11 : k0_cond11 v152 = 1#1), 32 ∣ (k0_mult12 arg16).toNat) ∧
  (∀ (k0_h1 : k0_cond1 i = 1#1), ∀ (k0_h7 : k0_cond7 v152 = 1#1), ∀ (k0_h11 : k0_cond11 v152 = 1#1), ∀ a, (k0_off17 arg16) a + S32x128.size a ≤ S22016x128.size a)
def k0_chk1_1 (i : grid0.Coords) (k0_t1 : Fin k0_t1_loop.trips) (arg16 : BitVec 32) (v152 : BitVec 32) : Prop :=
  (∀ (k0_h1 : k0_cond1 i = 1#1), ∀ (k0_h12 : k0_cond12 v152 = 1#1), ∀ (k0_h13 : k0_cond13 v152 = 1#1), 32 ∣ (k0_mult13 arg16).toNat) ∧
  (∀ (k0_h1 : k0_cond1 i = 1#1), ∀ (k0_h12 : k0_cond12 v152 = 1#1), ∀ (k0_h13 : k0_cond13 v152 = 1#1), ∀ a, (k0_off19 arg16) a + S32x128.size a ≤ S22016x128.size a) ∧
  (∀ (k0_h1 : k0_cond1 i = 1#1), ∀ (k0_h12 : k0_cond12 v152 = 1#1), ∀ (k0_h14 : k0_cond14 v152 = 1#1), 32 ∣ (k0_mult14 arg16).toNat) ∧
  (∀ (k0_h1 : k0_cond1 i = 1#1), ∀ (k0_h12 : k0_cond12 v152 = 1#1), ∀ (k0_h14 : k0_cond14 v152 = 1#1), ∀ a, (k0_off20 arg16) a + S32x128.size a ≤ S22016x128.size a) ∧
  (∀ (k0_h1 : k0_cond1 i = 1#1), ∀ (k0_h12 : k0_cond12 v152 = 1#1), ∀ (k0_h15 : k0_cond15 v152 = 1#1), 32 ∣ (k0_mult15 arg16).toNat) ∧
  (∀ (k0_h1 : k0_cond1 i = 1#1), ∀ (k0_h12 : k0_cond12 v152 = 1#1), ∀ (k0_h15 : k0_cond15 v152 = 1#1), ∀ a, (k0_off21 arg16) a + S32x128.size a ≤ S22016x128.size a) ∧
  (∀ (k0_h1 : k0_cond1 i = 1#1), ∀ (k0_h12 : k0_cond12 v152 = 1#1), ∀ (k0_h16 : k0_cond16 v152 = 1#1), 32 ∣ (k0_mult16 arg16).toNat) ∧
  (∀ (k0_h1 : k0_cond1 i = 1#1), ∀ (k0_h12 : k0_cond12 v152 = 1#1), ∀ (k0_h16 : k0_cond16 v152 = 1#1), ∀ a, (k0_off22 arg16) a + S32x128.size a ≤ S22016x128.size a) ∧
  (∀ (k0_h1 : k0_cond1 i = 1#1), ∀ (k0_h17 : k0_cond17 v152 = 1#1), ∀ (k0_h18 : k0_cond18 v152 = 1#1), 32 ∣ (k0_mult17 arg16).toNat) ∧
  (∀ (k0_h1 : k0_cond1 i = 1#1), ∀ (k0_h17 : k0_cond17 v152 = 1#1), ∀ (k0_h18 : k0_cond18 v152 = 1#1), ∀ a, (k0_off24 arg16) a + S32x128.size a ≤ S22016x128.size a) ∧
  (∀ (k0_h1 : k0_cond1 i = 1#1), ∀ (k0_h17 : k0_cond17 v152 = 1#1), ∀ (k0_h19 : k0_cond19 v152 = 1#1), 32 ∣ (k0_mult18 arg16).toNat) ∧
  (∀ (k0_h1 : k0_cond1 i = 1#1), ∀ (k0_h17 : k0_cond17 v152 = 1#1), ∀ (k0_h19 : k0_cond19 v152 = 1#1), ∀ a, (k0_off25 arg16) a + S32x128.size a ≤ S22016x128.size a) ∧
  (∀ (k0_h1 : k0_cond1 i = 1#1), ∀ (k0_h17 : k0_cond17 v152 = 1#1), ∀ (k0_h20 : k0_cond20 v152 = 1#1), 32 ∣ (k0_mult19 arg16).toNat) ∧
  (∀ (k0_h1 : k0_cond1 i = 1#1), ∀ (k0_h17 : k0_cond17 v152 = 1#1), ∀ (k0_h20 : k0_cond20 v152 = 1#1), ∀ a, (k0_off26 arg16) a + S32x128.size a ≤ S22016x128.size a) ∧
  (∀ (k0_h1 : k0_cond1 i = 1#1), ∀ (k0_h17 : k0_cond17 v152 = 1#1), ∀ (k0_h21 : k0_cond21 v152 = 1#1), 32 ∣ (k0_mult20 arg16).toNat) ∧
  (∀ (k0_h1 : k0_cond1 i = 1#1), ∀ (k0_h17 : k0_cond17 v152 = 1#1), ∀ (k0_h21 : k0_cond21 v152 = 1#1), ∀ a, (k0_off27 arg16) a + S32x128.size a ≤ S22016x128.size a) ∧
  (∀ (k0_h1 : k0_cond1 i = 1#1), ∀ (k0_h22 : k0_cond22 v152 = 1#1), ∀ (k0_h23 : k0_cond23 v152 = 1#1), 32 ∣ (k0_mult21 arg16).toNat) ∧
  (∀ (k0_h1 : k0_cond1 i = 1#1), ∀ (k0_h22 : k0_cond22 v152 = 1#1), ∀ (k0_h23 : k0_cond23 v152 = 1#1), ∀ a, (k0_off29 arg16) a + S32x128.size a ≤ S22016x128.size a) ∧
  (∀ (k0_h1 : k0_cond1 i = 1#1), ∀ (k0_h22 : k0_cond22 v152 = 1#1), ∀ (k0_h24 : k0_cond24 v152 = 1#1), 32 ∣ (k0_mult22 arg16).toNat) ∧
  (∀ (k0_h1 : k0_cond1 i = 1#1), ∀ (k0_h22 : k0_cond22 v152 = 1#1), ∀ (k0_h24 : k0_cond24 v152 = 1#1), ∀ a, (k0_off30 arg16) a + S32x128.size a ≤ S22016x128.size a) ∧
  (∀ (k0_h1 : k0_cond1 i = 1#1), ∀ (k0_h22 : k0_cond22 v152 = 1#1), ∀ (k0_h25 : k0_cond25 v152 = 1#1), 32 ∣ (k0_mult23 arg16).toNat) ∧
  (∀ (k0_h1 : k0_cond1 i = 1#1), ∀ (k0_h22 : k0_cond22 v152 = 1#1), ∀ (k0_h25 : k0_cond25 v152 = 1#1), ∀ a, (k0_off31 arg16) a + S32x128.size a ≤ S22016x128.size a) ∧
  (∀ (k0_h1 : k0_cond1 i = 1#1), ∀ (k0_h22 : k0_cond22 v152 = 1#1), ∀ (k0_h26 : k0_cond26 v152 = 1#1), 32 ∣ (k0_mult24 arg16).toNat) ∧
  (∀ (k0_h1 : k0_cond1 i = 1#1), ∀ (k0_h22 : k0_cond22 v152 = 1#1), ∀ (k0_h26 : k0_cond26 v152 = 1#1), ∀ a, (k0_off32 arg16) a + S32x128.size a ≤ S22016x128.size a) ∧
  (∀ (k0_h1 : k0_cond1 i = 1#1), ∀ (k0_h27 : k0_cond27 v152 = 1#1), ∀ (k0_h28 : k0_cond28 v152 = 1#1), 32 ∣ (k0_mult25 arg16).toNat) ∧
  (∀ (k0_h1 : k0_cond1 i = 1#1), ∀ (k0_h27 : k0_cond27 v152 = 1#1), ∀ (k0_h28 : k0_cond28 v152 = 1#1), ∀ a, (k0_off34 arg16) a + S32x128.size a ≤ S22016x128.size a) ∧
  (∀ (k0_h1 : k0_cond1 i = 1#1), ∀ (k0_h27 : k0_cond27 v152 = 1#1), ∀ (k0_h29 : k0_cond29 v152 = 1#1), 32 ∣ (k0_mult26 arg16).toNat) ∧
  (∀ (k0_h1 : k0_cond1 i = 1#1), ∀ (k0_h27 : k0_cond27 v152 = 1#1), ∀ (k0_h29 : k0_cond29 v152 = 1#1), ∀ a, (k0_off35 arg16) a + S32x128.size a ≤ S22016x128.size a) ∧
  (∀ (k0_h1 : k0_cond1 i = 1#1), ∀ (k0_h27 : k0_cond27 v152 = 1#1), ∀ (k0_h30 : k0_cond30 v152 = 1#1), 32 ∣ (k0_mult27 arg16).toNat) ∧
  (∀ (k0_h1 : k0_cond1 i = 1#1), ∀ (k0_h27 : k0_cond27 v152 = 1#1), ∀ (k0_h30 : k0_cond30 v152 = 1#1), ∀ a, (k0_off36 arg16) a + S32x128.size a ≤ S22016x128.size a) ∧
  (∀ (k0_h1 : k0_cond1 i = 1#1), ∀ (k0_h27 : k0_cond27 v152 = 1#1), ∀ (k0_h31 : k0_cond31 v152 = 1#1), 32 ∣ (k0_mult28 arg16).toNat) ∧
  (∀ (k0_h1 : k0_cond1 i = 1#1), ∀ (k0_h27 : k0_cond27 v152 = 1#1), ∀ (k0_h31 : k0_cond31 v152 = 1#1), ∀ a, (k0_off37 arg16) a + S32x128.size a ≤ S22016x128.size a)
def k0_chk1_2 (i : grid0.Coords) (k0_t1 : Fin k0_t1_loop.trips) (arg16 : BitVec 32) (v152 : BitVec 32) : Prop :=
  (∀ (k0_h1 : k0_cond1 i = 1#1), ∀ (k0_h32 : k0_cond32 v152 = 1#1), ∀ (k0_h33 : k0_cond33 v152 = 1#1), 32 ∣ (k0_mult29 arg16).toNat) ∧
  (∀ (k0_h1 : k0_cond1 i = 1#1), ∀ (k0_h32 : k0_cond32 v152 = 1#1), ∀ (k0_h33 : k0_cond33 v152 = 1#1), ∀ a, (k0_off39 arg16) a + S32x128.size a ≤ S22016x128.size a) ∧
  (∀ (k0_h1 : k0_cond1 i = 1#1), ∀ (k0_h32 : k0_cond32 v152 = 1#1), ∀ (k0_h34 : k0_cond34 v152 = 1#1), 32 ∣ (k0_mult30 arg16).toNat) ∧
  (∀ (k0_h1 : k0_cond1 i = 1#1), ∀ (k0_h32 : k0_cond32 v152 = 1#1), ∀ (k0_h34 : k0_cond34 v152 = 1#1), ∀ a, (k0_off40 arg16) a + S32x128.size a ≤ S22016x128.size a) ∧
  (∀ (k0_h1 : k0_cond1 i = 1#1), ∀ (k0_h32 : k0_cond32 v152 = 1#1), ∀ (k0_h35 : k0_cond35 v152 = 1#1), 32 ∣ (k0_mult31 arg16).toNat) ∧
  (∀ (k0_h1 : k0_cond1 i = 1#1), ∀ (k0_h32 : k0_cond32 v152 = 1#1), ∀ (k0_h35 : k0_cond35 v152 = 1#1), ∀ a, (k0_off41 arg16) a + S32x128.size a ≤ S22016x128.size a) ∧
  (∀ (k0_h1 : k0_cond1 i = 1#1), ∀ (k0_h32 : k0_cond32 v152 = 1#1), ∀ (k0_h36 : k0_cond36 v152 = 1#1), 32 ∣ (k0_mult32 arg16).toNat) ∧
  (∀ (k0_h1 : k0_cond1 i = 1#1), ∀ (k0_h32 : k0_cond32 v152 = 1#1), ∀ (k0_h36 : k0_cond36 v152 = 1#1), ∀ a, (k0_off42 arg16) a + S32x128.size a ≤ S22016x128.size a)
def k0_chk1 (i : grid0.Coords) (k0_t1 : Fin k0_t1_loop.trips) (arg16 : BitVec 32) (v152 : BitVec 32) : Prop :=
  k0_chk1_0 i k0_t1 arg16 v152 ∧
  k0_chk1_1 i k0_t1 arg16 v152 ∧
  k0_chk1_2 i k0_t1 arg16 v152
theorem k0_t2_ok : ∀ (i : grid0.Coords) (k0_t1 : Fin k0_t1_loop.trips) (arg16 : BitVec 32) (v152 : BitVec 32) (k0_hw1 : k0_chk1 i k0_t1 arg16 v152), ∀ (k0_h1 : k0_cond1 i = 1#1), (k0_t2_loop v152).OK := fun i k0_t1 arg16 v152 k0_hw1 k0_h1 => k0_hw1.1.1 k0_h1
theorem k0_mult1_dvd : ∀ (i : grid0.Coords) (k0_t1 : Fin k0_t1_loop.trips) (arg16 : BitVec 32) (v152 : BitVec 32) (k0_hw1 : k0_chk1 i k0_t1 arg16 v152) (k0_t2 : Fin (k0_t2_loop v152).trips), ∀ (k0_h1 : k0_cond1 i = 1#1), 32 ∣ (k0_mult1 k0_t1 v152 k0_t2).toNat := fun i k0_t1 arg16 v152 k0_hw1 k0_t2 k0_h1 => k0_hw1.1.2.1 k0_t2 k0_h1
theorem k0_mult2_dvd : ∀ (i : grid0.Coords) (k0_t1 : Fin k0_t1_loop.trips) (arg16 : BitVec 32) (v152 : BitVec 32) (k0_hw1 : k0_chk1 i k0_t1 arg16 v152) (k0_t2 : Fin (k0_t2_loop v152).trips), ∀ (k0_h1 : k0_cond1 i = 1#1), 32 ∣ (k0_mult2 arg16 v152 k0_t2).toNat := fun i k0_t1 arg16 v152 k0_hw1 k0_t2 k0_h1 => k0_hw1.1.2.2.1 k0_t2 k0_h1
theorem k0_off2_inb : ∀ (i : grid0.Coords) (k0_t1 : Fin k0_t1_loop.trips) (arg16 : BitVec 32) (v152 : BitVec 32) (k0_hw1 : k0_chk1 i k0_t1 arg16 v152) (k0_t2 : Fin (k0_t2_loop v152).trips), ∀ (k0_h1 : k0_cond1 i = 1#1), ∀ a, (k0_off2 arg16 v152 k0_t2) a + S32x1024.size a ≤ S22016x1024.size a := fun i k0_t1 arg16 v152 k0_hw1 k0_t2 k0_h1 => k0_hw1.1.2.2.2.1 k0_t2 k0_h1
theorem k0_off3_inb : ∀ (i : grid0.Coords) (k0_t1 : Fin k0_t1_loop.trips) (arg16 : BitVec 32) (v152 : BitVec 32) (k0_hw1 : k0_chk1 i k0_t1 arg16 v152) (k0_t2 : Fin (k0_t2_loop v152).trips), ∀ (k0_h1 : k0_cond1 i = 1#1), ∀ a, (k0_off3 k0_t1 v152 k0_t2) a + S32x1024.size a ≤ S21504x1024.size a := fun i k0_t1 arg16 v152 k0_hw1 k0_t2 k0_h1 => k0_hw1.1.2.2.2.2.1 k0_t2 k0_h1
theorem k0_off3_wordsfp8e4m3 : ∀ (i : grid0.Coords) (k0_t1 : Fin k0_t1_loop.trips) (arg16 : BitVec 32) (v152 : BitVec 32) (k0_hw1 : k0_chk1 i k0_t1 arg16 v152) (k0_t2 : Fin (k0_t2_loop v152).trips), ∀ (k0_h1 : k0_cond1 i = 1#1), (Rect.unit (s := S21504x1024) (k0_off3 k0_t1 v152 k0_t2) S32x1024.size (k0_off3_inb i k0_t1 arg16 v152 k0_hw1 k0_t2 k0_h1)).WholeWords (EltTy.packing .fp8e4m3) := fun i k0_t1 arg16 v152 k0_hw1 k0_t2 k0_h1 => k0_hw1.1.2.2.2.2.2.1 k0_t2 k0_h1 (k0_off3_inb i k0_t1 arg16 v152 k0_hw1 k0_t2 k0_h1)
theorem k0_off2_wordsfp8e4m3 : ∀ (i : grid0.Coords) (k0_t1 : Fin k0_t1_loop.trips) (arg16 : BitVec 32) (v152 : BitVec 32) (k0_hw1 : k0_chk1 i k0_t1 arg16 v152) (k0_t2 : Fin (k0_t2_loop v152).trips), ∀ (k0_h1 : k0_cond1 i = 1#1), (Rect.unit (s := S22016x1024) (k0_off2 arg16 v152 k0_t2) S32x1024.size (k0_off2_inb i k0_t1 arg16 v152 k0_hw1 k0_t2 k0_h1)).WholeWords (EltTy.packing .fp8e4m3) := fun i k0_t1 arg16 v152 k0_hw1 k0_t2 k0_h1 => k0_hw1.1.2.2.2.2.2.2.1 k0_t2 k0_h1 (k0_off2_inb i k0_t1 arg16 v152 k0_hw1 k0_t2 k0_h1)
theorem k0_off4_inb : ∀ (i : grid0.Coords) (k0_t1 : Fin k0_t1_loop.trips) (arg16 : BitVec 32) (v152 : BitVec 32) (k0_hw1 : k0_chk1 i k0_t1 arg16 v152) (k0_t2 : Fin (k0_t2_loop v152).trips), ∀ (k0_h1 : k0_cond1 i = 1#1), ∀ a, (k0_off4 arg16 v152 k0_t2) a + S1.size a ≤ S688.size a := fun i k0_t1 arg16 v152 k0_hw1 k0_t2 k0_h1 => k0_hw1.1.2.2.2.2.2.2.2.1 k0_t2 k0_h1
theorem k0_t3_ok : ∀ (i : grid0.Coords) (k0_t1 : Fin k0_t1_loop.trips) (arg16 : BitVec 32) (v152 : BitVec 32) (k0_hw1 : k0_chk1 i k0_t1 arg16 v152), ∀ (k0_h1 : k0_cond1 i = 1#1), (k0_t3_loop v152).OK := fun i k0_t1 arg16 v152 k0_hw1 k0_h1 => k0_hw1.1.2.2.2.2.2.2.2.2.1 k0_h1
theorem k0_mult3_dvd : ∀ (i : grid0.Coords) (k0_t1 : Fin k0_t1_loop.trips) (arg16 : BitVec 32) (v152 : BitVec 32) (k0_hw1 : k0_chk1 i k0_t1 arg16 v152) (k0_t3 : Fin (k0_t3_loop v152).trips), ∀ (k0_h1 : k0_cond1 i = 1#1), 32 ∣ (k0_mult3 k0_t1 v152 k0_t3).toNat := fun i k0_t1 arg16 v152 k0_hw1 k0_t3 k0_h1 => k0_hw1.1.2.2.2.2.2.2.2.2.2.1 k0_t3 k0_h1
theorem k0_mult4_dvd : ∀ (i : grid0.Coords) (k0_t1 : Fin k0_t1_loop.trips) (arg16 : BitVec 32) (v152 : BitVec 32) (k0_hw1 : k0_chk1 i k0_t1 arg16 v152) (k0_t3 : Fin (k0_t3_loop v152).trips), ∀ (k0_h1 : k0_cond1 i = 1#1), 32 ∣ (k0_mult4 arg16 v152 k0_t3).toNat := fun i k0_t1 arg16 v152 k0_hw1 k0_t3 k0_h1 => k0_hw1.1.2.2.2.2.2.2.2.2.2.2.1 k0_t3 k0_h1
theorem k0_off5_inb : ∀ (i : grid0.Coords) (k0_t1 : Fin k0_t1_loop.trips) (arg16 : BitVec 32) (v152 : BitVec 32) (k0_hw1 : k0_chk1 i k0_t1 arg16 v152) (k0_t3 : Fin (k0_t3_loop v152).trips), ∀ (k0_h1 : k0_cond1 i = 1#1), ∀ a, (k0_off5 arg16 v152 k0_t3) a + S32x1024.size a ≤ S22016x1024.size a := fun i k0_t1 arg16 v152 k0_hw1 k0_t3 k0_h1 => k0_hw1.1.2.2.2.2.2.2.2.2.2.2.2.1 k0_t3 k0_h1
theorem k0_off6_inb : ∀ (i : grid0.Coords) (k0_t1 : Fin k0_t1_loop.trips) (arg16 : BitVec 32) (v152 : BitVec 32) (k0_hw1 : k0_chk1 i k0_t1 arg16 v152) (k0_t3 : Fin (k0_t3_loop v152).trips), ∀ (k0_h1 : k0_cond1 i = 1#1), ∀ a, (k0_off6 k0_t1 v152 k0_t3) a + S32x1024.size a ≤ S21504x1024.size a := fun i k0_t1 arg16 v152 k0_hw1 k0_t3 k0_h1 => k0_hw1.1.2.2.2.2.2.2.2.2.2.2.2.2.1 k0_t3 k0_h1
theorem k0_off6_wordsfp8e4m3 : ∀ (i : grid0.Coords) (k0_t1 : Fin k0_t1_loop.trips) (arg16 : BitVec 32) (v152 : BitVec 32) (k0_hw1 : k0_chk1 i k0_t1 arg16 v152) (k0_t3 : Fin (k0_t3_loop v152).trips), ∀ (k0_h1 : k0_cond1 i = 1#1), (Rect.unit (s := S21504x1024) (k0_off6 k0_t1 v152 k0_t3) S32x1024.size (k0_off6_inb i k0_t1 arg16 v152 k0_hw1 k0_t3 k0_h1)).WholeWords (EltTy.packing .fp8e4m3) := fun i k0_t1 arg16 v152 k0_hw1 k0_t3 k0_h1 => k0_hw1.1.2.2.2.2.2.2.2.2.2.2.2.2.2.1 k0_t3 k0_h1 (k0_off6_inb i k0_t1 arg16 v152 k0_hw1 k0_t3 k0_h1)
theorem k0_off5_wordsfp8e4m3 : ∀ (i : grid0.Coords) (k0_t1 : Fin k0_t1_loop.trips) (arg16 : BitVec 32) (v152 : BitVec 32) (k0_hw1 : k0_chk1 i k0_t1 arg16 v152) (k0_t3 : Fin (k0_t3_loop v152).trips), ∀ (k0_h1 : k0_cond1 i = 1#1), (Rect.unit (s := S22016x1024) (k0_off5 arg16 v152 k0_t3) S32x1024.size (k0_off5_inb i k0_t1 arg16 v152 k0_hw1 k0_t3 k0_h1)).WholeWords (EltTy.packing .fp8e4m3) := fun i k0_t1 arg16 v152 k0_hw1 k0_t3 k0_h1 => k0_hw1.1.2.2.2.2.2.2.2.2.2.2.2.2.2.2.1 k0_t3 k0_h1 (k0_off5_inb i k0_t1 arg16 v152 k0_hw1 k0_t3 k0_h1)
theorem k0_off7_inb : ∀ (i : grid0.Coords) (k0_t1 : Fin k0_t1_loop.trips) (arg16 : BitVec 32) (v152 : BitVec 32) (k0_hw1 : k0_chk1 i k0_t1 arg16 v152) (k0_t3 : Fin (k0_t3_loop v152).trips), ∀ (k0_h1 : k0_cond1 i = 1#1), ∀ a, (k0_off7 arg16 v152 k0_t3) a + S1.size a ≤ S688.size a := fun i k0_t1 arg16 v152 k0_hw1 k0_t3 k0_h1 => k0_hw1.1.2.2.2.2.2.2.2.2.2.2.2.2.2.2.2.1 k0_t3 k0_h1
theorem k0_mult5_dvd : ∀ (i : grid0.Coords) (k0_t1 : Fin k0_t1_loop.trips) (arg16 : BitVec 32) (v152 : BitVec 32) (k0_hw1 : k0_chk1 i k0_t1 arg16 v152), ∀ (k0_h1 : k0_cond1 i = 1#1), ∀ (k0_h2 : k0_cond2 v152 = 1#1), ∀ (k0_h3 : k0_cond3 v152 = 1#1), 32 ∣ (k0_mult5 arg16).toNat := fun i k0_t1 arg16 v152 k0_hw1 k0_h1 k0_h2 k0_h3 => k0_hw1.1.2.2.2.2.2.2.2.2.2.2.2.2.2.2.2.2.1 k0_h1 k0_h2 k0_h3
theorem k0_off9_inb : ∀ (i : grid0.Coords) (k0_t1 : Fin k0_t1_loop.trips) (arg16 : BitVec 32) (v152 : BitVec 32) (k0_hw1 : k0_chk1 i k0_t1 arg16 v152), ∀ (k0_h1 : k0_cond1 i = 1#1), ∀ (k0_h2 : k0_cond2 v152 = 1#1), ∀ (k0_h3 : k0_cond3 v152 = 1#1), ∀ a, (k0_off9 arg16) a + S32x128.size a ≤ S22016x128.size a := fun i k0_t1 arg16 v152 k0_hw1 k0_h1 k0_h2 k0_h3 => k0_hw1.1.2.2.2.2.2.2.2.2.2.2.2.2.2.2.2.2.2.1 k0_h1 k0_h2 k0_h3
theorem k0_mult6_dvd : ∀ (i : grid0.Coords) (k0_t1 : Fin k0_t1_loop.trips) (arg16 : BitVec 32) (v152 : BitVec 32) (k0_hw1 : k0_chk1 i k0_t1 arg16 v152), ∀ (k0_h1 : k0_cond1 i = 1#1), ∀ (k0_h2 : k0_cond2 v152 = 1#1), ∀ (k0_h4 : k0_cond4 v152 = 1#1), 32 ∣ (k0_mult6 arg16).toNat := fun i k0_t1 arg16 v152 k0_hw1 k0_h1 k0_h2 k0_h4 => k0_hw1.1.2.2.2.2.2.2.2.2.2.2.2.2.2.2.2.2.2.2.1 k0_h1 k0_h2 k0_h4
theorem k0_off10_inb : ∀ (i : grid0.Coords) (k0_t1 : Fin k0_t1_loop.trips) (arg16 : BitVec 32) (v152 : BitVec 32) (k0_hw1 : k0_chk1 i k0_t1 arg16 v152), ∀ (k0_h1 : k0_cond1 i = 1#1), ∀ (k0_h2 : k0_cond2 v152 = 1#1), ∀ (k0_h4 : k0_cond4 v152 = 1#1), ∀ a, (k0_off10 arg16) a + S32x128.size a ≤ S22016x128.size a := fun i k0_t1 arg16 v152 k0_hw1 k0_h1 k0_h2 k0_h4 => k0_hw1.1.2.2.2.2.2.2.2.2.2.2.2.2.2.2.2.2.2.2.2.1 k0_h1 k0_h2 k0_h4
theorem k0_mult7_dvd : ∀ (i : grid0.Coords) (k0_t1 : Fin k0_t1_loop.trips) (arg16 : BitVec 32) (v152 : BitVec 32) (k0_hw1 : k0_chk1 i k0_t1 arg16 v152), ∀ (k0_h1 : k0_cond1 i = 1#1), ∀ (k0_h2 : k0_cond2 v152 = 1#1), ∀ (k0_h5 : k0_cond5 v152 = 1#1), 32 ∣ (k0_mult7 arg16).toNat := fun i k0_t1 arg16 v152 k0_hw1 k0_h1 k0_h2 k0_h5 => k0_hw1.1.2.2.2.2.2.2.2.2.2.2.2.2.2.2.2.2.2.2.2.2.1 k0_h1 k0_h2 k0_h5
theorem k0_off11_inb : ∀ (i : grid0.Coords) (k0_t1 : Fin k0_t1_loop.trips) (arg16 : BitVec 32) (v152 : BitVec 32) (k0_hw1 : k0_chk1 i k0_t1 arg16 v152), ∀ (k0_h1 : k0_cond1 i = 1#1), ∀ (k0_h2 : k0_cond2 v152 = 1#1), ∀ (k0_h5 : k0_cond5 v152 = 1#1), ∀ a, (k0_off11 arg16) a + S32x128.size a ≤ S22016x128.size a := fun i k0_t1 arg16 v152 k0_hw1 k0_h1 k0_h2 k0_h5 => k0_hw1.1.2.2.2.2.2.2.2.2.2.2.2.2.2.2.2.2.2.2.2.2.2.1 k0_h1 k0_h2 k0_h5
theorem k0_mult8_dvd : ∀ (i : grid0.Coords) (k0_t1 : Fin k0_t1_loop.trips) (arg16 : BitVec 32) (v152 : BitVec 32) (k0_hw1 : k0_chk1 i k0_t1 arg16 v152), ∀ (k0_h1 : k0_cond1 i = 1#1), ∀ (k0_h2 : k0_cond2 v152 = 1#1), ∀ (k0_h6 : k0_cond6 v152 = 1#1), 32 ∣ (k0_mult8 arg16).toNat := fun i k0_t1 arg16 v152 k0_hw1 k0_h1 k0_h2 k0_h6 => k0_hw1.1.2.2.2.2.2.2.2.2.2.2.2.2.2.2.2.2.2.2.2.2.2.2.1 k0_h1 k0_h2 k0_h6
theorem k0_off12_inb : ∀ (i : grid0.Coords) (k0_t1 : Fin k0_t1_loop.trips) (arg16 : BitVec 32) (v152 : BitVec 32) (k0_hw1 : k0_chk1 i k0_t1 arg16 v152), ∀ (k0_h1 : k0_cond1 i = 1#1), ∀ (k0_h2 : k0_cond2 v152 = 1#1), ∀ (k0_h6 : k0_cond6 v152 = 1#1), ∀ a, (k0_off12 arg16) a + S32x128.size a ≤ S22016x128.size a := fun i k0_t1 arg16 v152 k0_hw1 k0_h1 k0_h2 k0_h6 => k0_hw1.1.2.2.2.2.2.2.2.2.2.2.2.2.2.2.2.2.2.2.2.2.2.2.2.1 k0_h1 k0_h2 k0_h6
theorem k0_mult9_dvd : ∀ (i : grid0.Coords) (k0_t1 : Fin k0_t1_loop.trips) (arg16 : BitVec 32) (v152 : BitVec 32) (k0_hw1 : k0_chk1 i k0_t1 arg16 v152), ∀ (k0_h1 : k0_cond1 i = 1#1), ∀ (k0_h7 : k0_cond7 v152 = 1#1), ∀ (k0_h8 : k0_cond8 v152 = 1#1), 32 ∣ (k0_mult9 arg16).toNat := fun i k0_t1 arg16 v152 k0_hw1 k0_h1 k0_h7 k0_h8 => k0_hw1.1.2.2.2.2.2.2.2.2.2.2.2.2.2.2.2.2.2.2.2.2.2.2.2.2.1 k0_h1 k0_h7 k0_h8
theorem k0_off14_inb : ∀ (i : grid0.Coords) (k0_t1 : Fin k0_t1_loop.trips) (arg16 : BitVec 32) (v152 : BitVec 32) (k0_hw1 : k0_chk1 i k0_t1 arg16 v152), ∀ (k0_h1 : k0_cond1 i = 1#1), ∀ (k0_h7 : k0_cond7 v152 = 1#1), ∀ (k0_h8 : k0_cond8 v152 = 1#1), ∀ a, (k0_off14 arg16) a + S32x128.size a ≤ S22016x128.size a := fun i k0_t1 arg16 v152 k0_hw1 k0_h1 k0_h7 k0_h8 => k0_hw1.1.2.2.2.2.2.2.2.2.2.2.2.2.2.2.2.2.2.2.2.2.2.2.2.2.2.1 k0_h1 k0_h7 k0_h8
theorem k0_mult10_dvd : ∀ (i : grid0.Coords) (k0_t1 : Fin k0_t1_loop.trips) (arg16 : BitVec 32) (v152 : BitVec 32) (k0_hw1 : k0_chk1 i k0_t1 arg16 v152), ∀ (k0_h1 : k0_cond1 i = 1#1), ∀ (k0_h7 : k0_cond7 v152 = 1#1), ∀ (k0_h9 : k0_cond9 v152 = 1#1), 32 ∣ (k0_mult10 arg16).toNat := fun i k0_t1 arg16 v152 k0_hw1 k0_h1 k0_h7 k0_h9 => k0_hw1.1.2.2.2.2.2.2.2.2.2.2.2.2.2.2.2.2.2.2.2.2.2.2.2.2.2.2.1 k0_h1 k0_h7 k0_h9
theorem k0_off15_inb : ∀ (i : grid0.Coords) (k0_t1 : Fin k0_t1_loop.trips) (arg16 : BitVec 32) (v152 : BitVec 32) (k0_hw1 : k0_chk1 i k0_t1 arg16 v152), ∀ (k0_h1 : k0_cond1 i = 1#1), ∀ (k0_h7 : k0_cond7 v152 = 1#1), ∀ (k0_h9 : k0_cond9 v152 = 1#1), ∀ a, (k0_off15 arg16) a + S32x128.size a ≤ S22016x128.size a := fun i k0_t1 arg16 v152 k0_hw1 k0_h1 k0_h7 k0_h9 => k0_hw1.1.2.2.2.2.2.2.2.2.2.2.2.2.2.2.2.2.2.2.2.2.2.2.2.2.2.2.2.1 k0_h1 k0_h7 k0_h9
theorem k0_mult11_dvd : ∀ (i : grid0.Coords) (k0_t1 : Fin k0_t1_loop.trips) (arg16 : BitVec 32) (v152 : BitVec 32) (k0_hw1 : k0_chk1 i k0_t1 arg16 v152), ∀ (k0_h1 : k0_cond1 i = 1#1), ∀ (k0_h7 : k0_cond7 v152 = 1#1), ∀ (k0_h10 : k0_cond10 v152 = 1#1), 32 ∣ (k0_mult11 arg16).toNat := fun i k0_t1 arg16 v152 k0_hw1 k0_h1 k0_h7 k0_h10 => k0_hw1.1.2.2.2.2.2.2.2.2.2.2.2.2.2.2.2.2.2.2.2.2.2.2.2.2.2.2.2.2.1 k0_h1 k0_h7 k0_h10
theorem k0_off16_inb : ∀ (i : grid0.Coords) (k0_t1 : Fin k0_t1_loop.trips) (arg16 : BitVec 32) (v152 : BitVec 32) (k0_hw1 : k0_chk1 i k0_t1 arg16 v152), ∀ (k0_h1 : k0_cond1 i = 1#1), ∀ (k0_h7 : k0_cond7 v152 = 1#1), ∀ (k0_h10 : k0_cond10 v152 = 1#1), ∀ a, (k0_off16 arg16) a + S32x128.size a ≤ S22016x128.size a := fun i k0_t1 arg16 v152 k0_hw1 k0_h1 k0_h7 k0_h10 => k0_hw1.1.2.2.2.2.2.2.2.2.2.2.2.2.2.2.2.2.2.2.2.2.2.2.2.2.2.2.2.2.2.1 k0_h1 k0_h7 k0_h10
theorem k0_mult12_dvd : ∀ (i : grid0.Coords) (k0_t1 : Fin k0_t1_loop.trips) (arg16 : BitVec 32) (v152 : BitVec 32) (k0_hw1 : k0_chk1 i k0_t1 arg16 v152), ∀ (k0_h1 : k0_cond1 i = 1#1), ∀ (k0_h7 : k0_cond7 v152 = 1#1), ∀ (k0_h11 : k0_cond11 v152 = 1#1), 32 ∣ (k0_mult12 arg16).toNat := fun i k0_t1 arg16 v152 k0_hw1 k0_h1 k0_h7 k0_h11 => k0_hw1.1.2.2.2.2.2.2.2.2.2.2.2.2.2.2.2.2.2.2.2.2.2.2.2.2.2.2.2.2.2.2.1 k0_h1 k0_h7 k0_h11
theorem k0_off17_inb : ∀ (i : grid0.Coords) (k0_t1 : Fin k0_t1_loop.trips) (arg16 : BitVec 32) (v152 : BitVec 32) (k0_hw1 : k0_chk1 i k0_t1 arg16 v152), ∀ (k0_h1 : k0_cond1 i = 1#1), ∀ (k0_h7 : k0_cond7 v152 = 1#1), ∀ (k0_h11 : k0_cond11 v152 = 1#1), ∀ a, (k0_off17 arg16) a + S32x128.size a ≤ S22016x128.size a := fun i k0_t1 arg16 v152 k0_hw1 k0_h1 k0_h7 k0_h11 => k0_hw1.1.2.2.2.2.2.2.2.2.2.2.2.2.2.2.2.2.2.2.2.2.2.2.2.2.2.2.2.2.2.2.2 k0_h1 k0_h7 k0_h11
theorem k0_mult13_dvd : ∀ (i : grid0.Coords) (k0_t1 : Fin k0_t1_loop.trips) (arg16 : BitVec 32) (v152 : BitVec 32) (k0_hw1 : k0_chk1 i k0_t1 arg16 v152), ∀ (k0_h1 : k0_cond1 i = 1#1), ∀ (k0_h12 : k0_cond12 v152 = 1#1), ∀ (k0_h13 : k0_cond13 v152 = 1#1), 32 ∣ (k0_mult13 arg16).toNat := fun i k0_t1 arg16 v152 k0_hw1 k0_h1 k0_h12 k0_h13 => k0_hw1.2.1.1 k0_h1 k0_h12 k0_h13
theorem k0_off19_inb : ∀ (i : grid0.Coords) (k0_t1 : Fin k0_t1_loop.trips) (arg16 : BitVec 32) (v152 : BitVec 32) (k0_hw1 : k0_chk1 i k0_t1 arg16 v152), ∀ (k0_h1 : k0_cond1 i = 1#1), ∀ (k0_h12 : k0_cond12 v152 = 1#1), ∀ (k0_h13 : k0_cond13 v152 = 1#1), ∀ a, (k0_off19 arg16) a + S32x128.size a ≤ S22016x128.size a := fun i k0_t1 arg16 v152 k0_hw1 k0_h1 k0_h12 k0_h13 => k0_hw1.2.1.2.1 k0_h1 k0_h12 k0_h13
theorem k0_mult14_dvd : ∀ (i : grid0.Coords) (k0_t1 : Fin k0_t1_loop.trips) (arg16 : BitVec 32) (v152 : BitVec 32) (k0_hw1 : k0_chk1 i k0_t1 arg16 v152), ∀ (k0_h1 : k0_cond1 i = 1#1), ∀ (k0_h12 : k0_cond12 v152 = 1#1), ∀ (k0_h14 : k0_cond14 v152 = 1#1), 32 ∣ (k0_mult14 arg16).toNat := fun i k0_t1 arg16 v152 k0_hw1 k0_h1 k0_h12 k0_h14 => k0_hw1.2.1.2.2.1 k0_h1 k0_h12 k0_h14
theorem k0_off20_inb : ∀ (i : grid0.Coords) (k0_t1 : Fin k0_t1_loop.trips) (arg16 : BitVec 32) (v152 : BitVec 32) (k0_hw1 : k0_chk1 i k0_t1 arg16 v152), ∀ (k0_h1 : k0_cond1 i = 1#1), ∀ (k0_h12 : k0_cond12 v152 = 1#1), ∀ (k0_h14 : k0_cond14 v152 = 1#1), ∀ a, (k0_off20 arg16) a + S32x128.size a ≤ S22016x128.size a := fun i k0_t1 arg16 v152 k0_hw1 k0_h1 k0_h12 k0_h14 => k0_hw1.2.1.2.2.2.1 k0_h1 k0_h12 k0_h14
theorem k0_mult15_dvd : ∀ (i : grid0.Coords) (k0_t1 : Fin k0_t1_loop.trips) (arg16 : BitVec 32) (v152 : BitVec 32) (k0_hw1 : k0_chk1 i k0_t1 arg16 v152), ∀ (k0_h1 : k0_cond1 i = 1#1), ∀ (k0_h12 : k0_cond12 v152 = 1#1), ∀ (k0_h15 : k0_cond15 v152 = 1#1), 32 ∣ (k0_mult15 arg16).toNat := fun i k0_t1 arg16 v152 k0_hw1 k0_h1 k0_h12 k0_h15 => k0_hw1.2.1.2.2.2.2.1 k0_h1 k0_h12 k0_h15
theorem k0_off21_inb : ∀ (i : grid0.Coords) (k0_t1 : Fin k0_t1_loop.trips) (arg16 : BitVec 32) (v152 : BitVec 32) (k0_hw1 : k0_chk1 i k0_t1 arg16 v152), ∀ (k0_h1 : k0_cond1 i = 1#1), ∀ (k0_h12 : k0_cond12 v152 = 1#1), ∀ (k0_h15 : k0_cond15 v152 = 1#1), ∀ a, (k0_off21 arg16) a + S32x128.size a ≤ S22016x128.size a := fun i k0_t1 arg16 v152 k0_hw1 k0_h1 k0_h12 k0_h15 => k0_hw1.2.1.2.2.2.2.2.1 k0_h1 k0_h12 k0_h15
theorem k0_mult16_dvd : ∀ (i : grid0.Coords) (k0_t1 : Fin k0_t1_loop.trips) (arg16 : BitVec 32) (v152 : BitVec 32) (k0_hw1 : k0_chk1 i k0_t1 arg16 v152), ∀ (k0_h1 : k0_cond1 i = 1#1), ∀ (k0_h12 : k0_cond12 v152 = 1#1), ∀ (k0_h16 : k0_cond16 v152 = 1#1), 32 ∣ (k0_mult16 arg16).toNat := fun i k0_t1 arg16 v152 k0_hw1 k0_h1 k0_h12 k0_h16 => k0_hw1.2.1.2.2.2.2.2.2.1 k0_h1 k0_h12 k0_h16
theorem k0_off22_inb : ∀ (i : grid0.Coords) (k0_t1 : Fin k0_t1_loop.trips) (arg16 : BitVec 32) (v152 : BitVec 32) (k0_hw1 : k0_chk1 i k0_t1 arg16 v152), ∀ (k0_h1 : k0_cond1 i = 1#1), ∀ (k0_h12 : k0_cond12 v152 = 1#1), ∀ (k0_h16 : k0_cond16 v152 = 1#1), ∀ a, (k0_off22 arg16) a + S32x128.size a ≤ S22016x128.size a := fun i k0_t1 arg16 v152 k0_hw1 k0_h1 k0_h12 k0_h16 => k0_hw1.2.1.2.2.2.2.2.2.2.1 k0_h1 k0_h12 k0_h16
theorem k0_mult17_dvd : ∀ (i : grid0.Coords) (k0_t1 : Fin k0_t1_loop.trips) (arg16 : BitVec 32) (v152 : BitVec 32) (k0_hw1 : k0_chk1 i k0_t1 arg16 v152), ∀ (k0_h1 : k0_cond1 i = 1#1), ∀ (k0_h17 : k0_cond17 v152 = 1#1), ∀ (k0_h18 : k0_cond18 v152 = 1#1), 32 ∣ (k0_mult17 arg16).toNat := fun i k0_t1 arg16 v152 k0_hw1 k0_h1 k0_h17 k0_h18 => k0_hw1.2.1.2.2.2.2.2.2.2.2.1 k0_h1 k0_h17 k0_h18
theorem k0_off24_inb : ∀ (i : grid0.Coords) (k0_t1 : Fin k0_t1_loop.trips) (arg16 : BitVec 32) (v152 : BitVec 32) (k0_hw1 : k0_chk1 i k0_t1 arg16 v152), ∀ (k0_h1 : k0_cond1 i = 1#1), ∀ (k0_h17 : k0_cond17 v152 = 1#1), ∀ (k0_h18 : k0_cond18 v152 = 1#1), ∀ a, (k0_off24 arg16) a + S32x128.size a ≤ S22016x128.size a := fun i k0_t1 arg16 v152 k0_hw1 k0_h1 k0_h17 k0_h18 => k0_hw1.2.1.2.2.2.2.2.2.2.2.2.1 k0_h1 k0_h17 k0_h18
theorem k0_mult18_dvd : ∀ (i : grid0.Coords) (k0_t1 : Fin k0_t1_loop.trips) (arg16 : BitVec 32) (v152 : BitVec 32) (k0_hw1 : k0_chk1 i k0_t1 arg16 v152), ∀ (k0_h1 : k0_cond1 i = 1#1), ∀ (k0_h17 : k0_cond17 v152 = 1#1), ∀ (k0_h19 : k0_cond19 v152 = 1#1), 32 ∣ (k0_mult18 arg16).toNat := fun i k0_t1 arg16 v152 k0_hw1 k0_h1 k0_h17 k0_h19 => k0_hw1.2.1.2.2.2.2.2.2.2.2.2.2.1 k0_h1 k0_h17 k0_h19
theorem k0_off25_inb : ∀ (i : grid0.Coords) (k0_t1 : Fin k0_t1_loop.trips) (arg16 : BitVec 32) (v152 : BitVec 32) (k0_hw1 : k0_chk1 i k0_t1 arg16 v152), ∀ (k0_h1 : k0_cond1 i = 1#1), ∀ (k0_h17 : k0_cond17 v152 = 1#1), ∀ (k0_h19 : k0_cond19 v152 = 1#1), ∀ a, (k0_off25 arg16) a + S32x128.size a ≤ S22016x128.size a := fun i k0_t1 arg16 v152 k0_hw1 k0_h1 k0_h17 k0_h19 => k0_hw1.2.1.2.2.2.2.2.2.2.2.2.2.2.1 k0_h1 k0_h17 k0_h19
theorem k0_mult19_dvd : ∀ (i : grid0.Coords) (k0_t1 : Fin k0_t1_loop.trips) (arg16 : BitVec 32) (v152 : BitVec 32) (k0_hw1 : k0_chk1 i k0_t1 arg16 v152), ∀ (k0_h1 : k0_cond1 i = 1#1), ∀ (k0_h17 : k0_cond17 v152 = 1#1), ∀ (k0_h20 : k0_cond20 v152 = 1#1), 32 ∣ (k0_mult19 arg16).toNat := fun i k0_t1 arg16 v152 k0_hw1 k0_h1 k0_h17 k0_h20 => k0_hw1.2.1.2.2.2.2.2.2.2.2.2.2.2.2.1 k0_h1 k0_h17 k0_h20
theorem k0_off26_inb : ∀ (i : grid0.Coords) (k0_t1 : Fin k0_t1_loop.trips) (arg16 : BitVec 32) (v152 : BitVec 32) (k0_hw1 : k0_chk1 i k0_t1 arg16 v152), ∀ (k0_h1 : k0_cond1 i = 1#1), ∀ (k0_h17 : k0_cond17 v152 = 1#1), ∀ (k0_h20 : k0_cond20 v152 = 1#1), ∀ a, (k0_off26 arg16) a + S32x128.size a ≤ S22016x128.size a := fun i k0_t1 arg16 v152 k0_hw1 k0_h1 k0_h17 k0_h20 => k0_hw1.2.1.2.2.2.2.2.2.2.2.2.2.2.2.2.1 k0_h1 k0_h17 k0_h20
theorem k0_mult20_dvd : ∀ (i : grid0.Coords) (k0_t1 : Fin k0_t1_loop.trips) (arg16 : BitVec 32) (v152 : BitVec 32) (k0_hw1 : k0_chk1 i k0_t1 arg16 v152), ∀ (k0_h1 : k0_cond1 i = 1#1), ∀ (k0_h17 : k0_cond17 v152 = 1#1), ∀ (k0_h21 : k0_cond21 v152 = 1#1), 32 ∣ (k0_mult20 arg16).toNat := fun i k0_t1 arg16 v152 k0_hw1 k0_h1 k0_h17 k0_h21 => k0_hw1.2.1.2.2.2.2.2.2.2.2.2.2.2.2.2.2.1 k0_h1 k0_h17 k0_h21
theorem k0_off27_inb : ∀ (i : grid0.Coords) (k0_t1 : Fin k0_t1_loop.trips) (arg16 : BitVec 32) (v152 : BitVec 32) (k0_hw1 : k0_chk1 i k0_t1 arg16 v152), ∀ (k0_h1 : k0_cond1 i = 1#1), ∀ (k0_h17 : k0_cond17 v152 = 1#1), ∀ (k0_h21 : k0_cond21 v152 = 1#1), ∀ a, (k0_off27 arg16) a + S32x128.size a ≤ S22016x128.size a := fun i k0_t1 arg16 v152 k0_hw1 k0_h1 k0_h17 k0_h21 => k0_hw1.2.1.2.2.2.2.2.2.2.2.2.2.2.2.2.2.2.1 k0_h1 k0_h17 k0_h21
theorem k0_mult21_dvd : ∀ (i : grid0.Coords) (k0_t1 : Fin k0_t1_loop.trips) (arg16 : BitVec 32) (v152 : BitVec 32) (k0_hw1 : k0_chk1 i k0_t1 arg16 v152), ∀ (k0_h1 : k0_cond1 i = 1#1), ∀ (k0_h22 : k0_cond22 v152 = 1#1), ∀ (k0_h23 : k0_cond23 v152 = 1#1), 32 ∣ (k0_mult21 arg16).toNat := fun i k0_t1 arg16 v152 k0_hw1 k0_h1 k0_h22 k0_h23 => k0_hw1.2.1.2.2.2.2.2.2.2.2.2.2.2.2.2.2.2.2.1 k0_h1 k0_h22 k0_h23
theorem k0_off29_inb : ∀ (i : grid0.Coords) (k0_t1 : Fin k0_t1_loop.trips) (arg16 : BitVec 32) (v152 : BitVec 32) (k0_hw1 : k0_chk1 i k0_t1 arg16 v152), ∀ (k0_h1 : k0_cond1 i = 1#1), ∀ (k0_h22 : k0_cond22 v152 = 1#1), ∀ (k0_h23 : k0_cond23 v152 = 1#1), ∀ a, (k0_off29 arg16) a + S32x128.size a ≤ S22016x128.size a := fun i k0_t1 arg16 v152 k0_hw1 k0_h1 k0_h22 k0_h23 => k0_hw1.2.1.2.2.2.2.2.2.2.2.2.2.2.2.2.2.2.2.2.1 k0_h1 k0_h22 k0_h23
theorem k0_mult22_dvd : ∀ (i : grid0.Coords) (k0_t1 : Fin k0_t1_loop.trips) (arg16 : BitVec 32) (v152 : BitVec 32) (k0_hw1 : k0_chk1 i k0_t1 arg16 v152), ∀ (k0_h1 : k0_cond1 i = 1#1), ∀ (k0_h22 : k0_cond22 v152 = 1#1), ∀ (k0_h24 : k0_cond24 v152 = 1#1), 32 ∣ (k0_mult22 arg16).toNat := fun i k0_t1 arg16 v152 k0_hw1 k0_h1 k0_h22 k0_h24 => k0_hw1.2.1.2.2.2.2.2.2.2.2.2.2.2.2.2.2.2.2.2.2.1 k0_h1 k0_h22 k0_h24
theorem k0_off30_inb : ∀ (i : grid0.Coords) (k0_t1 : Fin k0_t1_loop.trips) (arg16 : BitVec 32) (v152 : BitVec 32) (k0_hw1 : k0_chk1 i k0_t1 arg16 v152), ∀ (k0_h1 : k0_cond1 i = 1#1), ∀ (k0_h22 : k0_cond22 v152 = 1#1), ∀ (k0_h24 : k0_cond24 v152 = 1#1), ∀ a, (k0_off30 arg16) a + S32x128.size a ≤ S22016x128.size a := fun i k0_t1 arg16 v152 k0_hw1 k0_h1 k0_h22 k0_h24 => k0_hw1.2.1.2.2.2.2.2.2.2.2.2.2.2.2.2.2.2.2.2.2.2.1 k0_h1 k0_h22 k0_h24
theorem k0_mult23_dvd : ∀ (i : grid0.Coords) (k0_t1 : Fin k0_t1_loop.trips) (arg16 : BitVec 32) (v152 : BitVec 32) (k0_hw1 : k0_chk1 i k0_t1 arg16 v152), ∀ (k0_h1 : k0_cond1 i = 1#1), ∀ (k0_h22 : k0_cond22 v152 = 1#1), ∀ (k0_h25 : k0_cond25 v152 = 1#1), 32 ∣ (k0_mult23 arg16).toNat := fun i k0_t1 arg16 v152 k0_hw1 k0_h1 k0_h22 k0_h25 => k0_hw1.2.1.2.2.2.2.2.2.2.2.2.2.2.2.2.2.2.2.2.2.2.2.1 k0_h1 k0_h22 k0_h25
theorem k0_off31_inb : ∀ (i : grid0.Coords) (k0_t1 : Fin k0_t1_loop.trips) (arg16 : BitVec 32) (v152 : BitVec 32) (k0_hw1 : k0_chk1 i k0_t1 arg16 v152), ∀ (k0_h1 : k0_cond1 i = 1#1), ∀ (k0_h22 : k0_cond22 v152 = 1#1), ∀ (k0_h25 : k0_cond25 v152 = 1#1), ∀ a, (k0_off31 arg16) a + S32x128.size a ≤ S22016x128.size a := fun i k0_t1 arg16 v152 k0_hw1 k0_h1 k0_h22 k0_h25 => k0_hw1.2.1.2.2.2.2.2.2.2.2.2.2.2.2.2.2.2.2.2.2.2.2.2.1 k0_h1 k0_h22 k0_h25
theorem k0_mult24_dvd : ∀ (i : grid0.Coords) (k0_t1 : Fin k0_t1_loop.trips) (arg16 : BitVec 32) (v152 : BitVec 32) (k0_hw1 : k0_chk1 i k0_t1 arg16 v152), ∀ (k0_h1 : k0_cond1 i = 1#1), ∀ (k0_h22 : k0_cond22 v152 = 1#1), ∀ (k0_h26 : k0_cond26 v152 = 1#1), 32 ∣ (k0_mult24 arg16).toNat := fun i k0_t1 arg16 v152 k0_hw1 k0_h1 k0_h22 k0_h26 => k0_hw1.2.1.2.2.2.2.2.2.2.2.2.2.2.2.2.2.2.2.2.2.2.2.2.2.1 k0_h1 k0_h22 k0_h26
theorem k0_off32_inb : ∀ (i : grid0.Coords) (k0_t1 : Fin k0_t1_loop.trips) (arg16 : BitVec 32) (v152 : BitVec 32) (k0_hw1 : k0_chk1 i k0_t1 arg16 v152), ∀ (k0_h1 : k0_cond1 i = 1#1), ∀ (k0_h22 : k0_cond22 v152 = 1#1), ∀ (k0_h26 : k0_cond26 v152 = 1#1), ∀ a, (k0_off32 arg16) a + S32x128.size a ≤ S22016x128.size a := fun i k0_t1 arg16 v152 k0_hw1 k0_h1 k0_h22 k0_h26 => k0_hw1.2.1.2.2.2.2.2.2.2.2.2.2.2.2.2.2.2.2.2.2.2.2.2.2.2.1 k0_h1 k0_h22 k0_h26
theorem k0_mult25_dvd : ∀ (i : grid0.Coords) (k0_t1 : Fin k0_t1_loop.trips) (arg16 : BitVec 32) (v152 : BitVec 32) (k0_hw1 : k0_chk1 i k0_t1 arg16 v152), ∀ (k0_h1 : k0_cond1 i = 1#1), ∀ (k0_h27 : k0_cond27 v152 = 1#1), ∀ (k0_h28 : k0_cond28 v152 = 1#1), 32 ∣ (k0_mult25 arg16).toNat := fun i k0_t1 arg16 v152 k0_hw1 k0_h1 k0_h27 k0_h28 => k0_hw1.2.1.2.2.2.2.2.2.2.2.2.2.2.2.2.2.2.2.2.2.2.2.2.2.2.2.1 k0_h1 k0_h27 k0_h28
theorem k0_off34_inb : ∀ (i : grid0.Coords) (k0_t1 : Fin k0_t1_loop.trips) (arg16 : BitVec 32) (v152 : BitVec 32) (k0_hw1 : k0_chk1 i k0_t1 arg16 v152), ∀ (k0_h1 : k0_cond1 i = 1#1), ∀ (k0_h27 : k0_cond27 v152 = 1#1), ∀ (k0_h28 : k0_cond28 v152 = 1#1), ∀ a, (k0_off34 arg16) a + S32x128.size a ≤ S22016x128.size a := fun i k0_t1 arg16 v152 k0_hw1 k0_h1 k0_h27 k0_h28 => k0_hw1.2.1.2.2.2.2.2.2.2.2.2.2.2.2.2.2.2.2.2.2.2.2.2.2.2.2.2.1 k0_h1 k0_h27 k0_h28
theorem k0_mult26_dvd : ∀ (i : grid0.Coords) (k0_t1 : Fin k0_t1_loop.trips) (arg16 : BitVec 32) (v152 : BitVec 32) (k0_hw1 : k0_chk1 i k0_t1 arg16 v152), ∀ (k0_h1 : k0_cond1 i = 1#1), ∀ (k0_h27 : k0_cond27 v152 = 1#1), ∀ (k0_h29 : k0_cond29 v152 = 1#1), 32 ∣ (k0_mult26 arg16).toNat := fun i k0_t1 arg16 v152 k0_hw1 k0_h1 k0_h27 k0_h29 => k0_hw1.2.1.2.2.2.2.2.2.2.2.2.2.2.2.2.2.2.2.2.2.2.2.2.2.2.2.2.2.1 k0_h1 k0_h27 k0_h29
theorem k0_off35_inb : ∀ (i : grid0.Coords) (k0_t1 : Fin k0_t1_loop.trips) (arg16 : BitVec 32) (v152 : BitVec 32) (k0_hw1 : k0_chk1 i k0_t1 arg16 v152), ∀ (k0_h1 : k0_cond1 i = 1#1), ∀ (k0_h27 : k0_cond27 v152 = 1#1), ∀ (k0_h29 : k0_cond29 v152 = 1#1), ∀ a, (k0_off35 arg16) a + S32x128.size a ≤ S22016x128.size a := fun i k0_t1 arg16 v152 k0_hw1 k0_h1 k0_h27 k0_h29 => k0_hw1.2.1.2.2.2.2.2.2.2.2.2.2.2.2.2.2.2.2.2.2.2.2.2.2.2.2.2.2.2.1 k0_h1 k0_h27 k0_h29
theorem k0_mult27_dvd : ∀ (i : grid0.Coords) (k0_t1 : Fin k0_t1_loop.trips) (arg16 : BitVec 32) (v152 : BitVec 32) (k0_hw1 : k0_chk1 i k0_t1 arg16 v152), ∀ (k0_h1 : k0_cond1 i = 1#1), ∀ (k0_h27 : k0_cond27 v152 = 1#1), ∀ (k0_h30 : k0_cond30 v152 = 1#1), 32 ∣ (k0_mult27 arg16).toNat := fun i k0_t1 arg16 v152 k0_hw1 k0_h1 k0_h27 k0_h30 => k0_hw1.2.1.2.2.2.2.2.2.2.2.2.2.2.2.2.2.2.2.2.2.2.2.2.2.2.2.2.2.2.2.1 k0_h1 k0_h27 k0_h30
theorem k0_off36_inb : ∀ (i : grid0.Coords) (k0_t1 : Fin k0_t1_loop.trips) (arg16 : BitVec 32) (v152 : BitVec 32) (k0_hw1 : k0_chk1 i k0_t1 arg16 v152), ∀ (k0_h1 : k0_cond1 i = 1#1), ∀ (k0_h27 : k0_cond27 v152 = 1#1), ∀ (k0_h30 : k0_cond30 v152 = 1#1), ∀ a, (k0_off36 arg16) a + S32x128.size a ≤ S22016x128.size a := fun i k0_t1 arg16 v152 k0_hw1 k0_h1 k0_h27 k0_h30 => k0_hw1.2.1.2.2.2.2.2.2.2.2.2.2.2.2.2.2.2.2.2.2.2.2.2.2.2.2.2.2.2.2.2.1 k0_h1 k0_h27 k0_h30
theorem k0_mult28_dvd : ∀ (i : grid0.Coords) (k0_t1 : Fin k0_t1_loop.trips) (arg16 : BitVec 32) (v152 : BitVec 32) (k0_hw1 : k0_chk1 i k0_t1 arg16 v152), ∀ (k0_h1 : k0_cond1 i = 1#1), ∀ (k0_h27 : k0_cond27 v152 = 1#1), ∀ (k0_h31 : k0_cond31 v152 = 1#1), 32 ∣ (k0_mult28 arg16).toNat := fun i k0_t1 arg16 v152 k0_hw1 k0_h1 k0_h27 k0_h31 => k0_hw1.2.1.2.2.2.2.2.2.2.2.2.2.2.2.2.2.2.2.2.2.2.2.2.2.2.2.2.2.2.2.2.2.1 k0_h1 k0_h27 k0_h31
theorem k0_off37_inb : ∀ (i : grid0.Coords) (k0_t1 : Fin k0_t1_loop.trips) (arg16 : BitVec 32) (v152 : BitVec 32) (k0_hw1 : k0_chk1 i k0_t1 arg16 v152), ∀ (k0_h1 : k0_cond1 i = 1#1), ∀ (k0_h27 : k0_cond27 v152 = 1#1), ∀ (k0_h31 : k0_cond31 v152 = 1#1), ∀ a, (k0_off37 arg16) a + S32x128.size a ≤ S22016x128.size a := fun i k0_t1 arg16 v152 k0_hw1 k0_h1 k0_h27 k0_h31 => k0_hw1.2.1.2.2.2.2.2.2.2.2.2.2.2.2.2.2.2.2.2.2.2.2.2.2.2.2.2.2.2.2.2.2.2 k0_h1 k0_h27 k0_h31
theorem k0_mult29_dvd : ∀ (i : grid0.Coords) (k0_t1 : Fin k0_t1_loop.trips) (arg16 : BitVec 32) (v152 : BitVec 32) (k0_hw1 : k0_chk1 i k0_t1 arg16 v152), ∀ (k0_h1 : k0_cond1 i = 1#1), ∀ (k0_h32 : k0_cond32 v152 = 1#1), ∀ (k0_h33 : k0_cond33 v152 = 1#1), 32 ∣ (k0_mult29 arg16).toNat := fun i k0_t1 arg16 v152 k0_hw1 k0_h1 k0_h32 k0_h33 => k0_hw1.2.2.1 k0_h1 k0_h32 k0_h33
theorem k0_off39_inb : ∀ (i : grid0.Coords) (k0_t1 : Fin k0_t1_loop.trips) (arg16 : BitVec 32) (v152 : BitVec 32) (k0_hw1 : k0_chk1 i k0_t1 arg16 v152), ∀ (k0_h1 : k0_cond1 i = 1#1), ∀ (k0_h32 : k0_cond32 v152 = 1#1), ∀ (k0_h33 : k0_cond33 v152 = 1#1), ∀ a, (k0_off39 arg16) a + S32x128.size a ≤ S22016x128.size a := fun i k0_t1 arg16 v152 k0_hw1 k0_h1 k0_h32 k0_h33 => k0_hw1.2.2.2.1 k0_h1 k0_h32 k0_h33
theorem k0_mult30_dvd : ∀ (i : grid0.Coords) (k0_t1 : Fin k0_t1_loop.trips) (arg16 : BitVec 32) (v152 : BitVec 32) (k0_hw1 : k0_chk1 i k0_t1 arg16 v152), ∀ (k0_h1 : k0_cond1 i = 1#1), ∀ (k0_h32 : k0_cond32 v152 = 1#1), ∀ (k0_h34 : k0_cond34 v152 = 1#1), 32 ∣ (k0_mult30 arg16).toNat := fun i k0_t1 arg16 v152 k0_hw1 k0_h1 k0_h32 k0_h34 => k0_hw1.2.2.2.2.1 k0_h1 k0_h32 k0_h34
theorem k0_off40_inb : ∀ (i : grid0.Coords) (k0_t1 : Fin k0_t1_loop.trips) (arg16 : BitVec 32) (v152 : BitVec 32) (k0_hw1 : k0_chk1 i k0_t1 arg16 v152), ∀ (k0_h1 : k0_cond1 i = 1#1), ∀ (k0_h32 : k0_cond32 v152 = 1#1), ∀ (k0_h34 : k0_cond34 v152 = 1#1), ∀ a, (k0_off40 arg16) a + S32x128.size a ≤ S22016x128.size a := fun i k0_t1 arg16 v152 k0_hw1 k0_h1 k0_h32 k0_h34 => k0_hw1.2.2.2.2.2.1 k0_h1 k0_h32 k0_h34
theorem k0_mult31_dvd : ∀ (i : grid0.Coords) (k0_t1 : Fin k0_t1_loop.trips) (arg16 : BitVec 32) (v152 : BitVec 32) (k0_hw1 : k0_chk1 i k0_t1 arg16 v152), ∀ (k0_h1 : k0_cond1 i = 1#1), ∀ (k0_h32 : k0_cond32 v152 = 1#1), ∀ (k0_h35 : k0_cond35 v152 = 1#1), 32 ∣ (k0_mult31 arg16).toNat := fun i k0_t1 arg16 v152 k0_hw1 k0_h1 k0_h32 k0_h35 => k0_hw1.2.2.2.2.2.2.1 k0_h1 k0_h32 k0_h35
theorem k0_off41_inb : ∀ (i : grid0.Coords) (k0_t1 : Fin k0_t1_loop.trips) (arg16 : BitVec 32) (v152 : BitVec 32) (k0_hw1 : k0_chk1 i k0_t1 arg16 v152), ∀ (k0_h1 : k0_cond1 i = 1#1), ∀ (k0_h32 : k0_cond32 v152 = 1#1), ∀ (k0_h35 : k0_cond35 v152 = 1#1), ∀ a, (k0_off41 arg16) a + S32x128.size a ≤ S22016x128.size a := fun i k0_t1 arg16 v152 k0_hw1 k0_h1 k0_h32 k0_h35 => k0_hw1.2.2.2.2.2.2.2.1 k0_h1 k0_h32 k0_h35
theorem k0_mult32_dvd : ∀ (i : grid0.Coords) (k0_t1 : Fin k0_t1_loop.trips) (arg16 : BitVec 32) (v152 : BitVec 32) (k0_hw1 : k0_chk1 i k0_t1 arg16 v152), ∀ (k0_h1 : k0_cond1 i = 1#1), ∀ (k0_h32 : k0_cond32 v152 = 1#1), ∀ (k0_h36 : k0_cond36 v152 = 1#1), 32 ∣ (k0_mult32 arg16).toNat := fun i k0_t1 arg16 v152 k0_hw1 k0_h1 k0_h32 k0_h36 => k0_hw1.2.2.2.2.2.2.2.2.1 k0_h1 k0_h32 k0_h36
theorem k0_off42_inb : ∀ (i : grid0.Coords) (k0_t1 : Fin k0_t1_loop.trips) (arg16 : BitVec 32) (v152 : BitVec 32) (k0_hw1 : k0_chk1 i k0_t1 arg16 v152), ∀ (k0_h1 : k0_cond1 i = 1#1), ∀ (k0_h32 : k0_cond32 v152 = 1#1), ∀ (k0_h36 : k0_cond36 v152 = 1#1), ∀ a, (k0_off42 arg16) a + S32x128.size a ≤ S22016x128.size a := fun i k0_t1 arg16 v152 k0_hw1 k0_h1 k0_h32 k0_h36 => k0_hw1.2.2.2.2.2.2.2.2.2 k0_h1 k0_h32 k0_h36

@[reducible] def k0_t4_loop (v136 : BitVec 32) : Scf.Loop 32 :=
  let c15_i32 : BitVec 32 := 15#32
  let v137 : BitVec 32 := Scalar.addi v136 c15_i32
  let c16_i32 : BitVec 32 := 16#32
  let v138 : BitVec 32 := Scalar.divsi v137 c16_i32
  let c16_i32_136 : BitVec 32 := 16#32
  let v140 : BitVec 32 := Scalar.muli v138 c16_i32_136
  let v141 : BitVec 32 := Scalar.subi v140 v136
  let c1_i32_138 : BitVec 32 := 1#32
  let v143 : BitVec 32 := Scalar.divsi v141 c1_i32_138
  let v144 : BitVec 32 := Scalar.muli v143 c1_i32_138
  let v145 : BitVec 32 := Scalar.addi v136 v144
  let c1_i32_139 : BitVec 32 := 1#32
  ⟨v136, v145, c1_i32_139⟩

def k0_off43 (v136 : BitVec 32) (k0_t4 : Fin (k0_t4_loop v136).trips) : Fin 1 → Nat :=
  let c1_i32_139 : BitVec 32 := 1#32
  let arg15 : BitVec 32 := Scf.iv v136 c1_i32_139 k0_t4
  let v151 : Index := Scalar.indexCast arg15
  ![v151.toNat]
def k0_mult33 (v136 : BitVec 32) (k0_t4 : Fin (k0_t4_loop v136).trips) : BitVec 32 :=
  let c1_i32_139 : BitVec 32 := 1#32
  let arg15 : BitVec 32 := Scf.iv v136 c1_i32_139 k0_t4
  let c32_i32 : BitVec 32 := 32#32
  let v156 : BitVec 32 := Scalar.muli arg15 c32_i32
  v156
def k0_off44 (v136 : BitVec 32) (k0_t4 : Fin (k0_t4_loop v136).trips) : Fin 2 → Nat :=
  let c1_i32_139 : BitVec 32 := 1#32
  let arg15 : BitVec 32 := Scf.iv v136 c1_i32_139 k0_t4
  let c32_i32 : BitVec 32 := 32#32
  let v156 : BitVec 32 := Scalar.muli arg15 c32_i32
  let v157 : BitVec 32 := v156
  let v158 : Index := Scalar.indexCast v157
  let c0_149 : Index := 0#32
  ![v158.toNat, 0]
def k0_mult34 (v136 : BitVec 32) (k0_t4 : Fin (k0_t4_loop v136).trips) : BitVec 32 :=
  let c1_i32_139 : BitVec 32 := 1#32
  let arg15 : BitVec 32 := Scf.iv v136 c1_i32_139 k0_t4
  let c32_i32_151 : BitVec 32 := 32#32
  let v163 : BitVec 32 := Scalar.muli arg15 c32_i32_151
  v163
def k0_off45 (v136 : BitVec 32) (k0_t4 : Fin (k0_t4_loop v136).trips) : Fin 2 → Nat :=
  let c1_i32_139 : BitVec 32 := 1#32
  let arg15 : BitVec 32 := Scf.iv v136 c1_i32_139 k0_t4
  let c32_i32_151 : BitVec 32 := 32#32
  let v163 : BitVec 32 := Scalar.muli arg15 c32_i32_151
  let v164 : BitVec 32 := v163
  let v165 : Index := Scalar.indexCast v164
  let c0_152 : Index := 0#32
  ![v165.toNat, 0]
@[reducible] def k0_t5_loop (v136 : BitVec 32) : Scf.Loop 32 :=
  let c15_i32 : BitVec 32 := 15#32
  let v137 : BitVec 32 := Scalar.addi v136 c15_i32
  let c16_i32 : BitVec 32 := 16#32
  let v138 : BitVec 32 := Scalar.divsi v137 c16_i32
  let c16_i32_136 : BitVec 32 := 16#32
  let v140 : BitVec 32 := Scalar.muli v138 c16_i32_136
  let v141 : BitVec 32 := Scalar.subi v140 v136
  let c1_i32_138 : BitVec 32 := 1#32
  let v143 : BitVec 32 := Scalar.divsi v141 c1_i32_138
  let v144 : BitVec 32 := Scalar.muli v143 c1_i32_138
  let v145 : BitVec 32 := Scalar.addi v136 v144
  let v142 : BitVec 32 := Scalar.addi v136 v141
  let c1_i32_140 : BitVec 32 := 1#32
  ⟨v145, v142, c1_i32_140⟩
def k0_off46 (v136 : BitVec 32) (k0_t5 : Fin (k0_t5_loop v136).trips) : Fin 1 → Nat :=
  let c15_i32 : BitVec 32 := 15#32
  let v137 : BitVec 32 := Scalar.addi v136 c15_i32
  let c16_i32 : BitVec 32 := 16#32
  let v138 : BitVec 32 := Scalar.divsi v137 c16_i32
  let c16_i32_136 : BitVec 32 := 16#32
  let v140 : BitVec 32 := Scalar.muli v138 c16_i32_136
  let v141 : BitVec 32 := Scalar.subi v140 v136
  let c1_i32_138 : BitVec 32 := 1#32
  let v143 : BitVec 32 := Scalar.divsi v141 c1_i32_138
  let v144 : BitVec 32 := Scalar.muli v143 c1_i32_138
  let v145 : BitVec 32 := Scalar.addi v136 v144
  let c1_i32_140 : BitVec 32 := 1#32
  let arg15 : BitVec 32 := Scf.iv v145 c1_i32_140 k0_t5
  let v151 : Index := Scalar.indexCast arg15
  ![v151.toNat]
def k0_mult35 (v136 : BitVec 32) (k0_t5 : Fin (k0_t5_loop v136).trips) : BitVec 32 :=
  let c15_i32 : BitVec 32 := 15#32
  let v137 : BitVec 32 := Scalar.addi v136 c15_i32
  let c16_i32 : BitVec 32 := 16#32
  let v138 : BitVec 32 := Scalar.divsi v137 c16_i32
  let c16_i32_136 : BitVec 32 := 16#32
  let v140 : BitVec 32 := Scalar.muli v138 c16_i32_136
  let v141 : BitVec 32 := Scalar.subi v140 v136
  let c1_i32_138 : BitVec 32 := 1#32
  let v143 : BitVec 32 := Scalar.divsi v141 c1_i32_138
  let v144 : BitVec 32 := Scalar.muli v143 c1_i32_138
  let v145 : BitVec 32 := Scalar.addi v136 v144
  let c1_i32_140 : BitVec 32 := 1#32
  let arg15 : BitVec 32 := Scf.iv v145 c1_i32_140 k0_t5
  let c32_i32 : BitVec 32 := 32#32
  let v156 : BitVec 32 := Scalar.muli arg15 c32_i32
  v156
def k0_off47 (v136 : BitVec 32) (k0_t5 : Fin (k0_t5_loop v136).trips) : Fin 2 → Nat :=
  let c15_i32 : BitVec 32 := 15#32
  let v137 : BitVec 32 := Scalar.addi v136 c15_i32
  let c16_i32 : BitVec 32 := 16#32
  let v138 : BitVec 32 := Scalar.divsi v137 c16_i32
  let c16_i32_136 : BitVec 32 := 16#32
  let v140 : BitVec 32 := Scalar.muli v138 c16_i32_136
  let v141 : BitVec 32 := Scalar.subi v140 v136
  let c1_i32_138 : BitVec 32 := 1#32
  let v143 : BitVec 32 := Scalar.divsi v141 c1_i32_138
  let v144 : BitVec 32 := Scalar.muli v143 c1_i32_138
  let v145 : BitVec 32 := Scalar.addi v136 v144
  let c1_i32_140 : BitVec 32 := 1#32
  let arg15 : BitVec 32 := Scf.iv v145 c1_i32_140 k0_t5
  let c32_i32 : BitVec 32 := 32#32
  let v156 : BitVec 32 := Scalar.muli arg15 c32_i32
  let v157 : BitVec 32 := v156
  let v158 : Index := Scalar.indexCast v157
  let c0_149 : Index := 0#32
  ![v158.toNat, 0]
def k0_mult36 (v136 : BitVec 32) (k0_t5 : Fin (k0_t5_loop v136).trips) : BitVec 32 :=
  let c15_i32 : BitVec 32 := 15#32
  let v137 : BitVec 32 := Scalar.addi v136 c15_i32
  let c16_i32 : BitVec 32 := 16#32
  let v138 : BitVec 32 := Scalar.divsi v137 c16_i32
  let c16_i32_136 : BitVec 32 := 16#32
  let v140 : BitVec 32 := Scalar.muli v138 c16_i32_136
  let v141 : BitVec 32 := Scalar.subi v140 v136
  let c1_i32_138 : BitVec 32 := 1#32
  let v143 : BitVec 32 := Scalar.divsi v141 c1_i32_138
  let v144 : BitVec 32 := Scalar.muli v143 c1_i32_138
  let v145 : BitVec 32 := Scalar.addi v136 v144
  let c1_i32_140 : BitVec 32 := 1#32
  let arg15 : BitVec 32 := Scf.iv v145 c1_i32_140 k0_t5
  let c32_i32_151 : BitVec 32 := 32#32
  let v163 : BitVec 32 := Scalar.muli arg15 c32_i32_151
  v163
def k0_off48 (v136 : BitVec 32) (k0_t5 : Fin (k0_t5_loop v136).trips) : Fin 2 → Nat :=
  let c15_i32 : BitVec 32 := 15#32
  let v137 : BitVec 32 := Scalar.addi v136 c15_i32
  let c16_i32 : BitVec 32 := 16#32
  let v138 : BitVec 32 := Scalar.divsi v137 c16_i32
  let c16_i32_136 : BitVec 32 := 16#32
  let v140 : BitVec 32 := Scalar.muli v138 c16_i32_136
  let v141 : BitVec 32 := Scalar.subi v140 v136
  let c1_i32_138 : BitVec 32 := 1#32
  let v143 : BitVec 32 := Scalar.divsi v141 c1_i32_138
  let v144 : BitVec 32 := Scalar.muli v143 c1_i32_138
  let v145 : BitVec 32 := Scalar.addi v136 v144
  let c1_i32_140 : BitVec 32 := 1#32
  let arg15 : BitVec 32 := Scf.iv v145 c1_i32_140 k0_t5
  let c32_i32_151 : BitVec 32 := 32#32
  let v163 : BitVec 32 := Scalar.muli arg15 c32_i32_151
  let v164 : BitVec 32 := v163
  let v165 : Index := Scalar.indexCast v164
  let c0_152 : Index := 0#32
  ![v165.toNat, 0]
@[reducible] def k0_t6_loop (v136 : BitVec 32) : Scf.Loop 32 :=
  let c0_i32_142 : BitVec 32 := 0#32
  let v146 : BitVec 32 := Scalar.subi v136 c0_i32_142
  let c1_i32_143 : BitVec 32 := 1#32
  let v148 : BitVec 32 := Scalar.divsi v146 c1_i32_143
  let v149 : BitVec 32 := Scalar.muli v148 c1_i32_143
  let v150 : BitVec 32 := Scalar.addi c0_i32_142 v149
  let c1_i32_144 : BitVec 32 := 1#32
  ⟨c0_i32_142, v150, c1_i32_144⟩
def k0_mult37 : BitVec 32 :=
  let c0_i32_146 : BitVec 32 := 0#32
  c0_i32_146
def k0_mult38 : BitVec 32 :=
  let c0_i32_147 : BitVec 32 := 0#32
  c0_i32_147
@[reducible] def k0_t7_loop (v136 : BitVec 32) : Scf.Loop 32 :=
  let c0_i32_142 : BitVec 32 := 0#32
  let v146 : BitVec 32 := Scalar.subi v136 c0_i32_142
  let c1_i32_143 : BitVec 32 := 1#32
  let v148 : BitVec 32 := Scalar.divsi v146 c1_i32_143
  let v149 : BitVec 32 := Scalar.muli v148 c1_i32_143
  let v150 : BitVec 32 := Scalar.addi c0_i32_142 v149
  let v147 : BitVec 32 := Scalar.addi c0_i32_142 v146
  let c1_i32_145 : BitVec 32 := 1#32
  ⟨v150, v147, c1_i32_145⟩

def k0_chk2 (i : grid0.Coords) (v136 : BitVec 32) : Prop :=
  (∀ (k0_h1 : k0_cond1 i = 1#1), (k0_t4_loop v136).OK) ∧
  (∀ k0_t4 : Fin (k0_t4_loop v136).trips, ∀ (k0_h1 : k0_cond1 i = 1#1), ∀ a, (k0_off43 v136 k0_t4) a + S1.size a ≤ S688.size a) ∧
  (∀ k0_t4 : Fin (k0_t4_loop v136).trips, ∀ (k0_h1 : k0_cond1 i = 1#1), 32 ∣ (k0_mult33 v136 k0_t4).toNat) ∧
  (∀ k0_t4 : Fin (k0_t4_loop v136).trips, ∀ (k0_h1 : k0_cond1 i = 1#1), ∀ a, (k0_off44 v136 k0_t4) a + S32x1024.size a ≤ S22016x1024.size a) ∧
  (∀ k0_t4 : Fin (k0_t4_loop v136).trips, ∀ (k0_h1 : k0_cond1 i = 1#1), ∀ (hinb : ∀ a, (k0_off44 v136 k0_t4) a + S32x1024.size a ≤ S22016x1024.size a), (Rect.unit (s := S22016x1024) (k0_off44 v136 k0_t4) S32x1024.size hinb).PackedRows (EltTy.packing .fp8e4m3)) ∧
  (∀ k0_t4 : Fin (k0_t4_loop v136).trips, ∀ (k0_h1 : k0_cond1 i = 1#1), 32 ∣ (k0_mult34 v136 k0_t4).toNat) ∧
  (∀ k0_t4 : Fin (k0_t4_loop v136).trips, ∀ (k0_h1 : k0_cond1 i = 1#1), ∀ a, (k0_off45 v136 k0_t4) a + S32x128.size a ≤ S22016x128.size a) ∧
  (∀ (k0_h1 : k0_cond1 i = 1#1), (k0_t5_loop v136).OK) ∧
  (∀ k0_t5 : Fin (k0_t5_loop v136).trips, ∀ (k0_h1 : k0_cond1 i = 1#1), ∀ a, (k0_off46 v136 k0_t5) a + S1.size a ≤ S688.size a) ∧
  (∀ k0_t5 : Fin (k0_t5_loop v136).trips, ∀ (k0_h1 : k0_cond1 i = 1#1), 32 ∣ (k0_mult35 v136 k0_t5).toNat) ∧
  (∀ k0_t5 : Fin (k0_t5_loop v136).trips, ∀ (k0_h1 : k0_cond1 i = 1#1), ∀ a, (k0_off47 v136 k0_t5) a + S32x1024.size a ≤ S22016x1024.size a) ∧
  (∀ k0_t5 : Fin (k0_t5_loop v136).trips, ∀ (k0_h1 : k0_cond1 i = 1#1), ∀ (hinb : ∀ a, (k0_off47 v136 k0_t5) a + S32x1024.size a ≤ S22016x1024.size a), (Rect.unit (s := S22016x1024) (k0_off47 v136 k0_t5) S32x1024.size hinb).PackedRows (EltTy.packing .fp8e4m3)) ∧
  (∀ k0_t5 : Fin (k0_t5_loop v136).trips, ∀ (k0_h1 : k0_cond1 i = 1#1), 32 ∣ (k0_mult36 v136 k0_t5).toNat) ∧
  (∀ k0_t5 : Fin (k0_t5_loop v136).trips, ∀ (k0_h1 : k0_cond1 i = 1#1), ∀ a, (k0_off48 v136 k0_t5) a + S32x128.size a ≤ S22016x128.size a) ∧
  (∀ (k0_h1 : k0_cond1 i = 1#1), (k0_t6_loop v136).OK) ∧
  (∀ (k0_h1 : k0_cond1 i = 1#1), (k0_t7_loop v136).OK)
theorem k0_t4_ok : ∀ (i : grid0.Coords) (v136 : BitVec 32) (k0_hw2 : k0_chk2 i v136), ∀ (k0_h1 : k0_cond1 i = 1#1), (k0_t4_loop v136).OK := fun i v136 k0_hw2 k0_h1 => k0_hw2.1 k0_h1
theorem k0_off43_inb : ∀ (i : grid0.Coords) (v136 : BitVec 32) (k0_hw2 : k0_chk2 i v136) (k0_t4 : Fin (k0_t4_loop v136).trips), ∀ (k0_h1 : k0_cond1 i = 1#1), ∀ a, (k0_off43 v136 k0_t4) a + S1.size a ≤ S688.size a := fun i v136 k0_hw2 k0_t4 k0_h1 => k0_hw2.2.1 k0_t4 k0_h1
theorem k0_mult33_dvd : ∀ (i : grid0.Coords) (v136 : BitVec 32) (k0_hw2 : k0_chk2 i v136) (k0_t4 : Fin (k0_t4_loop v136).trips), ∀ (k0_h1 : k0_cond1 i = 1#1), 32 ∣ (k0_mult33 v136 k0_t4).toNat := fun i v136 k0_hw2 k0_t4 k0_h1 => k0_hw2.2.2.1 k0_t4 k0_h1
theorem k0_off44_inb : ∀ (i : grid0.Coords) (v136 : BitVec 32) (k0_hw2 : k0_chk2 i v136) (k0_t4 : Fin (k0_t4_loop v136).trips), ∀ (k0_h1 : k0_cond1 i = 1#1), ∀ a, (k0_off44 v136 k0_t4) a + S32x1024.size a ≤ S22016x1024.size a := fun i v136 k0_hw2 k0_t4 k0_h1 => k0_hw2.2.2.2.1 k0_t4 k0_h1
theorem k0_off44_packedfp8e4m3 : ∀ (i : grid0.Coords) (v136 : BitVec 32) (k0_hw2 : k0_chk2 i v136) (k0_t4 : Fin (k0_t4_loop v136).trips), ∀ (k0_h1 : k0_cond1 i = 1#1), (Rect.unit (s := S22016x1024) (k0_off44 v136 k0_t4) S32x1024.size (k0_off44_inb i v136 k0_hw2 k0_t4 k0_h1)).PackedRows (EltTy.packing .fp8e4m3) := fun i v136 k0_hw2 k0_t4 k0_h1 => k0_hw2.2.2.2.2.1 k0_t4 k0_h1 (k0_off44_inb i v136 k0_hw2 k0_t4 k0_h1)
theorem k0_mult34_dvd : ∀ (i : grid0.Coords) (v136 : BitVec 32) (k0_hw2 : k0_chk2 i v136) (k0_t4 : Fin (k0_t4_loop v136).trips), ∀ (k0_h1 : k0_cond1 i = 1#1), 32 ∣ (k0_mult34 v136 k0_t4).toNat := fun i v136 k0_hw2 k0_t4 k0_h1 => k0_hw2.2.2.2.2.2.1 k0_t4 k0_h1
theorem k0_off45_inb : ∀ (i : grid0.Coords) (v136 : BitVec 32) (k0_hw2 : k0_chk2 i v136) (k0_t4 : Fin (k0_t4_loop v136).trips), ∀ (k0_h1 : k0_cond1 i = 1#1), ∀ a, (k0_off45 v136 k0_t4) a + S32x128.size a ≤ S22016x128.size a := fun i v136 k0_hw2 k0_t4 k0_h1 => k0_hw2.2.2.2.2.2.2.1 k0_t4 k0_h1
theorem k0_t5_ok : ∀ (i : grid0.Coords) (v136 : BitVec 32) (k0_hw2 : k0_chk2 i v136), ∀ (k0_h1 : k0_cond1 i = 1#1), (k0_t5_loop v136).OK := fun i v136 k0_hw2 k0_h1 => k0_hw2.2.2.2.2.2.2.2.1 k0_h1
theorem k0_off46_inb : ∀ (i : grid0.Coords) (v136 : BitVec 32) (k0_hw2 : k0_chk2 i v136) (k0_t5 : Fin (k0_t5_loop v136).trips), ∀ (k0_h1 : k0_cond1 i = 1#1), ∀ a, (k0_off46 v136 k0_t5) a + S1.size a ≤ S688.size a := fun i v136 k0_hw2 k0_t5 k0_h1 => k0_hw2.2.2.2.2.2.2.2.2.1 k0_t5 k0_h1
theorem k0_mult35_dvd : ∀ (i : grid0.Coords) (v136 : BitVec 32) (k0_hw2 : k0_chk2 i v136) (k0_t5 : Fin (k0_t5_loop v136).trips), ∀ (k0_h1 : k0_cond1 i = 1#1), 32 ∣ (k0_mult35 v136 k0_t5).toNat := fun i v136 k0_hw2 k0_t5 k0_h1 => k0_hw2.2.2.2.2.2.2.2.2.2.1 k0_t5 k0_h1
theorem k0_off47_inb : ∀ (i : grid0.Coords) (v136 : BitVec 32) (k0_hw2 : k0_chk2 i v136) (k0_t5 : Fin (k0_t5_loop v136).trips), ∀ (k0_h1 : k0_cond1 i = 1#1), ∀ a, (k0_off47 v136 k0_t5) a + S32x1024.size a ≤ S22016x1024.size a := fun i v136 k0_hw2 k0_t5 k0_h1 => k0_hw2.2.2.2.2.2.2.2.2.2.2.1 k0_t5 k0_h1
theorem k0_off47_packedfp8e4m3 : ∀ (i : grid0.Coords) (v136 : BitVec 32) (k0_hw2 : k0_chk2 i v136) (k0_t5 : Fin (k0_t5_loop v136).trips), ∀ (k0_h1 : k0_cond1 i = 1#1), (Rect.unit (s := S22016x1024) (k0_off47 v136 k0_t5) S32x1024.size (k0_off47_inb i v136 k0_hw2 k0_t5 k0_h1)).PackedRows (EltTy.packing .fp8e4m3) := fun i v136 k0_hw2 k0_t5 k0_h1 => k0_hw2.2.2.2.2.2.2.2.2.2.2.2.1 k0_t5 k0_h1 (k0_off47_inb i v136 k0_hw2 k0_t5 k0_h1)
theorem k0_mult36_dvd : ∀ (i : grid0.Coords) (v136 : BitVec 32) (k0_hw2 : k0_chk2 i v136) (k0_t5 : Fin (k0_t5_loop v136).trips), ∀ (k0_h1 : k0_cond1 i = 1#1), 32 ∣ (k0_mult36 v136 k0_t5).toNat := fun i v136 k0_hw2 k0_t5 k0_h1 => k0_hw2.2.2.2.2.2.2.2.2.2.2.2.2.1 k0_t5 k0_h1
theorem k0_off48_inb : ∀ (i : grid0.Coords) (v136 : BitVec 32) (k0_hw2 : k0_chk2 i v136) (k0_t5 : Fin (k0_t5_loop v136).trips), ∀ (k0_h1 : k0_cond1 i = 1#1), ∀ a, (k0_off48 v136 k0_t5) a + S32x128.size a ≤ S22016x128.size a := fun i v136 k0_hw2 k0_t5 k0_h1 => k0_hw2.2.2.2.2.2.2.2.2.2.2.2.2.2.1 k0_t5 k0_h1
theorem k0_t6_ok : ∀ (i : grid0.Coords) (v136 : BitVec 32) (k0_hw2 : k0_chk2 i v136), ∀ (k0_h1 : k0_cond1 i = 1#1), (k0_t6_loop v136).OK := fun i v136 k0_hw2 k0_h1 => k0_hw2.2.2.2.2.2.2.2.2.2.2.2.2.2.2.1 k0_h1
theorem k0_t7_ok : ∀ (i : grid0.Coords) (v136 : BitVec 32) (k0_hw2 : k0_chk2 i v136), ∀ (k0_h1 : k0_cond1 i = 1#1), (k0_t7_loop v136).OK := fun i v136 k0_hw2 k0_h1 => k0_hw2.2.2.2.2.2.2.2.2.2.2.2.2.2.2.2 k0_h1

def k0_mult39 : BitVec 32 :=
  let c0_i32_146 : BitVec 32 := 0#32
  c0_i32_146
def k0_mult40 : BitVec 32 :=
  let c0_i32_147 : BitVec 32 := 0#32
  c0_i32_147
@[reducible] def k0_t8_loop (v9 : BitVec 32) : Scf.Loop 32 :=
  let c0_i32_7 : BitVec 32 := 0#32
  let v10 : BitVec 32 := Scalar.subi v9 c0_i32_7
  let c1_i32 : BitVec 32 := 1#32
  let v12 : BitVec 32 := Scalar.divsi v10 c1_i32
  let v13 : BitVec 32 := Scalar.muli v12 c1_i32
  let v14 : BitVec 32 := Scalar.addi c0_i32_7 v13
  let c1_i32_8 : BitVec 32 := 1#32
  ⟨c0_i32_7, v14, c1_i32_8⟩

def k0_mult41 (v9 : BitVec 32) (k0_t8 : Fin (k0_t8_loop v9).trips) : BitVec 32 :=
  let c0_i32_7 : BitVec 32 := 0#32
  let c1_i32_8 : BitVec 32 := 1#32
  let arg15 : BitVec 32 := Scf.iv c0_i32_7 c1_i32_8 k0_t8
  let c512_i32 : BitVec 32 := 512#32
  let v135 : BitVec 32 := Scalar.muli arg15 c512_i32
  v135
def k0_off49 (v9 : BitVec 32) (k0_t8 : Fin (k0_t8_loop v9).trips) : Fin 2 → Nat :=
  let c0_i32_7 : BitVec 32 := 0#32
  let c1_i32_8 : BitVec 32 := 1#32
  let arg15 : BitVec 32 := Scf.iv c0_i32_7 c1_i32_8 k0_t8
  let c512_i32 : BitVec 32 := 512#32
  let v135 : BitVec 32 := Scalar.muli arg15 c512_i32
  let v136 : BitVec 32 := v135
  let v137 : Index := Scalar.indexCast v136
  let c0_131 : Index := 0#32
  ![v137.toNat, 0]
def k0_off50 (v9 : BitVec 32) (k0_t8 : Fin (k0_t8_loop v9).trips) : Fin 2 → Nat :=
  let c0_i32_7 : BitVec 32 := 0#32
  let c1_i32_8 : BitVec 32 := 1#32
  let arg15 : BitVec 32 := Scf.iv c0_i32_7 c1_i32_8 k0_t8
  let c512_i32 : BitVec 32 := 512#32
  let v135 : BitVec 32 := Scalar.muli arg15 c512_i32
  let v136 : BitVec 32 := v135
  let c0_i32_133 : BitVec 32 := 0#32
  let v140 : BitVec 32 := Scalar.addi v136 c0_i32_133
  let v141 : Index := Scalar.indexCast v140
  let c0_134 : Index := 0#32
  ![v141.toNat, 0]
def k0_off51 (v9 : BitVec 32) (k0_t8 : Fin (k0_t8_loop v9).trips) : Fin 1 → Nat :=
  let c0_i32_7 : BitVec 32 := 0#32
  let c1_i32_8 : BitVec 32 := 1#32
  let arg15 : BitVec 32 := Scf.iv c0_i32_7 c1_i32_8 k0_t8
  let c16_i32 : BitVec 32 := 16#32
  let v154 : BitVec 32 := Scalar.muli arg15 c16_i32
  let c0_i32_139 : BitVec 32 := 0#32
  let v155 : BitVec 32 := Scalar.addi v154 c0_i32_139
  let v156 : Index := Scalar.indexCast v155
  ![v156.toNat]
def k0_off52 (v173 : BitVec 32) : Fin 3 → Nat :=
  let v174 : Index := Scalar.indexCast v173
  let c0_142 : Index := 0#32
  let c0_143 : Index := 0#32
  ![v174.toNat, 0, 0]

def k0_chk4 (v173 : BitVec 32) : Prop :=
  (∀ a, (k0_off52 v173) a + S1x8x512.size a ≤ S24x8x512.size a)
theorem k0_off52_inb : ∀ (v173 : BitVec 32) (k0_hw4 : k0_chk4 v173), ∀ a, (k0_off52 v173) a + S1x8x512.size a ≤ S24x8x512.size a := fun v173 k0_hw4 => k0_hw4

def k0_off53 (v9 : BitVec 32) (k0_t8 : Fin (k0_t8_loop v9).trips) : Fin 2 → Nat :=
  let c0_i32_7 : BitVec 32 := 0#32
  let c1_i32_8 : BitVec 32 := 1#32
  let arg15 : BitVec 32 := Scf.iv c0_i32_7 c1_i32_8 k0_t8
  let c512_i32 : BitVec 32 := 512#32
  let v135 : BitVec 32 := Scalar.muli arg15 c512_i32
  let v136 : BitVec 32 := v135
  let c32_i32 : BitVec 32 := 32#32
  let v182 : BitVec 32 := Scalar.addi v136 c32_i32
  let v183 : Index := Scalar.indexCast v182
  let c0_146 : Index := 0#32
  ![v183.toNat, 0]
def k0_off54 (v9 : BitVec 32) (k0_t8 : Fin (k0_t8_loop v9).trips) : Fin 1 → Nat :=
  let c0_i32_7 : BitVec 32 := 0#32
  let c1_i32_8 : BitVec 32 := 1#32
  let arg15 : BitVec 32 := Scf.iv c0_i32_7 c1_i32_8 k0_t8
  let c16_i32_151 : BitVec 32 := 16#32
  let v196 : BitVec 32 := Scalar.muli arg15 c16_i32_151
  let c1_i32_152 : BitVec 32 := 1#32
  let v197 : BitVec 32 := Scalar.addi v196 c1_i32_152
  let v198 : Index := Scalar.indexCast v197
  ![v198.toNat]
def k0_off55 (v215 : BitVec 32) : Fin 3 → Nat :=
  let v216 : Index := Scalar.indexCast v215
  let c0_155 : Index := 0#32
  let c0_156 : Index := 0#32
  ![v216.toNat, 0, 0]

def k0_chk5 (v215 : BitVec 32) : Prop :=
  (∀ a, (k0_off55 v215) a + S1x8x512.size a ≤ S24x8x512.size a)
theorem k0_off55_inb : ∀ (v215 : BitVec 32) (k0_hw5 : k0_chk5 v215), ∀ a, (k0_off55 v215) a + S1x8x512.size a ≤ S24x8x512.size a := fun v215 k0_hw5 => k0_hw5

def k0_off56 (v9 : BitVec 32) (k0_t8 : Fin (k0_t8_loop v9).trips) : Fin 2 → Nat :=
  let c0_i32_7 : BitVec 32 := 0#32
  let c1_i32_8 : BitVec 32 := 1#32
  let arg15 : BitVec 32 := Scf.iv c0_i32_7 c1_i32_8 k0_t8
  let c512_i32 : BitVec 32 := 512#32
  let v135 : BitVec 32 := Scalar.muli arg15 c512_i32
  let v136 : BitVec 32 := v135
  let c64_i32 : BitVec 32 := 64#32
  let v224 : BitVec 32 := Scalar.addi v136 c64_i32
  let v225 : Index := Scalar.indexCast v224
  let c0_159 : Index := 0#32
  ![v225.toNat, 0]
def k0_off57 (v9 : BitVec 32) (k0_t8 : Fin (k0_t8_loop v9).trips) : Fin 1 → Nat :=
  let c0_i32_7 : BitVec 32 := 0#32
  let c1_i32_8 : BitVec 32 := 1#32
  let arg15 : BitVec 32 := Scf.iv c0_i32_7 c1_i32_8 k0_t8
  let c16_i32_164 : BitVec 32 := 16#32
  let v238 : BitVec 32 := Scalar.muli arg15 c16_i32_164
  let c2_i32 : BitVec 32 := 2#32
  let v239 : BitVec 32 := Scalar.addi v238 c2_i32
  let v240 : Index := Scalar.indexCast v239
  ![v240.toNat]
def k0_off58 (v257 : BitVec 32) : Fin 3 → Nat :=
  let v258 : Index := Scalar.indexCast v257
  let c0_167 : Index := 0#32
  let c0_168 : Index := 0#32
  ![v258.toNat, 0, 0]

def k0_chk6 (v257 : BitVec 32) : Prop :=
  (∀ a, (k0_off58 v257) a + S1x8x512.size a ≤ S24x8x512.size a)
theorem k0_off58_inb : ∀ (v257 : BitVec 32) (k0_hw6 : k0_chk6 v257), ∀ a, (k0_off58 v257) a + S1x8x512.size a ≤ S24x8x512.size a := fun v257 k0_hw6 => k0_hw6

def k0_off59 (v9 : BitVec 32) (k0_t8 : Fin (k0_t8_loop v9).trips) : Fin 2 → Nat :=
  let c0_i32_7 : BitVec 32 := 0#32
  let c1_i32_8 : BitVec 32 := 1#32
  let arg15 : BitVec 32 := Scf.iv c0_i32_7 c1_i32_8 k0_t8
  let c512_i32 : BitVec 32 := 512#32
  let v135 : BitVec 32 := Scalar.muli arg15 c512_i32
  let v136 : BitVec 32 := v135
  let c96_i32 : BitVec 32 := 96#32
  let v266 : BitVec 32 := Scalar.addi v136 c96_i32
  let v267 : Index := Scalar.indexCast v266
  let c0_171 : Index := 0#32
  ![v267.toNat, 0]
def k0_off60 (v9 : BitVec 32) (k0_t8 : Fin (k0_t8_loop v9).trips) : Fin 1 → Nat :=
  let c0_i32_7 : BitVec 32 := 0#32
  let c1_i32_8 : BitVec 32 := 1#32
  let arg15 : BitVec 32 := Scf.iv c0_i32_7 c1_i32_8 k0_t8
  let c16_i32_176 : BitVec 32 := 16#32
  let v280 : BitVec 32 := Scalar.muli arg15 c16_i32_176
  let c3_i32 : BitVec 32 := 3#32
  let v281 : BitVec 32 := Scalar.addi v280 c3_i32
  let v282 : Index := Scalar.indexCast v281
  ![v282.toNat]
def k0_off61 (v299 : BitVec 32) : Fin 3 → Nat :=
  let v300 : Index := Scalar.indexCast v299
  let c0_179 : Index := 0#32
  let c0_180 : Index := 0#32
  ![v300.toNat, 0, 0]

def k0_chk7 (v299 : BitVec 32) : Prop :=
  (∀ a, (k0_off61 v299) a + S1x8x512.size a ≤ S24x8x512.size a)
theorem k0_off61_inb : ∀ (v299 : BitVec 32) (k0_hw7 : k0_chk7 v299), ∀ a, (k0_off61 v299) a + S1x8x512.size a ≤ S24x8x512.size a := fun v299 k0_hw7 => k0_hw7

def k0_off62 (v9 : BitVec 32) (k0_t8 : Fin (k0_t8_loop v9).trips) : Fin 2 → Nat :=
  let c0_i32_7 : BitVec 32 := 0#32
  let c1_i32_8 : BitVec 32 := 1#32
  let arg15 : BitVec 32 := Scf.iv c0_i32_7 c1_i32_8 k0_t8
  let c512_i32 : BitVec 32 := 512#32
  let v135 : BitVec 32 := Scalar.muli arg15 c512_i32
  let v136 : BitVec 32 := v135
  let c128_i32 : BitVec 32 := 128#32
  let v308 : BitVec 32 := Scalar.addi v136 c128_i32
  let v309 : Index := Scalar.indexCast v308
  let c0_183 : Index := 0#32
  ![v309.toNat, 0]
def k0_off63 (v9 : BitVec 32) (k0_t8 : Fin (k0_t8_loop v9).trips) : Fin 1 → Nat :=
  let c0_i32_7 : BitVec 32 := 0#32
  let c1_i32_8 : BitVec 32 := 1#32
  let arg15 : BitVec 32 := Scf.iv c0_i32_7 c1_i32_8 k0_t8
  let c16_i32_188 : BitVec 32 := 16#32
  let v322 : BitVec 32 := Scalar.muli arg15 c16_i32_188
  let c4_i32 : BitVec 32 := 4#32
  let v323 : BitVec 32 := Scalar.addi v322 c4_i32
  let v324 : Index := Scalar.indexCast v323
  ![v324.toNat]
def k0_off64 (v341 : BitVec 32) : Fin 3 → Nat :=
  let v342 : Index := Scalar.indexCast v341
  let c0_191 : Index := 0#32
  let c0_192 : Index := 0#32
  ![v342.toNat, 0, 0]

def k0_chk8 (v341 : BitVec 32) : Prop :=
  (∀ a, (k0_off64 v341) a + S1x8x512.size a ≤ S24x8x512.size a)
theorem k0_off64_inb : ∀ (v341 : BitVec 32) (k0_hw8 : k0_chk8 v341), ∀ a, (k0_off64 v341) a + S1x8x512.size a ≤ S24x8x512.size a := fun v341 k0_hw8 => k0_hw8

def k0_off65 (v9 : BitVec 32) (k0_t8 : Fin (k0_t8_loop v9).trips) : Fin 2 → Nat :=
  let c0_i32_7 : BitVec 32 := 0#32
  let c1_i32_8 : BitVec 32 := 1#32
  let arg15 : BitVec 32 := Scf.iv c0_i32_7 c1_i32_8 k0_t8
  let c512_i32 : BitVec 32 := 512#32
  let v135 : BitVec 32 := Scalar.muli arg15 c512_i32
  let v136 : BitVec 32 := v135
  let c160_i32 : BitVec 32 := 160#32
  let v350 : BitVec 32 := Scalar.addi v136 c160_i32
  let v351 : Index := Scalar.indexCast v350
  let c0_195 : Index := 0#32
  ![v351.toNat, 0]
def k0_off66 (v9 : BitVec 32) (k0_t8 : Fin (k0_t8_loop v9).trips) : Fin 1 → Nat :=
  let c0_i32_7 : BitVec 32 := 0#32
  let c1_i32_8 : BitVec 32 := 1#32
  let arg15 : BitVec 32 := Scf.iv c0_i32_7 c1_i32_8 k0_t8
  let c16_i32_200 : BitVec 32 := 16#32
  let v364 : BitVec 32 := Scalar.muli arg15 c16_i32_200
  let c5_i32 : BitVec 32 := 5#32
  let v365 : BitVec 32 := Scalar.addi v364 c5_i32
  let v366 : Index := Scalar.indexCast v365
  ![v366.toNat]
def k0_off67 (v383 : BitVec 32) : Fin 3 → Nat :=
  let v384 : Index := Scalar.indexCast v383
  let c0_203 : Index := 0#32
  let c0_204 : Index := 0#32
  ![v384.toNat, 0, 0]

def k0_chk9 (v383 : BitVec 32) : Prop :=
  (∀ a, (k0_off67 v383) a + S1x8x512.size a ≤ S24x8x512.size a)
theorem k0_off67_inb : ∀ (v383 : BitVec 32) (k0_hw9 : k0_chk9 v383), ∀ a, (k0_off67 v383) a + S1x8x512.size a ≤ S24x8x512.size a := fun v383 k0_hw9 => k0_hw9

def k0_off68 (v9 : BitVec 32) (k0_t8 : Fin (k0_t8_loop v9).trips) : Fin 2 → Nat :=
  let c0_i32_7 : BitVec 32 := 0#32
  let c1_i32_8 : BitVec 32 := 1#32
  let arg15 : BitVec 32 := Scf.iv c0_i32_7 c1_i32_8 k0_t8
  let c512_i32 : BitVec 32 := 512#32
  let v135 : BitVec 32 := Scalar.muli arg15 c512_i32
  let v136 : BitVec 32 := v135
  let c192_i32 : BitVec 32 := 192#32
  let v392 : BitVec 32 := Scalar.addi v136 c192_i32
  let v393 : Index := Scalar.indexCast v392
  let c0_207 : Index := 0#32
  ![v393.toNat, 0]
def k0_off69 (v9 : BitVec 32) (k0_t8 : Fin (k0_t8_loop v9).trips) : Fin 1 → Nat :=
  let c0_i32_7 : BitVec 32 := 0#32
  let c1_i32_8 : BitVec 32 := 1#32
  let arg15 : BitVec 32 := Scf.iv c0_i32_7 c1_i32_8 k0_t8
  let c16_i32_212 : BitVec 32 := 16#32
  let v406 : BitVec 32 := Scalar.muli arg15 c16_i32_212
  let c6_i32 : BitVec 32 := 6#32
  let v407 : BitVec 32 := Scalar.addi v406 c6_i32
  let v408 : Index := Scalar.indexCast v407
  ![v408.toNat]
def k0_off70 (v425 : BitVec 32) : Fin 3 → Nat :=
  let v426 : Index := Scalar.indexCast v425
  let c0_215 : Index := 0#32
  let c0_216 : Index := 0#32
  ![v426.toNat, 0, 0]

def k0_chk10 (v425 : BitVec 32) : Prop :=
  (∀ a, (k0_off70 v425) a + S1x8x512.size a ≤ S24x8x512.size a)
theorem k0_off70_inb : ∀ (v425 : BitVec 32) (k0_hw10 : k0_chk10 v425), ∀ a, (k0_off70 v425) a + S1x8x512.size a ≤ S24x8x512.size a := fun v425 k0_hw10 => k0_hw10

def k0_off71 (v9 : BitVec 32) (k0_t8 : Fin (k0_t8_loop v9).trips) : Fin 2 → Nat :=
  let c0_i32_7 : BitVec 32 := 0#32
  let c1_i32_8 : BitVec 32 := 1#32
  let arg15 : BitVec 32 := Scf.iv c0_i32_7 c1_i32_8 k0_t8
  let c512_i32 : BitVec 32 := 512#32
  let v135 : BitVec 32 := Scalar.muli arg15 c512_i32
  let v136 : BitVec 32 := v135
  let c224_i32 : BitVec 32 := 224#32
  let v434 : BitVec 32 := Scalar.addi v136 c224_i32
  let v435 : Index := Scalar.indexCast v434
  let c0_219 : Index := 0#32
  ![v435.toNat, 0]
def k0_off72 (v9 : BitVec 32) (k0_t8 : Fin (k0_t8_loop v9).trips) : Fin 1 → Nat :=
  let c0_i32_7 : BitVec 32 := 0#32
  let c1_i32_8 : BitVec 32 := 1#32
  let arg15 : BitVec 32 := Scf.iv c0_i32_7 c1_i32_8 k0_t8
  let c16_i32_224 : BitVec 32 := 16#32
  let v448 : BitVec 32 := Scalar.muli arg15 c16_i32_224
  let c7_i32 : BitVec 32 := 7#32
  let v449 : BitVec 32 := Scalar.addi v448 c7_i32
  let v450 : Index := Scalar.indexCast v449
  ![v450.toNat]
def k0_off73 (v467 : BitVec 32) : Fin 3 → Nat :=
  let v468 : Index := Scalar.indexCast v467
  let c0_227 : Index := 0#32
  let c0_228 : Index := 0#32
  ![v468.toNat, 0, 0]

def k0_chk11 (v467 : BitVec 32) : Prop :=
  (∀ a, (k0_off73 v467) a + S1x8x512.size a ≤ S24x8x512.size a)
theorem k0_off73_inb : ∀ (v467 : BitVec 32) (k0_hw11 : k0_chk11 v467), ∀ a, (k0_off73 v467) a + S1x8x512.size a ≤ S24x8x512.size a := fun v467 k0_hw11 => k0_hw11

def k0_off74 (v9 : BitVec 32) (k0_t8 : Fin (k0_t8_loop v9).trips) : Fin 2 → Nat :=
  let c0_i32_7 : BitVec 32 := 0#32
  let c1_i32_8 : BitVec 32 := 1#32
  let arg15 : BitVec 32 := Scf.iv c0_i32_7 c1_i32_8 k0_t8
  let c512_i32 : BitVec 32 := 512#32
  let v135 : BitVec 32 := Scalar.muli arg15 c512_i32
  let v136 : BitVec 32 := v135
  let c256_i32 : BitVec 32 := 256#32
  let v476 : BitVec 32 := Scalar.addi v136 c256_i32
  let v477 : Index := Scalar.indexCast v476
  let c0_231 : Index := 0#32
  ![v477.toNat, 0]
def k0_off75 (v9 : BitVec 32) (k0_t8 : Fin (k0_t8_loop v9).trips) : Fin 1 → Nat :=
  let c0_i32_7 : BitVec 32 := 0#32
  let c1_i32_8 : BitVec 32 := 1#32
  let arg15 : BitVec 32 := Scf.iv c0_i32_7 c1_i32_8 k0_t8
  let c16_i32_236 : BitVec 32 := 16#32
  let v490 : BitVec 32 := Scalar.muli arg15 c16_i32_236
  let c8_i32 : BitVec 32 := 8#32
  let v491 : BitVec 32 := Scalar.addi v490 c8_i32
  let v492 : Index := Scalar.indexCast v491
  ![v492.toNat]
def k0_off76 (v509 : BitVec 32) : Fin 3 → Nat :=
  let v510 : Index := Scalar.indexCast v509
  let c0_239 : Index := 0#32
  let c0_240 : Index := 0#32
  ![v510.toNat, 0, 0]

def k0_chk12 (v509 : BitVec 32) : Prop :=
  (∀ a, (k0_off76 v509) a + S1x8x512.size a ≤ S24x8x512.size a)
theorem k0_off76_inb : ∀ (v509 : BitVec 32) (k0_hw12 : k0_chk12 v509), ∀ a, (k0_off76 v509) a + S1x8x512.size a ≤ S24x8x512.size a := fun v509 k0_hw12 => k0_hw12

def k0_off77 (v9 : BitVec 32) (k0_t8 : Fin (k0_t8_loop v9).trips) : Fin 2 → Nat :=
  let c0_i32_7 : BitVec 32 := 0#32
  let c1_i32_8 : BitVec 32 := 1#32
  let arg15 : BitVec 32 := Scf.iv c0_i32_7 c1_i32_8 k0_t8
  let c512_i32 : BitVec 32 := 512#32
  let v135 : BitVec 32 := Scalar.muli arg15 c512_i32
  let v136 : BitVec 32 := v135
  let c288_i32 : BitVec 32 := 288#32
  let v518 : BitVec 32 := Scalar.addi v136 c288_i32
  let v519 : Index := Scalar.indexCast v518
  let c0_243 : Index := 0#32
  ![v519.toNat, 0]
def k0_off78 (v9 : BitVec 32) (k0_t8 : Fin (k0_t8_loop v9).trips) : Fin 1 → Nat :=
  let c0_i32_7 : BitVec 32 := 0#32
  let c1_i32_8 : BitVec 32 := 1#32
  let arg15 : BitVec 32 := Scf.iv c0_i32_7 c1_i32_8 k0_t8
  let c16_i32_248 : BitVec 32 := 16#32
  let v532 : BitVec 32 := Scalar.muli arg15 c16_i32_248
  let c9_i32 : BitVec 32 := 9#32
  let v533 : BitVec 32 := Scalar.addi v532 c9_i32
  let v534 : Index := Scalar.indexCast v533
  ![v534.toNat]
def k0_off79 (v551 : BitVec 32) : Fin 3 → Nat :=
  let v552 : Index := Scalar.indexCast v551
  let c0_251 : Index := 0#32
  let c0_252 : Index := 0#32
  ![v552.toNat, 0, 0]

def k0_chk13 (v551 : BitVec 32) : Prop :=
  (∀ a, (k0_off79 v551) a + S1x8x512.size a ≤ S24x8x512.size a)
theorem k0_off79_inb : ∀ (v551 : BitVec 32) (k0_hw13 : k0_chk13 v551), ∀ a, (k0_off79 v551) a + S1x8x512.size a ≤ S24x8x512.size a := fun v551 k0_hw13 => k0_hw13

def k0_off80 (v9 : BitVec 32) (k0_t8 : Fin (k0_t8_loop v9).trips) : Fin 2 → Nat :=
  let c0_i32_7 : BitVec 32 := 0#32
  let c1_i32_8 : BitVec 32 := 1#32
  let arg15 : BitVec 32 := Scf.iv c0_i32_7 c1_i32_8 k0_t8
  let c512_i32 : BitVec 32 := 512#32
  let v135 : BitVec 32 := Scalar.muli arg15 c512_i32
  let v136 : BitVec 32 := v135
  let c320_i32 : BitVec 32 := 320#32
  let v560 : BitVec 32 := Scalar.addi v136 c320_i32
  let v561 : Index := Scalar.indexCast v560
  let c0_255 : Index := 0#32
  ![v561.toNat, 0]
def k0_off81 (v9 : BitVec 32) (k0_t8 : Fin (k0_t8_loop v9).trips) : Fin 1 → Nat :=
  let c0_i32_7 : BitVec 32 := 0#32
  let c1_i32_8 : BitVec 32 := 1#32
  let arg15 : BitVec 32 := Scf.iv c0_i32_7 c1_i32_8 k0_t8
  let c16_i32_260 : BitVec 32 := 16#32
  let v574 : BitVec 32 := Scalar.muli arg15 c16_i32_260
  let c10_i32 : BitVec 32 := 10#32
  let v575 : BitVec 32 := Scalar.addi v574 c10_i32
  let v576 : Index := Scalar.indexCast v575
  ![v576.toNat]
def k0_off82 (v593 : BitVec 32) : Fin 3 → Nat :=
  let v594 : Index := Scalar.indexCast v593
  let c0_263 : Index := 0#32
  let c0_264 : Index := 0#32
  ![v594.toNat, 0, 0]

def k0_chk14 (v593 : BitVec 32) : Prop :=
  (∀ a, (k0_off82 v593) a + S1x8x512.size a ≤ S24x8x512.size a)
theorem k0_off82_inb : ∀ (v593 : BitVec 32) (k0_hw14 : k0_chk14 v593), ∀ a, (k0_off82 v593) a + S1x8x512.size a ≤ S24x8x512.size a := fun v593 k0_hw14 => k0_hw14

def k0_off83 (v9 : BitVec 32) (k0_t8 : Fin (k0_t8_loop v9).trips) : Fin 2 → Nat :=
  let c0_i32_7 : BitVec 32 := 0#32
  let c1_i32_8 : BitVec 32 := 1#32
  let arg15 : BitVec 32 := Scf.iv c0_i32_7 c1_i32_8 k0_t8
  let c512_i32 : BitVec 32 := 512#32
  let v135 : BitVec 32 := Scalar.muli arg15 c512_i32
  let v136 : BitVec 32 := v135
  let c352_i32 : BitVec 32 := 352#32
  let v602 : BitVec 32 := Scalar.addi v136 c352_i32
  let v603 : Index := Scalar.indexCast v602
  let c0_267 : Index := 0#32
  ![v603.toNat, 0]
def k0_off84 (v9 : BitVec 32) (k0_t8 : Fin (k0_t8_loop v9).trips) : Fin 1 → Nat :=
  let c0_i32_7 : BitVec 32 := 0#32
  let c1_i32_8 : BitVec 32 := 1#32
  let arg15 : BitVec 32 := Scf.iv c0_i32_7 c1_i32_8 k0_t8
  let c16_i32_272 : BitVec 32 := 16#32
  let v616 : BitVec 32 := Scalar.muli arg15 c16_i32_272
  let c11_i32 : BitVec 32 := 11#32
  let v617 : BitVec 32 := Scalar.addi v616 c11_i32
  let v618 : Index := Scalar.indexCast v617
  ![v618.toNat]
def k0_off85 (v635 : BitVec 32) : Fin 3 → Nat :=
  let v636 : Index := Scalar.indexCast v635
  let c0_275 : Index := 0#32
  let c0_276 : Index := 0#32
  ![v636.toNat, 0, 0]

def k0_chk15 (v635 : BitVec 32) : Prop :=
  (∀ a, (k0_off85 v635) a + S1x8x512.size a ≤ S24x8x512.size a)
theorem k0_off85_inb : ∀ (v635 : BitVec 32) (k0_hw15 : k0_chk15 v635), ∀ a, (k0_off85 v635) a + S1x8x512.size a ≤ S24x8x512.size a := fun v635 k0_hw15 => k0_hw15

def k0_off86 (v9 : BitVec 32) (k0_t8 : Fin (k0_t8_loop v9).trips) : Fin 2 → Nat :=
  let c0_i32_7 : BitVec 32 := 0#32
  let c1_i32_8 : BitVec 32 := 1#32
  let arg15 : BitVec 32 := Scf.iv c0_i32_7 c1_i32_8 k0_t8
  let c512_i32 : BitVec 32 := 512#32
  let v135 : BitVec 32 := Scalar.muli arg15 c512_i32
  let v136 : BitVec 32 := v135
  let c384_i32 : BitVec 32 := 384#32
  let v644 : BitVec 32 := Scalar.addi v136 c384_i32
  let v645 : Index := Scalar.indexCast v644
  let c0_279 : Index := 0#32
  ![v645.toNat, 0]
def k0_off87 (v9 : BitVec 32) (k0_t8 : Fin (k0_t8_loop v9).trips) : Fin 1 → Nat :=
  let c0_i32_7 : BitVec 32 := 0#32
  let c1_i32_8 : BitVec 32 := 1#32
  let arg15 : BitVec 32 := Scf.iv c0_i32_7 c1_i32_8 k0_t8
  let c16_i32_284 : BitVec 32 := 16#32
  let v658 : BitVec 32 := Scalar.muli arg15 c16_i32_284
  let c12_i32 : BitVec 32 := 12#32
  let v659 : BitVec 32 := Scalar.addi v658 c12_i32
  let v660 : Index := Scalar.indexCast v659
  ![v660.toNat]
def k0_off88 (v677 : BitVec 32) : Fin 3 → Nat :=
  let v678 : Index := Scalar.indexCast v677
  let c0_287 : Index := 0#32
  let c0_288 : Index := 0#32
  ![v678.toNat, 0, 0]

def k0_chk16 (v677 : BitVec 32) : Prop :=
  (∀ a, (k0_off88 v677) a + S1x8x512.size a ≤ S24x8x512.size a)
theorem k0_off88_inb : ∀ (v677 : BitVec 32) (k0_hw16 : k0_chk16 v677), ∀ a, (k0_off88 v677) a + S1x8x512.size a ≤ S24x8x512.size a := fun v677 k0_hw16 => k0_hw16

def k0_off89 (v9 : BitVec 32) (k0_t8 : Fin (k0_t8_loop v9).trips) : Fin 2 → Nat :=
  let c0_i32_7 : BitVec 32 := 0#32
  let c1_i32_8 : BitVec 32 := 1#32
  let arg15 : BitVec 32 := Scf.iv c0_i32_7 c1_i32_8 k0_t8
  let c512_i32 : BitVec 32 := 512#32
  let v135 : BitVec 32 := Scalar.muli arg15 c512_i32
  let v136 : BitVec 32 := v135
  let c416_i32 : BitVec 32 := 416#32
  let v686 : BitVec 32 := Scalar.addi v136 c416_i32
  let v687 : Index := Scalar.indexCast v686
  let c0_291 : Index := 0#32
  ![v687.toNat, 0]
def k0_off90 (v9 : BitVec 32) (k0_t8 : Fin (k0_t8_loop v9).trips) : Fin 1 → Nat :=
  let c0_i32_7 : BitVec 32 := 0#32
  let c1_i32_8 : BitVec 32 := 1#32
  let arg15 : BitVec 32 := Scf.iv c0_i32_7 c1_i32_8 k0_t8
  let c16_i32_296 : BitVec 32 := 16#32
  let v700 : BitVec 32 := Scalar.muli arg15 c16_i32_296
  let c13_i32 : BitVec 32 := 13#32
  let v701 : BitVec 32 := Scalar.addi v700 c13_i32
  let v702 : Index := Scalar.indexCast v701
  ![v702.toNat]
def k0_off91 (v719 : BitVec 32) : Fin 3 → Nat :=
  let v720 : Index := Scalar.indexCast v719
  let c0_299 : Index := 0#32
  let c0_300 : Index := 0#32
  ![v720.toNat, 0, 0]

def k0_chk17 (v719 : BitVec 32) : Prop :=
  (∀ a, (k0_off91 v719) a + S1x8x512.size a ≤ S24x8x512.size a)
theorem k0_off91_inb : ∀ (v719 : BitVec 32) (k0_hw17 : k0_chk17 v719), ∀ a, (k0_off91 v719) a + S1x8x512.size a ≤ S24x8x512.size a := fun v719 k0_hw17 => k0_hw17

def k0_off92 (v9 : BitVec 32) (k0_t8 : Fin (k0_t8_loop v9).trips) : Fin 2 → Nat :=
  let c0_i32_7 : BitVec 32 := 0#32
  let c1_i32_8 : BitVec 32 := 1#32
  let arg15 : BitVec 32 := Scf.iv c0_i32_7 c1_i32_8 k0_t8
  let c512_i32 : BitVec 32 := 512#32
  let v135 : BitVec 32 := Scalar.muli arg15 c512_i32
  let v136 : BitVec 32 := v135
  let c448_i32 : BitVec 32 := 448#32
  let v728 : BitVec 32 := Scalar.addi v136 c448_i32
  let v729 : Index := Scalar.indexCast v728
  let c0_303 : Index := 0#32
  ![v729.toNat, 0]
def k0_off93 (v9 : BitVec 32) (k0_t8 : Fin (k0_t8_loop v9).trips) : Fin 1 → Nat :=
  let c0_i32_7 : BitVec 32 := 0#32
  let c1_i32_8 : BitVec 32 := 1#32
  let arg15 : BitVec 32 := Scf.iv c0_i32_7 c1_i32_8 k0_t8
  let c16_i32_308 : BitVec 32 := 16#32
  let v742 : BitVec 32 := Scalar.muli arg15 c16_i32_308
  let c14_i32 : BitVec 32 := 14#32
  let v743 : BitVec 32 := Scalar.addi v742 c14_i32
  let v744 : Index := Scalar.indexCast v743
  ![v744.toNat]
def k0_off94 (v761 : BitVec 32) : Fin 3 → Nat :=
  let v762 : Index := Scalar.indexCast v761
  let c0_311 : Index := 0#32
  let c0_312 : Index := 0#32
  ![v762.toNat, 0, 0]

def k0_chk18 (v761 : BitVec 32) : Prop :=
  (∀ a, (k0_off94 v761) a + S1x8x512.size a ≤ S24x8x512.size a)
theorem k0_off94_inb : ∀ (v761 : BitVec 32) (k0_hw18 : k0_chk18 v761), ∀ a, (k0_off94 v761) a + S1x8x512.size a ≤ S24x8x512.size a := fun v761 k0_hw18 => k0_hw18

def k0_off95 (v9 : BitVec 32) (k0_t8 : Fin (k0_t8_loop v9).trips) : Fin 2 → Nat :=
  let c0_i32_7 : BitVec 32 := 0#32
  let c1_i32_8 : BitVec 32 := 1#32
  let arg15 : BitVec 32 := Scf.iv c0_i32_7 c1_i32_8 k0_t8
  let c512_i32 : BitVec 32 := 512#32
  let v135 : BitVec 32 := Scalar.muli arg15 c512_i32
  let v136 : BitVec 32 := v135
  let c480_i32 : BitVec 32 := 480#32
  let v770 : BitVec 32 := Scalar.addi v136 c480_i32
  let v771 : Index := Scalar.indexCast v770
  let c0_315 : Index := 0#32
  ![v771.toNat, 0]
def k0_off96 (v9 : BitVec 32) (k0_t8 : Fin (k0_t8_loop v9).trips) : Fin 1 → Nat :=
  let c0_i32_7 : BitVec 32 := 0#32
  let c1_i32_8 : BitVec 32 := 1#32
  let arg15 : BitVec 32 := Scf.iv c0_i32_7 c1_i32_8 k0_t8
  let c16_i32_320 : BitVec 32 := 16#32
  let v784 : BitVec 32 := Scalar.muli arg15 c16_i32_320
  let c15_i32 : BitVec 32 := 15#32
  let v785 : BitVec 32 := Scalar.addi v784 c15_i32
  let v786 : Index := Scalar.indexCast v785
  ![v786.toNat]
def k0_off97 (v803 : BitVec 32) : Fin 3 → Nat :=
  let v804 : Index := Scalar.indexCast v803
  let c0_323 : Index := 0#32
  let c0_324 : Index := 0#32
  ![v804.toNat, 0, 0]

def k0_chk19 (v803 : BitVec 32) : Prop :=
  (∀ a, (k0_off97 v803) a + S1x8x512.size a ≤ S24x8x512.size a)
theorem k0_off97_inb : ∀ (v803 : BitVec 32) (k0_hw19 : k0_chk19 v803), ∀ a, (k0_off97 v803) a + S1x8x512.size a ≤ S24x8x512.size a := fun v803 k0_hw19 => k0_hw19

@[reducible] def k0_t9_loop (v9 : BitVec 32) : Scf.Loop 32 :=
  let c0_i32_7 : BitVec 32 := 0#32
  let v10 : BitVec 32 := Scalar.subi v9 c0_i32_7
  let c1_i32 : BitVec 32 := 1#32
  let v12 : BitVec 32 := Scalar.divsi v10 c1_i32
  let v13 : BitVec 32 := Scalar.muli v12 c1_i32
  let v14 : BitVec 32 := Scalar.addi c0_i32_7 v13
  let v11 : BitVec 32 := Scalar.addi c0_i32_7 v10
  let c1_i32_9 : BitVec 32 := 1#32
  ⟨v14, v11, c1_i32_9⟩
def k0_mult42 (v9 : BitVec 32) (k0_t9 : Fin (k0_t9_loop v9).trips) : BitVec 32 :=
  let c0_i32_7 : BitVec 32 := 0#32
  let v10 : BitVec 32 := Scalar.subi v9 c0_i32_7
  let c1_i32 : BitVec 32 := 1#32
  let v12 : BitVec 32 := Scalar.divsi v10 c1_i32
  let v13 : BitVec 32 := Scalar.muli v12 c1_i32
  let v14 : BitVec 32 := Scalar.addi c0_i32_7 v13
  let c1_i32_9 : BitVec 32 := 1#32
  let arg15 : BitVec 32 := Scf.iv v14 c1_i32_9 k0_t9
  let c512_i32 : BitVec 32 := 512#32
  let v135 : BitVec 32 := Scalar.muli arg15 c512_i32
  v135
def k0_off98 (v9 : BitVec 32) (k0_t9 : Fin (k0_t9_loop v9).trips) : Fin 2 → Nat :=
  let c0_i32_7 : BitVec 32 := 0#32
  let v10 : BitVec 32 := Scalar.subi v9 c0_i32_7
  let c1_i32 : BitVec 32 := 1#32
  let v12 : BitVec 32 := Scalar.divsi v10 c1_i32
  let v13 : BitVec 32 := Scalar.muli v12 c1_i32
  let v14 : BitVec 32 := Scalar.addi c0_i32_7 v13
  let c1_i32_9 : BitVec 32 := 1#32
  let arg15 : BitVec 32 := Scf.iv v14 c1_i32_9 k0_t9
  let c512_i32 : BitVec 32 := 512#32
  let v135 : BitVec 32 := Scalar.muli arg15 c512_i32
  let v136 : BitVec 32 := v135
  let v137 : Index := Scalar.indexCast v136
  let c0_131 : Index := 0#32
  ![v137.toNat, 0]
def k0_off99 (v9 : BitVec 32) (k0_t9 : Fin (k0_t9_loop v9).trips) : Fin 2 → Nat :=
  let c0_i32_7 : BitVec 32 := 0#32
  let v10 : BitVec 32 := Scalar.subi v9 c0_i32_7
  let c1_i32 : BitVec 32 := 1#32
  let v12 : BitVec 32 := Scalar.divsi v10 c1_i32
  let v13 : BitVec 32 := Scalar.muli v12 c1_i32
  let v14 : BitVec 32 := Scalar.addi c0_i32_7 v13
  let c1_i32_9 : BitVec 32 := 1#32
  let arg15 : BitVec 32 := Scf.iv v14 c1_i32_9 k0_t9
  let c512_i32 : BitVec 32 := 512#32
  let v135 : BitVec 32 := Scalar.muli arg15 c512_i32
  let v136 : BitVec 32 := v135
  let c0_i32_133 : BitVec 32 := 0#32
  let v140 : BitVec 32 := Scalar.addi v136 c0_i32_133
  let v141 : Index := Scalar.indexCast v140
  let c0_134 : Index := 0#32
  ![v141.toNat, 0]
def k0_off100 (v9 : BitVec 32) (k0_t9 : Fin (k0_t9_loop v9).trips) : Fin 1 → Nat :=
  let c0_i32_7 : BitVec 32 := 0#32
  let v10 : BitVec 32 := Scalar.subi v9 c0_i32_7
  let c1_i32 : BitVec 32 := 1#32
  let v12 : BitVec 32 := Scalar.divsi v10 c1_i32
  let v13 : BitVec 32 := Scalar.muli v12 c1_i32
  let v14 : BitVec 32 := Scalar.addi c0_i32_7 v13
  let c1_i32_9 : BitVec 32 := 1#32
  let arg15 : BitVec 32 := Scf.iv v14 c1_i32_9 k0_t9
  let c16_i32 : BitVec 32 := 16#32
  let v154 : BitVec 32 := Scalar.muli arg15 c16_i32
  let c0_i32_139 : BitVec 32 := 0#32
  let v155 : BitVec 32 := Scalar.addi v154 c0_i32_139
  let v156 : Index := Scalar.indexCast v155
  ![v156.toNat]
def k0_off101 (v173 : BitVec 32) : Fin 3 → Nat :=
  let v174 : Index := Scalar.indexCast v173
  let c0_142 : Index := 0#32
  let c0_143 : Index := 0#32
  ![v174.toNat, 0, 0]

def k0_chk20 (v173 : BitVec 32) : Prop :=
  (∀ a, (k0_off101 v173) a + S1x8x512.size a ≤ S24x8x512.size a)
theorem k0_off101_inb : ∀ (v173 : BitVec 32) (k0_hw20 : k0_chk20 v173), ∀ a, (k0_off101 v173) a + S1x8x512.size a ≤ S24x8x512.size a := fun v173 k0_hw20 => k0_hw20

def k0_off102 (v9 : BitVec 32) (k0_t9 : Fin (k0_t9_loop v9).trips) : Fin 2 → Nat :=
  let c0_i32_7 : BitVec 32 := 0#32
  let v10 : BitVec 32 := Scalar.subi v9 c0_i32_7
  let c1_i32 : BitVec 32 := 1#32
  let v12 : BitVec 32 := Scalar.divsi v10 c1_i32
  let v13 : BitVec 32 := Scalar.muli v12 c1_i32
  let v14 : BitVec 32 := Scalar.addi c0_i32_7 v13
  let c1_i32_9 : BitVec 32 := 1#32
  let arg15 : BitVec 32 := Scf.iv v14 c1_i32_9 k0_t9
  let c512_i32 : BitVec 32 := 512#32
  let v135 : BitVec 32 := Scalar.muli arg15 c512_i32
  let v136 : BitVec 32 := v135
  let c32_i32 : BitVec 32 := 32#32
  let v182 : BitVec 32 := Scalar.addi v136 c32_i32
  let v183 : Index := Scalar.indexCast v182
  let c0_146 : Index := 0#32
  ![v183.toNat, 0]
def k0_off103 (v9 : BitVec 32) (k0_t9 : Fin (k0_t9_loop v9).trips) : Fin 1 → Nat :=
  let c0_i32_7 : BitVec 32 := 0#32
  let v10 : BitVec 32 := Scalar.subi v9 c0_i32_7
  let c1_i32 : BitVec 32 := 1#32
  let v12 : BitVec 32 := Scalar.divsi v10 c1_i32
  let v13 : BitVec 32 := Scalar.muli v12 c1_i32
  let v14 : BitVec 32 := Scalar.addi c0_i32_7 v13
  let c1_i32_9 : BitVec 32 := 1#32
  let arg15 : BitVec 32 := Scf.iv v14 c1_i32_9 k0_t9
  let c16_i32_151 : BitVec 32 := 16#32
  let v196 : BitVec 32 := Scalar.muli arg15 c16_i32_151
  let c1_i32_152 : BitVec 32 := 1#32
  let v197 : BitVec 32 := Scalar.addi v196 c1_i32_152
  let v198 : Index := Scalar.indexCast v197
  ![v198.toNat]
def k0_off104 (v215 : BitVec 32) : Fin 3 → Nat :=
  let v216 : Index := Scalar.indexCast v215
  let c0_155 : Index := 0#32
  let c0_156 : Index := 0#32
  ![v216.toNat, 0, 0]

def k0_chk21 (v215 : BitVec 32) : Prop :=
  (∀ a, (k0_off104 v215) a + S1x8x512.size a ≤ S24x8x512.size a)
theorem k0_off104_inb : ∀ (v215 : BitVec 32) (k0_hw21 : k0_chk21 v215), ∀ a, (k0_off104 v215) a + S1x8x512.size a ≤ S24x8x512.size a := fun v215 k0_hw21 => k0_hw21

def k0_off105 (v9 : BitVec 32) (k0_t9 : Fin (k0_t9_loop v9).trips) : Fin 2 → Nat :=
  let c0_i32_7 : BitVec 32 := 0#32
  let v10 : BitVec 32 := Scalar.subi v9 c0_i32_7
  let c1_i32 : BitVec 32 := 1#32
  let v12 : BitVec 32 := Scalar.divsi v10 c1_i32
  let v13 : BitVec 32 := Scalar.muli v12 c1_i32
  let v14 : BitVec 32 := Scalar.addi c0_i32_7 v13
  let c1_i32_9 : BitVec 32 := 1#32
  let arg15 : BitVec 32 := Scf.iv v14 c1_i32_9 k0_t9
  let c512_i32 : BitVec 32 := 512#32
  let v135 : BitVec 32 := Scalar.muli arg15 c512_i32
  let v136 : BitVec 32 := v135
  let c64_i32 : BitVec 32 := 64#32
  let v224 : BitVec 32 := Scalar.addi v136 c64_i32
  let v225 : Index := Scalar.indexCast v224
  let c0_159 : Index := 0#32
  ![v225.toNat, 0]
def k0_off106 (v9 : BitVec 32) (k0_t9 : Fin (k0_t9_loop v9).trips) : Fin 1 → Nat :=
  let c0_i32_7 : BitVec 32 := 0#32
  let v10 : BitVec 32 := Scalar.subi v9 c0_i32_7
  let c1_i32 : BitVec 32 := 1#32
  let v12 : BitVec 32 := Scalar.divsi v10 c1_i32
  let v13 : BitVec 32 := Scalar.muli v12 c1_i32
  let v14 : BitVec 32 := Scalar.addi c0_i32_7 v13
  let c1_i32_9 : BitVec 32 := 1#32
  let arg15 : BitVec 32 := Scf.iv v14 c1_i32_9 k0_t9
  let c16_i32_164 : BitVec 32 := 16#32
  let v238 : BitVec 32 := Scalar.muli arg15 c16_i32_164
  let c2_i32 : BitVec 32 := 2#32
  let v239 : BitVec 32 := Scalar.addi v238 c2_i32
  let v240 : Index := Scalar.indexCast v239
  ![v240.toNat]
def k0_off107 (v257 : BitVec 32) : Fin 3 → Nat :=
  let v258 : Index := Scalar.indexCast v257
  let c0_167 : Index := 0#32
  let c0_168 : Index := 0#32
  ![v258.toNat, 0, 0]

def k0_chk22 (v257 : BitVec 32) : Prop :=
  (∀ a, (k0_off107 v257) a + S1x8x512.size a ≤ S24x8x512.size a)
theorem k0_off107_inb : ∀ (v257 : BitVec 32) (k0_hw22 : k0_chk22 v257), ∀ a, (k0_off107 v257) a + S1x8x512.size a ≤ S24x8x512.size a := fun v257 k0_hw22 => k0_hw22

def k0_off108 (v9 : BitVec 32) (k0_t9 : Fin (k0_t9_loop v9).trips) : Fin 2 → Nat :=
  let c0_i32_7 : BitVec 32 := 0#32
  let v10 : BitVec 32 := Scalar.subi v9 c0_i32_7
  let c1_i32 : BitVec 32 := 1#32
  let v12 : BitVec 32 := Scalar.divsi v10 c1_i32
  let v13 : BitVec 32 := Scalar.muli v12 c1_i32
  let v14 : BitVec 32 := Scalar.addi c0_i32_7 v13
  let c1_i32_9 : BitVec 32 := 1#32
  let arg15 : BitVec 32 := Scf.iv v14 c1_i32_9 k0_t9
  let c512_i32 : BitVec 32 := 512#32
  let v135 : BitVec 32 := Scalar.muli arg15 c512_i32
  let v136 : BitVec 32 := v135
  let c96_i32 : BitVec 32 := 96#32
  let v266 : BitVec 32 := Scalar.addi v136 c96_i32
  let v267 : Index := Scalar.indexCast v266
  let c0_171 : Index := 0#32
  ![v267.toNat, 0]
def k0_off109 (v9 : BitVec 32) (k0_t9 : Fin (k0_t9_loop v9).trips) : Fin 1 → Nat :=
  let c0_i32_7 : BitVec 32 := 0#32
  let v10 : BitVec 32 := Scalar.subi v9 c0_i32_7
  let c1_i32 : BitVec 32 := 1#32
  let v12 : BitVec 32 := Scalar.divsi v10 c1_i32
  let v13 : BitVec 32 := Scalar.muli v12 c1_i32
  let v14 : BitVec 32 := Scalar.addi c0_i32_7 v13
  let c1_i32_9 : BitVec 32 := 1#32
  let arg15 : BitVec 32 := Scf.iv v14 c1_i32_9 k0_t9
  let c16_i32_176 : BitVec 32 := 16#32
  let v280 : BitVec 32 := Scalar.muli arg15 c16_i32_176
  let c3_i32 : BitVec 32 := 3#32
  let v281 : BitVec 32 := Scalar.addi v280 c3_i32
  let v282 : Index := Scalar.indexCast v281
  ![v282.toNat]
def k0_off110 (v299 : BitVec 32) : Fin 3 → Nat :=
  let v300 : Index := Scalar.indexCast v299
  let c0_179 : Index := 0#32
  let c0_180 : Index := 0#32
  ![v300.toNat, 0, 0]

def k0_chk23 (v299 : BitVec 32) : Prop :=
  (∀ a, (k0_off110 v299) a + S1x8x512.size a ≤ S24x8x512.size a)
theorem k0_off110_inb : ∀ (v299 : BitVec 32) (k0_hw23 : k0_chk23 v299), ∀ a, (k0_off110 v299) a + S1x8x512.size a ≤ S24x8x512.size a := fun v299 k0_hw23 => k0_hw23

def k0_off111 (v9 : BitVec 32) (k0_t9 : Fin (k0_t9_loop v9).trips) : Fin 2 → Nat :=
  let c0_i32_7 : BitVec 32 := 0#32
  let v10 : BitVec 32 := Scalar.subi v9 c0_i32_7
  let c1_i32 : BitVec 32 := 1#32
  let v12 : BitVec 32 := Scalar.divsi v10 c1_i32
  let v13 : BitVec 32 := Scalar.muli v12 c1_i32
  let v14 : BitVec 32 := Scalar.addi c0_i32_7 v13
  let c1_i32_9 : BitVec 32 := 1#32
  let arg15 : BitVec 32 := Scf.iv v14 c1_i32_9 k0_t9
  let c512_i32 : BitVec 32 := 512#32
  let v135 : BitVec 32 := Scalar.muli arg15 c512_i32
  let v136 : BitVec 32 := v135
  let c128_i32 : BitVec 32 := 128#32
  let v308 : BitVec 32 := Scalar.addi v136 c128_i32
  let v309 : Index := Scalar.indexCast v308
  let c0_183 : Index := 0#32
  ![v309.toNat, 0]
def k0_off112 (v9 : BitVec 32) (k0_t9 : Fin (k0_t9_loop v9).trips) : Fin 1 → Nat :=
  let c0_i32_7 : BitVec 32 := 0#32
  let v10 : BitVec 32 := Scalar.subi v9 c0_i32_7
  let c1_i32 : BitVec 32 := 1#32
  let v12 : BitVec 32 := Scalar.divsi v10 c1_i32
  let v13 : BitVec 32 := Scalar.muli v12 c1_i32
  let v14 : BitVec 32 := Scalar.addi c0_i32_7 v13
  let c1_i32_9 : BitVec 32 := 1#32
  let arg15 : BitVec 32 := Scf.iv v14 c1_i32_9 k0_t9
  let c16_i32_188 : BitVec 32 := 16#32
  let v322 : BitVec 32 := Scalar.muli arg15 c16_i32_188
  let c4_i32 : BitVec 32 := 4#32
  let v323 : BitVec 32 := Scalar.addi v322 c4_i32
  let v324 : Index := Scalar.indexCast v323
  ![v324.toNat]
def k0_off113 (v341 : BitVec 32) : Fin 3 → Nat :=
  let v342 : Index := Scalar.indexCast v341
  let c0_191 : Index := 0#32
  let c0_192 : Index := 0#32
  ![v342.toNat, 0, 0]

def k0_chk24 (v341 : BitVec 32) : Prop :=
  (∀ a, (k0_off113 v341) a + S1x8x512.size a ≤ S24x8x512.size a)
theorem k0_off113_inb : ∀ (v341 : BitVec 32) (k0_hw24 : k0_chk24 v341), ∀ a, (k0_off113 v341) a + S1x8x512.size a ≤ S24x8x512.size a := fun v341 k0_hw24 => k0_hw24

def k0_off114 (v9 : BitVec 32) (k0_t9 : Fin (k0_t9_loop v9).trips) : Fin 2 → Nat :=
  let c0_i32_7 : BitVec 32 := 0#32
  let v10 : BitVec 32 := Scalar.subi v9 c0_i32_7
  let c1_i32 : BitVec 32 := 1#32
  let v12 : BitVec 32 := Scalar.divsi v10 c1_i32
  let v13 : BitVec 32 := Scalar.muli v12 c1_i32
  let v14 : BitVec 32 := Scalar.addi c0_i32_7 v13
  let c1_i32_9 : BitVec 32 := 1#32
  let arg15 : BitVec 32 := Scf.iv v14 c1_i32_9 k0_t9
  let c512_i32 : BitVec 32 := 512#32
  let v135 : BitVec 32 := Scalar.muli arg15 c512_i32
  let v136 : BitVec 32 := v135
  let c160_i32 : BitVec 32 := 160#32
  let v350 : BitVec 32 := Scalar.addi v136 c160_i32
  let v351 : Index := Scalar.indexCast v350
  let c0_195 : Index := 0#32
  ![v351.toNat, 0]
def k0_off115 (v9 : BitVec 32) (k0_t9 : Fin (k0_t9_loop v9).trips) : Fin 1 → Nat :=
  let c0_i32_7 : BitVec 32 := 0#32
  let v10 : BitVec 32 := Scalar.subi v9 c0_i32_7
  let c1_i32 : BitVec 32 := 1#32
  let v12 : BitVec 32 := Scalar.divsi v10 c1_i32
  let v13 : BitVec 32 := Scalar.muli v12 c1_i32
  let v14 : BitVec 32 := Scalar.addi c0_i32_7 v13
  let c1_i32_9 : BitVec 32 := 1#32
  let arg15 : BitVec 32 := Scf.iv v14 c1_i32_9 k0_t9
  let c16_i32_200 : BitVec 32 := 16#32
  let v364 : BitVec 32 := Scalar.muli arg15 c16_i32_200
  let c5_i32 : BitVec 32 := 5#32
  let v365 : BitVec 32 := Scalar.addi v364 c5_i32
  let v366 : Index := Scalar.indexCast v365
  ![v366.toNat]
def k0_off116 (v383 : BitVec 32) : Fin 3 → Nat :=
  let v384 : Index := Scalar.indexCast v383
  let c0_203 : Index := 0#32
  let c0_204 : Index := 0#32
  ![v384.toNat, 0, 0]

def k0_chk25 (v383 : BitVec 32) : Prop :=
  (∀ a, (k0_off116 v383) a + S1x8x512.size a ≤ S24x8x512.size a)
theorem k0_off116_inb : ∀ (v383 : BitVec 32) (k0_hw25 : k0_chk25 v383), ∀ a, (k0_off116 v383) a + S1x8x512.size a ≤ S24x8x512.size a := fun v383 k0_hw25 => k0_hw25

def k0_off117 (v9 : BitVec 32) (k0_t9 : Fin (k0_t9_loop v9).trips) : Fin 2 → Nat :=
  let c0_i32_7 : BitVec 32 := 0#32
  let v10 : BitVec 32 := Scalar.subi v9 c0_i32_7
  let c1_i32 : BitVec 32 := 1#32
  let v12 : BitVec 32 := Scalar.divsi v10 c1_i32
  let v13 : BitVec 32 := Scalar.muli v12 c1_i32
  let v14 : BitVec 32 := Scalar.addi c0_i32_7 v13
  let c1_i32_9 : BitVec 32 := 1#32
  let arg15 : BitVec 32 := Scf.iv v14 c1_i32_9 k0_t9
  let c512_i32 : BitVec 32 := 512#32
  let v135 : BitVec 32 := Scalar.muli arg15 c512_i32
  let v136 : BitVec 32 := v135
  let c192_i32 : BitVec 32 := 192#32
  let v392 : BitVec 32 := Scalar.addi v136 c192_i32
  let v393 : Index := Scalar.indexCast v392
  let c0_207 : Index := 0#32
  ![v393.toNat, 0]
def k0_off118 (v9 : BitVec 32) (k0_t9 : Fin (k0_t9_loop v9).trips) : Fin 1 → Nat :=
  let c0_i32_7 : BitVec 32 := 0#32
  let v10 : BitVec 32 := Scalar.subi v9 c0_i32_7
  let c1_i32 : BitVec 32 := 1#32
  let v12 : BitVec 32 := Scalar.divsi v10 c1_i32
  let v13 : BitVec 32 := Scalar.muli v12 c1_i32
  let v14 : BitVec 32 := Scalar.addi c0_i32_7 v13
  let c1_i32_9 : BitVec 32 := 1#32
  let arg15 : BitVec 32 := Scf.iv v14 c1_i32_9 k0_t9
  let c16_i32_212 : BitVec 32 := 16#32
  let v406 : BitVec 32 := Scalar.muli arg15 c16_i32_212
  let c6_i32 : BitVec 32 := 6#32
  let v407 : BitVec 32 := Scalar.addi v406 c6_i32
  let v408 : Index := Scalar.indexCast v407
  ![v408.toNat]
def k0_off119 (v425 : BitVec 32) : Fin 3 → Nat :=
  let v426 : Index := Scalar.indexCast v425
  let c0_215 : Index := 0#32
  let c0_216 : Index := 0#32
  ![v426.toNat, 0, 0]

def k0_chk26 (v425 : BitVec 32) : Prop :=
  (∀ a, (k0_off119 v425) a + S1x8x512.size a ≤ S24x8x512.size a)
theorem k0_off119_inb : ∀ (v425 : BitVec 32) (k0_hw26 : k0_chk26 v425), ∀ a, (k0_off119 v425) a + S1x8x512.size a ≤ S24x8x512.size a := fun v425 k0_hw26 => k0_hw26

def k0_off120 (v9 : BitVec 32) (k0_t9 : Fin (k0_t9_loop v9).trips) : Fin 2 → Nat :=
  let c0_i32_7 : BitVec 32 := 0#32
  let v10 : BitVec 32 := Scalar.subi v9 c0_i32_7
  let c1_i32 : BitVec 32 := 1#32
  let v12 : BitVec 32 := Scalar.divsi v10 c1_i32
  let v13 : BitVec 32 := Scalar.muli v12 c1_i32
  let v14 : BitVec 32 := Scalar.addi c0_i32_7 v13
  let c1_i32_9 : BitVec 32 := 1#32
  let arg15 : BitVec 32 := Scf.iv v14 c1_i32_9 k0_t9
  let c512_i32 : BitVec 32 := 512#32
  let v135 : BitVec 32 := Scalar.muli arg15 c512_i32
  let v136 : BitVec 32 := v135
  let c224_i32 : BitVec 32 := 224#32
  let v434 : BitVec 32 := Scalar.addi v136 c224_i32
  let v435 : Index := Scalar.indexCast v434
  let c0_219 : Index := 0#32
  ![v435.toNat, 0]
def k0_off121 (v9 : BitVec 32) (k0_t9 : Fin (k0_t9_loop v9).trips) : Fin 1 → Nat :=
  let c0_i32_7 : BitVec 32 := 0#32
  let v10 : BitVec 32 := Scalar.subi v9 c0_i32_7
  let c1_i32 : BitVec 32 := 1#32
  let v12 : BitVec 32 := Scalar.divsi v10 c1_i32
  let v13 : BitVec 32 := Scalar.muli v12 c1_i32
  let v14 : BitVec 32 := Scalar.addi c0_i32_7 v13
  let c1_i32_9 : BitVec 32 := 1#32
  let arg15 : BitVec 32 := Scf.iv v14 c1_i32_9 k0_t9
  let c16_i32_224 : BitVec 32 := 16#32
  let v448 : BitVec 32 := Scalar.muli arg15 c16_i32_224
  let c7_i32 : BitVec 32 := 7#32
  let v449 : BitVec 32 := Scalar.addi v448 c7_i32
  let v450 : Index := Scalar.indexCast v449
  ![v450.toNat]
def k0_off122 (v467 : BitVec 32) : Fin 3 → Nat :=
  let v468 : Index := Scalar.indexCast v467
  let c0_227 : Index := 0#32
  let c0_228 : Index := 0#32
  ![v468.toNat, 0, 0]

def k0_chk27 (v467 : BitVec 32) : Prop :=
  (∀ a, (k0_off122 v467) a + S1x8x512.size a ≤ S24x8x512.size a)
theorem k0_off122_inb : ∀ (v467 : BitVec 32) (k0_hw27 : k0_chk27 v467), ∀ a, (k0_off122 v467) a + S1x8x512.size a ≤ S24x8x512.size a := fun v467 k0_hw27 => k0_hw27

def k0_off123 (v9 : BitVec 32) (k0_t9 : Fin (k0_t9_loop v9).trips) : Fin 2 → Nat :=
  let c0_i32_7 : BitVec 32 := 0#32
  let v10 : BitVec 32 := Scalar.subi v9 c0_i32_7
  let c1_i32 : BitVec 32 := 1#32
  let v12 : BitVec 32 := Scalar.divsi v10 c1_i32
  let v13 : BitVec 32 := Scalar.muli v12 c1_i32
  let v14 : BitVec 32 := Scalar.addi c0_i32_7 v13
  let c1_i32_9 : BitVec 32 := 1#32
  let arg15 : BitVec 32 := Scf.iv v14 c1_i32_9 k0_t9
  let c512_i32 : BitVec 32 := 512#32
  let v135 : BitVec 32 := Scalar.muli arg15 c512_i32
  let v136 : BitVec 32 := v135
  let c256_i32 : BitVec 32 := 256#32
  let v476 : BitVec 32 := Scalar.addi v136 c256_i32
  let v477 : Index := Scalar.indexCast v476
  let c0_231 : Index := 0#32
  ![v477.toNat, 0]
def k0_off124 (v9 : BitVec 32) (k0_t9 : Fin (k0_t9_loop v9).trips) : Fin 1 → Nat :=
  let c0_i32_7 : BitVec 32 := 0#32
  let v10 : BitVec 32 := Scalar.subi v9 c0_i32_7
  let c1_i32 : BitVec 32 := 1#32
  let v12 : BitVec 32 := Scalar.divsi v10 c1_i32
  let v13 : BitVec 32 := Scalar.muli v12 c1_i32
  let v14 : BitVec 32 := Scalar.addi c0_i32_7 v13
  let c1_i32_9 : BitVec 32 := 1#32
  let arg15 : BitVec 32 := Scf.iv v14 c1_i32_9 k0_t9
  let c16_i32_236 : BitVec 32 := 16#32
  let v490 : BitVec 32 := Scalar.muli arg15 c16_i32_236
  let c8_i32 : BitVec 32 := 8#32
  let v491 : BitVec 32 := Scalar.addi v490 c8_i32
  let v492 : Index := Scalar.indexCast v491
  ![v492.toNat]
def k0_off125 (v509 : BitVec 32) : Fin 3 → Nat :=
  let v510 : Index := Scalar.indexCast v509
  let c0_239 : Index := 0#32
  let c0_240 : Index := 0#32
  ![v510.toNat, 0, 0]

def k0_chk28 (v509 : BitVec 32) : Prop :=
  (∀ a, (k0_off125 v509) a + S1x8x512.size a ≤ S24x8x512.size a)
theorem k0_off125_inb : ∀ (v509 : BitVec 32) (k0_hw28 : k0_chk28 v509), ∀ a, (k0_off125 v509) a + S1x8x512.size a ≤ S24x8x512.size a := fun v509 k0_hw28 => k0_hw28

def k0_off126 (v9 : BitVec 32) (k0_t9 : Fin (k0_t9_loop v9).trips) : Fin 2 → Nat :=
  let c0_i32_7 : BitVec 32 := 0#32
  let v10 : BitVec 32 := Scalar.subi v9 c0_i32_7
  let c1_i32 : BitVec 32 := 1#32
  let v12 : BitVec 32 := Scalar.divsi v10 c1_i32
  let v13 : BitVec 32 := Scalar.muli v12 c1_i32
  let v14 : BitVec 32 := Scalar.addi c0_i32_7 v13
  let c1_i32_9 : BitVec 32 := 1#32
  let arg15 : BitVec 32 := Scf.iv v14 c1_i32_9 k0_t9
  let c512_i32 : BitVec 32 := 512#32
  let v135 : BitVec 32 := Scalar.muli arg15 c512_i32
  let v136 : BitVec 32 := v135
  let c288_i32 : BitVec 32 := 288#32
  let v518 : BitVec 32 := Scalar.addi v136 c288_i32
  let v519 : Index := Scalar.indexCast v518
  let c0_243 : Index := 0#32
  ![v519.toNat, 0]
def k0_off127 (v9 : BitVec 32) (k0_t9 : Fin (k0_t9_loop v9).trips) : Fin 1 → Nat :=
  let c0_i32_7 : BitVec 32 := 0#32
  let v10 : BitVec 32 := Scalar.subi v9 c0_i32_7
  let c1_i32 : BitVec 32 := 1#32
  let v12 : BitVec 32 := Scalar.divsi v10 c1_i32
  let v13 : BitVec 32 := Scalar.muli v12 c1_i32
  let v14 : BitVec 32 := Scalar.addi c0_i32_7 v13
  let c1_i32_9 : BitVec 32 := 1#32
  let arg15 : BitVec 32 := Scf.iv v14 c1_i32_9 k0_t9
  let c16_i32_248 : BitVec 32 := 16#32
  let v532 : BitVec 32 := Scalar.muli arg15 c16_i32_248
  let c9_i32 : BitVec 32 := 9#32
  let v533 : BitVec 32 := Scalar.addi v532 c9_i32
  let v534 : Index := Scalar.indexCast v533
  ![v534.toNat]
def k0_off128 (v551 : BitVec 32) : Fin 3 → Nat :=
  let v552 : Index := Scalar.indexCast v551
  let c0_251 : Index := 0#32
  let c0_252 : Index := 0#32
  ![v552.toNat, 0, 0]

def k0_chk29 (v551 : BitVec 32) : Prop :=
  (∀ a, (k0_off128 v551) a + S1x8x512.size a ≤ S24x8x512.size a)
theorem k0_off128_inb : ∀ (v551 : BitVec 32) (k0_hw29 : k0_chk29 v551), ∀ a, (k0_off128 v551) a + S1x8x512.size a ≤ S24x8x512.size a := fun v551 k0_hw29 => k0_hw29

def k0_off129 (v9 : BitVec 32) (k0_t9 : Fin (k0_t9_loop v9).trips) : Fin 2 → Nat :=
  let c0_i32_7 : BitVec 32 := 0#32
  let v10 : BitVec 32 := Scalar.subi v9 c0_i32_7
  let c1_i32 : BitVec 32 := 1#32
  let v12 : BitVec 32 := Scalar.divsi v10 c1_i32
  let v13 : BitVec 32 := Scalar.muli v12 c1_i32
  let v14 : BitVec 32 := Scalar.addi c0_i32_7 v13
  let c1_i32_9 : BitVec 32 := 1#32
  let arg15 : BitVec 32 := Scf.iv v14 c1_i32_9 k0_t9
  let c512_i32 : BitVec 32 := 512#32
  let v135 : BitVec 32 := Scalar.muli arg15 c512_i32
  let v136 : BitVec 32 := v135
  let c320_i32 : BitVec 32 := 320#32
  let v560 : BitVec 32 := Scalar.addi v136 c320_i32
  let v561 : Index := Scalar.indexCast v560
  let c0_255 : Index := 0#32
  ![v561.toNat, 0]
def k0_off130 (v9 : BitVec 32) (k0_t9 : Fin (k0_t9_loop v9).trips) : Fin 1 → Nat :=
  let c0_i32_7 : BitVec 32 := 0#32
  let v10 : BitVec 32 := Scalar.subi v9 c0_i32_7
  let c1_i32 : BitVec 32 := 1#32
  let v12 : BitVec 32 := Scalar.divsi v10 c1_i32
  let v13 : BitVec 32 := Scalar.muli v12 c1_i32
  let v14 : BitVec 32 := Scalar.addi c0_i32_7 v13
  let c1_i32_9 : BitVec 32 := 1#32
  let arg15 : BitVec 32 := Scf.iv v14 c1_i32_9 k0_t9
  let c16_i32_260 : BitVec 32 := 16#32
  let v574 : BitVec 32 := Scalar.muli arg15 c16_i32_260
  let c10_i32 : BitVec 32 := 10#32
  let v575 : BitVec 32 := Scalar.addi v574 c10_i32
  let v576 : Index := Scalar.indexCast v575
  ![v576.toNat]
def k0_off131 (v593 : BitVec 32) : Fin 3 → Nat :=
  let v594 : Index := Scalar.indexCast v593
  let c0_263 : Index := 0#32
  let c0_264 : Index := 0#32
  ![v594.toNat, 0, 0]

def k0_chk30 (v593 : BitVec 32) : Prop :=
  (∀ a, (k0_off131 v593) a + S1x8x512.size a ≤ S24x8x512.size a)
theorem k0_off131_inb : ∀ (v593 : BitVec 32) (k0_hw30 : k0_chk30 v593), ∀ a, (k0_off131 v593) a + S1x8x512.size a ≤ S24x8x512.size a := fun v593 k0_hw30 => k0_hw30

def k0_off132 (v9 : BitVec 32) (k0_t9 : Fin (k0_t9_loop v9).trips) : Fin 2 → Nat :=
  let c0_i32_7 : BitVec 32 := 0#32
  let v10 : BitVec 32 := Scalar.subi v9 c0_i32_7
  let c1_i32 : BitVec 32 := 1#32
  let v12 : BitVec 32 := Scalar.divsi v10 c1_i32
  let v13 : BitVec 32 := Scalar.muli v12 c1_i32
  let v14 : BitVec 32 := Scalar.addi c0_i32_7 v13
  let c1_i32_9 : BitVec 32 := 1#32
  let arg15 : BitVec 32 := Scf.iv v14 c1_i32_9 k0_t9
  let c512_i32 : BitVec 32 := 512#32
  let v135 : BitVec 32 := Scalar.muli arg15 c512_i32
  let v136 : BitVec 32 := v135
  let c352_i32 : BitVec 32 := 352#32
  let v602 : BitVec 32 := Scalar.addi v136 c352_i32
  let v603 : Index := Scalar.indexCast v602
  let c0_267 : Index := 0#32
  ![v603.toNat, 0]
def k0_off133 (v9 : BitVec 32) (k0_t9 : Fin (k0_t9_loop v9).trips) : Fin 1 → Nat :=
  let c0_i32_7 : BitVec 32 := 0#32
  let v10 : BitVec 32 := Scalar.subi v9 c0_i32_7
  let c1_i32 : BitVec 32 := 1#32
  let v12 : BitVec 32 := Scalar.divsi v10 c1_i32
  let v13 : BitVec 32 := Scalar.muli v12 c1_i32
  let v14 : BitVec 32 := Scalar.addi c0_i32_7 v13
  let c1_i32_9 : BitVec 32 := 1#32
  let arg15 : BitVec 32 := Scf.iv v14 c1_i32_9 k0_t9
  let c16_i32_272 : BitVec 32 := 16#32
  let v616 : BitVec 32 := Scalar.muli arg15 c16_i32_272
  let c11_i32 : BitVec 32 := 11#32
  let v617 : BitVec 32 := Scalar.addi v616 c11_i32
  let v618 : Index := Scalar.indexCast v617
  ![v618.toNat]
def k0_off134 (v635 : BitVec 32) : Fin 3 → Nat :=
  let v636 : Index := Scalar.indexCast v635
  let c0_275 : Index := 0#32
  let c0_276 : Index := 0#32
  ![v636.toNat, 0, 0]

def k0_chk31 (v635 : BitVec 32) : Prop :=
  (∀ a, (k0_off134 v635) a + S1x8x512.size a ≤ S24x8x512.size a)
theorem k0_off134_inb : ∀ (v635 : BitVec 32) (k0_hw31 : k0_chk31 v635), ∀ a, (k0_off134 v635) a + S1x8x512.size a ≤ S24x8x512.size a := fun v635 k0_hw31 => k0_hw31

def k0_off135 (v9 : BitVec 32) (k0_t9 : Fin (k0_t9_loop v9).trips) : Fin 2 → Nat :=
  let c0_i32_7 : BitVec 32 := 0#32
  let v10 : BitVec 32 := Scalar.subi v9 c0_i32_7
  let c1_i32 : BitVec 32 := 1#32
  let v12 : BitVec 32 := Scalar.divsi v10 c1_i32
  let v13 : BitVec 32 := Scalar.muli v12 c1_i32
  let v14 : BitVec 32 := Scalar.addi c0_i32_7 v13
  let c1_i32_9 : BitVec 32 := 1#32
  let arg15 : BitVec 32 := Scf.iv v14 c1_i32_9 k0_t9
  let c512_i32 : BitVec 32 := 512#32
  let v135 : BitVec 32 := Scalar.muli arg15 c512_i32
  let v136 : BitVec 32 := v135
  let c384_i32 : BitVec 32 := 384#32
  let v644 : BitVec 32 := Scalar.addi v136 c384_i32
  let v645 : Index := Scalar.indexCast v644
  let c0_279 : Index := 0#32
  ![v645.toNat, 0]
def k0_off136 (v9 : BitVec 32) (k0_t9 : Fin (k0_t9_loop v9).trips) : Fin 1 → Nat :=
  let c0_i32_7 : BitVec 32 := 0#32
  let v10 : BitVec 32 := Scalar.subi v9 c0_i32_7
  let c1_i32 : BitVec 32 := 1#32
  let v12 : BitVec 32 := Scalar.divsi v10 c1_i32
  let v13 : BitVec 32 := Scalar.muli v12 c1_i32
  let v14 : BitVec 32 := Scalar.addi c0_i32_7 v13
  let c1_i32_9 : BitVec 32 := 1#32
  let arg15 : BitVec 32 := Scf.iv v14 c1_i32_9 k0_t9
  let c16_i32_284 : BitVec 32 := 16#32
  let v658 : BitVec 32 := Scalar.muli arg15 c16_i32_284
  let c12_i32 : BitVec 32 := 12#32
  let v659 : BitVec 32 := Scalar.addi v658 c12_i32
  let v660 : Index := Scalar.indexCast v659
  ![v660.toNat]
def k0_off137 (v677 : BitVec 32) : Fin 3 → Nat :=
  let v678 : Index := Scalar.indexCast v677
  let c0_287 : Index := 0#32
  let c0_288 : Index := 0#32
  ![v678.toNat, 0, 0]

def k0_chk32 (v677 : BitVec 32) : Prop :=
  (∀ a, (k0_off137 v677) a + S1x8x512.size a ≤ S24x8x512.size a)
theorem k0_off137_inb : ∀ (v677 : BitVec 32) (k0_hw32 : k0_chk32 v677), ∀ a, (k0_off137 v677) a + S1x8x512.size a ≤ S24x8x512.size a := fun v677 k0_hw32 => k0_hw32

def k0_off138 (v9 : BitVec 32) (k0_t9 : Fin (k0_t9_loop v9).trips) : Fin 2 → Nat :=
  let c0_i32_7 : BitVec 32 := 0#32
  let v10 : BitVec 32 := Scalar.subi v9 c0_i32_7
  let c1_i32 : BitVec 32 := 1#32
  let v12 : BitVec 32 := Scalar.divsi v10 c1_i32
  let v13 : BitVec 32 := Scalar.muli v12 c1_i32
  let v14 : BitVec 32 := Scalar.addi c0_i32_7 v13
  let c1_i32_9 : BitVec 32 := 1#32
  let arg15 : BitVec 32 := Scf.iv v14 c1_i32_9 k0_t9
  let c512_i32 : BitVec 32 := 512#32
  let v135 : BitVec 32 := Scalar.muli arg15 c512_i32
  let v136 : BitVec 32 := v135
  let c416_i32 : BitVec 32 := 416#32
  let v686 : BitVec 32 := Scalar.addi v136 c416_i32
  let v687 : Index := Scalar.indexCast v686
  let c0_291 : Index := 0#32
  ![v687.toNat, 0]
def k0_off139 (v9 : BitVec 32) (k0_t9 : Fin (k0_t9_loop v9).trips) : Fin 1 → Nat :=
  let c0_i32_7 : BitVec 32 := 0#32
  let v10 : BitVec 32 := Scalar.subi v9 c0_i32_7
  let c1_i32 : BitVec 32 := 1#32
  let v12 : BitVec 32 := Scalar.divsi v10 c1_i32
  let v13 : BitVec 32 := Scalar.muli v12 c1_i32
  let v14 : BitVec 32 := Scalar.addi c0_i32_7 v13
  let c1_i32_9 : BitVec 32 := 1#32
  let arg15 : BitVec 32 := Scf.iv v14 c1_i32_9 k0_t9
  let c16_i32_296 : BitVec 32 := 16#32
  let v700 : BitVec 32 := Scalar.muli arg15 c16_i32_296
  let c13_i32 : BitVec 32 := 13#32
  let v701 : BitVec 32 := Scalar.addi v700 c13_i32
  let v702 : Index := Scalar.indexCast v701
  ![v702.toNat]
def k0_off140 (v719 : BitVec 32) : Fin 3 → Nat :=
  let v720 : Index := Scalar.indexCast v719
  let c0_299 : Index := 0#32
  let c0_300 : Index := 0#32
  ![v720.toNat, 0, 0]

def k0_chk33 (v719 : BitVec 32) : Prop :=
  (∀ a, (k0_off140 v719) a + S1x8x512.size a ≤ S24x8x512.size a)
theorem k0_off140_inb : ∀ (v719 : BitVec 32) (k0_hw33 : k0_chk33 v719), ∀ a, (k0_off140 v719) a + S1x8x512.size a ≤ S24x8x512.size a := fun v719 k0_hw33 => k0_hw33

def k0_off141 (v9 : BitVec 32) (k0_t9 : Fin (k0_t9_loop v9).trips) : Fin 2 → Nat :=
  let c0_i32_7 : BitVec 32 := 0#32
  let v10 : BitVec 32 := Scalar.subi v9 c0_i32_7
  let c1_i32 : BitVec 32 := 1#32
  let v12 : BitVec 32 := Scalar.divsi v10 c1_i32
  let v13 : BitVec 32 := Scalar.muli v12 c1_i32
  let v14 : BitVec 32 := Scalar.addi c0_i32_7 v13
  let c1_i32_9 : BitVec 32 := 1#32
  let arg15 : BitVec 32 := Scf.iv v14 c1_i32_9 k0_t9
  let c512_i32 : BitVec 32 := 512#32
  let v135 : BitVec 32 := Scalar.muli arg15 c512_i32
  let v136 : BitVec 32 := v135
  let c448_i32 : BitVec 32 := 448#32
  let v728 : BitVec 32 := Scalar.addi v136 c448_i32
  let v729 : Index := Scalar.indexCast v728
  let c0_303 : Index := 0#32
  ![v729.toNat, 0]
def k0_off142 (v9 : BitVec 32) (k0_t9 : Fin (k0_t9_loop v9).trips) : Fin 1 → Nat :=
  let c0_i32_7 : BitVec 32 := 0#32
  let v10 : BitVec 32 := Scalar.subi v9 c0_i32_7
  let c1_i32 : BitVec 32 := 1#32
  let v12 : BitVec 32 := Scalar.divsi v10 c1_i32
  let v13 : BitVec 32 := Scalar.muli v12 c1_i32
  let v14 : BitVec 32 := Scalar.addi c0_i32_7 v13
  let c1_i32_9 : BitVec 32 := 1#32
  let arg15 : BitVec 32 := Scf.iv v14 c1_i32_9 k0_t9
  let c16_i32_308 : BitVec 32 := 16#32
  let v742 : BitVec 32 := Scalar.muli arg15 c16_i32_308
  let c14_i32 : BitVec 32 := 14#32
  let v743 : BitVec 32 := Scalar.addi v742 c14_i32
  let v744 : Index := Scalar.indexCast v743
  ![v744.toNat]
def k0_off143 (v761 : BitVec 32) : Fin 3 → Nat :=
  let v762 : Index := Scalar.indexCast v761
  let c0_311 : Index := 0#32
  let c0_312 : Index := 0#32
  ![v762.toNat, 0, 0]

def k0_chk34 (v761 : BitVec 32) : Prop :=
  (∀ a, (k0_off143 v761) a + S1x8x512.size a ≤ S24x8x512.size a)
theorem k0_off143_inb : ∀ (v761 : BitVec 32) (k0_hw34 : k0_chk34 v761), ∀ a, (k0_off143 v761) a + S1x8x512.size a ≤ S24x8x512.size a := fun v761 k0_hw34 => k0_hw34

def k0_off144 (v9 : BitVec 32) (k0_t9 : Fin (k0_t9_loop v9).trips) : Fin 2 → Nat :=
  let c0_i32_7 : BitVec 32 := 0#32
  let v10 : BitVec 32 := Scalar.subi v9 c0_i32_7
  let c1_i32 : BitVec 32 := 1#32
  let v12 : BitVec 32 := Scalar.divsi v10 c1_i32
  let v13 : BitVec 32 := Scalar.muli v12 c1_i32
  let v14 : BitVec 32 := Scalar.addi c0_i32_7 v13
  let c1_i32_9 : BitVec 32 := 1#32
  let arg15 : BitVec 32 := Scf.iv v14 c1_i32_9 k0_t9
  let c512_i32 : BitVec 32 := 512#32
  let v135 : BitVec 32 := Scalar.muli arg15 c512_i32
  let v136 : BitVec 32 := v135
  let c480_i32 : BitVec 32 := 480#32
  let v770 : BitVec 32 := Scalar.addi v136 c480_i32
  let v771 : Index := Scalar.indexCast v770
  let c0_315 : Index := 0#32
  ![v771.toNat, 0]
def k0_off145 (v9 : BitVec 32) (k0_t9 : Fin (k0_t9_loop v9).trips) : Fin 1 → Nat :=
  let c0_i32_7 : BitVec 32 := 0#32
  let v10 : BitVec 32 := Scalar.subi v9 c0_i32_7
  let c1_i32 : BitVec 32 := 1#32
  let v12 : BitVec 32 := Scalar.divsi v10 c1_i32
  let v13 : BitVec 32 := Scalar.muli v12 c1_i32
  let v14 : BitVec 32 := Scalar.addi c0_i32_7 v13
  let c1_i32_9 : BitVec 32 := 1#32
  let arg15 : BitVec 32 := Scf.iv v14 c1_i32_9 k0_t9
  let c16_i32_320 : BitVec 32 := 16#32
  let v784 : BitVec 32 := Scalar.muli arg15 c16_i32_320
  let c15_i32 : BitVec 32 := 15#32
  let v785 : BitVec 32 := Scalar.addi v784 c15_i32
  let v786 : Index := Scalar.indexCast v785
  ![v786.toNat]

def k0_chk3_0 (v9 : BitVec 32) : Prop :=
  ((k0_t8_loop v9).OK) ∧
  (∀ k0_t8 : Fin (k0_t8_loop v9).trips, 512 ∣ (k0_mult41 v9 k0_t8).toNat) ∧
  (∀ k0_t8 : Fin (k0_t8_loop v9).trips, ∀ a, (k0_off49 v9 k0_t8) a + S512x1024.size a ≤ S22016x1024.size a) ∧
  (∀ k0_t8 : Fin (k0_t8_loop v9).trips, ∀ a, (k0_off50 v9 k0_t8) a + S32x128.size a ≤ S22016x128.size a) ∧
  (∀ k0_t8 : Fin (k0_t8_loop v9).trips, ∀ a, (k0_off51 v9 k0_t8) a + S1.size a ≤ S688.size a) ∧
  (∀ k0_t8 : Fin (k0_t8_loop v9).trips, ∀ a, (k0_off53 v9 k0_t8) a + S32x128.size a ≤ S22016x128.size a) ∧
  (∀ k0_t8 : Fin (k0_t8_loop v9).trips, ∀ a, (k0_off54 v9 k0_t8) a + S1.size a ≤ S688.size a) ∧
  (∀ k0_t8 : Fin (k0_t8_loop v9).trips, ∀ a, (k0_off56 v9 k0_t8) a + S32x128.size a ≤ S22016x128.size a) ∧
  (∀ k0_t8 : Fin (k0_t8_loop v9).trips, ∀ a, (k0_off57 v9 k0_t8) a + S1.size a ≤ S688.size a) ∧
  (∀ k0_t8 : Fin (k0_t8_loop v9).trips, ∀ a, (k0_off59 v9 k0_t8) a + S32x128.size a ≤ S22016x128.size a) ∧
  (∀ k0_t8 : Fin (k0_t8_loop v9).trips, ∀ a, (k0_off60 v9 k0_t8) a + S1.size a ≤ S688.size a) ∧
  (∀ k0_t8 : Fin (k0_t8_loop v9).trips, ∀ a, (k0_off62 v9 k0_t8) a + S32x128.size a ≤ S22016x128.size a) ∧
  (∀ k0_t8 : Fin (k0_t8_loop v9).trips, ∀ a, (k0_off63 v9 k0_t8) a + S1.size a ≤ S688.size a) ∧
  (∀ k0_t8 : Fin (k0_t8_loop v9).trips, ∀ a, (k0_off65 v9 k0_t8) a + S32x128.size a ≤ S22016x128.size a) ∧
  (∀ k0_t8 : Fin (k0_t8_loop v9).trips, ∀ a, (k0_off66 v9 k0_t8) a + S1.size a ≤ S688.size a) ∧
  (∀ k0_t8 : Fin (k0_t8_loop v9).trips, ∀ a, (k0_off68 v9 k0_t8) a + S32x128.size a ≤ S22016x128.size a) ∧
  (∀ k0_t8 : Fin (k0_t8_loop v9).trips, ∀ a, (k0_off69 v9 k0_t8) a + S1.size a ≤ S688.size a) ∧
  (∀ k0_t8 : Fin (k0_t8_loop v9).trips, ∀ a, (k0_off71 v9 k0_t8) a + S32x128.size a ≤ S22016x128.size a) ∧
  (∀ k0_t8 : Fin (k0_t8_loop v9).trips, ∀ a, (k0_off72 v9 k0_t8) a + S1.size a ≤ S688.size a) ∧
  (∀ k0_t8 : Fin (k0_t8_loop v9).trips, ∀ a, (k0_off74 v9 k0_t8) a + S32x128.size a ≤ S22016x128.size a) ∧
  (∀ k0_t8 : Fin (k0_t8_loop v9).trips, ∀ a, (k0_off75 v9 k0_t8) a + S1.size a ≤ S688.size a) ∧
  (∀ k0_t8 : Fin (k0_t8_loop v9).trips, ∀ a, (k0_off77 v9 k0_t8) a + S32x128.size a ≤ S22016x128.size a) ∧
  (∀ k0_t8 : Fin (k0_t8_loop v9).trips, ∀ a, (k0_off78 v9 k0_t8) a + S1.size a ≤ S688.size a) ∧
  (∀ k0_t8 : Fin (k0_t8_loop v9).trips, ∀ a, (k0_off80 v9 k0_t8) a + S32x128.size a ≤ S22016x128.size a) ∧
  (∀ k0_t8 : Fin (k0_t8_loop v9).trips, ∀ a, (k0_off81 v9 k0_t8) a + S1.size a ≤ S688.size a) ∧
  (∀ k0_t8 : Fin (k0_t8_loop v9).trips, ∀ a, (k0_off83 v9 k0_t8) a + S32x128.size a ≤ S22016x128.size a) ∧
  (∀ k0_t8 : Fin (k0_t8_loop v9).trips, ∀ a, (k0_off84 v9 k0_t8) a + S1.size a ≤ S688.size a) ∧
  (∀ k0_t8 : Fin (k0_t8_loop v9).trips, ∀ a, (k0_off86 v9 k0_t8) a + S32x128.size a ≤ S22016x128.size a) ∧
  (∀ k0_t8 : Fin (k0_t8_loop v9).trips, ∀ a, (k0_off87 v9 k0_t8) a + S1.size a ≤ S688.size a) ∧
  (∀ k0_t8 : Fin (k0_t8_loop v9).trips, ∀ a, (k0_off89 v9 k0_t8) a + S32x128.size a ≤ S22016x128.size a) ∧
  (∀ k0_t8 : Fin (k0_t8_loop v9).trips, ∀ a, (k0_off90 v9 k0_t8) a + S1.size a ≤ S688.size a) ∧
  (∀ k0_t8 : Fin (k0_t8_loop v9).trips, ∀ a, (k0_off92 v9 k0_t8) a + S32x128.size a ≤ S22016x128.size a)
def k0_chk3_1 (v9 : BitVec 32) : Prop :=
  (∀ k0_t8 : Fin (k0_t8_loop v9).trips, ∀ a, (k0_off93 v9 k0_t8) a + S1.size a ≤ S688.size a) ∧
  (∀ k0_t8 : Fin (k0_t8_loop v9).trips, ∀ a, (k0_off95 v9 k0_t8) a + S32x128.size a ≤ S22016x128.size a) ∧
  (∀ k0_t8 : Fin (k0_t8_loop v9).trips, ∀ a, (k0_off96 v9 k0_t8) a + S1.size a ≤ S688.size a) ∧
  ((k0_t9_loop v9).OK) ∧
  (∀ k0_t9 : Fin (k0_t9_loop v9).trips, 512 ∣ (k0_mult42 v9 k0_t9).toNat) ∧
  (∀ k0_t9 : Fin (k0_t9_loop v9).trips, ∀ a, (k0_off98 v9 k0_t9) a + S512x1024.size a ≤ S22016x1024.size a) ∧
  (∀ k0_t9 : Fin (k0_t9_loop v9).trips, ∀ a, (k0_off99 v9 k0_t9) a + S32x128.size a ≤ S22016x128.size a) ∧
  (∀ k0_t9 : Fin (k0_t9_loop v9).trips, ∀ a, (k0_off100 v9 k0_t9) a + S1.size a ≤ S688.size a) ∧
  (∀ k0_t9 : Fin (k0_t9_loop v9).trips, ∀ a, (k0_off102 v9 k0_t9) a + S32x128.size a ≤ S22016x128.size a) ∧
  (∀ k0_t9 : Fin (k0_t9_loop v9).trips, ∀ a, (k0_off103 v9 k0_t9) a + S1.size a ≤ S688.size a) ∧
  (∀ k0_t9 : Fin (k0_t9_loop v9).trips, ∀ a, (k0_off105 v9 k0_t9) a + S32x128.size a ≤ S22016x128.size a) ∧
  (∀ k0_t9 : Fin (k0_t9_loop v9).trips, ∀ a, (k0_off106 v9 k0_t9) a + S1.size a ≤ S688.size a) ∧
  (∀ k0_t9 : Fin (k0_t9_loop v9).trips, ∀ a, (k0_off108 v9 k0_t9) a + S32x128.size a ≤ S22016x128.size a) ∧
  (∀ k0_t9 : Fin (k0_t9_loop v9).trips, ∀ a, (k0_off109 v9 k0_t9) a + S1.size a ≤ S688.size a) ∧
  (∀ k0_t9 : Fin (k0_t9_loop v9).trips, ∀ a, (k0_off111 v9 k0_t9) a + S32x128.size a ≤ S22016x128.size a) ∧
  (∀ k0_t9 : Fin (k0_t9_loop v9).trips, ∀ a, (k0_off112 v9 k0_t9) a + S1.size a ≤ S688.size a) ∧
  (∀ k0_t9 : Fin (k0_t9_loop v9).trips, ∀ a, (k0_off114 v9 k0_t9) a + S32x128.size a ≤ S22016x128.size a) ∧
  (∀ k0_t9 : Fin (k0_t9_loop v9).trips, ∀ a, (k0_off115 v9 k0_t9) a + S1.size a ≤ S688.size a) ∧
  (∀ k0_t9 : Fin (k0_t9_loop v9).trips, ∀ a, (k0_off117 v9 k0_t9) a + S32x128.size a ≤ S22016x128.size a) ∧
  (∀ k0_t9 : Fin (k0_t9_loop v9).trips, ∀ a, (k0_off118 v9 k0_t9) a + S1.size a ≤ S688.size a) ∧
  (∀ k0_t9 : Fin (k0_t9_loop v9).trips, ∀ a, (k0_off120 v9 k0_t9) a + S32x128.size a ≤ S22016x128.size a) ∧
  (∀ k0_t9 : Fin (k0_t9_loop v9).trips, ∀ a, (k0_off121 v9 k0_t9) a + S1.size a ≤ S688.size a) ∧
  (∀ k0_t9 : Fin (k0_t9_loop v9).trips, ∀ a, (k0_off123 v9 k0_t9) a + S32x128.size a ≤ S22016x128.size a) ∧
  (∀ k0_t9 : Fin (k0_t9_loop v9).trips, ∀ a, (k0_off124 v9 k0_t9) a + S1.size a ≤ S688.size a) ∧
  (∀ k0_t9 : Fin (k0_t9_loop v9).trips, ∀ a, (k0_off126 v9 k0_t9) a + S32x128.size a ≤ S22016x128.size a) ∧
  (∀ k0_t9 : Fin (k0_t9_loop v9).trips, ∀ a, (k0_off127 v9 k0_t9) a + S1.size a ≤ S688.size a) ∧
  (∀ k0_t9 : Fin (k0_t9_loop v9).trips, ∀ a, (k0_off129 v9 k0_t9) a + S32x128.size a ≤ S22016x128.size a) ∧
  (∀ k0_t9 : Fin (k0_t9_loop v9).trips, ∀ a, (k0_off130 v9 k0_t9) a + S1.size a ≤ S688.size a) ∧
  (∀ k0_t9 : Fin (k0_t9_loop v9).trips, ∀ a, (k0_off132 v9 k0_t9) a + S32x128.size a ≤ S22016x128.size a) ∧
  (∀ k0_t9 : Fin (k0_t9_loop v9).trips, ∀ a, (k0_off133 v9 k0_t9) a + S1.size a ≤ S688.size a) ∧
  (∀ k0_t9 : Fin (k0_t9_loop v9).trips, ∀ a, (k0_off135 v9 k0_t9) a + S32x128.size a ≤ S22016x128.size a) ∧
  (∀ k0_t9 : Fin (k0_t9_loop v9).trips, ∀ a, (k0_off136 v9 k0_t9) a + S1.size a ≤ S688.size a)
def k0_chk3_2 (v9 : BitVec 32) : Prop :=
  (∀ k0_t9 : Fin (k0_t9_loop v9).trips, ∀ a, (k0_off138 v9 k0_t9) a + S32x128.size a ≤ S22016x128.size a) ∧
  (∀ k0_t9 : Fin (k0_t9_loop v9).trips, ∀ a, (k0_off139 v9 k0_t9) a + S1.size a ≤ S688.size a) ∧
  (∀ k0_t9 : Fin (k0_t9_loop v9).trips, ∀ a, (k0_off141 v9 k0_t9) a + S32x128.size a ≤ S22016x128.size a) ∧
  (∀ k0_t9 : Fin (k0_t9_loop v9).trips, ∀ a, (k0_off142 v9 k0_t9) a + S1.size a ≤ S688.size a) ∧
  (∀ k0_t9 : Fin (k0_t9_loop v9).trips, ∀ a, (k0_off144 v9 k0_t9) a + S32x128.size a ≤ S22016x128.size a) ∧
  (∀ k0_t9 : Fin (k0_t9_loop v9).trips, ∀ a, (k0_off145 v9 k0_t9) a + S1.size a ≤ S688.size a)
def k0_chk3 (v9 : BitVec 32) : Prop :=
  k0_chk3_0 v9 ∧
  k0_chk3_1 v9 ∧
  k0_chk3_2 v9
theorem k0_t8_ok : ∀ (v9 : BitVec 32) (k0_hw3 : k0_chk3 v9), (k0_t8_loop v9).OK := fun v9 k0_hw3 => k0_hw3.1.1
theorem k0_mult41_dvd : ∀ (v9 : BitVec 32) (k0_hw3 : k0_chk3 v9) (k0_t8 : Fin (k0_t8_loop v9).trips), 512 ∣ (k0_mult41 v9 k0_t8).toNat := fun v9 k0_hw3 k0_t8 => k0_hw3.1.2.1 k0_t8
theorem k0_off49_inb : ∀ (v9 : BitVec 32) (k0_hw3 : k0_chk3 v9) (k0_t8 : Fin (k0_t8_loop v9).trips), ∀ a, (k0_off49 v9 k0_t8) a + S512x1024.size a ≤ S22016x1024.size a := fun v9 k0_hw3 k0_t8 => k0_hw3.1.2.2.1 k0_t8
theorem k0_off50_inb : ∀ (v9 : BitVec 32) (k0_hw3 : k0_chk3 v9) (k0_t8 : Fin (k0_t8_loop v9).trips), ∀ a, (k0_off50 v9 k0_t8) a + S32x128.size a ≤ S22016x128.size a := fun v9 k0_hw3 k0_t8 => k0_hw3.1.2.2.2.1 k0_t8
theorem k0_off51_inb : ∀ (v9 : BitVec 32) (k0_hw3 : k0_chk3 v9) (k0_t8 : Fin (k0_t8_loop v9).trips), ∀ a, (k0_off51 v9 k0_t8) a + S1.size a ≤ S688.size a := fun v9 k0_hw3 k0_t8 => k0_hw3.1.2.2.2.2.1 k0_t8
theorem k0_off53_inb : ∀ (v9 : BitVec 32) (k0_hw3 : k0_chk3 v9) (k0_t8 : Fin (k0_t8_loop v9).trips), ∀ a, (k0_off53 v9 k0_t8) a + S32x128.size a ≤ S22016x128.size a := fun v9 k0_hw3 k0_t8 => k0_hw3.1.2.2.2.2.2.1 k0_t8
theorem k0_off54_inb : ∀ (v9 : BitVec 32) (k0_hw3 : k0_chk3 v9) (k0_t8 : Fin (k0_t8_loop v9).trips), ∀ a, (k0_off54 v9 k0_t8) a + S1.size a ≤ S688.size a := fun v9 k0_hw3 k0_t8 => k0_hw3.1.2.2.2.2.2.2.1 k0_t8
theorem k0_off56_inb : ∀ (v9 : BitVec 32) (k0_hw3 : k0_chk3 v9) (k0_t8 : Fin (k0_t8_loop v9).trips), ∀ a, (k0_off56 v9 k0_t8) a + S32x128.size a ≤ S22016x128.size a := fun v9 k0_hw3 k0_t8 => k0_hw3.1.2.2.2.2.2.2.2.1 k0_t8
theorem k0_off57_inb : ∀ (v9 : BitVec 32) (k0_hw3 : k0_chk3 v9) (k0_t8 : Fin (k0_t8_loop v9).trips), ∀ a, (k0_off57 v9 k0_t8) a + S1.size a ≤ S688.size a := fun v9 k0_hw3 k0_t8 => k0_hw3.1.2.2.2.2.2.2.2.2.1 k0_t8
theorem k0_off59_inb : ∀ (v9 : BitVec 32) (k0_hw3 : k0_chk3 v9) (k0_t8 : Fin (k0_t8_loop v9).trips), ∀ a, (k0_off59 v9 k0_t8) a + S32x128.size a ≤ S22016x128.size a := fun v9 k0_hw3 k0_t8 => k0_hw3.1.2.2.2.2.2.2.2.2.2.1 k0_t8
theorem k0_off60_inb : ∀ (v9 : BitVec 32) (k0_hw3 : k0_chk3 v9) (k0_t8 : Fin (k0_t8_loop v9).trips), ∀ a, (k0_off60 v9 k0_t8) a + S1.size a ≤ S688.size a := fun v9 k0_hw3 k0_t8 => k0_hw3.1.2.2.2.2.2.2.2.2.2.2.1 k0_t8
theorem k0_off62_inb : ∀ (v9 : BitVec 32) (k0_hw3 : k0_chk3 v9) (k0_t8 : Fin (k0_t8_loop v9).trips), ∀ a, (k0_off62 v9 k0_t8) a + S32x128.size a ≤ S22016x128.size a := fun v9 k0_hw3 k0_t8 => k0_hw3.1.2.2.2.2.2.2.2.2.2.2.2.1 k0_t8
theorem k0_off63_inb : ∀ (v9 : BitVec 32) (k0_hw3 : k0_chk3 v9) (k0_t8 : Fin (k0_t8_loop v9).trips), ∀ a, (k0_off63 v9 k0_t8) a + S1.size a ≤ S688.size a := fun v9 k0_hw3 k0_t8 => k0_hw3.1.2.2.2.2.2.2.2.2.2.2.2.2.1 k0_t8
theorem k0_off65_inb : ∀ (v9 : BitVec 32) (k0_hw3 : k0_chk3 v9) (k0_t8 : Fin (k0_t8_loop v9).trips), ∀ a, (k0_off65 v9 k0_t8) a + S32x128.size a ≤ S22016x128.size a := fun v9 k0_hw3 k0_t8 => k0_hw3.1.2.2.2.2.2.2.2.2.2.2.2.2.2.1 k0_t8
theorem k0_off66_inb : ∀ (v9 : BitVec 32) (k0_hw3 : k0_chk3 v9) (k0_t8 : Fin (k0_t8_loop v9).trips), ∀ a, (k0_off66 v9 k0_t8) a + S1.size a ≤ S688.size a := fun v9 k0_hw3 k0_t8 => k0_hw3.1.2.2.2.2.2.2.2.2.2.2.2.2.2.2.1 k0_t8
theorem k0_off68_inb : ∀ (v9 : BitVec 32) (k0_hw3 : k0_chk3 v9) (k0_t8 : Fin (k0_t8_loop v9).trips), ∀ a, (k0_off68 v9 k0_t8) a + S32x128.size a ≤ S22016x128.size a := fun v9 k0_hw3 k0_t8 => k0_hw3.1.2.2.2.2.2.2.2.2.2.2.2.2.2.2.2.1 k0_t8
theorem k0_off69_inb : ∀ (v9 : BitVec 32) (k0_hw3 : k0_chk3 v9) (k0_t8 : Fin (k0_t8_loop v9).trips), ∀ a, (k0_off69 v9 k0_t8) a + S1.size a ≤ S688.size a := fun v9 k0_hw3 k0_t8 => k0_hw3.1.2.2.2.2.2.2.2.2.2.2.2.2.2.2.2.2.1 k0_t8
theorem k0_off71_inb : ∀ (v9 : BitVec 32) (k0_hw3 : k0_chk3 v9) (k0_t8 : Fin (k0_t8_loop v9).trips), ∀ a, (k0_off71 v9 k0_t8) a + S32x128.size a ≤ S22016x128.size a := fun v9 k0_hw3 k0_t8 => k0_hw3.1.2.2.2.2.2.2.2.2.2.2.2.2.2.2.2.2.2.1 k0_t8
theorem k0_off72_inb : ∀ (v9 : BitVec 32) (k0_hw3 : k0_chk3 v9) (k0_t8 : Fin (k0_t8_loop v9).trips), ∀ a, (k0_off72 v9 k0_t8) a + S1.size a ≤ S688.size a := fun v9 k0_hw3 k0_t8 => k0_hw3.1.2.2.2.2.2.2.2.2.2.2.2.2.2.2.2.2.2.2.1 k0_t8
theorem k0_off74_inb : ∀ (v9 : BitVec 32) (k0_hw3 : k0_chk3 v9) (k0_t8 : Fin (k0_t8_loop v9).trips), ∀ a, (k0_off74 v9 k0_t8) a + S32x128.size a ≤ S22016x128.size a := fun v9 k0_hw3 k0_t8 => k0_hw3.1.2.2.2.2.2.2.2.2.2.2.2.2.2.2.2.2.2.2.2.1 k0_t8
theorem k0_off75_inb : ∀ (v9 : BitVec 32) (k0_hw3 : k0_chk3 v9) (k0_t8 : Fin (k0_t8_loop v9).trips), ∀ a, (k0_off75 v9 k0_t8) a + S1.size a ≤ S688.size a := fun v9 k0_hw3 k0_t8 => k0_hw3.1.2.2.2.2.2.2.2.2.2.2.2.2.2.2.2.2.2.2.2.2.1 k0_t8
theorem k0_off77_inb : ∀ (v9 : BitVec 32) (k0_hw3 : k0_chk3 v9) (k0_t8 : Fin (k0_t8_loop v9).trips), ∀ a, (k0_off77 v9 k0_t8) a + S32x128.size a ≤ S22016x128.size a := fun v9 k0_hw3 k0_t8 => k0_hw3.1.2.2.2.2.2.2.2.2.2.2.2.2.2.2.2.2.2.2.2.2.2.1 k0_t8
theorem k0_off78_inb : ∀ (v9 : BitVec 32) (k0_hw3 : k0_chk3 v9) (k0_t8 : Fin (k0_t8_loop v9).trips), ∀ a, (k0_off78 v9 k0_t8) a + S1.size a ≤ S688.size a := fun v9 k0_hw3 k0_t8 => k0_hw3.1.2.2.2.2.2.2.2.2.2.2.2.2.2.2.2.2.2.2.2.2.2.2.1 k0_t8
theorem k0_off80_inb : ∀ (v9 : BitVec 32) (k0_hw3 : k0_chk3 v9) (k0_t8 : Fin (k0_t8_loop v9).trips), ∀ a, (k0_off80 v9 k0_t8) a + S32x128.size a ≤ S22016x128.size a := fun v9 k0_hw3 k0_t8 => k0_hw3.1.2.2.2.2.2.2.2.2.2.2.2.2.2.2.2.2.2.2.2.2.2.2.2.1 k0_t8
theorem k0_off81_inb : ∀ (v9 : BitVec 32) (k0_hw3 : k0_chk3 v9) (k0_t8 : Fin (k0_t8_loop v9).trips), ∀ a, (k0_off81 v9 k0_t8) a + S1.size a ≤ S688.size a := fun v9 k0_hw3 k0_t8 => k0_hw3.1.2.2.2.2.2.2.2.2.2.2.2.2.2.2.2.2.2.2.2.2.2.2.2.2.1 k0_t8
theorem k0_off83_inb : ∀ (v9 : BitVec 32) (k0_hw3 : k0_chk3 v9) (k0_t8 : Fin (k0_t8_loop v9).trips), ∀ a, (k0_off83 v9 k0_t8) a + S32x128.size a ≤ S22016x128.size a := fun v9 k0_hw3 k0_t8 => k0_hw3.1.2.2.2.2.2.2.2.2.2.2.2.2.2.2.2.2.2.2.2.2.2.2.2.2.2.1 k0_t8
theorem k0_off84_inb : ∀ (v9 : BitVec 32) (k0_hw3 : k0_chk3 v9) (k0_t8 : Fin (k0_t8_loop v9).trips), ∀ a, (k0_off84 v9 k0_t8) a + S1.size a ≤ S688.size a := fun v9 k0_hw3 k0_t8 => k0_hw3.1.2.2.2.2.2.2.2.2.2.2.2.2.2.2.2.2.2.2.2.2.2.2.2.2.2.2.1 k0_t8
theorem k0_off86_inb : ∀ (v9 : BitVec 32) (k0_hw3 : k0_chk3 v9) (k0_t8 : Fin (k0_t8_loop v9).trips), ∀ a, (k0_off86 v9 k0_t8) a + S32x128.size a ≤ S22016x128.size a := fun v9 k0_hw3 k0_t8 => k0_hw3.1.2.2.2.2.2.2.2.2.2.2.2.2.2.2.2.2.2.2.2.2.2.2.2.2.2.2.2.1 k0_t8
theorem k0_off87_inb : ∀ (v9 : BitVec 32) (k0_hw3 : k0_chk3 v9) (k0_t8 : Fin (k0_t8_loop v9).trips), ∀ a, (k0_off87 v9 k0_t8) a + S1.size a ≤ S688.size a := fun v9 k0_hw3 k0_t8 => k0_hw3.1.2.2.2.2.2.2.2.2.2.2.2.2.2.2.2.2.2.2.2.2.2.2.2.2.2.2.2.2.1 k0_t8
theorem k0_off89_inb : ∀ (v9 : BitVec 32) (k0_hw3 : k0_chk3 v9) (k0_t8 : Fin (k0_t8_loop v9).trips), ∀ a, (k0_off89 v9 k0_t8) a + S32x128.size a ≤ S22016x128.size a := fun v9 k0_hw3 k0_t8 => k0_hw3.1.2.2.2.2.2.2.2.2.2.2.2.2.2.2.2.2.2.2.2.2.2.2.2.2.2.2.2.2.2.1 k0_t8
theorem k0_off90_inb : ∀ (v9 : BitVec 32) (k0_hw3 : k0_chk3 v9) (k0_t8 : Fin (k0_t8_loop v9).trips), ∀ a, (k0_off90 v9 k0_t8) a + S1.size a ≤ S688.size a := fun v9 k0_hw3 k0_t8 => k0_hw3.1.2.2.2.2.2.2.2.2.2.2.2.2.2.2.2.2.2.2.2.2.2.2.2.2.2.2.2.2.2.2.1 k0_t8
theorem k0_off92_inb : ∀ (v9 : BitVec 32) (k0_hw3 : k0_chk3 v9) (k0_t8 : Fin (k0_t8_loop v9).trips), ∀ a, (k0_off92 v9 k0_t8) a + S32x128.size a ≤ S22016x128.size a := fun v9 k0_hw3 k0_t8 => k0_hw3.1.2.2.2.2.2.2.2.2.2.2.2.2.2.2.2.2.2.2.2.2.2.2.2.2.2.2.2.2.2.2.2 k0_t8
theorem k0_off93_inb : ∀ (v9 : BitVec 32) (k0_hw3 : k0_chk3 v9) (k0_t8 : Fin (k0_t8_loop v9).trips), ∀ a, (k0_off93 v9 k0_t8) a + S1.size a ≤ S688.size a := fun v9 k0_hw3 k0_t8 => k0_hw3.2.1.1 k0_t8
theorem k0_off95_inb : ∀ (v9 : BitVec 32) (k0_hw3 : k0_chk3 v9) (k0_t8 : Fin (k0_t8_loop v9).trips), ∀ a, (k0_off95 v9 k0_t8) a + S32x128.size a ≤ S22016x128.size a := fun v9 k0_hw3 k0_t8 => k0_hw3.2.1.2.1 k0_t8
theorem k0_off96_inb : ∀ (v9 : BitVec 32) (k0_hw3 : k0_chk3 v9) (k0_t8 : Fin (k0_t8_loop v9).trips), ∀ a, (k0_off96 v9 k0_t8) a + S1.size a ≤ S688.size a := fun v9 k0_hw3 k0_t8 => k0_hw3.2.1.2.2.1 k0_t8
theorem k0_t9_ok : ∀ (v9 : BitVec 32) (k0_hw3 : k0_chk3 v9), (k0_t9_loop v9).OK := fun v9 k0_hw3 => k0_hw3.2.1.2.2.2.1
theorem k0_mult42_dvd : ∀ (v9 : BitVec 32) (k0_hw3 : k0_chk3 v9) (k0_t9 : Fin (k0_t9_loop v9).trips), 512 ∣ (k0_mult42 v9 k0_t9).toNat := fun v9 k0_hw3 k0_t9 => k0_hw3.2.1.2.2.2.2.1 k0_t9
theorem k0_off98_inb : ∀ (v9 : BitVec 32) (k0_hw3 : k0_chk3 v9) (k0_t9 : Fin (k0_t9_loop v9).trips), ∀ a, (k0_off98 v9 k0_t9) a + S512x1024.size a ≤ S22016x1024.size a := fun v9 k0_hw3 k0_t9 => k0_hw3.2.1.2.2.2.2.2.1 k0_t9
theorem k0_off99_inb : ∀ (v9 : BitVec 32) (k0_hw3 : k0_chk3 v9) (k0_t9 : Fin (k0_t9_loop v9).trips), ∀ a, (k0_off99 v9 k0_t9) a + S32x128.size a ≤ S22016x128.size a := fun v9 k0_hw3 k0_t9 => k0_hw3.2.1.2.2.2.2.2.2.1 k0_t9
theorem k0_off100_inb : ∀ (v9 : BitVec 32) (k0_hw3 : k0_chk3 v9) (k0_t9 : Fin (k0_t9_loop v9).trips), ∀ a, (k0_off100 v9 k0_t9) a + S1.size a ≤ S688.size a := fun v9 k0_hw3 k0_t9 => k0_hw3.2.1.2.2.2.2.2.2.2.1 k0_t9
theorem k0_off102_inb : ∀ (v9 : BitVec 32) (k0_hw3 : k0_chk3 v9) (k0_t9 : Fin (k0_t9_loop v9).trips), ∀ a, (k0_off102 v9 k0_t9) a + S32x128.size a ≤ S22016x128.size a := fun v9 k0_hw3 k0_t9 => k0_hw3.2.1.2.2.2.2.2.2.2.2.1 k0_t9
theorem k0_off103_inb : ∀ (v9 : BitVec 32) (k0_hw3 : k0_chk3 v9) (k0_t9 : Fin (k0_t9_loop v9).trips), ∀ a, (k0_off103 v9 k0_t9) a + S1.size a ≤ S688.size a := fun v9 k0_hw3 k0_t9 => k0_hw3.2.1.2.2.2.2.2.2.2.2.2.1 k0_t9
theorem k0_off105_inb : ∀ (v9 : BitVec 32) (k0_hw3 : k0_chk3 v9) (k0_t9 : Fin (k0_t9_loop v9).trips), ∀ a, (k0_off105 v9 k0_t9) a + S32x128.size a ≤ S22016x128.size a := fun v9 k0_hw3 k0_t9 => k0_hw3.2.1.2.2.2.2.2.2.2.2.2.2.1 k0_t9
theorem k0_off106_inb : ∀ (v9 : BitVec 32) (k0_hw3 : k0_chk3 v9) (k0_t9 : Fin (k0_t9_loop v9).trips), ∀ a, (k0_off106 v9 k0_t9) a + S1.size a ≤ S688.size a := fun v9 k0_hw3 k0_t9 => k0_hw3.2.1.2.2.2.2.2.2.2.2.2.2.2.1 k0_t9
theorem k0_off108_inb : ∀ (v9 : BitVec 32) (k0_hw3 : k0_chk3 v9) (k0_t9 : Fin (k0_t9_loop v9).trips), ∀ a, (k0_off108 v9 k0_t9) a + S32x128.size a ≤ S22016x128.size a := fun v9 k0_hw3 k0_t9 => k0_hw3.2.1.2.2.2.2.2.2.2.2.2.2.2.2.1 k0_t9
theorem k0_off109_inb : ∀ (v9 : BitVec 32) (k0_hw3 : k0_chk3 v9) (k0_t9 : Fin (k0_t9_loop v9).trips), ∀ a, (k0_off109 v9 k0_t9) a + S1.size a ≤ S688.size a := fun v9 k0_hw3 k0_t9 => k0_hw3.2.1.2.2.2.2.2.2.2.2.2.2.2.2.2.1 k0_t9
theorem k0_off111_inb : ∀ (v9 : BitVec 32) (k0_hw3 : k0_chk3 v9) (k0_t9 : Fin (k0_t9_loop v9).trips), ∀ a, (k0_off111 v9 k0_t9) a + S32x128.size a ≤ S22016x128.size a := fun v9 k0_hw3 k0_t9 => k0_hw3.2.1.2.2.2.2.2.2.2.2.2.2.2.2.2.2.1 k0_t9
theorem k0_off112_inb : ∀ (v9 : BitVec 32) (k0_hw3 : k0_chk3 v9) (k0_t9 : Fin (k0_t9_loop v9).trips), ∀ a, (k0_off112 v9 k0_t9) a + S1.size a ≤ S688.size a := fun v9 k0_hw3 k0_t9 => k0_hw3.2.1.2.2.2.2.2.2.2.2.2.2.2.2.2.2.2.1 k0_t9
theorem k0_off114_inb : ∀ (v9 : BitVec 32) (k0_hw3 : k0_chk3 v9) (k0_t9 : Fin (k0_t9_loop v9).trips), ∀ a, (k0_off114 v9 k0_t9) a + S32x128.size a ≤ S22016x128.size a := fun v9 k0_hw3 k0_t9 => k0_hw3.2.1.2.2.2.2.2.2.2.2.2.2.2.2.2.2.2.2.1 k0_t9
theorem k0_off115_inb : ∀ (v9 : BitVec 32) (k0_hw3 : k0_chk3 v9) (k0_t9 : Fin (k0_t9_loop v9).trips), ∀ a, (k0_off115 v9 k0_t9) a + S1.size a ≤ S688.size a := fun v9 k0_hw3 k0_t9 => k0_hw3.2.1.2.2.2.2.2.2.2.2.2.2.2.2.2.2.2.2.2.1 k0_t9
theorem k0_off117_inb : ∀ (v9 : BitVec 32) (k0_hw3 : k0_chk3 v9) (k0_t9 : Fin (k0_t9_loop v9).trips), ∀ a, (k0_off117 v9 k0_t9) a + S32x128.size a ≤ S22016x128.size a := fun v9 k0_hw3 k0_t9 => k0_hw3.2.1.2.2.2.2.2.2.2.2.2.2.2.2.2.2.2.2.2.2.1 k0_t9
theorem k0_off118_inb : ∀ (v9 : BitVec 32) (k0_hw3 : k0_chk3 v9) (k0_t9 : Fin (k0_t9_loop v9).trips), ∀ a, (k0_off118 v9 k0_t9) a + S1.size a ≤ S688.size a := fun v9 k0_hw3 k0_t9 => k0_hw3.2.1.2.2.2.2.2.2.2.2.2.2.2.2.2.2.2.2.2.2.2.1 k0_t9
theorem k0_off120_inb : ∀ (v9 : BitVec 32) (k0_hw3 : k0_chk3 v9) (k0_t9 : Fin (k0_t9_loop v9).trips), ∀ a, (k0_off120 v9 k0_t9) a + S32x128.size a ≤ S22016x128.size a := fun v9 k0_hw3 k0_t9 => k0_hw3.2.1.2.2.2.2.2.2.2.2.2.2.2.2.2.2.2.2.2.2.2.2.1 k0_t9
theorem k0_off121_inb : ∀ (v9 : BitVec 32) (k0_hw3 : k0_chk3 v9) (k0_t9 : Fin (k0_t9_loop v9).trips), ∀ a, (k0_off121 v9 k0_t9) a + S1.size a ≤ S688.size a := fun v9 k0_hw3 k0_t9 => k0_hw3.2.1.2.2.2.2.2.2.2.2.2.2.2.2.2.2.2.2.2.2.2.2.2.1 k0_t9
theorem k0_off123_inb : ∀ (v9 : BitVec 32) (k0_hw3 : k0_chk3 v9) (k0_t9 : Fin (k0_t9_loop v9).trips), ∀ a, (k0_off123 v9 k0_t9) a + S32x128.size a ≤ S22016x128.size a := fun v9 k0_hw3 k0_t9 => k0_hw3.2.1.2.2.2.2.2.2.2.2.2.2.2.2.2.2.2.2.2.2.2.2.2.2.1 k0_t9
theorem k0_off124_inb : ∀ (v9 : BitVec 32) (k0_hw3 : k0_chk3 v9) (k0_t9 : Fin (k0_t9_loop v9).trips), ∀ a, (k0_off124 v9 k0_t9) a + S1.size a ≤ S688.size a := fun v9 k0_hw3 k0_t9 => k0_hw3.2.1.2.2.2.2.2.2.2.2.2.2.2.2.2.2.2.2.2.2.2.2.2.2.2.1 k0_t9
theorem k0_off126_inb : ∀ (v9 : BitVec 32) (k0_hw3 : k0_chk3 v9) (k0_t9 : Fin (k0_t9_loop v9).trips), ∀ a, (k0_off126 v9 k0_t9) a + S32x128.size a ≤ S22016x128.size a := fun v9 k0_hw3 k0_t9 => k0_hw3.2.1.2.2.2.2.2.2.2.2.2.2.2.2.2.2.2.2.2.2.2.2.2.2.2.2.1 k0_t9
theorem k0_off127_inb : ∀ (v9 : BitVec 32) (k0_hw3 : k0_chk3 v9) (k0_t9 : Fin (k0_t9_loop v9).trips), ∀ a, (k0_off127 v9 k0_t9) a + S1.size a ≤ S688.size a := fun v9 k0_hw3 k0_t9 => k0_hw3.2.1.2.2.2.2.2.2.2.2.2.2.2.2.2.2.2.2.2.2.2.2.2.2.2.2.2.1 k0_t9
theorem k0_off129_inb : ∀ (v9 : BitVec 32) (k0_hw3 : k0_chk3 v9) (k0_t9 : Fin (k0_t9_loop v9).trips), ∀ a, (k0_off129 v9 k0_t9) a + S32x128.size a ≤ S22016x128.size a := fun v9 k0_hw3 k0_t9 => k0_hw3.2.1.2.2.2.2.2.2.2.2.2.2.2.2.2.2.2.2.2.2.2.2.2.2.2.2.2.2.1 k0_t9
theorem k0_off130_inb : ∀ (v9 : BitVec 32) (k0_hw3 : k0_chk3 v9) (k0_t9 : Fin (k0_t9_loop v9).trips), ∀ a, (k0_off130 v9 k0_t9) a + S1.size a ≤ S688.size a := fun v9 k0_hw3 k0_t9 => k0_hw3.2.1.2.2.2.2.2.2.2.2.2.2.2.2.2.2.2.2.2.2.2.2.2.2.2.2.2.2.2.1 k0_t9
theorem k0_off132_inb : ∀ (v9 : BitVec 32) (k0_hw3 : k0_chk3 v9) (k0_t9 : Fin (k0_t9_loop v9).trips), ∀ a, (k0_off132 v9 k0_t9) a + S32x128.size a ≤ S22016x128.size a := fun v9 k0_hw3 k0_t9 => k0_hw3.2.1.2.2.2.2.2.2.2.2.2.2.2.2.2.2.2.2.2.2.2.2.2.2.2.2.2.2.2.2.1 k0_t9
theorem k0_off133_inb : ∀ (v9 : BitVec 32) (k0_hw3 : k0_chk3 v9) (k0_t9 : Fin (k0_t9_loop v9).trips), ∀ a, (k0_off133 v9 k0_t9) a + S1.size a ≤ S688.size a := fun v9 k0_hw3 k0_t9 => k0_hw3.2.1.2.2.2.2.2.2.2.2.2.2.2.2.2.2.2.2.2.2.2.2.2.2.2.2.2.2.2.2.2.1 k0_t9
theorem k0_off135_inb : ∀ (v9 : BitVec 32) (k0_hw3 : k0_chk3 v9) (k0_t9 : Fin (k0_t9_loop v9).trips), ∀ a, (k0_off135 v9 k0_t9) a + S32x128.size a ≤ S22016x128.size a := fun v9 k0_hw3 k0_t9 => k0_hw3.2.1.2.2.2.2.2.2.2.2.2.2.2.2.2.2.2.2.2.2.2.2.2.2.2.2.2.2.2.2.2.2.1 k0_t9
theorem k0_off136_inb : ∀ (v9 : BitVec 32) (k0_hw3 : k0_chk3 v9) (k0_t9 : Fin (k0_t9_loop v9).trips), ∀ a, (k0_off136 v9 k0_t9) a + S1.size a ≤ S688.size a := fun v9 k0_hw3 k0_t9 => k0_hw3.2.1.2.2.2.2.2.2.2.2.2.2.2.2.2.2.2.2.2.2.2.2.2.2.2.2.2.2.2.2.2.2.2 k0_t9
theorem k0_off138_inb : ∀ (v9 : BitVec 32) (k0_hw3 : k0_chk3 v9) (k0_t9 : Fin (k0_t9_loop v9).trips), ∀ a, (k0_off138 v9 k0_t9) a + S32x128.size a ≤ S22016x128.size a := fun v9 k0_hw3 k0_t9 => k0_hw3.2.2.1 k0_t9
theorem k0_off139_inb : ∀ (v9 : BitVec 32) (k0_hw3 : k0_chk3 v9) (k0_t9 : Fin (k0_t9_loop v9).trips), ∀ a, (k0_off139 v9 k0_t9) a + S1.size a ≤ S688.size a := fun v9 k0_hw3 k0_t9 => k0_hw3.2.2.2.1 k0_t9
theorem k0_off141_inb : ∀ (v9 : BitVec 32) (k0_hw3 : k0_chk3 v9) (k0_t9 : Fin (k0_t9_loop v9).trips), ∀ a, (k0_off141 v9 k0_t9) a + S32x128.size a ≤ S22016x128.size a := fun v9 k0_hw3 k0_t9 => k0_hw3.2.2.2.2.1 k0_t9
theorem k0_off142_inb : ∀ (v9 : BitVec 32) (k0_hw3 : k0_chk3 v9) (k0_t9 : Fin (k0_t9_loop v9).trips), ∀ a, (k0_off142 v9 k0_t9) a + S1.size a ≤ S688.size a := fun v9 k0_hw3 k0_t9 => k0_hw3.2.2.2.2.2.1 k0_t9
theorem k0_off144_inb : ∀ (v9 : BitVec 32) (k0_hw3 : k0_chk3 v9) (k0_t9 : Fin (k0_t9_loop v9).trips), ∀ a, (k0_off144 v9 k0_t9) a + S32x128.size a ≤ S22016x128.size a := fun v9 k0_hw3 k0_t9 => k0_hw3.2.2.2.2.2.2.1 k0_t9
theorem k0_off145_inb : ∀ (v9 : BitVec 32) (k0_hw3 : k0_chk3 v9) (k0_t9 : Fin (k0_t9_loop v9).trips), ∀ a, (k0_off145 v9 k0_t9) a + S1.size a ≤ S688.size a := fun v9 k0_hw3 k0_t9 => k0_hw3.2.2.2.2.2.2.2 k0_t9

def k0_off146 (v803 : BitVec 32) : Fin 3 → Nat :=
  let v804 : Index := Scalar.indexCast v803
  let c0_323 : Index := 0#32
  let c0_324 : Index := 0#32
  ![v804.toNat, 0, 0]

def k0_chk35 (v803 : BitVec 32) : Prop :=
  (∀ a, (k0_off146 v803) a + S1x8x512.size a ≤ S24x8x512.size a)
theorem k0_off146_inb : ∀ (v803 : BitVec 32) (k0_hw35 : k0_chk35 v803), ∀ a, (k0_off146 v803) a + S1x8x512.size a ≤ S24x8x512.size a := fun v803 k0_hw35 => k0_hw35

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S24x7x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x1024 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S24x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S24 : Shape := ⟨1, ![24]⟩
abbrev S21504x1024 : Shape := ⟨2, ![21504, 1024]⟩
abbrev S24x896 : Shape := ⟨2, ![24, 896]⟩
abbrev S50368x1024 : Shape := ⟨2, ![50368, 1024]⟩
abbrev S50368 : Shape := ⟨1, ![50368]⟩
abbrev S24x1x1 : Shape := ⟨3, ![24, 1, 1]⟩
abbrev S24x896x1 : Shape := ⟨3, ![24, 896, 1]⟩
abbrev S1x1x50368 : Shape := ⟨3, ![1, 1, 50368]⟩
abbrev S24x50368 : Shape := ⟨2, ![24, 50368]⟩
abbrev S21504x50368 : Shape := ⟨2, ![21504, 50368]⟩
abbrev S24x896x50368 : Shape := ⟨3, ![24, 896, 50368]⟩

abbrev nBuf : Space → Nat
  | .hbm => 11
  | .vmem => 7
  | .smem => 0
  | _ => 0

abbrev bufTy : (tb : Table) → Fin (tcTables nBuf tb) → BufTy
  | .hbm, ⟨0, _⟩ => ⟨S24, .i32⟩
  | .hbm, ⟨1, _⟩ => ⟨S21504x1024, .fp8e4m3⟩
  | .hbm, ⟨2, _⟩ => ⟨S24x896, .f32⟩
  | .hbm, ⟨3, _⟩ => ⟨S50368x1024, .fp8e4m3⟩
  | .hbm, ⟨4, _⟩ => ⟨S50368, .f32⟩
  | .hbm, ⟨5, _⟩ => ⟨S50368, .f32⟩
  | .hbm, ⟨6, _⟩ => ⟨S24x1x1, .i32⟩
  | .hbm, ⟨7, _⟩ => ⟨S24x896x1, .f32⟩
  | .hbm, ⟨8, _⟩ => ⟨S1x1x50368, .f32⟩
  | .hbm, ⟨9, _⟩ => ⟨S1x1x50368, .f32⟩
  | .hbm, ⟨10, _⟩ => ⟨S24x50368, .f32⟩
  | .local _ .vmem, ⟨0, _⟩ => ⟨S24x1x1, .i32⟩
  | .local _ .vmem, ⟨1, _⟩ => ⟨S21504x1024, .fp8e4m3⟩
  | .local _ .vmem, ⟨2, _⟩ => ⟨S24x896x1, .f32⟩
  | .local _ .vmem, ⟨3, _⟩ => ⟨S50368x1024, .fp8e4m3⟩
  | .local _ .vmem, ⟨4, _⟩ => ⟨S1x1x50368, .f32⟩
  | .local _ .vmem, ⟨5, _⟩ => ⟨S1x1x50368, .f32⟩
  | .local _ .vmem, ⟨6, _⟩ => ⟨S24x50368, .f32⟩
  | _, _ => ⟨S24, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S24x1x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S21504x1024 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S24x896x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S50368x1024 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1x50368 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1x50368 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S24x50368 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Transform.lean ====
abbrev S24x896x1024 : Shape := ⟨3, ![24, 896, 1024]⟩
abbrev S24x896 : Shape := ⟨2, ![24, 896]⟩
abbrev S1024x1024 : Shape := ⟨2, ![1024, 1024]⟩
abbrev S1024 : Shape := ⟨1, ![1024]⟩
abbrev S21504x1024 : Shape := ⟨2, ![21504, 1024]⟩
abbrev S84x2x128 : Shape := ⟨3, ![84, 2, 128]⟩
abbrev S1x1024 : Shape := ⟨2, ![1, 1024]⟩
abbrev S256x1024 : Shape := ⟨2, ![256, 1024]⟩
abbrev S1x2x128 : Shape := ⟨3, ![1, 2, 128]⟩
abbrev S1x1x128 : Shape := ⟨3, ![1, 1, 128]⟩
abbrev S1x128 : Shape := ⟨2, ![1, 128]⟩
abbrev S128x128 : Shape := ⟨2, ![128, 128]⟩
abbrev S128x1024 : Shape := ⟨2, ![128, 1024]⟩
abbrev S128 : Shape := ⟨1, ![128]⟩
abbrev S128x1 : Shape := ⟨2, ![128, 1]⟩

abbrev nBuf : Space → Nat
  | .hbm => 15
  | .vmem => 13
  | .smem => 0
  | _ => 0

abbrev bufTy : (tb : Table) → Fin (tcTables nBuf tb) → BufTy
  | .hbm, ⟨0, _⟩ => ⟨S24x896x1024, .fp8e4m3⟩
  | .hbm, ⟨1, _⟩ => ⟨S24x896, .f32⟩
  | .hbm, ⟨2, _⟩ => ⟨S1024x1024, .fp8e4m3⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S21504x1024, .fp8e4m3⟩
  | .hbm, ⟨8, _⟩ => ⟨S84x2x128, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S21504x1024, .fp8e4m3⟩
  | .hbm, ⟨14, _⟩ => ⟨S84x2x128, .f32⟩
  | .local _ .vmem, ⟨0, _⟩ => ⟨S256x1024, .fp8e4m3⟩
  | .local _ .vmem, ⟨1, _⟩ => ⟨S256x1024, .fp8e4m3⟩
  | .local _ .vmem, ⟨2, _⟩ => ⟨S1x2x128, .f32⟩
  | .local _ .vmem, ⟨3, _⟩ => ⟨S1x2x128, .f32⟩
  | .local _ .vmem, ⟨4, _⟩ => ⟨S1024x1024, .fp8e4m3⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S256x1024, .fp8e4m3⟩
  | .local _ .vmem, ⟨10, _⟩ => ⟨S256x1024, .fp8e4m3⟩
  | .local _ .vmem, ⟨11, _⟩ => ⟨S1x2x128, .f32⟩
  | .local _ .vmem, ⟨12, _⟩ => ⟨S1x2x128, .f32⟩
  | _, _ => ⟨S24x896x1024, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![84], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1024 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x2x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== TransformReferenceIdeal.lean ====
abbrev S24x896x1024 : Shape := ⟨3, ![24, 896, 1024]⟩
abbrev S24x896 : Shape := ⟨2, ![24, 896]⟩
abbrev S1024x1024 : Shape := ⟨2, ![1024, 1024]⟩
abbrev S1024 : Shape := ⟨1, ![1024]⟩
abbrev S21504x1024 : Shape := ⟨2, ![21504, 1024]⟩
abbrev S21504x1 : Shape := ⟨2, ![21504, 1]⟩
abbrev S1x1024 : Shape := ⟨2, ![1, 1024]⟩
abbrev S84x2x128 : Shape := ⟨3, ![84, 2, 128]⟩
abbrev S21504 : Shape := ⟨1, ![21504]⟩

abbrev nBuf : Space → Nat
  | .hbm => 15
  | .vmem => 9
  | .smem => 0
  | _ => 0

abbrev bufTy : (tb : Table) → Fin (tcTables nBuf tb) → BufTy
  | .hbm, ⟨0, _⟩ => ⟨S24x896x1024, .fp8e4m3⟩
  | .hbm, ⟨1, _⟩ => ⟨S24x896, .f32⟩
  | .hbm, ⟨2, _⟩ => ⟨S1024x1024, .fp8e4m3⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S21504x1024, .fp8e4m3⟩
  | .hbm, ⟨8, _⟩ => ⟨S21504x1, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S21504x1024, .fp8e4m3⟩
  | .hbm, ⟨14, _⟩ => ⟨S84x2x128, .f32⟩
  | .local _ .vmem, ⟨0, _⟩ => ⟨S21504x1024, .fp8e4m3⟩
  | .local _ .vmem, ⟨1, _⟩ => ⟨S21504x1, .f32⟩
  | .local _ .vmem, ⟨2, _⟩ => ⟨S1024x1024, .fp8e4m3⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S21504x1024, .fp8e4m3⟩
  | .local _ .vmem, ⟨8, _⟩ => ⟨S84x2x128, .f32⟩
  | _, _ => ⟨S24x896x1024, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S21504x1024 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S21504x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S21504x1024 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S84x2x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Stats.lean ====
abbrev S24x50368 : Shape := ⟨2, ![24, 50368]⟩
abbrev S24x128 : Shape := ⟨2, ![24, 128]⟩
abbrev S1x50368 : Shape := ⟨2, ![1, 50368]⟩
abbrev S1x128 : Shape := ⟨2, ![1, 128]⟩
abbrev S24 : Shape := ⟨1, ![24]⟩
abbrev S24x1 : Shape := ⟨2, ![24, 1]⟩
abbrev S50368 : Shape := ⟨1, ![50368]⟩
abbrev S1 : Shape := ⟨1, ![1]⟩
abbrev S1x1 : Shape := ⟨2, ![1, 1]⟩

abbrev nBuf : Space → Nat
  | .hbm => 6
  | .vmem => 6
  | .smem => 0
  | _ => 0

abbrev bufTy : (tb : Table) → Fin (tcTables nBuf tb) → BufTy
  | .hbm, ⟨0, _⟩ => ⟨S24x50368, .f32⟩
  | .hbm, ⟨1, _⟩ => ⟨S24x50368, .i8⟩
  | .hbm, ⟨2, _⟩ => ⟨S24x128, .f32⟩
  | .hbm, ⟨3, _⟩ => ⟨S24x128, .f32⟩
  | .hbm, ⟨4, _⟩ => ⟨S1x50368, .f32⟩
  | .hbm, ⟨5, _⟩ => ⟨S1x128, .f32⟩
  | .local _ .vmem, ⟨0, _⟩ => ⟨S24x50368, .f32⟩
  | .local _ .vmem, ⟨1, _⟩ => ⟨S24x50368, .i8⟩
  | .local _ .vmem, ⟨2, _⟩ => ⟨S24x128, .f32⟩
  | .local _ .vmem, ⟨3, _⟩ => ⟨S24x128, .f32⟩
  | .local _ .vmem, ⟨4, _⟩ => ⟨S1x50368, .f32⟩
  | .local _ .vmem, ⟨5, _⟩ => ⟨S1x128, .f32⟩
  | _, _ => ⟨S24x50368, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev main_v0_3 : Ref sig .tc := ⟨.hbm, 4, rfl⟩
abbrev main_v0_4 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S24x50368 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24x50368 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S24x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S24x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x50368 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== StatsReferenceIdeal.lean ====
abbrev S24x50368 : Shape := ⟨2, ![24, 50368]⟩
abbrev S_ : Shape := ⟨0, ![]⟩
abbrev S24 : Shape := ⟨1, ![24]⟩
abbrev S24x1 : Shape := ⟨2, ![24, 1]⟩
abbrev S50368 : Shape := ⟨1, ![50368]⟩
abbrev S24x128 : Shape := ⟨2, ![24, 128]⟩
abbrev S1x50368 : Shape := ⟨2, ![1, 50368]⟩
abbrev S1 : Shape := ⟨1, ![1]⟩
abbrev S1x1 : Shape := ⟨2, ![1, 1]⟩
abbrev S1x128 : Shape := ⟨2, ![1, 128]⟩

abbrev nBuf : Space → Nat
  | .hbm => 45
  | .vmem => 0
  | .smem => 0
  | _ => 0

abbrev bufTy : (tb : Table) → Fin (tcTables nBuf tb) → BufTy
  | .hbm, ⟨0, _⟩ => ⟨S24x50368, .f32⟩
  | .hbm, ⟨1, _⟩ => ⟨S_, .f32⟩
  | .hbm, ⟨2, _⟩ => ⟨S24, .f32⟩
  | .hbm, ⟨3, _⟩ => ⟨S_, .f32⟩
  | .hbm, ⟨4, _⟩ => ⟨S24, .f32⟩
  | .hbm, ⟨5, _⟩ => ⟨S24, .i1⟩
  | .hbm, ⟨6, _⟩ => ⟨S_, .f32⟩
  | .hbm, ⟨7, _⟩ => ⟨S24, .f32⟩
  | .hbm, ⟨8, _⟩ => ⟨S24, .f32⟩
  | .hbm, ⟨9, _⟩ => ⟨S_, .f32⟩
  | .hbm, ⟨10, _⟩ => ⟨S_, .f32⟩
  | .hbm, ⟨11, _⟩ => ⟨S24, .f32⟩
  | .hbm, ⟨12, _⟩ => ⟨S24, .f32⟩
  | .hbm, ⟨13, _⟩ => ⟨S24x1, .f32⟩
  | .hbm, ⟨14, _⟩ => ⟨S24x50368, .f32⟩
  | .hbm, ⟨15, _⟩ => ⟨S24x50368, .f32⟩
  | .hbm, ⟨16, _⟩ => ⟨S24x50368, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S24x50368, .f32⟩
  | .hbm, ⟨21, _⟩ => ⟨S24x50368, .f32⟩
  | .hbm, ⟨22, _⟩ => ⟨S_, .f32⟩
  | .hbm, ⟨23, _⟩ => ⟨S24x50368, .f32⟩
  | .hbm, ⟨24, _⟩ => ⟨S24x50368, .f32⟩
  | .hbm, ⟨25, _⟩ => ⟨S24x50368, .i32⟩
  | .hbm, ⟨26, _⟩ => ⟨S24x50368, .i8⟩
  | .hbm, ⟨27, _⟩ => ⟨S_, .f32⟩
  | .hbm, ⟨28, _⟩ => ⟨S24, .f32⟩
  | .hbm, ⟨29, _⟩ => ⟨S_, .f32⟩
  | .hbm, ⟨30, _⟩ => ⟨S50368, .f32⟩
  | .hbm, ⟨31, _⟩ => ⟨S_, .f32⟩
  | .hbm, ⟨32, _⟩ => ⟨S50368, .f32⟩
  | .hbm, ⟨33, _⟩ => ⟨S50368, .f32⟩
  | .hbm, ⟨34, _⟩ => ⟨S50368, .f32⟩
  | .hbm, ⟨35, _⟩ => ⟨S_, .f32⟩
  | .hbm, ⟨36, _⟩ => ⟨S_, .f32⟩
  | .hbm, ⟨37, _⟩ => ⟨S24x1, .f32⟩
  | .hbm, ⟨38, _⟩ => ⟨S24x128, .f32⟩
  | .hbm, ⟨39, _⟩ => ⟨S24x1, .f32⟩
  | .hbm, ⟨40, _⟩ => ⟨S24x128, .f32⟩
  | .hbm, ⟨41, _⟩ => ⟨S1x50368, .f32⟩
  | .hbm, ⟨42, _⟩ => ⟨S1, .f32⟩
  | .hbm, ⟨43, _⟩ => ⟨S1x1, .f32⟩
  | .hbm, ⟨44, _⟩ => ⟨S1x128, .f32⟩
  | _, _ => ⟨S24x50368, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_cst_1 : Ref sig .tc := ⟨.hbm, 6, rfl⟩
abbrev main_v3 : Ref sig .tc := ⟨.hbm, 7, rfl⟩
abbrev main_v4 : Ref sig .tc := ⟨.hbm, 8, rfl⟩
abbrev main_cst_2 : Ref sig .tc := ⟨.hbm, 9, rfl⟩
abbrev main_call0_v0 : Ref sig .tc := ⟨.hbm, 10, rfl⟩
abbrev main_call0_v1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_cst_4 : Ref sig .tc := ⟨.hbm, 18, rfl⟩
abbrev main_call2_v0 : Ref sig .tc := ⟨.hbm, 19, rfl⟩
abbrev main_call2_v1 : Ref sig .tc := ⟨.hbm, 20, rfl⟩
abbrev main_call2_v2 : Ref sig .tc := ⟨.hbm, 21, rfl⟩
abbrev main_call2_v3 : Ref sig .tc := ⟨.hbm, 22, rfl⟩
abbrev main_call2_v4 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_5 : Ref sig .tc := ⟨.hbm, 27, rfl⟩
abbrev main_v13 : Ref sig .tc := ⟨.hbm, 28, rfl⟩
abbrev main_cst_6 : Ref sig .tc := ⟨.hbm, 29, rfl⟩
abbrev main_v14 : Ref sig .tc := ⟨.hbm, 30, rfl⟩
abbrev main_cst_7 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_8 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩

abbrev nD : Nat := 1
abbrev τ : Topo := Topo.v7x

variable {F : FTy → Type} [FloatOps F]
-- ==== Proof.Lengths.lean ====
module

public import proofs.«01_k».proof.Defs
public import proofs.«01_k».proof.Proof.Gen.Pre_lens_in_range
public import Idealize.ShloMosaic.Lib.ReduceAll
public import Idealize.ShloMosaic.Lib.StableHlo.Predicate

@[expose] public section

noncomputable section

namespace Cert.Proof

open Cert.Pre_lens_in_range Idealize.ShloMosaic

/-- The precondition, element by element: every document has at most 896 tokens (as the unsigned word it is). -/
theorem len_le {F : FTy → Type} [FloatOps F] (a0 : IVec S24 32) (a1 : FVec F S21504x1024 .fp8e4m3) (a2 : FVec F S24x896 .f32)
    (a3 : FVec F S50368x1024 .fp8e4m3) (a4 a5 : FVec F S50368 .f32)
    (h : letI := Cert.Pre_lens_in_range.Gen.facts; Cert.Pre_lens_in_range.fn (F := F) a0 a1 a2 a3 a4 a5 = fun _ => 1#1) (x : S24.Idx) : (a0 x).toNat ≤ 896 := by
  letI := Cert.Pre_lens_in_range.Gen.facts
  have e := congrFun h (fun a => a.elim0)
  have e1 := Host.reduce_andi_all _ _ _ _ _ e x
  have e2 : IntOp.andi (IntOp.cmpi .sge (a0 x) 0#32) (IntOp.cmpi .sle (a0 x) 896#32) = 1#1 := e1
  generalize a0 x = w at e2
  have h1 : (0#32).sle w = true ∧ w.sle 896#32 = true := by
    revert e2
    unfold IntOp.andi IntOp.cmpi
    cases h1 : (0#32).sle w <;> cases h2 : w.sle 896#32 <;> simp_all
  have h2 := h1.1
  have h3 := h1.2
  rw [BitVec.sle_eq_decide] at h2 h3
  have h2' := of_decide_eq_true h2
  have h3' := of_decide_eq_true h3
  have := w.isLt
  simp only [BitVec.toInt_eq_toNat_cond] at h2' h3'
  norm_num at h2' h3'
  split_ifs at h2' h3' <;> omega

end Cert.Proof
-- ==== Proof.Prog.lean ====
module

public import proofs.«01_k».proof.Proof.Gen.KernelIdeal.Skeleton

@[expose] public section

set_option maxRecDepth 16384

noncomputable section

namespace Cert.Proof.KernelIdeal

open Cert.KernelIdeal Cert.KernelIdeal.Gen
open Idealize.ShloMosaic Idealize.SL.Sem

variable {F : FTy → Type} [FloatOps F]

/-- The word a lane of a group of 32 rows is compared with: its row number. -/
abbrev rowIota : IVec S32x512 32 := iota .tc S32x512 32 [0] iota_S32x512_d0_w32

/-- The gated products of one group of 32 rows: the group's rows of the block product, scaled by the
    row scales and the column scales, the bias added, `log1p` of its positive part, and zero in the
    rows at or past the count. -/
def gatedOf (off : Fin 2 → ℕ) (hoff : S512x512.Slices off S32x512) (M : FVec F S512x512 .f32) (s : Vec F S32x128 .f32)
    (es bv : Vec F S1x512 .f32) (cnt : Elt F .i32) : FVec F S32x512 .f32 :=
  select (cmpi .slt rowIota (broadcast S32x512 cnt))
    (log1p (maximumf
      (addf
        (mulf
          (mulf (extractStridedSlice S32x512 off M hoff)
            (concatenate S32x512 1 [⟨S32x128, s⟩, ⟨S32x128, s⟩, ⟨S32x128, s⟩, ⟨S32x128, s⟩] concatenates_S32x128_S32x128_S32x128_S32x128_S32x512_d1))
          (broadcastTo S32x512 (shapeCast S1x512 es shapeCasts_S1x512_S1x512) broadcasts_S1x512_S32x512))
        (broadcastTo S32x512 (shapeCast S1x512 bv shapeCasts_S1x512_S1x512) broadcasts_S1x512_S32x512))
      (broadcast S32x512 (Scalar.ofBits .f32 0x00000000#32 : F .f32))))
    (broadcast S32x512 (Scalar.ofBits .f32 0x00000000#32 : F .f32))

/-- What one group adds to its document's accumulator row: the four quarters of its gated products. -/
def foldOf (G : FVec F S32x512 .f32) (acc : Vec F S1x8x512 .f32) : FVec F S1x8x512 .f32 :=
  shapeCast S1x8x512
    (addf (shapeCast S8x512 acc shapeCasts_S1x8x512_S8x512)
      (addf (addf (addf (extractStridedSlice S8x512 ![0, 0] G slices_S32x512_o0_0_S8x512)
          (extractStridedSlice S8x512 ![8, 0] G slices_S32x512_o8_0_S8x512))
        (extractStridedSlice S8x512 ![16, 0] G slices_S32x512_o16_0_S8x512))
        (extractStridedSlice S8x512 ![24, 0] G slices_S32x512_o24_0_S8x512)))
    shapeCasts_S8x512_S1x8x512

/-- The accumulator row of a document after a group of rows. -/
def grpUpd (off : Fin 2 → ℕ) (hoff : S512x512.Slices off S32x512) (M : FVec F S512x512 .f32) (s : Vec F S32x128 .f32)
    (es bv : Vec F S1x512 .f32) (cnt : Elt F .i32) (acc : Vec F S1x8x512 .f32) : FVec F S1x8x512 .f32 :=
  foldOf (gatedOf off hoff M s es bv cnt) acc

/-- One group of rows of the main loop: read the group's scales, the column scales and biases, the count
    and the document; add the group's gated products to the document's accumulator row. -/
def grp (arg5 arg6 : Memref sig .tc .vmem S1x512 .f32) (arg9 : Memref sig .tc .vmem S22016x128 .f32)
    (arg10 : Memref sig .tc .vmem S24x8x512 .f32) (arg11 arg12 : Memref sig .tc .smem S688 .i32)
    (o9 : Fin 2 → ℕ) (h9 : ∀ a, o9 a + S32x128.size a ≤ S22016x128.size a)
    (o1 : Fin 1 → ℕ) (h1 : ∀ a, o1 a + S1.size a ≤ S688.size a)
    (off : Fin 2 → ℕ) (hoff : S512x512.Slices off S32x512) (M : FVec F S512x512 .f32)
    (K : Prog (TpuEff nD τ sig (Elt F) Λ₀ .tc) Unit) : Prog (TpuEff nD τ sig (Elt F) Λ₀ .tc) Unit := do
  let s ← Prog.lift (.load arg9 (Rect.unit (s := S22016x128) o9 S32x128.size h9).toLoadRect (View.loadsAt_vmem h_S32x128))
  let es ← Prog.lift (.load arg5 (Rect.unit (s := S1x512) ![0, 0] S1x512.size inb_S1x512_S1x512_0_0).toLoadRect (View.loadsAt_vmem h_S1x512))
  let bv ← Prog.lift (.load arg6 (Rect.unit (s := S1x512) ![0, 0] S1x512.size inb_S1x512_S1x512_0_0).toLoadRect (View.loadsAt_vmem h_S1x512))
  let cnt : Elt F .i32 ← smemLoad arg12 (Rect.unit (s := S688) o1 S1.size h1) numel1_S1 rfl
  let doc : Elt F .i32 ← smemLoad arg11 (Rect.unit (s := S688) o1 S1.size h1) numel1_S1 rfl
  have hd : k0_chk4 doc := (← Prog.lift (TpuEff.assume (k0_chk4 doc) (k0_chk4.dec doc))).down
  let acc ← Prog.lift (.load arg10 (Rect.unit (s := S24x8x512) (k0_off52 doc) S1x8x512.size (k0_off52_inb doc hd)).toLoadRect (View.loadsAt_vmem h_S1x8x512))
  let _ ← Prog.lift (.load arg10 (Rect.unit (s := S24x8x512) (k0_off52 doc) S1x8x512.size (k0_off52_inb doc hd)).toLoadRect (View.loadsAt_vmem h_S1x8x512))
  Prog.lift (.store arg10 (Rect.unit (s := S24x8x512) (k0_off52 doc) S1x8x512.size (k0_off52_inb doc hd)) (grpUpd off hoff M s es bv cnt acc) Finset.univ (View.stores_vmem_bits_univ h_S1x8x512 rfl) (.inl rfl))
  K

/-- One trip of the main loop is its block product followed by its sixteen groups. -/
theorem t8_eq (i : grid0.Coords) (arg1 : Memref sig .tc .smem S24 .i32) (harg1 : arg1.IsWhole) (arg2 : Memref sig .tc .hbm S21504x1024 .fp8e4m3) (harg2 : arg2.IsWhole) (arg3 : Memref sig .tc .vmem S24x7x128 .f32) (harg3 : arg3.IsWhole) (arg4 : Memref sig .tc .vmem S512x1024 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S24x512 .f32) (harg7 : arg7.IsWhole) (arg8 : Memref sig .tc .vmem S22016x1024 .fp8e4m3) (harg8 : arg8.IsWhole) (arg9 : Memref sig .tc .vmem S22016x128 .f32) (harg9 : arg9.IsWhole) (arg10 : Memref sig .tc .vmem S24x8x512 .f32) (harg10 : arg10.IsWhole) (arg11 : Memref sig .tc .smem S688 .i32) (harg11 : arg11.IsWhole) (arg12 : Memref sig .tc .smem S688 .i32) (harg12 : arg12.IsWhole) (arg13 : Memref sig .tc .smem S1 .i32) (harg13 : arg13.IsWhole) (arg14 : DmaSems sig S_) (v7 : Vec F S512x1024 .fp8e4m3) (v9 : Elt F .i32) (hw3 : k0_chk3 v9)
    (k : Fin (k0_t8_loop v9).trips) :
    k0_t8_body i arg1 harg1 arg2 harg2 arg3 harg3 arg4 harg4 arg5 harg5 arg6 harg6 arg7 harg7 arg8 harg8 arg9 harg9 arg10 harg10 arg11 harg11 arg12 harg12 arg13 harg13 arg14 v7 rowIota v9 hw3 k () = (do
      let v138 ← Prog.lift (.load arg8 (Rect.unit (s := S22016x1024) (k0_off49 v9 k) S512x1024.size (k0_off49_inb v9 hw3 k)).toLoadRect (View.loadsAt_vmem h_S512x1024))
      grp arg5 arg6 arg9 arg10 arg11 arg12 (k0_off50 v9 k) (k0_off50_inb v9 hw3 k) (k0_off51 v9 k) (k0_off51_inb v9 hw3 k) ![0, 0] slices_S512x512_o0_0_S32x512 (k0_pay33 v7 v138) (
      grp arg5 arg6 arg9 arg10 arg11 arg12 (k0_off53 v9 k) (k0_off53_inb v9 hw3 k) (k0_off54 v9 k) (k0_off54_inb v9 hw3 k) ![32, 0] slices_S512x512_o32_0_S32x512 (k0_pay33 v7 v138) (
      grp arg5 arg6 arg9 arg10 arg11 arg12 (k0_off56 v9 k) (k0_off56_inb v9 hw3 k) (k0_off57 v9 k) (k0_off57_inb v9 hw3 k) ![64, 0] slices_S512x512_o64_0_S32x512 (k0_pay33 v7 v138) (
      grp arg5 arg6 arg9 arg10 arg11 arg12 (k0_off59 v9 k) (k0_off59_inb v9 hw3 k) (k0_off60 v9 k) (k0_off60_inb v9 hw3 k) ![96, 0] slices_S512x512_o96_0_S32x512 (k0_pay33 v7 v138) (
      grp arg5 arg6 arg9 arg10 arg11 arg12 (k0_off62 v9 k) (k0_off62_inb v9 hw3 k) (k0_off63 v9 k) (k0_off63_inb v9 hw3 k) ![128, 0] slices_S512x512_o128_0_S32x512 (k0_pay33 v7 v138) (
      grp arg5 arg6 arg9 arg10 arg11 arg12 (k0_off65 v9 k) (k0_off65_inb v9 hw3 k) (k0_off66 v9 k) (k0_off66_inb v9 hw3 k) ![160, 0] slices_S512x512_o160_0_S32x512 (k0_pay33 v7 v138) (
      grp arg5 arg6 arg9 arg10 arg11 arg12 (k0_off68 v9 k) (k0_off68_inb v9 hw3 k) (k0_off69 v9 k) (k0_off69_inb v9 hw3 k) ![192, 0] slices_S512x512_o192_0_S32x512 (k0_pay33 v7 v138) (
      grp arg5 arg6 arg9 arg10 arg11 arg12 (k0_off71 v9 k) (k0_off71_inb v9 hw3 k) (k0_off72 v9 k) (k0_off72_inb v9 hw3 k) ![224, 0] slices_S512x512_o224_0_S32x512 (k0_pay33 v7 v138) (
      grp arg5 arg6 arg9 arg10 arg11 arg12 (k0_off74 v9 k) (k0_off74_inb v9 hw3 k) (k0_off75 v9 k) (k0_off75_inb v9 hw3 k) ![256, 0] slices_S512x512_o256_0_S32x512 (k0_pay33 v7 v138) (
      grp arg5 arg6 arg9 arg10 arg11 arg12 (k0_off77 v9 k) (k0_off77_inb v9 hw3 k) (k0_off78 v9 k) (k0_off78_inb v9 hw3 k) ![288, 0] slices_S512x512_o288_0_S32x512 (k0_pay33 v7 v138) (
      grp arg5 arg6 arg9 arg10 arg11 arg12 (k0_off80 v9 k) (k0_off80_inb v9 hw3 k) (k0_off81 v9 k) (k0_off81_inb v9 hw3 k) ![320, 0] slices_S512x512_o320_0_S32x512 (k0_pay33 v7 v138) (
      grp arg5 arg6 arg9 arg10 arg11 arg12 (k0_off83 v9 k) (k0_off83_inb v9 hw3 k) (k0_off84 v9 k) (k0_off84_inb v9 hw3 k) ![352, 0] slices_S512x512_o352_0_S32x512 (k0_pay33 v7 v138) (
      grp arg5 arg6 arg9 arg10 arg11 arg12 (k0_off86 v9 k) (k0_off86_inb v9 hw3 k) (k0_off87 v9 k) (k0_off87_inb v9 hw3 k) ![384, 0] slices_S512x512_o384_0_S32x512 (k0_pay33 v7 v138) (
      grp arg5 arg6 arg9 arg10 arg11 arg12 (k0_off89 v9 k) (k0_off89_inb v9 hw3 k) (k0_off90 v9 k) (k0_off90_inb v9 hw3 k) ![416, 0] slices_S512x512_o416_0_S32x512 (k0_pay33 v7 v138) (
      grp arg5 arg6 arg9 arg10 arg11 arg12 (k0_off92 v9 k) (k0_off92_inb v9 hw3 k) (k0_off93 v9 k) (k0_off93_inb v9 hw3 k) ![448, 0] slices_S512x512_o448_0_S32x512 (k0_pay33 v7 v138) (
      grp arg5 arg6 arg9 arg10 arg11 arg12 (k0_off95 v9 k) (k0_off95_inb v9 hw3 k) (k0_off96 v9 k) (k0_off96_inb v9 hw3 k) ![480, 0] slices_S512x512_o480_0_S32x512 (k0_pay33 v7 v138) (
      Prog.ret ()))))))))))))))))) := rfl

/-- One quarter of a 128-wide chunk of row scales: column `128·chunk + 32·g + r` of the document's scales, in
    every lane of row `r`. -/
def scaleRows (off : Fin 2 → ℕ) (hoff : S128x128.Slices off S32x128) (v : Vec F S1x1x128 .f32) : FVec F S32x128 .f32 :=
  shapeCast S32x128 (extractStridedSlice S32x128 off (k0_pay3 v) hoff) shapeCasts_S32x128_S32x128

/-- A guarded store of 32 scale rows. -/
def zgrp {α : Type} (arg9 : Memref sig .tc .vmem S22016x128 .f32) (c : BitVec 1)
    (o9 : Fin 2 → ℕ) (h9 : c = 1#1 → ∀ a, o9 a + S32x128.size a ≤ S22016x128.size a)
    (w : FVec F S32x128 .f32) (K : Prog (TpuEff nD τ sig (Elt F) Λ₀ .tc) α) : Prog (TpuEff nD τ sig (Elt F) Λ₀ .tc) α :=
  if h : c = 1#1 then do
    let _ ← Prog.lift (.load arg9 (Rect.unit (s := S22016x128) o9 S32x128.size (h9 h)).toLoadRect (View.loadsAt_vmem h_S32x128))
    Prog.lift (.store arg9 (Rect.unit (s := S22016x128) o9 S32x128.size (h9 h)) w Finset.univ (View.stores_vmem_bits_univ h_S32x128 rfl) (.inl rfl))
    K
  else K

/-- A guarded 128-wide chunk of a document's row scales: its four guarded quarters. -/
def chunk {α : Type} (arg3 : Memref sig .tc .vmem S24x7x128 .f32) (arg9 : Memref sig .tc .vmem S22016x128 .f32)
    (c : BitVec 1) (o3 : Fin 3 → ℕ) (h3 : ∀ a, o3 a + S1x1x128.size a ≤ S24x7x128.size a)
    (c0 c1 c2 c3 : BitVec 1) (p0 p1 p2 p3 : Fin 2 → ℕ)
    (q0 : c = 1#1 → c0 = 1#1 → ∀ a, p0 a + S32x128.size a ≤ S22016x128.size a)
    (q1 : c = 1#1 → c1 = 1#1 → ∀ a, p1 a + S32x128.size a ≤ S22016x128.size a)
    (q2 : c = 1#1 → c2 = 1#1 → ∀ a, p2 a + S32x128.size a ≤ S22016x128.size a)
    (q3 : c = 1#1 → c3 = 1#1 → ∀ a, p3 a + S32x128.size a ≤ S22016x128.size a)
    (K : Prog (TpuEff nD τ sig (Elt F) Λ₀ .tc) α) : Prog (TpuEff nD τ sig (Elt F) Λ₀ .tc) α :=
  if h : c = 1#1 then do
    let v ← Prog.lift (.load arg3 (Rect.unit (s := S24x7x128) o3 S1x1x128.size h3).toLoadRect (View.loadsAt_vmem h_S1x1x128))
    zgrp arg9 c0 p0 (q0 h) (scaleRows ![0, 0] slices_S128x128_o0_0_S32x128 v) (
      zgrp arg9 c1 p1 (q1 h) (scaleRows ![32, 0] slices_S128x128_o32_0_S32x128 v) (
      zgrp arg9 c2 p2 (q2 h) (scaleRows ![64, 0] slices_S128x128_o64_0_S32x128 v) (
      zgrp arg9 c3 p3 (q3 h) (scaleRows ![96, 0] slices_S128x128_o96_0_S32x128 v) K)))
  else K

/-- One row of the result: the eight sublanes of a document's accumulator summed. -/
def outRow (arg7 : Memref sig .tc .vmem S24x512 .f32) (arg10 : Memref sig .tc .vmem S24x8x512 .f32)
    (o10 : Fin 3 → ℕ) (h10 : ∀ a, o10 a + S1x8x512.size a ≤ S24x8x512.size a)
    (o7 : Fin 2 → ℕ) (h7 : ∀ a, o7 a + S1x512.size a ≤ S24x512.size a) (K : Prog (TpuEff nD τ sig (Elt F) Λ₀ .tc) Unit) : Prog (TpuEff nD τ sig (Elt F) Λ₀ .tc) Unit := do
  let v ← Prog.lift (.load arg10 (Rect.unit (s := S24x8x512) o10 S1x8x512.size h10).toLoadRect (View.loadsAt_vmem h_S1x8x512))
  let _ ← Prog.lift (.load arg7 (Rect.unit (s := S24x512) o7 S1x512.size h7).toLoadRect (View.loadsAt_vmem h_S1x512))
  Prog.lift (.store arg7 (Rect.unit (s := S24x512) o7 S1x512.size h7) (k0_pay105 v) Finset.univ (View.stores_vmem_bits_univ h_S1x512 rfl) (.inl rfl))
  K

/-- The first part of a document's trip: its length, its groups' transfers, its first six chunks of scales. -/
theorem part1_eq (i : grid0.Coords) (arg1 : Memref sig .tc .smem S24 .i32) (harg1 : arg1.IsWhole) (arg2 : Memref sig .tc .hbm S21504x1024 .fp8e4m3) (harg2 : arg2.IsWhole) (arg3 : Memref sig .tc .vmem S24x7x128 .f32) (harg3 : arg3.IsWhole) (arg4 : Memref sig .tc .vmem S512x1024 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S24x512 .f32) (harg7 : arg7.IsWhole) (arg8 : Memref sig .tc .vmem S22016x1024 .fp8e4m3) (harg8 : arg8.IsWhole) (arg9 : Memref sig .tc .vmem S22016x128 .f32) (harg9 : arg9.IsWhole) (arg10 : Memref sig .tc .vmem S24x8x512 .f32) (harg10 : arg10.IsWhole) (arg11 : Memref sig .tc .smem S688 .i32) (harg11 : arg11.IsWhole) (arg12 : Memref sig .tc .smem S688 .i32) (harg12 : arg12.IsWhole) (arg13 : Memref sig .tc .smem S1 .i32) (harg13 : arg13.IsWhole) (arg14 : DmaSems sig S_) (h1 : k0_cond1 i = 1#1) (t1 : Fin k0_t1_loop.trips) (arg16 : BitVec 32) :
    k0_part1 (F := F) i arg1 harg1 arg2 harg2 arg3 harg3 arg4 harg4 arg5 harg5 arg6 harg6 arg7 harg7 arg8 harg8 arg9 harg9 arg10 harg10 arg11 harg11 arg12 harg12 arg13 harg13 arg14 h1 0#32 1#32 t1 arg16 = (do
      let v152 : Elt F .i32 ← smemLoad arg1 (Rect.unit (s := S24) (k0_off1 t1) S1.size (k0_off1_inb i t1 h1)) numel1_S1 rfl
      have hw1 : k0_chk1 i t1 arg16 v152 := (← Prog.lift (TpuEff.assume (k0_chk1 i t1 arg16 v152) (k0_chk1.dec i t1 arg16 v152))).down
      Scf.Loop.for (k0_t2_loop v152) (k0_t2_ok i t1 arg16 v152 hw1 h1) ⟨⟩ (k0_t2_body i arg1 harg1 arg2 harg2 arg3 harg3 arg4 harg4 arg5 harg5 arg6 harg6 arg7 harg7 arg8 harg8 arg9 harg9 arg10 harg10 arg11 harg11 arg12 harg12 arg13 harg13 arg14 h1 0#32 1#32 t1 arg16 (Scf.iv 0#32 1#32 t1) v152 hw1)
      Scf.Loop.for (k0_t3_loop v152) (k0_t3_ok i t1 arg16 v152 hw1 h1) ⟨⟩ (k0_t3_body i arg1 harg1 arg2 harg2 arg3 harg3 arg4 harg4 arg5 harg5 arg6 harg6 arg7 harg7 arg8 harg8 arg9 harg9 arg10 harg10 arg11 harg11 arg12 harg12 arg13 harg13 arg14 h1 0#32 1#32 t1 arg16 (Scf.iv 0#32 1#32 t1) v152 hw1 (Scalar.addi 0#32 (Scalar.muli (Scalar.divsi (Scalar.subi (Scalar.divsi (Scalar.addi v152 31#32) 32#32) 0#32) 1#32) 1#32)))
      chunk arg3 arg9 (k0_cond2 v152) (k0_off8 t1) (k0_off8_inb i t1 h1)
        (k0_cond3 v152) (k0_cond4 v152) (k0_cond5 v152) (k0_cond6 v152) (k0_off9 arg16) (k0_off10 arg16) (k0_off11 arg16) (k0_off12 arg16)
        (fun a b => k0_off9_inb i t1 arg16 v152 hw1 h1 a b) (fun a b => k0_off10_inb i t1 arg16 v152 hw1 h1 a b) (fun a b => k0_off11_inb i t1 arg16 v152 hw1 h1 a b) (fun a b => k0_off12_inb i t1 arg16 v152 hw1 h1 a b) (
      chunk arg3 arg9 (k0_cond7 v152) (k0_off13 t1) (k0_off13_inb i t1 h1)
        (k0_cond8 v152) (k0_cond9 v152) (k0_cond10 v152) (k0_cond11 v152) (k0_off14 arg16) (k0_off15 arg16) (k0_off16 arg16) (k0_off17 arg16)
        (fun a b => k0_off14_inb i t1 arg16 v152 hw1 h1 a b) (fun a b => k0_off15_inb i t1 arg16 v152 hw1 h1 a b) (fun a b => k0_off16_inb i t1 arg16 v152 hw1 h1 a b) (fun a b => k0_off17_inb i t1 arg16 v152 hw1 h1 a b) (
      chunk arg3 arg9 (k0_cond12 v152) (k0_off18 t1) (k0_off18_inb i t1 h1)
        (k0_cond13 v152) (k0_cond14 v152) (k0_cond15 v152) (k0_cond16 v152) (k0_off19 arg16) (k0_off20 arg16) (k0_off21 arg16) (k0_off22 arg16)
        (fun a b => k0_off19_inb i t1 arg16 v152 hw1 h1 a b) (fun a b => k0_off20_inb i t1 arg16 v152 hw1 h1 a b) (fun a b => k0_off21_inb i t1 arg16 v152 hw1 h1 a b) (fun a b => k0_off22_inb i t1 arg16 v152 hw1 h1 a b) (
      chunk arg3 arg9 (k0_cond17 v152) (k0_off23 t1) (k0_off23_inb i t1 h1)
        (k0_cond18 v152) (k0_cond19 v152) (k0_cond20 v152) (k0_cond21 v152) (k0_off24 arg16) (k0_off25 arg16) (k0_off26 arg16) (k0_off27 arg16)
        (fun a b => k0_off24_inb i t1 arg16 v152 hw1 h1 a b) (fun a b => k0_off25_inb i t1 arg16 v152 hw1 h1 a b) (fun a b => k0_off26_inb i t1 arg16 v152 hw1 h1 a b) (fun a b => k0_off27_inb i t1 arg16 v152 hw1 h1 a b) (
      chunk arg3 arg9 (k0_cond22 v152) (k0_off28 t1) (k0_off28_inb i t1 h1)
        (k0_cond23 v152) (k0_cond24 v152) (k0_cond25 v152) (k0_cond26 v152) (k0_off29 arg16) (k0_off30 arg16) (k0_off31 arg16) (k0_off32 arg16)
        (fun a b => k0_off29_inb i t1 arg16 v152 hw1 h1 a b) (fun a b => k0_off30_inb i t1 arg16 v152 hw1 h1 a b) (fun a b => k0_off31_inb i t1 arg16 v152 hw1 h1 a b) (fun a b => k0_off32_inb i t1 arg16 v152 hw1 h1 a b) (
      chunk arg3 arg9 (k0_cond27 v152) (k0_off33 t1) (k0_off33_inb i t1 h1)
        (k0_cond28 v152) (k0_cond29 v152) (k0_cond30 v152) (k0_cond31 v152) (k0_off34 arg16) (k0_off35 arg16) (k0_off36 arg16) (k0_off37 arg16)
        (fun a b => k0_off34_inb i t1 arg16 v152 hw1 h1 a b) (fun a b => k0_off35_inb i t1 arg16 v152 hw1 h1 a b) (fun a b => k0_off36_inb i t1 arg16 v152 hw1 h1 a b) (fun a b => k0_off37_inb i t1 arg16 v152 hw1 h1 a b) (
      Prog.ret ⟨Scf.iv 0#32 1#32 t1, v152, hw1, Scalar.divsi (Scalar.addi v152 31#32) 32#32, Scalar.extui (Scalar.cmpi .sgt v152 768#32), 0#32⟩))))))) := rfl

/-- A document's trip is its first part followed by its last chunk of scales; it carries the group counter on. -/
theorem t1_eq (i : grid0.Coords) (arg1 : Memref sig .tc .smem S24 .i32) (harg1 : arg1.IsWhole) (arg2 : Memref sig .tc .hbm S21504x1024 .fp8e4m3) (harg2 : arg2.IsWhole) (arg3 : Memref sig .tc .vmem S24x7x128 .f32) (harg3 : arg3.IsWhole) (arg4 : Memref sig .tc .vmem S512x1024 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S24x512 .f32) (harg7 : arg7.IsWhole) (arg8 : Memref sig .tc .vmem S22016x1024 .fp8e4m3) (harg8 : arg8.IsWhole) (arg9 : Memref sig .tc .vmem S22016x128 .f32) (harg9 : arg9.IsWhole) (arg10 : Memref sig .tc .vmem S24x8x512 .f32) (harg10 : arg10.IsWhole) (arg11 : Memref sig .tc .smem S688 .i32) (harg11 : arg11.IsWhole) (arg12 : Memref sig .tc .smem S688 .i32) (harg12 : arg12.IsWhole) (arg13 : Memref sig .tc .smem S1 .i32) (harg13 : arg13.IsWhole) (arg14 : DmaSems sig S_) (h1 : k0_cond1 i = 1#1) (t1 : Fin k0_t1_loop.trips) (arg16 : BitVec 32) :
    k0_t1_body (F := F) i arg1 harg1 arg2 harg2 arg3 harg3 arg4 harg4 arg5 harg5 arg6 harg6 arg7 harg7 arg8 harg8 arg9 harg9 arg10 harg10 arg11 harg11 arg12 harg12 arg13 harg13 arg14 h1 t1 arg16 = (do
      let ⟨arg15, v152, hw1, v154, v179, _⟩ ← k0_part1 (F := F) i arg1 harg1 arg2 harg2 arg3 harg3 arg4 harg4 arg5 harg5 arg6 harg6 arg7 harg7 arg8 harg8 arg9 harg9 arg10 harg10 arg11 harg11 arg12 harg12 arg13 harg13 arg14 h1 0#32 1#32 t1 arg16
      chunk arg3 arg9 (k0_cond32 v152) (k0_off38 t1) (k0_off38_inb i t1 h1)
        (k0_cond33 v152) (k0_cond34 v152) (k0_cond35 v152) (k0_cond36 v152) (k0_off39 arg16) (k0_off40 arg16) (k0_off41 arg16) (k0_off42 arg16)
        (fun a b => k0_off39_inb i t1 arg16 v152 hw1 h1 a b) (fun a b => k0_off40_inb i t1 arg16 v152 hw1 h1 a b) (fun a b => k0_off41_inb i t1 arg16 v152 hw1 h1 a b) (fun a b => k0_off42_inb i t1 arg16 v152 hw1 h1 a b) (
      Prog.ret (Scalar.addi arg16 v154))) := rfl

/-- What a grid point does after the first point's preparation: clear the accumulator, run the main loop, write the
    result's first two rows. -/
def mainP (i : grid0.Coords) (arg1 : Memref sig .tc .smem S24 .i32) (harg1 : arg1.IsWhole) (arg2 : Memref sig .tc .hbm S21504x1024 .fp8e4m3) (harg2 : arg2.IsWhole) (arg3 : Memref sig .tc .vmem S24x7x128 .f32) (harg3 : arg3.IsWhole) (arg4 : Memref sig .tc .vmem S512x1024 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S24x512 .f32) (harg7 : arg7.IsWhole) (arg8 : Memref sig .tc .vmem S22016x1024 .fp8e4m3) (harg8 : arg8.IsWhole) (arg9 : Memref sig .tc .vmem S22016x128 .f32) (harg9 : arg9.IsWhole) (arg10 : Memref sig .tc .vmem S24x8x512 .f32) (harg10 : arg10.IsWhole) (arg11 : Memref sig .tc .smem S688 .i32) (harg11 : arg11.IsWhole) (arg12 : Memref sig .tc .smem S688 .i32) (harg12 : arg12.IsWhole) (arg13 : Memref sig .tc .smem S1 .i32) (harg13 : arg13.IsWhole) (arg14 : DmaSems sig S_) : Prog (TpuEff nD τ sig (Elt F) Λ₀ .tc) Unit := do
  let _ ← Prog.lift (.load arg10 (Rect.unit (s := S24x8x512) ![0, 0, 0] S24x8x512.size inb_S24x8x512_S24x8x512_0_0_0).toLoadRect (View.loadsAt_vmem h_S24x8x512))
  Prog.lift (.store arg10 (Rect.unit (s := S24x8x512) ![0, 0, 0] S24x8x512.size inb_S24x8x512_S24x8x512_0_0_0) (k0_pay102 (F := F)) Finset.univ (View.stores_vmem_bits_univ h_S24x8x512 rfl) (.inl rfl))
  let v7 : Vec F S512x1024 .fp8e4m3 ← Prog.lift (.load arg4 (Rect.unit (s := S512x1024) ![0, 0] S512x1024.size inb_S512x1024_S512x1024_0_0).toLoadRect (View.loadsAt_vmem h_S512x1024))
  let v9 : Elt F .i32 ← smemLoad arg13 (Rect.unit (s := S1) ![0] S1.size inb_S1_S1_0) numel1_S1 rfl
  have hw3 : k0_chk3 v9 := (← Prog.lift (TpuEff.assume (k0_chk3 v9) (k0_chk3.dec v9))).down
  Scf.Loop.for (k0_t8_loop v9) (k0_t8_ok v9 hw3) ⟨⟩ (k0_t8_body i arg1 harg1 arg2 harg2 arg3 harg3 arg4 harg4 arg5 harg5 arg6 harg6 arg7 harg7 arg8 harg8 arg9 harg9 arg10 harg10 arg11 harg11 arg12 harg12 arg13 harg13 arg14 v7 rowIota v9 hw3)
  Scf.Loop.for (k0_t9_loop v9) (k0_t9_ok v9 hw3) ⟨⟩ (k0_t9_body i arg1 harg1 arg2 harg2 arg3 harg3 arg4 harg4 arg5 harg5 arg6 harg6 arg7 harg7 arg8 harg8 arg9 harg9 arg10 harg10 arg11 harg11 arg12 harg12 arg13 harg13 arg14 v7 rowIota v9 hw3 (Scalar.addi 0#32 (Scalar.muli (Scalar.divsi (Scalar.subi v9 0#32) 1#32) 1#32)))
  outRow arg7 arg10 ![0, 0, 0] inb_S24x8x512_S1x8x512_0_0_0 ![0, 0] inb_S24x512_S1x512_0_0 (
  outRow arg7 arg10 ![1, 0, 0] inb_S24x8x512_S1x8x512_1_0_0 ![1, 0] inb_S24x512_S1x512_1_0 (Prog.ret ()))

/-- The end of the first point's preparation: the padding groups and the waits. -/
def padP (i : grid0.Coords) (arg1 : Memref sig .tc .smem S24 .i32) (harg1 : arg1.IsWhole) (arg2 : Memref sig .tc .hbm S21504x1024 .fp8e4m3) (harg2 : arg2.IsWhole) (arg3 : Memref sig .tc .vmem S24x7x128 .f32) (harg3 : arg3.IsWhole) (arg4 : Memref sig .tc .vmem S512x1024 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S24x512 .f32) (harg7 : arg7.IsWhole) (arg8 : Memref sig .tc .vmem S22016x1024 .fp8e4m3) (harg8 : arg8.IsWhole) (arg9 : Memref sig .tc .vmem S22016x128 .f32) (harg9 : arg9.IsWhole) (arg10 : Memref sig .tc .vmem S24x8x512 .f32) (harg10 : arg10.IsWhole) (arg11 : Memref sig .tc .smem S688 .i32) (harg11 : arg11.IsWhole) (arg12 : Memref sig .tc .smem S688 .i32) (harg12 : arg12.IsWhole) (arg13 : Memref sig .tc .smem S1 .i32) (harg13 : arg13.IsWhole) (arg14 : DmaSems sig S_) (h1 : k0_cond1 i = 1#1) (v136 : BitVec 32) (hw2 : k0_chk2 i v136) (K : Prog (TpuEff nD τ sig (Elt F) Λ₀ .tc) Unit) : Prog (TpuEff nD τ sig (Elt F) Λ₀ .tc) Unit := do
  Scf.Loop.for (k0_t4_loop v136) (k0_t4_ok i v136 hw2 h1) ⟨⟩ (k0_t4_body i arg1 harg1 arg2 harg2 arg3 harg3 arg4 harg4 arg5 harg5 arg6 harg6 arg7 harg7 arg8 harg8 arg9 harg9 arg10 harg10 arg11 harg11 arg12 harg12 arg13 harg13 arg14 h1 v136 hw2)
  Scf.Loop.for (k0_t5_loop v136) (k0_t5_ok i v136 hw2 h1) ⟨⟩ (k0_t5_body i arg1 harg1 arg2 harg2 arg3 harg3 arg4 harg4 arg5 harg5 arg6 harg6 arg7 harg7 arg8 harg8 arg9 harg9 arg10 harg10 arg11 harg11 arg12 harg12 arg13 harg13 arg14 h1 v136 hw2)
  Scf.Loop.for (k0_t6_loop v136) (k0_t6_ok i v136 hw2 h1) ⟨⟩ (k0_t6_body i arg1 harg1 arg2 harg2 arg3 harg3 arg4 harg4 arg5 harg5 arg6 harg6 arg7 harg7 arg8 harg8 arg9 harg9 arg10 harg10 arg11 harg11 arg12 harg12 arg13 harg13 arg14 h1 v136 hw2)
  Scf.Loop.for (k0_t7_loop v136) (k0_t7_ok i v136 hw2 h1) ⟨⟩ (k0_t7_body i arg1 harg1 arg2 harg2 arg3 harg3 arg4 harg4 arg5 harg5 arg6 harg6 arg7 harg7 arg8 harg8 arg9 harg9 arg10 harg10 arg11 harg11 arg12 harg12 arg13 harg13 arg14 h1 v136 hw2)
  K

/-- The number of blocks `(n + 15) / 16` is stored. -/
def putP {α : Type} (arg13 : Memref sig .tc .smem S1 .i32) (v136 : BitVec 32) (K : Prog (TpuEff nD τ sig (Elt F) Λ₀ .tc) α) : Prog (TpuEff nD τ sig (Elt F) Λ₀ .tc) α := do
  let _ : Elt F .i32 ← smemLoad arg13 (Rect.unit (s := S1) ![0] S1.size inb_S1_S1_0) numel1_S1 rfl
  Prog.lift (.store arg13 (Rect.unit (s := S1) ![0] S1.size inb_S1_S1_0) (fun _ => Scalar.divsi (Scalar.addi v136 15#32) 16#32) Finset.univ (View.stores_smem_one rfl numel1_S1) (.inl rfl))
  K

/-- The preparation after the documents: the number of blocks is stored, the padding follows. -/
def cntP (i : grid0.Coords) (arg1 : Memref sig .tc .smem S24 .i32) (harg1 : arg1.IsWhole) (arg2 : Memref sig .tc .hbm S21504x1024 .fp8e4m3) (harg2 : arg2.IsWhole) (arg3 : Memref sig .tc .vmem S24x7x128 .f32) (harg3 : arg3.IsWhole) (arg4 : Memref sig .tc .vmem S512x1024 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S24x512 .f32) (harg7 : arg7.IsWhole) (arg8 : Memref sig .tc .vmem S22016x1024 .fp8e4m3) (harg8 : arg8.IsWhole) (arg9 : Memref sig .tc .vmem S22016x128 .f32) (harg9 : arg9.IsWhole) (arg10 : Memref sig .tc .vmem S24x8x512 .f32) (harg10 : arg10.IsWhole) (arg11 : Memref sig .tc .smem S688 .i32) (harg11 : arg11.IsWhole) (arg12 : Memref sig .tc .smem S688 .i32) (harg12 : arg12.IsWhole) (arg13 : Memref sig .tc .smem S1 .i32) (harg13 : arg13.IsWhole) (arg14 : DmaSems sig S_) (h1 : k0_cond1 i = 1#1) (v136 : BitVec 32) (K : Prog (TpuEff nD τ sig (Elt F) Λ₀ .tc) Unit) : Prog (TpuEff nD τ sig (Elt F) Λ₀ .tc) Unit := do
  have hw2 : k0_chk2 i v136 := (← Prog.lift (TpuEff.assume (k0_chk2 i v136) (k0_chk2.dec i v136))).down
  putP arg13 v136 (padP i arg1 harg1 arg2 harg2 arg3 harg3 arg4 harg4 arg5 harg5 arg6 harg6 arg7 harg7 arg8 harg8 arg9 harg9 arg10 harg10 arg11 harg11 arg12 harg12 arg13 harg13 arg14 h1 v136 hw2 K)

/-- The first point's preparation: every document's groups, the padding groups, the waits. -/
def initP (i : grid0.Coords) (arg1 : Memref sig .tc .smem S24 .i32) (harg1 : arg1.IsWhole) (arg2 : Memref sig .tc .hbm S21504x1024 .fp8e4m3) (harg2 : arg2.IsWhole) (arg3 : Memref sig .tc .vmem S24x7x128 .f32) (harg3 : arg3.IsWhole) (arg4 : Memref sig .tc .vmem S512x1024 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S24x512 .f32) (harg7 : arg7.IsWhole) (arg8 : Memref sig .tc .vmem S22016x1024 .fp8e4m3) (harg8 : arg8.IsWhole) (arg9 : Memref sig .tc .vmem S22016x128 .f32) (harg9 : arg9.IsWhole) (arg10 : Memref sig .tc .vmem S24x8x512 .f32) (harg10 : arg10.IsWhole) (arg11 : Memref sig .tc .smem S688 .i32) (harg11 : arg11.IsWhole) (arg12 : Memref sig .tc .smem S688 .i32) (harg12 : arg12.IsWhole) (arg13 : Memref sig .tc .smem S1 .i32) (harg13 : arg13.IsWhole) (arg14 : DmaSems sig S_) (h1 : k0_cond1 i = 1#1) (K : Prog (TpuEff nD τ sig (Elt F) Λ₀ .tc) Unit) : Prog (TpuEff nD τ sig (Elt F) Λ₀ .tc) Unit := do
  let v136 : BitVec 32 ← Scf.Loop.for k0_t1_loop (k0_t1_ok i h1) 0#32 (k0_t1_body i arg1 harg1 arg2 harg2 arg3 harg3 arg4 harg4 arg5 harg5 arg6 harg6 arg7 harg7 arg8 harg8 arg9 harg9 arg10 harg10 arg11 harg11 arg12 harg12 arg13 harg13 arg14 h1)
  cntP i arg1 harg1 arg2 harg2 arg3 harg3 arg4 harg4 arg5 harg5 arg6 harg6 arg7 harg7 arg8 harg8 arg9 harg9 arg10 harg10 arg11 harg11 arg12 harg12 arg13 harg13 arg14 h1 v136 K

/-- This part of the kernel, in the form the proof runs. -/
theorem part32_eq (i : grid0.Coords) (arg1 : Memref sig .tc .smem S24 .i32) (harg1 : arg1.IsWhole) (arg2 : Memref sig .tc .hbm S21504x1024 .fp8e4m3) (harg2 : arg2.IsWhole) (arg3 : Memref sig .tc .vmem S24x7x128 .f32) (harg3 : arg3.IsWhole) (arg4 : Memref sig .tc .vmem S512x1024 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S24x512 .f32) (harg7 : arg7.IsWhole) (arg8 : Memref sig .tc .vmem S22016x1024 .fp8e4m3) (harg8 : arg8.IsWhole) (arg9 : Memref sig .tc .vmem S22016x128 .f32) (harg9 : arg9.IsWhole) (arg10 : Memref sig .tc .vmem S24x8x512 .f32) (harg10 : arg10.IsWhole) (arg11 : Memref sig .tc .smem S688 .i32) (harg11 : arg11.IsWhole) (arg12 : Memref sig .tc .smem S688 .i32) (harg12 : arg12.IsWhole) (arg13 : Memref sig .tc .smem S1 .i32) (harg13 : arg13.IsWhole) (arg14 : DmaSems sig S_) :
    k0_part32 (F := F) i arg1 harg1 arg2 harg2 arg3 harg3 arg4 harg4 arg5 harg5 arg6 harg6 arg7 harg7 arg8 harg8 arg9 harg9 arg10 harg10 arg11 harg11 arg12 harg12 arg13 harg13 arg14 = (if h1 : k0_cond1 i = 1#1 then initP i arg1 harg1 arg2 harg2 arg3 harg3 arg4 harg4 arg5 harg5 arg6 harg6 arg7 harg7 arg8 harg8 arg9 harg9 arg10 harg10 arg11 harg11 arg12 harg12 arg13 harg13 arg14 h1 (mainP i arg1 harg1 arg2 harg2 arg3 harg3 arg4 harg4 arg5 harg5 arg6 harg6 arg7 harg7 arg8 harg8 arg9 harg9 arg10 harg10 arg11 harg11 arg12 harg12 arg13 harg13 arg14) else mainP i arg1 harg1 arg2 harg2 arg3 harg3 arg4 harg4 arg5 harg5 arg6 harg6 arg7 harg7 arg8 harg8 arg9 harg9 arg10 harg10 arg11 harg11 arg12 harg12 arg13 harg13 arg14) := rfl

/-- The rest of the result's rows. -/
def tailP (arg7 : Memref sig .tc .vmem S24x512 .f32) (arg10 : Memref sig .tc .vmem S24x8x512 .f32) : Prog (TpuEff nD τ sig (Elt F) Λ₀ .tc) Unit :=
  outRow arg7 arg10 ![2, 0, 0] inb_S24x8x512_S1x8x512_2_0_0 ![2, 0] inb_S24x512_S1x512_2_0 (
  outRow arg7 arg10 ![3, 0, 0] inb_S24x8x512_S1x8x512_3_0_0 ![3, 0] inb_S24x512_S1x512_3_0 (
  outRow arg7 arg10 ![4, 0, 0] inb_S24x8x512_S1x8x512_4_0_0 ![4, 0] inb_S24x512_S1x512_4_0 (
  outRow arg7 arg10 ![5, 0, 0] inb_S24x8x512_S1x8x512_5_0_0 ![5, 0] inb_S24x512_S1x512_5_0 (
  outRow arg7 arg10 ![6, 0, 0] inb_S24x8x512_S1x8x512_6_0_0 ![6, 0] inb_S24x512_S1x512_6_0 (
  outRow arg7 arg10 ![7, 0, 0] inb_S24x8x512_S1x8x512_7_0_0 ![7, 0] inb_S24x512_S1x512_7_0 (
  outRow arg7 arg10 ![8, 0, 0] inb_S24x8x512_S1x8x512_8_0_0 ![8, 0] inb_S24x512_S1x512_8_0 (
  outRow arg7 arg10 ![9, 0, 0] inb_S24x8x512_S1x8x512_9_0_0 ![9, 0] inb_S24x512_S1x512_9_0 (
  outRow arg7 arg10 ![10, 0, 0] inb_S24x8x512_S1x8x512_10_0_0 ![10, 0] inb_S24x512_S1x512_10_0 (
  outRow arg7 arg10 ![11, 0, 0] inb_S24x8x512_S1x8x512_11_0_0 ![11, 0] inb_S24x512_S1x512_11_0 (
  outRow arg7 arg10 ![12, 0, 0] inb_S24x8x512_S1x8x512_12_0_0 ![12, 0] inb_S24x512_S1x512_12_0 (
  outRow arg7 arg10 ![13, 0, 0] inb_S24x8x512_S1x8x512_13_0_0 ![13, 0] inb_S24x512_S1x512_13_0 (
  outRow arg7 arg10 ![14, 0, 0] inb_S24x8x512_S1x8x512_14_0_0 ![14, 0] inb_S24x512_S1x512_14_0 (
  outRow arg7 arg10 ![15, 0, 0] inb_S24x8x512_S1x8x512_15_0_0 ![15, 0] inb_S24x512_S1x512_15_0 (
  outRow arg7 arg10 ![16, 0, 0] inb_S24x8x512_S1x8x512_16_0_0 ![16, 0] inb_S24x512_S1x512_16_0 (
  outRow arg7 arg10 ![17, 0, 0] inb_S24x8x512_S1x8x512_17_0_0 ![17, 0] inb_S24x512_S1x512_17_0 (
  outRow arg7 arg10 ![18, 0, 0] inb_S24x8x512_S1x8x512_18_0_0 ![18, 0] inb_S24x512_S1x512_18_0 (
  outRow arg7 arg10 ![19, 0, 0] inb_S24x8x512_S1x8x512_19_0_0 ![19, 0] inb_S24x512_S1x512_19_0 (
  outRow arg7 arg10 ![20, 0, 0] inb_S24x8x512_S1x8x512_20_0_0 ![20, 0] inb_S24x512_S1x512_20_0 (
  outRow arg7 arg10 ![21, 0, 0] inb_S24x8x512_S1x8x512_21_0_0 ![21, 0] inb_S24x512_S1x512_21_0 (
  outRow arg7 arg10 ![22, 0, 0] inb_S24x8x512_S1x8x512_22_0_0 ![22, 0] inb_S24x512_S1x512_22_0 (
  outRow arg7 arg10 ![23, 0, 0] inb_S24x8x512_S1x8x512_23_0_0 ![23, 0] inb_S24x512_S1x512_23_0 (
  Prog.ret ()))))))))))))))))))))))

/-- The pooling kernel, in the form the proof runs. -/
theorem pool_eq (i : grid0.Coords) (arg1 : Memref sig .tc .smem S24 .i32) (harg1 : arg1.IsWhole) (arg2 : Memref sig .tc .hbm S21504x1024 .fp8e4m3) (harg2 : arg2.IsWhole) (arg3 : Memref sig .tc .vmem S24x7x128 .f32) (harg3 : arg3.IsWhole) (arg4 : Memref sig .tc .vmem S512x1024 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S24x512 .f32) (harg7 : arg7.IsWhole) (arg8 : Memref sig .tc .vmem S22016x1024 .fp8e4m3) (harg8 : arg8.IsWhole) (arg9 : Memref sig .tc .vmem S22016x128 .f32) (harg9 : arg9.IsWhole) (arg10 : Memref sig .tc .vmem S24x8x512 .f32) (harg10 : arg10.IsWhole) (arg11 : Memref sig .tc .smem S688 .i32) (harg11 : arg11.IsWhole) (arg12 : Memref sig .tc .smem S688 .i32) (harg12 : arg12.IsWhole) (arg13 : Memref sig .tc .smem S1 .i32) (harg13 : arg13.IsWhole) (arg14 : DmaSems sig S_) :
    cc0_pool (F := F) i arg1 harg1 arg2 harg2 arg3 harg3 arg4 harg4 arg5 harg5 arg6 harg6 arg7 harg7 arg8 harg8 arg9 harg9 arg10 harg10 arg11 harg11 arg12 harg12 arg13 harg13 arg14 = (k0_part32 i arg1 harg1 arg2 harg2 arg3 harg3 arg4 harg4 arg5 harg5 arg6 harg6 arg7 harg7 arg8 harg8 arg9 harg9 arg10 harg10 arg11 harg11 arg12 harg12 arg13 harg13 arg14 >>= fun _ => tailP arg7 arg10) := rfl

end Cert.Proof.KernelIdeal
-- ==== Proof.Bits32.lean ====
module

public import Idealize.ShloMosaic.PureOps
public import Idealize.ShloMosaic.Adequacy
public import Idealize.ShloMosaic.Lib.Scf

@[expose] public section

/-! Words below `2 ^ 31` written `BitVec.ofNat 32 n`, and what the scalar operations make of them. -/

namespace Cert.Proof

open Idealize.ShloMosaic

/-- A word of a number below `2 ^ 31`, read as signed, is that number. -/
theorem w_toInt {a : ℕ} (h : a < 2 ^ 31) : (BitVec.ofNat 32 a).toInt = a := by
  rw [BitVec.toInt_eq_toNat_of_lt (by rw [BitVec.toNat_ofNat]; omega), BitVec.toNat_ofNat, Nat.mod_eq_of_lt (by omega)]

/-- A word of a number below `2 ^ 31`, read as unsigned, is that number. -/
theorem w_toNat {a : ℕ} (h : a < 2 ^ 31) : (BitVec.ofNat 32 a).toNat = a := by
  rw [BitVec.toNat_ofNat, Nat.mod_eq_of_lt (by omega)]

/-- Adding words adds the numbers. -/
theorem w_add (a b : ℕ) : Scalar.addi (BitVec.ofNat 32 a) (BitVec.ofNat 32 b) = BitVec.ofNat 32 (a + b) := by
  unfold Scalar.addi IntOp.addi; rw [BitVec.ofNat_add]

/-- Multiplying words multiplies the numbers. -/
theorem w_mul (a b : ℕ) : Scalar.muli (BitVec.ofNat 32 a) (BitVec.ofNat 32 b) = BitVec.ofNat 32 (a * b) := by
  unfold Scalar.muli IntOp.muli; rw [BitVec.ofNat_mul]

/-- Subtracting a smaller number's word subtracts the numbers. -/
theorem w_sub {a b : ℕ} (h : b ≤ a) (ha : a < 2 ^ 31) :
    Scalar.subi (BitVec.ofNat 32 a) (BitVec.ofNat 32 b) = BitVec.ofNat 32 (a - b) := by
  unfold Scalar.subi IntOp.subi
  apply BitVec.eq_of_toNat_eq
  rw [BitVec.toNat_sub, w_toNat ha, w_toNat (a := b) (by omega), w_toNat (a := a - b) (by omega)]
  omega

/-- Signed division of small words divides the numbers. -/
theorem w_div {a b : ℕ} (ha : a < 2 ^ 31) (h0 : 0 < b) (hb : b < 2 ^ 31) :
    Scalar.divsi (BitVec.ofNat 32 a) (BitVec.ofNat 32 b) = BitVec.ofNat 32 (a / b) := by
  have hbz : BitVec.ofNat 32 b ≠ 0 := by
    intro h; have := congrArg BitVec.toNat h; rw [w_toNat hb] at this; simp at this; omega
  have hc : ¬ IntOp.SDivCorner (BitVec.ofNat 32 a) (BitVec.ofNat 32 b) := by
    rintro (h | ⟨h, -⟩)
    · exact hbz h
    · have := congrArg BitVec.toInt h; rw [w_toInt ha] at this
      have h2 : (BitVec.intMin 32).toInt < 0 := by decide
      omega
  unfold Scalar.divsi IntOp.divsi
  rw [if_neg hc]
  apply BitVec.eq_of_toInt_eq
  rw [BitVec.toInt_sdiv_of_ne_or_ne _ _ (Or.inl (by
    intro h; have := congrArg BitVec.toInt h; rw [w_toInt ha] at this
    have h2 : (BitVec.intMin 32).toInt < 0 := by decide
    omega)), w_toInt ha, w_toInt hb, w_toInt (Nat.lt_of_le_of_lt (Nat.div_le_self a b) ha)]
  rfl

/-- A loop's counter at trip `k` is start plus `k` steps. -/
theorem w_iv (a b k : ℕ) : Scf.iv (BitVec.ofNat 32 a) (BitVec.ofNat 32 b) k = BitVec.ofNat 32 (a + k * b) := by
  unfold Scf.iv; rw [BitVec.ofNat_add, BitVec.ofNat_mul]

/-- A loop of step 1 from `a` to `b` makes `b - a` trips. -/
theorem w_trips {a b : ℕ} (h : a ≤ b) (hb : b < 2 ^ 31) :
    Scf.trips (BitVec.ofNat 32 a) (BitVec.ofNat 32 b) 1#32 = b - a := by
  unfold Scf.trips
  rw [w_toInt hb, w_toInt (a := a) (by omega), show (1#32).toInt = 1 from rfl]
  simp only [Int.ediv_one]
  omega

/-- A loop of step 1 between small bounds is well formed. -/
theorem w_ok {a b : ℕ} (h : a ≤ b) (hb : b < 2 ^ 31) : Scf.OK (BitVec.ofNat 32 a) (BitVec.ofNat 32 b) 1#32 := by
  unfold Scf.OK
  rw [w_trips h hb, w_toInt (a := a) (by omega), show (1#32).toInt = 1 from rfl]
  refine ⟨by decide, ?_⟩
  have : ((b - a : ℕ) : ℤ) = b - a := by omega
  rw [this, mul_one]
  have h3 : (2:ℤ) ^ (32 - 1) = 2147483648 := by decide
  rw [h3]; omega

/-- Signed comparison of small words compares the numbers. -/
theorem w_sgt {a b : ℕ} (ha : a < 2 ^ 31) (hb : b < 2 ^ 31) :
    Scalar.cmpi .sgt (BitVec.ofNat 32 a) (BitVec.ofNat 32 b) = BitVec.ofBool (decide (b < a)) := by
  unfold Scalar.cmpi IntOp.cmpi
  simp only [BitVec.slt, w_toInt ha, w_toInt hb]
  simp

/-- A guard built from a truth value is taken exactly when it is true. -/
theorem w_guard (p : Prop) [Decidable p] :
    Scalar.cmpi .ne (Scalar.extui (BitVec.ofBool (decide p))) 0#32 = 1#1 ↔ p := by
  by_cases h : p <;> simp only [h, decide_true, decide_false] <;> decide

/-- Signed minimum of small words is the minimum of the numbers. -/
theorem w_min {a b : ℕ} (ha : a < 2 ^ 31) (hb : b < 2 ^ 31) :
    Scalar.minsi (BitVec.ofNat 32 a) (BitVec.ofNat 32 b) = BitVec.ofNat 32 (min a b) := by
  unfold Scalar.minsi IntOp.minsi
  simp only [BitVec.slt, w_toInt ha, w_toInt hb]
  by_cases h : a < b
  · simp [h, min_eq_left h.le]
  · simp [h, min_eq_right (not_lt.mp h)]

end Cert.Proof
-- ==== Proof.Arith.lean ====
module

public import proofs.«01_k».proof.Proof.Bits32

@[expose] public section

set_option maxRecDepth 16384

noncomputable section

namespace Cert.Proof

/-! How the documents' rows are cut into groups of 32 and the groups packed one after another. -/

/-- The number of groups of 32 rows of a document of `L d` rows. -/
def ng (L : ℕ → ℕ) (d : ℕ) : ℕ := (L d + 31) / 32

/-- Every value equals some value. -/
theorem exists_same {α : Type} (a : α) : ∃ b, b = a := ⟨a, rfl⟩

/-- A value that does not compute. -/
def hide {α : Type} (a : α) : α := (exists_same a).choose

/-- A hidden value is that value. -/
theorem hide_eq {α : Type} (a : α) : hide a = a := (exists_same a).choose_spec

/-- The first group of document `d`. -/
def start (L : ℕ → ℕ) (d : ℕ) : ℕ := hide (∑ e ∈ Finset.range d, ng L e)

/-- The first group of document `d` is the number of groups of the documents before it. -/
theorem start_eq (L : ℕ → ℕ) (d : ℕ) : start L d = ∑ e ∈ Finset.range d, ng L e := hide_eq _

/-- The number of groups of the 24 documents. -/
def total (L : ℕ → ℕ) : ℕ := start L 24

/-- The number of blocks of 16 groups. -/
def nblk (L : ℕ → ℕ) : ℕ := (total L + 15) / 16

/-- The document of group `t`. -/
def docOf (L : ℕ → ℕ) (t : ℕ) : ℕ := hide ((Finset.range 24).filter fun d => start L (d + 1) ≤ t).card

/-- The place of group `t` among its document's groups. -/
def inDoc (L : ℕ → ℕ) (t : ℕ) : ℕ := t - start L (docOf L t)

/-- The group of source rows group `t` is copied from: a document has 28 of them. -/
def src (L : ℕ → ℕ) (t : ℕ) : ℕ := 28 * docOf L t + inDoc L t

/-- How many of group `t`'s rows are rows of its document. -/
def cntOf (L : ℕ → ℕ) (t : ℕ) : ℕ := min (L (docOf L t) - inDoc L t * 32) 32

/-- Document 0 starts at group 0. -/
theorem start_zero (L : ℕ → ℕ) : start L 0 = 0 := by rw [start_eq]; rfl

/-- The next document starts after this one's groups. -/
theorem start_succ (L : ℕ → ℕ) (d : ℕ) : start L (d + 1) = start L d + ng L d := by
  rw [start_eq, start_eq]; exact Finset.sum_range_succ _ _

/-- Later documents start later. -/
theorem start_mono (L : ℕ → ℕ) {a b : ℕ} (h : a ≤ b) : start L a ≤ start L b := by
  rw [start_eq, start_eq]
  exact Finset.sum_le_sum_of_subset (Finset.range_subset_range.mpr h)

/-- A document of at most 896 positions has at most 28 groups. -/
theorem ng_le {L : ℕ → ℕ} (hL : ∀ d, L d ≤ 896) (d : ℕ) : ng L d ≤ 28 := by have := hL d; unfold ng; omega

/-- Document `d` starts at or before group `28 * d`. -/
theorem start_le {L : ℕ → ℕ} (hL : ∀ d, L d ≤ 896) (d : ℕ) : start L d ≤ d * 28 := by
  induction d with
  | zero => simp [start_zero]
  | succ d ih => have := ng_le hL d; rw [start_succ]; omega

/-- There are at most 672 groups in all. -/
theorem total_le {L : ℕ → ℕ} (hL : ∀ d, L d ≤ 896) : total L ≤ 672 := start_le hL 24

/-- There are at most 42 blocks of groups. -/
theorem nblk_le {L : ℕ → ℕ} (hL : ∀ d, L d ≤ 896) : nblk L ≤ 42 := by
  have := total_le hL; unfold nblk; omega

/-- A document starts no later than the end of all groups. -/
theorem start_le_total (L : ℕ → ℕ) {d : ℕ} (h : d ≤ 24) : start L d ≤ total L := start_mono L h

/-- A group between the start of document `k` and of the next belongs to document `k`. -/
theorem docOf_eq (L : ℕ → ℕ) {k t : ℕ} (hk : k < 24) (h1 : start L k ≤ t) (h2 : t < start L (k + 1)) : docOf L t = k := by
  unfold docOf
  rw [hide_eq]
  have : (Finset.range 24).filter (fun d => start L (d + 1) ≤ t) = Finset.range k := by
    ext d
    simp only [Finset.mem_filter, Finset.mem_range]
    constructor
    · rintro ⟨_, h⟩
      by_contra hc
      have := start_mono L (show k + 1 ≤ d + 1 by omega)
      omega
    · intro h
      exact ⟨by omega, le_trans (start_mono L (show d + 1 ≤ k by omega)) h1⟩
  rw [this, Finset.card_range]

/-- Every group before the start of document `n` belongs to some earlier document. -/
theorem exists_doc (L : ℕ → ℕ) {n t : ℕ} (h : t < start L n) : ∃ k, k < n ∧ start L k ≤ t ∧ t < start L (k + 1) := by
  induction n with
  | zero => simp [start_zero] at h
  | succ n ih =>
    by_cases hc : t < start L n
    · obtain ⟨k, h1, h2⟩ := ih hc; exact ⟨k, by omega, h2⟩
    · exact ⟨n, by omega, by omega, h⟩

/-- A group's document is one of the 24. -/
theorem docOf_lt (L : ℕ → ℕ) {t : ℕ} (h : t < total L) : docOf L t < 24 := by
  obtain ⟨k, h1, h2, h3⟩ := exists_doc L h; rw [docOf_eq L h1 h2 h3]; exact h1

/-- A group lies between the start of its document and of the next. -/
theorem docOf_spec (L : ℕ → ℕ) {t : ℕ} (h : t < total L) : start L (docOf L t) ≤ t ∧ t < start L (docOf L t + 1) := by
  obtain ⟨k, h1, h2, h3⟩ := exists_doc L h; rw [docOf_eq L h1 h2 h3]; exact ⟨h2, h3⟩

/-- Group `j` of document `k` belongs to document `k`. -/
theorem docOf_at (L : ℕ → ℕ) {k j : ℕ} (hk : k < 24) (hj : j < ng L k) : docOf L (start L k + j) = k :=
  docOf_eq L hk (by omega) (by rw [start_succ]; omega)

/-- Group `j` of document `k` has number `j` within it. -/
theorem inDoc_at (L : ℕ → ℕ) {k j : ℕ} (hk : k < 24) (hj : j < ng L k) : inDoc L (start L k + j) = j := by
  unfold inDoc; rw [docOf_at L hk hj]; omega

/-- Group `j` of document `k` is read from source block `28 * k + j`. -/
theorem src_at (L : ℕ → ℕ) {k j : ℕ} (hk : k < 24) (hj : j < ng L k) : src L (start L k + j) = 28 * k + j := by
  unfold src; rw [docOf_at L hk hj, inDoc_at L hk hj]

/-- Group `j` of a document counts the positions left to it, at most 32. -/
theorem cnt_at (L : ℕ → ℕ) {k j : ℕ} (hk : k < 24) (hj : j < ng L k) : cntOf L (start L k + j) = min (L k - j * 32) 32 := by
  unfold cntOf; rw [docOf_at L hk hj, inDoc_at L hk hj]

/-- A group's number within its document is below 28. -/
theorem inDoc_lt {L : ℕ → ℕ} (hL : ∀ d, L d ≤ 896) {t : ℕ} (h : t < total L) : inDoc L t < 28 := by
  have h1 := docOf_spec L h
  rw [start_succ] at h1
  have := ng_le hL (docOf L t)
  unfold inDoc; omega

/-- A group's source block is one of 672. -/
theorem src_lt {L : ℕ → ℕ} (hL : ∀ d, L d ≤ 896) {t : ℕ} (h : t < total L) : src L t < 672 := by
  have := docOf_lt L h; have := inDoc_lt hL h; unfold src; omega

/-- Different groups are read from different source blocks. -/
theorem src_inj {L : ℕ → ℕ} (hL : ∀ d, L d ≤ 896) {t t' : ℕ} (h : t < total L) (h' : t' < total L) (e : src L t = src L t') : t = t' := by
  have h1 := inDoc_lt hL h; have h2 := inDoc_lt hL h'
  have h3 := docOf_spec L h; have h4 := docOf_spec L h'
  have ed : docOf L t = docOf L t' := by unfold src at e; omega
  unfold src inDoc at e
  rw [ed] at e h3
  omega

end Cert.Proof
-- ==== Proof.Contents.lean ====
module

public import proofs.«01_k».proof.Proof.Prog
public import proofs.«01_k».proof.Proof.Arith
public import Idealize.ShloMosaic.Lib.Pointwise.Index
public import Idealize.ShloMosaic.Adequacy

@[expose] public section

set_option maxRecDepth 16384

noncomputable section

namespace Cert.Proof.KernelIdeal

open Cert.KernelIdeal Cert.KernelIdeal.Gen Cert.Proof
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! What the kernel's scratch buffers hold once the first grid point has prepared them, and the accumulator's steps. -/

section Contents

variable (L : ℕ → ℕ) (z : Vec F S21504x1024 .fp8e4m3) (zs : Vec F S24x7x128 .f32)

/-- The packed activations: group `t` of 32 rows is the document's group, and zero past the last group. -/
def ZB : S22016x1024.Idx → Elt F .fp8e4m3 := fun y =>
  if (y 0).val / 32 < total L then
    z (ix2 (⟨(src L ((y 0).val / 32) * 32 + (y 0).val % 32) % 21504, Nat.mod_lt _ (by decide)⟩ : Fin 21504) (⟨(y 1).val, (y 1).isLt⟩ : Fin 1024))
  else Scalar.ofBits .fp8e4m3 0x00#8

/-- The packed row scales, one row's scale in every lane of its row. -/
def SB : S22016x128.Idx → Elt F .f32 := fun y =>
  if (y 0).val / 32 < total L then
    zs (ix3 (⟨docOf L ((y 0).val / 32) % 24, Nat.mod_lt _ (by decide)⟩ : Fin 24)
      (⟨(inDoc L ((y 0).val / 32) * 32 + (y 0).val % 32) / 128 % 7, Nat.mod_lt _ (by decide)⟩ : Fin 7)
      (⟨(inDoc L ((y 0).val / 32) * 32 + (y 0).val % 32) % 128, Nat.mod_lt _ (by decide)⟩ : Fin 128))
  else Scalar.ofBits .f32 0x00000000#32

/-- The document of a group, 0 for a padding group. -/
def docN (t : ℕ) : ℕ := if t < total L then docOf L t else 0

/-- The number of rows of a group, 0 for a padding group. -/
def cntN (t : ℕ) : ℕ := if t < total L then cntOf L t else 0

/-- The groups' documents as words. -/
def DB : S688.Idx → Elt F .i32 := fun y => (BitVec.ofNat 32 (docN L (y 0).val) : BitVec 32)

/-- The groups' row counts as words. -/
def CB : S688.Idx → Elt F .i32 := fun y => (BitVec.ofNat 32 (cntN L (y 0).val) : BitVec 32)

/-- The document of every group is one of the 24. -/
theorem docN_lt (t : ℕ) : docN L t < 24 := by
  unfold docN; split
  · exact docOf_lt L ‹_›
  · decide

/-- Block `k` of 512 packed rows. -/
def zblk (k : ℕ) : Vec F S512x1024 .fp8e4m3 := fun x =>
  ZB L z (ix2 (⟨(k * 512 + (x 0).val) % 22016, Nat.mod_lt _ (by decide)⟩ : Fin 22016) (⟨(x 1).val, (x 1).isLt⟩ : Fin 1024))

/-- Group `t`'s row scales. -/
def srows (t : ℕ) : Vec F S32x128 .f32 := fun x =>
  SB L zs (ix2 (⟨(t * 32 + (x 0).val) % 22016, Nat.mod_lt _ (by decide)⟩ : Fin 22016) (⟨(x 1).val, (x 1).isLt⟩ : Fin 128))

/-- Document `d`'s accumulator row. -/
def rowOf (A : Vec F S24x8x512 .f32) (d : ℕ) : Vec F S1x8x512 .f32 := fun x =>
  A (ix3 (⟨d % 24, Nat.mod_lt _ (by decide)⟩ : Fin 24) (⟨(x 1).val, (x 1).isLt⟩ : Fin 8) (⟨(x 2).val, (x 2).isLt⟩ : Fin 512))

/-- The accumulator after group `t`, whose block product is `M` and whose rows start at `off`. -/
def stepAcc (off : Fin 2 → ℕ) (hoff : S512x512.Slices off S32x512) (M : FVec F S512x512 .f32) (t : ℕ)
    (es bv : Vec F S1x512 .f32) (A : Vec F S24x8x512 .f32) : Vec F S24x8x512 .f32 := fun y =>
  if (y 0).val = docN L t then
    grpUpd off hoff M (srows L zs t) es bv ((BitVec.ofNat 32 (cntN L t) : BitVec 32) : Elt F .i32) (rowOf A (docN L t))
      (ix3 (0 : Fin 1) (⟨(y 1).val, (y 1).isLt⟩ : Fin 8) (⟨(y 2).val, (y 2).isLt⟩ : Fin 512))
  else A y

/-- Each of 16 groups of 32 rows is a slice of the 512-row block. -/
theorem slices_grp {j : ℕ} (hj : j < 16) : S512x512.Slices ![32 * j, 0] S32x512 :=
  ⟨rfl, fun a => by
    revert a
    exact Fin.forall_fin_two.mpr ⟨(show 32 * j + 32 ≤ 512 by omega), (show 0 + 512 ≤ 512 by omega)⟩⟩

/-- The accumulator after group `j` of block `k`. -/
def stepJ (k : ℕ) (emb : Vec F S512x1024 .fp8e4m3) (es bv : Vec F S1x512 .f32) (j : ℕ) (A : Vec F S24x8x512 .f32) :
    Vec F S24x8x512 .f32 :=
  if hj : j < 16 then stepAcc L zs ![32 * j, 0] (slices_grp hj) (k0_pay33 emb (zblk L z k)) (k * 16 + j) es bv A else A

/-- The accumulator after the first `j` groups of block `k`. -/
def accJ (k : ℕ) (emb : Vec F S512x1024 .fp8e4m3) (es bv : Vec F S1x512 .f32) (A : Vec F S24x8x512 .f32) : ℕ → Vec F S24x8x512 .f32
  | 0 => A
  | j + 1 => stepJ L z zs k emb es bv j (accJ k emb es bv A j)

/-- The accumulator after the first `k` blocks. -/
def accK (emb : Vec F S512x1024 .fp8e4m3) (es bv : Vec F S1x512 .f32) : ℕ → Vec F S24x8x512 .f32
  | 0 => k0_pay102
  | k + 1 => accJ L z zs k emb es bv (accK emb es bv k) 16

/-- What a grid point leaves in its block of the result: each document's accumulator row summed over its eight sublanes. -/
def outV (emb : Vec F S512x1024 .fp8e4m3) (es bv : Vec F S1x512 .f32) : Vec F S24x512 .f32 := fun y =>
  k0_pay105 (rowOf (accK L z zs emb es bv (nblk L)) (y 0).val) (ix2 (0 : Fin 1) (⟨(y 1).val, (y 1).isLt⟩ : Fin 512))

end Contents

end Cert.Proof.KernelIdeal
-- ==== Proof.Own.lean ====
module

public import Idealize.ShloMosaic.Adequacy
public import Idealize.ShloMosaic.Lib.Batch
public import Idealize.ShloMosaic.Lib.Writes
public import Idealize.ShloMosaic.Lib.Memref

@[expose] public section

noncomputable section

namespace Cert.Proof

open Idealize.ShloMosaic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix]
variable {Val : EltTy → Type} {Name : Type} [DecidableEq Name]
variable {U : Type} [URA U]
variable {Lvl : Type} {Λ : Labels}
local notation "𝕄" => MT nD τ sig Ix Val Name U Lvl

variable (c : Thread nD τ) {sp sp' : Space} {s : Shape} {e : EltTy}

/-- Core `c` owns the memref's elements at the indices `T`, at share `q`, and reads `X` there. -/
def ownOn (m : Memref sig c.2.kind sp s e) (T : Finset s.Idx) (q : PosShare TreeShare) (X : s.Idx → Val e) : sProp 𝕄 :=
  iprop(∃ f, ⌜∀ y ∈ T, m.view.read Val f y = X y⌝ ∗ (m.view.loc c ↦[m.view.setOn T]{q} f))

instance ownOn_storable (m : Memref sig c.2.kind sp s e) (T : Finset s.Idx) (q : PosShare TreeShare)
    (X : s.Idx → Val e) : BI.Storable (upEmb : UEmb _ 𝕄) (ownOn c m T q X) := by
  unfold ownOn; infer_instance

/-- Owning a buffer is owning all of its entries. -/
theorem ownOn_of_owns (m : Memref sig c.2.kind sp s e) (q : PosShare TreeShare) (X : s.Idx → Val e) :
    (owns c m q X : sProp 𝕄) ⊢ ownOn c m Finset.univ q X := by
  unfold owns ownOn
  iintro ⟨%f, %h, H⟩
  iexists f
  isplitr
  · ipureintro; intro y _; rw [h]
  · rw [View.setOn_univ]; iexact H

/-- Owning all entries of a buffer is owning it. -/
theorem owns_of_ownOn (m : Memref sig c.2.kind sp s e) (q : PosShare TreeShare) (X : s.Idx → Val e) :
    (ownOn c m Finset.univ q X : sProp 𝕄) ⊢ owns c m q X := by
  unfold owns ownOn
  iintro ⟨%f, %h, H⟩
  iexists f
  isplitr
  · ipureintro; funext y; exact h y (Finset.mem_univ y)
  · rw [View.setOn_univ]; iexact H

/-- Ownership of entries depends only on their contents there. -/
theorem ownOn_congr (m : Memref sig c.2.kind sp s e) {T : Finset s.Idx} (q : PosShare TreeShare) {X X' : s.Idx → Val e}
    (h : ∀ y ∈ T, X y = X' y) : (ownOn c m T q X : sProp 𝕄) ⊢ ownOn c m T q X' := by
  unfold ownOn
  iintro ⟨%f, %hf, H⟩
  iexists f
  isplitr
  · ipureintro; intro y hy; rw [hf y hy, h y hy]
  · iexact H

/-- Owned entries split into two disjoint parts. -/
theorem ownOn_split (m : Memref sig c.2.kind sp s e) {T T₁ T₂ : Finset s.Idx} (q : PosShare TreeShare) {X : s.Idx → Val e}
    (h1 : ∀ y, y ∈ T₁ → y ∈ T) (h2 : ∀ y, y ∈ T₂ ↔ y ∈ T ∧ y ∉ T₁) :
    (ownOn c m T q X : sProp 𝕄) ⊢ iprop(ownOn c m T₁ q X ∗ ownOn c m T₂ q X) := by
  unfold ownOn
  iintro ⟨%f, %hf, H⟩
  have hs : m.view.setOn T₁ ⊆ m.view.setOn T := Finset.map_subset_map.mpr h1
  have e : m.view.setOn T \ m.view.setOn T₁ = m.view.setOn T₂ := by
    ext i
    simp only [View.setOn, Finset.mem_sdiff, Finset.mem_map]
    constructor
    · rintro ⟨⟨y, hy, rfl⟩, hn⟩
      exact ⟨y, (h2 y).mpr ⟨hy, fun h1 => hn ⟨y, h1, rfl⟩⟩, rfl⟩
    · rintro ⟨y, hy, rfl⟩
      exact ⟨⟨y, ((h2 y).mp hy).1, rfl⟩, fun ⟨z, hz, e⟩ => ((h2 y).mp hy).2 (m.view.emb.injective e ▸ hz)⟩
  have hp := (pointsTo_split_subset (Ix := Ix) (Name := Name) (U := U) (Lvl := Lvl) (ℓ := m.view.loc c) (q := q) (f := f) hs).1
  rw [e] at hp
  ihave H := hp $$ H
  icases H with ⟨HA, HB⟩
  isplitl [HA]
  · iexists f
    isplitr
    · ipureintro; intro y hy; exact hf y (h1 y hy)
    · iexact HA
  · iexists f
    isplitr
    · ipureintro; intro y hy; exact hf y ((h2 y).mp hy).1
    · iexact HB

/-- Two disjoint owned parts join. -/
theorem ownOn_join (m : Memref sig c.2.kind sp s e) {T T₁ T₂ : Finset s.Idx} (q : PosShare TreeShare) {X : s.Idx → Val e}
    (hd : Disjoint T₁ T₂) (hT : ∀ y, y ∈ T ↔ y ∈ T₁ ∨ y ∈ T₂) :
    iprop(ownOn c m T₁ q X ∗ ownOn c m T₂ q X) ⊢ (ownOn c m T q X : sProp 𝕄) := by
  classical
  unfold ownOn
  iintro ⟨⟨%f, %hf, H1⟩, ⟨%g, %hg, H2⟩⟩
  have hs : Disjoint (m.view.setOn T₁) (m.view.setOn T₂) := (Finset.disjoint_map _).mpr hd
  ihave H := (pointsTo_join (Ix := Ix) (Name := Name) (U := U) (Lvl := Lvl) (ℓ := m.view.loc c) (q := q) (f := f) (g := g) hs) $$ [H1 H2]
  · isplitl [H1] <;> iassumption
  iexists (m.view.setOn T₂).piecewise g f
  isplitr
  · ipureintro
    intro y hy
    by_cases h2 : y ∈ T₂
    · rw [← hg y h2]
      exact View.read_congr_at y (by rw [Finset.piecewise_eq_of_mem _ _ _ (m.view.mem_setOn.mpr h2)])
    · rw [← hf y (((hT y).mp hy).resolve_right h2)]
      exact View.read_congr_at y (by rw [Finset.piecewise_eq_of_notMem _ _ _ (fun h => h2 (m.view.mem_setOn.mp h))])
  · have e : m.view.setOn T = m.view.setOn T₁ ∪ m.view.setOn T₂ := by
      ext i
      simp only [View.setOn, Finset.mem_union, Finset.mem_map]
      constructor
      · rintro ⟨y, hy, rfl⟩
        rcases (hT y).mp hy with h | h
        · exact .inl ⟨y, h, rfl⟩
        · exact .inr ⟨y, h, rfl⟩
      · rintro (⟨y, hy, rfl⟩ | ⟨y, hy, rfl⟩)
        · exact ⟨y, (hT y).mpr (.inl hy), rfl⟩
        · exact ⟨y, (hT y).mpr (.inr hy), rfl⟩
    rw [e]
    iexact H

section Rules

variable [Preorder Lvl] {defs : Defs nD τ sig Val Λ} (𝒱 : Variants) (bd : Option 𝒱.V) (E : Set Name)
variable {α : Type} {Q : α → sProp (MT nD τ sig Ix Val Name U Lvl)}

/-- A load of a rectangle of owned indices reads the known contents there. -/
theorem wp_load_on {cs : CoreSpace} {m : Memref sig c.2.kind cs s e} {r : Rect s} {hl : m.view.LoadsAt r.toLoadRect}
    {k : (r.shape.Idx → Val e) → Prog (TpuEff nD τ sig Val Λ c.2) α}
    {T : Finset s.Idx} {q : PosShare TreeShare} {X : s.Idx → Val e} (hS : ∀ x, r.emb x ∈ T) :
    (ownOn c m T q X : sProp 𝕄)
      ⊢ iprop((ownOn c m T q X -∗ wp frame (wpE defs 𝒱 c bd) E (k (fun x => X (r.emb x))) Q)
        -∗ wp frame (wpE defs 𝒱 c bd) E (.op (.load m r.toLoadRect hl) k) Q) := by
  unfold ownOn
  iintro ⟨%f, %hf, H⟩ Hk
  have hs : (m.access r).set ⊆ m.view.setOn T := by
    intro i hi
    simp only [View.set, Finset.mem_map] at hi
    obtain ⟨x, -, rfl⟩ := hi
    exact m.view.mem_setOn.mpr (hS x)
  iapply (wp_load_rect 𝒱 c bd E (hl := hl) (k := k) hs) $$ H
  iintro H
  have e : (m.access r).read Val f = fun x => X (r.emb x) := funext fun x => hf _ (hS x)
  rw [e]
  iapply Hk
  iexists f
  isplitr
  · ipureintro; exact hf
  · iexact H

/-- A load of one scalar word. -/
theorem wp_smemLoad_on {m : Memref sig c.2.kind .smem s e} {r : Rect s} {hw : (m.access r).Loads} {x : r.shape.Idx}
    {k : Val e → Prog (TpuEff nD τ sig Val Λ c.2) α}
    {T : Finset s.Idx} {q : PosShare TreeShare} {X : s.Idx → Val e} (hS : ∀ x, r.emb x ∈ T) :
    (ownOn c m T q X : sProp 𝕄)
      ⊢ iprop((ownOn c m T q X -∗ wp frame (wpE defs 𝒱 c bd) E (k (X (r.emb x))) Q)
        -∗ wp frame (wpE defs 𝒱 c bd) E (smemLoadElt m r hw x k) Q) :=
  wp_load_on c 𝒱 bd E (k := fun f => k (f x)) hS

/-- A store over a rectangle of owned indices. -/
theorem wp_store_on {cs : CoreSpace} {m : Memref sig c.2.kind cs s e} {r : Rect s} {w : r.shape.Idx → Val e}
    {hx : (m.access r).Stores Finset.univ} {hm : Finset.univ = Finset.univ ∨ ∀ a, r.stride a = 1}
    {k : PUnit → Prog (TpuEff nD τ sig Val Λ c.2) α}
    {T : Finset s.Idx} {X : s.Idx → Val e} (X' : s.Idx → Val e) (hS : ∀ x, r.emb x ∈ T)
    (hin : ∀ x, X' (r.emb x) = w x) (hout : ∀ y ∈ T, y ∉ r.set → X' y = X y) :
    (ownOn c m T fullShare X : sProp 𝕄)
      ⊢ iprop((ownOn c m T fullShare X' -∗ wp frame (wpE defs 𝒱 c bd) E (k ⟨⟩) Q)
        -∗ wp frame (wpE defs 𝒱 c bd) E (.op (.store m r w Finset.univ hx hm) k) Q) := by
  unfold ownOn
  iintro ⟨%f, %hf, H⟩ Hk
  have hs : (m.access r).setOn Finset.univ ⊆ m.view.setOn T := by
    intro i hi
    simp only [View.setOn, Finset.mem_map] at hi
    obtain ⟨x, -, rfl⟩ := hi
    exact m.view.mem_setOn.mpr (hS x)
  iapply (wp_store 𝒱 c bd E (hx := hx) (hm := hm) (k := k) hs) $$ H
  iintro H
  iapply Hk
  iexists (m.access r).write Val f w Finset.univ
  isplitr
  · ipureintro
    intro y hy
    by_cases h : y ∈ r.set
    · rw [← Rect.map_emb_univ] at h
      obtain ⟨x, -, rfl⟩ := Finset.mem_map.mp h
      rw [hin]
      exact View.read_slice_write_emb r f w (Finset.mem_univ x)
    · rw [hout y hy h, ← hf y hy]
      exact View.read_slice_write_of_not_mem r f w Finset.univ (by rwa [Rect.map_emb_univ])
  · iexact H

/-- A slice's elements owned are those of its base at the slice's indices. -/
theorem ownOn_slice_elim (m : Memref sig c.2.kind sp s e) (r : Rect s) (h1 : ∀ a, r.stride a = 1) (q : PosShare TreeShare) {X : s.Idx → Val e}
    {T : Finset s.Idx} (hT : T = r.set) :
    (ownOn c m T q X : sProp 𝕄) ⊢ iprop(∃ f, ⌜∀ x, (m.slice r h1).view.read Val f x = X (r.emb x)⌝ ∗ ((m.slice r h1).view.loc c ↦[(m.slice r h1).view.set]{q} f)) := by
  subst hT
  unfold ownOn
  iintro ⟨%f, %hf, H⟩
  iexists f
  isplitr
  · ipureintro; intro x
    exact hf _ (by rw [← Rect.map_emb_univ]; exact Finset.mem_map_of_mem _ (Finset.mem_univ x))
  · have e : (m.slice r h1).view.set = m.view.setOn r.set := m.view.set_slice r
    rw [e]; iexact H

/-- Owning a rectangle's entries gives ownership of the slice. -/
theorem ownOn_slice_intro (m : Memref sig c.2.kind sp s e) (r : Rect s) (h1 : ∀ a, r.stride a = 1) (q : PosShare TreeShare) {X : s.Idx → Val e}
    {T : Finset s.Idx} (hT : T = r.set) (f : Buf Val ((m.slice r h1).view.loc c))
    (hf : ∀ x, (m.slice r h1).view.read Val f x = X (r.emb x)) :
    ((m.slice r h1).view.loc c ↦[(m.slice r h1).view.set]{q} f) ⊢ (ownOn c m T q X : sProp 𝕄) := by
  subst hT
  unfold ownOn
  iintro H
  iexists f
  isplitr
  · ipureintro; intro y hy
    rw [← Rect.map_emb_univ] at hy
    obtain ⟨x, -, rfl⟩ := Finset.mem_map.mp hy
    exact hf x
  · have e : (m.slice r h1).view.set = m.view.setOn r.set := m.view.set_slice r
    rw [← e]; iexact H

end Rules

end Cert.Proof
-- ==== Proof.Agree.lean ====
module

public import proofs.«01_k».proof.Proof.Own

@[expose] public section

noncomputable section

namespace Cert.Proof

open Idealize.ShloMosaic
open Idealize.SL Idealize.SL.RA Idealize.SL.BI
open scoped Idealize.SL.BI
open Idealize.SL.BI.BIBase Idealize.SL.BI.Laws Idealize.SL.ProofMode Idealize.SL.Sem

/-! A buffer owned whole on a set of indices, whose contents are known at some of them. -/

variable {nD : Nat} {τ : Topo} {sig : RefSig} {Ix : Type} [DecidableEq Ix]
variable {Val : EltTy → Type} {Name : Type} [DecidableEq Name]
variable {U : Type} [URA U]
variable {Lvl : Type} {Λ : Labels}
local notation "𝕄" => MT nD τ sig Ix Val Name U Lvl

variable (c : Thread nD τ) {sp sp' : Space} {s : Shape} {e : EltTy}

/-- Core `c` owns the memref's elements at the indices `T`, and those that satisfy `P` read as `B` says. -/
def agree (m : Memref sig c.2.kind sp s e) (T : Finset s.Idx) (P : s.Idx → Prop) (B : s.Idx → Val e) : sProp 𝕄 :=
  iprop(∃ X, ⌜∀ y ∈ T, P y → X y = B y⌝ ∗ ownOn c m T fullShare X)

/-- Fewer entries may be claimed. -/
theorem agree_weaken (m : Memref sig c.2.kind sp s e) {T : Finset s.Idx} {P P' : s.Idx → Prop} {B : s.Idx → Val e}
    (h : ∀ y ∈ T, P' y → P y) : (agree c m T P B : sProp 𝕄) ⊢ agree c m T P' B := by
  unfold agree
  iintro ⟨%X, %hX, H⟩
  iexists X
  isplitr
  · ipureintro; exact fun y hy hp => hX y hy (h y hy hp)
  · iexact H

/-- Owned entries agree with any contents equal to theirs where claimed. -/
theorem agree_of_ownOn (m : Memref sig c.2.kind sp s e) {T : Finset s.Idx} {P : s.Idx → Prop} {X B : s.Idx → Val e}
    (h : ∀ y ∈ T, P y → X y = B y) : (ownOn c m T fullShare X : sProp 𝕄) ⊢ agree c m T P B := by
  unfold agree
  iintro H
  iexists X
  isplitr
  · ipureintro; exact h
  · iexact H

/-- An owned buffer agrees with any contents equal to its own where claimed. -/
theorem agree_of_owns (m : Memref sig c.2.kind sp s e) {P : s.Idx → Prop} {X B : s.Idx → Val e}
    (h : ∀ y, P y → X y = B y) : (owns c m fullShare X : sProp 𝕄) ⊢ agree c m Finset.univ P B :=
  (ownOn_of_owns c m fullShare X).trans (agree_of_ownOn c m fun y _ => h y)

/-- If every entry is claimed, the entries are owned with the claimed contents. -/
theorem ownOn_of_agree (m : Memref sig c.2.kind sp s e) {T : Finset s.Idx} {P : s.Idx → Prop} {B : s.Idx → Val e}
    (h : ∀ y ∈ T, P y) : (agree c m T P B : sProp 𝕄) ⊢ ownOn c m T fullShare B := by
  unfold agree
  iintro ⟨%X, %hX, H⟩
  iapply (ownOn_congr c m fullShare (fun y hy => hX y hy (h y hy))) $$ H

/-- If every entry is claimed, the buffer is owned with the claimed contents. -/
theorem owns_of_agree (m : Memref sig c.2.kind sp s e) {P : s.Idx → Prop} {B : s.Idx → Val e} (h : ∀ y, P y) :
    (agree c m Finset.univ P B : sProp 𝕄) ⊢ owns c m fullShare B :=
  (ownOn_of_agree c m fun y _ => h y).trans (owns_of_ownOn c m fullShare B)

/-- What is known of a set of entries splits into two disjoint parts. -/
theorem agree_split (m : Memref sig c.2.kind sp s e) {T T₁ T₂ : Finset s.Idx} {P : s.Idx → Prop} {B : s.Idx → Val e}
    (h1 : ∀ y, y ∈ T₁ → y ∈ T) (h2 : ∀ y, y ∈ T₂ ↔ y ∈ T ∧ y ∉ T₁) :
    (agree c m T P B : sProp 𝕄) ⊢ iprop(agree c m T₁ P B ∗ agree c m T₂ P B) := by
  unfold agree
  iintro ⟨%X, %hX, H⟩
  ihave H := (ownOn_split c m fullShare h1 h2) $$ H
  icases H with ⟨H1, H2⟩
  isplitl [H1]
  · iexists X
    isplitr
    · ipureintro; exact fun y hy => hX y (h1 y hy)
    · iexact H1
  · iexists X
    isplitr
    · ipureintro; exact fun y hy => hX y ((h2 y).mp hy).1
    · iexact H2

/-- What is known of two disjoint parts joins. -/
theorem agree_join (m : Memref sig c.2.kind sp s e) {T T₁ T₂ : Finset s.Idx} {P : s.Idx → Prop} {B : s.Idx → Val e}
    (hd : Disjoint T₁ T₂) (hT : ∀ y, y ∈ T ↔ y ∈ T₁ ∨ y ∈ T₂) :
    (iprop(agree c m T₁ P B ∗ agree c m T₂ P B) : sProp 𝕄) ⊢ agree c m T P B := by
  classical
  unfold agree
  iintro ⟨⟨%X, %hX, H1⟩, %Y, %hY, H2⟩
  iexists (fun y => if y ∈ T₁ then X y else Y y)
  isplitr
  · ipureintro
    intro y hy hp
    by_cases h : y ∈ T₁
    · exact (if_pos h).trans (hX y h hp)
    · exact (if_neg h).trans (hY y (((hT y).mp hy).resolve_left h) hp)
  · iapply (ownOn_join c m fullShare hd hT)
    isplitl [H1]
    · iapply (ownOn_congr c m fullShare (fun y hy => (if_pos hy).symm)) $$ H1
    · iapply (ownOn_congr c m fullShare (fun y hy => (if_neg (fun h => (Finset.disjoint_left.mp hd h) hy)).symm)) $$ H2

variable [Preorder Lvl] {defs : Defs nD τ sig Val Λ} (𝒱 : Variants) (bd : Option 𝒱.V) (E : Set Name)
variable {α : Type} {Q : α → sProp (MT nD τ sig Ix Val Name U Lvl)}

/-- A load of known elements. -/
theorem wp_load_agree {cs : CoreSpace} {m : Memref sig c.2.kind cs s e} {r : Rect s} {hl : m.view.LoadsAt r.toLoadRect}
    {k : (r.shape.Idx → Val e) → Prog (TpuEff nD τ sig Val Λ c.2) α}
    {T : Finset s.Idx} {P : s.Idx → Prop} {B : s.Idx → Val e} (hS : ∀ x, r.emb x ∈ T) (hP : ∀ x, P (r.emb x)) :
    (agree c m T P B : sProp 𝕄)
      ⊢ iprop((agree c m T P B -∗ wp frame (wpE defs 𝒱 c bd) E (k (fun x => B (r.emb x))) Q)
        -∗ wp frame (wpE defs 𝒱 c bd) E (.op (.load m r.toLoadRect hl) k) Q) := by
  unfold agree
  iintro ⟨%X, %hX, H⟩ Hk
  iapply (wp_load_on c 𝒱 bd E hS) $$ H
  iintro H
  rw [show (fun x => X (r.emb x)) = fun x => B (r.emb x) from funext fun x => hX _ (hS x) (hP x)]
  iapply Hk
  iexists X
  isplitr
  · ipureintro; exact hX
  · iexact H

/-- A load of known elements, that read as `w`. -/
theorem wp_load_agree_eq {cs : CoreSpace} {m : Memref sig c.2.kind cs s e} {r : Rect s} {hl : m.view.LoadsAt r.toLoadRect}
    {k : (r.shape.Idx → Val e) → Prog (TpuEff nD τ sig Val Λ c.2) α}
    {T : Finset s.Idx} {P : s.Idx → Prop} {B : s.Idx → Val e} (w : r.shape.Idx → Val e) (hS : ∀ x, r.emb x ∈ T)
    (hP : ∀ x, P (r.emb x)) (hw : ∀ x, B (r.emb x) = w x) :
    (agree c m T P B : sProp 𝕄)
      ⊢ iprop((agree c m T P B -∗ wp frame (wpE defs 𝒱 c bd) E (k w) Q)
        -∗ wp frame (wpE defs 𝒱 c bd) E (.op (.load m r.toLoadRect hl) k) Q) := by
  rw [show w = fun x => B (r.emb x) from funext fun x => (hw x).symm]
  exact wp_load_agree c 𝒱 bd E hS hP

/-- A load of owned elements, that read as `w`. -/
theorem wp_load_on_eq {cs : CoreSpace} {m : Memref sig c.2.kind cs s e} {r : Rect s} {hl : m.view.LoadsAt r.toLoadRect}
    {k : (r.shape.Idx → Val e) → Prog (TpuEff nD τ sig Val Λ c.2) α}
    {T : Finset s.Idx} {q : PosShare TreeShare} {X : s.Idx → Val e} (w : r.shape.Idx → Val e) (hS : ∀ x, r.emb x ∈ T)
    (hw : ∀ x, X (r.emb x) = w x) :
    (ownOn c m T q X : sProp 𝕄)
      ⊢ iprop((ownOn c m T q X -∗ wp frame (wpE defs 𝒱 c bd) E (k w) Q)
        -∗ wp frame (wpE defs 𝒱 c bd) E (.op (.load m r.toLoadRect hl) k) Q) := by
  rw [show w = fun x => X (r.emb x) from funext fun x => (hw x).symm]
  exact wp_load_on c 𝒱 bd E hS

/-- A load whose value does not matter. -/
theorem wp_load_any {cs : CoreSpace} {m : Memref sig c.2.kind cs s e} {r : Rect s} {hl : m.view.LoadsAt r.toLoadRect}
    {k : (r.shape.Idx → Val e) → Prog (TpuEff nD τ sig Val Λ c.2) α}
    {T : Finset s.Idx} {P : s.Idx → Prop} {B : s.Idx → Val e} (hS : ∀ x, r.emb x ∈ T) :
    (agree c m T P B : sProp 𝕄)
      ⊢ iprop((∀ v, agree c m T P B -∗ wp frame (wpE defs 𝒱 c bd) E (k v) Q)
        -∗ wp frame (wpE defs 𝒱 c bd) E (.op (.load m r.toLoadRect hl) k) Q) := by
  unfold agree
  iintro ⟨%X, %hX, H⟩ Hk
  iapply (wp_load_on c 𝒱 bd E hS) $$ H
  iintro H
  iapply Hk
  iexists X
  isplitr
  · ipureintro; exact hX
  · iexact H

/-- A scalar load of a known element. -/
theorem wp_smemLoad_agree {m : Memref sig c.2.kind .smem s e} {r : Rect s} {hw : (m.access r).Loads} {x : r.shape.Idx}
    {k : Val e → Prog (TpuEff nD τ sig Val Λ c.2) α}
    {T : Finset s.Idx} {P : s.Idx → Prop} {B : s.Idx → Val e} (hS : ∀ x, r.emb x ∈ T) (hP : ∀ x, P (r.emb x)) :
    (agree c m T P B : sProp 𝕄)
      ⊢ iprop((agree c m T P B -∗ wp frame (wpE defs 𝒱 c bd) E (k (B (r.emb x))) Q)
        -∗ wp frame (wpE defs 𝒱 c bd) E (smemLoadElt m r hw x k) Q) :=
  wp_load_agree c 𝒱 bd E (k := fun f => k (f x)) hS hP

/-- A scalar load whose value does not matter. -/
theorem wp_smemLoad_any {m : Memref sig c.2.kind .smem s e} {r : Rect s} {hw : (m.access r).Loads} {x : r.shape.Idx}
    {k : Val e → Prog (TpuEff nD τ sig Val Λ c.2) α}
    {T : Finset s.Idx} {P : s.Idx → Prop} {B : s.Idx → Val e} (hS : ∀ x, r.emb x ∈ T) :
    (agree c m T P B : sProp 𝕄)
      ⊢ iprop((∀ v, agree c m T P B -∗ wp frame (wpE defs 𝒱 c bd) E (k v) Q)
        -∗ wp frame (wpE defs 𝒱 c bd) E (smemLoadElt m r hw x k) Q) := by
  iintro H Hk
  iapply (wp_load_any c 𝒱 bd E (k := fun f => k (f x)) hS) $$ H
  iintro %v H
  iapply Hk $$ H

/-- A store of what `B` says makes the stored elements known. -/
theorem wp_store_agree {cs : CoreSpace} {m : Memref sig c.2.kind cs s e} {r : Rect s} {w : r.shape.Idx → Val e}
    {hx : (m.access r).Stores Finset.univ} {hm : Finset.univ = Finset.univ ∨ ∀ a, r.stride a = 1}
    {k : PUnit → Prog (TpuEff nD τ sig Val Λ c.2) α}
    {T : Finset s.Idx} {P : s.Idx → Prop} {B : s.Idx → Val e} (P' : s.Idx → Prop) (hS : ∀ x, r.emb x ∈ T)
    (hin : ∀ x, B (r.emb x) = w x) (hP : ∀ y ∈ T, P' y → P y ∨ y ∈ r.set) :
    (agree c m T P B : sProp 𝕄)
      ⊢ iprop((agree c m T P' B -∗ wp frame (wpE defs 𝒱 c bd) E (k ⟨⟩) Q)
        -∗ wp frame (wpE defs 𝒱 c bd) E (.op (.store m r w Finset.univ hx hm) k) Q) := by
  classical
  unfold agree
  iintro ⟨%X, %hX, H⟩ Hk
  iapply (wp_store_on c 𝒱 bd E (fun y => if y ∈ r.set then B y else X y) hS
    (fun x => by rw [if_pos (by rw [← Rect.map_emb_univ]; exact Finset.mem_map_of_mem _ (Finset.mem_univ x))]; exact hin x)
    (fun y _ hn => if_neg hn)) $$ H
  iintro H
  iapply Hk
  iexists (fun y => if y ∈ r.set then B y else X y)
  isplitr
  · ipureintro
    intro y hy hp
    by_cases h : y ∈ r.set
    · exact if_pos h
    · exact (if_neg h).trans (hX y hy ((hP y hy hp).resolve_right h))
  · iexact H

end Cert.Proof
-- ==== Proof.Words.lean ====
module

public import proofs.«01_k».proof.Proof.Prog
public import proofs.«01_k».proof.Proof.Bits32
public import Idealize.ShloMosaic.Lib.LoopRemainder

@[expose] public section

set_option maxRecDepth 16384

noncomputable section

namespace Cert.Proof.KernelIdeal

open Cert.KernelIdeal Cert.KernelIdeal.Gen Cert.Proof
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! The kernel's scalar words — trip counts, offsets, guards — at words that are small numbers. -/

/-- The number of trips of loop `k0_t1_loop`. -/
theorem t1_trips : k0_t1_loop.trips = 24 := by decide

/-- The number of trips of loop `k0_t2_loop`. -/
theorem t2_trips {n : ℕ} (hn : n ≤ 896) : (k0_t2_loop (BitVec.ofNat 32 n)).trips = (n + 31) / 32 := by
  simp (disch := omega) only [k0_t2_loop, Scf.Loop.trips, w_add, w_mul, w_sub, w_div, w_iv, w_min, Scalar.indexCast, Nat.zero_add, Nat.add_zero, Nat.sub_zero, Nat.mul_one, Nat.div_one]
  rw [w_trips (by omega) (by omega), Nat.sub_zero]

/-- Loop `k0_t2_loop` is well formed. -/
theorem t2_OK {n : ℕ} (hn : n ≤ 896) : (k0_t2_loop (BitVec.ofNat 32 n)).OK := by
  simp (disch := omega) only [k0_t2_loop, Scf.Loop.OK, w_add, w_mul, w_sub, w_div, w_iv, w_min, Scalar.indexCast, Nat.zero_add, Nat.add_zero, Nat.sub_zero, Nat.mul_one, Nat.div_one]
  exact w_ok (by omega) (by omega)

/-- The number of trips of loop `k0_t4_loop`. -/
theorem t4_trips {n : ℕ} (hn : n ≤ 672) : (k0_t4_loop (BitVec.ofNat 32 n)).trips = (n + 15) / 16 * 16 - n := by
  simp (disch := omega) only [k0_t4_loop, Scf.Loop.trips, w_add, w_mul, w_sub, w_div, w_iv, w_min, Scalar.indexCast, Nat.zero_add, Nat.add_zero, Nat.sub_zero, Nat.mul_one, Nat.div_one]
  rw [w_trips (by omega) (by omega)]
  omega

/-- Loop `k0_t4_loop` is well formed. -/
theorem t4_OK {n : ℕ} (hn : n ≤ 672) : (k0_t4_loop (BitVec.ofNat 32 n)).OK := by
  simp (disch := omega) only [k0_t4_loop, Scf.Loop.OK, w_add, w_mul, w_sub, w_div, w_iv, w_min, Scalar.indexCast, Nat.zero_add, Nat.add_zero, Nat.sub_zero, Nat.mul_one, Nat.div_one]
  exact w_ok (by omega) (by omega)

/-- The number of trips of loop `k0_t6_loop`. -/
theorem t6_trips {n : ℕ} (hn : n ≤ 672) : (k0_t6_loop (BitVec.ofNat 32 n)).trips = n := by
  simp (disch := omega) only [k0_t6_loop, Scf.Loop.trips, w_add, w_mul, w_sub, w_div, w_iv, w_min, Scalar.indexCast, Nat.zero_add, Nat.add_zero, Nat.sub_zero, Nat.mul_one, Nat.div_one]
  rw [w_trips (by omega) (by omega), Nat.sub_zero]

/-- Loop `k0_t6_loop` is well formed. -/
theorem t6_OK {n : ℕ} (hn : n ≤ 672) : (k0_t6_loop (BitVec.ofNat 32 n)).OK := by
  simp (disch := omega) only [k0_t6_loop, Scf.Loop.OK, w_add, w_mul, w_sub, w_div, w_iv, w_min, Scalar.indexCast, Nat.zero_add, Nat.add_zero, Nat.sub_zero, Nat.mul_one, Nat.div_one]
  exact w_ok (by omega) (by omega)

/-- The number of trips of loop `k0_t8_loop`. -/
theorem t8_trips {n : ℕ} (hn : n ≤ 42) : (k0_t8_loop (BitVec.ofNat 32 n)).trips = n := by
  simp (disch := omega) only [k0_t8_loop, Scf.Loop.trips, w_add, w_mul, w_sub, w_div, w_iv, w_min, Scalar.indexCast, Nat.zero_add, Nat.add_zero, Nat.sub_zero, Nat.mul_one, Nat.div_one]
  rw [w_trips (by omega) (by omega), Nat.sub_zero]

/-- Loop `k0_t8_loop` is well formed. -/
theorem t8_OK {n : ℕ} (hn : n ≤ 42) : (k0_t8_loop (BitVec.ofNat 32 n)).OK := by
  simp (disch := omega) only [k0_t8_loop, Scf.Loop.OK, w_add, w_mul, w_sub, w_div, w_iv, w_min, Scalar.indexCast, Nat.zero_add, Nat.add_zero, Nat.sub_zero, Nat.mul_one, Nat.div_one]
  exact w_ok (by omega) (by omega)

/-- The offset `k0_off1` in plain numbers. -/
theorem off1_eq (t1 : Fin k0_t1_loop.trips) : k0_off1 t1 = ![t1.val] := by
  have h1 : t1.val < 24 := lt_of_lt_of_eq t1.isLt t1_trips
  simp (disch := omega) only [k0_off1, w_add, w_mul, w_sub, w_div, w_iv, w_min, Scalar.indexCast, Nat.zero_add, Nat.add_zero, Nat.sub_zero, Nat.mul_one, Nat.div_one, w_toNat]

/-- The offset `k0_off2` in plain numbers. -/
theorem off2_eq {S : ℕ} (hS : S ≤ 672) {n : ℕ} (hn : n ≤ 896) (k : Fin (k0_t2_loop (BitVec.ofNat 32 n)).trips) : k0_off2 (BitVec.ofNat 32 S) (BitVec.ofNat 32 n) k = ![(S + k.val) * 32, 0] := by
  have h2 : k.val < (n + 31) / 32 := lt_of_lt_of_eq k.isLt (t2_trips hn)
  simp (disch := omega) only [k0_off2, w_add, w_mul, w_sub, w_div, w_iv, w_min, Scalar.indexCast, Nat.zero_add, Nat.add_zero, Nat.sub_zero, Nat.mul_one, Nat.div_one, w_toNat]

/-- The offset `k0_off4` in plain numbers. -/
theorem off4_eq {S : ℕ} (hS : S ≤ 672) {n : ℕ} (hn : n ≤ 896) (k : Fin (k0_t2_loop (BitVec.ofNat 32 n)).trips) : k0_off4 (BitVec.ofNat 32 S) (BitVec.ofNat 32 n) k = ![S + k.val] := by
  have h2 : k.val < (n + 31) / 32 := lt_of_lt_of_eq k.isLt (t2_trips hn)
  simp (disch := omega) only [k0_off4, w_add, w_mul, w_sub, w_div, w_iv, w_min, Scalar.indexCast, Nat.zero_add, Nat.add_zero, Nat.sub_zero, Nat.mul_one, Nat.div_one, w_toNat]

/-- The offset `k0_off3` in plain numbers. -/
theorem off3_eq (t1 : Fin k0_t1_loop.trips) {n : ℕ} (hn : n ≤ 896) (k : Fin (k0_t2_loop (BitVec.ofNat 32 n)).trips) : k0_off3 t1 (BitVec.ofNat 32 n) k = ![(t1.val * 28 + k.val) * 32, 0] := by
  have h1 : t1.val < 24 := lt_of_lt_of_eq t1.isLt t1_trips
  have h2 : k.val < (n + 31) / 32 := lt_of_lt_of_eq k.isLt (t2_trips hn)
  simp (disch := omega) only [k0_off3, w_add, w_mul, w_sub, w_div, w_iv, w_min, Scalar.indexCast, Nat.zero_add, Nat.add_zero, Nat.sub_zero, Nat.mul_one, Nat.div_one, w_toNat]

/-- The row number `k0_mult1` in plain numbers. -/
theorem mult1_eq (t1 : Fin k0_t1_loop.trips) {n : ℕ} (hn : n ≤ 896) (k : Fin (k0_t2_loop (BitVec.ofNat 32 n)).trips) : (k0_mult1 t1 (BitVec.ofNat 32 n) k).toNat = (t1.val * 28 + k.val) * 32 := by
  have h1 : t1.val < 24 := lt_of_lt_of_eq t1.isLt t1_trips
  have h2 : k.val < (n + 31) / 32 := lt_of_lt_of_eq k.isLt (t2_trips hn)
  simp (disch := omega) only [k0_mult1, w_add, w_mul, w_sub, w_div, w_iv, w_min, Scalar.indexCast, Nat.zero_add, Nat.add_zero, Nat.sub_zero, Nat.mul_one, Nat.div_one, w_toNat]

/-- The row number `k0_mult2` in plain numbers. -/
theorem mult2_eq {S : ℕ} (hS : S ≤ 672) {n : ℕ} (hn : n ≤ 896) (k : Fin (k0_t2_loop (BitVec.ofNat 32 n)).trips) : (k0_mult2 (BitVec.ofNat 32 S) (BitVec.ofNat 32 n) k).toNat = (S + k.val) * 32 := by
  have h2 : k.val < (n + 31) / 32 := lt_of_lt_of_eq k.isLt (t2_trips hn)
  simp (disch := omega) only [k0_mult2, w_add, w_mul, w_sub, w_div, w_iv, w_min, Scalar.indexCast, Nat.zero_add, Nat.add_zero, Nat.sub_zero, Nat.mul_one, Nat.div_one, w_toNat]

/-- The offset `k0_off8` in plain numbers. -/
theorem off8_eq (t1 : Fin k0_t1_loop.trips) : k0_off8 t1 = ![t1.val, 0, 0] := by
  have h1 : t1.val < 24 := lt_of_lt_of_eq t1.isLt t1_trips
  simp (disch := omega) only [k0_off8, w_add, w_mul, w_sub, w_div, w_iv, w_min, Scalar.indexCast, Nat.zero_add, Nat.add_zero, Nat.sub_zero, Nat.mul_one, Nat.div_one, w_toNat]

/-- When the guard `k0_cond2` is taken, in plain numbers. -/
theorem cond2_iff {n : ℕ} (hn : n ≤ 896) : k0_cond2 (BitVec.ofNat 32 n) = 1#1 ↔ 0 < n := by
  simp (disch := omega) only [k0_cond2, w_sgt]
  exact w_guard _

/-- When the guard `k0_cond3` is taken, in plain numbers. -/
theorem cond3_iff {n : ℕ} (hn : n ≤ 896) : k0_cond3 (BitVec.ofNat 32 n) = 1#1 ↔ 0 < n := by
  simp (disch := omega) only [k0_cond3, w_sgt]
  exact w_guard _

/-- The offset `k0_off9` in plain numbers. -/
theorem off9_eq {S : ℕ} (hS : S ≤ 672) : k0_off9 (BitVec.ofNat 32 S) = ![(S + 0) * 32, 0] := by
  simp (disch := omega) only [k0_off9, w_add, w_mul, w_sub, w_div, w_iv, w_min, Scalar.indexCast, Nat.zero_add, Nat.add_zero, Nat.sub_zero, Nat.mul_one, Nat.div_one, w_toNat]

/-- The row number `k0_mult5` in plain numbers. -/
theorem mult5_eq {S : ℕ} (hS : S ≤ 672) : (k0_mult5 (BitVec.ofNat 32 S)).toNat = (S + 0) * 32 := by
  simp (disch := omega) only [k0_mult5, w_add, w_mul, w_sub, w_div, w_iv, w_min, Scalar.indexCast, Nat.zero_add, Nat.add_zero, Nat.sub_zero, Nat.mul_one, Nat.div_one, w_toNat]

/-- When the guard `k0_cond4` is taken, in plain numbers. -/
theorem cond4_iff {n : ℕ} (hn : n ≤ 896) : k0_cond4 (BitVec.ofNat 32 n) = 1#1 ↔ 32 < n := by
  simp (disch := omega) only [k0_cond4, w_sgt]
  exact w_guard _

/-- The offset `k0_off10` in plain numbers. -/
theorem off10_eq {S : ℕ} (hS : S ≤ 672) : k0_off10 (BitVec.ofNat 32 S) = ![(S + 1) * 32, 0] := by
  simp (disch := omega) only [k0_off10, w_add, w_mul, w_sub, w_div, w_iv, w_min, Scalar.indexCast, Nat.zero_add, Nat.add_zero, Nat.sub_zero, Nat.mul_one, Nat.div_one, w_toNat]

/-- The row number `k0_mult6` in plain numbers. -/
theorem mult6_eq {S : ℕ} (hS : S ≤ 672) : (k0_mult6 (BitVec.ofNat 32 S)).toNat = (S + 1) * 32 := by
  simp (disch := omega) only [k0_mult6, w_add, w_mul, w_sub, w_div, w_iv, w_min, Scalar.indexCast, Nat.zero_add, Nat.add_zero, Nat.sub_zero, Nat.mul_one, Nat.div_one, w_toNat]

/-- When the guard `k0_cond5` is taken, in plain numbers. -/
theorem cond5_iff {n : ℕ} (hn : n ≤ 896) : k0_cond5 (BitVec.ofNat 32 n) = 1#1 ↔ 64 < n := by
  simp (disch := omega) only [k0_cond5, w_sgt]
  exact w_guard _

/-- The offset `k0_off11` in plain numbers. -/
theorem off11_eq {S : ℕ} (hS : S ≤ 672) : k0_off11 (BitVec.ofNat 32 S) = ![(S + 2) * 32, 0] := by
  simp (disch := omega) only [k0_off11, w_add, w_mul, w_sub, w_div, w_iv, w_min, Scalar.indexCast, Nat.zero_add, Nat.add_zero, Nat.sub_zero, Nat.mul_one, Nat.div_one, w_toNat]

/-- The row number `k0_mult7` in plain numbers. -/
theorem mult7_eq {S : ℕ} (hS : S ≤ 672) : (k0_mult7 (BitVec.ofNat 32 S)).toNat = (S + 2) * 32 := by
  simp (disch := omega) only [k0_mult7, w_add, w_mul, w_sub, w_div, w_iv, w_min, Scalar.indexCast, Nat.zero_add, Nat.add_zero, Nat.sub_zero, Nat.mul_one, Nat.div_one, w_toNat]

/-- When the guard `k0_cond6` is taken, in plain numbers. -/
theorem cond6_iff {n : ℕ} (hn : n ≤ 896) : k0_cond6 (BitVec.ofNat 32 n) = 1#1 ↔ 96 < n := by
  simp (disch := omega) only [k0_cond6, w_sgt]
  exact w_guard _

/-- The offset `k0_off12` in plain numbers. -/
theorem off12_eq {S : ℕ} (hS : S ≤ 672) : k0_off12 (BitVec.ofNat 32 S) = ![(S + 3) * 32, 0] := by
  simp (disch := omega) only [k0_off12, w_add, w_mul, w_sub, w_div, w_iv, w_min, Scalar.indexCast, Nat.zero_add, Nat.add_zero, Nat.sub_zero, Nat.mul_one, Nat.div_one, w_toNat]

/-- The row number `k0_mult8` in plain numbers. -/
theorem mult8_eq {S : ℕ} (hS : S ≤ 672) : (k0_mult8 (BitVec.ofNat 32 S)).toNat = (S + 3) * 32 := by
  simp (disch := omega) only [k0_mult8, w_add, w_mul, w_sub, w_div, w_iv, w_min, Scalar.indexCast, Nat.zero_add, Nat.add_zero, Nat.sub_zero, Nat.mul_one, Nat.div_one, w_toNat]

/-- The offset `k0_off13` in plain numbers. -/
theorem off13_eq (t1 : Fin k0_t1_loop.trips) : k0_off13 t1 = ![t1.val, 1, 0] := by
  have h1 : t1.val < 24 := lt_of_lt_of_eq t1.isLt t1_trips
  simp (disch := omega) only [k0_off13, w_add, w_mul, w_sub, w_div, w_iv, w_min, Scalar.indexCast, Nat.zero_add, Nat.add_zero, Nat.sub_zero, Nat.mul_one, Nat.div_one, w_toNat]

/-- When the guard `k0_cond7` is taken, in plain numbers. -/
theorem cond7_iff {n : ℕ} (hn : n ≤ 896) : k0_cond7 (BitVec.ofNat 32 n) = 1#1 ↔ 128 < n := by
  simp (disch := omega) only [k0_cond7, w_sgt]
  exact w_guard _

/-- When the guard `k0_cond8` is taken, in plain numbers. -/
theorem cond8_iff {n : ℕ} (hn : n ≤ 896) : k0_cond8 (BitVec.ofNat 32 n) = 1#1 ↔ 128 < n := by
  simp (disch := omega) only [k0_cond8, w_sgt]
  exact w_guard _

/-- The offset `k0_off14` in plain numbers. -/
theorem off14_eq {S : ℕ} (hS : S ≤ 672) : k0_off14 (BitVec.ofNat 32 S) = ![(S + 4) * 32, 0] := by
  simp (disch := omega) only [k0_off14, w_add, w_mul, w_sub, w_div, w_iv, w_min, Scalar.indexCast, Nat.zero_add, Nat.add_zero, Nat.sub_zero, Nat.mul_one, Nat.div_one, w_toNat]

/-- The row number `k0_mult9` in plain numbers. -/
theorem mult9_eq {S : ℕ} (hS : S ≤ 672) : (k0_mult9 (BitVec.ofNat 32 S)).toNat = (S + 4) * 32 := by
  simp (disch := omega) only [k0_mult9, w_add, w_mul, w_sub, w_div, w_iv, w_min, Scalar.indexCast, Nat.zero_add, Nat.add_zero, Nat.sub_zero, Nat.mul_one, Nat.div_one, w_toNat]

/-- When the guard `k0_cond9` is taken, in plain numbers. -/
theorem cond9_iff {n : ℕ} (hn : n ≤ 896) : k0_cond9 (BitVec.ofNat 32 n) = 1#1 ↔ 160 < n := by
  simp (disch := omega) only [k0_cond9, w_sgt]
  exact w_guard _

/-- The offset `k0_off15` in plain numbers. -/
theorem off15_eq {S : ℕ} (hS : S ≤ 672) : k0_off15 (BitVec.ofNat 32 S) = ![(S + 5) * 32, 0] := by
  simp (disch := omega) only [k0_off15, w_add, w_mul, w_sub, w_div, w_iv, w_min, Scalar.indexCast, Nat.zero_add, Nat.add_zero, Nat.sub_zero, Nat.mul_one, Nat.div_one, w_toNat]

/-- The row number `k0_mult10` in plain numbers. -/
theorem mult10_eq {S : ℕ} (hS : S ≤ 672) : (k0_mult10 (BitVec.ofNat 32 S)).toNat = (S + 5) * 32 := by
  simp (disch := omega) only [k0_mult10, w_add, w_mul, w_sub, w_div, w_iv, w_min, Scalar.indexCast, Nat.zero_add, Nat.add_zero, Nat.sub_zero, Nat.mul_one, Nat.div_one, w_toNat]

/-- When the guard `k0_cond10` is taken, in plain numbers. -/
theorem cond10_iff {n : ℕ} (hn : n ≤ 896) : k0_cond10 (BitVec.ofNat 32 n) = 1#1 ↔ 192 < n := by
  simp (disch := omega) only [k0_cond10, w_sgt]
  exact w_guard _

/-- The offset `k0_off16` in plain numbers. -/
theorem off16_eq {S : ℕ} (hS : S ≤ 672) : k0_off16 (BitVec.ofNat 32 S) = ![(S + 6) * 32, 0] := by
  simp (disch := omega) only [k0_off16, w_add, w_mul, w_sub, w_div, w_iv, w_min, Scalar.indexCast, Nat.zero_add, Nat.add_zero, Nat.sub_zero, Nat.mul_one, Nat.div_one, w_toNat]

/-- The row number `k0_mult11` in plain numbers. -/
theorem mult11_eq {S : ℕ} (hS : S ≤ 672) : (k0_mult11 (BitVec.ofNat 32 S)).toNat = (S + 6) * 32 := by
  simp (disch := omega) only [k0_mult11, w_add, w_mul, w_sub, w_div, w_iv, w_min, Scalar.indexCast, Nat.zero_add, Nat.add_zero, Nat.sub_zero, Nat.mul_one, Nat.div_one, w_toNat]

/-- When the guard `k0_cond11` is taken, in plain numbers. -/
theorem cond11_iff {n : ℕ} (hn : n ≤ 896) : k0_cond11 (BitVec.ofNat 32 n) = 1#1 ↔ 224 < n := by
  simp (disch := omega) only [k0_cond11, w_sgt]
  exact w_guard _

/-- The offset `k0_off17` in plain numbers. -/
theorem off17_eq {S : ℕ} (hS : S ≤ 672) : k0_off17 (BitVec.ofNat 32 S) = ![(S + 7) * 32, 0] := by
  simp (disch := omega) only [k0_off17, w_add, w_mul, w_sub, w_div, w_iv, w_min, Scalar.indexCast, Nat.zero_add, Nat.add_zero, Nat.sub_zero, Nat.mul_one, Nat.div_one, w_toNat]

/-- The row number `k0_mult12` in plain numbers. -/
theorem mult12_eq {S : ℕ} (hS : S ≤ 672) : (k0_mult12 (BitVec.ofNat 32 S)).toNat = (S + 7) * 32 := by
  simp (disch := omega) only [k0_mult12, w_add, w_mul, w_sub, w_div, w_iv, w_min, Scalar.indexCast, Nat.zero_add, Nat.add_zero, Nat.sub_zero, Nat.mul_one, Nat.div_one, w_toNat]

/-- The offset `k0_off18` in plain numbers. -/
theorem off18_eq (t1 : Fin k0_t1_loop.trips) : k0_off18 t1 = ![t1.val, 2, 0] := by
  have h1 : t1.val < 24 := lt_of_lt_of_eq t1.isLt t1_trips
  simp (disch := omega) only [k0_off18, w_add, w_mul, w_sub, w_div, w_iv, w_min, Scalar.indexCast, Nat.zero_add, Nat.add_zero, Nat.sub_zero, Nat.mul_one, Nat.div_one, w_toNat]

/-- When the guard `k0_cond12` is taken, in plain numbers. -/
theorem cond12_iff {n : ℕ} (hn : n ≤ 896) : k0_cond12 (BitVec.ofNat 32 n) = 1#1 ↔ 256 < n := by
  simp (disch := omega) only [k0_cond12, w_sgt]
  exact w_guard _

/-- When the guard `k0_cond13` is taken, in plain numbers. -/
theorem cond13_iff {n : ℕ} (hn : n ≤ 896) : k0_cond13 (BitVec.ofNat 32 n) = 1#1 ↔ 256 < n := by
  simp (disch := omega) only [k0_cond13, w_sgt]
  exact w_guard _

/-- The offset `k0_off19` in plain numbers. -/
theorem off19_eq {S : ℕ} (hS : S ≤ 672) : k0_off19 (BitVec.ofNat 32 S) = ![(S + 8) * 32, 0] := by
  simp (disch := omega) only [k0_off19, w_add, w_mul, w_sub, w_div, w_iv, w_min, Scalar.indexCast, Nat.zero_add, Nat.add_zero, Nat.sub_zero, Nat.mul_one, Nat.div_one, w_toNat]

/-- The row number `k0_mult13` in plain numbers. -/
theorem mult13_eq {S : ℕ} (hS : S ≤ 672) : (k0_mult13 (BitVec.ofNat 32 S)).toNat = (S + 8) * 32 := by
  simp (disch := omega) only [k0_mult13, w_add, w_mul, w_sub, w_div, w_iv, w_min, Scalar.indexCast, Nat.zero_add, Nat.add_zero, Nat.sub_zero, Nat.mul_one, Nat.div_one, w_toNat]

/-- When the guard `k0_cond14` is taken, in plain numbers. -/
theorem cond14_iff {n : ℕ} (hn : n ≤ 896) : k0_cond14 (BitVec.ofNat 32 n) = 1#1 ↔ 288 < n := by
  simp (disch := omega) only [k0_cond14, w_sgt]
  exact w_guard _

/-- The offset `k0_off20` in plain numbers. -/
theorem off20_eq {S : ℕ} (hS : S ≤ 672) : k0_off20 (BitVec.ofNat 32 S) = ![(S + 9) * 32, 0] := by
  simp (disch := omega) only [k0_off20, w_add, w_mul, w_sub, w_div, w_iv, w_min, Scalar.indexCast, Nat.zero_add, Nat.add_zero, Nat.sub_zero, Nat.mul_one, Nat.div_one, w_toNat]

/-- The row number `k0_mult14` in plain numbers. -/
theorem mult14_eq {S : ℕ} (hS : S ≤ 672) : (k0_mult14 (BitVec.ofNat 32 S)).toNat = (S + 9) * 32 := by
  simp (disch := omega) only [k0_mult14, w_add, w_mul, w_sub, w_div, w_iv, w_min, Scalar.indexCast, Nat.zero_add, Nat.add_zero, Nat.sub_zero, Nat.mul_one, Nat.div_one, w_toNat]

/-- When the guard `k0_cond15` is taken, in plain numbers. -/
theorem cond15_iff {n : ℕ} (hn : n ≤ 896) : k0_cond15 (BitVec.ofNat 32 n) = 1#1 ↔ 320 < n := by
  simp (disch := omega) only [k0_cond15, w_sgt]
  exact w_guard _

/-- The offset `k0_off21` in plain numbers. -/
theorem off21_eq {S : ℕ} (hS : S ≤ 672) : k0_off21 (BitVec.ofNat 32 S) = ![(S + 10) * 32, 0] := by
  simp (disch := omega) only [k0_off21, w_add, w_mul, w_sub, w_div, w_iv, w_min, Scalar.indexCast, Nat.zero_add, Nat.add_zero, Nat.sub_zero, Nat.mul_one, Nat.div_one, w_toNat]

/-- The row number `k0_mult15` in plain numbers. -/
theorem mult15_eq {S : ℕ} (hS : S ≤ 672) : (k0_mult15 (BitVec.ofNat 32 S)).toNat = (S + 10) * 32 := by
  simp (disch := omega) only [k0_mult15, w_add, w_mul, w_sub, w_div, w_iv, w_min, Scalar.indexCast, Nat.zero_add, Nat.add_zero, Nat.sub_zero, Nat.mul_one, Nat.div_one, w_toNat]

/-- When the guard `k0_cond16` is taken, in plain numbers. -/
theorem cond16_iff {n : ℕ} (hn : n ≤ 896) : k0_cond16 (BitVec.ofNat 32 n) = 1#1 ↔ 352 < n := by
  simp (disch := omega) only [k0_cond16, w_sgt]
  exact w_guard _

/-- The offset `k0_off22` in plain numbers. -/
theorem off22_eq {S : ℕ} (hS : S ≤ 672) : k0_off22 (BitVec.ofNat 32 S) = ![(S + 11) * 32, 0] := by
  simp (disch := omega) only [k0_off22, w_add, w_mul, w_sub, w_div, w_iv, w_min, Scalar.indexCast, Nat.zero_add, Nat.add_zero, Nat.sub_zero, Nat.mul_one, Nat.div_one, w_toNat]

/-- The row number `k0_mult16` in plain numbers. -/
theorem mult16_eq {S : ℕ} (hS : S ≤ 672) : (k0_mult16 (BitVec.ofNat 32 S)).toNat = (S + 11) * 32 := by
  simp (disch := omega) only [k0_mult16, w_add, w_mul, w_sub, w_div, w_iv, w_min, Scalar.indexCast, Nat.zero_add, Nat.add_zero, Nat.sub_zero, Nat.mul_one, Nat.div_one, w_toNat]

/-- The offset `k0_off23` in plain numbers. -/
theorem off23_eq (t1 : Fin k0_t1_loop.trips) : k0_off23 t1 = ![t1.val, 3, 0] := by
  have h1 : t1.val < 24 := lt_of_lt_of_eq t1.isLt t1_trips
  simp (disch := omega) only [k0_off23, w_add, w_mul, w_sub, w_div, w_iv, w_min, Scalar.indexCast, Nat.zero_add, Nat.add_zero, Nat.sub_zero, Nat.mul_one, Nat.div_one, w_toNat]

/-- When the guard `k0_cond17` is taken, in plain numbers. -/
theorem cond17_iff {n : ℕ} (hn : n ≤ 896) : k0_cond17 (BitVec.ofNat 32 n) = 1#1 ↔ 384 < n := by
  simp (disch := omega) only [k0_cond17, w_sgt]
  exact w_guard _

/-- When the guard `k0_cond18` is taken, in plain numbers. -/
theorem cond18_iff {n : ℕ} (hn : n ≤ 896) : k0_cond18 (BitVec.ofNat 32 n) = 1#1 ↔ 384 < n := by
  simp (disch := omega) only [k0_cond18, w_sgt]
  exact w_guard _

/-- The offset `k0_off24` in plain numbers. -/
theorem off24_eq {S : ℕ} (hS : S ≤ 672) : k0_off24 (BitVec.ofNat 32 S) = ![(S + 12) * 32, 0] := by
  simp (disch := omega) only [k0_off24, w_add, w_mul, w_sub, w_div, w_iv, w_min, Scalar.indexCast, Nat.zero_add, Nat.add_zero, Nat.sub_zero, Nat.mul_one, Nat.div_one, w_toNat]

/-- The row number `k0_mult17` in plain numbers. -/
theorem mult17_eq {S : ℕ} (hS : S ≤ 672) : (k0_mult17 (BitVec.ofNat 32 S)).toNat = (S + 12) * 32 := by
  simp (disch := omega) only [k0_mult17, w_add, w_mul, w_sub, w_div, w_iv, w_min, Scalar.indexCast, Nat.zero_add, Nat.add_zero, Nat.sub_zero, Nat.mul_one, Nat.div_one, w_toNat]

/-- When the guard `k0_cond19` is taken, in plain numbers. -/
theorem cond19_iff {n : ℕ} (hn : n ≤ 896) : k0_cond19 (BitVec.ofNat 32 n) = 1#1 ↔ 416 < n := by
  simp (disch := omega) only [k0_cond19, w_sgt]
  exact w_guard _

/-- The offset `k0_off25` in plain numbers. -/
theorem off25_eq {S : ℕ} (hS : S ≤ 672) : k0_off25 (BitVec.ofNat 32 S) = ![(S + 13) * 32, 0] := by
  simp (disch := omega) only [k0_off25, w_add, w_mul, w_sub, w_div, w_iv, w_min, Scalar.indexCast, Nat.zero_add, Nat.add_zero, Nat.sub_zero, Nat.mul_one, Nat.div_one, w_toNat]

/-- The row number `k0_mult18` in plain numbers. -/
theorem mult18_eq {S : ℕ} (hS : S ≤ 672) : (k0_mult18 (BitVec.ofNat 32 S)).toNat = (S + 13) * 32 := by
  simp (disch := omega) only [k0_mult18, w_add, w_mul, w_sub, w_div, w_iv, w_min, Scalar.indexCast, Nat.zero_add, Nat.add_zero, Nat.sub_zero, Nat.mul_one, Nat.div_one, w_toNat]

/-- When the guard `k0_cond20` is taken, in plain numbers. -/
theorem cond20_iff {n : ℕ} (hn : n ≤ 896) : k0_cond20 (BitVec.ofNat 32 n) = 1#1 ↔ 448 < n := by
  simp (disch := omega) only [k0_cond20, w_sgt]
  exact w_guard _

/-- The offset `k0_off26` in plain numbers. -/
theorem off26_eq {S : ℕ} (hS : S ≤ 672) : k0_off26 (BitVec.ofNat 32 S) = ![(S + 14) * 32, 0] := by
  simp (disch := omega) only [k0_off26, w_add, w_mul, w_sub, w_div, w_iv, w_min, Scalar.indexCast, Nat.zero_add, Nat.add_zero, Nat.sub_zero, Nat.mul_one, Nat.div_one, w_toNat]

/-- The row number `k0_mult19` in plain numbers. -/
theorem mult19_eq {S : ℕ} (hS : S ≤ 672) : (k0_mult19 (BitVec.ofNat 32 S)).toNat = (S + 14) * 32 := by
  simp (disch := omega) only [k0_mult19, w_add, w_mul, w_sub, w_div, w_iv, w_min, Scalar.indexCast, Nat.zero_add, Nat.add_zero, Nat.sub_zero, Nat.mul_one, Nat.div_one, w_toNat]

/-- When the guard `k0_cond21` is taken, in plain numbers. -/
theorem cond21_iff {n : ℕ} (hn : n ≤ 896) : k0_cond21 (BitVec.ofNat 32 n) = 1#1 ↔ 480 < n := by
  simp (disch := omega) only [k0_cond21, w_sgt]
  exact w_guard _

/-- The offset `k0_off27` in plain numbers. -/
theorem off27_eq {S : ℕ} (hS : S ≤ 672) : k0_off27 (BitVec.ofNat 32 S) = ![(S + 15) * 32, 0] := by
  simp (disch := omega) only [k0_off27, w_add, w_mul, w_sub, w_div, w_iv, w_min, Scalar.indexCast, Nat.zero_add, Nat.add_zero, Nat.sub_zero, Nat.mul_one, Nat.div_one, w_toNat]

/-- The row number `k0_mult20` in plain numbers. -/
theorem mult20_eq {S : ℕ} (hS : S ≤ 672) : (k0_mult20 (BitVec.ofNat 32 S)).toNat = (S + 15) * 32 := by
  simp (disch := omega) only [k0_mult20, w_add, w_mul, w_sub, w_div, w_iv, w_min, Scalar.indexCast, Nat.zero_add, Nat.add_zero, Nat.sub_zero, Nat.mul_one, Nat.div_one, w_toNat]

/-- The offset `k0_off28` in plain numbers. -/
theorem off28_eq (t1 : Fin k0_t1_loop.trips) : k0_off28 t1 = ![t1.val, 4, 0] := by
  have h1 : t1.val < 24 := lt_of_lt_of_eq t1.isLt t1_trips
  simp (disch := omega) only [k0_off28, w_add, w_mul, w_sub, w_div, w_iv, w_min, Scalar.indexCast, Nat.zero_add, Nat.add_zero, Nat.sub_zero, Nat.mul_one, Nat.div_one, w_toNat]

/-- When the guard `k0_cond22` is taken, in plain numbers. -/
theorem cond22_iff {n : ℕ} (hn : n ≤ 896) : k0_cond22 (BitVec.ofNat 32 n) = 1#1 ↔ 512 < n := by
  simp (disch := omega) only [k0_cond22, w_sgt]
  exact w_guard _

/-- When the guard `k0_cond23` is taken, in plain numbers. -/
theorem cond23_iff {n : ℕ} (hn : n ≤ 896) : k0_cond23 (BitVec.ofNat 32 n) = 1#1 ↔ 512 < n := by
  simp (disch := omega) only [k0_cond23, w_sgt]
  exact w_guard _

/-- The offset `k0_off29` in plain numbers. -/
theorem off29_eq {S : ℕ} (hS : S ≤ 672) : k0_off29 (BitVec.ofNat 32 S) = ![(S + 16) * 32, 0] := by
  simp (disch := omega) only [k0_off29, w_add, w_mul, w_sub, w_div, w_iv, w_min, Scalar.indexCast, Nat.zero_add, Nat.add_zero, Nat.sub_zero, Nat.mul_one, Nat.div_one, w_toNat]

/-- The row number `k0_mult21` in plain numbers. -/
theorem mult21_eq {S : ℕ} (hS : S ≤ 672) : (k0_mult21 (BitVec.ofNat 32 S)).toNat = (S + 16) * 32 := by
  simp (disch := omega) only [k0_mult21, w_add, w_mul, w_sub, w_div, w_iv, w_min, Scalar.indexCast, Nat.zero_add, Nat.add_zero, Nat.sub_zero, Nat.mul_one, Nat.div_one, w_toNat]

/-- When the guard `k0_cond24` is taken, in plain numbers. -/
theorem cond24_iff {n : ℕ} (hn : n ≤ 896) : k0_cond24 (BitVec.ofNat 32 n) = 1#1 ↔ 544 < n := by
  simp (disch := omega) only [k0_cond24, w_sgt]
  exact w_guard _

/-- The offset `k0_off30` in plain numbers. -/
theorem off30_eq {S : ℕ} (hS : S ≤ 672) : k0_off30 (BitVec.ofNat 32 S) = ![(S + 17) * 32, 0] := by
  simp (disch := omega) only [k0_off30, w_add, w_mul, w_sub, w_div, w_iv, w_min, Scalar.indexCast, Nat.zero_add, Nat.add_zero, Nat.sub_zero, Nat.mul_one, Nat.div_one, w_toNat]

/-- The row number `k0_mult22` in plain numbers. -/
theorem mult22_eq {S : ℕ} (hS : S ≤ 672) : (k0_mult22 (BitVec.ofNat 32 S)).toNat = (S + 17) * 32 := by
  simp (disch := omega) only [k0_mult22, w_add, w_mul, w_sub, w_div, w_iv, w_min, Scalar.indexCast, Nat.zero_add, Nat.add_zero, Nat.sub_zero, Nat.mul_one, Nat.div_one, w_toNat]

/-- When the guard `k0_cond25` is taken, in plain numbers. -/
theorem cond25_iff {n : ℕ} (hn : n ≤ 896) : k0_cond25 (BitVec.ofNat 32 n) = 1#1 ↔ 576 < n := by
  simp (disch := omega) only [k0_cond25, w_sgt]
  exact w_guard _

/-- The offset `k0_off31` in plain numbers. -/
theorem off31_eq {S : ℕ} (hS : S ≤ 672) : k0_off31 (BitVec.ofNat 32 S) = ![(S + 18) * 32, 0] := by
  simp (disch := omega) only [k0_off31, w_add, w_mul, w_sub, w_div, w_iv, w_min, Scalar.indexCast, Nat.zero_add, Nat.add_zero, Nat.sub_zero, Nat.mul_one, Nat.div_one, w_toNat]

/-- The row number `k0_mult23` in plain numbers. -/
theorem mult23_eq {S : ℕ} (hS : S ≤ 672) : (k0_mult23 (BitVec.ofNat 32 S)).toNat = (S + 18) * 32 := by
  simp (disch := omega) only [k0_mult23, w_add, w_mul, w_sub, w_div, w_iv, w_min, Scalar.indexCast, Nat.zero_add, Nat.add_zero, Nat.sub_zero, Nat.mul_one, Nat.div_one, w_toNat]

/-- When the guard `k0_cond26` is taken, in plain numbers. -/
theorem cond26_iff {n : ℕ} (hn : n ≤ 896) : k0_cond26 (BitVec.ofNat 32 n) = 1#1 ↔ 608 < n := by
  simp (disch := omega) only [k0_cond26, w_sgt]
  exact w_guard _

/-- The offset `k0_off32` in plain numbers. -/
theorem off32_eq {S : ℕ} (hS : S ≤ 672) : k0_off32 (BitVec.ofNat 32 S) = ![(S + 19) * 32, 0] := by
  simp (disch := omega) only [k0_off32, w_add, w_mul, w_sub, w_div, w_iv, w_min, Scalar.indexCast, Nat.zero_add, Nat.add_zero, Nat.sub_zero, Nat.mul_one, Nat.div_one, w_toNat]

/-- The row number `k0_mult24` in plain numbers. -/
theorem mult24_eq {S : ℕ} (hS : S ≤ 672) : (k0_mult24 (BitVec.ofNat 32 S)).toNat = (S + 19) * 32 := by
  simp (disch := omega) only [k0_mult24, w_add, w_mul, w_sub, w_div, w_iv, w_min, Scalar.indexCast, Nat.zero_add, Nat.add_zero, Nat.sub_zero, Nat.mul_one, Nat.div_one, w_toNat]

/-- The offset `k0_off33` in plain numbers. -/
theorem off33_eq (t1 : Fin k0_t1_loop.trips) : k0_off33 t1 = ![t1.val, 5, 0] := by
  have h1 : t1.val < 24 := lt_of_lt_of_eq t1.isLt t1_trips
  simp (disch := omega) only [k0_off33, w_add, w_mul, w_sub, w_div, w_iv, w_min, Scalar.indexCast, Nat.zero_add, Nat.add_zero, Nat.sub_zero, Nat.mul_one, Nat.div_one, w_toNat]

/-- When the guard `k0_cond27` is taken, in plain numbers. -/
theorem cond27_iff {n : ℕ} (hn : n ≤ 896) : k0_cond27 (BitVec.ofNat 32 n) = 1#1 ↔ 640 < n := by
  simp (disch := omega) only [k0_cond27, w_sgt]
  exact w_guard _

/-- When the guard `k0_cond28` is taken, in plain numbers. -/
theorem cond28_iff {n : ℕ} (hn : n ≤ 896) : k0_cond28 (BitVec.ofNat 32 n) = 1#1 ↔ 640 < n := by
  simp (disch := omega) only [k0_cond28, w_sgt]
  exact w_guard _

/-- The offset `k0_off34` in plain numbers. -/
theorem off34_eq {S : ℕ} (hS : S ≤ 672) : k0_off34 (BitVec.ofNat 32 S) = ![(S + 20) * 32, 0] := by
  simp (disch := omega) only [k0_off34, w_add, w_mul, w_sub, w_div, w_iv, w_min, Scalar.indexCast, Nat.zero_add, Nat.add_zero, Nat.sub_zero, Nat.mul_one, Nat.div_one, w_toNat]

/-- The row number `k0_mult25` in plain numbers. -/
theorem mult25_eq {S : ℕ} (hS : S ≤ 672) : (k0_mult25 (BitVec.ofNat 32 S)).toNat = (S + 20) * 32 := by
  simp (disch := omega) only [k0_mult25, w_add, w_mul, w_sub, w_div, w_iv, w_min, Scalar.indexCast, Nat.zero_add, Nat.add_zero, Nat.sub_zero, Nat.mul_one, Nat.div_one, w_toNat]

/-- When the guard `k0_cond29` is taken, in plain numbers. -/
theorem cond29_iff {n : ℕ} (hn : n ≤ 896) : k0_cond29 (BitVec.ofNat 32 n) = 1#1 ↔ 672 < n := by
  simp (disch := omega) only [k0_cond29, w_sgt]
  exact w_guard _

/-- The offset `k0_off35` in plain numbers. -/
theorem off35_eq {S : ℕ} (hS : S ≤ 672) : k0_off35 (BitVec.ofNat 32 S) = ![(S + 21) * 32, 0] := by
  simp (disch := omega) only [k0_off35, w_add, w_mul, w_sub, w_div, w_iv, w_min, Scalar.indexCast, Nat.zero_add, Nat.add_zero, Nat.sub_zero, Nat.mul_one, Nat.div_one, w_toNat]

/-- The row number `k0_mult26` in plain numbers. -/
theorem mult26_eq {S : ℕ} (hS : S ≤ 672) : (k0_mult26 (BitVec.ofNat 32 S)).toNat = (S + 21) * 32 := by
  simp (disch := omega) only [k0_mult26, w_add, w_mul, w_sub, w_div, w_iv, w_min, Scalar.indexCast, Nat.zero_add, Nat.add_zero, Nat.sub_zero, Nat.mul_one, Nat.div_one, w_toNat]

/-- When the guard `k0_cond30` is taken, in plain numbers. -/
theorem cond30_iff {n : ℕ} (hn : n ≤ 896) : k0_cond30 (BitVec.ofNat 32 n) = 1#1 ↔ 704 < n := by
  simp (disch := omega) only [k0_cond30, w_sgt]
  exact w_guard _

/-- The offset `k0_off36` in plain numbers. -/
theorem off36_eq {S : ℕ} (hS : S ≤ 672) : k0_off36 (BitVec.ofNat 32 S) = ![(S + 22) * 32, 0] := by
  simp (disch := omega) only [k0_off36, w_add, w_mul, w_sub, w_div, w_iv, w_min, Scalar.indexCast, Nat.zero_add, Nat.add_zero, Nat.sub_zero, Nat.mul_one, Nat.div_one, w_toNat]

/-- The row number `k0_mult27` in plain numbers. -/
theorem mult27_eq {S : ℕ} (hS : S ≤ 672) : (k0_mult27 (BitVec.ofNat 32 S)).toNat = (S + 22) * 32 := by
  simp (disch := omega) only [k0_mult27, w_add, w_mul, w_sub, w_div, w_iv, w_min, Scalar.indexCast, Nat.zero_add, Nat.add_zero, Nat.sub_zero, Nat.mul_one, Nat.div_one, w_toNat]

/-- When the guard `k0_cond31` is taken, in plain numbers. -/
theorem cond31_iff {n : ℕ} (hn : n ≤ 896) : k0_cond31 (BitVec.ofNat 32 n) = 1#1 ↔ 736 < n := by
  simp (disch := omega) only [k0_cond31, w_sgt]
  exact w_guard _

/-- The offset `k0_off37` in plain numbers. -/
theorem off37_eq {S : ℕ} (hS : S ≤ 672) : k0_off37 (BitVec.ofNat 32 S) = ![(S + 23) * 32, 0] := by
  simp (disch := omega) only [k0_off37, w_add, w_mul, w_sub, w_div, w_iv, w_min, Scalar.indexCast, Nat.zero_add, Nat.add_zero, Nat.sub_zero, Nat.mul_one, Nat.div_one, w_toNat]

/-- The row number `k0_mult28` in plain numbers. -/
theorem mult28_eq {S : ℕ} (hS : S ≤ 672) : (k0_mult28 (BitVec.ofNat 32 S)).toNat = (S + 23) * 32 := by
  simp (disch := omega) only [k0_mult28, w_add, w_mul, w_sub, w_div, w_iv, w_min, Scalar.indexCast, Nat.zero_add, Nat.add_zero, Nat.sub_zero, Nat.mul_one, Nat.div_one, w_toNat]

/-- The offset `k0_off38` in plain numbers. -/
theorem off38_eq (t1 : Fin k0_t1_loop.trips) : k0_off38 t1 = ![t1.val, 6, 0] := by
  have h1 : t1.val < 24 := lt_of_lt_of_eq t1.isLt t1_trips
  simp (disch := omega) only [k0_off38, w_add, w_mul, w_sub, w_div, w_iv, w_min, Scalar.indexCast, Nat.zero_add, Nat.add_zero, Nat.sub_zero, Nat.mul_one, Nat.div_one, w_toNat]

/-- When the guard `k0_cond32` is taken, in plain numbers. -/
theorem cond32_iff {n : ℕ} (hn : n ≤ 896) : k0_cond32 (BitVec.ofNat 32 n) = 1#1 ↔ 768 < n := by
  simp (disch := omega) only [k0_cond32, w_sgt]
  exact w_guard _

/-- When the guard `k0_cond33` is taken, in plain numbers. -/
theorem cond33_iff {n : ℕ} (hn : n ≤ 896) : k0_cond33 (BitVec.ofNat 32 n) = 1#1 ↔ 768 < n := by
  simp (disch := omega) only [k0_cond33, w_sgt]
  exact w_guard _

/-- The offset `k0_off39` in plain numbers. -/
theorem off39_eq {S : ℕ} (hS : S ≤ 672) : k0_off39 (BitVec.ofNat 32 S) = ![(S + 24) * 32, 0] := by
  simp (disch := omega) only [k0_off39, w_add, w_mul, w_sub, w_div, w_iv, w_min, Scalar.indexCast, Nat.zero_add, Nat.add_zero, Nat.sub_zero, Nat.mul_one, Nat.div_one, w_toNat]

/-- The row number `k0_mult29` in plain numbers. -/
theorem mult29_eq {S : ℕ} (hS : S ≤ 672) : (k0_mult29 (BitVec.ofNat 32 S)).toNat = (S + 24) * 32 := by
  simp (disch := omega) only [k0_mult29, w_add, w_mul, w_sub, w_div, w_iv, w_min, Scalar.indexCast, Nat.zero_add, Nat.add_zero, Nat.sub_zero, Nat.mul_one, Nat.div_one, w_toNat]

/-- When the guard `k0_cond34` is taken, in plain numbers. -/
theorem cond34_iff {n : ℕ} (hn : n ≤ 896) : k0_cond34 (BitVec.ofNat 32 n) = 1#1 ↔ 800 < n := by
  simp (disch := omega) only [k0_cond34, w_sgt]
  exact w_guard _

/-- The offset `k0_off40` in plain numbers. -/
theorem off40_eq {S : ℕ} (hS : S ≤ 672) : k0_off40 (BitVec.ofNat 32 S) = ![(S + 25) * 32, 0] := by
  simp (disch := omega) only [k0_off40, w_add, w_mul, w_sub, w_div, w_iv, w_min, Scalar.indexCast, Nat.zero_add, Nat.add_zero, Nat.sub_zero, Nat.mul_one, Nat.div_one, w_toNat]

/-- The row number `k0_mult30` in plain numbers. -/
theorem mult30_eq {S : ℕ} (hS : S ≤ 672) : (k0_mult30 (BitVec.ofNat 32 S)).toNat = (S + 25) * 32 := by
  simp (disch := omega) only [k0_mult30, w_add, w_mul, w_sub, w_div, w_iv, w_min, Scalar.indexCast, Nat.zero_add, Nat.add_zero, Nat.sub_zero, Nat.mul_one, Nat.div_one, w_toNat]

/-- When the guard `k0_cond35` is taken, in plain numbers. -/
theorem cond35_iff {n : ℕ} (hn : n ≤ 896) : k0_cond35 (BitVec.ofNat 32 n) = 1#1 ↔ 832 < n := by
  simp (disch := omega) only [k0_cond35, w_sgt]
  exact w_guard _

/-- The offset `k0_off41` in plain numbers. -/
theorem off41_eq {S : ℕ} (hS : S ≤ 672) : k0_off41 (BitVec.ofNat 32 S) = ![(S + 26) * 32, 0] := by
  simp (disch := omega) only [k0_off41, w_add, w_mul, w_sub, w_div, w_iv, w_min, Scalar.indexCast, Nat.zero_add, Nat.add_zero, Nat.sub_zero, Nat.mul_one, Nat.div_one, w_toNat]

/-- The row number `k0_mult31` in plain numbers. -/
theorem mult31_eq {S : ℕ} (hS : S ≤ 672) : (k0_mult31 (BitVec.ofNat 32 S)).toNat = (S + 26) * 32 := by
  simp (disch := omega) only [k0_mult31, w_add, w_mul, w_sub, w_div, w_iv, w_min, Scalar.indexCast, Nat.zero_add, Nat.add_zero, Nat.sub_zero, Nat.mul_one, Nat.div_one, w_toNat]

/-- When the guard `k0_cond36` is taken, in plain numbers. -/
theorem cond36_iff {n : ℕ} (hn : n ≤ 896) : k0_cond36 (BitVec.ofNat 32 n) = 1#1 ↔ 864 < n := by
  simp (disch := omega) only [k0_cond36, w_sgt]
  exact w_guard _

/-- The offset `k0_off42` in plain numbers. -/
theorem off42_eq {S : ℕ} (hS : S ≤ 672) : k0_off42 (BitVec.ofNat 32 S) = ![(S + 27) * 32, 0] := by
  simp (disch := omega) only [k0_off42, w_add, w_mul, w_sub, w_div, w_iv, w_min, Scalar.indexCast, Nat.zero_add, Nat.add_zero, Nat.sub_zero, Nat.mul_one, Nat.div_one, w_toNat]

/-- The row number `k0_mult32` in plain numbers. -/
theorem mult32_eq {S : ℕ} (hS : S ≤ 672) : (k0_mult32 (BitVec.ofNat 32 S)).toNat = (S + 27) * 32 := by
  simp (disch := omega) only [k0_mult32, w_add, w_mul, w_sub, w_div, w_iv, w_min, Scalar.indexCast, Nat.zero_add, Nat.add_zero, Nat.sub_zero, Nat.mul_one, Nat.div_one, w_toNat]

/-- The offset `k0_off43` in plain numbers. -/
theorem off43_eq {n : ℕ} (hn : n ≤ 672) (k : Fin (k0_t4_loop (BitVec.ofNat 32 n)).trips) : k0_off43 (BitVec.ofNat 32 n) k = ![n + k.val] := by
  have h4 : k.val < (n + 15) / 16 * 16 - n := lt_of_lt_of_eq k.isLt (t4_trips hn)
  simp (disch := omega) only [k0_off43, w_add, w_mul, w_sub, w_div, w_iv, w_min, Scalar.indexCast, Nat.zero_add, Nat.add_zero, Nat.sub_zero, Nat.mul_one, Nat.div_one, w_toNat]

/-- The offset `k0_off44` in plain numbers. -/
theorem off44_eq {n : ℕ} (hn : n ≤ 672) (k : Fin (k0_t4_loop (BitVec.ofNat 32 n)).trips) : k0_off44 (BitVec.ofNat 32 n) k = ![(n + k.val) * 32, 0] := by
  have h4 : k.val < (n + 15) / 16 * 16 - n := lt_of_lt_of_eq k.isLt (t4_trips hn)
  simp (disch := omega) only [k0_off44, w_add, w_mul, w_sub, w_div, w_iv, w_min, Scalar.indexCast, Nat.zero_add, Nat.add_zero, Nat.sub_zero, Nat.mul_one, Nat.div_one, w_toNat]

/-- The offset `k0_off45` in plain numbers. -/
theorem off45_eq {n : ℕ} (hn : n ≤ 672) (k : Fin (k0_t4_loop (BitVec.ofNat 32 n)).trips) : k0_off45 (BitVec.ofNat 32 n) k = ![(n + k.val) * 32, 0] := by
  have h4 : k.val < (n + 15) / 16 * 16 - n := lt_of_lt_of_eq k.isLt (t4_trips hn)
  simp (disch := omega) only [k0_off45, w_add, w_mul, w_sub, w_div, w_iv, w_min, Scalar.indexCast, Nat.zero_add, Nat.add_zero, Nat.sub_zero, Nat.mul_one, Nat.div_one, w_toNat]

/-- The row number `k0_mult33` in plain numbers. -/
theorem mult33_eq {n : ℕ} (hn : n ≤ 672) (k : Fin (k0_t4_loop (BitVec.ofNat 32 n)).trips) : (k0_mult33 (BitVec.ofNat 32 n) k).toNat = (n + k.val) * 32 := by
  have h4 : k.val < (n + 15) / 16 * 16 - n := lt_of_lt_of_eq k.isLt (t4_trips hn)
  simp (disch := omega) only [k0_mult33, w_add, w_mul, w_sub, w_div, w_iv, w_min, Scalar.indexCast, Nat.zero_add, Nat.add_zero, Nat.sub_zero, Nat.mul_one, Nat.div_one, w_toNat]

/-- The row number `k0_mult34` in plain numbers. -/
theorem mult34_eq {n : ℕ} (hn : n ≤ 672) (k : Fin (k0_t4_loop (BitVec.ofNat 32 n)).trips) : (k0_mult34 (BitVec.ofNat 32 n) k).toNat = (n + k.val) * 32 := by
  have h4 : k.val < (n + 15) / 16 * 16 - n := lt_of_lt_of_eq k.isLt (t4_trips hn)
  simp (disch := omega) only [k0_mult34, w_add, w_mul, w_sub, w_div, w_iv, w_min, Scalar.indexCast, Nat.zero_add, Nat.add_zero, Nat.sub_zero, Nat.mul_one, Nat.div_one, w_toNat]

/-- The offset `k0_off49` in plain numbers. -/
theorem off49_eq {n : ℕ} (hn : n ≤ 42) (k : Fin (k0_t8_loop (BitVec.ofNat 32 n)).trips) : k0_off49 (BitVec.ofNat 32 n) k = ![k.val * 512, 0] := by
  have h8 : k.val < n := lt_of_lt_of_eq k.isLt (t8_trips hn)
  simp (disch := omega) only [k0_off49, w_add, w_mul, w_sub, w_div, w_iv, w_min, Scalar.indexCast, Nat.zero_add, Nat.add_zero, Nat.sub_zero, Nat.mul_one, Nat.div_one, w_toNat]

/-- The row number `k0_mult41` in plain numbers. -/
theorem mult41_eq {n : ℕ} (hn : n ≤ 42) (k : Fin (k0_t8_loop (BitVec.ofNat 32 n)).trips) : (k0_mult41 (BitVec.ofNat 32 n) k).toNat = k.val * 512 := by
  have h8 : k.val < n := lt_of_lt_of_eq k.isLt (t8_trips hn)
  simp (disch := omega) only [k0_mult41, w_add, w_mul, w_sub, w_div, w_iv, w_min, Scalar.indexCast, Nat.zero_add, Nat.add_zero, Nat.sub_zero, Nat.mul_one, Nat.div_one, w_toNat]

/-- The offset `k0_off50` in plain numbers. -/
theorem off50_eq {n : ℕ} (hn : n ≤ 42) (k : Fin (k0_t8_loop (BitVec.ofNat 32 n)).trips) : k0_off50 (BitVec.ofNat 32 n) k = ![k.val * 512 + 0, 0] := by
  have h8 : k.val < n := lt_of_lt_of_eq k.isLt (t8_trips hn)
  simp (disch := omega) only [k0_off50, w_add, w_mul, w_sub, w_div, w_iv, w_min, Scalar.indexCast, Nat.zero_add, Nat.add_zero, Nat.sub_zero, Nat.mul_one, Nat.div_one, w_toNat]

/-- The offset `k0_off51` in plain numbers. -/
theorem off51_eq {n : ℕ} (hn : n ≤ 42) (k : Fin (k0_t8_loop (BitVec.ofNat 32 n)).trips) : k0_off51 (BitVec.ofNat 32 n) k = ![k.val * 16 + 0] := by
  have h8 : k.val < n := lt_of_lt_of_eq k.isLt (t8_trips hn)
  simp (disch := omega) only [k0_off51, w_add, w_mul, w_sub, w_div, w_iv, w_min, Scalar.indexCast, Nat.zero_add, Nat.add_zero, Nat.sub_zero, Nat.mul_one, Nat.div_one, w_toNat]

/-- The offset `k0_off53` in plain numbers. -/
theorem off53_eq {n : ℕ} (hn : n ≤ 42) (k : Fin (k0_t8_loop (BitVec.ofNat 32 n)).trips) : k0_off53 (BitVec.ofNat 32 n) k = ![k.val * 512 + 32, 0] := by
  have h8 : k.val < n := lt_of_lt_of_eq k.isLt (t8_trips hn)
  simp (disch := omega) only [k0_off53, w_add, w_mul, w_sub, w_div, w_iv, w_min, Scalar.indexCast, Nat.zero_add, Nat.add_zero, Nat.sub_zero, Nat.mul_one, Nat.div_one, w_toNat]

/-- The offset `k0_off54` in plain numbers. -/
theorem off54_eq {n : ℕ} (hn : n ≤ 42) (k : Fin (k0_t8_loop (BitVec.ofNat 32 n)).trips) : k0_off54 (BitVec.ofNat 32 n) k = ![k.val * 16 + 1] := by
  have h8 : k.val < n := lt_of_lt_of_eq k.isLt (t8_trips hn)
  simp (disch := omega) only [k0_off54, w_add, w_mul, w_sub, w_div, w_iv, w_min, Scalar.indexCast, Nat.zero_add, Nat.add_zero, Nat.sub_zero, Nat.mul_one, Nat.div_one, w_toNat]

/-- The offset `k0_off56` in plain numbers. -/
theorem off56_eq {n : ℕ} (hn : n ≤ 42) (k : Fin (k0_t8_loop (BitVec.ofNat 32 n)).trips) : k0_off56 (BitVec.ofNat 32 n) k = ![k.val * 512 + 64, 0] := by
  have h8 : k.val < n := lt_of_lt_of_eq k.isLt (t8_trips hn)
  simp (disch := omega) only [k0_off56, w_add, w_mul, w_sub, w_div, w_iv, w_min, Scalar.indexCast, Nat.zero_add, Nat.add_zero, Nat.sub_zero, Nat.mul_one, Nat.div_one, w_toNat]

/-- The offset `k0_off57` in plain numbers. -/
theorem off57_eq {n : ℕ} (hn : n ≤ 42) (k : Fin (k0_t8_loop (BitVec.ofNat 32 n)).trips) : k0_off57 (BitVec.ofNat 32 n) k = ![k.val * 16 + 2] := by
  have h8 : k.val < n := lt_of_lt_of_eq k.isLt (t8_trips hn)
  simp (disch := omega) only [k0_off57, w_add, w_mul, w_sub, w_div, w_iv, w_min, Scalar.indexCast, Nat.zero_add, Nat.add_zero, Nat.sub_zero, Nat.mul_one, Nat.div_one, w_toNat]

/-- The offset `k0_off59` in plain numbers. -/
theorem off59_eq {n : ℕ} (hn : n ≤ 42) (k : Fin (k0_t8_loop (BitVec.ofNat 32 n)).trips) : k0_off59 (BitVec.ofNat 32 n) k = ![k.val * 512 + 96, 0] := by
  have h8 : k.val < n := lt_of_lt_of_eq k.isLt (t8_trips hn)
  simp (disch := omega) only [k0_off59, w_add, w_mul, w_sub, w_div, w_iv, w_min, Scalar.indexCast, Nat.zero_add, Nat.add_zero, Nat.sub_zero, Nat.mul_one, Nat.div_one, w_toNat]

/-- The offset `k0_off60` in plain numbers. -/
theorem off60_eq {n : ℕ} (hn : n ≤ 42) (k : Fin (k0_t8_loop (BitVec.ofNat 32 n)).trips) : k0_off60 (BitVec.ofNat 32 n) k = ![k.val * 16 + 3] := by
  have h8 : k.val < n := lt_of_lt_of_eq k.isLt (t8_trips hn)
  simp (disch := omega) only [k0_off60, w_add, w_mul, w_sub, w_div, w_iv, w_min, Scalar.indexCast, Nat.zero_add, Nat.add_zero, Nat.sub_zero, Nat.mul_one, Nat.div_one, w_toNat]

/-- The offset `k0_off62` in plain numbers. -/
theorem off62_eq {n : ℕ} (hn : n ≤ 42) (k : Fin (k0_t8_loop (BitVec.ofNat 32 n)).trips) : k0_off62 (BitVec.ofNat 32 n) k = ![k.val * 512 + 128, 0] := by
  have h8 : k.val < n := lt_of_lt_of_eq k.isLt (t8_trips hn)
  simp (disch := omega) only [k0_off62, w_add, w_mul, w_sub, w_div, w_iv, w_min, Scalar.indexCast, Nat.zero_add, Nat.add_zero, Nat.sub_zero, Nat.mul_one, Nat.div_one, w_toNat]

/-- The offset `k0_off63` in plain numbers. -/
theorem off63_eq {n : ℕ} (hn : n ≤ 42) (k : Fin (k0_t8_loop (BitVec.ofNat 32 n)).trips) : k0_off63 (BitVec.ofNat 32 n) k = ![k.val * 16 + 4] := by
  have h8 : k.val < n := lt_of_lt_of_eq k.isLt (t8_trips hn)
  simp (disch := omega) only [k0_off63, w_add, w_mul, w_sub, w_div, w_iv, w_min, Scalar.indexCast, Nat.zero_add, Nat.add_zero, Nat.sub_zero, Nat.mul_one, Nat.div_one, w_toNat]

/-- The offset `k0_off65` in plain numbers. -/
theorem off65_eq {n : ℕ} (hn : n ≤ 42) (k : Fin (k0_t8_loop (BitVec.ofNat 32 n)).trips) : k0_off65 (BitVec.ofNat 32 n) k = ![k.val * 512 + 160, 0] := by
  have h8 : k.val < n := lt_of_lt_of_eq k.isLt (t8_trips hn)
  simp (disch := omega) only [k0_off65, w_add, w_mul, w_sub, w_div, w_iv, w_min, Scalar.indexCast, Nat.zero_add, Nat.add_zero, Nat.sub_zero, Nat.mul_one, Nat.div_one, w_toNat]

/-- The offset `k0_off66` in plain numbers. -/
theorem off66_eq {n : ℕ} (hn : n ≤ 42) (k : Fin (k0_t8_loop (BitVec.ofNat 32 n)).trips) : k0_off66 (BitVec.ofNat 32 n) k = ![k.val * 16 + 5] := by
  have h8 : k.val < n := lt_of_lt_of_eq k.isLt (t8_trips hn)
  simp (disch := omega) only [k0_off66, w_add, w_mul, w_sub, w_div, w_iv, w_min, Scalar.indexCast, Nat.zero_add, Nat.add_zero, Nat.sub_zero, Nat.mul_one, Nat.div_one, w_toNat]

/-- The offset `k0_off68` in plain numbers. -/
theorem off68_eq {n : ℕ} (hn : n ≤ 42) (k : Fin (k0_t8_loop (BitVec.ofNat 32 n)).trips) : k0_off68 (BitVec.ofNat 32 n) k = ![k.val * 512 + 192, 0] := by
  have h8 : k.val < n := lt_of_lt_of_eq k.isLt (t8_trips hn)
  simp (disch := omega) only [k0_off68, w_add, w_mul, w_sub, w_div, w_iv, w_min, Scalar.indexCast, Nat.zero_add, Nat.add_zero, Nat.sub_zero, Nat.mul_one, Nat.div_one, w_toNat]

/-- The offset `k0_off69` in plain numbers. -/
theorem off69_eq {n : ℕ} (hn : n ≤ 42) (k : Fin (k0_t8_loop (BitVec.ofNat 32 n)).trips) : k0_off69 (BitVec.ofNat 32 n) k = ![k.val * 16 + 6] := by
  have h8 : k.val < n := lt_of_lt_of_eq k.isLt (t8_trips hn)
  simp (disch := omega) only [k0_off69, w_add, w_mul, w_sub, w_div, w_iv, w_min, Scalar.indexCast, Nat.zero_add, Nat.add_zero, Nat.sub_zero, Nat.mul_one, Nat.div_one, w_toNat]

/-- The offset `k0_off71` in plain numbers. -/
theorem off71_eq {n : ℕ} (hn : n ≤ 42) (k : Fin (k0_t8_loop (BitVec.ofNat 32 n)).trips) : k0_off71 (BitVec.ofNat 32 n) k = ![k.val * 512 + 224, 0] := by
  have h8 : k.val < n := lt_of_lt_of_eq k.isLt (t8_trips hn)
  simp (disch := omega) only [k0_off71, w_add, w_mul, w_sub, w_div, w_iv, w_min, Scalar.indexCast, Nat.zero_add, Nat.add_zero, Nat.sub_zero, Nat.mul_one, Nat.div_one, w_toNat]

/-- The offset `k0_off72` in plain numbers. -/
theorem off72_eq {n : ℕ} (hn : n ≤ 42) (k : Fin (k0_t8_loop (BitVec.ofNat 32 n)).trips) : k0_off72 (BitVec.ofNat 32 n) k = ![k.val * 16 + 7] := by
  have h8 : k.val < n := lt_of_lt_of_eq k.isLt (t8_trips hn)
  simp (disch := omega) only [k0_off72, w_add, w_mul, w_sub, w_div, w_iv, w_min, Scalar.indexCast, Nat.zero_add, Nat.add_zero, Nat.sub_zero, Nat.mul_one, Nat.div_one, w_toNat]

/-- The offset `k0_off74` in plain numbers. -/
theorem off74_eq {n : ℕ} (hn : n ≤ 42) (k : Fin (k0_t8_loop (BitVec.ofNat 32 n)).trips) : k0_off74 (BitVec.ofNat 32 n) k = ![k.val * 512 + 256, 0] := by
  have h8 : k.val < n := lt_of_lt_of_eq k.isLt (t8_trips hn)
  simp (disch := omega) only [k0_off74, w_add, w_mul, w_sub, w_div, w_iv, w_min, Scalar.indexCast, Nat.zero_add, Nat.add_zero, Nat.sub_zero, Nat.mul_one, Nat.div_one, w_toNat]

/-- The offset `k0_off75` in plain numbers. -/
theorem off75_eq {n : ℕ} (hn : n ≤ 42) (k : Fin (k0_t8_loop (BitVec.ofNat 32 n)).trips) : k0_off75 (BitVec.ofNat 32 n) k = ![k.val * 16 + 8] := by
  have h8 : k.val < n := lt_of_lt_of_eq k.isLt (t8_trips hn)
  simp (disch := omega) only [k0_off75, w_add, w_mul, w_sub, w_div, w_iv, w_min, Scalar.indexCast, Nat.zero_add, Nat.add_zero, Nat.sub_zero, Nat.mul_one, Nat.div_one, w_toNat]

/-- The offset `k0_off77` in plain numbers. -/
theorem off77_eq {n : ℕ} (hn : n ≤ 42) (k : Fin (k0_t8_loop (BitVec.ofNat 32 n)).trips) : k0_off77 (BitVec.ofNat 32 n) k = ![k.val * 512 + 288, 0] := by
  have h8 : k.val < n := lt_of_lt_of_eq k.isLt (t8_trips hn)
  simp (disch := omega) only [k0_off77, w_add, w_mul, w_sub, w_div, w_iv, w_min, Scalar.indexCast, Nat.zero_add, Nat.add_zero, Nat.sub_zero, Nat.mul_one, Nat.div_one, w_toNat]

/-- The offset `k0_off78` in plain numbers. -/
theorem off78_eq {n : ℕ} (hn : n ≤ 42) (k : Fin (k0_t8_loop (BitVec.ofNat 32 n)).trips) : k0_off78 (BitVec.ofNat 32 n) k = ![k.val * 16 + 9] := by
  have h8 : k.val < n := lt_of_lt_of_eq k.isLt (t8_trips hn)
  simp (disch := omega) only [k0_off78, w_add, w_mul, w_sub, w_div, w_iv, w_min, Scalar.indexCast, Nat.zero_add, Nat.add_zero, Nat.sub_zero, Nat.mul_one, Nat.div_one, w_toNat]

/-- The offset `k0_off80` in plain numbers. -/
theorem off80_eq {n : ℕ} (hn : n ≤ 42) (k : Fin (k0_t8_loop (BitVec.ofNat 32 n)).trips) : k0_off80 (BitVec.ofNat 32 n) k = ![k.val * 512 + 320, 0] := by
  have h8 : k.val < n := lt_of_lt_of_eq k.isLt (t8_trips hn)
  simp (disch := omega) only [k0_off80, w_add, w_mul, w_sub, w_div, w_iv, w_min, Scalar.indexCast, Nat.zero_add, Nat.add_zero, Nat.sub_zero, Nat.mul_one, Nat.div_one, w_toNat]

/-- The offset `k0_off81` in plain numbers. -/
theorem off81_eq {n : ℕ} (hn : n ≤ 42) (k : Fin (k0_t8_loop (BitVec.ofNat 32 n)).trips) : k0_off81 (BitVec.ofNat 32 n) k = ![k.val * 16 + 10] := by
  have h8 : k.val < n := lt_of_lt_of_eq k.isLt (t8_trips hn)
  simp (disch := omega) only [k0_off81, w_add, w_mul, w_sub, w_div, w_iv, w_min, Scalar.indexCast, Nat.zero_add, Nat.add_zero, Nat.sub_zero, Nat.mul_one, Nat.div_one, w_toNat]

/-- The offset `k0_off83` in plain numbers. -/
theorem off83_eq {n : ℕ} (hn : n ≤ 42) (k : Fin (k0_t8_loop (BitVec.ofNat 32 n)).trips) : k0_off83 (BitVec.ofNat 32 n) k = ![k.val * 512 + 352, 0] := by
  have h8 : k.val < n := lt_of_lt_of_eq k.isLt (t8_trips hn)
  simp (disch := omega) only [k0_off83, w_add, w_mul, w_sub, w_div, w_iv, w_min, Scalar.indexCast, Nat.zero_add, Nat.add_zero, Nat.sub_zero, Nat.mul_one, Nat.div_one, w_toNat]

/-- The offset `k0_off84` in plain numbers. -/
theorem off84_eq {n : ℕ} (hn : n ≤ 42) (k : Fin (k0_t8_loop (BitVec.ofNat 32 n)).trips) : k0_off84 (BitVec.ofNat 32 n) k = ![k.val * 16 + 11] := by
  have h8 : k.val < n := lt_of_lt_of_eq k.isLt (t8_trips hn)
  simp (disch := omega) only [k0_off84, w_add, w_mul, w_sub, w_div, w_iv, w_min, Scalar.indexCast, Nat.zero_add, Nat.add_zero, Nat.sub_zero, Nat.mul_one, Nat.div_one, w_toNat]

/-- The offset `k0_off86` in plain numbers. -/
theorem off86_eq {n : ℕ} (hn : n ≤ 42) (k : Fin (k0_t8_loop (BitVec.ofNat 32 n)).trips) : k0_off86 (BitVec.ofNat 32 n) k = ![k.val * 512 + 384, 0] := by
  have h8 : k.val < n := lt_of_lt_of_eq k.isLt (t8_trips hn)
  simp (disch := omega) only [k0_off86, w_add, w_mul, w_sub, w_div, w_iv, w_min, Scalar.indexCast, Nat.zero_add, Nat.add_zero, Nat.sub_zero, Nat.mul_one, Nat.div_one, w_toNat]

/-- The offset `k0_off87` in plain numbers. -/
theorem off87_eq {n : ℕ} (hn : n ≤ 42) (k : Fin (k0_t8_loop (BitVec.ofNat 32 n)).trips) : k0_off87 (BitVec.ofNat 32 n) k = ![k.val * 16 + 12] := by
  have h8 : k.val < n := lt_of_lt_of_eq k.isLt (t8_trips hn)
  simp (disch := omega) only [k0_off87, w_add, w_mul, w_sub, w_div, w_iv, w_min, Scalar.indexCast, Nat.zero_add, Nat.add_zero, Nat.sub_zero, Nat.mul_one, Nat.div_one, w_toNat]

/-- The offset `k0_off89` in plain numbers. -/
theorem off89_eq {n : ℕ} (hn : n ≤ 42) (k : Fin (k0_t8_loop (BitVec.ofNat 32 n)).trips) : k0_off89 (BitVec.ofNat 32 n) k = ![k.val * 512 + 416, 0] := by
  have h8 : k.val < n := lt_of_lt_of_eq k.isLt (t8_trips hn)
  simp (disch := omega) only [k0_off89, w_add, w_mul, w_sub, w_div, w_iv, w_min, Scalar.indexCast, Nat.zero_add, Nat.add_zero, Nat.sub_zero, Nat.mul_one, Nat.div_one, w_toNat]

/-- The offset `k0_off90` in plain numbers. -/
theorem off90_eq {n : ℕ} (hn : n ≤ 42) (k : Fin (k0_t8_loop (BitVec.ofNat 32 n)).trips) : k0_off90 (BitVec.ofNat 32 n) k = ![k.val * 16 + 13] := by
  have h8 : k.val < n := lt_of_lt_of_eq k.isLt (t8_trips hn)
  simp (disch := omega) only [k0_off90, w_add, w_mul, w_sub, w_div, w_iv, w_min, Scalar.indexCast, Nat.zero_add, Nat.add_zero, Nat.sub_zero, Nat.mul_one, Nat.div_one, w_toNat]

/-- The offset `k0_off92` in plain numbers. -/
theorem off92_eq {n : ℕ} (hn : n ≤ 42) (k : Fin (k0_t8_loop (BitVec.ofNat 32 n)).trips) : k0_off92 (BitVec.ofNat 32 n) k = ![k.val * 512 + 448, 0] := by
  have h8 : k.val < n := lt_of_lt_of_eq k.isLt (t8_trips hn)
  simp (disch := omega) only [k0_off92, w_add, w_mul, w_sub, w_div, w_iv, w_min, Scalar.indexCast, Nat.zero_add, Nat.add_zero, Nat.sub_zero, Nat.mul_one, Nat.div_one, w_toNat]

/-- The offset `k0_off93` in plain numbers. -/
theorem off93_eq {n : ℕ} (hn : n ≤ 42) (k : Fin (k0_t8_loop (BitVec.ofNat 32 n)).trips) : k0_off93 (BitVec.ofNat 32 n) k = ![k.val * 16 + 14] := by
  have h8 : k.val < n := lt_of_lt_of_eq k.isLt (t8_trips hn)
  simp (disch := omega) only [k0_off93, w_add, w_mul, w_sub, w_div, w_iv, w_min, Scalar.indexCast, Nat.zero_add, Nat.add_zero, Nat.sub_zero, Nat.mul_one, Nat.div_one, w_toNat]

/-- The offset `k0_off95` in plain numbers. -/
theorem off95_eq {n : ℕ} (hn : n ≤ 42) (k : Fin (k0_t8_loop (BitVec.ofNat 32 n)).trips) : k0_off95 (BitVec.ofNat 32 n) k = ![k.val * 512 + 480, 0] := by
  have h8 : k.val < n := lt_of_lt_of_eq k.isLt (t8_trips hn)
  simp (disch := omega) only [k0_off95, w_add, w_mul, w_sub, w_div, w_iv, w_min, Scalar.indexCast, Nat.zero_add, Nat.add_zero, Nat.sub_zero, Nat.mul_one, Nat.div_one, w_toNat]

/-- The offset `k0_off96` in plain numbers. -/
theorem off96_eq {n : ℕ} (hn : n ≤ 42) (k : Fin (k0_t8_loop (BitVec.ofNat 32 n)).trips) : k0_off96 (BitVec.ofNat 32 n) k = ![k.val * 16 + 15] := by
  have h8 : k.val < n := lt_of_lt_of_eq k.isLt (t8_trips hn)
  simp (disch := omega) only [k0_off96, w_add, w_mul, w_sub, w_div, w_iv, w_min, Scalar.indexCast, Nat.zero_add, Nat.add_zero, Nat.sub_zero, Nat.mul_one, Nat.div_one, w_toNat]

end Cert.Proof.KernelIdeal
-- ==== Proof.Checks.lean ====
module

public import proofs.«01_k».proof.Proof.Words

@[expose] public section

set_option maxRecDepth 16384

noncomputable section

namespace Cert.Proof.KernelIdeal

open Cert.KernelIdeal Cert.KernelIdeal.Gen Cert.Proof
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! The kernel's run-time checks hold at the words it meets. -/

/-- A group whose 32 rows fit lies inside the packed codes. -/
theorem inb_z {x : ℕ} (h : x + 32 ≤ 22016) : ∀ a, (![x, 0] : Fin 2 → ℕ) a + S32x1024.size a ≤ S22016x1024.size a :=
  Fin.forall_fin_two.mpr ⟨h, le_refl 1024⟩
/-- A group whose 32 rows fit lies inside the source array. -/
theorem inb_h {x : ℕ} (h : x + 32 ≤ 21504) : ∀ a, (![x, 0] : Fin 2 → ℕ) a + S32x1024.size a ≤ S21504x1024.size a :=
  Fin.forall_fin_two.mpr ⟨h, le_refl 1024⟩
/-- A group whose 32 rows fit lies inside the packed scales. -/
theorem inb_s {x : ℕ} (h : x + 32 ≤ 22016) : ∀ a, (![x, 0] : Fin 2 → ℕ) a + S32x128.size a ≤ S22016x128.size a :=
  Fin.forall_fin_two.mpr ⟨h, le_refl 128⟩
/-- A block whose 512 rows fit lies inside the packed codes. -/
theorem inb_b {x : ℕ} (h : x + 512 ≤ 22016) : ∀ a, (![x, 0] : Fin 2 → ℕ) a + S512x1024.size a ≤ S22016x1024.size a :=
  Fin.forall_fin_two.mpr ⟨h, le_refl 1024⟩
/-- An entry below the length lies inside a table. -/
theorem inb_w {x : ℕ} (h : x + 1 ≤ 688) : ∀ a, (![x] : Fin 1 → ℕ) a + S1.size a ≤ S688.size a :=
  Fin.forall_fin_one.mpr h
/-- A 32-row rectangle at a multiple of 32 starts on a packed-row boundary of the packed codes. -/
theorem packed_z {off : Fin 2 → ℕ} (h : 32 ∣ off 0) (inb : ∀ a, off a + S32x1024.size a ≤ S22016x1024.size a) :
    (Rect.unit (s := S22016x1024) off S32x1024.size inb).PackedRows (EltTy.packing .fp8e4m3) :=
  .inr ⟨le_refl 2, rfl, .inl ⟨dvd_trans (show 4 ∣ 32 by decide) h, show 4 ∣ 32 by decide⟩⟩
/-- A 32-row rectangle at a multiple of 32 starts on a packed-row boundary of the source. -/
theorem packed_h {off : Fin 2 → ℕ} (h : 32 ∣ off 0) (inb : ∀ a, off a + S32x1024.size a ≤ S21504x1024.size a) :
    (Rect.unit (s := S21504x1024) off S32x1024.size inb).PackedRows (EltTy.packing .fp8e4m3) :=
  .inr ⟨le_refl 2, rfl, .inl ⟨dvd_trans (show 4 ∣ 32 by decide) h, show 4 ∣ 32 by decide⟩⟩

/-- The kernel's bounds checks `k0_chk1_0` hold. -/
theorem chk1_0 (i : grid0.Coords) (t1 : Fin k0_t1_loop.trips) {S n : ℕ} (hn : n ≤ 896) (hS : S + (n + 31) / 32 ≤ 672) : k0_chk1_0 i t1 (BitVec.ofNat 32 S) (BitVec.ofNat 32 n) := by
  unfold k0_chk1_0
  have hS' : S ≤ 672 := by omega
  refine ⟨fun _ => t2_OK hn, ?_⟩
  refine ⟨fun k _ => by rw [mult1_eq t1 hn k]; exact Dvd.intro_left _ rfl, ?_⟩
  refine ⟨fun k _ => by rw [mult2_eq hS' hn k]; exact Dvd.intro_left _ rfl, ?_⟩
  refine ⟨?_, ?_⟩
  · exact fun k _ => by
        have h1 := lt_of_lt_of_eq t1.isLt t1_trips
        have h2 : k.val < (n + 31) / 32 := lt_of_lt_of_eq k.isLt (t2_trips hn)
        rw [off2_eq hS' hn k]; exact inb_z (by omega)
  refine ⟨?_, ?_⟩
  · exact fun k _ => by
        have h1 := lt_of_lt_of_eq t1.isLt t1_trips
        have h2 : k.val < (n + 31) / 32 := lt_of_lt_of_eq k.isLt (t2_trips hn)
        rw [off3_eq t1 hn k]; exact inb_h (by omega)
  refine ⟨fun k _ hinb => (packed_h (by rw [off3_eq t1 hn k]; exact Dvd.intro_left _ rfl) hinb).wholeWords, ?_⟩
  refine ⟨fun k _ hinb => (packed_z (by rw [off2_eq hS' hn k]; exact Dvd.intro_left _ rfl) hinb).wholeWords, ?_⟩
  refine ⟨?_, ?_⟩
  · exact fun k _ => by
        have h1 := lt_of_lt_of_eq t1.isLt t1_trips
        have h2 : k.val < (n + 31) / 32 := lt_of_lt_of_eq k.isLt (t2_trips hn)
        rw [off4_eq hS' hn k]; exact inb_w (by omega)
  refine ⟨fun _ => Scf.rem_ok _ _, ?_⟩
  refine ⟨fun k => (Scf.rem_no_trip _ _ k).elim, ?_⟩
  refine ⟨fun k => (Scf.rem_no_trip _ _ k).elim, ?_⟩
  refine ⟨fun k => (Scf.rem_no_trip _ _ k).elim, ?_⟩
  refine ⟨fun k => (Scf.rem_no_trip _ _ k).elim, ?_⟩
  refine ⟨fun k => (Scf.rem_no_trip _ _ k).elim, ?_⟩
  refine ⟨fun k => (Scf.rem_no_trip _ _ k).elim, ?_⟩
  refine ⟨fun k => (Scf.rem_no_trip _ _ k).elim, ?_⟩
  refine ⟨fun _ _ _ => by rw [mult5_eq hS']; exact Dvd.intro_left _ rfl, ?_⟩
  refine ⟨?_, ?_⟩
  · exact fun _ _ hc => by
        have hc := (cond3_iff hn).mp hc
        rw [off9_eq hS']; exact inb_s (by omega)
  refine ⟨fun _ _ _ => by rw [mult6_eq hS']; exact Dvd.intro_left _ rfl, ?_⟩
  refine ⟨?_, ?_⟩
  · exact fun _ _ hc => by
        have hc := (cond4_iff hn).mp hc
        rw [off10_eq hS']; exact inb_s (by omega)
  refine ⟨fun _ _ _ => by rw [mult7_eq hS']; exact Dvd.intro_left _ rfl, ?_⟩
  refine ⟨?_, ?_⟩
  · exact fun _ _ hc => by
        have hc := (cond5_iff hn).mp hc
        rw [off11_eq hS']; exact inb_s (by omega)
  refine ⟨fun _ _ _ => by rw [mult8_eq hS']; exact Dvd.intro_left _ rfl, ?_⟩
  refine ⟨?_, ?_⟩
  · exact fun _ _ hc => by
        have hc := (cond6_iff hn).mp hc
        rw [off12_eq hS']; exact inb_s (by omega)
  refine ⟨fun _ _ _ => by rw [mult9_eq hS']; exact Dvd.intro_left _ rfl, ?_⟩
  refine ⟨?_, ?_⟩
  · exact fun _ _ hc => by
        have hc := (cond8_iff hn).mp hc
        rw [off14_eq hS']; exact inb_s (by omega)
  refine ⟨fun _ _ _ => by rw [mult10_eq hS']; exact Dvd.intro_left _ rfl, ?_⟩
  refine ⟨?_, ?_⟩
  · exact fun _ _ hc => by
        have hc := (cond9_iff hn).mp hc
        rw [off15_eq hS']; exact inb_s (by omega)
  refine ⟨fun _ _ _ => by rw [mult11_eq hS']; exact Dvd.intro_left _ rfl, ?_⟩
  refine ⟨?_, ?_⟩
  · exact fun _ _ hc => by
        have hc := (cond10_iff hn).mp hc
        rw [off16_eq hS']; exact inb_s (by omega)
  refine ⟨fun _ _ _ => by rw [mult12_eq hS']; exact Dvd.intro_left _ rfl, ?_⟩
  exact fun _ _ hc => by
    have hc := (cond11_iff hn).mp hc
    rw [off17_eq hS']; exact inb_s (by omega)

/-- The kernel's bounds checks `k0_chk1_1` hold. -/
theorem chk1_1 (i : grid0.Coords) (t1 : Fin k0_t1_loop.trips) {S n : ℕ} (hn : n ≤ 896) (hS : S + (n + 31) / 32 ≤ 672) : k0_chk1_1 i t1 (BitVec.ofNat 32 S) (BitVec.ofNat 32 n) := by
  unfold k0_chk1_1
  have hS' : S ≤ 672 := by omega
  refine ⟨fun _ _ _ => by rw [mult13_eq hS']; exact Dvd.intro_left _ rfl, ?_⟩
  refine ⟨?_, ?_⟩
  · exact fun _ _ hc => by
        have hc := (cond13_iff hn).mp hc
        rw [off19_eq hS']; exact inb_s (by omega)
  refine ⟨fun _ _ _ => by rw [mult14_eq hS']; exact Dvd.intro_left _ rfl, ?_⟩
  refine ⟨?_, ?_⟩
  · exact fun _ _ hc => by
        have hc := (cond14_iff hn).mp hc
        rw [off20_eq hS']; exact inb_s (by omega)
  refine ⟨fun _ _ _ => by rw [mult15_eq hS']; exact Dvd.intro_left _ rfl, ?_⟩
  refine ⟨?_, ?_⟩
  · exact fun _ _ hc => by
        have hc := (cond15_iff hn).mp hc
        rw [off21_eq hS']; exact inb_s (by omega)
  refine ⟨fun _ _ _ => by rw [mult16_eq hS']; exact Dvd.intro_left _ rfl, ?_⟩
  refine ⟨?_, ?_⟩
  · exact fun _ _ hc => by
        have hc := (cond16_iff hn).mp hc
        rw [off22_eq hS']; exact inb_s (by omega)
  refine ⟨fun _ _ _ => by rw [mult17_eq hS']; exact Dvd.intro_left _ rfl, ?_⟩
  refine ⟨?_, ?_⟩
  · exact fun _ _ hc => by
        have hc := (cond18_iff hn).mp hc
        rw [off24_eq hS']; exact inb_s (by omega)
  refine ⟨fun _ _ _ => by rw [mult18_eq hS']; exact Dvd.intro_left _ rfl, ?_⟩
  refine ⟨?_, ?_⟩
  · exact fun _ _ hc => by
        have hc := (cond19_iff hn).mp hc
        rw [off25_eq hS']; exact inb_s (by omega)
  refine ⟨fun _ _ _ => by rw [mult19_eq hS']; exact Dvd.intro_left _ rfl, ?_⟩
  refine ⟨?_, ?_⟩
  · exact fun _ _ hc => by
        have hc := (cond20_iff hn).mp hc
        rw [off26_eq hS']; exact inb_s (by omega)
  refine ⟨fun _ _ _ => by rw [mult20_eq hS']; exact Dvd.intro_left _ rfl, ?_⟩
  refine ⟨?_, ?_⟩
  · exact fun _ _ hc => by
        have hc := (cond21_iff hn).mp hc
        rw [off27_eq hS']; exact inb_s (by omega)
  refine ⟨fun _ _ _ => by rw [mult21_eq hS']; exact Dvd.intro_left _ rfl, ?_⟩
  refine ⟨?_, ?_⟩
  · exact fun _ _ hc => by
        have hc := (cond23_iff hn).mp hc
        rw [off29_eq hS']; exact inb_s (by omega)
  refine ⟨fun _ _ _ => by rw [mult22_eq hS']; exact Dvd.intro_left _ rfl, ?_⟩
  refine ⟨?_, ?_⟩
  · exact fun _ _ hc => by
        have hc := (cond24_iff hn).mp hc
        rw [off30_eq hS']; exact inb_s (by omega)
  refine ⟨fun _ _ _ => by rw [mult23_eq hS']; exact Dvd.intro_left _ rfl, ?_⟩
  refine ⟨?_, ?_⟩
  · exact fun _ _ hc => by
        have hc := (cond25_iff hn).mp hc
        rw [off31_eq hS']; exact inb_s (by omega)
  refine ⟨fun _ _ _ => by rw [mult24_eq hS']; exact Dvd.intro_left _ rfl, ?_⟩
  refine ⟨?_, ?_⟩
  · exact fun _ _ hc => by
        have hc := (cond26_iff hn).mp hc
        rw [off32_eq hS']; exact inb_s (by omega)
  refine ⟨fun _ _ _ => by rw [mult25_eq hS']; exact Dvd.intro_left _ rfl, ?_⟩
  refine ⟨?_, ?_⟩
  · exact fun _ _ hc => by
        have hc := (cond28_iff hn).mp hc
        rw [off34_eq hS']; exact inb_s (by omega)
  refine ⟨fun _ _ _ => by rw [mult26_eq hS']; exact Dvd.intro_left _ rfl, ?_⟩
  refine ⟨?_, ?_⟩
  · exact fun _ _ hc => by
        have hc := (cond29_iff hn).mp hc
        rw [off35_eq hS']; exact inb_s (by omega)
  refine ⟨fun _ _ _ => by rw [mult27_eq hS']; exact Dvd.intro_left _ rfl, ?_⟩
  refine ⟨?_, ?_⟩
  · exact fun _ _ hc => by
        have hc := (cond30_iff hn).mp hc
        rw [off36_eq hS']; exact inb_s (by omega)
  refine ⟨fun _ _ _ => by rw [mult28_eq hS']; exact Dvd.intro_left _ rfl, ?_⟩
  exact fun _ _ hc => by
    have hc := (cond31_iff hn).mp hc
    rw [off37_eq hS']; exact inb_s (by omega)

/-- The kernel's bounds checks `k0_chk1_2` hold. -/
theorem chk1_2 (i : grid0.Coords) (t1 : Fin k0_t1_loop.trips) {S n : ℕ} (hn : n ≤ 896) (hS : S + (n + 31) / 32 ≤ 672) : k0_chk1_2 i t1 (BitVec.ofNat 32 S) (BitVec.ofNat 32 n) := by
  unfold k0_chk1_2
  have hS' : S ≤ 672 := by omega
  refine ⟨fun _ _ _ => by rw [mult29_eq hS']; exact Dvd.intro_left _ rfl, ?_⟩
  refine ⟨?_, ?_⟩
  · exact fun _ _ hc => by
        have hc := (cond33_iff hn).mp hc
        rw [off39_eq hS']; exact inb_s (by omega)
  refine ⟨fun _ _ _ => by rw [mult30_eq hS']; exact Dvd.intro_left _ rfl, ?_⟩
  refine ⟨?_, ?_⟩
  · exact fun _ _ hc => by
        have hc := (cond34_iff hn).mp hc
        rw [off40_eq hS']; exact inb_s (by omega)
  refine ⟨fun _ _ _ => by rw [mult31_eq hS']; exact Dvd.intro_left _ rfl, ?_⟩
  refine ⟨?_, ?_⟩
  · exact fun _ _ hc => by
        have hc := (cond35_iff hn).mp hc
        rw [off41_eq hS']; exact inb_s (by omega)
  refine ⟨fun _ _ _ => by rw [mult32_eq hS']; exact Dvd.intro_left _ rfl, ?_⟩
  exact fun _ _ hc => by
    have hc := (cond36_iff hn).mp hc
    rw [off42_eq hS']; exact inb_s (by omega)

/-- The check of a document's trip. -/
theorem chk1 (i : grid0.Coords) (t1 : Fin k0_t1_loop.trips) {S n : ℕ} (hn : n ≤ 896) (hS : S + (n + 31) / 32 ≤ 672) : k0_chk1 i t1 (BitVec.ofNat 32 S) (BitVec.ofNat 32 n) :=
  ⟨chk1_0 i t1 hn hS, chk1_1 i t1 hn hS, chk1_2 i t1 hn hS⟩

/-- The kernel's bounds checks `k0_chk2` hold. -/
theorem chk2 (i : grid0.Coords) {n : ℕ} (hn : n ≤ 672) : k0_chk2 i (BitVec.ofNat 32 n) := by
  unfold k0_chk2
  refine ⟨fun _ => t4_OK hn, ?_⟩
  refine ⟨?_, ?_⟩
  · exact fun k _ => by
        have h4 : k.val < (n + 15) / 16 * 16 - n := lt_of_lt_of_eq k.isLt (t4_trips hn)
        rw [off43_eq hn k]; exact inb_w (by omega)
  refine ⟨fun k _ => by rw [mult33_eq hn k]; exact Dvd.intro_left _ rfl, ?_⟩
  refine ⟨?_, ?_⟩
  · exact fun k _ => by
        have h4 : k.val < (n + 15) / 16 * 16 - n := lt_of_lt_of_eq k.isLt (t4_trips hn)
        rw [off44_eq hn k]; exact inb_z (by omega)
  refine ⟨fun k _ hinb => packed_z (by rw [off44_eq hn k]; exact Dvd.intro_left _ rfl) hinb, ?_⟩
  refine ⟨fun k _ => by rw [mult34_eq hn k]; exact Dvd.intro_left _ rfl, ?_⟩
  refine ⟨?_, ?_⟩
  · exact fun k _ => by
        have h4 : k.val < (n + 15) / 16 * 16 - n := lt_of_lt_of_eq k.isLt (t4_trips hn)
        rw [off45_eq hn k]; exact inb_s (by omega)
  refine ⟨fun _ => Scf.rem_ok _ _, ?_⟩
  refine ⟨fun k => (Scf.rem_no_trip _ _ k).elim, ?_⟩
  refine ⟨fun k => (Scf.rem_no_trip _ _ k).elim, ?_⟩
  refine ⟨fun k => (Scf.rem_no_trip _ _ k).elim, ?_⟩
  refine ⟨fun k => (Scf.rem_no_trip _ _ k).elim, ?_⟩
  refine ⟨fun k => (Scf.rem_no_trip _ _ k).elim, ?_⟩
  refine ⟨fun k => (Scf.rem_no_trip _ _ k).elim, ?_⟩
  refine ⟨fun _ => t6_OK hn, ?_⟩
  exact fun _ => Scf.rem_ok _ _

/-- The kernel's bounds checks `k0_chk3_0` hold. -/
theorem chk3_0 {n : ℕ} (hn : n ≤ 42) : k0_chk3_0 (BitVec.ofNat 32 n) := by
  unfold k0_chk3_0
  refine ⟨t8_OK hn, ?_⟩
  refine ⟨fun k => by rw [mult41_eq hn k]; exact Dvd.intro_left _ rfl, ?_⟩
  refine ⟨?_, ?_⟩
  · exact fun k => by
        have h8 : k.val < n := lt_of_lt_of_eq k.isLt (t8_trips hn)
        rw [off49_eq hn k]; exact inb_b (by omega)
  refine ⟨?_, ?_⟩
  · exact fun k => by
        have h8 : k.val < n := lt_of_lt_of_eq k.isLt (t8_trips hn)
        rw [off50_eq hn k]; exact inb_s (by omega)
  refine ⟨?_, ?_⟩
  · exact fun k => by
        have h8 : k.val < n := lt_of_lt_of_eq k.isLt (t8_trips hn)
        rw [off51_eq hn k]; exact inb_w (by omega)
  refine ⟨?_, ?_⟩
  · exact fun k => by
        have h8 : k.val < n := lt_of_lt_of_eq k.isLt (t8_trips hn)
        rw [off53_eq hn k]; exact inb_s (by omega)
  refine ⟨?_, ?_⟩
  · exact fun k => by
        have h8 : k.val < n := lt_of_lt_of_eq k.isLt (t8_trips hn)
        rw [off54_eq hn k]; exact inb_w (by omega)
  refine ⟨?_, ?_⟩
  · exact fun k => by
        have h8 : k.val < n := lt_of_lt_of_eq k.isLt (t8_trips hn)
        rw [off56_eq hn k]; exact inb_s (by omega)
  refine ⟨?_, ?_⟩
  · exact fun k => by
        have h8 : k.val < n := lt_of_lt_of_eq k.isLt (t8_trips hn)
        rw [off57_eq hn k]; exact inb_w (by omega)
  refine ⟨?_, ?_⟩
  · exact fun k => by
        have h8 : k.val < n := lt_of_lt_of_eq k.isLt (t8_trips hn)
        rw [off59_eq hn k]; exact inb_s (by omega)
  refine ⟨?_, ?_⟩
  · exact fun k => by
        have h8 : k.val < n := lt_of_lt_of_eq k.isLt (t8_trips hn)
        rw [off60_eq hn k]; exact inb_w (by omega)
  refine ⟨?_, ?_⟩
  · exact fun k => by
        have h8 : k.val < n := lt_of_lt_of_eq k.isLt (t8_trips hn)
        rw [off62_eq hn k]; exact inb_s (by omega)
  refine ⟨?_, ?_⟩
  · exact fun k => by
        have h8 : k.val < n := lt_of_lt_of_eq k.isLt (t8_trips hn)
        rw [off63_eq hn k]; exact inb_w (by omega)
  refine ⟨?_, ?_⟩
  · exact fun k => by
        have h8 : k.val < n := lt_of_lt_of_eq k.isLt (t8_trips hn)
        rw [off65_eq hn k]; exact inb_s (by omega)
  refine ⟨?_, ?_⟩
  · exact fun k => by
        have h8 : k.val < n := lt_of_lt_of_eq k.isLt (t8_trips hn)
        rw [off66_eq hn k]; exact inb_w (by omega)
  refine ⟨?_, ?_⟩
  · exact fun k => by
        have h8 : k.val < n := lt_of_lt_of_eq k.isLt (t8_trips hn)
        rw [off68_eq hn k]; exact inb_s (by omega)
  refine ⟨?_, ?_⟩
  · exact fun k => by
        have h8 : k.val < n := lt_of_lt_of_eq k.isLt (t8_trips hn)
        rw [off69_eq hn k]; exact inb_w (by omega)
  refine ⟨?_, ?_⟩
  · exact fun k => by
        have h8 : k.val < n := lt_of_lt_of_eq k.isLt (t8_trips hn)
        rw [off71_eq hn k]; exact inb_s (by omega)
  refine ⟨?_, ?_⟩
  · exact fun k => by
        have h8 : k.val < n := lt_of_lt_of_eq k.isLt (t8_trips hn)
        rw [off72_eq hn k]; exact inb_w (by omega)
  refine ⟨?_, ?_⟩
  · exact fun k => by
        have h8 : k.val < n := lt_of_lt_of_eq k.isLt (t8_trips hn)
        rw [off74_eq hn k]; exact inb_s (by omega)
  refine ⟨?_, ?_⟩
  · exact fun k => by
        have h8 : k.val < n := lt_of_lt_of_eq k.isLt (t8_trips hn)
        rw [off75_eq hn k]; exact inb_w (by omega)
  refine ⟨?_, ?_⟩
  · exact fun k => by
        have h8 : k.val < n := lt_of_lt_of_eq k.isLt (t8_trips hn)
        rw [off77_eq hn k]; exact inb_s (by omega)
  refine ⟨?_, ?_⟩
  · exact fun k => by
        have h8 : k.val < n := lt_of_lt_of_eq k.isLt (t8_trips hn)
        rw [off78_eq hn k]; exact inb_w (by omega)
  refine ⟨?_, ?_⟩
  · exact fun k => by
        have h8 : k.val < n := lt_of_lt_of_eq k.isLt (t8_trips hn)
        rw [off80_eq hn k]; exact inb_s (by omega)
  refine ⟨?_, ?_⟩
  · exact fun k => by
        have h8 : k.val < n := lt_of_lt_of_eq k.isLt (t8_trips hn)
        rw [off81_eq hn k]; exact inb_w (by omega)
  refine ⟨?_, ?_⟩
  · exact fun k => by
        have h8 : k.val < n := lt_of_lt_of_eq k.isLt (t8_trips hn)
        rw [off83_eq hn k]; exact inb_s (by omega)
  refine ⟨?_, ?_⟩
  · exact fun k => by
        have h8 : k.val < n := lt_of_lt_of_eq k.isLt (t8_trips hn)
        rw [off84_eq hn k]; exact inb_w (by omega)
  refine ⟨?_, ?_⟩
  · exact fun k => by
        have h8 : k.val < n := lt_of_lt_of_eq k.isLt (t8_trips hn)
        rw [off86_eq hn k]; exact inb_s (by omega)
  refine ⟨?_, ?_⟩
  · exact fun k => by
        have h8 : k.val < n := lt_of_lt_of_eq k.isLt (t8_trips hn)
        rw [off87_eq hn k]; exact inb_w (by omega)
  refine ⟨?_, ?_⟩
  · exact fun k => by
        have h8 : k.val < n := lt_of_lt_of_eq k.isLt (t8_trips hn)
        rw [off89_eq hn k]; exact inb_s (by omega)
  refine ⟨?_, ?_⟩
  · exact fun k => by
        have h8 : k.val < n := lt_of_lt_of_eq k.isLt (t8_trips hn)
        rw [off90_eq hn k]; exact inb_w (by omega)
  exact fun k => by
    have h8 : k.val < n := lt_of_lt_of_eq k.isLt (t8_trips hn)
    rw [off92_eq hn k]; exact inb_s (by omega)

/-- The kernel's bounds checks `k0_chk3_1` hold. -/
theorem chk3_1 {n : ℕ} (hn : n ≤ 42) : k0_chk3_1 (BitVec.ofNat 32 n) := by
  unfold k0_chk3_1
  refine ⟨?_, ?_⟩
  · exact fun k => by
        have h8 : k.val < n := lt_of_lt_of_eq k.isLt (t8_trips hn)
        rw [off93_eq hn k]; exact inb_w (by omega)
  refine ⟨?_, ?_⟩
  · exact fun k => by
        have h8 : k.val < n := lt_of_lt_of_eq k.isLt (t8_trips hn)
        rw [off95_eq hn k]; exact inb_s (by omega)
  refine ⟨?_, ?_⟩
  · exact fun k => by
        have h8 : k.val < n := lt_of_lt_of_eq k.isLt (t8_trips hn)
        rw [off96_eq hn k]; exact inb_w (by omega)
  refine ⟨Scf.rem_ok _ _, ?_⟩
  refine ⟨fun k => (Scf.rem_no_trip _ _ k).elim, ?_⟩
  refine ⟨fun k => (Scf.rem_no_trip _ _ k).elim, ?_⟩
  refine ⟨fun k => (Scf.rem_no_trip _ _ k).elim, ?_⟩
  refine ⟨fun k => (Scf.rem_no_trip _ _ k).elim, ?_⟩
  refine ⟨fun k => (Scf.rem_no_trip _ _ k).elim, ?_⟩
  refine ⟨fun k => (Scf.rem_no_trip _ _ k).elim, ?_⟩
  refine ⟨fun k => (Scf.rem_no_trip _ _ k).elim, ?_⟩
  refine ⟨fun k => (Scf.rem_no_trip _ _ k).elim, ?_⟩
  refine ⟨fun k => (Scf.rem_no_trip _ _ k).elim, ?_⟩
  refine ⟨fun k => (Scf.rem_no_trip _ _ k).elim, ?_⟩
  refine ⟨fun k => (Scf.rem_no_trip _ _ k).elim, ?_⟩
  refine ⟨fun k => (Scf.rem_no_trip _ _ k).elim, ?_⟩
  refine ⟨fun k => (Scf.rem_no_trip _ _ k).elim, ?_⟩
  refine ⟨fun k => (Scf.rem_no_trip _ _ k).elim, ?_⟩
  refine ⟨fun k => (Scf.rem_no_trip _ _ k).elim, ?_⟩
  refine ⟨fun k => (Scf.rem_no_trip _ _ k).elim, ?_⟩
  refine ⟨fun k => (Scf.rem_no_trip _ _ k).elim, ?_⟩
  refine ⟨fun k => (Scf.rem_no_trip _ _ k).elim, ?_⟩
  refine ⟨fun k => (Scf.rem_no_trip _ _ k).elim, ?_⟩
  refine ⟨fun k => (Scf.rem_no_trip _ _ k).elim, ?_⟩
  refine ⟨fun k => (Scf.rem_no_trip _ _ k).elim, ?_⟩
  refine ⟨fun k => (Scf.rem_no_trip _ _ k).elim, ?_⟩
  refine ⟨fun k => (Scf.rem_no_trip _ _ k).elim, ?_⟩
  refine ⟨fun k => (Scf.rem_no_trip _ _ k).elim, ?_⟩
  refine ⟨fun k => (Scf.rem_no_trip _ _ k).elim, ?_⟩
  refine ⟨fun k => (Scf.rem_no_trip _ _ k).elim, ?_⟩
  refine ⟨fun k => (Scf.rem_no_trip _ _ k).elim, ?_⟩
  exact fun k => (Scf.rem_no_trip _ _ k).elim

/-- The kernel's bounds checks `k0_chk3_2` hold. -/
theorem chk3_2 {n : ℕ} (hn : n ≤ 42) : k0_chk3_2 (BitVec.ofNat 32 n) := by
  unfold k0_chk3_2
  refine ⟨fun k => (Scf.rem_no_trip _ _ k).elim, ?_⟩
  refine ⟨fun k => (Scf.rem_no_trip _ _ k).elim, ?_⟩
  refine ⟨fun k => (Scf.rem_no_trip _ _ k).elim, ?_⟩
  refine ⟨fun k => (Scf.rem_no_trip _ _ k).elim, ?_⟩
  refine ⟨fun k => (Scf.rem_no_trip _ _ k).elim, ?_⟩
  exact fun k => (Scf.rem_no_trip _ _ k).elim

/-- The check of the main loop. -/
theorem chk3 {n : ℕ} (hn : n ≤ 42) : k0_chk3 (BitVec.ofNat 32 n) := ⟨chk3_0 hn, chk3_1 hn, chk3_2 hn⟩

/-- The offset of document `d`'s accumulator. -/
theorem off52_eq {d : ℕ} (hd : d < 24) : k0_off52 (BitVec.ofNat 32 d) = ![d, 0, 0] := by
  simp (disch := omega) only [k0_off52, Scalar.indexCast, w_toNat]

/-- The check of a group's document. -/
theorem chk4 {d : ℕ} (hd : d < 24) : k0_chk4 (BitVec.ofNat 32 d) := by
  unfold k0_chk4
  rw [off52_eq hd]
  exact Fin.forall_fin_succ.mpr ⟨(show d + 1 ≤ 24 by omega), Fin.forall_fin_two.mpr ⟨le_refl 8, le_refl 512⟩⟩

end Cert.Proof.KernelIdeal
-- ==== Proof.Body1.lean ====
module

public import proofs.«01_k».proof.Proof.Contents
public import proofs.«01_k».proof.Proof.Agree
public import proofs.«01_k».proof.Proof.Checks

@[expose] public section

set_option maxRecDepth 16384

noncomputable section

namespace Cert.Proof.KernelIdeal

open Cert.KernelIdeal Cert.KernelIdeal.Gen Cert.Proof
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable {Ix : Type} [DecidableEq Ix] {Name : Type} [DecidableEq Name] {U : Type} [URA U] {Lvl : Type} [Preorder Lvl]
variable {defs : Defs nD τ sig (Elt F) Λ₀} (𝒱 : Variants) (c : Dev nD)

/-! The main loop of a grid point: its groups, its blocks, and the rows it writes. -/

variable (L : ℕ → ℕ) (z : Vec F S21504x1024 .fp8e4m3) (zs : Vec F S24x7x128 .f32)

/-- The scratch a grid point reads, prepared: scales, documents and counts of the first `n` groups. -/
def known (arg9 : Memref sig .tc .vmem S22016x128 .f32) (arg11 arg12 : Memref sig .tc .smem S688 .i32) (n : ℕ) :
    sProp (MT nD τ sig Ix (Elt F) Name U Lvl) :=
  iprop(agree c.tc arg9 Finset.univ (fun y => (y 0).val / 32 < n) (SB L zs)
    ∗ agree c.tc arg11 Finset.univ (fun y => (y 0).val < n) (DB (F := F) L)
    ∗ agree c.tc arg12 Finset.univ (fun y => (y 0).val < n) (CB (F := F) L))

/-- Where an entry of the scale rectangle at group `t` lies in the whole buffer. -/
theorem unit_emb_z (o : Fin 2 → ℕ) (h : ∀ a, o a + S32x128.size a ≤ S22016x128.size a) (t : ℕ) (ho : o = ![t * 32, 0]) (x : S32x128.Idx) :
    (Rect.unit (s := S22016x128) o S32x128.size h).emb x
      = ix2 (⟨(t * 32 + (x 0).val) % 22016, Nat.mod_lt _ (by decide)⟩ : Fin 22016) (⟨(x 1).val, (x 1).isLt⟩ : Fin 128) := by
  subst ho
  have h0 : t * 32 + 32 ≤ 22016 := h 0
  have hx : (x 0).val < 32 := (x 0).isLt
  refine funext (Fin.forall_fin_two.mpr ⟨?_, ?_⟩)
  · apply Fin.ext
    simp only [Rect.emb_apply]
    show t * 32 + 1 * (x 0).val = (t * 32 + (x 0).val) % 22016
    rw [Nat.mod_eq_of_lt (by omega)]; omega
  · apply Fin.ext
    simp only [Rect.emb_apply]
    show 0 + 1 * (x 1).val = (x 1).val
    omega

/-- The rectangle that is the whole matrix places each entry at itself. -/
theorem emb_whole2 {m n : ℕ} (h : ∀ a, (![0, 0] : Fin 2 → ℕ) a + (⟨2, ![m, n]⟩ : Shape).size a ≤ (⟨2, ![m, n]⟩ : Shape).size a) (x : (⟨2, ![m, n]⟩ : Shape).Idx) :
    (Rect.unit (s := ⟨2, ![m, n]⟩) ![0, 0] (⟨2, ![m, n]⟩ : Shape).size h).emb x = x := by
  refine funext (Fin.forall_fin_two.mpr ⟨?_, ?_⟩)
  · apply Fin.ext
    simp only [Rect.emb_apply]
    show 0 + 1 * (x 0).val = (x 0).val
    omega
  · apply Fin.ext
    simp only [Rect.emb_apply]
    show 0 + 1 * (x 1).val = (x 1).val
    omega

/-- An index of one document's accumulator is its last two coordinates. -/
theorem eq_a0 (x : S1x8x512.Idx) : x = ix3 (0 : Fin 1) (⟨(x 1).val, (x 1).isLt⟩ : Fin 8) (⟨(x 2).val, (x 2).isLt⟩ : Fin 512) := by
  have h0 : (x 0).val < 1 := (x 0).isLt
  refine funext (Fin.forall_fin_succ.mpr ⟨Fin.ext (show (x 0).val = 0 by omega), Fin.forall_fin_two.mpr ⟨rfl, rfl⟩⟩)

/-- Where an entry of document `d`'s accumulator lies among all accumulators. -/
theorem unit_emb_a (o : Fin 3 → ℕ) (h : ∀ a, o a + S1x8x512.size a ≤ S24x8x512.size a) (d : ℕ) (hd : d < 24) (ho : o = ![d, 0, 0]) (x : S1x8x512.Idx) :
    (Rect.unit (s := S24x8x512) o S1x8x512.size h).emb x
      = ix3 (⟨d % 24, Nat.mod_lt _ (by decide)⟩ : Fin 24) (⟨(x 1).val, (x 1).isLt⟩ : Fin 8) (⟨(x 2).val, (x 2).isLt⟩ : Fin 512) := by
  subst ho
  have h0 : (x 0).val < 1 := (x 0).isLt
  refine funext (Fin.forall_fin_succ.mpr ⟨?_, Fin.forall_fin_two.mpr ⟨?_, ?_⟩⟩)
  · apply Fin.ext
    simp only [Rect.emb_apply]
    show d + 1 * (x 0).val = d % 24
    rw [Nat.mod_eq_of_lt hd]; omega
  · apply Fin.ext
    simp only [Rect.emb_apply]
    show 0 + 1 * (x 1).val = (x 1).val
    omega
  · apply Fin.ext
    simp only [Rect.emb_apply]
    show 0 + 1 * (x 2).val = (x 2).val
    omega

/-- Entries whose first coordinate is `d` lie in document `d`'s accumulator. -/
theorem mem_a (d : ℕ) (o : Fin 3 → ℕ) (h : ∀ a, o a + S1x8x512.size a ≤ S24x8x512.size a)
    (ho : o = ![d, 0, 0]) (y : S24x8x512.Idx) (he : (y 0).val = d) : y ∈ (Rect.unit (s := S24x8x512) o S1x8x512.size h).set := by
  subst ho
  rw [Rect.mem_set_unit]
  have h1 : (y 1).val < 8 := (y 1).isLt
  have h2 : (y 2).val < 512 := (y 2).isLt
  refine Fin.forall_fin_succ.mpr ⟨?_, Fin.forall_fin_two.mpr ⟨?_, ?_⟩⟩
  · exact ⟨le_of_eq he.symm, (show (y 0).val < d + 1 by omega)⟩
  · exact ⟨Nat.zero_le _, (show (y 1).val < 0 + 8 by omega)⟩
  · exact ⟨Nat.zero_le _, (show (y 2).val < 0 + 512 by omega)⟩

/-- A step's update at entries of the document's own accumulator. -/
theorem stepAcc_in (off : Fin 2 → ℕ) (hoff : S512x512.Slices off S32x512) (M : FVec F S512x512 .f32) (t : ℕ)
    (es bv : Vec F S1x512 .f32) (A : Vec F S24x8x512 .f32) (o : Fin 3 → ℕ) (h : ∀ a, o a + S1x8x512.size a ≤ S24x8x512.size a)
    (ho : o = ![docN L t, 0, 0]) (x : S1x8x512.Idx) :
    stepAcc L zs off hoff M t es bv A ((Rect.unit (s := S24x8x512) o S1x8x512.size h).emb x)
      = grpUpd off hoff M (srows L zs t) es bv ((BitVec.ofNat 32 (cntN L t) : BitVec 32) : Elt F .i32) (rowOf A (docN L t)) x := by
  rw [unit_emb_a o h _ (docN_lt L t) ho x]
  refine (if_pos (Nat.mod_eq_of_lt (docN_lt L t))).trans ?_
  exact congrArg _ (eq_a0 x).symm

/-- A step's update leaves the other documents' accumulators. -/
theorem stepAcc_out (off : Fin 2 → ℕ) (hoff : S512x512.Slices off S32x512) (M : FVec F S512x512 .f32) (t : ℕ)
    (es bv : Vec F S1x512 .f32) (A : Vec F S24x8x512 .f32) (o : Fin 3 → ℕ) (h : ∀ a, o a + S1x8x512.size a ≤ S24x8x512.size a)
    (ho : o = ![docN L t, 0, 0]) (y : S24x8x512.Idx) (hy : y ∉ (Rect.unit (s := S24x8x512) o S1x8x512.size h).set) :
    stepAcc L zs off hoff M t es bv A y = A y := by
  exact if_neg fun he => hy (mem_a _ o h ho y he)

/-- One group of the main loop. -/
theorem grp_spec (arg5 arg6 : Memref sig .tc .vmem S1x512 .f32) (arg9 : Memref sig .tc .vmem S22016x128 .f32)
    (arg10 : Memref sig .tc .vmem S24x8x512 .f32) (arg11 arg12 : Memref sig .tc .smem S688 .i32)
    (o9 : Fin 2 → ℕ) (h9 : ∀ a, o9 a + S32x128.size a ≤ S22016x128.size a)
    (o1 : Fin 1 → ℕ) (h1 : ∀ a, o1 a + S1.size a ≤ S688.size a)
    (off : Fin 2 → ℕ) (hoff : S512x512.Slices off S32x512) (M : FVec F S512x512 .f32)
    (K : Prog (TpuEff nD τ sig (Elt F) Λ₀ .tc) Unit) {Q : Unit → sProp (MT nD τ sig Ix (Elt F) Name U Lvl)}
    (n t : ℕ) (ht : t < n) (ho9 : o9 = ![t * 32, 0]) (ho1 : o1 = ![t])
    (es bv : Vec F S1x512 .f32) (A : Vec F S24x8x512 .f32) :
    (iprop(ownOn c.tc arg5 Finset.univ fullShare es ∗ ownOn c.tc arg6 Finset.univ fullShare bv
        ∗ known c L zs arg9 arg11 arg12 n ∗ ownOn c.tc arg10 Finset.univ fullShare A) : sProp (MT nD τ sig Ix (Elt F) Name U Lvl))
      ⊢ iprop((ownOn c.tc arg5 Finset.univ fullShare es ∗ ownOn c.tc arg6 Finset.univ fullShare bv
          ∗ known c L zs arg9 arg11 arg12 n ∗ ownOn c.tc arg10 Finset.univ fullShare (stepAcc L zs off hoff M t es bv A)
          -∗ wp frame (wpE defs 𝒱 c.tc none) Set.univ K Q)
        -∗ wp frame (wpE defs 𝒱 c.tc none) Set.univ (grp arg5 arg6 arg9 arg10 arg11 arg12 o9 h9 o1 h1 off hoff M K) Q) := by
  have hx1 : ∀ x : S1.Idx, (((Rect.unit (s := S688) o1 S1.size h1).emb x) 0).val = t := by
    intro x
    subst ho1
    have hx : (x 0).val < 1 := (x 0).isLt
    rw [Rect.emb_apply]
    show t + 1 * (x 0).val = t
    omega
  unfold known grp
  iintro ⟨H5, H6, ⟨H9, H11, H12⟩, H10⟩ Hk
  iapply (wp_load_agree_eq c.tc 𝒱 none Set.univ (srows L zs t) (fun x => Finset.mem_univ _) (fun x => by
    rw [unit_emb_z o9 h9 t ho9 x]
    have h0 : t * 32 + 32 ≤ 22016 := by have := h9 0; subst ho9; exact this
    have hx : (x 0).val < 32 := (x 0).isLt
    show (t * 32 + (x 0).val) % 22016 / 32 < n
    omega) (fun x => by rw [unit_emb_z o9 h9 t ho9 x]; rfl)) $$ H9
  iintro H9
  iapply (wp_load_on_eq c.tc 𝒱 none Set.univ es (fun x => Finset.mem_univ _) (fun x => congrArg es (emb_whole2 _ x))) $$ H5
  iintro H5
  iapply (wp_load_on_eq c.tc 𝒱 none Set.univ bv (fun x => Finset.mem_univ _) (fun x => congrArg bv (emb_whole2 _ x))) $$ H6
  iintro H6
  iapply (wp_load_agree_eq c.tc 𝒱 none Set.univ (fun _ => (BitVec.ofNat 32 (cntN L t) : BitVec 32)) (fun x => Finset.mem_univ _)
    (fun x => by rw [hx1 x]; exact ht) (fun x => by unfold CB; rw [hx1 x])) $$ H12
  iintro H12
  iapply (wp_load_agree_eq c.tc 𝒱 none Set.univ (fun _ => (BitVec.ofNat 32 (docN L t) : BitVec 32)) (fun x => Finset.mem_univ _)
    (fun x => by rw [hx1 x]; exact ht) (fun x => by unfold DB; rw [hx1 x])) $$ H11
  iintro H11
  iapply (wp_assume 𝒱 c.tc none Set.univ (chk4 (docN_lt L t)))
  iapply (wp_load_on_eq c.tc 𝒱 none Set.univ (rowOf A (docN L t)) (fun x => Finset.mem_univ _) (fun x =>
    congrArg A (unit_emb_a _ _ _ (docN_lt L t) (off52_eq (docN_lt L t)) x))) $$ H10
  iintro H10
  iapply (wp_load_on c.tc 𝒱 none Set.univ (fun x => Finset.mem_univ _)) $$ H10
  iintro H10
  iapply (wp_store_on c.tc 𝒱 none Set.univ (stepAcc L zs off hoff M t es bv A) (fun x => Finset.mem_univ _)
    (fun x => stepAcc_in L zs off hoff M t es bv A _ _ (off52_eq (docN_lt L t)) x)
    (fun y _ hy => stepAcc_out L zs off hoff M t es bv A _ _ (off52_eq (docN_lt L t)) y hy)) $$ H10
  iintro H10
  iapply Hk
  isplitl [H5]; · iexact H5
  isplitl [H6]; · iexact H6
  isplitr [H10]
  · isplitl [H9]; · iexact H9
    isplitl [H11]; · iexact H11
    iexact H12
  · iexact H10

end Cert.Proof.KernelIdeal
-- ==== Proof.Body2.lean ====
module

public import proofs.«01_k».proof.Proof.Body1

@[expose] public section

set_option maxRecDepth 16384

noncomputable section

namespace Cert.Proof.KernelIdeal

open Cert.KernelIdeal Cert.KernelIdeal.Gen Cert.Proof
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable {Ix : Type} [DecidableEq Ix] {Name : Type} [DecidableEq Name] {U : Type} [URA U] {Lvl : Type} [Preorder Lvl]
variable {defs : Defs nD τ sig (Elt F) Λ₀} (𝒱 : Variants) (c : Dev nD)

/-! The main loop's blocks. -/

variable (L : ℕ → ℕ) (z : Vec F S21504x1024 .fp8e4m3) (zs : Vec F S24x7x128 .f32)

/-- Group `j` of block `k`. -/
theorem grpJ_spec (arg5 arg6 : Memref sig .tc .vmem S1x512 .f32) (arg9 : Memref sig .tc .vmem S22016x128 .f32)
    (arg10 : Memref sig .tc .vmem S24x8x512 .f32) (arg11 arg12 : Memref sig .tc .smem S688 .i32)
    (o9 : Fin 2 → ℕ) (h9 : ∀ a, o9 a + S32x128.size a ≤ S22016x128.size a)
    (o1 : Fin 1 → ℕ) (h1 : ∀ a, o1 a + S1.size a ≤ S688.size a)
    (off : Fin 2 → ℕ) (hoff : S512x512.Slices off S32x512) (emb : Vec F S512x1024 .fp8e4m3)
    (K : Prog (TpuEff nD τ sig (Elt F) Λ₀ .tc) Unit) {Q : Unit → sProp (MT nD τ sig Ix (Elt F) Name U Lvl)}
    (n k j : ℕ) (hj : j < 16) (ht : k * 16 + j < n) (ho9 : o9 = ![k * 512 + 32 * j, 0]) (ho1 : o1 = ![k * 16 + j]) (hoj : off = ![32 * j, 0])
    (es bv : Vec F S1x512 .f32) (A : Vec F S24x8x512 .f32) :
    (iprop(ownOn c.tc arg5 Finset.univ fullShare es ∗ ownOn c.tc arg6 Finset.univ fullShare bv
        ∗ known c L zs arg9 arg11 arg12 n ∗ ownOn c.tc arg10 Finset.univ fullShare (accJ L z zs k emb es bv A j)) : sProp (MT nD τ sig Ix (Elt F) Name U Lvl))
      ⊢ iprop((ownOn c.tc arg5 Finset.univ fullShare es ∗ ownOn c.tc arg6 Finset.univ fullShare bv
          ∗ known c L zs arg9 arg11 arg12 n ∗ ownOn c.tc arg10 Finset.univ fullShare (accJ L z zs k emb es bv A (j + 1))
          -∗ wp frame (wpE defs 𝒱 c.tc none) Set.univ K Q)
        -∗ wp frame (wpE defs 𝒱 c.tc none) Set.univ (grp arg5 arg6 arg9 arg10 arg11 arg12 o9 h9 o1 h1 off hoff (k0_pay33 emb (zblk L z k)) K) Q) := by
  subst hoj
  have e : accJ L z zs k emb es bv A (j + 1)
      = stepAcc L zs ![32 * j, 0] hoff (k0_pay33 emb (zblk L z k)) (k * 16 + j) es bv (accJ L z zs k emb es bv A j) := dif_pos hj
  rw [e]
  exact grp_spec 𝒱 c L zs arg5 arg6 arg9 arg10 arg11 arg12 o9 h9 o1 h1 _ hoff _ K n (k * 16 + j) ht
    (ho9.trans (congrArg (fun a => (![a, 0] : Fin 2 → ℕ)) (by omega))) ho1 es bv _

/-- Where an entry of block `k` of 512 rows lies in the whole buffer. -/
theorem unit_emb_b (o : Fin 2 → ℕ) (h : ∀ a, o a + S512x1024.size a ≤ S22016x1024.size a) (k : ℕ) (ho : o = ![k * 512, 0]) (x : S512x1024.Idx) :
    (Rect.unit (s := S22016x1024) o S512x1024.size h).emb x
      = ix2 (⟨(k * 512 + (x 0).val) % 22016, Nat.mod_lt _ (by decide)⟩ : Fin 22016) (⟨(x 1).val, (x 1).isLt⟩ : Fin 1024) := by
  subst ho
  have h0 : k * 512 + 512 ≤ 22016 := h 0
  have hx : (x 0).val < 512 := (x 0).isLt
  refine funext (Fin.forall_fin_two.mpr ⟨?_, ?_⟩)
  · apply Fin.ext
    simp only [Rect.emb_apply]
    show k * 512 + 1 * (x 0).val = (k * 512 + (x 0).val) % 22016
    rw [Nat.mod_eq_of_lt (by omega)]; omega
  · apply Fin.ext
    simp only [Rect.emb_apply]
    show 0 + 1 * (x 1).val = (x 1).val
    omega

/-- One block of the main loop. -/
theorem t8_spec (i : grid0.Coords) (arg1 : Memref sig .tc .smem S24 .i32) (harg1 : arg1.IsWhole) (arg2 : Memref sig .tc .hbm S21504x1024 .fp8e4m3) (harg2 : arg2.IsWhole) (arg3 : Memref sig .tc .vmem S24x7x128 .f32) (harg3 : arg3.IsWhole) (arg4 : Memref sig .tc .vmem S512x1024 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S24x512 .f32) (harg7 : arg7.IsWhole) (arg8 : Memref sig .tc .vmem S22016x1024 .fp8e4m3) (harg8 : arg8.IsWhole) (arg9 : Memref sig .tc .vmem S22016x128 .f32) (harg9 : arg9.IsWhole) (arg10 : Memref sig .tc .vmem S24x8x512 .f32) (harg10 : arg10.IsWhole) (arg11 : Memref sig .tc .smem S688 .i32) (harg11 : arg11.IsWhole) (arg12 : Memref sig .tc .smem S688 .i32) (harg12 : arg12.IsWhole) (arg13 : Memref sig .tc .smem S1 .i32) (harg13 : arg13.IsWhole) (arg14 : DmaSems sig S_) {nb : ℕ} (hn : nb ≤ 42)
    (hw3 : k0_chk3 (BitVec.ofNat 32 nb : BitVec 32)) (k : Fin (k0_t8_loop (BitVec.ofNat 32 nb : BitVec 32)).trips)
    (emb : Vec F S512x1024 .fp8e4m3) (es bv : Vec F S1x512 .f32) (A : Vec F S24x8x512 .f32) {Q : Unit → sProp (MT nD τ sig Ix (Elt F) Name U Lvl)} :
    (iprop(agree c.tc arg8 Finset.univ (fun y => (y 0).val / 32 < 16 * nb) (ZB L z)
        ∗ ownOn c.tc arg5 Finset.univ fullShare es ∗ ownOn c.tc arg6 Finset.univ fullShare bv
        ∗ known c L zs arg9 arg11 arg12 (16 * nb) ∗ ownOn c.tc arg10 Finset.univ fullShare A) : sProp (MT nD τ sig Ix (Elt F) Name U Lvl))
      ⊢ iprop((agree c.tc arg8 Finset.univ (fun y => (y 0).val / 32 < 16 * nb) (ZB L z)
          ∗ ownOn c.tc arg5 Finset.univ fullShare es ∗ ownOn c.tc arg6 Finset.univ fullShare bv
          ∗ known c L zs arg9 arg11 arg12 (16 * nb) ∗ ownOn c.tc arg10 Finset.univ fullShare (accJ L z zs k.val emb es bv A 16) -∗ Q ())
        -∗ wp frame (wpE defs 𝒱 c.tc none) Set.univ (k0_t8_body i arg1 harg1 arg2 harg2 arg3 harg3 arg4 harg4 arg5 harg5 arg6 harg6 arg7 harg7 arg8 harg8 arg9 harg9 arg10 harg10 arg11 harg11 arg12 harg12 arg13 harg13 arg14 emb rowIota (BitVec.ofNat 32 nb : BitVec 32) hw3 k ()) Q) := by
  have hk : k.val < nb := lt_of_lt_of_eq k.isLt (t8_trips hn)
  rw [t8_eq]
  iintro ⟨H8, H5, H6, HK, H10⟩ Hk
  iapply (wp_load_agree_eq c.tc 𝒱 none Set.univ (zblk L z k.val) (fun x => Finset.mem_univ _) (fun x => by
    rw [unit_emb_b _ _ k.val (off49_eq hn k) x]
    have hx : (x 0).val < 512 := (x 0).isLt
    show (k.val * 512 + (x 0).val) % 22016 / 32 < 16 * nb
    omega) (fun x => by rw [unit_emb_b _ _ k.val (off49_eq hn k) x]; rfl)) $$ H8
  iintro H8
  iapply (grpJ_spec 𝒱 c L z zs arg5 arg6 arg9 arg10 arg11 arg12 _ _ _ _ _ _ emb _ (16 * nb) k.val 0 (by decide) (by omega)
    (off50_eq hn k) (off51_eq hn k) rfl es bv A) $$ [H5 H6 HK H10]
  · isplitl [H5]; · iexact H5
    isplitl [H6]; · iexact H6
    isplitl [HK]; · iexact HK
    iexact H10
  iintro ⟨H5, H6, HK, H10⟩
  iapply (grpJ_spec 𝒱 c L z zs arg5 arg6 arg9 arg10 arg11 arg12 _ _ _ _ _ _ emb _ (16 * nb) k.val 1 (by decide) (by omega)
    (off53_eq hn k) (off54_eq hn k) rfl es bv A) $$ [H5 H6 HK H10]
  · isplitl [H5]; · iexact H5
    isplitl [H6]; · iexact H6
    isplitl [HK]; · iexact HK
    iexact H10
  iintro ⟨H5, H6, HK, H10⟩
  iapply (grpJ_spec 𝒱 c L z zs arg5 arg6 arg9 arg10 arg11 arg12 _ _ _ _ _ _ emb _ (16 * nb) k.val 2 (by decide) (by omega)
    (off56_eq hn k) (off57_eq hn k) rfl es bv A) $$ [H5 H6 HK H10]
  · isplitl [H5]; · iexact H5
    isplitl [H6]; · iexact H6
    isplitl [HK]; · iexact HK
    iexact H10
  iintro ⟨H5, H6, HK, H10⟩
  iapply (grpJ_spec 𝒱 c L z zs arg5 arg6 arg9 arg10 arg11 arg12 _ _ _ _ _ _ emb _ (16 * nb) k.val 3 (by decide) (by omega)
    (off59_eq hn k) (off60_eq hn k) rfl es bv A) $$ [H5 H6 HK H10]
  · isplitl [H5]; · iexact H5
    isplitl [H6]; · iexact H6
    isplitl [HK]; · iexact HK
    iexact H10
  iintro ⟨H5, H6, HK, H10⟩
  iapply (grpJ_spec 𝒱 c L z zs arg5 arg6 arg9 arg10 arg11 arg12 _ _ _ _ _ _ emb _ (16 * nb) k.val 4 (by decide) (by omega)
    (off62_eq hn k) (off63_eq hn k) rfl es bv A) $$ [H5 H6 HK H10]
  · isplitl [H5]; · iexact H5
    isplitl [H6]; · iexact H6
    isplitl [HK]; · iexact HK
    iexact H10
  iintro ⟨H5, H6, HK, H10⟩
  iapply (grpJ_spec 𝒱 c L z zs arg5 arg6 arg9 arg10 arg11 arg12 _ _ _ _ _ _ emb _ (16 * nb) k.val 5 (by decide) (by omega)
    (off65_eq hn k) (off66_eq hn k) rfl es bv A) $$ [H5 H6 HK H10]
  · isplitl [H5]; · iexact H5
    isplitl [H6]; · iexact H6
    isplitl [HK]; · iexact HK
    iexact H10
  iintro ⟨H5, H6, HK, H10⟩
  iapply (grpJ_spec 𝒱 c L z zs arg5 arg6 arg9 arg10 arg11 arg12 _ _ _ _ _ _ emb _ (16 * nb) k.val 6 (by decide) (by omega)
    (off68_eq hn k) (off69_eq hn k) rfl es bv A) $$ [H5 H6 HK H10]
  · isplitl [H5]; · iexact H5
    isplitl [H6]; · iexact H6
    isplitl [HK]; · iexact HK
    iexact H10
  iintro ⟨H5, H6, HK, H10⟩
  iapply (grpJ_spec 𝒱 c L z zs arg5 arg6 arg9 arg10 arg11 arg12 _ _ _ _ _ _ emb _ (16 * nb) k.val 7 (by decide) (by omega)
    (off71_eq hn k) (off72_eq hn k) rfl es bv A) $$ [H5 H6 HK H10]
  · isplitl [H5]; · iexact H5
    isplitl [H6]; · iexact H6
    isplitl [HK]; · iexact HK
    iexact H10
  iintro ⟨H5, H6, HK, H10⟩
  iapply (grpJ_spec 𝒱 c L z zs arg5 arg6 arg9 arg10 arg11 arg12 _ _ _ _ _ _ emb _ (16 * nb) k.val 8 (by decide) (by omega)
    (off74_eq hn k) (off75_eq hn k) rfl es bv A) $$ [H5 H6 HK H10]
  · isplitl [H5]; · iexact H5
    isplitl [H6]; · iexact H6
    isplitl [HK]; · iexact HK
    iexact H10
  iintro ⟨H5, H6, HK, H10⟩
  iapply (grpJ_spec 𝒱 c L z zs arg5 arg6 arg9 arg10 arg11 arg12 _ _ _ _ _ _ emb _ (16 * nb) k.val 9 (by decide) (by omega)
    (off77_eq hn k) (off78_eq hn k) rfl es bv A) $$ [H5 H6 HK H10]
  · isplitl [H5]; · iexact H5
    isplitl [H6]; · iexact H6
    isplitl [HK]; · iexact HK
    iexact H10
  iintro ⟨H5, H6, HK, H10⟩
  iapply (grpJ_spec 𝒱 c L z zs arg5 arg6 arg9 arg10 arg11 arg12 _ _ _ _ _ _ emb _ (16 * nb) k.val 10 (by decide) (by omega)
    (off80_eq hn k) (off81_eq hn k) rfl es bv A) $$ [H5 H6 HK H10]
  · isplitl [H5]; · iexact H5
    isplitl [H6]; · iexact H6
    isplitl [HK]; · iexact HK
    iexact H10
  iintro ⟨H5, H6, HK, H10⟩
  iapply (grpJ_spec 𝒱 c L z zs arg5 arg6 arg9 arg10 arg11 arg12 _ _ _ _ _ _ emb _ (16 * nb) k.val 11 (by decide) (by omega)
    (off83_eq hn k) (off84_eq hn k) rfl es bv A) $$ [H5 H6 HK H10]
  · isplitl [H5]; · iexact H5
    isplitl [H6]; · iexact H6
    isplitl [HK]; · iexact HK
    iexact H10
  iintro ⟨H5, H6, HK, H10⟩
  iapply (grpJ_spec 𝒱 c L z zs arg5 arg6 arg9 arg10 arg11 arg12 _ _ _ _ _ _ emb _ (16 * nb) k.val 12 (by decide) (by omega)
    (off86_eq hn k) (off87_eq hn k) rfl es bv A) $$ [H5 H6 HK H10]
  · isplitl [H5]; · iexact H5
    isplitl [H6]; · iexact H6
    isplitl [HK]; · iexact HK
    iexact H10
  iintro ⟨H5, H6, HK, H10⟩
  iapply (grpJ_spec 𝒱 c L z zs arg5 arg6 arg9 arg10 arg11 arg12 _ _ _ _ _ _ emb _ (16 * nb) k.val 13 (by decide) (by omega)
    (off89_eq hn k) (off90_eq hn k) rfl es bv A) $$ [H5 H6 HK H10]
  · isplitl [H5]; · iexact H5
    isplitl [H6]; · iexact H6
    isplitl [HK]; · iexact HK
    iexact H10
  iintro ⟨H5, H6, HK, H10⟩
  iapply (grpJ_spec 𝒱 c L z zs arg5 arg6 arg9 arg10 arg11 arg12 _ _ _ _ _ _ emb _ (16 * nb) k.val 14 (by decide) (by omega)
    (off92_eq hn k) (off93_eq hn k) rfl es bv A) $$ [H5 H6 HK H10]
  · isplitl [H5]; · iexact H5
    isplitl [H6]; · iexact H6
    isplitl [HK]; · iexact HK
    iexact H10
  iintro ⟨H5, H6, HK, H10⟩
  iapply (grpJ_spec 𝒱 c L z zs arg5 arg6 arg9 arg10 arg11 arg12 _ _ _ _ _ _ emb _ (16 * nb) k.val 15 (by decide) (by omega)
    (off95_eq hn k) (off96_eq hn k) rfl es bv A) $$ [H5 H6 HK H10]
  · isplitl [H5]; · iexact H5
    isplitl [H6]; · iexact H6
    isplitl [HK]; · iexact HK
    iexact H10
  iintro ⟨H5, H6, HK, H10⟩
  rw [wp_ret]
  imodintro
  iapply Hk
  isplitl [H8]; · iexact H8
  isplitl [H5]; · iexact H5
  isplitl [H6]; · iexact H6
  isplitl [HK]; · iexact HK
  iexact H10

end Cert.Proof.KernelIdeal
-- ==== Proof.Body3.lean ====
module

public import proofs.«01_k».proof.Proof.Body2

@[expose] public section

set_option maxRecDepth 16384

noncomputable section

namespace Cert.Proof.KernelIdeal

open Cert.KernelIdeal Cert.KernelIdeal.Gen Cert.Proof
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable {Ix : Type} [DecidableEq Ix] {Name : Type} [DecidableEq Name] {U : Type} [URA U] {Lvl : Type} [Preorder Lvl]
variable {defs : Defs nD τ sig (Elt F) Λ₀} (𝒱 : Variants) (c : Dev nD)

/-! What a grid point does once the scratch is prepared. -/

variable (L : ℕ → ℕ) (z : Vec F S21504x1024 .fp8e4m3) (zs : Vec F S24x7x128 .f32)

/-- A remainder loop does nothing. -/
theorem wp_rem (a x : BitVec 32) {σ β : Type} (hok : Scf.OK (Scalar.addi a (Scalar.muli (Scalar.divsi x 1#32) 1#32)) (Scalar.addi a x) 1#32) (init : σ)
    (body : Fin (Scf.trips (Scalar.addi a (Scalar.muli (Scalar.divsi x 1#32) 1#32)) (Scalar.addi a x) 1#32) → σ → Prog (TpuEff nD τ sig (Elt F) Λ₀ .tc) σ)
    {kk : σ → Prog (TpuEff nD τ sig (Elt F) Λ₀ .tc) β} {Q : β → sProp (MT nD τ sig Ix (Elt F) Name U Lvl)} :
    wp frame (wpE defs 𝒱 c.tc none) Set.univ (kk init) Q
      ⊢ wp frame (wpE defs 𝒱 c.tc none) Set.univ (Scf.for _ _ _ hok init body >>= kk) Q := by
  rw [Scf.for_rem_eq]
  exact .rfl

/-- Where an entry of document `d`'s output row lies in the output block. -/
theorem unit_emb_o (o : Fin 2 → ℕ) (h : ∀ a, o a + S1x512.size a ≤ S24x512.size a) (d : ℕ) (ho : o = ![d, 0]) (x : S1x512.Idx) :
    (((Rect.unit (s := S24x512) o S1x512.size h).emb x) 0).val = d ∧ (((Rect.unit (s := S24x512) o S1x512.size h).emb x) 1).val = (x 1).val := by
  subst ho
  have h0 : (x 0).val < 1 := (x 0).isLt
  constructor
  · rw [Rect.emb_apply]
    show d + 1 * (x 0).val = d
    omega
  · rw [Rect.emb_apply]
    show 0 + 1 * (x 1).val = (x 1).val
    omega

/-- An index of a one-row block is its column. -/
theorem eq_o0 (x : S1x512.Idx) (j : ℕ) (hj : j < 512) (h : j = (x 1).val) : ix2 (0 : Fin 1) (⟨j, hj⟩ : Fin 512) = x := by
  subst h
  have h0 : (x 0).val < 1 := (x 0).isLt
  exact funext (Fin.forall_fin_two.mpr ⟨Fin.ext (show 0 = (x 0).val by omega), rfl⟩)

/-- Entries whose first coordinate is `d` lie in document `d`'s output row. -/
theorem mem_o (d : ℕ) (o : Fin 2 → ℕ) (h : ∀ a, o a + S1x512.size a ≤ S24x512.size a)
    (ho : o = ![d, 0]) (y : S24x512.Idx) (he : (y 0).val = d) : y ∈ (Rect.unit (s := S24x512) o S1x512.size h).set := by
  subst ho
  rw [Rect.mem_set_unit]
  have h1 : (y 1).val < 512 := (y 1).isLt
  refine Fin.forall_fin_two.mpr ⟨?_, ?_⟩
  · exact ⟨le_of_eq he.symm, (show (y 0).val < d + 1 by omega)⟩
  · exact ⟨Nat.zero_le _, (show (y 1).val < 0 + 512 by omega)⟩

/-- A block of the result whose row `d` is document `d`'s accumulator row summed over its sublanes. -/
def outA (A : Vec F S24x8x512 .f32) : Vec F S24x512 .f32 := fun y =>
  k0_pay105 (rowOf A (y 0).val) (ix2 (0 : Fin 1) (⟨(y 1).val, (y 1).isLt⟩ : Fin 512))

/-- One row of the result. -/
theorem outRow_spec (arg7 : Memref sig .tc .vmem S24x512 .f32) (arg10 : Memref sig .tc .vmem S24x8x512 .f32)
    (o10 : Fin 3 → ℕ) (h10 : ∀ a, o10 a + S1x8x512.size a ≤ S24x8x512.size a)
    (o7 : Fin 2 → ℕ) (h7 : ∀ a, o7 a + S1x512.size a ≤ S24x512.size a) (K : Prog (TpuEff nD τ sig (Elt F) Λ₀ .tc) Unit)
    {Q : Unit → sProp (MT nD τ sig Ix (Elt F) Name U Lvl)} (d : ℕ) (hd : d < 24) (ho10 : o10 = ![d, 0, 0]) (ho7 : o7 = ![d, 0])
    (A : Vec F S24x8x512 .f32) :
    (iprop(ownOn c.tc arg10 Finset.univ fullShare A ∗ agree c.tc arg7 Finset.univ (fun y => (y 0).val < d) (outA A)) : sProp (MT nD τ sig Ix (Elt F) Name U Lvl))
      ⊢ iprop((ownOn c.tc arg10 Finset.univ fullShare A ∗ agree c.tc arg7 Finset.univ (fun y => (y 0).val < d + 1) (outA A)
          -∗ wp frame (wpE defs 𝒱 c.tc none) Set.univ K Q)
        -∗ wp frame (wpE defs 𝒱 c.tc none) Set.univ (outRow arg7 arg10 o10 h10 o7 h7 K) Q) := by
  unfold outRow
  iintro ⟨H10, H7⟩ Hk
  iapply (wp_load_on_eq c.tc 𝒱 none Set.univ (rowOf A d) (fun x => Finset.mem_univ _) (fun x =>
    congrArg A (unit_emb_a _ _ _ hd ho10 x))) $$ H10
  iintro H10
  iapply (wp_load_any c.tc 𝒱 none Set.univ (fun x => Finset.mem_univ _)) $$ H7
  iintro %v H7
  iapply (wp_store_agree c.tc 𝒱 none Set.univ (fun y => (y 0).val < d + 1) (fun x => Finset.mem_univ _)
    (fun x => by
      obtain ⟨e0, e1⟩ := unit_emb_o o7 h7 d ho7 x
      exact (congrArg (k0_pay105 (rowOf A _)) (eq_o0 x _ _ e1)).trans (congrArg (fun d => k0_pay105 (rowOf A d) x) e0))
    (fun y _ hy => by
      by_cases h : (y 0).val < d
      · exact .inl h
      · exact .inr (mem_o d o7 h7 ho7 y (by have hy' : (y 0).val < d + 1 := hy; omega)))) $$ H7
  iintro H7
  iapply Hk
  isplitl [H10]; · iexact H10
  iexact H7

/-- The rest of the result's rows. -/
theorem tail_spec (arg7 : Memref sig .tc .vmem S24x512 .f32) (arg10 : Memref sig .tc .vmem S24x8x512 .f32)
    {Q : Unit → sProp (MT nD τ sig Ix (Elt F) Name U Lvl)} (A : Vec F S24x8x512 .f32) :
    (iprop(ownOn c.tc arg10 Finset.univ fullShare A ∗ agree c.tc arg7 Finset.univ (fun y => (y 0).val < 2) (outA A)) : sProp (MT nD τ sig Ix (Elt F) Name U Lvl))
      ⊢ iprop((ownOn c.tc arg10 Finset.univ fullShare A ∗ ownOn c.tc arg7 Finset.univ fullShare (outA A) -∗ Q ())
        -∗ wp frame (wpE defs 𝒱 c.tc none) Set.univ (tailP arg7 arg10) Q) := by
  unfold tailP
  iintro ⟨H10, H7⟩ Hk
  iapply (outRow_spec 𝒱 c arg7 arg10 _ _ _ _ _ 2 (by decide) rfl rfl A) $$ [H10 H7]
  · isplitl [H10]; · iexact H10
    iexact H7
  iintro ⟨H10, H7⟩
  iapply (outRow_spec 𝒱 c arg7 arg10 _ _ _ _ _ 3 (by decide) rfl rfl A) $$ [H10 H7]
  · isplitl [H10]; · iexact H10
    iexact H7
  iintro ⟨H10, H7⟩
  iapply (outRow_spec 𝒱 c arg7 arg10 _ _ _ _ _ 4 (by decide) rfl rfl A) $$ [H10 H7]
  · isplitl [H10]; · iexact H10
    iexact H7
  iintro ⟨H10, H7⟩
  iapply (outRow_spec 𝒱 c arg7 arg10 _ _ _ _ _ 5 (by decide) rfl rfl A) $$ [H10 H7]
  · isplitl [H10]; · iexact H10
    iexact H7
  iintro ⟨H10, H7⟩
  iapply (outRow_spec 𝒱 c arg7 arg10 _ _ _ _ _ 6 (by decide) rfl rfl A) $$ [H10 H7]
  · isplitl [H10]; · iexact H10
    iexact H7
  iintro ⟨H10, H7⟩
  iapply (outRow_spec 𝒱 c arg7 arg10 _ _ _ _ _ 7 (by decide) rfl rfl A) $$ [H10 H7]
  · isplitl [H10]; · iexact H10
    iexact H7
  iintro ⟨H10, H7⟩
  iapply (outRow_spec 𝒱 c arg7 arg10 _ _ _ _ _ 8 (by decide) rfl rfl A) $$ [H10 H7]
  · isplitl [H10]; · iexact H10
    iexact H7
  iintro ⟨H10, H7⟩
  iapply (outRow_spec 𝒱 c arg7 arg10 _ _ _ _ _ 9 (by decide) rfl rfl A) $$ [H10 H7]
  · isplitl [H10]; · iexact H10
    iexact H7
  iintro ⟨H10, H7⟩
  iapply (outRow_spec 𝒱 c arg7 arg10 _ _ _ _ _ 10 (by decide) rfl rfl A) $$ [H10 H7]
  · isplitl [H10]; · iexact H10
    iexact H7
  iintro ⟨H10, H7⟩
  iapply (outRow_spec 𝒱 c arg7 arg10 _ _ _ _ _ 11 (by decide) rfl rfl A) $$ [H10 H7]
  · isplitl [H10]; · iexact H10
    iexact H7
  iintro ⟨H10, H7⟩
  iapply (outRow_spec 𝒱 c arg7 arg10 _ _ _ _ _ 12 (by decide) rfl rfl A) $$ [H10 H7]
  · isplitl [H10]; · iexact H10
    iexact H7
  iintro ⟨H10, H7⟩
  iapply (outRow_spec 𝒱 c arg7 arg10 _ _ _ _ _ 13 (by decide) rfl rfl A) $$ [H10 H7]
  · isplitl [H10]; · iexact H10
    iexact H7
  iintro ⟨H10, H7⟩
  iapply (outRow_spec 𝒱 c arg7 arg10 _ _ _ _ _ 14 (by decide) rfl rfl A) $$ [H10 H7]
  · isplitl [H10]; · iexact H10
    iexact H7
  iintro ⟨H10, H7⟩
  iapply (outRow_spec 𝒱 c arg7 arg10 _ _ _ _ _ 15 (by decide) rfl rfl A) $$ [H10 H7]
  · isplitl [H10]; · iexact H10
    iexact H7
  iintro ⟨H10, H7⟩
  iapply (outRow_spec 𝒱 c arg7 arg10 _ _ _ _ _ 16 (by decide) rfl rfl A) $$ [H10 H7]
  · isplitl [H10]; · iexact H10
    iexact H7
  iintro ⟨H10, H7⟩
  iapply (outRow_spec 𝒱 c arg7 arg10 _ _ _ _ _ 17 (by decide) rfl rfl A) $$ [H10 H7]
  · isplitl [H10]; · iexact H10
    iexact H7
  iintro ⟨H10, H7⟩
  iapply (outRow_spec 𝒱 c arg7 arg10 _ _ _ _ _ 18 (by decide) rfl rfl A) $$ [H10 H7]
  · isplitl [H10]; · iexact H10
    iexact H7
  iintro ⟨H10, H7⟩
  iapply (outRow_spec 𝒱 c arg7 arg10 _ _ _ _ _ 19 (by decide) rfl rfl A) $$ [H10 H7]
  · isplitl [H10]; · iexact H10
    iexact H7
  iintro ⟨H10, H7⟩
  iapply (outRow_spec 𝒱 c arg7 arg10 _ _ _ _ _ 20 (by decide) rfl rfl A) $$ [H10 H7]
  · isplitl [H10]; · iexact H10
    iexact H7
  iintro ⟨H10, H7⟩
  iapply (outRow_spec 𝒱 c arg7 arg10 _ _ _ _ _ 21 (by decide) rfl rfl A) $$ [H10 H7]
  · isplitl [H10]; · iexact H10
    iexact H7
  iintro ⟨H10, H7⟩
  iapply (outRow_spec 𝒱 c arg7 arg10 _ _ _ _ _ 22 (by decide) rfl rfl A) $$ [H10 H7]
  · isplitl [H10]; · iexact H10
    iexact H7
  iintro ⟨H10, H7⟩
  iapply (outRow_spec 𝒱 c arg7 arg10 _ _ _ _ _ 23 (by decide) rfl rfl A) $$ [H10 H7]
  · isplitl [H10]; · iexact H10
    iexact H7
  iintro ⟨H10, H7⟩
  rw [wp_ret]
  imodintro
  iapply Hk
  isplitl [H10]; · iexact H10
  iapply (ownOn_of_agree c.tc arg7 (P := fun y => (y 0).val < 23 + 1) (fun y _ => (y 0).isLt)) $$ H7

/-- The prepared scratch and the point's blocks of the three inputs read block by block. -/
def ready (arg4 : Memref sig .tc .vmem S512x1024 .fp8e4m3) (arg5 arg6 : Memref sig .tc .vmem S1x512 .f32)
    (arg8 : Memref sig .tc .vmem S22016x1024 .fp8e4m3) (arg9 : Memref sig .tc .vmem S22016x128 .f32)
    (arg11 arg12 : Memref sig .tc .smem S688 .i32) (arg13 : Memref sig .tc .smem S1 .i32)
    (emb : Vec F S512x1024 .fp8e4m3) (es bv : Vec F S1x512 .f32) : sProp (MT nD τ sig Ix (Elt F) Name U Lvl) :=
  iprop(agree c.tc arg8 Finset.univ (fun y => (y 0).val / 32 < 16 * nblk L) (ZB L z)
        ∗ ownOn c.tc arg4 Finset.univ fullShare emb ∗ ownOn c.tc arg5 Finset.univ fullShare es ∗ ownOn c.tc arg6 Finset.univ fullShare bv
        ∗ known c L zs arg9 arg11 arg12 (16 * nblk L) ∗ ownOn c.tc arg13 Finset.univ fullShare (fun _ => (BitVec.ofNat 32 (nblk L) : BitVec 32)))

/-- The main part of a grid point. -/
theorem main_spec (hL : ∀ d, L d ≤ 896) (i : grid0.Coords) (arg1 : Memref sig .tc .smem S24 .i32) (harg1 : arg1.IsWhole) (arg2 : Memref sig .tc .hbm S21504x1024 .fp8e4m3) (harg2 : arg2.IsWhole) (arg3 : Memref sig .tc .vmem S24x7x128 .f32) (harg3 : arg3.IsWhole) (arg4 : Memref sig .tc .vmem S512x1024 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S24x512 .f32) (harg7 : arg7.IsWhole) (arg8 : Memref sig .tc .vmem S22016x1024 .fp8e4m3) (harg8 : arg8.IsWhole) (arg9 : Memref sig .tc .vmem S22016x128 .f32) (harg9 : arg9.IsWhole) (arg10 : Memref sig .tc .vmem S24x8x512 .f32) (harg10 : arg10.IsWhole) (arg11 : Memref sig .tc .smem S688 .i32) (harg11 : arg11.IsWhole) (arg12 : Memref sig .tc .smem S688 .i32) (harg12 : arg12.IsWhole) (arg13 : Memref sig .tc .smem S1 .i32) (harg13 : arg13.IsWhole) (arg14 : DmaSems sig S_)
    (emb : Vec F S512x1024 .fp8e4m3) (es bv : Vec F S1x512 .f32) {Q : Unit → sProp (MT nD τ sig Ix (Elt F) Name U Lvl)} {X10 : Vec F S24x8x512 .f32} {X7 : Vec F S24x512 .f32} :
    (iprop(ready c L z zs arg4 arg5 arg6 arg8 arg9 arg11 arg12 arg13 emb es bv
        ∗ ownOn c.tc arg10 Finset.univ fullShare X10 ∗ ownOn c.tc arg7 Finset.univ fullShare X7) : sProp (MT nD τ sig Ix (Elt F) Name U Lvl))
      ⊢ iprop((ready c L z zs arg4 arg5 arg6 arg8 arg9 arg11 arg12 arg13 emb es bv
          ∗ ownOn c.tc arg10 Finset.univ fullShare (accK L z zs emb es bv (nblk L)) ∗ agree c.tc arg7 Finset.univ (fun y => (y 0).val < 2) (outA (accK L z zs emb es bv (nblk L))) -∗ Q ())
        -∗ wp frame (wpE defs 𝒱 c.tc none) Set.univ (mainP i arg1 harg1 arg2 harg2 arg3 harg3 arg4 harg4 arg5 harg5 arg6 harg6 arg7 harg7 arg8 harg8 arg9 harg9 arg10 harg10 arg11 harg11 arg12 harg12 arg13 harg13 arg14) Q) := by
  have hn := nblk_le hL
  unfold mainP ready
  iintro ⟨⟨H8, H4, H5, H6, HK, H13⟩, H10, H7⟩ Hk
  iapply (wp_load_on c.tc 𝒱 none Set.univ (fun x => Finset.mem_univ _)) $$ H10
  iintro H10
  iapply (wp_store_on c.tc 𝒱 none Set.univ (accK L z zs emb es bv 0) (fun x => Finset.mem_univ _) (fun x => rfl)
    (fun y _ hy => absurd (by
      rw [Rect.mem_set_unit]
      intro a
      exact ⟨by revert a; exact Fin.forall_fin_succ.mpr ⟨Nat.zero_le _, Fin.forall_fin_two.mpr ⟨Nat.zero_le _, Nat.zero_le _⟩⟩,
        lt_of_lt_of_le (y a).isLt (Nat.le_add_left _ _)⟩) hy)) $$ H10
  iintro H10
  iapply (wp_load_on_eq c.tc 𝒱 none Set.univ emb (fun x => Finset.mem_univ _) (fun x => congrArg emb (emb_whole2 _ x))) $$ H4
  iintro H4
  iapply (wp_load_on_eq c.tc 𝒱 none Set.univ (fun _ => (BitVec.ofNat 32 (nblk L) : BitVec 32)) (fun x => Finset.mem_univ _) (fun x => rfl)) $$ H13
  iintro H13
  iapply (wp_assume 𝒱 c.tc none Set.univ (chk3 hn))
  iapply (Scf.wp_for_bind frame (wpE defs 𝒱 c.tc none) Set.univ _ _ _ _ _ _ (fun k (_ : Unit) =>
    iprop(agree c.tc arg8 Finset.univ (fun y => (y 0).val / 32 < 16 * nblk L) (ZB L z)
        ∗ ownOn c.tc arg5 Finset.univ fullShare es ∗ ownOn c.tc arg6 Finset.univ fullShare bv
        ∗ known c L zs arg9 arg11 arg12 (16 * nblk L) ∗ ownOn c.tc arg10 Finset.univ fullShare (accK L z zs emb es bv k)))
    (fun k acc => by
      iintro H
      iapply (t8_spec 𝒱 c L z zs i arg1 harg1 arg2 harg2 arg3 harg3 arg4 harg4 arg5 harg5 arg6 harg6 arg7 harg7 arg8 harg8 arg9 harg9 arg10 harg10 arg11 harg11 arg12 harg12 arg13 harg13 arg14 hn (chk3 hn) k emb es bv (accK L z zs emb es bv k.val)) $$ H
      iintro H
      iexact H)) $$ [H8 H5 H6 HK H10]
  · isplitl [H8]; · iexact H8
    isplitl [H5]; · iexact H5
    isplitl [H6]; · iexact H6
    isplitl [HK]; · iexact HK
    iexact H10
  iintro %acc ⟨H8, H5, H6, HK, H10⟩
  rw [show Scf.trips _ _ _ = nblk L from t8_trips hn]
  iapply (wp_rem 𝒱 c 0#32 (Scalar.subi (BitVec.ofNat 32 (nblk L)) 0#32))
  ihave H7 := (agree_of_ownOn c.tc arg7 (P := fun y => (y 0).val < 0) (B := outA (accK L z zs emb es bv (nblk L))) (fun y _ h => absurd h (Nat.not_lt_zero _))) $$ H7
  iapply (outRow_spec 𝒱 c arg7 arg10 _ _ _ _ _ 0 (by decide) rfl rfl (accK L z zs emb es bv (nblk L))) $$ [H10 H7]
  · isplitl [H10]; · iexact H10
    iexact H7
  iintro ⟨H10, H7⟩
  iapply (outRow_spec 𝒱 c arg7 arg10 _ _ _ _ _ 1 (by decide) rfl rfl (accK L z zs emb es bv (nblk L))) $$ [H10 H7]
  · isplitl [H10]; · iexact H10
    iexact H7
  iintro ⟨H10, H7⟩
  rw [wp_ret]
  imodintro
  iapply Hk
  isplitr [H10 H7]
  · isplitl [H8]; · iexact H8
    isplitl [H4]; · iexact H4
    isplitl [H5]; · iexact H5
    isplitl [H6]; · iexact H6
    isplitl [HK]; · iexact HK
    iexact H13
  isplitl [H10]; · iexact H10
  iexact H7

end Cert.Proof.KernelIdeal
-- ==== Proof.Body4.lean ====
module

public import proofs.«01_k».proof.Proof.Body3
public import Idealize.ShloMosaic.Lib.Batch

@[expose] public section

set_option maxRecDepth 16384

noncomputable section

namespace Cert.Proof.KernelIdeal

open Cert.KernelIdeal Cert.KernelIdeal.Gen Cert.Proof
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

open Idealize.ShloMosaic.Transfers

variable {Ix : Type} [DecidableEq Ix] {Name : Type} [DecidableEq Name] [Infinite Name] {U : Type} [URA U] {Lvl : Type} [Preorder Lvl]
variable {defs : Defs nD τ sig (Elt F) Λ₀} (𝒱 : Variants) (c : Dev nD)
variable (EC : UEmb Counters (MT nD τ sig Ix (Elt F) Name U Lvl)) [EC.LandsIn (upEmb : UEmb _ (MT nD τ sig Ix (Elt F) Name U Lvl))] (ι : Ix)

/-! The transfers of the groups of activations into the packed buffer. -/

variable (L : ℕ → ℕ) (z : Vec F S21504x1024 .fp8e4m3) (zs : Vec F S24x7x128 .f32)

/-- The packed rows from group `t` on. -/
def tailT (t : ℕ) : Finset S22016x1024.Idx := Finset.univ.filter fun y => t ≤ (y 0).val / 32
/-- Group `t`'s packed rows. -/
def blkT (t : ℕ) : Finset S22016x1024.Idx := Finset.univ.filter fun y => (y 0).val / 32 = t
/-- The source rows no group before `t` is copied from. -/
def srcTail (t : ℕ) : Finset S21504x1024.Idx := Finset.univ.filter fun y => ∀ i < t, (y 0).val / 32 ≠ src L i
/-- The source rows group `t` is copied from. -/
def srcBlk (t : ℕ) : Finset S21504x1024.Idx := Finset.univ.filter fun y => (y 0).val / 32 = src L t

/-- What group `t`'s transfer delivers: its packed rows, holding what they should, and its source rows back. -/
def deliv (arg2 : Memref sig .tc .hbm S21504x1024 .fp8e4m3) (arg8 : Memref sig .tc .vmem S22016x1024 .fp8e4m3) (t : Fin (total L)) :
    sProp (MT nD τ sig Ix (Elt F) Name U Lvl) :=
  iprop(ownOn c.tc arg8 (blkT t.val) fullShare (ZB L z) ∗ ownOn c.tc arg2 (srcBlk L t.val) fullShare z)

instance deliv_storable (arg2 : Memref sig .tc .hbm S21504x1024 .fp8e4m3) (arg8 : Memref sig .tc .vmem S22016x1024 .fp8e4m3) (t : Fin (total L)) :
    BI.Storable (upEmb : UEmb _ (MT nD τ sig Ix (Elt F) Name U Lvl)) (deliv c L z arg2 arg8 t) := by
  unfold deliv; infer_instance

/-- What one transfer credits. -/
def credN (arg8 : Memref sig .tc .vmem S22016x1024 .fp8e4m3) : ℕ :=
  (arg8.slice (Rect.unit (s := S22016x1024) ![0, 0] S32x1024.size inb_S22016x1024_S32x1024_0_0) (fun _ => rfl)).view.dmaCredit

/-- Row of a 32-row rectangle's entry in the packed buffer. -/
theorem emb_z0 (o : Fin 2 → ℕ) (h : ∀ a, o a + S32x1024.size a ≤ S22016x1024.size a) (a : ℕ) (ho : o = ![a, 0]) (x : S32x1024.Idx) :
    (((Rect.unit (s := S22016x1024) o S32x1024.size h).emb x) 0).val = a + (x 0).val ∧ (((Rect.unit (s := S22016x1024) o S32x1024.size h).emb x) 1).val = (x 1).val := by
  subst ho
  constructor
  · rw [Rect.emb_apply]
    show a + 1 * (x 0).val = a + (x 0).val
    omega
  · rw [Rect.emb_apply]
    show 0 + 1 * (x 1).val = (x 1).val
    omega

/-- Row of a 32-row rectangle's entry in the source array. -/
theorem emb_h0 (o : Fin 2 → ℕ) (h : ∀ a, o a + S32x1024.size a ≤ S21504x1024.size a) (a : ℕ) (ho : o = ![a, 0]) (x : S32x1024.Idx) :
    (((Rect.unit (s := S21504x1024) o S32x1024.size h).emb x) 0).val = a + (x 0).val ∧ (((Rect.unit (s := S21504x1024) o S32x1024.size h).emb x) 1).val = (x 1).val := by
  subst ho
  constructor
  · rw [Rect.emb_apply]
    show a + 1 * (x 0).val = a + (x 0).val
    omega
  · rw [Rect.emb_apply]
    show 0 + 1 * (x 1).val = (x 1).val
    omega

/-- The entries of group `t` are the rectangle at row `32 * t` of the packed buffer. -/
theorem set_z0 (o : Fin 2 → ℕ) (h : ∀ a, o a + S32x1024.size a ≤ S22016x1024.size a) (t : ℕ) (ho : o = ![t * 32, 0]) :
    blkT t = (Rect.unit (s := S22016x1024) o S32x1024.size h).set := by
  subst ho
  ext y
  have h1 : (y 1).val < 1024 := (y 1).isLt
  rw [Rect.mem_set_unit]
  unfold blkT
  rw [Finset.mem_filter]
  constructor
  · rintro ⟨-, e⟩
    refine Fin.forall_fin_two.mpr ⟨⟨(show t * 32 ≤ (y 0).val by omega), (show (y 0).val < t * 32 + 32 by omega)⟩, ⟨Nat.zero_le _, (show (y 1).val < 0 + 1024 by omega)⟩⟩
  · intro e
    have e0 : t * 32 ≤ (y 0).val ∧ (y 0).val < t * 32 + 32 := e 0
    exact ⟨Finset.mem_univ _, by omega⟩

/-- The source entries of group `t` are the rectangle at its source row. -/
theorem set_h0 (o : Fin 2 → ℕ) (h : ∀ a, o a + S32x1024.size a ≤ S21504x1024.size a) (t : ℕ) (ho : o = ![src L t * 32, 0]) :
    srcBlk L t = (Rect.unit (s := S21504x1024) o S32x1024.size h).set := by
  subst ho
  ext y
  have h1 : (y 1).val < 1024 := (y 1).isLt
  rw [Rect.mem_set_unit]
  unfold srcBlk
  rw [Finset.mem_filter]
  generalize src L t = t'
  constructor
  · rintro ⟨-, e⟩
    refine Fin.forall_fin_two.mpr ⟨⟨(show t' * 32 ≤ (y 0).val by omega), (show (y 0).val < t' * 32 + 32 by omega)⟩, ⟨Nat.zero_le _, (show (y 1).val < 0 + 1024 by omega)⟩⟩
  · intro e
    have e0 : t' * 32 ≤ (y 0).val ∧ (y 0).val < t' * 32 + 32 := e 0
    exact ⟨Finset.mem_univ _, by omega⟩

/-- The packed rows of a group read what its source rows hold. -/
theorem ZB_blk (hL : ∀ d, L d ≤ 896) (t : ℕ) (ht : t < total L) (o : Fin 2 → ℕ) (h : ∀ a, o a + S32x1024.size a ≤ S22016x1024.size a) (ho : o = ![t * 32, 0])
    (o' : Fin 2 → ℕ) (h' : ∀ a, o' a + S32x1024.size a ≤ S21504x1024.size a) (ho' : o' = ![src L t * 32, 0]) (x : S32x1024.Idx) :
    ZB L z ((Rect.unit (s := S22016x1024) o S32x1024.size h).emb x) = z ((Rect.unit (s := S21504x1024) o' S32x1024.size h').emb x) := by
  obtain ⟨e0, e1⟩ := emb_z0 o h _ ho x
  obtain ⟨f0, f1⟩ := emb_h0 o' h' _ ho' x
  have hx : (x 0).val < 32 := (x 0).isLt
  have hs := src_lt hL ht
  unfold ZB
  have hd : ((Rect.unit (s := S22016x1024) o S32x1024.size h).emb x 0).val / 32 = t := by rw [e0]; omega
  have hm : ((Rect.unit (s := S22016x1024) o S32x1024.size h).emb x 0).val % 32 = (x 0).val := by rw [e0]; omega
  refine (if_pos (lt_of_eq_of_lt hd ht)).trans ?_
  refine congrArg z (funext (Fin.forall_fin_two.mpr ⟨Fin.ext ?_, Fin.ext ?_⟩))
  · show (src L (((Rect.unit (s := S22016x1024) o S32x1024.size h).emb x 0).val / 32) * 32 + ((Rect.unit (s := S22016x1024) o S32x1024.size h).emb x 0).val % 32) % 21504 = _
    rw [hd, hm, f0]
    generalize src L t = t' at *
    omega
  · show ((Rect.unit (s := S22016x1024) o S32x1024.size h).emb x 1).val = _
    rw [e1, f1]

/-- One group's transfer. -/
theorem dma_spec (hL : ∀ d, L d ≤ 896) (arg2 : Memref sig .tc .hbm S21504x1024 .fp8e4m3) (arg8 : Memref sig .tc .vmem S22016x1024 .fp8e4m3)
    (arg14 : DmaSems sig S_) {α : Type} (K : PUnit → Prog (TpuEff nD τ sig (Elt F) Λ₀ .tc) α) {Q : α → sProp (MT nD τ sig Ix (Elt F) Name U Lvl)}
    (o : Fin 2 → ℕ) (h : ∀ a, o a + S32x1024.size a ≤ S22016x1024.size a) (o' : Fin 2 → ℕ) (h' : ∀ a, o' a + S32x1024.size a ≤ S21504x1024.size a)
    (hsrc) (hdst) (hsem) (t : ℕ) (ht : t < total L) (ho : o = ![t * 32, 0]) (ho' : o' = ![src L t * 32, 0]) :
    (iprop(agree c.tc arg8 (tailT t) (fun _ => False) (ZB L z) ∗ ownOn c.tc arg2 (srcTail L t) fullShare z
        ∗ Batch EC c.tc (.dma arg14.sem) ι (credN arg8) (deliv c L z arg2 arg8) t 0) : sProp (MT nD τ sig Ix (Elt F) Name U Lvl))
      ⊢ iprop((agree c.tc arg8 (tailT (t + 1)) (fun _ => False) (ZB L z) ∗ ownOn c.tc arg2 (srcTail L (t + 1)) fullShare z
          ∗ Batch EC c.tc (.dma arg14.sem) ι (credN arg8) (deliv c L z arg2 arg8) (t + 1) 0 -∗ wp frame (wpE defs 𝒱 c.tc none) Set.univ (K ⟨⟩) Q)
        -∗ wp frame (wpE defs 𝒱 c.tc none) Set.univ (.op (.enqueueDma (arg2.slice (Rect.unit (s := S21504x1024) o' S32x1024.size h') (fun _ => rfl))
            (.here (arg8.slice (Rect.unit (s := S22016x1024) o S32x1024.size h) (fun _ => rfl))) (.dma arg14.sem) hsrc hdst hsem) K) Q) := by
  iintro ⟨H8, H2, HB⟩ Hk
  ihave H8 := (agree_split c.tc arg8 (T₁ := blkT t) (T₂ := tailT (t + 1)) (fun y hy => by
      simp only [blkT, tailT, Finset.mem_filter, Finset.mem_univ, true_and] at hy ⊢; omega)
    (fun y => by simp only [blkT, tailT, Finset.mem_filter, Finset.mem_univ, true_and]; omega)) $$ H8
  icases H8 with ⟨Hd, H8⟩
  ihave H2 := (ownOn_split c.tc arg2 fullShare (T₁ := srcBlk L t) (T₂ := srcTail L (t + 1)) (fun y hy => by
      simp only [srcBlk, srcTail, Finset.mem_filter, Finset.mem_univ, true_and] at hy ⊢
      intro i hi he
      have := src_inj hL ht (lt_trans hi ht) (hy.symm.trans he)
      omega)
    (fun y => by
      simp only [srcBlk, srcTail, Finset.mem_filter, Finset.mem_univ, true_and]
      constructor
      · intro hh; exact ⟨fun i hi => hh i (by omega), hh t (by omega)⟩
      · rintro ⟨h1, h2⟩ i hi
        rcases Nat.lt_succ_iff_lt_or_eq.mp hi with h3 | rfl
        · exact h1 i h3
        · exact h2)) $$ H2
  icases H2 with ⟨Hs, H2⟩
  unfold agree
  icases Hd with ⟨%X, -, Hd⟩
  ihave Hd := (ownOn_slice_elim c.tc arg8 (Rect.unit (s := S22016x1024) o S32x1024.size h) (fun _ => rfl) fullShare (set_z0 o h t ho)) $$ Hd
  icases Hd with ⟨%fd, -, Hd⟩
  ihave Hs := (ownOn_slice_elim c.tc arg2 (Rect.unit (s := S21504x1024) o' S32x1024.size h') (fun _ => rfl) fullShare (set_h0 L o' h' t ho')) $$ Hs
  icases Hs with ⟨%fs, %hfs, Hs⟩
  iapply (wp_dmaBatch EC 𝒱 c.tc none (src := arg2.slice (Rect.unit (s := S21504x1024) o' S32x1024.size h') (fun _ => rfl))
    (dst := arg8.slice (Rect.unit (s := S22016x1024) o S32x1024.size h) (fun _ => rfl)) (q := fullShare) (fs := fs) (fd := fd) (D := deliv c L z arg2 arg8) (j := t) (u := 0)
    (Sd := (arg8.slice (Rect.unit (s := S22016x1024) o S32x1024.size h) (fun _ => rfl)).view.set) ι (credN arg8) rfl
    (Finset.Subset.refl _) ht (Nat.zero_le _) (by
    unfold deliv
    iintro ⟨Hd, Hs⟩
    isplitl [Hd]
    · iapply (ownOn_slice_intro c.tc arg8 (Rect.unit (s := S22016x1024) o S32x1024.size h) (fun _ => rfl) fullShare (set_z0 o h t ho) _ (fun x => by
        refine (congrFun (View.read_write_univ _ _) x).trans ?_
        exact (hfs x).trans (ZB_blk L z hL t ht o h ho o' h' ho' x).symm)) $$ Hd
    · iapply (ownOn_slice_intro c.tc arg2 (Rect.unit (s := S21504x1024) o' S32x1024.size h') (fun _ => rfl) fullShare (set_h0 L o' h' t ho') _ hfs) $$ Hs)) $$ [Hs Hd HB]
  · isplitl [Hs]; · iexact Hs
    isplitl [Hd]; · iexact Hd
    iexact HB
  iintro HB
  iapply Hk
  isplitl [H8]; · iexact H8
  isplitl [H2]; · iexact H2
  iexact HB

end Cert.Proof.KernelIdeal
-- ==== Proof.Scales.lean ====
module

public import proofs.«01_k».proof.Proof.Contents
public import Idealize.ShloMosaic.Lib.Pointwise

@[expose] public section

set_option maxRecDepth 16384

noncomputable section

namespace Cert.Proof.KernelIdeal

open Cert.KernelIdeal Cert.KernelIdeal.Gen Cert.Proof
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! The scale rows the kernel stores. -/

/-- Row `r` of a quarter that starts at row `a` of a 128-wide chunk of scales holds scale `a + r` in every lane. -/
theorem scaleRows_apply (a : ℕ) (hoff : S128x128.Slices ![a, 0] S32x128) (v : Vec F S1x1x128 .f32) (r : Fin 32) (l : Fin 128) (h : a + r.val < 128) :
    scaleRows ![a, 0] hoff v (ix2 r l) = v (ix3 (0 : Fin 1) (0 : Fin 1) (⟨a + r.val, h⟩ : Fin 128)) := by
  pointwise [scaleRows, k0_pay3]

end Cert.Proof.KernelIdeal
-- ==== Proof.Body5.lean ====
module

public import proofs.«01_k».proof.Proof.Body1
public import proofs.«01_k».proof.Proof.Scales

@[expose] public section

set_option maxRecDepth 16384

noncomputable section

namespace Cert.Proof.KernelIdeal

open Cert.KernelIdeal Cert.KernelIdeal.Gen Cert.Proof
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable {Ix : Type} [DecidableEq Ix] {Name : Type} [DecidableEq Name] {U : Type} [URA U] {Lvl : Type} [Preorder Lvl]
variable {defs : Defs nD τ sig (Elt F) Λ₀} (𝒱 : Variants) (c : Dev nD)

/-! The stores of a document's row scales. -/

variable (L : ℕ → ℕ) (z : Vec F S21504x1024 .fp8e4m3) (zs : Vec F S24x7x128 .f32)

/-- The rows stored for group `j` of document `k`. -/
def rowsW (k j : ℕ) : Vec F S32x128 .f32 := fun x =>
  zs (ix3 (⟨k % 24, Nat.mod_lt _ (by decide)⟩ : Fin 24) (⟨(j * 32 + (x 0).val) / 128 % 7, Nat.mod_lt _ (by decide)⟩ : Fin 7)
    (⟨(j * 32 + (x 0).val) % 128, Nat.mod_lt _ (by decide)⟩ : Fin 128))

/-- The packed scales of group `j` of document `k`, entry by entry. -/
theorem SB_rows {k j : ℕ} (hk : k < 24) (hj : j < ng L k) (o : Fin 2 → ℕ) (h : ∀ a, o a + S32x128.size a ≤ S22016x128.size a)
    (ho : o = ![(start L k + j) * 32, 0]) (x : S32x128.Idx) :
    SB L zs ((Rect.unit (s := S22016x128) o S32x128.size h).emb x) = rowsW zs k j x := by
  rw [unit_emb_z o h _ ho x]
  have hx : (x 0).val < 32 := (x 0).isLt
  have h0 : (start L k + j) * 32 + 32 ≤ 22016 := by have := h 0; subst ho; exact this
  have ht : start L k + j < total L := by
    have := start_le_total L (show k + 1 ≤ 24 by omega)
    rw [start_succ] at this; omega
  have ed := docOf_at L hk hj
  have ei := inDoc_at L hk hj
  generalize start L k + j = t at *
  have hd : (t * 32 + (x 0).val) % 22016 / 32 = t := by omega
  have hm : (t * 32 + (x 0).val) % 22016 % 32 = (x 0).val := by omega
  unfold SB rowsW
  refine (if_pos (lt_of_eq_of_lt hd ht)).trans ?_
  refine congrArg zs ?_
  have e : ∀ (a a' b b' c c' : ℕ) (ha ha' hb hb' hc hc'), a = a' → b = b' → c = c' →
      ix3 (⟨a, ha⟩ : Fin 24) (⟨b, hb⟩ : Fin 7) (⟨c, hc⟩ : Fin 128) = ix3 ⟨a', ha'⟩ ⟨b', hb'⟩ ⟨c', hc'⟩ := by
    intro a a' b b' c c' _ _ _ _ _ _ h1 h2 h3; subst h1 h2 h3; rfl
  apply e
  · show docOf L ((t * 32 + (x 0).val) % 22016 / 32) % 24 = k % 24
    rw [hd, ed]
  · show (inDoc L ((t * 32 + (x 0).val) % 22016 / 32) * 32 + (t * 32 + (x 0).val) % 22016 % 32) / 128 % 7 = _
    rw [hd, hm, ei]
  · show (inDoc L ((t * 32 + (x 0).val) % 22016 / 32) * 32 + (t * 32 + (x 0).val) % 22016 % 32) % 128 = _
    rw [hd, hm, ei]

/-- Entries whose row divided by 32 is `t` lie in group `t`'s scale rectangle. -/
theorem mem_s (t : ℕ) (o : Fin 2 → ℕ) (h : ∀ a, o a + S32x128.size a ≤ S22016x128.size a)
    (ho : o = ![t * 32, 0]) (y : S22016x128.Idx) (he : (y 0).val / 32 = t) : y ∈ (Rect.unit (s := S22016x128) o S32x128.size h).set := by
  subst ho
  rw [Rect.mem_set_unit]
  have h1 : (y 1).val < 128 := (y 1).isLt
  refine Fin.forall_fin_two.mpr ⟨?_, ?_⟩
  · exact ⟨(show t * 32 ≤ (y 0).val by omega), (show (y 0).val < t * 32 + 32 by omega)⟩
  · exact ⟨Nat.zero_le _, (show (y 1).val < 0 + 128 by omega)⟩

/-- One guarded store of a group's scale rows. -/
theorem zgrp_spec {α : Type} (arg9 : Memref sig .tc .vmem S22016x128 .f32) (b : BitVec 1)
    (o9 : Fin 2 → ℕ) (h9 : b = 1#1 → ∀ a, o9 a + S32x128.size a ≤ S22016x128.size a)
    (w : FVec F S32x128 .f32) (K : Prog (TpuEff nD τ sig (Elt F) Λ₀ .tc) α) {Q : α → sProp (MT nD τ sig Ix (Elt F) Name U Lvl)}
    {k : ℕ} (j : ℕ) (hk : k < 24) (hb : b = 1#1 ↔ 32 * j < L k) (ho : o9 = ![(start L k + j) * 32, 0]) (hw : ∀ x, w x = rowsW zs k j x) :
    (agree c.tc arg9 Finset.univ (fun y => (y 0).val / 32 < start L k + min j (ng L k)) (SB L zs) : sProp (MT nD τ sig Ix (Elt F) Name U Lvl))
      ⊢ iprop((agree c.tc arg9 Finset.univ (fun y => (y 0).val / 32 < start L k + min (j + 1) (ng L k)) (SB L zs)
          -∗ wp frame (wpE defs 𝒱 c.tc none) Set.univ K Q)
        -∗ wp frame (wpE defs 𝒱 c.tc none) Set.univ (zgrp arg9 b o9 h9 w K) Q) := by
  have hng : ng L k = (L k + 31) / 32 := rfl
  unfold zgrp
  by_cases h : b = 1#1
  · have hlt := hb.mp h
    have hj : j < ng L k := by omega
    have hin : ∀ x, SB L zs ((Rect.unit (s := S22016x128) o9 S32x128.size (h9 h)).emb x) = w x :=
      fun x => (SB_rows L zs hk hj o9 (h9 h) ho x).trans (hw x).symm
    have hmem : ∀ y ∈ (Finset.univ : Finset S22016x128.Idx), (y 0).val / 32 < start L k + min (j + 1) (ng L k) →
        (y 0).val / 32 < start L k + min j (ng L k) ∨ y ∈ (Rect.unit (s := S22016x128) o9 S32x128.size (h9 h)).set := by
      intro y _ hy
      by_cases h' : (y 0).val / 32 < start L k + min j (ng L k)
      · exact .inl h'
      · exact .inr (mem_s _ o9 (h9 h) ho y (by omega))
    rw [dif_pos h]
    iintro H Hk
    iapply (wp_load_any c.tc 𝒱 none Set.univ (fun x => Finset.mem_univ _)) $$ H
    iintro %v H
    iapply (wp_store_agree c.tc 𝒱 none Set.univ (P := fun y : S22016x128.Idx => (y 0).val / 32 < start L k + min j (ng L k)) (B := SB L zs)
      (fun y : S22016x128.Idx => (y 0).val / 32 < start L k + min (j + 1) (ng L k)) (fun x => Finset.mem_univ _) hin hmem) $$ H
    iintro H
    iapply Hk $$ H
  · have hnlt := Nat.not_lt.mp fun h' => h (hb.mpr h')
    rw [dif_neg h]
    iintro H Hk
    iapply Hk
    iapply (agree_weaken c.tc arg9 (fun y _ hy => by
      have hy' : (y 0).val / 32 < start L k + min (j + 1) (ng L k) := hy
      show (y 0).val / 32 < start L k + min j (ng L k)
      omega)) $$ H

/-- Where an entry of chunk `m` of document `k`'s scales lies in the scales array. -/
theorem zs_chunk (o : Fin 3 → ℕ) (h : ∀ a, o a + S1x1x128.size a ≤ S24x7x128.size a) (k m : ℕ) (hk : k < 24) (hm : m < 7) (ho : o = ![k, m, 0])
    (x : S1x1x128.Idx) : (Rect.unit (s := S24x7x128) o S1x1x128.size h).emb x
      = ix3 (⟨k, hk⟩ : Fin 24) (⟨m, hm⟩ : Fin 7) (⟨(x 2).val, (x 2).isLt⟩ : Fin 128) := by
  subst ho
  have h0 : (x 0).val < 1 := (x 0).isLt
  have h1 : (x 1).val < 1 := (x 1).isLt
  refine funext (Fin.forall_fin_succ.mpr ⟨?_, Fin.forall_fin_two.mpr ⟨?_, ?_⟩⟩)
  · apply Fin.ext
    simp only [Rect.emb_apply]
    show k + 1 * (x 0).val = k
    omega
  · apply Fin.ext
    simp only [Rect.emb_apply]
    show m + 1 * (x 1).val = m
    omega
  · apply Fin.ext
    simp only [Rect.emb_apply]
    show 0 + 1 * (x 2).val = (x 2).val
    omega

/-- A quarter of chunk `m` of document `k`'s scales holds the rows of group `4 m + g`. -/
theorem scaleRows_rows (k m g : ℕ) (hk : k < 24) (hm : m < 7) (hg : g < 4) (hoff : S128x128.Slices ![32 * g, 0] S32x128) (x : S32x128.Idx) :
    scaleRows ![32 * g, 0] hoff (fun x : S1x1x128.Idx => zs (ix3 (⟨k, hk⟩ : Fin 24) (⟨m, hm⟩ : Fin 7) (⟨(x 2).val, (x 2).isLt⟩ : Fin 128))) x
      = rowsW zs k (4 * m + g) x := by
  have hx : (x 0).val < 32 := (x 0).isLt
  have e : x = ix2 (⟨(x 0).val, hx⟩ : Fin 32) (⟨(x 1).val, (x 1).isLt⟩ : Fin 128) := funext (Fin.forall_fin_two.mpr ⟨rfl, rfl⟩)
  rw [e, scaleRows_apply (32 * g) hoff _ _ _ (by show 32 * g + (x 0).val < 128; omega)]
  unfold rowsW
  refine congrArg zs ?_
  have e : ∀ (a a' b b' c c' : ℕ) (ha ha' hb hb' hc hc'), a = a' → b = b' → c = c' →
      ix3 (⟨a, ha⟩ : Fin 24) (⟨b, hb⟩ : Fin 7) (⟨c, hc⟩ : Fin 128) = ix3 ⟨a', ha'⟩ ⟨b', hb'⟩ ⟨c', hc'⟩ := by
    intro a a' b b' c c' _ _ _ _ _ _ h1 h2 h3; subst h1 h2 h3; rfl
  apply e
  · show k = k % 24; omega
  · show m = ((4 * m + g) * 32 + (x 0).val) / 128 % 7; omega
  · show 32 * g + (x 0).val = ((4 * m + g) * 32 + (x 0).val) % 128; omega

/-- A guarded chunk of a document's scales. -/
theorem chunk_spec {α : Type} (arg3 : Memref sig .tc .vmem S24x7x128 .f32) (arg9 : Memref sig .tc .vmem S22016x128 .f32)
    (b : BitVec 1) (o3 : Fin 3 → ℕ) (h3 : ∀ a, o3 a + S1x1x128.size a ≤ S24x7x128.size a)
    (b0 b1 b2 b3 : BitVec 1) (p0 p1 p2 p3 : Fin 2 → ℕ)
    (q0 : b = 1#1 → b0 = 1#1 → ∀ a, p0 a + S32x128.size a ≤ S22016x128.size a)
    (q1 : b = 1#1 → b1 = 1#1 → ∀ a, p1 a + S32x128.size a ≤ S22016x128.size a)
    (q2 : b = 1#1 → b2 = 1#1 → ∀ a, p2 a + S32x128.size a ≤ S22016x128.size a)
    (q3 : b = 1#1 → b3 = 1#1 → ∀ a, p3 a + S32x128.size a ≤ S22016x128.size a)
    (K : Prog (TpuEff nD τ sig (Elt F) Λ₀ .tc) α) {Q : α → sProp (MT nD τ sig Ix (Elt F) Name U Lvl)}
    {k : ℕ} (m : ℕ) (hk : k < 24) (hm : m < 7) (ho3 : o3 = ![k, m, 0])
    (hb : b = 1#1 ↔ 128 * m < L k)
    (hb0 : b0 = 1#1 ↔ 32 * (4 * m) < L k) (hb1 : b1 = 1#1 ↔ 32 * (4 * m + 1) < L k)
    (hb2 : b2 = 1#1 ↔ 32 * (4 * m + 2) < L k) (hb3 : b3 = 1#1 ↔ 32 * (4 * m + 3) < L k)
    (hp0 : p0 = ![(start L k + 4 * m) * 32, 0]) (hp1 : p1 = ![(start L k + (4 * m + 1)) * 32, 0])
    (hp2 : p2 = ![(start L k + (4 * m + 2)) * 32, 0]) (hp3 : p3 = ![(start L k + (4 * m + 3)) * 32, 0]) :
    (iprop(ownOn c.tc arg3 Finset.univ fullShare zs ∗ agree c.tc arg9 Finset.univ (fun y => (y 0).val / 32 < start L k + min (4 * m) (ng L k)) (SB L zs)) : sProp (MT nD τ sig Ix (Elt F) Name U Lvl))
      ⊢ iprop((ownOn c.tc arg3 Finset.univ fullShare zs ∗ agree c.tc arg9 Finset.univ (fun y => (y 0).val / 32 < start L k + min (4 * (m + 1)) (ng L k)) (SB L zs)
          -∗ wp frame (wpE defs 𝒱 c.tc none) Set.univ K Q)
        -∗ wp frame (wpE defs 𝒱 c.tc none) Set.univ (chunk arg3 arg9 b o3 h3 b0 b1 b2 b3 p0 p1 p2 p3 q0 q1 q2 q3 K) Q) := by
  have hng : ng L k = (L k + 31) / 32 := rfl
  unfold chunk
  by_cases h : b = 1#1
  · rw [dif_pos h]
    iintro ⟨H3, H9⟩ Hk
    iapply (wp_load_on_eq c.tc 𝒱 none Set.univ (fun x : S1x1x128.Idx => zs (ix3 (⟨k, hk⟩ : Fin 24) (⟨m, hm⟩ : Fin 7) (⟨(x 2).val, (x 2).isLt⟩ : Fin 128)))
      (fun x => Finset.mem_univ _) (fun x => congrArg zs (zs_chunk o3 h3 k m hk hm ho3 x))) $$ H3
    iintro H3
    iapply (zgrp_spec 𝒱 c L zs arg9 b0 p0 (q0 h) _ _ (4 * m) hk hb0 hp0 (scaleRows_rows zs k m 0 hk hm (by decide) slices_S128x128_o0_0_S32x128)) $$ H9
    iintro H9
    iapply (zgrp_spec 𝒱 c L zs arg9 b1 p1 (q1 h) _ _ (4 * m + 1) hk hb1 hp1 (scaleRows_rows zs k m 1 hk hm (by decide) slices_S128x128_o32_0_S32x128)) $$ H9
    iintro H9
    iapply (zgrp_spec 𝒱 c L zs arg9 b2 p2 (q2 h) _ _ (4 * m + 2) hk hb2 hp2 (scaleRows_rows zs k m 2 hk hm (by decide) slices_S128x128_o64_0_S32x128)) $$ H9
    iintro H9
    iapply (zgrp_spec 𝒱 c L zs arg9 b3 p3 (q3 h) _ _ (4 * m + 3) hk hb3 hp3 (scaleRows_rows zs k m 3 hk hm (by decide) slices_S128x128_o96_0_S32x128)) $$ H9
    iintro H9
    iapply Hk
    isplitl [H3]; · iexact H3
    iapply (agree_weaken c.tc arg9 (fun y _ hy => by
      have hy' : (y 0).val / 32 < start L k + min (4 * (m + 1)) (ng L k) := hy
      show (y 0).val / 32 < start L k + min (4 * m + 3 + 1) (ng L k)
      omega)) $$ H9
  · have hnlt := Nat.not_lt.mp fun h' => h (hb.mpr h')
    rw [dif_neg h]
    iintro ⟨H3, H9⟩ Hk
    iapply Hk
    isplitl [H3]; · iexact H3
    iapply (agree_weaken c.tc arg9 (fun y _ hy => by
      have hy' : (y 0).val / 32 < start L k + min (4 * (m + 1)) (ng L k) := hy
      show (y 0).val / 32 < start L k + min (4 * m) (ng L k)
      omega)) $$ H9

end Cert.Proof.KernelIdeal
-- ==== Proof.Body6.lean ====
module

public import proofs.«01_k».proof.Proof.Body4
public import proofs.«01_k».proof.Proof.Body5

@[expose] public section

set_option maxRecDepth 16384

noncomputable section

namespace Cert.Proof.KernelIdeal

open Cert.KernelIdeal Cert.KernelIdeal.Gen Cert.Proof
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

open Idealize.ShloMosaic.Transfers

variable {Ix : Type} [DecidableEq Ix] {Name : Type} [DecidableEq Name] [Infinite Name] {U : Type} [URA U] {Lvl : Type} [Preorder Lvl]
variable {defs : Defs nD τ sig (Elt F) Λ₀} (𝒱 : Variants) (c : Dev nD)
variable (EC : UEmb Counters (MT nD τ sig Ix (Elt F) Name U Lvl)) [EC.LandsIn (upEmb : UEmb _ (MT nD τ sig Ix (Elt F) Name U Lvl))] (ι : Ix)

/-! The first grid point's preparation. -/

variable (L : ℕ → ℕ) (z : Vec F S21504x1024 .fp8e4m3) (zs : Vec F S24x7x128 .f32)

/-- A finished program meets any postcondition its result meets. -/
theorem wp_done {α : Type} (a : α) {Q : α → sProp (MT nD τ sig Ix (Elt F) Name U Lvl)} :
    Q a ⊢ wp frame (wpE defs 𝒱 c.tc none) Set.univ (Prog.ret a) Q := by
  rw [wp_ret]
  iintro H
  imodintro
  iexact H

/-- What holds after the first `t` groups are started: their rows are on the way, their tables' entries are written. -/
def packed (arg2 : Memref sig .tc .hbm S21504x1024 .fp8e4m3) (arg8 : Memref sig .tc .vmem S22016x1024 .fp8e4m3)
    (arg11 arg12 : Memref sig .tc .smem S688 .i32) (arg14 : DmaSems sig S_) (t : ℕ) : sProp (MT nD τ sig Ix (Elt F) Name U Lvl) :=
  iprop(agree c.tc arg8 (tailT t) (fun _ => False) (ZB L z) ∗ ownOn c.tc arg2 (srcTail L t) fullShare z
    ∗ Batch EC c.tc (.dma arg14.sem) ι (credN arg8) (deliv c L z arg2 arg8) t 0
    ∗ agree c.tc arg11 Finset.univ (fun y => (y 0).val < t) (DB (F := F) L)
    ∗ agree c.tc arg12 Finset.univ (fun y => (y 0).val < t) (CB (F := F) L))

/-- The one entry of the rectangle at `t` of a table is entry `t`. -/
theorem emb_t (o : Fin 1 → ℕ) (h : ∀ a, o a + S1.size a ≤ S688.size a) (t : ℕ) (ho : o = ![t]) (x : S1.Idx) :
    (((Rect.unit (s := S688) o S1.size h).emb x) 0).val = t := by
  subst ho
  have hx : (x 0).val < 1 := (x 0).isLt
  rw [Rect.emb_apply]
  show t + 1 * (x 0).val = t
  omega

/-- Entry `t` of a table lies in the rectangle at `t`. -/
theorem mem_t (o : Fin 1 → ℕ) (h : ∀ a, o a + S1.size a ≤ S688.size a) (t : ℕ) (ho : o = ![t]) (y : S688.Idx) (he : (y 0).val = t) :
    y ∈ (Rect.unit (s := S688) o S1.size h).set := by
  subst ho
  rw [Rect.mem_set_unit]
  intro a
  have : a = 0 := Subsingleton.elim _ _
  subst this
  exact ⟨(show t ≤ (y 0).val by omega), (show (y 0).val < t + 1 by omega)⟩

/-- A store of table entry `t`. -/
theorem tab_spec {α : Type} (arg11 : Memref sig .tc .smem S688 .i32) (B : S688.Idx → BitVec 32) (w : BitVec 32)
    (o : Fin 1 → ℕ) (h : ∀ a, o a + S1.size a ≤ S688.size a) (hx) (hm) (K : PUnit → Prog (TpuEff nD τ sig (Elt F) Λ₀ .tc) α)
    {Q : α → sProp (MT nD τ sig Ix (Elt F) Name U Lvl)} (t : ℕ) (ho : o = ![t]) (hw : ∀ y : S688.Idx, (y 0).val = t → B y = w) :
    (agree (Val := Elt F) (e := .i32) c.tc arg11 Finset.univ (fun y => (y 0).val < t) B : sProp (MT nD τ sig Ix (Elt F) Name U Lvl))
      ⊢ iprop((agree (Val := Elt F) (e := .i32) c.tc arg11 Finset.univ (fun y => (y 0).val < t + 1) B -∗ wp frame (wpE defs 𝒱 c.tc none) Set.univ (K ⟨⟩) Q)
        -∗ wp frame (wpE defs 𝒱 c.tc none) Set.univ (.op (.store arg11 (Rect.unit (s := S688) o S1.size h) (fun _ => w) Finset.univ hx hm) K) Q) := by
  have hin : ∀ x, B ((Rect.unit (s := S688) o S1.size h).emb x) = w := fun x => hw _ (emb_t o h t ho x)
  have hmem : ∀ y ∈ (Finset.univ : Finset S688.Idx), (y 0).val < t + 1 → (y 0).val < t ∨ y ∈ (Rect.unit (s := S688) o S1.size h).set := by
    intro y _ hy
    by_cases h' : (y 0).val < t
    · exact .inl h'
    · exact .inr (mem_t o h t ho y (by omega))
  exact wp_store_agree (Val := Elt F) (e := .i32) c.tc 𝒱 none Set.univ (P := fun y : S688.Idx => (y 0).val < t) (B := B) (w := fun _ => w)
    (fun y : S688.Idx => (y 0).val < t + 1) (fun x => Finset.mem_univ _) hin hmem

/-- The document table at group `j` of document `k` holds `k`. -/
theorem DB_at {k j : ℕ} (hk : k < 24) (hj : j < ng L k) (y : S688.Idx) (hy : (y 0).val = start L k + j) :
    DB (F := F) L y = (BitVec.ofNat 32 k : BitVec 32) := by
  have ht : start L k + j < total L := by
    have := start_le_total L (show k + 1 ≤ 24 by omega)
    rw [start_succ] at this; omega
  have ed := docOf_at L hk hj
  have e : docN L (start L k + j) = k := (if_pos ht).trans ed
  show (BitVec.ofNat 32 (docN L (y 0).val) : BitVec 32) = _
  rw [hy, e]

/-- The count table at group `j` of document `k` holds the positions left to it, at most 32. -/
theorem CB_at {k j : ℕ} (hk : k < 24) (hj : j < ng L k) (y : S688.Idx) (hy : (y 0).val = start L k + j) :
    CB (F := F) L y = (BitVec.ofNat 32 (min (L k - j * 32) 32) : BitVec 32) := by
  have ht : start L k + j < total L := by
    have := start_le_total L (show k + 1 ≤ 24 by omega)
    rw [start_succ] at this; omega
  have e : cntN L (start L k + j) = min (L k - j * 32) 32 := (if_pos ht).trans (cnt_at L hk hj)
  show (BitVec.ofNat 32 (cntN L (y 0).val) : BitVec 32) = _
  rw [hy, e]

/-- One group of document `k`. -/
theorem t2_spec (hL : ∀ d, L d ≤ 896) (i : grid0.Coords) (arg1 : Memref sig .tc .smem S24 .i32) (harg1 : arg1.IsWhole) (arg2 : Memref sig .tc .hbm S21504x1024 .fp8e4m3) (harg2 : arg2.IsWhole) (arg3 : Memref sig .tc .vmem S24x7x128 .f32) (harg3 : arg3.IsWhole) (arg4 : Memref sig .tc .vmem S512x1024 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S24x512 .f32) (harg7 : arg7.IsWhole) (arg8 : Memref sig .tc .vmem S22016x1024 .fp8e4m3) (harg8 : arg8.IsWhole) (arg9 : Memref sig .tc .vmem S22016x128 .f32) (harg9 : arg9.IsWhole) (arg10 : Memref sig .tc .vmem S24x8x512 .f32) (harg10 : arg10.IsWhole) (arg11 : Memref sig .tc .smem S688 .i32) (harg11 : arg11.IsWhole) (arg12 : Memref sig .tc .smem S688 .i32) (harg12 : arg12.IsWhole) (arg13 : Memref sig .tc .smem S1 .i32) (harg13 : arg13.IsWhole) (arg14 : DmaSems sig S_) (h1 : k0_cond1 i = 1#1) (t1 : Fin k0_t1_loop.trips)
    (hw1 : k0_chk1 i t1 (BitVec.ofNat 32 (start L t1.val)) (BitVec.ofNat 32 (L t1.val) : BitVec 32))
    (j : Fin (k0_t2_loop (BitVec.ofNat 32 (L t1.val) : BitVec 32)).trips) {Q : Unit → sProp (MT nD τ sig Ix (Elt F) Name U Lvl)} :
    (packed c EC ι L z arg2 arg8 arg11 arg12 arg14 (start L t1.val + j.val) : sProp (MT nD τ sig Ix (Elt F) Name U Lvl))
      ⊢ iprop((packed c EC ι L z arg2 arg8 arg11 arg12 arg14 (start L t1.val + (j.val + 1)) -∗ Q ())
        -∗ wp frame (wpE defs 𝒱 c.tc none) Set.univ (k0_t2_body (F := F) i arg1 harg1 arg2 harg2 arg3 harg3 arg4 harg4 arg5 harg5 arg6 harg6 arg7 harg7 arg8 harg8 arg9 harg9 arg10 harg10 arg11 harg11 arg12 harg12 arg13 harg13 arg14 h1 0#32 1#32 t1 (BitVec.ofNat 32 (start L t1.val)) (Scf.iv 0#32 1#32 t1) (BitVec.ofNat 32 (L t1.val) : BitVec 32) hw1 j ()) Q) := by
  have hk : t1.val < 24 := lt_of_lt_of_eq t1.isLt t1_trips
  have hn := hL t1.val
  have hj : j.val < ng L t1.val := lt_of_lt_of_eq j.isLt (t2_trips hn)
  have hS : start L t1.val ≤ 672 := (start_le_total L (by omega)).trans (total_le hL)
  have ht : start L t1.val + j.val < total L := by
    have := start_le_total L (show t1.val + 1 ≤ 24 by omega)
    rw [start_succ] at this; omega
  have ho' := off3_eq t1 hn j
  rw [show t1.val * 28 + j.val = src L (start L t1.val + j.val) by rw [src_at L hk hj]; omega] at ho'
  have hj32 : 32 * j.val < L t1.val := by unfold ng at hj; omega
  have hc : Scalar.minsi (Scalar.subi (BitVec.ofNat 32 (L t1.val)) (Scalar.muli (Scf.iv 0#32 1#32 j.val) 32#32)) 32#32
      = BitVec.ofNat 32 (min (L t1.val - j.val * 32) 32) := by
    rw [w_iv, w_mul, w_sub (by omega) (by omega), w_min (by omega) (by omega)]
    congr 2; omega
  have hd : Scf.iv 0#32 1#32 t1.val = BitVec.ofNat 32 t1.val := by rw [w_iv]; congr 1; omega
  unfold packed k0_t2_body
  iintro ⟨H8, H2, HB, H11, H12⟩ Hk
  iapply (dma_spec 𝒱 c EC ι L z hL arg2 arg8 arg14 _ _ _ _ _ _ _ _ _ ht (off2_eq hS hn j) ho') $$ [H8 H2 HB]
  · isplitl [H8]; · iexact H8
    isplitl [H2]; · iexact H2
    iexact HB
  iintro ⟨H8, H2, HB⟩
  iapply (wp_load_any c.tc 𝒱 none Set.univ (fun x => Finset.mem_univ _)) $$ H11
  iintro %v H11
  iapply (tab_spec 𝒱 c arg11 (DB (F := F) L) _ _ _ _ _ _ _ (off4_eq hS hn j) (fun y hy => (DB_at L hk hj y hy).trans hd.symm)) $$ H11
  iintro H11
  iapply (wp_load_any c.tc 𝒱 none Set.univ (fun x => Finset.mem_univ _)) $$ H12
  iintro %v' H12
  iapply (tab_spec 𝒱 c arg12 (CB (F := F) L) _ _ _ _ _ _ _ (off4_eq hS hn j) (fun y hy => (CB_at L hk hj y hy).trans hc.symm)) $$ H12
  iintro H12
  iapply (wp_done 𝒱 c (α := Unit) (defs := defs) (a := ()) (Q := Q))
  iapply Hk
  isplitl [H8]; · iexact H8
  isplitl [H2]; · iexact H2
  isplitl [HB]; · iexact HB
  isplitl [H11]; · iexact H11
  iexact H12

/-- The first part of a document's trip. -/
theorem part1_spec (hL : ∀ d, L d ≤ 896) (i : grid0.Coords) (arg1 : Memref sig .tc .smem S24 .i32) (harg1 : arg1.IsWhole) (arg2 : Memref sig .tc .hbm S21504x1024 .fp8e4m3) (harg2 : arg2.IsWhole) (arg3 : Memref sig .tc .vmem S24x7x128 .f32) (harg3 : arg3.IsWhole) (arg4 : Memref sig .tc .vmem S512x1024 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S24x512 .f32) (harg7 : arg7.IsWhole) (arg8 : Memref sig .tc .vmem S22016x1024 .fp8e4m3) (harg8 : arg8.IsWhole) (arg9 : Memref sig .tc .vmem S22016x128 .f32) (harg9 : arg9.IsWhole) (arg10 : Memref sig .tc .vmem S24x8x512 .f32) (harg10 : arg10.IsWhole) (arg11 : Memref sig .tc .smem S688 .i32) (harg11 : arg11.IsWhole) (arg12 : Memref sig .tc .smem S688 .i32) (harg12 : arg12.IsWhole) (arg13 : Memref sig .tc .smem S1 .i32) (harg13 : arg13.IsWhole) (arg14 : DmaSems sig S_) (h1 : k0_cond1 i = 1#1) (t1 : Fin k0_t1_loop.trips)
    (q : PosShare TreeShare) (T : S24.Idx → BitVec 32) (hT : ∀ x : S24.Idx, T x = BitVec.ofNat 32 (L (x 0).val))
    (hw1 : k0_chk1 i t1 (BitVec.ofNat 32 (start L t1.val)) (BitVec.ofNat 32 (L t1.val) : BitVec 32)) {Q : _ → sProp (MT nD τ sig Ix (Elt F) Name U Lvl)} :
    (iprop(ownOn (Val := Elt F) (e := .i32) c.tc arg1 Finset.univ q T ∗ packed c EC ι L z arg2 arg8 arg11 arg12 arg14 (start L t1.val)
        ∗ ownOn c.tc arg3 Finset.univ fullShare zs ∗ agree c.tc arg9 Finset.univ (fun y => (y 0).val / 32 < start L t1.val) (SB L zs)) : sProp (MT nD τ sig Ix (Elt F) Name U Lvl))
      ⊢ iprop((ownOn (Val := Elt F) (e := .i32) c.tc arg1 Finset.univ q T ∗ packed c EC ι L z arg2 arg8 arg11 arg12 arg14 (start L t1.val + ng L t1.val)
          ∗ ownOn c.tc arg3 Finset.univ fullShare zs ∗ agree c.tc arg9 Finset.univ (fun y => (y 0).val / 32 < start L t1.val + min (4 * 6) (ng L t1.val)) (SB L zs)
          -∗ Q ⟨Scf.iv 0#32 1#32 t1, (BitVec.ofNat 32 (L t1.val) : BitVec 32), hw1, Scalar.divsi (Scalar.addi (BitVec.ofNat 32 (L t1.val)) 31#32) 32#32,
              Scalar.extui (Scalar.cmpi .sgt (BitVec.ofNat 32 (L t1.val)) 768#32), 0#32⟩)
        -∗ wp frame (wpE defs 𝒱 c.tc none) Set.univ (k0_part1 (F := F) i arg1 harg1 arg2 harg2 arg3 harg3 arg4 harg4 arg5 harg5 arg6 harg6 arg7 harg7 arg8 harg8 arg9 harg9 arg10 harg10 arg11 harg11 arg12 harg12 arg13 harg13 arg14 h1 0#32 1#32 t1 (BitVec.ofNat 32 (start L t1.val))) Q) := by
  have hk : t1.val < 24 := lt_of_lt_of_eq t1.isLt t1_trips
  have hn := hL t1.val
  have hS : start L t1.val ≤ 672 := (start_le_total L (by omega)).trans (total_le hL)
  have hSn : start L t1.val + (L t1.val + 31) / 32 ≤ 672 := by
    have := start_le_total L (show t1.val + 1 ≤ 24 by omega)
    rw [start_succ] at this
    exact this.trans (total_le hL)
  have hchk : k0_chk1 i t1 (BitVec.ofNat 32 (start L t1.val)) (BitVec.ofNat 32 (L t1.val) : BitVec 32) := chk1 i t1 hn hSn
  have hng : ng L t1.val = (L t1.val + 31) / 32 := rfl
  rw [part1_eq]
  iintro ⟨H1, HP, H3, H9⟩ Hk
  iapply (wp_load_on_eq (e := .i32) c.tc 𝒱 none Set.univ (fun _ => (BitVec.ofNat 32 (L t1.val) : BitVec 32)) (fun x => Finset.mem_univ _) (fun x => by
    rw [hT]
    have hx : (x 0).val < 1 := (x 0).isLt
    congr 2
    rw [Rect.emb_apply]
    have e : k0_off1 t1 0 = t1.val := congrFun (off1_eq t1) 0
    show k0_off1 t1 0 + 1 * (x 0).val = t1.val
    omega)) $$ H1
  iintro H1
  iapply (wp_assume 𝒱 c.tc none Set.univ hchk)
  iapply (Scf.wp_for_bind frame (wpE defs 𝒱 c.tc none) Set.univ _ _ _ _ _ _ (fun k (_ : Unit) =>
    iprop(packed c EC ι L z arg2 arg8 arg11 arg12 arg14 (start L t1.val + k)))
    (fun k acc => by
      iintro H
      iapply (t2_spec 𝒱 c EC ι L z hL i arg1 harg1 arg2 harg2 arg3 harg3 arg4 harg4 arg5 harg5 arg6 harg6 arg7 harg7 arg8 harg8 arg9 harg9 arg10 harg10 arg11 harg11 arg12 harg12 arg13 harg13 arg14 h1 t1 hchk k) $$ H
      iintro H
      iexact H)) $$ [HP]
  · iexact HP
  iintro %acc HP
  rw [show Scf.trips _ _ _ = ng L t1.val from t2_trips hn]
  iapply (wp_rem 𝒱 c 0#32 _)
  ihave H9 := (agree_weaken c.tc arg9 (P' := fun y => (y 0).val / 32 < start L t1.val + min (4 * 0) (ng L t1.val)) (fun y _ hy => by
      have hy' : (y 0).val / 32 < start L t1.val + min (4 * 0) (ng L t1.val) := hy
      show (y 0).val / 32 < start L t1.val
      omega)) $$ H9
  iapply (chunk_spec 𝒱 c L zs arg3 arg9 _ _ _ _ _ _ _ _ _ _ _ _ _ _ _ _ 0 hk (by decide) (off8_eq t1) (cond2_iff hn)
    (cond3_iff hn) (cond4_iff hn) (cond5_iff hn) (cond6_iff hn)
    (off9_eq hS) (off10_eq hS) (off11_eq hS) (off12_eq hS)) $$ [H3 H9]
  · isplitl [H3]; · iexact H3
    iexact H9
  iintro ⟨H3, H9⟩
  iapply (chunk_spec 𝒱 c L zs arg3 arg9 _ _ _ _ _ _ _ _ _ _ _ _ _ _ _ _ 1 hk (by decide) (off13_eq t1) (cond7_iff hn)
    (cond8_iff hn) (cond9_iff hn) (cond10_iff hn) (cond11_iff hn)
    (off14_eq hS) (off15_eq hS) (off16_eq hS) (off17_eq hS)) $$ [H3 H9]
  · isplitl [H3]; · iexact H3
    iexact H9
  iintro ⟨H3, H9⟩
  iapply (chunk_spec 𝒱 c L zs arg3 arg9 _ _ _ _ _ _ _ _ _ _ _ _ _ _ _ _ 2 hk (by decide) (off18_eq t1) (cond12_iff hn)
    (cond13_iff hn) (cond14_iff hn) (cond15_iff hn) (cond16_iff hn)
    (off19_eq hS) (off20_eq hS) (off21_eq hS) (off22_eq hS)) $$ [H3 H9]
  · isplitl [H3]; · iexact H3
    iexact H9
  iintro ⟨H3, H9⟩
  iapply (chunk_spec 𝒱 c L zs arg3 arg9 _ _ _ _ _ _ _ _ _ _ _ _ _ _ _ _ 3 hk (by decide) (off23_eq t1) (cond17_iff hn)
    (cond18_iff hn) (cond19_iff hn) (cond20_iff hn) (cond21_iff hn)
    (off24_eq hS) (off25_eq hS) (off26_eq hS) (off27_eq hS)) $$ [H3 H9]
  · isplitl [H3]; · iexact H3
    iexact H9
  iintro ⟨H3, H9⟩
  iapply (chunk_spec 𝒱 c L zs arg3 arg9 _ _ _ _ _ _ _ _ _ _ _ _ _ _ _ _ 4 hk (by decide) (off28_eq t1) (cond22_iff hn)
    (cond23_iff hn) (cond24_iff hn) (cond25_iff hn) (cond26_iff hn)
    (off29_eq hS) (off30_eq hS) (off31_eq hS) (off32_eq hS)) $$ [H3 H9]
  · isplitl [H3]; · iexact H3
    iexact H9
  iintro ⟨H3, H9⟩
  iapply (chunk_spec 𝒱 c L zs arg3 arg9 _ _ _ _ _ _ _ _ _ _ _ _ _ _ _ _ 5 hk (by decide) (off33_eq t1) (cond27_iff hn)
    (cond28_iff hn) (cond29_iff hn) (cond30_iff hn) (cond31_iff hn)
    (off34_eq hS) (off35_eq hS) (off36_eq hS) (off37_eq hS)) $$ [H3 H9]
  · isplitl [H3]; · iexact H3
    iexact H9
  iintro ⟨H3, H9⟩

  iapply (wp_done 𝒱 c _)
  iapply Hk
  isplitl [H1]; · iexact H1
  isplitl [HP]; · iexact HP
  isplitl [H3]; · iexact H3
  iexact H9

/-- One document. -/
theorem t1_spec (hL : ∀ d, L d ≤ 896) (i : grid0.Coords) (arg1 : Memref sig .tc .smem S24 .i32) (harg1 : arg1.IsWhole) (arg2 : Memref sig .tc .hbm S21504x1024 .fp8e4m3) (harg2 : arg2.IsWhole) (arg3 : Memref sig .tc .vmem S24x7x128 .f32) (harg3 : arg3.IsWhole) (arg4 : Memref sig .tc .vmem S512x1024 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S24x512 .f32) (harg7 : arg7.IsWhole) (arg8 : Memref sig .tc .vmem S22016x1024 .fp8e4m3) (harg8 : arg8.IsWhole) (arg9 : Memref sig .tc .vmem S22016x128 .f32) (harg9 : arg9.IsWhole) (arg10 : Memref sig .tc .vmem S24x8x512 .f32) (harg10 : arg10.IsWhole) (arg11 : Memref sig .tc .smem S688 .i32) (harg11 : arg11.IsWhole) (arg12 : Memref sig .tc .smem S688 .i32) (harg12 : arg12.IsWhole) (arg13 : Memref sig .tc .smem S1 .i32) (harg13 : arg13.IsWhole) (arg14 : DmaSems sig S_) (h1 : k0_cond1 i = 1#1) (t1 : Fin k0_t1_loop.trips)
    (q : PosShare TreeShare) (T : S24.Idx → BitVec 32) (hT : ∀ x : S24.Idx, T x = BitVec.ofNat 32 (L (x 0).val))
    {Q : BitVec 32 → sProp (MT nD τ sig Ix (Elt F) Name U Lvl)} :
    (iprop(ownOn (Val := Elt F) (e := .i32) c.tc arg1 Finset.univ q T ∗ packed c EC ι L z arg2 arg8 arg11 arg12 arg14 (start L t1.val)
        ∗ ownOn c.tc arg3 Finset.univ fullShare zs ∗ agree c.tc arg9 Finset.univ (fun y => (y 0).val / 32 < start L t1.val) (SB L zs)) : sProp (MT nD τ sig Ix (Elt F) Name U Lvl))
      ⊢ iprop((ownOn (Val := Elt F) (e := .i32) c.tc arg1 Finset.univ q T ∗ packed c EC ι L z arg2 arg8 arg11 arg12 arg14 (start L (t1.val + 1))
          ∗ ownOn c.tc arg3 Finset.univ fullShare zs ∗ agree c.tc arg9 Finset.univ (fun y => (y 0).val / 32 < start L (t1.val + 1)) (SB L zs)
          -∗ Q (BitVec.ofNat 32 (start L (t1.val + 1))))
        -∗ wp frame (wpE defs 𝒱 c.tc none) Set.univ (k0_t1_body (F := F) i arg1 harg1 arg2 harg2 arg3 harg3 arg4 harg4 arg5 harg5 arg6 harg6 arg7 harg7 arg8 harg8 arg9 harg9 arg10 harg10 arg11 harg11 arg12 harg12 arg13 harg13 arg14 h1 t1 (BitVec.ofNat 32 (start L t1.val))) Q) := by
  have hk : t1.val < 24 := lt_of_lt_of_eq t1.isLt t1_trips
  have hn := hL t1.val
  have hS : start L t1.val ≤ 672 := (start_le_total L (by omega)).trans (total_le hL)
  have hSn : start L t1.val + (L t1.val + 31) / 32 ≤ 672 := by
    have := start_le_total L (show t1.val + 1 ≤ 24 by omega)
    rw [start_succ] at this
    exact this.trans (total_le hL)
  have hchk : k0_chk1 i t1 (BitVec.ofNat 32 (start L t1.val)) (BitVec.ofNat 32 (L t1.val) : BitVec 32) := chk1 i t1 hn hSn
  have hng : ng L t1.val = (L t1.val + 31) / 32 := rfl
  rw [t1_eq, wp_bind]
  iintro H Hk
  iapply (part1_spec 𝒱 c EC ι L z zs hL i arg1 harg1 arg2 harg2 arg3 harg3 arg4 harg4 arg5 harg5 arg6 harg6 arg7 harg7 arg8 harg8 arg9 harg9 arg10 harg10 arg11 harg11 arg12 harg12 arg13 harg13 arg14 h1 t1 q T hT hchk) $$ H
  iintro ⟨H1, HP, H3, H9⟩
  iapply (chunk_spec 𝒱 c L zs arg3 arg9 _ _ _ _ _ _ _ _ _ _ _ _ _ _ _ _ 6 hk (by decide) (off38_eq t1) (cond32_iff hn)
    (cond33_iff hn) (cond34_iff hn) (cond35_iff hn) (cond36_iff hn)
    (off39_eq hS) (off40_eq hS) (off41_eq hS) (off42_eq hS)) $$ [H3 H9]
  · isplitl [H3]; · iexact H3
    iexact H9
  iintro ⟨H3, H9⟩

  iapply (wp_done 𝒱 c _)
  have he : Scalar.addi (BitVec.ofNat 32 (start L t1.val)) (Scalar.divsi (Scalar.addi (BitVec.ofNat 32 (L t1.val)) 31#32) 32#32) = BitVec.ofNat 32 (start L (t1.val + 1)) := by
    rw [w_add, w_div (by omega) (by omega) (by omega), w_add, start_succ]; rfl
  rw [he, start_succ]
  iapply Hk
  isplitl [H1]; · iexact H1
  isplitl [HP]; · iexact HP
  isplitl [H3]; · iexact H3
  iapply (agree_weaken c.tc arg9 (fun y _ hy => by
      have hy' : (y 0).val / 32 < start L t1.val + ng L t1.val := hy
      show (y 0).val / 32 < start L t1.val + min (4 * (6 + 1)) (ng L t1.val)
      omega)) $$ H9

end Cert.Proof.KernelIdeal
-- ==== Proof.Body7.lean ====
module

public import proofs.«01_k».proof.Proof.Body6
public import proofs.«01_k».proof.Proof.Body3
public import Idealize.ShloMosaic.Lib.Ring

@[expose] public section

set_option maxRecDepth 16384

noncomputable section

namespace Cert.Proof.KernelIdeal

open Cert.KernelIdeal Cert.KernelIdeal.Gen Cert.Proof
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

open Idealize.ShloMosaic.Transfers

variable {Ix : Type} [DecidableEq Ix] {Name : Type} [DecidableEq Name] [Infinite Name] {U : Type} [URA U] {Lvl : Type} [Preorder Lvl]
variable {defs : Defs nD τ sig (Elt F) Λ₀} (𝒱 : Variants) (c : Dev nD)
variable (EC : UEmb Counters (MT nD τ sig Ix (Elt F) Name U Lvl)) [EC.LandsIn (upEmb : UEmb _ (MT nD τ sig Ix (Elt F) Name U Lvl))] (ι : Ix)

variable (L : ℕ → ℕ) (z : Vec F S21504x1024 .fp8e4m3) (zs : Vec F S24x7x128 .f32)

/-- Before any group is copied, the whole packed buffer is left. -/
theorem tailT_zero : tailT 0 = Finset.univ := by
  ext y; simp only [tailT, Finset.mem_filter, Finset.mem_univ, _root_.true_and, Nat.zero_le]

/-- Before any group is copied, the whole source is left. -/
theorem srcTail_zero : srcTail L 0 = Finset.univ := by
  ext y
  unfold srcTail
  rw [Finset.mem_filter]
  exact ⟨fun h => h.1, fun h => ⟨h, fun i hi => absurd hi (Nat.not_lt_zero _)⟩⟩

/-- All the transfers' deliveries, joined with what was left, are the whole of both buffers. -/
theorem join_blocks (hL : ∀ d, L d ≤ 896) (arg2 : Memref sig .tc .hbm S21504x1024 .fp8e4m3) (arg8 : Memref sig .tc .vmem S22016x1024 .fp8e4m3)
    (P : S22016x1024.Idx → Prop) (t : ℕ) (ht : t ≤ total L) :
    (iprop(bigSep (Finset.range t) (fun i => iprop(ownOn c.tc arg8 (blkT i) fullShare (ZB L z) ∗ ownOn c.tc arg2 (srcBlk L i) fullShare z))
        ∗ agree c.tc arg8 (tailT t) P (ZB L z) ∗ ownOn c.tc arg2 (srcTail L t) fullShare z) : sProp (MT nD τ sig Ix (Elt F) Name U Lvl))
      ⊢ iprop(agree c.tc arg8 Finset.univ P (ZB L z) ∗ ownOn c.tc arg2 Finset.univ fullShare z) := by
  induction t with
  | zero =>
    rw [tailT_zero, srcTail_zero]
    iintro ⟨-, H⟩
    iexact H
  | succ t ih =>
    have e : bigSep (Finset.range (t + 1)) (fun i => iprop(ownOn c.tc arg8 (blkT i) fullShare (ZB L z) ∗ ownOn c.tc arg2 (srcBlk L i) fullShare z) : ℕ → sProp (MT nD τ sig Ix (Elt F) Name U Lvl))
        = iprop((ownOn c.tc arg8 (blkT t) fullShare (ZB L z) ∗ ownOn c.tc arg2 (srcBlk L t) fullShare z)
          ∗ bigSep (Finset.range t) (fun i => iprop(ownOn c.tc arg8 (blkT i) fullShare (ZB L z) ∗ ownOn c.tc arg2 (srcBlk L i) fullShare z))) := by
      rw [Finset.range_add_one, bigSep_insert Finset.notMem_range_self]; rfl
    rw [e]
    iintro ⟨⟨⟨Hb, Hs⟩, HB⟩, H8, H2⟩
    iapply (ih (by omega))
    isplitl [HB]; · iexact HB
    isplitl [Hb H8]
    · iapply (agree_join c.tc arg8 (T₁ := blkT t) (T₂ := tailT (t + 1)) (Finset.disjoint_left.mpr fun y h1 h2 => by
        simp only [blkT, tailT, Finset.mem_filter, Finset.mem_univ, true_and] at h1 h2; omega)
        (fun y => by simp only [blkT, tailT, Finset.mem_filter, Finset.mem_univ, true_and]; omega))
      isplitl [Hb]
      · iapply (agree_of_ownOn c.tc arg8 (fun y _ _ => rfl)) $$ Hb
      · iexact H8
    · iapply (ownOn_join c.tc arg2 fullShare (T₁ := srcBlk L t) (T₂ := srcTail L (t + 1)) (Finset.disjoint_left.mpr fun y h1 h2 => by
        simp only [srcBlk, srcTail, Finset.mem_filter, Finset.mem_univ, true_and] at h1 h2
        exact h2 t (by omega) h1)
        (fun y => by
          simp only [srcBlk, srcTail, Finset.mem_filter, Finset.mem_univ, true_and]
          constructor
          · intro hh
            by_cases he : (y 0).val / 32 = src L t
            · exact .inl he
            · refine .inr fun i hi => ?_
              rcases Nat.lt_succ_iff_lt_or_eq.mp hi with h3 | rfl
              · exact hh i h3
              · exact he
          · rintro (h1 | h1) i hi he
            · have := src_inj hL (show i < total L by omega) (show t < total L by omega) (he.symm.trans h1)
              omega
            · exact h1 i (by omega) he))
      isplitl [Hs]; · iexact Hs
      iexact H2

/-- What the preparation's padding loop keeps after `k` trips: every group before `total + k` is known. -/
def padded (arg8 : Memref sig .tc .vmem S22016x1024 .fp8e4m3) (arg9 : Memref sig .tc .vmem S22016x128 .f32)
    (arg11 arg12 : Memref sig .tc .smem S688 .i32) (n : ℕ) : sProp (MT nD τ sig Ix (Elt F) Name U Lvl) :=
  iprop(agree c.tc arg8 (tailT (total L)) (fun y => (y 0).val / 32 < n) (ZB L z) ∗ known c L zs arg9 arg11 arg12 n)

/-- Past the last group the packed codes are the padding value. -/
theorem ZB_pad (n : ℕ) (hn : total L ≤ n) (o : Fin 2 → ℕ) (h : ∀ a, o a + S32x1024.size a ≤ S22016x1024.size a) (ho : o = ![n * 32, 0]) (x : S32x1024.Idx) :
    ZB L z ((Rect.unit (s := S22016x1024) o S32x1024.size h).emb x) = k0_pay98 (F := F) x := by
  obtain ⟨e0, -⟩ := emb_z0 o h _ ho x
  have hx : (x 0).val < 32 := (x 0).isLt
  have hd : ((Rect.unit (s := S22016x1024) o S32x1024.size h).emb x 0).val / 32 = n := by rw [e0]; omega
  unfold ZB
  exact if_neg (fun h' => absurd (lt_of_eq_of_lt hd.symm h') (not_lt.mpr hn))

/-- Past the last group the packed scales are the padding value. -/
theorem SB_pad (n : ℕ) (hn : total L ≤ n) (o : Fin 2 → ℕ) (h : ∀ a, o a + S32x128.size a ≤ S22016x128.size a) (ho : o = ![n * 32, 0]) (x : S32x128.Idx) :
    SB L zs ((Rect.unit (s := S22016x128) o S32x128.size h).emb x) = k0_pay99 (F := F) x := by
  have e0 : ((Rect.unit (s := S22016x128) o S32x128.size h).emb x 0).val = n * 32 + (x 0).val := by
    subst ho
    rw [Rect.emb_apply]
    show n * 32 + 1 * (x 0).val = _
    omega
  have hx : (x 0).val < 32 := (x 0).isLt
  have hd : ((Rect.unit (s := S22016x128) o S32x128.size h).emb x 0).val / 32 = n := by rw [e0]; omega
  unfold SB
  exact if_neg (fun h' => absurd (lt_of_eq_of_lt hd.symm h') (not_lt.mpr hn))

/-- Past the last group the document table holds 0. -/
theorem DB_pad (n : ℕ) (hn : total L ≤ n) (y : S688.Idx) (hy : (y 0).val = n) : DB (F := F) L y = (0#32 : BitVec 32) := by
  have e : docN L n = 0 := if_neg (not_lt.mpr hn)
  show (BitVec.ofNat 32 (docN L (y 0).val) : BitVec 32) = _
  rw [hy, e]

/-- Past the last group the count table holds 0. -/
theorem CB_pad (n : ℕ) (hn : total L ≤ n) (y : S688.Idx) (hy : (y 0).val = n) : CB (F := F) L y = (0#32 : BitVec 32) := by
  have e : cntN L n = 0 := if_neg (not_lt.mpr hn)
  show (BitVec.ofNat 32 (cntN L (y 0).val) : BitVec 32) = _
  rw [hy, e]

/-- One padding group. -/
theorem t4_spec (hL : ∀ d, L d ≤ 896) (i : grid0.Coords) (arg1 : Memref sig .tc .smem S24 .i32) (harg1 : arg1.IsWhole) (arg2 : Memref sig .tc .hbm S21504x1024 .fp8e4m3) (harg2 : arg2.IsWhole) (arg3 : Memref sig .tc .vmem S24x7x128 .f32) (harg3 : arg3.IsWhole) (arg4 : Memref sig .tc .vmem S512x1024 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S24x512 .f32) (harg7 : arg7.IsWhole) (arg8 : Memref sig .tc .vmem S22016x1024 .fp8e4m3) (harg8 : arg8.IsWhole) (arg9 : Memref sig .tc .vmem S22016x128 .f32) (harg9 : arg9.IsWhole) (arg10 : Memref sig .tc .vmem S24x8x512 .f32) (harg10 : arg10.IsWhole) (arg11 : Memref sig .tc .smem S688 .i32) (harg11 : arg11.IsWhole) (arg12 : Memref sig .tc .smem S688 .i32) (harg12 : arg12.IsWhole) (arg13 : Memref sig .tc .smem S1 .i32) (harg13 : arg13.IsWhole) (arg14 : DmaSems sig S_) (h1 : k0_cond1 i = 1#1)
    (hw2 : k0_chk2 i (BitVec.ofNat 32 (total L))) (k : Fin (k0_t4_loop (BitVec.ofNat 32 (total L))).trips) {Q : Unit → sProp (MT nD τ sig Ix (Elt F) Name U Lvl)} :
    (padded c L z zs arg8 arg9 arg11 arg12 (total L + k.val) : sProp (MT nD τ sig Ix (Elt F) Name U Lvl))
      ⊢ iprop((padded c L z zs arg8 arg9 arg11 arg12 (total L + (k.val + 1)) -∗ Q ())
        -∗ wp frame (wpE defs 𝒱 c.tc none) Set.univ (k0_t4_body (F := F) i arg1 harg1 arg2 harg2 arg3 harg3 arg4 harg4 arg5 harg5 arg6 harg6 arg7 harg7 arg8 harg8 arg9 harg9 arg10 harg10 arg11 harg11 arg12 harg12 arg13 harg13 arg14 h1 (BitVec.ofNat 32 (total L)) hw2 k ()) Q) := by
  have hn := total_le hL
  have hge : total L ≤ total L + k.val := Nat.le_add_right _ _
  have ho8 := off44_eq hn k
  have ho9 := off45_eq hn k
  have hin8 : ∀ x, ZB L z ((Rect.unit (s := S22016x1024) (k0_off44 (BitVec.ofNat 32 (total L)) k) S32x1024.size (k0_off44_inb i (BitVec.ofNat 32 (total L)) hw2 k h1)).emb x) = k0_pay98 (F := F) x :=
    fun x => ZB_pad L z _ hge _ _ ho8 x
  have hin9 : ∀ x, SB L zs ((Rect.unit (s := S22016x128) (k0_off45 (BitVec.ofNat 32 (total L)) k) S32x128.size (k0_off45_inb i (BitVec.ofNat 32 (total L)) hw2 k h1)).emb x) = k0_pay99 (F := F) x :=
    fun x => SB_pad L zs _ hge _ _ ho9 x
  have hS8 : ∀ x, ((Rect.unit (s := S22016x1024) (k0_off44 (BitVec.ofNat 32 (total L)) k) S32x1024.size (k0_off44_inb i (BitVec.ofNat 32 (total L)) hw2 k h1)).emb x) ∈ tailT (total L) := by
    intro x
    obtain ⟨e0, -⟩ := emb_z0 _ (k0_off44_inb i (BitVec.ofNat 32 (total L)) hw2 k h1) _ ho8 x
    unfold tailT
    rw [Finset.mem_filter]
    exact ⟨Finset.mem_univ _, by rw [e0]; omega⟩
  have hm8 : ∀ y ∈ tailT (total L), (y 0).val / 32 < total L + (k.val + 1) →
      (y 0).val / 32 < total L + k.val ∨ y ∈ (Rect.unit (s := S22016x1024) (k0_off44 (BitVec.ofNat 32 (total L)) k) S32x1024.size (k0_off44_inb i (BitVec.ofNat 32 (total L)) hw2 k h1)).set := by
    intro y _ hy
    by_cases h' : (y 0).val / 32 < total L + k.val
    · exact .inl h'
    · right
      rw [← set_z0 _ _ _ ho8]
      unfold blkT
      rw [Finset.mem_filter]
      exact ⟨Finset.mem_univ _, by omega⟩
  have hm9 : ∀ y ∈ (Finset.univ : Finset S22016x128.Idx), (y 0).val / 32 < total L + (k.val + 1) →
      (y 0).val / 32 < total L + k.val ∨ y ∈ (Rect.unit (s := S22016x128) (k0_off45 (BitVec.ofNat 32 (total L)) k) S32x128.size (k0_off45_inb i (BitVec.ofNat 32 (total L)) hw2 k h1)).set := by
    intro y _ hy
    by_cases h' : (y 0).val / 32 < total L + k.val
    · exact .inl h'
    · exact .inr (mem_s _ _ _ ho9 y (by omega))
  unfold padded known k0_t4_body
  iintro ⟨H8, H9, H11, H12⟩ Hk
  iapply (wp_load_any c.tc 𝒱 none Set.univ (fun x => Finset.mem_univ _)) $$ H11
  iintro %v H11
  iapply (tab_spec 𝒱 c arg11 (DB (F := F) L) _ _ _ _ _ _ _ (off43_eq hn k) (fun y hy => DB_pad L _ hge y hy)) $$ H11
  iintro H11
  iapply (wp_load_any c.tc 𝒱 none Set.univ (fun x => Finset.mem_univ _)) $$ H12
  iintro %v' H12
  iapply (tab_spec 𝒱 c arg12 (CB (F := F) L) _ _ _ _ _ _ _ (off43_eq hn k) (fun y hy => CB_pad L _ hge y hy)) $$ H12
  iintro H12
  iapply (wp_load_any c.tc 𝒱 none Set.univ hS8) $$ H8
  iintro %v8 H8
  iapply (wp_store_agree c.tc 𝒱 none Set.univ (P := fun y : S22016x1024.Idx => (y 0).val / 32 < total L + k.val) (B := ZB L z)
    (fun y : S22016x1024.Idx => (y 0).val / 32 < total L + (k.val + 1)) hS8 hin8 hm8) $$ H8
  iintro H8
  iapply (wp_load_any c.tc 𝒱 none Set.univ (fun x => Finset.mem_univ _)) $$ H9
  iintro %v9 H9
  iapply (wp_store_agree c.tc 𝒱 none Set.univ (P := fun y : S22016x128.Idx => (y 0).val / 32 < total L + k.val) (B := SB L zs)
    (fun y : S22016x128.Idx => (y 0).val / 32 < total L + (k.val + 1)) (fun x => Finset.mem_univ _) hin9 hm9) $$ H9
  iintro H9
  iapply (wp_done 𝒱 c (α := Unit) (defs := defs) (a := ()) (Q := Q))
  iapply Hk
  isplitl [H8]; · iexact H8
  isplitl [H9]; · iexact H9
  isplitl [H11]; · iexact H11
  iexact H12

/-- No entry past the last group belongs to a group. -/
theorem pad_start (y : S22016x1024.Idx) (hy : y ∈ tailT (total L)) (h : (y 0).val / 32 < total L + 0) : False := by
  unfold tailT at hy
  rw [Finset.mem_filter] at hy
  exact absurd hy.2 (by omega)

/-- Equal assertions entail one another. -/
theorem entails_of_eq {A B : sProp (MT nD τ sig Ix (Elt F) Name U Lvl)} (h : A = B) : A ⊢ B := h ▸ .rfl

/-- What the copy of group `t` delivers. -/
theorem deliv_at (arg2 : Memref sig .tc .hbm S21504x1024 .fp8e4m3) (arg8 : Memref sig .tc .vmem S22016x1024 .fp8e4m3) (t : Fin (total L)) :
    (iprop(ownOn c.tc arg8 (blkT t.val) fullShare (ZB L z) ∗ ownOn c.tc arg2 (srcBlk L t.val) fullShare z) : sProp (MT nD τ sig Ix (Elt F) Name U Lvl)) = deliv c L z arg2 arg8 t := by
  unfold deliv
  rfl

/-- Deliveries indexed by bounded numbers, as deliveries over a range. -/
theorem deliv_range' (n : ℕ) (D : Fin n → sProp (MT nD τ sig Ix (Elt F) Name U Lvl)) (Ψ : ℕ → sProp (MT nD τ sig Ix (Elt F) Name U Lvl)) (h : ∀ t : Fin n, Ψ t.val = D t) :
    (bigSep Finset.univ D : sProp (MT nD τ sig Ix (Elt F) Name U Lvl)) ⊢ bigSep (Finset.range n) Ψ :=
  entails_of_eq (Ring.bigSep_fin_eq_range n D Ψ (fun t ht => h ⟨t, ht⟩))

/-- A copy of one group has positive size. -/
theorem credN_pos (arg8 : Memref sig .tc .vmem S22016x1024 .fp8e4m3) : 0 < credN arg8 := by
  unfold credN
  exact View.dmaCredit_pos _ (show 0 < Shape.numel S32x1024 by decide)

/-- Once all copies of a batch are waited for, all their deliveries are owned and the semaphore is back at 0. -/
theorem collect_aux (n : ℕ) (D : Fin n → sProp (MT nD τ sig Ix (Elt F) Name U Lvl)) [∀ t, BI.Storable (upEmb : UEmb _ (MT nD τ sig Ix (Elt F) Name U Lvl)) (D t)] (Ψ : ℕ → sProp (MT nD τ sig Ix (Elt F) Name U Lvl)) (N : ℕ) {sm : SemLoc sig} (h : ∀ t : Fin n, Ψ t.val = D t) (hp : 0 < N) :
    (Batch EC c.tc sm ι N D n (N * n) : sProp (MT nD τ sig Ix (Elt F) Name U Lvl)) ⊢ |={Set.univ}=> iprop(bigSep (Finset.range n) Ψ ∗ semVal (c.tc, sm) 0) := by
  iintro HB
  imod (batch_collect' EC c.tc hp) $$ HB with ⟨HD, HV⟩
  imodintro
  isplitl [HD]
  · iapply (deliv_range' n D _ h) $$ HD
  iexact HV

/-- Once every transfer is waited for, all the deliveries are there, and the counter is at zero. -/
theorem collect_blocks (arg2 : Memref sig .tc .hbm S21504x1024 .fp8e4m3) (arg8 : Memref sig .tc .vmem S22016x1024 .fp8e4m3) (arg14 : DmaSems sig S_) :
    (Batch EC c.tc (.dma arg14.sem) ι (credN arg8) (deliv c L z arg2 arg8) (total L) (credN arg8 * total L) : sProp (MT nD τ sig Ix (Elt F) Name U Lvl))
      ⊢ |={Set.univ}=> iprop(bigSep (Finset.range (total L)) (fun i => iprop(ownOn c.tc arg8 (blkT i) fullShare (ZB L z) ∗ ownOn c.tc arg2 (srcBlk L i) fullShare z))
          ∗ semVal (c.tc, .dma arg14.sem) 0) := by
  exact collect_aux c EC ι (total L) _ _ _ (deliv_at c L z arg2 arg8) (credN_pos arg8)

/-- A store of the one-element counter. -/
theorem cnt_store {α : Type} (arg13 : Memref sig .tc .smem S1 .i32) (w w' : BitVec 32) (hw : w' = w) {X : S1.Idx → Elt F .i32} {h} {hx} {hm}
    {K : PUnit → Prog (TpuEff nD τ sig (Elt F) Λ₀ .tc) α} {Q : α → sProp (MT nD τ sig Ix (Elt F) Name U Lvl)} :
    (ownOn (Val := Elt F) (e := .i32) c.tc arg13 Finset.univ fullShare X : sProp (MT nD τ sig Ix (Elt F) Name U Lvl))
      ⊢ iprop((ownOn (Val := Elt F) (e := .i32) c.tc arg13 Finset.univ fullShare (fun _ => w') -∗ wp frame (wpE defs 𝒱 c.tc none) Set.univ (K ⟨⟩) Q)
        -∗ wp frame (wpE defs 𝒱 c.tc none) Set.univ (.op (.store arg13 (Rect.unit (s := S1) ![0] S1.size h) (fun _ => w) Finset.univ hx hm) K) Q) := by
  subst hw
  have hm : ∀ y : S1.Idx, y ∈ (Rect.unit (s := S1) ![0] S1.size h).set := by
    intro y
    rw [Rect.mem_set_unit]
    intro a
    have : a = 0 := Subsingleton.elim _ _
    subst this
    have h0 : (y 0).val < 1 := (y 0).isLt
    exact ⟨Nat.zero_le _, (show (y 0).val < 0 + 1 by omega)⟩
  exact wp_store_on (Val := Elt F) (e := .i32) c.tc 𝒱 none Set.univ (fun _ => w') (fun x => Finset.mem_univ _) (fun x => rfl) (fun y _ hy => absurd (hm y) hy)

/-- What is known of the packed buffers, taken apart. -/
theorem known_elim (arg9 : Memref sig .tc .vmem S22016x128 .f32) (arg11 arg12 : Memref sig .tc .smem S688 .i32) (n : ℕ) :
    (known c L zs arg9 arg11 arg12 n : sProp (MT nD τ sig Ix (Elt F) Name U Lvl)) ⊢ iprop(agree c.tc arg9 Finset.univ (fun y => (y 0).val / 32 < n) (SB L zs)
      ∗ agree c.tc arg11 Finset.univ (fun y => (y 0).val < n) (DB (F := F) L)
      ∗ agree c.tc arg12 Finset.univ (fun y => (y 0).val < n) (CB (F := F) L)) := by
  unfold known
  exact .rfl

/-- What the points share before the first one: the source, the scratch buffers holding anything, the counter at zero. -/
def scr0 (arg2 : Memref sig .tc .hbm S21504x1024 .fp8e4m3) (arg8 : Memref sig .tc .vmem S22016x1024 .fp8e4m3) (arg9 : Memref sig .tc .vmem S22016x128 .f32)
    (arg11 arg12 : Memref sig .tc .smem S688 .i32) (arg13 : Memref sig .tc .smem S1 .i32) (arg14 : DmaSems sig S_) : sProp (MT nD τ sig Ix (Elt F) Name U Lvl) :=
  iprop(ownOn c.tc arg2 Finset.univ fullShare z ∗ agree c.tc arg8 Finset.univ (fun _ => False) (ZB L z) ∗ known c L zs arg9 arg11 arg12 0
    ∗ (∃ X : S1.Idx → Elt F .i32, ownOn c.tc arg13 Finset.univ fullShare X) ∗ semVal (c.tc, .dma arg14.sem) 0)

/-- What the points share after the first one: every group of every block known. -/
def scr (arg2 : Memref sig .tc .hbm S21504x1024 .fp8e4m3) (arg8 : Memref sig .tc .vmem S22016x1024 .fp8e4m3) (arg9 : Memref sig .tc .vmem S22016x128 .f32)
    (arg11 arg12 : Memref sig .tc .smem S688 .i32) (arg13 : Memref sig .tc .smem S1 .i32) (arg14 : DmaSems sig S_) : sProp (MT nD τ sig Ix (Elt F) Name U Lvl) :=
  iprop(ownOn c.tc arg2 Finset.univ fullShare z ∗ agree c.tc arg8 Finset.univ (fun y => (y 0).val / 32 < 16 * nblk L) (ZB L z) ∗ known c L zs arg9 arg11 arg12 (16 * nblk L)
    ∗ ownOn c.tc arg13 Finset.univ fullShare (fun _ => (BitVec.ofNat 32 (nblk L) : BitVec 32)) ∗ semVal (c.tc, .dma arg14.sem) 0)

include EC ι in
/-- The padding groups and the waits, then what follows. -/
theorem pad_spec (hL : ∀ d, L d ≤ 896) (i : grid0.Coords) (arg1 : Memref sig .tc .smem S24 .i32) (harg1 : arg1.IsWhole) (arg2 : Memref sig .tc .hbm S21504x1024 .fp8e4m3) (harg2 : arg2.IsWhole) (arg3 : Memref sig .tc .vmem S24x7x128 .f32) (harg3 : arg3.IsWhole) (arg4 : Memref sig .tc .vmem S512x1024 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S24x512 .f32) (harg7 : arg7.IsWhole) (arg8 : Memref sig .tc .vmem S22016x1024 .fp8e4m3) (harg8 : arg8.IsWhole) (arg9 : Memref sig .tc .vmem S22016x128 .f32) (harg9 : arg9.IsWhole) (arg10 : Memref sig .tc .vmem S24x8x512 .f32) (harg10 : arg10.IsWhole) (arg11 : Memref sig .tc .smem S688 .i32) (harg11 : arg11.IsWhole) (arg12 : Memref sig .tc .smem S688 .i32) (harg12 : arg12.IsWhole) (arg13 : Memref sig .tc .smem S1 .i32) (harg13 : arg13.IsWhole) (arg14 : DmaSems sig S_) (h1 : k0_cond1 i = 1#1) (K : Prog (TpuEff nD τ sig (Elt F) Λ₀ .tc) Unit)
    (hchk : k0_chk2 i (BitVec.ofNat 32 (total L))) {Q : Unit → sProp (MT nD τ sig Ix (Elt F) Name U Lvl)} :
    (iprop(packed c EC ι L z arg2 arg8 arg11 arg12 arg14 (total L) ∗ agree c.tc arg9 Finset.univ (fun y => (y 0).val / 32 < total L) (SB L zs) ∗ (∃ W, owes c.tc 0 W)) : sProp (MT nD τ sig Ix (Elt F) Name U Lvl))
      ⊢ iprop(((ownOn c.tc arg2 Finset.univ fullShare z ∗ agree c.tc arg8 Finset.univ (fun y => (y 0).val / 32 < 16 * nblk L) (ZB L z)
          ∗ known c L zs arg9 arg11 arg12 (16 * nblk L) ∗ semVal (c.tc, .dma arg14.sem) 0) ∗ (∃ W, owes c.tc 0 W)
          -∗ wp frame (wpE defs 𝒱 c.tc none) Set.univ K Q)
        -∗ wp frame (wpE defs 𝒱 c.tc none) Set.univ (padP (F := F) i arg1 harg1 arg2 harg2 arg3 harg3 arg4 harg4 arg5 harg5 arg6 harg6 arg7 harg7 arg8 harg8 arg9 harg9 arg10 harg10 arg11 harg11 arg12 harg12 arg13 harg13 arg14 h1 (BitVec.ofNat 32 (total L)) hchk K) Q) := by
  have hn := total_le hL
  have hpad : total L + ((total L + 15) / 16 * 16 - total L) = 16 * nblk L := by unfold nblk; omega
  unfold padP packed
  iintro ⟨⟨H8, H2, HB, H11, H12⟩, H9, HO⟩ Hk
  iapply (Scf.wp_for_bind frame (wpE defs 𝒱 c.tc none) Set.univ _ _ _ _ _ _ (fun k (_ : Unit) =>
    iprop(padded c L z zs arg8 arg9 arg11 arg12 (total L + k)))
    (fun k acc => by
      iintro H
      iapply (t4_spec 𝒱 c L z zs hL i arg1 harg1 arg2 harg2 arg3 harg3 arg4 harg4 arg5 harg5 arg6 harg6 arg7 harg7 arg8 harg8 arg9 harg9 arg10 harg10 arg11 harg11 arg12 harg12 arg13 harg13 arg14 h1 hchk k) $$ H
      iintro H
      iexact H)) $$ [H8 H9 H11 H12]
  · unfold padded
    unfold known
    isplitl [H8]
    · iapply (agree_weaken c.tc arg8 (fun y hy hy' => pad_start L y hy hy')) $$ H8
    isplitl [H9]; · iexact H9
    isplitl [H11]; · iexact H11
    iexact H12
  iintro %acc HP
  rw [show Scf.trips _ _ _ = (total L + 15) / 16 * 16 - total L from t4_trips hn, hpad]
  iapply (wp_rem 𝒱 c (BitVec.ofNat 32 (total L)) _)
  icases HO with ⟨%W0, HO⟩
  iapply (Scf.wp_for_bind frame (wpE defs 𝒱 c.tc none) Set.univ _ _ _ _ _ _ (fun k (_ : Unit) =>
    iprop(Batch EC c.tc (.dma arg14.sem) ι (credN arg8) (deliv c L z arg2 arg8) (total L) (credN arg8 * k) ∗ ∃ W, owes c.tc 0 W))
    (fun k acc => by
      have hk : k.val < total L := lt_of_lt_of_eq k.isLt (t6_trips hn)
      iintro ⟨HB, ⟨%W, HO⟩⟩
      unfold k0_t6_body
      iapply (wp_waitBatchMul EC 𝒱 c.tc none ι 1 (N := credN arg8) (one_mul _).symm (D := deliv c L z arg2 arg8) (j := total L) (u := credN arg8 * k.val)
        (by rw [one_mul, ← Nat.mul_succ]; exact Nat.mul_le_mul_left _ hk) (W := W)) $$ [HB HO]
      · isplitl [HB]; · iexact HB
        iexact HO
      rw [one_mul, ← Nat.mul_succ]
      iintro ⟨HB, HO⟩
      iapply (wp_done 𝒱 c (α := Unit) (defs := defs) (a := ()))
      isplitl [HB]; · iexact HB
      iexists _
      iexact HO)) $$ [HB HO]
  · rw [Nat.mul_zero]
    isplitl [HB]; · iexact HB
    iexists W0
    iexact HO
  iintro %acc2 ⟨HB, HO⟩
  rw [show Scf.trips _ _ _ = total L from t6_trips hn]
  iapply (wp_rem 𝒱 c 0#32 _)
  imod (collect_blocks c EC ι L z arg2 arg8 arg14) $$ HB with ⟨HD, HV⟩
  unfold padded
  icases HP with ⟨H8, HK⟩
  ihave HJ := (join_blocks c L z hL arg2 arg8 _ (total L) le_rfl) $$ [HD H8 H2]
  · isplitl [HD]; · iexact HD
    isplitl [H8]; · iexact H8
    iexact H2
  icases HJ with ⟨H8, H2⟩
  iapply Hk
  isplitr [HO]
  · isplitl [H2]; · iexact H2
    isplitl [H8]; · iexact H8
    isplitl [HK]; · iexact HK
    iexact HV
  iexact HO

/-- The number of blocks is stored. -/
theorem putP_spec {α : Type} (hL : ∀ d, L d ≤ 896) (arg13 : Memref sig .tc .smem S1 .i32) {X : S1.Idx → Elt F .i32}
    {K : Prog (TpuEff nD τ sig (Elt F) Λ₀ .tc) α} {Q : α → sProp (MT nD τ sig Ix (Elt F) Name U Lvl)} :
    (ownOn (Val := Elt F) (e := .i32) c.tc arg13 Finset.univ fullShare X : sProp (MT nD τ sig Ix (Elt F) Name U Lvl))
      ⊢ iprop((ownOn (Val := Elt F) (e := .i32) c.tc arg13 Finset.univ fullShare (fun _ => (BitVec.ofNat 32 (nblk L) : BitVec 32)) -∗ wp frame (wpE defs 𝒱 c.tc none) Set.univ K Q)
        -∗ wp frame (wpE defs 𝒱 c.tc none) Set.univ (putP (F := F) arg13 (BitVec.ofNat 32 (total L)) K) Q) := by
  have hn := total_le hL
  have hnb : (BitVec.ofNat 32 (nblk L) : BitVec 32) = Scalar.divsi (Scalar.addi (BitVec.ofNat 32 (total L)) 15#32) 16#32 := by
    rw [w_add, w_div (by omega) (by omega) (by omega)]; rfl
  revert hnb
  generalize (BitVec.ofNat 32 (nblk L) : BitVec 32) = w'
  generalize (BitVec.ofNat 32 (total L) : BitVec 32) = v
  intro hnb
  unfold putP
  iintro H13 Hk
  iapply (wp_load_on c.tc 𝒱 none Set.univ (fun x => Finset.mem_univ _)) $$ H13
  iintro H13
  iapply (cnt_store 𝒱 c arg13 _ _ hnb) $$ H13
  iintro H13
  iapply Hk
  iexact H13

include EC ι in
/-- The number of blocks is stored, the padding follows. -/
theorem cntP_spec (hL : ∀ d, L d ≤ 896) (i : grid0.Coords) (arg1 : Memref sig .tc .smem S24 .i32) (harg1 : arg1.IsWhole) (arg2 : Memref sig .tc .hbm S21504x1024 .fp8e4m3) (harg2 : arg2.IsWhole) (arg3 : Memref sig .tc .vmem S24x7x128 .f32) (harg3 : arg3.IsWhole) (arg4 : Memref sig .tc .vmem S512x1024 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S24x512 .f32) (harg7 : arg7.IsWhole) (arg8 : Memref sig .tc .vmem S22016x1024 .fp8e4m3) (harg8 : arg8.IsWhole) (arg9 : Memref sig .tc .vmem S22016x128 .f32) (harg9 : arg9.IsWhole) (arg10 : Memref sig .tc .vmem S24x8x512 .f32) (harg10 : arg10.IsWhole) (arg11 : Memref sig .tc .smem S688 .i32) (harg11 : arg11.IsWhole) (arg12 : Memref sig .tc .smem S688 .i32) (harg12 : arg12.IsWhole) (arg13 : Memref sig .tc .smem S1 .i32) (harg13 : arg13.IsWhole) (arg14 : DmaSems sig S_) (h1 : k0_cond1 i = 1#1) (K : Prog (TpuEff nD τ sig (Elt F) Λ₀ .tc) Unit)
    {X13 : S1.Idx → Elt F .i32} {Q : Unit → sProp (MT nD τ sig Ix (Elt F) Name U Lvl)} :
    (iprop(packed c EC ι L z arg2 arg8 arg11 arg12 arg14 (total L) ∗ agree c.tc arg9 Finset.univ (fun y => (y 0).val / 32 < total L) (SB L zs) ∗ (∃ W, owes c.tc 0 W)
        ∗ ownOn c.tc arg13 Finset.univ fullShare X13) : sProp (MT nD τ sig Ix (Elt F) Name U Lvl))
      ⊢ iprop((scr c L z zs arg2 arg8 arg9 arg11 arg12 arg13 arg14 ∗ (∃ W, owes c.tc 0 W)
          -∗ wp frame (wpE defs 𝒱 c.tc none) Set.univ K Q)
        -∗ wp frame (wpE defs 𝒱 c.tc none) Set.univ (cntP (F := F) i arg1 harg1 arg2 harg2 arg3 harg3 arg4 harg4 arg5 harg5 arg6 harg6 arg7 harg7 arg8 harg8 arg9 harg9 arg10 harg10 arg11 harg11 arg12 harg12 arg13 harg13 arg14 h1 (BitVec.ofNat 32 (total L)) K) Q) := by
  have hn := total_le hL
  have hchk : k0_chk2 i (BitVec.ofNat 32 (total L)) := chk2 i hn
  unfold cntP scr
  iintro ⟨HP, H9, HO, H13⟩ Hk
  iapply (wp_assume 𝒱 c.tc none Set.univ hchk)
  iapply (putP_spec 𝒱 c L hL arg13) $$ H13
  iintro H13
  iapply (pad_spec 𝒱 c EC ι L z zs hL i arg1 harg1 arg2 harg2 arg3 harg3 arg4 harg4 arg5 harg5 arg6 harg6 arg7 harg7 arg8 harg8 arg9 harg9 arg10 harg10 arg11 harg11 arg12 harg12 arg13 harg13 arg14 h1 K hchk) $$ [HP H9 HO]
  · isplitl [HP]; · iexact HP
    isplitl [H9]; · iexact H9
    iexact HO
  iintro ⟨⟨H2, H8, HK, HV⟩, HO⟩
  iapply Hk
  isplitr [HO]
  · isplitl [H2]; · iexact H2
    isplitl [H8]; · iexact H8
    isplitl [HK]; · iexact HK
    isplitl [H13]; · iexact H13
    iexact HV
  iexact HO

include EC ι in
/-- The first point's preparation, then what follows it. -/
theorem init_spec (hL : ∀ d, L d ≤ 896) (i : grid0.Coords) (arg1 : Memref sig .tc .smem S24 .i32) (harg1 : arg1.IsWhole) (arg2 : Memref sig .tc .hbm S21504x1024 .fp8e4m3) (harg2 : arg2.IsWhole) (arg3 : Memref sig .tc .vmem S24x7x128 .f32) (harg3 : arg3.IsWhole) (arg4 : Memref sig .tc .vmem S512x1024 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S24x512 .f32) (harg7 : arg7.IsWhole) (arg8 : Memref sig .tc .vmem S22016x1024 .fp8e4m3) (harg8 : arg8.IsWhole) (arg9 : Memref sig .tc .vmem S22016x128 .f32) (harg9 : arg9.IsWhole) (arg10 : Memref sig .tc .vmem S24x8x512 .f32) (harg10 : arg10.IsWhole) (arg11 : Memref sig .tc .smem S688 .i32) (harg11 : arg11.IsWhole) (arg12 : Memref sig .tc .smem S688 .i32) (harg12 : arg12.IsWhole) (arg13 : Memref sig .tc .smem S1 .i32) (harg13 : arg13.IsWhole) (arg14 : DmaSems sig S_) (h1 : k0_cond1 i = 1#1) (K : Prog (TpuEff nD τ sig (Elt F) Λ₀ .tc) Unit)
    (q : PosShare TreeShare) (T : S24.Idx → BitVec 32) (hT : ∀ x : S24.Idx, T x = BitVec.ofNat 32 (L (x 0).val)) {Q : Unit → sProp (MT nD τ sig Ix (Elt F) Name U Lvl)} :
    (iprop(ownOn (Val := Elt F) (e := .i32) c.tc arg1 Finset.univ q T ∗ ownOn c.tc arg3 Finset.univ fullShare zs
        ∗ scr0 c L z zs arg2 arg8 arg9 arg11 arg12 arg13 arg14 ∗ (∃ W, owes c.tc 0 W)) : sProp (MT nD τ sig Ix (Elt F) Name U Lvl))
      ⊢ iprop((ownOn (Val := Elt F) (e := .i32) c.tc arg1 Finset.univ q T ∗ ownOn c.tc arg3 Finset.univ fullShare zs
          ∗ scr c L z zs arg2 arg8 arg9 arg11 arg12 arg13 arg14 ∗ (∃ W, owes c.tc 0 W)
          -∗ wp frame (wpE defs 𝒱 c.tc none) Set.univ K Q)
        -∗ wp frame (wpE defs 𝒱 c.tc none) Set.univ (initP (F := F) i arg1 harg1 arg2 harg2 arg3 harg3 arg4 harg4 arg5 harg5 arg6 harg6 arg7 harg7 arg8 harg8 arg9 harg9 arg10 harg10 arg11 harg11 arg12 harg12 arg13 harg13 arg14 h1 K) Q) := by
  have hn := total_le hL
  unfold initP scr0
  iintro ⟨H1, H3, ⟨H2, H8, HK, ⟨%X13, H13⟩, HV⟩, HO⟩ Hk
  ihave HK := (known_elim c L zs arg9 arg11 arg12 0) $$ HK
  icases HK with ⟨H9, H11, H12⟩
  imod (batch_alloc' EC c.tc (sm := .dma arg14.sem) ι (credN arg8) (deliv c L z arg2 arg8) (E := Set.univ)) $$ HV with HB
  iapply (Scf.wp_for_bind frame (wpE defs 𝒱 c.tc none) Set.univ _ _ _ _ _ _ (fun k (a : BitVec 32) =>
    iprop(⌜a = BitVec.ofNat 32 (start L k)⌝ ∗ ownOn (Val := Elt F) (e := .i32) c.tc arg1 Finset.univ q T ∗ packed c EC ι L z arg2 arg8 arg11 arg12 arg14 (start L k)
        ∗ ownOn c.tc arg3 Finset.univ fullShare zs ∗ agree c.tc arg9 Finset.univ (fun y => (y 0).val / 32 < start L k) (SB L zs)))
    (fun k acc => by
      iintro ⟨%ha, H⟩
      subst ha
      iapply (t1_spec 𝒱 c EC ι L z zs hL i arg1 harg1 arg2 harg2 arg3 harg3 arg4 harg4 arg5 harg5 arg6 harg6 arg7 harg7 arg8 harg8 arg9 harg9 arg10 harg10 arg11 harg11 arg12 harg12 arg13 harg13 arg14 h1 k q T hT) $$ H
      iintro H
      isplitr
      · ipureintro; rfl
      iexact H)) $$ [H1 H3 H2 H8 H9 H11 H12 HB]
  · unfold packed
    rw [start_zero, tailT_zero, srcTail_zero]
    isplitr
    · ipureintro; rfl
    isplitl [H1]; · iexact H1
    isplitl [H8 H2 HB H11 H12]
    · isplitl [H8]; · iexact H8
      isplitl [H2]; · iexact H2
      isplitl [HB]; · iexact HB
      isplitl [H11]; · iexact H11
      iexact H12
    isplitl [H3]; · iexact H3
    iapply (agree_weaken c.tc arg9 (fun y _ hy => by
      have hy' : (y 0).val / 32 < 0 := hy
      exact absurd hy' (Nat.not_lt_zero _))) $$ H9
  rw [show Scf.trips _ _ _ = 24 from t1_trips, show start L 24 = total L from rfl]
  iintro %acc ⟨%ha, H1, HP, H3, H9⟩
  subst ha
  iapply (cntP_spec 𝒱 c EC ι L z zs hL i arg1 harg1 arg2 harg2 arg3 harg3 arg4 harg4 arg5 harg5 arg6 harg6 arg7 harg7 arg8 harg8 arg9 harg9 arg10 harg10 arg11 harg11 arg12 harg12 arg13 harg13 arg14 h1 K) $$ [HP H9 HO H13]
  · isplitl [HP]; · iexact HP
    isplitl [H9]; · iexact H9
    isplitl [HO]; · iexact HO
    iexact H13
  iintro ⟨HS, HO⟩
  iapply Hk
  isplitl [H1]; · iexact H1
  isplitl [H3]; · iexact H3
  isplitr [HO]
  · iexact HS
  iexact HO

end Cert.Proof.KernelIdeal
-- ==== Proof.Body8.lean ====
module

public import proofs.«01_k».proof.Proof.Body7

@[expose] public section

set_option maxRecDepth 16384

noncomputable section

namespace Cert.Proof.KernelIdeal

open Cert.KernelIdeal Cert.KernelIdeal.Gen Cert.Proof
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

open Idealize.ShloMosaic.Transfers

variable {Ix : Type} [DecidableEq Ix] {Name : Type} [DecidableEq Name] [Infinite Name] {U : Type} [URA U] {Lvl : Type} [Preorder Lvl]
variable {defs : Defs nD τ sig (Elt F) Λ₀} (𝒱 : Variants) (c : Dev nD)
variable (EC : UEmb Counters (MT nD τ sig Ix (Elt F) Name U Lvl)) [EC.LandsIn (upEmb : UEmb _ (MT nD τ sig Ix (Elt F) Name U Lvl))] (ι : Ix)

variable (L : ℕ → ℕ) (z : Vec F S21504x1024 .fp8e4m3) (zs : Vec F S24x7x128 .f32)

/-- The main part and the last rows of the result, from the prepared scratch. -/
theorem rest_spec (hL : ∀ d, L d ≤ 896) (i : grid0.Coords) (arg1 : Memref sig .tc .smem S24 .i32) (harg1 : arg1.IsWhole) (arg2 : Memref sig .tc .hbm S21504x1024 .fp8e4m3) (harg2 : arg2.IsWhole) (arg3 : Memref sig .tc .vmem S24x7x128 .f32) (harg3 : arg3.IsWhole) (arg4 : Memref sig .tc .vmem S512x1024 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S24x512 .f32) (harg7 : arg7.IsWhole) (arg8 : Memref sig .tc .vmem S22016x1024 .fp8e4m3) (harg8 : arg8.IsWhole) (arg9 : Memref sig .tc .vmem S22016x128 .f32) (harg9 : arg9.IsWhole) (arg10 : Memref sig .tc .vmem S24x8x512 .f32) (harg10 : arg10.IsWhole) (arg11 : Memref sig .tc .smem S688 .i32) (harg11 : arg11.IsWhole) (arg12 : Memref sig .tc .smem S688 .i32) (harg12 : arg12.IsWhole) (arg13 : Memref sig .tc .smem S1 .i32) (harg13 : arg13.IsWhole) (arg14 : DmaSems sig S_)
    (emb : Vec F S512x1024 .fp8e4m3) (es bv : Vec F S1x512 .f32) {Q : Unit → sProp (MT nD τ sig Ix (Elt F) Name U Lvl)} :
    (iprop(scr c L z zs arg2 arg8 arg9 arg11 arg12 arg13 arg14
        ∗ (∃ X : Vec F S24x8x512 .f32, ownOn c.tc arg10 Finset.univ fullShare X)
        ∗ ownOn c.tc arg4 Finset.univ fullShare emb ∗ ownOn c.tc arg5 Finset.univ fullShare es ∗ ownOn c.tc arg6 Finset.univ fullShare bv
        ∗ (∃ X : Vec F S24x512 .f32, ownOn c.tc arg7 Finset.univ fullShare X)) : sProp (MT nD τ sig Ix (Elt F) Name U Lvl))
      ⊢ iprop((scr c L z zs arg2 arg8 arg9 arg11 arg12 arg13 arg14
          ∗ (∃ X : Vec F S24x8x512 .f32, ownOn c.tc arg10 Finset.univ fullShare X)
          ∗ ownOn c.tc arg4 Finset.univ fullShare emb ∗ ownOn c.tc arg5 Finset.univ fullShare es ∗ ownOn c.tc arg6 Finset.univ fullShare bv
          ∗ ownOn c.tc arg7 Finset.univ fullShare (outV L z zs emb es bv) -∗ Q ())
        -∗ wp frame (wpE defs 𝒱 c.tc none) Set.univ (mainP (F := F) i arg1 harg1 arg2 harg2 arg3 harg3 arg4 harg4 arg5 harg5 arg6 harg6 arg7 harg7 arg8 harg8 arg9 harg9 arg10 harg10 arg11 harg11 arg12 harg12 arg13 harg13 arg14) fun _ =>
          wp frame (wpE defs 𝒱 c.tc none) Set.univ (tailP arg7 arg10) Q) := by
  unfold scr
  iintro ⟨⟨H2, H8, HK, H13, HV⟩, ⟨%X10, H10⟩, H4, H5, H6, ⟨%X7, H7⟩⟩ Hk
  iapply (main_spec 𝒱 c L z zs hL i arg1 harg1 arg2 harg2 arg3 harg3 arg4 harg4 arg5 harg5 arg6 harg6 arg7 harg7 arg8 harg8 arg9 harg9 arg10 harg10 arg11 harg11 arg12 harg12 arg13 harg13 arg14 emb es bv) $$ [H8 HK H13 H10 H4 H5 H6 H7]
  · unfold ready
    isplitl [H8 HK H13 H4 H5 H6]
    · isplitl [H8]; · iexact H8
      isplitl [H4]; · iexact H4
      isplitl [H5]; · iexact H5
      isplitl [H6]; · iexact H6
      isplitl [HK]; · iexact HK
      iexact H13
    isplitl [H10]; · iexact H10
    iexact H7
  unfold ready
  iintro ⟨⟨H8, H4, H5, H6, HK, H13⟩, H10, H7⟩
  iapply (tail_spec 𝒱 c arg7 arg10 (accK L z zs emb es bv (nblk L))) $$ [H10 H7]
  · isplitl [H10]; · iexact H10
    iexact H7
  iintro ⟨H10, H7⟩
  iapply Hk
  isplitl [H2 H8 HK H13 HV]
  · isplitl [H2]; · iexact H2
    isplitl [H8]; · iexact H8
    isplitl [HK]; · iexact HK
    isplitl [H13]; · iexact H13
    iexact HV
  isplitl [H10]
  · iexists _; iexact H10
  isplitl [H4]; · iexact H4
  isplitl [H5]; · iexact H5
  isplitl [H6]; · iexact H6
  iexact H7

/-- A grid point after the first one. -/
theorem pool_next (hL : ∀ d, L d ≤ 896) (i : grid0.Coords) (arg1 : Memref sig .tc .smem S24 .i32) (harg1 : arg1.IsWhole) (arg2 : Memref sig .tc .hbm S21504x1024 .fp8e4m3) (harg2 : arg2.IsWhole) (arg3 : Memref sig .tc .vmem S24x7x128 .f32) (harg3 : arg3.IsWhole) (arg4 : Memref sig .tc .vmem S512x1024 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S24x512 .f32) (harg7 : arg7.IsWhole) (arg8 : Memref sig .tc .vmem S22016x1024 .fp8e4m3) (harg8 : arg8.IsWhole) (arg9 : Memref sig .tc .vmem S22016x128 .f32) (harg9 : arg9.IsWhole) (arg10 : Memref sig .tc .vmem S24x8x512 .f32) (harg10 : arg10.IsWhole) (arg11 : Memref sig .tc .smem S688 .i32) (harg11 : arg11.IsWhole) (arg12 : Memref sig .tc .smem S688 .i32) (harg12 : arg12.IsWhole) (arg13 : Memref sig .tc .smem S1 .i32) (harg13 : arg13.IsWhole) (arg14 : DmaSems sig S_) (h1 : ¬ k0_cond1 i = 1#1)
    (emb : Vec F S512x1024 .fp8e4m3) (es bv : Vec F S1x512 .f32) {Q : Unit → sProp (MT nD τ sig Ix (Elt F) Name U Lvl)} :
    (iprop(scr c L z zs arg2 arg8 arg9 arg11 arg12 arg13 arg14
        ∗ (∃ X : Vec F S24x8x512 .f32, ownOn c.tc arg10 Finset.univ fullShare X)
        ∗ ownOn c.tc arg4 Finset.univ fullShare emb ∗ ownOn c.tc arg5 Finset.univ fullShare es ∗ ownOn c.tc arg6 Finset.univ fullShare bv
        ∗ (∃ X : Vec F S24x512 .f32, ownOn c.tc arg7 Finset.univ fullShare X)) : sProp (MT nD τ sig Ix (Elt F) Name U Lvl))
      ⊢ iprop((scr c L z zs arg2 arg8 arg9 arg11 arg12 arg13 arg14
          ∗ (∃ X : Vec F S24x8x512 .f32, ownOn c.tc arg10 Finset.univ fullShare X)
          ∗ ownOn c.tc arg4 Finset.univ fullShare emb ∗ ownOn c.tc arg5 Finset.univ fullShare es ∗ ownOn c.tc arg6 Finset.univ fullShare bv
          ∗ ownOn c.tc arg7 Finset.univ fullShare (outV L z zs emb es bv) -∗ Q ())
        -∗ wp frame (wpE defs 𝒱 c.tc none) Set.univ (cc0_pool (F := F) i arg1 harg1 arg2 harg2 arg3 harg3 arg4 harg4 arg5 harg5 arg6 harg6 arg7 harg7 arg8 harg8 arg9 harg9 arg10 harg10 arg11 harg11 arg12 harg12 arg13 harg13 arg14) Q) := by
  rw [pool_eq, wp_bind, part32_eq, dif_neg h1]
  exact rest_spec 𝒱 c L z zs hL i arg1 harg1 arg2 harg2 arg3 harg3 arg4 harg4 arg5 harg5 arg6 harg6 arg7 harg7 arg8 harg8 arg9 harg9 arg10 harg10 arg11 harg11 arg12 harg12 arg13 harg13 arg14 emb es bv

include EC ι in
/-- The first grid point. -/
theorem pool_first (hL : ∀ d, L d ≤ 896) (i : grid0.Coords) (arg1 : Memref sig .tc .smem S24 .i32) (harg1 : arg1.IsWhole) (arg2 : Memref sig .tc .hbm S21504x1024 .fp8e4m3) (harg2 : arg2.IsWhole) (arg3 : Memref sig .tc .vmem S24x7x128 .f32) (harg3 : arg3.IsWhole) (arg4 : Memref sig .tc .vmem S512x1024 .fp8e4m3) (harg4 : arg4.IsWhole) (arg5 : Memref sig .tc .vmem S1x512 .f32) (harg5 : arg5.IsWhole) (arg6 : Memref sig .tc .vmem S1x512 .f32) (harg6 : arg6.IsWhole) (arg7 : Memref sig .tc .vmem S24x512 .f32) (harg7 : arg7.IsWhole) (arg8 : Memref sig .tc .vmem S22016x1024 .fp8e4m3) (harg8 : arg8.IsWhole) (arg9 : Memref sig .tc .vmem S22016x128 .f32) (harg9 : arg9.IsWhole) (arg10 : Memref sig .tc .vmem S24x8x512 .f32) (harg10 : arg10.IsWhole) (arg11 : Memref sig .tc .smem S688 .i32) (harg11 : arg11.IsWhole) (arg12 : Memref sig .tc .smem S688 .i32) (harg12 : arg12.IsWhole) (arg13 : Memref sig .tc .smem S1 .i32) (harg13 : arg13.IsWhole) (arg14 : DmaSems sig S_) (h1 : k0_cond1 i = 1#1)
    (q : PosShare TreeShare) (T : S24.Idx → BitVec 32) (hT : ∀ x : S24.Idx, T x = BitVec.ofNat 32 (L (x 0).val))
    (emb : Vec F S512x1024 .fp8e4m3) (es bv : Vec F S1x512 .f32) {Q : Unit → sProp (MT nD τ sig Ix (Elt F) Name U Lvl)} :
    (iprop(ownOn (Val := Elt F) (e := .i32) c.tc arg1 Finset.univ q T ∗ ownOn c.tc arg3 Finset.univ fullShare zs
        ∗ scr0 c L z zs arg2 arg8 arg9 arg11 arg12 arg13 arg14 ∗ (∃ W, owes c.tc 0 W)
        ∗ (∃ X : Vec F S24x8x512 .f32, ownOn c.tc arg10 Finset.univ fullShare X)
        ∗ ownOn c.tc arg4 Finset.univ fullShare emb ∗ ownOn c.tc arg5 Finset.univ fullShare es ∗ ownOn c.tc arg6 Finset.univ fullShare bv
        ∗ (∃ X : Vec F S24x512 .f32, ownOn c.tc arg7 Finset.univ fullShare X)) : sProp (MT nD τ sig Ix (Elt F) Name U Lvl))
      ⊢ iprop((ownOn (Val := Elt F) (e := .i32) c.tc arg1 Finset.univ q T ∗ ownOn c.tc arg3 Finset.univ fullShare zs
          ∗ scr c L z zs arg2 arg8 arg9 arg11 arg12 arg13 arg14 ∗ (∃ W, owes c.tc 0 W)
          ∗ (∃ X : Vec F S24x8x512 .f32, ownOn c.tc arg10 Finset.univ fullShare X)
          ∗ ownOn c.tc arg4 Finset.univ fullShare emb ∗ ownOn c.tc arg5 Finset.univ fullShare es ∗ ownOn c.tc arg6 Finset.univ fullShare bv
          ∗ ownOn c.tc arg7 Finset.univ fullShare (outV L z zs emb es bv) -∗ Q ())
        -∗ wp frame (wpE defs 𝒱 c.tc none) Set.univ (cc0_pool (F := F) i arg1 harg1 arg2 harg2 arg3 harg3 arg4 harg4 arg5 harg5 arg6 harg6 arg7 harg7 arg8 harg8 arg9 harg9 arg10 harg10 arg11 harg11 arg12 harg12 arg13 harg13 arg14) Q) := by
  rw [pool_eq, wp_bind, part32_eq, dif_pos h1]
  iintro ⟨H1, H3, HS, HO, H10, H4, H5, H6, H7⟩ Hk
  iapply (init_spec 𝒱 c EC ι L z zs hL i arg1 harg1 arg2 harg2 arg3 harg3 arg4 harg4 arg5 harg5 arg6 harg6 arg7 harg7 arg8 harg8 arg9 harg9 arg10 harg10 arg11 harg11 arg12 harg12 arg13 harg13 arg14 h1 _ q T hT) $$ [H1 H3 HS HO]
  · isplitl [H1]; · iexact H1
    isplitl [H3]; · iexact H3
    isplitl [HS]; · iexact HS
    iexact HO
  iintro ⟨H1, H3, HS, HO⟩
  iapply (rest_spec 𝒱 c L z zs hL i arg1 harg1 arg2 harg2 arg3 harg3 arg4 harg4 arg5 harg5 arg6 harg6 arg7 harg7 arg8 harg8 arg9 harg9 arg10 harg10 arg11 harg11 arg12 harg12 arg13 harg13 arg14 emb es bv) $$ [HS H10 H4 H5 H6 H7]
  · isplitl [HS]; · iexact HS
    isplitl [H10]; · iexact H10
    isplitl [H4]; · iexact H4
    isplitl [H5]; · iexact H5
    isplitl [H6]; · iexact H6
    iexact H7
  iintro ⟨HS, H10, H4, H5, H6, H7⟩
  iapply Hk
  isplitl [H1]; · iexact H1
  isplitl [H3]; · iexact H3
  isplitl [HS]; · iexact HS
  isplitl [HO]; · iexact HO
  isplitl [H10]; · iexact H10
  isplitl [H4]; · iexact H4
  isplitl [H5]; · iexact H5
  isplitl [H6]; · iexact H6
  iexact H7

end Cert.Proof.KernelIdeal
-- ==== Proof.Run1.lean ====
module

public import proofs.«01_k».proof.Proof.Body8
public import proofs.«01_k».proof.Proof.Gen.KernelIdeal.Launch
public import Idealize.ShloMosaic.Lib.Pipeline.FrameBody
public import Idealize.ShloMosaic.Lib.Claim
public import Idealize.ShloMosaic.Lib.Pipeline.Frame

@[expose] public section

set_option maxRecDepth 16384

noncomputable section

namespace Cert.Proof.KernelIdeal

open Cert.KernelIdeal Cert.KernelIdeal.Gen Cert.Proof
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

open Idealize.ShloMosaic.Pipeline (Dat Cfg Window BodyObligationLoose)

local notation "𝕄" => MT nD τ sig Unit (Elt F) ℕ (Pipeline.UD sig nD τ) ℕ

variable (m : (ℓ : Loc nD τ sig) → Buf (Elt F) ℓ) (ρ : Dev nD → PrngReg)

/-- Core `c`'s buffers when the call is entered: after the three reshapes. -/
abbrev V (c : Dev nD) (b : Ref sig .tc) : Buf (Elt F) ((c : Thread nD τ).loc b) := StableHlo.after hostOps0 (fun b => m (c, b)) b

/-- The operations before the kernel call allocate nothing. -/
theorem hostOps0_fresh : (hostOps0 : List (HloOp τ sig (Elt F))).Forall fun op => op.fresh = ∅ := by
  simp only [List.Forall]; repeat' constructor

set_option maxHeartbeats 800000 in
/-- The program up to the call. -/
theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No reshape writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))

/-- No reshape writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))

/-- No reshape writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))

/-- No reshape writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))

/-- No reshape writes argument 4. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))

/-- No reshape writes argument 5. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.reshape_writes, Finset.mem_singleton]
    repeat' apply And.intro
    all_goals exact StableHlo.devRef_ne_of_ne (by decide)))

/-- The table of document lengths as the call reads it. -/
def tbl : pre0.Contents (Elt F) := fun j => V m (0 : Dev nD) (pre0.ref j)

/-- The prefetched table's contents before the call. -/
theorem V_pre (c : Dev nD) (j : Fin 1) : V m c (pre0.ref j) = tbl m j := by
  obtain rfl : c = 0 := Subsingleton.elim _ _
  rfl

/-- The prefetched table, as the admissible input of the call. -/
abbrev adm : (pcfg0 (F := F)).Adm := ⟨tbl m, trivial⟩

/-- The call at the table's contents. -/
abbrev cfgA : Cfg sig Λ₀ := cfg0 (adm m)

/-- The kernel's own copy semaphore. -/
abbrev osem0 : Fin 1 → SemLoc sig := fun j => (![.dma cc0_scratch6.sem] : Fin 1 → SemLoc sig) j

/-- The kernel's own semaphore is apart from those of the windows. -/
theorem ownSemFacts0 : Pipeline.OwnSemFacts spec0 osem0 := by decide

/-- The kernel's own semaphores, one by one. -/
theorem ownSems0_eq (c : Dev nD) :
    (Pipeline.ownSems0 (Ix := Unit) (Name := ℕ) (U := Pipeline.UD sig nD τ) (Lvl := ℕ) (Val := Elt F) (τ := τ) osem0 c : sProp 𝕄)
      = semVal ((c.tc : Thread nD τ), .dma cc0_scratch6.sem) 0 := by
  rw [Pipeline.ownSems0_eq_of_list c osem0 [0] (by decide) (by decide)]; rfl

/-- The array the kernel copies from by hand. -/
def H0 : Finset (Ref sig .tc) := {main_arg1}
/-- The array copied by hand is not one of the windows' arrays. -/
theorem H0_sub : H0 ⊆ Pipeline.restRefsP sig pre0 spec0 := by decide

/-- Ownership of the arrays copied by hand is ownership of that one array. -/
theorem hbmPts0_eq (c : Dev nD) :
    (bigSep H0 (fun b => ((c.tc : Thread nD τ).loc b) ↦{fullShare} V m c b) : sProp 𝕄) = iprop(((c.tc : Thread nD τ).loc main_arg1) ↦{fullShare} V m c main_arg1) := by
  rw [BI.bigSep_eq_bigSepL_of_eq [main_arg1] (by decide) (by decide)]; rfl

/-- The lengths as natural numbers, by document. -/
def len (d : ℕ) : ℕ := ((V m (0 : Dev nD) main_arg0 : S24.Idx → BitVec 32) (fun a => match a with | ⟨0, _⟩ => ⟨d % 24, Nat.mod_lt _ (by decide)⟩)).toNat

/-- The length argument holds the words of the lengths. -/
theorem len_eq (x : S24.Idx) : (V m (0 : Dev nD) main_arg0 : S24.Idx → BitVec 32) x = BitVec.ofNat 32 (len m (x 0).val) := by
  unfold len
  rw [BitVec.ofNat_toNat, BitVec.setWidth_eq]
  congr 1
  funext a
  match a with
  | ⟨0, _⟩ =>
    apply Fin.ext
    exact (Nat.mod_eq_of_lt (x 0).isLt).symm

/-- The codes as the call finds them. -/
abbrev zV (c : Dev nD) : Vec F S21504x1024 .fp8e4m3 := V m c main_arg1

/-- What one grid point leaves for the next ones, `zs` being the row scales. -/
def PhiN (zs : Vec F S24x7x128 .f32) (c : Dev nD) : sProp 𝕄 :=
  iprop(scr c (len m) (zV m c) zs (Memref.whole main_arg1) (Memref.whole cc0_scratch0) (Memref.whole cc0_scratch1) (Memref.whole cc0_scratch3) (Memref.whole cc0_scratch4)
      (Memref.whole cc0_scratch5) cc0_scratch6
    ∗ (∃ X : Vec F S24x8x512 .f32, ownOn c.tc (Memref.whole cc0_scratch2) Finset.univ fullShare X) ∗ ∃ r, prngReg c r)

/-- What the first grid point finds. -/
def Phi0 (c : Dev nD) : sProp 𝕄 := iprop(Pipeline.ΦD osem0 spec0 H0 (V m) c ∗ Pipeline.ΦT pre0 (tbl m) c)

variable (zs : Vec F S24x7x128 .f32)

section
open Idealize.ShloMosaic.Pipeline

/-- Owning a buffer's location is owning all entries of the whole buffer. -/
theorem whole_ownOn (c : Dev nD) (b : Ref sig .tc) (f : b.ty.Contents (Elt F)) :
    (((c.tc : Thread nD τ).loc b) ↦{fullShare} f : sProp 𝕄) ⊢ ownOn c.tc (Memref.whole b) Finset.univ fullShare f := by
  rw [← owns_whole (c.tc : Thread nD τ) b fullShare f]
  exact ownOn_of_owns c.tc (Memref.whole b) fullShare f

/-- Owning all entries of the whole buffer is owning its location. -/
theorem ownOn_whole (c : Dev nD) (b : Ref sig .tc) (f : b.ty.Contents (Elt F)) :
    (ownOn c.tc (Memref.whole b) Finset.univ fullShare f : sProp 𝕄) ⊢ (((c.tc : Thread nD τ).loc b) ↦{fullShare} f) := by
  rw [← owns_whole (c.tc : Thread nD τ) b fullShare f]
  exact owns_of_ownOn c.tc (Memref.whole b) fullShare f

/-- A buffer of unknown contents agrees with any contents where nothing is claimed. -/
theorem whole_agree (c : Dev nD) (b : Ref sig .tc) (P : b.ty.Idx → Prop) (B : b.ty.Idx → Elt F b.ty.elt) (hP : ∀ y, ¬ P y) :
    (iprop(∃ f : Buf (Elt F) ((c.tc : Thread nD τ).loc b), ((c.tc : Thread nD τ).loc b) ↦{fullShare} f) : sProp 𝕄)
      ⊢ agree c.tc (Memref.whole b) Finset.univ P B := by
  iintro ⟨%f, H⟩
  ihave H := (whole_ownOn c b f) $$ H
  iapply (agree_of_ownOn c.tc (Memref.whole b) (P := P) (B := B) fun y _ hy => absurd hy (hP y)) $$ H

/-- A whole buffer of which some entries are known is a buffer of some contents. -/
theorem agree_whole (c : Dev nD) (b : Ref sig .tc) (P : b.ty.Idx → Prop) (B : b.ty.Idx → Elt F b.ty.elt) :
    (agree c.tc (Memref.whole b) Finset.univ P B : sProp 𝕄)
      ⊢ iprop(∃ f : Buf (Elt F) ((c.tc : Thread nD τ).loc b), ((c.tc : Thread nD τ).loc b) ↦{fullShare} f) := by
  unfold agree
  iintro ⟨%X, -, H⟩
  iexists X
  iapply (ownOn_whole c b X) $$ H
end

end Cert.Proof.KernelIdeal
-- ==== Proof.Run2.lean ====
module

public import proofs.«01_k».proof.Proof.Run1

@[expose] public section

set_option maxRecDepth 16384

noncomputable section

namespace Cert.Proof.KernelIdeal

open Cert.KernelIdeal Cert.KernelIdeal.Gen Cert.Proof
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

open Idealize.ShloMosaic.Pipeline (Dat Cfg Window BodyObligationLoose)

local notation "𝕄" => MT nD τ sig Unit (Elt F) ℕ (Pipeline.UD sig nD τ) ℕ

variable (m : (ℓ : Loc nD τ sig) → Buf (Elt F) ℓ) (ρ : Dev nD → PrngReg)

/-- Window `w`'s block of its array at point `t`. -/
def iblk (c : Dev nD) (w : Fin (cfgA m).W) (t : Fin (cfgA m).N) : (((cfgA m).win w).xblock ((cfgA m).grid.coords t)).Idx → Elt F ((cfgA m).win w).elt :=
  (((cfgA m).win w).blk t).view.read (Elt F) (V m c (Pipeline.arrRef spec0 w))

/-- The grid has a step. -/
theorem N_pos : 0 < grid0.N := by decide

/-- The row scales, the one block of window 0. -/
def zsV (c : Dev nD) : Vec F S24x7x128 .f32 := iblk m c 0 ⟨0, N_pos⟩

/-- The scales window's block is the whole of the scales at each step. -/
theorem iblk_zs (c : Dev nD) (t : Fin (cfgA m).N) : iblk m c 0 t = zsV m c := rfl

/-- An input block in its staging buffer, `d` past the array's end. -/
def sblk (c : Dev nD) (w : Fin (cfgA m).W) (t : Fin (cfgA m).N) (d : ((cfgA m).win w).block.Idx → Elt F ((cfgA m).win w).elt) :
    ((cfgA m).win w).block.Idx → Elt F ((cfgA m).win w).elt :=
  ((cfgA m).win w).fill ((cfgA m).grid.coords t) d (iblk m c w t)

variable [∀ e, Nonempty (Elt F e)]

/-- Some contents, for what the transfers do not reach. -/
def junk (w : Fin (cfgA m).W) : ((cfgA m).win w).block.Idx → Elt F ((cfgA m).win w).elt := fun _ => Classical.arbitrary _

/-- The pooled block the body leaves at point `t`, from the blocks with `d1`, `d2`, `d3` past the array's end. -/
def outB (c : Dev nD) (t : Fin (cfgA m).N) (d1 : Vec F S512x1024 .fp8e4m3) (d2 d3 : Vec F S1x512 .f32) : Vec F S24x512 .f32 :=
  outV (len m) (zV m c) (zsV m c) (sblk m c 1 t d1) (sblk m c 2 t d2) (sblk m c 3 t d3)

/-- The invariant before point `n`. -/
def PhiS (c : Dev nD) : ℕ → sProp 𝕄
  | 0 => Phi0 m c
  | _ + 1 => PhiN m (zsV m c) c

/-- The proof data of the call. -/
def dats (_ : Fin 1) (c : Dev nD) : Dat τ (Elt F) Unit ℕ (Pipeline.UD sig nD τ) ℕ (cfgA m) c where
  A w := V m c (Pipeline.arrRef spec0 w)
  after w t := match w with
    | ⟨0, _⟩ => zsV m c
    | ⟨1, _⟩ => sblk m c 1 t (junk m 1)
    | ⟨2, _⟩ => sblk m c 2 t (junk m 2)
    | ⟨3, _⟩ => sblk m c 3 t (junk m 3)
    | ⟨4, _⟩ => outB m c t (junk m 1) (junk m 2) (junk m 3)
  Φ t := PhiS m c t.val
  q _ := fullShare
  owed _ := 0

/-- Each window's array before the run. -/
theorem A_eq (c : Dev nD) (w : Fin (cfgA m).W) : (dats m 0 c).A w = V m c (Pipeline.arrRef spec0 w) := by
  dsimp only [dats]

/-- The scales block is unchanged by a step. -/
theorem after0 (c : Dev nD) (t : Fin (cfgA m).N) : (dats m 0 c).after 0 t = zsV m c := rfl
/-- After a step the weight block holds the step's part of the weights. -/
theorem after1 (c : Dev nD) (t : Fin (cfgA m).N) : (dats m 0 c).after 1 t = sblk m c 1 t (junk m 1) := rfl
/-- After a step the block of window 2 holds the step's part of its array. -/
theorem after2 (c : Dev nD) (t : Fin (cfgA m).N) : (dats m 0 c).after 2 t = sblk m c 2 t (junk m 2) := rfl
/-- After a step the block of window 3 holds the step's part of its array. -/
theorem after3 (c : Dev nD) (t : Fin (cfgA m).N) : (dats m 0 c).after 3 t = sblk m c 3 t (junk m 3) := rfl
/-- After a step the output block holds the step's result. -/
theorem after4 (c : Dev nD) (t : Fin (cfgA m).N) : (dats m 0 c).after 4 t = outB m c t (junk m 1) (junk m 2) (junk m 3) := rfl

/-- The part of a clipped block inside the array is the array's part. -/
theorem cut_sblk (c : Dev nD) (w : Fin (cfgA m).W) (t : Fin (cfgA m).N) (d) :
    ((cfgA m).win w).cut ((cfgA m).grid.coords t) (sblk m c w t d) = iblk m c w t := by
  unfold sblk; exact Window.cut_fill _ _ _ _

/-- A window's block at a step is read from the array before the run. -/
theorem blockOf_eq (c : Dev nD) (w : Fin (cfgA m).W) (t : Fin (cfgA m).N) : (dats m 0 c).blockOf w t = iblk m c w t := by
  unfold Dat.blockOf iblk; rw [A_eq]

/-- Before a step the scales block holds the scales. -/
theorem before0 (c : Dev nD) (t : Fin (cfgA m).N) (d) : (dats m 0 c).before 0 t d = zsV m c := by
  refine ((dats m 0 c).before_in_eq_fetched 0 rfl (fun _ => rfl) (fun _ _ _ => rfl) (fun t => ?_) t d).trans ?_
  · rw [blockOf_eq, after0]; exact (iblk_zs m c t).symm
  · unfold Dat.fetched; rw [blockOf_eq, iblk_zs]; rfl

/-- Before a step the weight block holds the step's weights. -/
theorem before1 (c : Dev nD) (t : Fin (cfgA m).N) (d) : (dats m 0 c).before 1 t d = sblk m c 1 t d := by
  refine ((dats m 0 c).before_in_eq_fetched 1 rfl (fun _ => rfl) (fun t t' h => ?_) (fun t => ?_) t d).trans ?_
  · have h' : cc0_transform_2 ((cfgA m).grid.coords t) = cc0_transform_2 ((cfgA m).grid.coords t') := h
    show clip0_1 _ = clip0_1 _
    unfold clip0_1
    rw [h']
  · rw [blockOf_eq, after1]; exact cut_sblk m c 1 t _
  · unfold Dat.fetched; rw [blockOf_eq]; rfl

/-- Before a step the block of window 2 holds its part of the array. -/
theorem before2 (c : Dev nD) (t : Fin (cfgA m).N) (d) : (dats m 0 c).before 2 t d = sblk m c 2 t d := by
  refine ((dats m 0 c).before_in_eq_fetched 2 rfl (fun _ => rfl) (fun t t' h => ?_) (fun t => ?_) t d).trans ?_
  · have h' : cc0_transform_3 ((cfgA m).grid.coords t) = cc0_transform_3 ((cfgA m).grid.coords t') := h
    show clip0_2 _ = clip0_2 _
    unfold clip0_2
    rw [h']
  · rw [blockOf_eq, after2]; exact cut_sblk m c 2 t _
  · unfold Dat.fetched; rw [blockOf_eq]; rfl

/-- Before a step the block of window 3 holds its part of the array. -/
theorem before3 (c : Dev nD) (t : Fin (cfgA m).N) (d) : (dats m 0 c).before 3 t d = sblk m c 3 t d := by
  refine ((dats m 0 c).before_in_eq_fetched 3 rfl (fun _ => rfl) (fun t t' h => ?_) (fun t => ?_) t d).trans ?_
  · have h' : cc0_transform_4 ((cfgA m).grid.coords t) = cc0_transform_4 ((cfgA m).grid.coords t') := h
    show clip0_3 _ = clip0_3 _
    unfold clip0_3
    rw [h']
  · rw [blockOf_eq, after3]; exact cut_sblk m c 3 t _
  · unfold Dat.fetched; rw [blockOf_eq]; rfl

/-- What holds before step `t`. -/
theorem Phi_castSucc (c : Dev nD) (t : Fin (cfgA m).N) : (dats m 0 c).Φ t.castSucc = PhiS m c t.val := by dsimp only [dats]; rfl
/-- What holds after step `t`. -/
theorem Phi_succ (c : Dev nD) (t : Fin (cfgA m).N) : (dats m 0 c).Φ t.succ = PhiN m (zsV m c) c := by dsimp only [dats]; rfl

/-- Owing some waits is the run's obligation at a step. -/
theorem owes_intro (c : Dev nD) (t : Fin ((cfgA m).N + 1)) : (iprop(∃ W, owes (c.tc : Thread nD τ) 0 W) : sProp 𝕄) ⊢ (dats m 0 c).owesAt () t := by
  unfold Pipeline.Dat.owesAt Pipeline.owesWithin Pipeline.Dat.bound
  iintro ⟨%W, HO⟩; iexists W; isplitr; · ipureintro; exact fun _ _ => Or.inl trivial
  iexact HO

/-- The run's obligation at a step is owing some waits. -/
theorem owes_elim (c : Dev nD) (t : Fin ((cfgA m).N + 1)) : ((dats m 0 c).owesAt () t : sProp 𝕄) ⊢ iprop(∃ W, owes (c.tc : Thread nD τ) 0 W) := by
  unfold Pipeline.Dat.owesAt Pipeline.owesWithin
  iintro ⟨%W, -, HO⟩; iexists W; iexact HO

/-- What the first point finds, in the body's terms. -/
theorem enter (c : Dev nD) : Phi0 m c ⊢ iprop(ownOn (Val := Elt F) (e := .i32) c.tc (Memref.whole main_arg0) Finset.univ fullShare.right (V m (0 : Dev nD) main_arg0)
    ∗ scr0 c (len m) (zV m c) (zsV m c) (Memref.whole main_arg1) (Memref.whole cc0_scratch0) (Memref.whole cc0_scratch1) (Memref.whole cc0_scratch3) (Memref.whole cc0_scratch4)
      (Memref.whole cc0_scratch5) cc0_scratch6
    ∗ (∃ X : Vec F S24x8x512 .f32, ownOn c.tc (Memref.whole cc0_scratch2) Finset.univ fullShare X) ∗ ∃ r, prngReg c r) := by
  have hΦT : (Pipeline.ΦT pre0 (tbl m) c : sProp 𝕄) = iprop(owns (Val := Elt F) (c.tc : Thread nD τ) (Memref.whole main_arg0) fullShare.right (V m (0 : Dev nD) main_arg0)) := by
    rw [owns_whole]
    unfold Pipeline.ΦT Pipeline.prefHeld
    exact (congrArg (fun S => bigSep S _) (show (Finset.univ : Finset (Fin 1)) = {(0 : Fin 1)} from by decide)).trans BI.bigSep_singleton
  unfold Phi0 scr0 known
  rw [Pipeline.ΦD_eq, scopedRest0_eq, ownSems0_eq, hbmPts0_eq, hΦT]
  iintro ⟨⟨⟨H0, H1, ⟨%f2, H2⟩, H3, H4, ⟨%f5, H5⟩⟩, HR, HS, HZ⟩, HT⟩
  ihave H0 := (whole_agree c cc0_scratch0 (fun _ => False) (ZB (len m) (zV m c)) fun _ h => h) $$ H0
  ihave H1 := (whole_agree c cc0_scratch1 (fun y => (y 0).val / 32 < 0) (SB (len m) (zsV m c)) fun _ h => Nat.not_lt_zero _ h) $$ H1
  ihave H3 := (whole_agree c cc0_scratch3 (fun y => (y 0).val < 0) (DB (len m)) fun _ h => Nat.not_lt_zero _ h) $$ H3
  ihave H4 := (whole_agree c cc0_scratch4 (fun y => (y 0).val < 0) (CB (len m)) fun _ h => Nat.not_lt_zero _ h) $$ H4
  ihave H2 := (whole_ownOn c cc0_scratch2 f2) $$ H2
  ihave H5 := (whole_ownOn c cc0_scratch5 f5) $$ H5
  ihave HZ := (whole_ownOn c main_arg1 (V m c main_arg1)) $$ HZ
  ihave HT := (ownOn_of_owns c.tc (Memref.whole main_arg0) fullShare.right _) $$ HT
  isplitl [HT]; · iexact HT
  isplitl [HZ H0 H1 H3 H4 H5 HS]
  · isplitl [HZ]; · iexact HZ
    isplitl [H0]; · iexact H0
    isplitl [H1 H3 H4]
    · isplitl [H1]; · iexact H1
      isplitl [H3]; · iexact H3
      iexact H4
    isplitl [H5]; · iexists f5; iexact H5
    iexact HS
  isplitl [H2]; · iexists f2; iexact H2
  iexact HR

/-- What the last point leaves is what the launch takes back. -/
theorem leave (c : Dev nD) : PhiN m (zsV m c) c ⊢ (Pipeline.ΦD osem0 spec0 H0 (V m) c : sProp 𝕄) := by
  unfold PhiN scr known
  rw [Pipeline.ΦD_eq, scopedRest0_eq, ownSems0_eq, hbmPts0_eq]
  iintro ⟨⟨HZ, H0, ⟨H1, H3, H4⟩, H5, HS⟩, ⟨%f2, H2⟩, HR⟩
  ihave H0 := (agree_whole c cc0_scratch0 _ _) $$ H0
  ihave H1 := (agree_whole c cc0_scratch1 _ _) $$ H1
  ihave H3 := (agree_whole c cc0_scratch3 _ _) $$ H3
  ihave H4 := (agree_whole c cc0_scratch4 _ _) $$ H4
  ihave H2 := (ownOn_whole c cc0_scratch2 f2) $$ H2
  ihave H5 := (ownOn_whole c cc0_scratch5 _) $$ H5
  ihave HZ := (ownOn_whole c main_arg1 _) $$ HZ
  isplitl [H0 H1 H2 H3 H4 H5]
  · isplitl [H0]; · iexact H0
    isplitl [H1]; · iexact H1
    isplitl [H2]; · iexists _; iexact H2
    isplitl [H3]; · iexact H3
    isplitl [H4]; · iexact H4
    iexists _; iexact H5
  isplitl [HR]; · iexact HR
  isplitl [HS]; · iexact HS
  iexact HZ

end Cert.Proof.KernelIdeal
-- ==== Proof.Run3.lean ====
module

public import proofs.«01_k».proof.Proof.Run2

@[expose] public section

set_option maxRecDepth 16384

noncomputable section

namespace Cert.Proof.KernelIdeal

open Cert.KernelIdeal Cert.KernelIdeal.Gen Cert.Proof
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

open Idealize.ShloMosaic.Pipeline (Dat Cfg Window BodyObligationLoose)

local notation "𝕄" => MT nD τ sig Unit (Elt F) ℕ (Pipeline.UD sig nD τ) ℕ

variable (m : (ℓ : Loc nD τ sig) → Buf (Elt F) ℓ) (ρ : Dev nD → PrngReg)

/-- The first grid point is the one that prepares. -/
theorem cond1_iff : ∀ t : Fin grid0.N, k0_cond1 (grid0.coords t) = 1#1 ↔ t.val = 0 := by decide +kernel

variable [∀ e, Nonempty (Elt F e)]

/-- The body's row of the table of definitions. -/
theorem defs₀_row (t : Fin (cfgA m).N) :
    (defs₀ (F := F)) .tc (cfgA m).body ((cfgA m).bodyArgs t ((cfgA m).slots t))
      = cc0_pool (F := F) (grid0.coords t) (Memref.whole main_arg0) (Memref.isWhole_whole _) (Memref.whole main_arg1) (Memref.isWhole_whole _)
          (((cfgA m).win 0).stage ((cfgA m).slots t 0)) (hstage0 0 _) (((cfgA m).win 1).stage ((cfgA m).slots t 1)) (hstage0 1 _)
          (((cfgA m).win 2).stage ((cfgA m).slots t 2)) (hstage0 2 _) (((cfgA m).win 3).stage ((cfgA m).slots t 3)) (hstage0 3 _)
          (((cfgA m).win 4).stage ((cfgA m).slots t 4)) (hstage0 4 _)
          (Memref.whole cc0_scratch0) (Memref.isWhole_whole _) (Memref.whole cc0_scratch1) (Memref.isWhole_whole _) (Memref.whole cc0_scratch2) (Memref.isWhole_whole _)
          (Memref.whole cc0_scratch3) (Memref.isWhole_whole _) (Memref.whole cc0_scratch4) (Memref.isWhole_whole _) (Memref.whole cc0_scratch5) (Memref.isWhole_whole _) cc0_scratch6 := by
  unfold defs₀; rw [Defs.onTc_tc]; rfl

/-- One grid point: from the blocks it finds to the pooled block it leaves. -/
theorem point (hL : ∀ d, len m d ≤ 896) (c : Dev nD) (t : Fin (cfgA m).N) (d1 : Vec F S512x1024 .fp8e4m3) (d2 d3 : Vec F S1x512 .f32) {Q : PUnit → sProp 𝕄} :
    (iprop(PhiS m c t.val ∗ (∃ W, owes (c.tc : Thread nD τ) 0 W) ∗ owns (c.tc : Thread nD τ) (((cfgA m).win 0).stage ((cfgA m).slots t 0)) fullShare (zsV m c) ∗ owns (c.tc : Thread nD τ) (((cfgA m).win 1).stage ((cfgA m).slots t 1)) fullShare (sblk m c 1 t d1) ∗ owns (c.tc : Thread nD τ) (((cfgA m).win 2).stage ((cfgA m).slots t 2)) fullShare (sblk m c 2 t d2) ∗ owns (c.tc : Thread nD τ) (((cfgA m).win 3).stage ((cfgA m).slots t 3)) fullShare (sblk m c 3 t d3) ∗ ∃ X, owns (c.tc : Thread nD τ) (((cfgA m).win 4).stage ((cfgA m).slots t 4)) fullShare X) : sProp 𝕄)
      ⊢ iprop((PhiN m (zsV m c) c ∗ (∃ W, owes (c.tc : Thread nD τ) 0 W) ∗ owns (c.tc : Thread nD τ) (((cfgA m).win 0).stage ((cfgA m).slots t 0)) fullShare (zsV m c) ∗ owns (c.tc : Thread nD τ) (((cfgA m).win 1).stage ((cfgA m).slots t 1)) fullShare (sblk m c 1 t d1) ∗ owns (c.tc : Thread nD τ) (((cfgA m).win 2).stage ((cfgA m).slots t 2)) fullShare (sblk m c 2 t d2) ∗ owns (c.tc : Thread nD τ) (((cfgA m).win 3).stage ((cfgA m).slots t 3)) fullShare (sblk m c 3 t d3) ∗ owns (c.tc : Thread nD τ) (((cfgA m).win 4).stage ((cfgA m).slots t 4)) fullShare (outB m c t d1 d2 d3) -∗ Q PUnit.unit)
        -∗ wp frame (wpE (defs₀ (F := F)) Variants.none c.tc none) Set.univ (defs₀ .tc (cfgA m).body ((cfgA m).bodyArgs t ((cfgA m).slots t))) Q) := by
  rw [defs₀_row]
  iintro ⟨HΦ, Ho, H0, H1, H2, H3, ⟨%X, H4⟩⟩ Hk
  ihave H0 := (ownOn_of_owns c.tc (((cfgA m).win 0).stage ((cfgA m).slots t 0)) fullShare (zsV m c)) $$ H0
  ihave H1 := (ownOn_of_owns c.tc (((cfgA m).win 1).stage ((cfgA m).slots t 1)) fullShare (sblk m c 1 t d1)) $$ H1
  ihave H2 := (ownOn_of_owns c.tc (((cfgA m).win 2).stage ((cfgA m).slots t 2)) fullShare (sblk m c 2 t d2)) $$ H2
  ihave H3 := (ownOn_of_owns c.tc (((cfgA m).win 3).stage ((cfgA m).slots t 3)) fullShare (sblk m c 3 t d3)) $$ H3
  ihave H4 := (ownOn_of_owns c.tc (((cfgA m).win 4).stage ((cfgA m).slots t 4)) fullShare X) $$ H4
  rcases Nat.eq_zero_or_pos t.val with h0 | h0
  · have hΦ : PhiS m c t.val = Phi0 m c := by rw [h0]; rfl
    have hΦ' : (PhiS m c t.val : sProp 𝕄) ⊢ Phi0 m c := entails_of_eq hΦ
    ihave HΦ := hΦ' $$ HΦ
    ihave HΦ := (enter m c) $$ HΦ
    icases HΦ with ⟨HT, HS, HX, HR⟩
    iapply (pool_first (defs := defs₀ (F := F)) Variants.none c (countersEmb (U := Pipeline.UD sig nD τ)) () (len m) (zV m c) (zsV m c) hL (grid0.coords t) (Memref.whole main_arg0) (Memref.isWhole_whole _) (Memref.whole main_arg1) (Memref.isWhole_whole _)
      (((cfgA m).win 0).stage ((cfgA m).slots t 0)) (hstage0 0 _) (((cfgA m).win 1).stage ((cfgA m).slots t 1)) (hstage0 1 _) (((cfgA m).win 2).stage ((cfgA m).slots t 2)) (hstage0 2 _) (((cfgA m).win 3).stage ((cfgA m).slots t 3)) (hstage0 3 _) (((cfgA m).win 4).stage ((cfgA m).slots t 4)) (hstage0 4 _)
      (Memref.whole cc0_scratch0) (Memref.isWhole_whole _) (Memref.whole cc0_scratch1) (Memref.isWhole_whole _) (Memref.whole cc0_scratch2) (Memref.isWhole_whole _)
      (Memref.whole cc0_scratch3) (Memref.isWhole_whole _) (Memref.whole cc0_scratch4) (Memref.isWhole_whole _) (Memref.whole cc0_scratch5) (Memref.isWhole_whole _) cc0_scratch6
      ((cond1_iff t).mpr h0) fullShare.right (V m (0 : Dev nD) main_arg0) (len_eq m) (sblk m c 1 t d1) (sblk m c 2 t d2) (sblk m c 3 t d3)) $$ [HT H0 HS Ho HX H1 H2 H3 H4]
    · isplitl [HT]; · iexact HT
      isplitl [H0]; · iexact H0
      isplitl [HS]; · iexact HS
      isplitl [Ho]; · iexact Ho
      isplitl [HX]; · iexact HX
      isplitl [H1]; · iexact H1
      isplitl [H2]; · iexact H2
      isplitl [H3]; · iexact H3
      iexists X; iexact H4
    iintro ⟨-, H0, HS, Ho, HX, H1, H2, H3, H4⟩
    iapply Hk
    isplitl [HS HX HR]
    · unfold PhiN
      isplitl [HS]; · iexact HS
      isplitl [HX]; · iexact HX
      iexact HR
    isplitl [Ho]; · iexact Ho
    isplitl [H0]; · iapply (owns_of_ownOn c.tc (((cfgA m).win 0).stage ((cfgA m).slots t 0)) fullShare (zsV m c)); iexact H0
    isplitl [H1]; · iapply (owns_of_ownOn c.tc (((cfgA m).win 1).stage ((cfgA m).slots t 1)) fullShare (sblk m c 1 t d1)); iexact H1
    isplitl [H2]; · iapply (owns_of_ownOn c.tc (((cfgA m).win 2).stage ((cfgA m).slots t 2)) fullShare (sblk m c 2 t d2)); iexact H2
    isplitl [H3]; · iapply (owns_of_ownOn c.tc (((cfgA m).win 3).stage ((cfgA m).slots t 3)) fullShare (sblk m c 3 t d3)); iexact H3
    iapply (owns_of_ownOn c.tc (((cfgA m).win 4).stage ((cfgA m).slots t 4)) fullShare (outB m c t d1 d2 d3)); iexact H4
  · have hΦ : PhiS m c t.val = PhiN m (zsV m c) c := by
      obtain ⟨n, hn⟩ := Nat.exists_eq_succ_of_ne_zero (Nat.pos_iff_ne_zero.mp h0)
      rw [hn]; rfl
    have hΦ' : (PhiS m c t.val : sProp 𝕄) ⊢ PhiN m (zsV m c) c := entails_of_eq hΦ
    ihave HΦ := hΦ' $$ HΦ
    unfold PhiN
    icases HΦ with ⟨HS, HX, HR⟩
    iapply (pool_next (defs := defs₀ (F := F)) Variants.none c (len m) (zV m c) (zsV m c) hL (grid0.coords t) (Memref.whole main_arg0) (Memref.isWhole_whole _) (Memref.whole main_arg1) (Memref.isWhole_whole _)
      (((cfgA m).win 0).stage ((cfgA m).slots t 0)) (hstage0 0 _) (((cfgA m).win 1).stage ((cfgA m).slots t 1)) (hstage0 1 _) (((cfgA m).win 2).stage ((cfgA m).slots t 2)) (hstage0 2 _) (((cfgA m).win 3).stage ((cfgA m).slots t 3)) (hstage0 3 _) (((cfgA m).win 4).stage ((cfgA m).slots t 4)) (hstage0 4 _)
      (Memref.whole cc0_scratch0) (Memref.isWhole_whole _) (Memref.whole cc0_scratch1) (Memref.isWhole_whole _) (Memref.whole cc0_scratch2) (Memref.isWhole_whole _)
      (Memref.whole cc0_scratch3) (Memref.isWhole_whole _) (Memref.whole cc0_scratch4) (Memref.isWhole_whole _) (Memref.whole cc0_scratch5) (Memref.isWhole_whole _) cc0_scratch6
      (fun h => (Nat.pos_iff_ne_zero.mp h0) ((cond1_iff t).mp h)) (sblk m c 1 t d1) (sblk m c 2 t d2) (sblk m c 3 t d3)) $$ [HS HX H1 H2 H3 H4]
    · isplitl [HS]; · iexact HS
      isplitl [HX]; · iexact HX
      isplitl [H1]; · iexact H1
      isplitl [H2]; · iexact H2
      isplitl [H3]; · iexact H3
      iexists X; iexact H4
    iintro ⟨HS, HX, H1, H2, H3, H4⟩
    iapply Hk
    isplitl [HS HX HR]
    · isplitl [HS]; · iexact HS
      isplitl [HX]; · iexact HX
      iexact HR
    isplitl [Ho]; · iexact Ho
    isplitl [H0]; · iapply (owns_of_ownOn c.tc (((cfgA m).win 0).stage ((cfgA m).slots t 0)) fullShare (zsV m c)); iexact H0
    isplitl [H1]; · iapply (owns_of_ownOn c.tc (((cfgA m).win 1).stage ((cfgA m).slots t 1)) fullShare (sblk m c 1 t d1)); iexact H1
    isplitl [H2]; · iapply (owns_of_ownOn c.tc (((cfgA m).win 2).stage ((cfgA m).slots t 2)) fullShare (sblk m c 2 t d2)); iexact H2
    isplitl [H3]; · iapply (owns_of_ownOn c.tc (((cfgA m).win 3).stage ((cfgA m).slots t 3)) fullShare (sblk m c 3 t d3)); iexact H3
    iapply (owns_of_ownOn c.tc (((cfgA m).win 4).stage ((cfgA m).slots t 4)) fullShare (outB m c t d1 d2 d3)); iexact H4

end Cert.Proof.KernelIdeal
-- ==== Proof.Run4.lean ====
module

public import proofs.«01_k».proof.Proof.Run3

@[expose] public section

set_option maxRecDepth 16384

noncomputable section

namespace Cert.Proof.KernelIdeal

open Cert.KernelIdeal Cert.KernelIdeal.Gen Cert.Proof
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

open Idealize.ShloMosaic.Pipeline (Dat Cfg Window BodyObligationLoose)

local notation "𝕄" => MT nD τ sig Unit (Elt F) ℕ (Pipeline.UD sig nD τ) ℕ

variable (m : (ℓ : Loc nD τ sig) → Buf (Elt F) ℓ) (ρ : Dev nD → PrngReg) [∀ e, Nonempty (Elt F e)]

/-- The window nothing is said of, when only the arguments matter: the result. -/
def fgt : Fin (cfgA m).W → Bool := fun w => decide (w = (4 : Fin 5))

/-- One grid point, nothing said of the result's block. -/
theorem loose_point (hL : ∀ d, len m d ≤ 896) (c : Dev nD) (t : Fin (cfgA m).N) :
    (iprop((dats m 0 c).Φ t.castSucc ∗ (dats m 0 c).owesAt () t.castSucc ∗ (∃ d, owns (c.tc : Thread nD τ) (((cfgA m).win 0).stage ((cfgA m).slots t 0)) fullShare ((dats m 0 c).before 0 t d)) ∗ (∃ d, owns (c.tc : Thread nD τ) (((cfgA m).win 1).stage ((cfgA m).slots t 1)) fullShare ((dats m 0 c).before 1 t d)) ∗ (∃ d, owns (c.tc : Thread nD τ) (((cfgA m).win 2).stage ((cfgA m).slots t 2)) fullShare ((dats m 0 c).before 2 t d)) ∗ (∃ d, owns (c.tc : Thread nD τ) (((cfgA m).win 3).stage ((cfgA m).slots t 3)) fullShare ((dats m 0 c).before 3 t d)) ∗ ∃ X, owns (c.tc : Thread nD τ) (((cfgA m).win 4).stage ((cfgA m).slots t 4)) fullShare X) : sProp 𝕄)
      ⊢ wp frame (wpE (defs₀ (F := F)) Variants.none c.tc none) Set.univ (defs₀ .tc (cfgA m).body ((cfgA m).bodyArgs t ((cfgA m).slots t)))
        fun _ => iprop((dats m 0 c).Φ t.succ ∗ (dats m 0 c).owesAt () t.succ ∗ owns (c.tc : Thread nD τ) (((cfgA m).win 0).stage ((cfgA m).slots t 0)) fullShare ((dats m 0 c).after 0 t) ∗ (∃ d, owns (c.tc : Thread nD τ) (((cfgA m).win 1).stage ((cfgA m).slots t 1)) fullShare (((cfgA m).win 1).fill ((cfgA m).grid.coords t) d (((cfgA m).win 1).cut ((cfgA m).grid.coords t) ((dats m 0 c).after 1 t)))) ∗ (∃ d, owns (c.tc : Thread nD τ) (((cfgA m).win 2).stage ((cfgA m).slots t 2)) fullShare (((cfgA m).win 2).fill ((cfgA m).grid.coords t) d (((cfgA m).win 2).cut ((cfgA m).grid.coords t) ((dats m 0 c).after 2 t)))) ∗ (∃ d, owns (c.tc : Thread nD τ) (((cfgA m).win 3).stage ((cfgA m).slots t 3)) fullShare (((cfgA m).win 3).fill ((cfgA m).grid.coords t) d (((cfgA m).win 3).cut ((cfgA m).grid.coords t) ((dats m 0 c).after 3 t)))) ∗ ∃ X, owns (c.tc : Thread nD τ) (((cfgA m).win 4).stage ((cfgA m).slots t 4)) fullShare X) := by
  rw [Phi_castSucc, Phi_succ, after0, after1, after2, after3]
  simp only [before0, before1, before2, before3]
  iintro ⟨HΦ, Ho, ⟨%d0, H0⟩, ⟨%d1, H1⟩, ⟨%d2, H2⟩, ⟨%d3, H3⟩, ⟨%d4, H4⟩⟩
  ihave Ho := (owes_elim m c t.castSucc) $$ Ho
  iapply (point m hL c t d1 d2 d3) $$ [HΦ Ho H0 H1 H2 H3 H4]
  · isplitl [HΦ]; · iexact HΦ
    isplitl [Ho]; · iexact Ho
    isplitl [H0]; · iexact H0
    isplitl [H1]; · iexact H1
    isplitl [H2]; · iexact H2
    isplitl [H3]; · iexact H3
    iexists _; iexact H4
  iintro ⟨HΦ, Ho, H0, H1, H2, H3, H4⟩
  isplitl [HΦ]; · iexact HΦ
  isplitl [Ho]; · iapply (owes_intro m c t.succ); iexact Ho
  isplitl [H0]; · iexact H0
  isplitl [H1]; · iexists d1; rw [cut_sblk]; iexact H1
  isplitl [H2]; · iexists d2; rw [cut_sblk]; iexact H2
  isplitl [H3]; · iexists d3; rw [cut_sblk]; iexact H3
  iexists _; iexact H4

/-- With lengths of at most 896, each step of the kernel is safe, its output left open. -/
theorem body_forget (hL : ∀ d, len m d ≤ 896) (c : Dev nD) : BodyObligationLoose (dats (F := F) m 0 c) (defs₀ (F := F)) Variants.none () Set.univ (fgt m) := fun t => by
  rw [bigSep_W0, bigSep_W0]
  exact loose_point m hL c t

/-- If the output inside the array does not depend on the entries past the edge, they may be chosen freely. -/
theorem out_fill (hcut : ∀ (c : Dev nD) (t : Fin (cfgA m).N) d1 d2 d3, ((cfgA m).win 4).cut ((cfgA m).grid.coords t) (outB m c t d1 d2 d3)
      = ((cfgA m).win 4).cut ((cfgA m).grid.coords t) (outB m c t (junk m 1) (junk m 2) (junk m 3))) (c : Dev nD) (t : Fin (cfgA m).N) (d1 d2 d3) :
    (owns (c.tc : Thread nD τ) (((cfgA m).win 4).stage ((cfgA m).slots t 4)) fullShare (outB m c t d1 d2 d3) : sProp 𝕄)
      ⊢ iprop((∃ d, owns (c.tc : Thread nD τ) (((cfgA m).win 4).stage ((cfgA m).slots t 4)) fullShare (((cfgA m).win 4).fill ((cfgA m).grid.coords t) d (((cfgA m).win 4).cut ((cfgA m).grid.coords t) (outB m c t (junk m 1) (junk m 2) (junk m 3)))))) := by
  have e : ((cfgA m).win 4).fill ((cfgA m).grid.coords t) (outB m c t d1 d2 d3) (((cfgA m).win 4).cut ((cfgA m).grid.coords t) (outB m c t (junk m 1) (junk m 2) (junk m 3)))
      = outB m c t d1 d2 d3 := by
    rw [← hcut c t d1 d2 d3]; exact Window.fill_cut _ _ _
  have e' := congrArg (fun X => (owns (c.tc : Thread nD τ) (((cfgA m).win 4).stage ((cfgA m).slots t 4)) fullShare X : sProp 𝕄)) e
  iintro H
  iexists (outB m c t d1 d2 d3)
  iapply (entails_of_eq e'.symm)
  iexact H

/-- One grid point, the result's block named where it is inside the array. -/
theorem exact_point (hL : ∀ d, len m d ≤ 896) (hcut : ∀ (c : Dev nD) (t : Fin (cfgA m).N) d1 d2 d3, ((cfgA m).win 4).cut ((cfgA m).grid.coords t) (outB m c t d1 d2 d3)
      = ((cfgA m).win 4).cut ((cfgA m).grid.coords t) (outB m c t (junk m 1) (junk m 2) (junk m 3))) (c : Dev nD) (t : Fin (cfgA m).N) :
    (iprop((dats m 0 c).Φ t.castSucc ∗ (dats m 0 c).owesAt () t.castSucc ∗ (∃ d, owns (c.tc : Thread nD τ) (((cfgA m).win 0).stage ((cfgA m).slots t 0)) fullShare ((dats m 0 c).before 0 t d)) ∗ (∃ d, owns (c.tc : Thread nD τ) (((cfgA m).win 1).stage ((cfgA m).slots t 1)) fullShare ((dats m 0 c).before 1 t d)) ∗ (∃ d, owns (c.tc : Thread nD τ) (((cfgA m).win 2).stage ((cfgA m).slots t 2)) fullShare ((dats m 0 c).before 2 t d)) ∗ (∃ d, owns (c.tc : Thread nD τ) (((cfgA m).win 3).stage ((cfgA m).slots t 3)) fullShare ((dats m 0 c).before 3 t d)) ∗ (∃ d, owns (c.tc : Thread nD τ) (((cfgA m).win 4).stage ((cfgA m).slots t 4)) fullShare ((dats m 0 c).before 4 t d))) : sProp 𝕄)
      ⊢ wp frame (wpE (defs₀ (F := F)) Variants.none c.tc none) Set.univ (defs₀ .tc (cfgA m).body ((cfgA m).bodyArgs t ((cfgA m).slots t)))
        fun _ => iprop((dats m 0 c).Φ t.succ ∗ (dats m 0 c).owesAt () t.succ ∗ owns (c.tc : Thread nD τ) (((cfgA m).win 0).stage ((cfgA m).slots t 0)) fullShare ((dats m 0 c).after 0 t) ∗ (∃ d, owns (c.tc : Thread nD τ) (((cfgA m).win 1).stage ((cfgA m).slots t 1)) fullShare (((cfgA m).win 1).fill ((cfgA m).grid.coords t) d (((cfgA m).win 1).cut ((cfgA m).grid.coords t) ((dats m 0 c).after 1 t)))) ∗ (∃ d, owns (c.tc : Thread nD τ) (((cfgA m).win 2).stage ((cfgA m).slots t 2)) fullShare (((cfgA m).win 2).fill ((cfgA m).grid.coords t) d (((cfgA m).win 2).cut ((cfgA m).grid.coords t) ((dats m 0 c).after 2 t)))) ∗ (∃ d, owns (c.tc : Thread nD τ) (((cfgA m).win 3).stage ((cfgA m).slots t 3)) fullShare (((cfgA m).win 3).fill ((cfgA m).grid.coords t) d (((cfgA m).win 3).cut ((cfgA m).grid.coords t) ((dats m 0 c).after 3 t)))) ∗ (∃ d, owns (c.tc : Thread nD τ) (((cfgA m).win 4).stage ((cfgA m).slots t 4)) fullShare (((cfgA m).win 4).fill ((cfgA m).grid.coords t) d (((cfgA m).win 4).cut ((cfgA m).grid.coords t) ((dats m 0 c).after 4 t))))) := by
  rw [Phi_castSucc, Phi_succ, after0, after1, after2, after3, after4]
  simp only [before0, before1, before2, before3]
  iintro ⟨HΦ, Ho, ⟨%d0, H0⟩, ⟨%d1, H1⟩, ⟨%d2, H2⟩, ⟨%d3, H3⟩, ⟨%d4, H4⟩⟩
  ihave Ho := (owes_elim m c t.castSucc) $$ Ho
  iapply (point m hL c t d1 d2 d3) $$ [HΦ Ho H0 H1 H2 H3 H4]
  · isplitl [HΦ]; · iexact HΦ
    isplitl [Ho]; · iexact Ho
    isplitl [H0]; · iexact H0
    isplitl [H1]; · iexact H1
    isplitl [H2]; · iexact H2
    isplitl [H3]; · iexact H3
    iexists _; iexact H4
  iintro ⟨HΦ, Ho, H0, H1, H2, H3, H4⟩
  isplitl [HΦ]; · iexact HΦ
  isplitl [Ho]; · iapply (owes_intro m c t.succ); iexact Ho
  isplitl [H0]; · iexact H0
  isplitl [H1]; · iexists d1; rw [cut_sblk]; iexact H1
  isplitl [H2]; · iexists d2; rw [cut_sblk]; iexact H2
  isplitl [H3]; · iexists d3; rw [cut_sblk]; iexact H3
  iapply (out_fill m hcut c t d1 d2 d3); iexact H4

/-- With lengths of at most 896, each step of the kernel writes the stated output block. -/
theorem body_exact (hL : ∀ d, len m d ≤ 896) (hcut : ∀ (c : Dev nD) (t : Fin (cfgA m).N) d1 d2 d3, ((cfgA m).win 4).cut ((cfgA m).grid.coords t) (outB m c t d1 d2 d3)
      = ((cfgA m).win 4).cut ((cfgA m).grid.coords t) (outB m c t (junk m 1) (junk m 2) (junk m 3))) (c : Dev nD) : BodyObligationLoose (dats (F := F) m 0 c) (defs₀ (F := F)) Variants.none () Set.univ := fun t => by
  rw [bigSep_W0, bigSep_W0]
  exact exact_point m hL hcut c t

set_option backward.isDefEq.respectTransparency.types false in
set_option maxHeartbeats 800000 in
/-- The run, nothing said of the result. -/
theorem run_forget (hL : ∀ d, len m d ≤ 896) : θ_run defs (onTc (τ := τ) (main (F := F))) ⟨m, fun _ => 0, ρ⟩
    (fun r => Pipeline.RDat.FramePost (cfgA m) (fun c => (dats m 0 c).toRForget (fgt m)) (V m) r ∧ r.2.sem = fun _ => 0) :=
  Pipeline.θ_run_frameP_dma_forget (Q' := _) pcfgs (fun _ => adm m) (dats m) (0 : Fin 1) launch0 osem0 defs₀ Variants.none (fgt m) ownSemFacts0 H0 H0_sub m ρ main
    (hbody := body_forget m hL) (hshare := fun c => (dats m 0 c).share_full fun _ => rfl) (howed := fun _ _ => rfl) (V := V m) (hmain := hmain m Variants.none)
    (hA := A_eq m) (hpf := V_pre m) (hin := fun c => .rfl) (hout := fun c => leave m c)

set_option backward.isDefEq.respectTransparency.types false in
set_option maxHeartbeats 800000 in
/-- The run, the result's blocks named. -/
theorem run_exact (hL : ∀ d, len m d ≤ 896) (hcut : ∀ (c : Dev nD) (t : Fin (cfgA m).N) d1 d2 d3, ((cfgA m).win 4).cut ((cfgA m).grid.coords t) (outB m c t d1 d2 d3)
      = ((cfgA m).win 4).cut ((cfgA m).grid.coords t) (outB m c t (junk m 1) (junk m 2) (junk m 3))) : θ_run defs (onTc (τ := τ) (main (F := F))) ⟨m, fun _ => 0, ρ⟩
    (fun r => Pipeline.FramePost (Pipeline.pin pcfgs (fun _ => adm m)) (dats m) 0 (V m) r ∧ r.2.sem = fun _ => 0) :=
  Pipeline.θ_run_frameP_dma (Q' := _) pcfgs (fun _ => adm m) (dats m) (0 : Fin 1) launch0 osem0 defs₀ Variants.none ownSemFacts0 H0 H0_sub m ρ main
    (hbody := body_exact m hL hcut) (hshare := fun c => (dats m 0 c).share_full fun _ => rfl) (howed := fun _ _ => rfl) (V := V m) (hmain := hmain m Variants.none)
    (hA := A_eq m) (hpf := V_pre m) (hin := fun c => .rfl) (hout := fun c => leave m c)

/-- The arguments end as they began, and every counter at zero. -/
theorem frame (hL : ∀ d, len m d ≤ 896) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨
      ((h.1 c).2 main_arg0 (show main_arg0 ∈ Pipeline.restRefs sig spec0 from Pipeline.mem_restRefs_of main_arg0 (by decide) (by decide))).trans (V_main_arg0 m c),
      ((h.1 c).2 main_arg1 (show main_arg1 ∈ Pipeline.restRefs sig spec0 from Pipeline.mem_restRefs_of main_arg1 (by decide) (by decide))).trans (V_main_arg1 m c),
      ((h.1 c).2 main_arg2 (show main_arg2 ∈ Pipeline.restRefs sig spec0 from Pipeline.mem_restRefs_of main_arg2 (by decide) (by decide))).trans (V_main_arg2 m c),
      (h.1.arr_in c (1 : Fin 5) rfl).trans ((A_eq m c 1).trans (V_main_arg3 m c)),
      ((h.1 c).2 main_arg4 (show main_arg4 ∈ Pipeline.restRefs sig spec0 from Pipeline.mem_restRefs_of main_arg4 (by decide) (by decide))).trans (V_main_arg4 m c),
      ((h.1 c).2 main_arg5 (show main_arg5 ∈ Pipeline.restRefs sig spec0 from Pipeline.mem_restRefs_of main_arg5 (by decide) (by decide))).trans (V_main_arg5 m c)⟩, h.2⟩) (run_forget m ρ hL)

end Cert.Proof.KernelIdeal
-- ==== Proof.Printed.lean ====
module

public import proofs.«01_k».proof.Proof.Run4
public import proofs.«01_k».proof.Proof.Gen.Kernel

@[expose] public section
set_option maxRecDepth 65536
noncomputable section
namespace Cert.Proof
open Idealize.ShloMosaic Idealize.ShloMosaic.TcCoe Idealize.SL.Sem
open Cert.Kernel.Gen Cert.KernelIdeal.Gen

/-- The memory of the kernel as printed, taken as the idealised kernel's: their buffers are the same. -/
abbrev mm (m : (ℓ : Loc Cert.Kernel.nD Cert.Kernel.τ Cert.Kernel.sig) → Buf (Elt Bits) ℓ) : (ℓ : Loc Cert.KernelIdeal.nD Cert.KernelIdeal.τ Cert.KernelIdeal.sig) → Buf (Elt Bits) ℓ := m

/-- The two programs are the same text, so that at machine floats their runs are the same statement. -/
theorem same_run (m : (ℓ : Loc Cert.Kernel.nD Cert.Kernel.τ Cert.Kernel.sig) → Buf (Elt Bits) ℓ) (ρ : Dev Cert.Kernel.nD → PrngReg) :
    (θ_run (Cert.Kernel.defs (F := Bits)) (onTc (τ := Cert.Kernel.τ) (Cert.Kernel.main (F := Bits))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0))
    = (θ_run (Cert.KernelIdeal.defs (F := Bits)) (onTc (τ := Cert.KernelIdeal.τ) (Cert.KernelIdeal.main (F := Bits))) ⟨mm m, fun _ => 0, ρ⟩ (fun r => (∀ c : Dev Cert.KernelIdeal.nD,
      r.2.mem ((c.tc : Thread Cert.KernelIdeal.nD Cert.KernelIdeal.τ).loc Cert.KernelIdeal.main_arg0) = mm m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = mm m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = mm m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = mm m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = mm m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = mm m ((c.tc : Thread Cert.KernelIdeal.nD Cert.KernelIdeal.τ).loc Cert.KernelIdeal.main_arg5))
      ∧ r.2.sem = fun _ => 0)) := by
  sl_kernel_rfl
/-- The frame of the kernel as printed, at machine floats. -/
theorem frame_bits (m : (ℓ : Loc Cert.Kernel.nD Cert.Kernel.τ Cert.Kernel.sig) → Buf (Elt Bits) ℓ) (ρ : Dev Cert.Kernel.nD → PrngReg)
    (hL : ∀ d, Cert.Proof.KernelIdeal.len (mm m) d ≤ 896) :
    θ_run (Cert.Kernel.defs (F := Bits)) (onTc (τ := Cert.Kernel.τ) (Cert.Kernel.main (F := Bits))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0) :=
  (same_run m ρ).mpr (Cert.Proof.KernelIdeal.frame (F := Bits) (mm m) ρ hL)

end Cert.Proof
-- ==== Proof.Value1.lean ====
module

public import proofs.«01_k».proof.Proof.Contents
public import Idealize.ShloMosaic.Lib.Pointwise

@[expose] public section

set_option maxRecDepth 16384

noncomputable section

namespace Cert.Proof.KernelIdeal

open Cert.KernelIdeal Cert.KernelIdeal.Gen Cert.Proof
open Idealize.ShloMosaic Idealize.SL.Sem

/-- One activation: the product `x` scaled by its row's scale and by its column's scale, the column's bias
    added, and `log1p` of the positive part. -/
def act (x s e b : EReal) : EReal := Ideal.log1p (max (x * s * e + b) 0)

/-- A block product at a row and a column is the sum over the 1024 features. -/
theorem block_apply (emb Z : Vec Ideal S512x1024 .fp8e4m3) (r c : Fin 512) :
    k0_pay33 (F := Ideal) emb Z (ix2 r c) = ∑ k : Fin 1024, (Z (ix2 r k) * emb (ix2 c k) : EReal) := by
  pointwise [k0_pay33]

/-- The accumulator starts at zero. -/
theorem zero_apply (y : S24x8x512.Idx) : k0_pay102 (F := Ideal) y = (0 : EReal) := by
  pointwise [k0_pay102]

/-- A document's result at a column is the sum of its accumulator row over the eight sublanes. -/
theorem fold_apply (X : Vec Ideal S1x8x512 .f32) (c : Fin 512) :
    k0_pay105 (F := Ideal) X (ix2 0 c) = ∑ a : Fin 8, (X (ix3 0 a c) : EReal) := by
  pointwise [k0_pay105]

/-- A comparison of two small words is the comparison of the numbers. -/
theorem slt_small {a b : ℕ} (ha : a < 2 ^ 31) (hb : b < 2 ^ 31) :
    IntOp.cmpi .slt (BitVec.ofNat 32 a) (BitVec.ofNat 32 b) = if a < b then 1#1 else 0#1 := by
  unfold IntOp.cmpi
  have h : (BitVec.ofNat 32 a).slt (BitVec.ofNat 32 b) = decide (a < b) := by
    rw [BitVec.slt_eq_decide]
    congr 1
    simp only [BitVec.toInt_eq_toNat_cond, BitVec.toNat_ofNat]
    rw [Nat.mod_eq_of_lt (by omega : a < 2 ^ 32), Nat.mod_eq_of_lt (by omega : b < 2 ^ 32), if_pos (by omega), if_pos (by omega)]
    exact propext Int.ofNat_lt
  show BitVec.ofBool ((BitVec.ofNat 32 a).slt (BitVec.ofNat 32 b)) = _
  rw [h]
  by_cases hab : a < b <;> simp [hab]

/-- A gated product of a group: the activation in the rows below the count, zero in the others. -/
theorem gated_apply (off : Fin 2 → ℕ) (hoff : S512x512.Slices off S32x512) (M : FVec Ideal S512x512 .f32) (s : Vec Ideal S32x128 .f32)
    (es bv : Vec Ideal S1x512 .f32) (n : ℕ) (hn : n < 2 ^ 31) (r : Fin 32) (c : Fin 512) (a : Fin 512) (h0 : off 0 + r.val = a.val) (h1 : off 1 = 0) :
    gatedOf (F := Ideal) off hoff M s es bv ((BitVec.ofNat 32 n : BitVec 32) : Elt Ideal .i32) (ix2 r c)
      = if r.val < n then act (M (ix2 a c)) (s (ix2 r (⟨c.val % 128, Nat.mod_lt _ (by decide)⟩ : Fin 128))) (es (ix2 0 c)) (bv (ix2 0 c)) else 0 := by
  pointwise [gatedOf]
  rw [slt_small (by omega) hn]
  have hs : (if h : c.val < 128 then s (ix2 r ⟨c.val, h⟩) else
      if h' : c.val - 128 < 128 then s (ix2 r ⟨c.val - 128, h'⟩) else
      if h'' : c.val - 128 - 128 < 128 then s (ix2 r ⟨c.val - 128 - 128, h''⟩) else
      s (ix2 r ⟨c.val - 128 - 128 - 128, by omega⟩)) = s (ix2 r (⟨c.val % 128, Nat.mod_lt _ (by decide)⟩ : Fin 128)) := by
    split_ifs <;> (congr 3; omega)
  have hM : ∀ p q, M (ix2 (⟨off 0 + r.val, p⟩ : Fin 512) (⟨off 1 + c.val, q⟩ : Fin 512)) = M (ix2 a c) := by
    intro p q; congr 2
    · exact Fin.ext h0
    · exact Fin.ext (by show off 1 + c.val = c.val; omega)
  rw [hM]
  unfold act
  rw [← hs]
  by_cases h : r.val < n
  · rw [if_pos h, if_pos h]; rfl
  · rw [if_neg h, if_neg h]; rfl

/-- What a group adds to its document's accumulator row at a sublane: the gated products of its four rows there. -/
theorem upd_apply (G : FVec Ideal S32x512 .f32) (A : Vec Ideal S1x8x512 .f32) (a : Fin 8) (c : Fin 512) :
    foldOf (F := Ideal) G A (ix3 0 a c) = (A (ix3 0 a c) : EReal)
      + (((G (ix2 (⟨a.val, by omega⟩ : Fin 32) c) + G (ix2 (⟨8 + a.val, by omega⟩ : Fin 32) c)) + G (ix2 (⟨16 + a.val, by omega⟩ : Fin 32) c))
        + G (ix2 (⟨24 + a.val, by omega⟩ : Fin 32) c)) := by
  pointwise [foldOf]
  try rfl

/-- A sum over 32 rows, eight by eight. -/
theorem sum_rows (f : ℕ → EReal) :
    ∑ a : Fin 8, (((f a.val + f (8 + a.val)) + f (16 + a.val)) + f (24 + a.val)) = ∑ r ∈ Finset.range 32, f r := by
  rw [show 32 = 8 + 8 + 8 + 8 from rfl, Finset.sum_range_add, Finset.sum_range_add, Finset.sum_range_add]
  simp only [Finset.sum_add_distrib, Finset.sum_range]

section
variable (L : ℕ → ℕ) (z : Vec Ideal S21504x1024 .fp8e4m3) (zs : Vec Ideal S24x7x128 .f32)
variable (emb : Vec Ideal S512x1024 .fp8e4m3) (es bv : Vec Ideal S1x512 .f32)

/-- Row `r` of group `t` at column `c`: the gated product, zero in the rows past the group's count. -/
def row (t r : ℕ) (c : Fin 512) : EReal :=
  if r < cntN L t then
    act (∑ k : Fin 1024, (ZB L z (ix2 (⟨(t * 32 + r) % 22016, Nat.mod_lt _ (by decide)⟩ : Fin 22016) k) * emb (ix2 c k) : EReal))
      (SB L zs (ix2 (⟨(t * 32 + r) % 22016, Nat.mod_lt _ (by decide)⟩ : Fin 22016) (⟨c.val % 128, Nat.mod_lt _ (by decide)⟩ : Fin 128))) (es (ix2 0 c)) (bv (ix2 0 c))
  else 0

/-- The four rows of group `t` on sublane `a`. -/
def part (t a : ℕ) (c : Fin 512) : EReal :=
  ((row L z zs emb es bv t a c + row L z zs emb es bv t (8 + a) c) + row L z zs emb es bv t (16 + a) c) + row L z zs emb es bv t (24 + a) c

/-- A group's count is a small number. -/
theorem cntN_lt (t : ℕ) : cntN L t < 2 ^ 31 := by
  unfold cntN cntOf; split <;> omega

/-- The gated products of group `j` of block `k`. -/
theorem group_apply (k j : ℕ) (hj : j < 16) (r : Fin 32) (c : Fin 512) :
    gatedOf (F := Ideal) ![32 * j, 0] (slices_grp hj) (k0_pay33 emb (zblk L z k)) (srows L zs (k * 16 + j)) es bv
      ((BitVec.ofNat 32 (cntN L (k * 16 + j)) : BitVec 32) : Elt Ideal .i32) (ix2 r c) = row L z zs emb es bv (k * 16 + j) r.val c := by
  rw [gated_apply _ _ _ _ _ _ _ (cntN_lt L _) r c ⟨32 * j + r.val, by omega⟩ rfl rfl, block_apply]
  have e : (k * 512 + (32 * j + r.val)) % 22016 = ((k * 16 + j) * 32 + r.val) % 22016 := by
    rw [show k * 512 + (32 * j + r.val) = (k * 16 + j) * 32 + r.val by omega]
  have hZ : ∀ i : Fin 1024, zblk (F := Ideal) L z k (ix2 (⟨32 * j + r.val, by omega⟩ : Fin 512) i)
      = ZB L z (ix2 (⟨((k * 16 + j) * 32 + r.val) % 22016, Nat.mod_lt _ (by decide)⟩ : Fin 22016) i) := fun i =>
    congrArg (fun x : Fin 22016 => ZB L z (ix2 x i)) (Fin.ext e)
  have hS : srows (F := Ideal) L zs (k * 16 + j) (ix2 r (⟨c.val % 128, Nat.mod_lt _ (by decide)⟩ : Fin 128))
      = SB L zs (ix2 (⟨((k * 16 + j) * 32 + r.val) % 22016, Nat.mod_lt _ (by decide)⟩ : Fin 22016) (⟨c.val % 128, Nat.mod_lt _ (by decide)⟩ : Fin 128)) := by
    unfold srows; rfl
  simp only [hZ]
  rw [hS]
  unfold row
  rfl

/-- One group's step at an entry of the accumulator. -/
theorem stepJ_apply (k j : ℕ) (hj : j < 16) (A : Vec Ideal S24x8x512 .f32) (d : Fin 24) (a : Fin 8) (c : Fin 512) :
    stepJ (F := Ideal) L z zs k emb es bv j A (ix3 d a c)
      = (A (ix3 d a c) + if d.val = docN L (k * 16 + j) then part L z zs emb es bv (k * 16 + j) a.val c else 0 : EReal) := by
  unfold stepJ
  rw [dif_pos hj]
  unfold stepAcc
  by_cases h : d.val = docN L (k * 16 + j)
  · have h' : ((ix3 d a c : S24x8x512.Idx) 0).val = docN L (k * 16 + j) := h
    rw [if_pos h', if_pos h]
    unfold grpUpd
    refine (upd_apply _ _ _ _).trans ?_
    rw [group_apply L z zs emb es bv k j hj, group_apply L z zs emb es bv k j hj, group_apply L z zs emb es bv k j hj, group_apply L z zs emb es bv k j hj]
    unfold part
    congr 1
    unfold rowOf
    congr 2
    exact Fin.ext (by show docN L (k * 16 + j) % 24 = d.val; rw [← h]; exact Nat.mod_eq_of_lt d.isLt)
  · have h' : ¬ ((ix3 d a c : S24x8x512.Idx) 0).val = docN L (k * 16 + j) := h
    rw [if_neg h', if_neg h, add_zero]

/-- The accumulator after the first `j` groups of block `k`. -/
theorem accJ_apply (k j : ℕ) (hj : j ≤ 16) (A : Vec Ideal S24x8x512 .f32) (d : Fin 24) (a : Fin 8) (c : Fin 512) :
    accJ (F := Ideal) L z zs k emb es bv A j (ix3 d a c)
      = (A (ix3 d a c) + ∑ i ∈ Finset.range j, if d.val = docN L (k * 16 + i) then part L z zs emb es bv (k * 16 + i) a.val c else 0 : EReal) := by
  induction j with
  | zero => rw [Finset.sum_range_zero, add_zero]; rfl
  | succ j ih =>
    rw [Finset.sum_range_succ, ← add_assoc, ← ih (by omega)]
    exact stepJ_apply L z zs emb es bv k j (by omega) _ d a c

/-- The accumulator after the first `k` blocks: the sum over the groups of the document. -/
theorem accK_apply (k : ℕ) (d : Fin 24) (a : Fin 8) (c : Fin 512) :
    accK (F := Ideal) L z zs emb es bv k (ix3 d a c)
      = (∑ t ∈ Finset.range (k * 16), if d.val = docN L t then part L z zs emb es bv t a.val c else 0 : EReal) := by
  induction k with
  | zero => rw [Nat.zero_mul, Finset.sum_range_zero]; exact zero_apply _
  | succ k ih =>
    rw [Nat.succ_mul, Finset.sum_range_add, ← ih]
    exact accJ_apply L z zs emb es bv k 16 le_rfl _ d a c

/-- The pooled block at a document and a column: the sum over the groups of the document, row by row. -/
theorem outV_apply (d : Fin 24) (c : Fin 512) :
    outV (F := Ideal) L z zs emb es bv (ix2 d c)
      = (∑ t ∈ Finset.range (nblk L * 16), if d.val = docN L t then ∑ r ∈ Finset.range 32, row L z zs emb es bv t r c else 0 : EReal) := by
  unfold outV
  refine (fold_apply _ _).trans ?_
  have e : ∀ a : Fin 8, (rowOf (accK (F := Ideal) L z zs emb es bv (nblk L)) d.val (ix3 0 a c) : EReal)
      = ∑ t ∈ Finset.range (nblk L * 16), if d.val = docN L t then part L z zs emb es bv t a.val c else 0 := fun a => by
    rw [← accK_apply]
    unfold rowOf
    congr 2
    exact Fin.ext (Nat.mod_eq_of_lt d.isLt)
  refine (Finset.sum_congr rfl fun a _ => e a).trans ?_
  rw [Finset.sum_comm]
  refine Finset.sum_congr rfl fun t _ => ?_
  by_cases h : d.val = docN L t
  · simp only [if_pos h]
    exact sum_rows fun r => row L z zs emb es bv t r c
  · simp only [if_neg h, Finset.sum_const_zero]

end

end Cert.Proof.KernelIdeal
-- ==== Proof.Value2.lean ====
module

public import proofs.«01_k».proof.Proof.Value1

@[expose] public section

set_option maxRecDepth 16384

noncomputable section

namespace Cert.Proof.KernelIdeal

open Cert.KernelIdeal Cert.KernelIdeal.Gen Cert.Proof
open Idealize.ShloMosaic Idealize.SL.Sem

/-- A sum of which only a stretch counts. -/
theorem sum_stretch (f g : ℕ → EReal) (a b n : ℕ) (hn : a + b ≤ n) (hf : ∀ j < b, f (a + j) = g j)
    (h0 : ∀ t, t < n → ¬ (a ≤ t ∧ t < a + b) → f t = 0) : ∑ t ∈ Finset.range n, f t = ∑ j ∈ Finset.range b, g j := by
  obtain ⟨c, rfl⟩ := Nat.exists_eq_add_of_le hn
  rw [Finset.sum_range_add, Finset.sum_range_add,
    Finset.sum_eq_zero (s := Finset.range a) (fun t ht => h0 t (by have := Finset.mem_range.mp ht; omega) (by have := Finset.mem_range.mp ht; omega)),
    Finset.sum_eq_zero (s := Finset.range c) (fun t ht => h0 _ (by have := Finset.mem_range.mp ht; omega) (by omega)), zero_add, add_zero]
  exact Finset.sum_congr rfl fun j hj => hf j (Finset.mem_range.mp hj)

/-- A sum over groups of 32. -/
theorem sum_groups (f : ℕ → EReal) (n : ℕ) :
    ∑ j ∈ Finset.range n, ∑ r ∈ Finset.range 32, f (j * 32 + r) = ∑ s ∈ Finset.range (n * 32), f s := by
  induction n with
  | zero => rw [Nat.zero_mul]; rfl
  | succ n ih => rw [Finset.sum_range_succ, Nat.succ_mul, Finset.sum_range_add, ih]

section
variable (L : ℕ → ℕ) (z : Vec Ideal S21504x1024 .fp8e4m3) (zs : Vec Ideal S24x7x128 .f32)
variable (emb : Vec Ideal S512x1024 .fp8e4m3) (es bv : Vec Ideal S1x512 .f32)

/-- Token `s` of document `d` at column `c`: its activation, zero past the document's length. -/
def tok (d : Fin 24) (c : Fin 512) (s : ℕ) : EReal :=
  if s < L d.val then
    act (∑ k : Fin 1024, (z (ix2 (⟨(896 * d.val + s) % 21504, Nat.mod_lt _ (by decide)⟩ : Fin 21504) k) * emb (ix2 c k) : EReal))
      (zs (ix3 d (⟨s / 128 % 7, Nat.mod_lt _ (by decide)⟩ : Fin 7) (⟨s % 128, Nat.mod_lt _ (by decide)⟩ : Fin 128))) (es (ix2 0 c)) (bv (ix2 0 c))
  else 0

/-- Row `r` of the document's group `j` is its token `32 j + r`. -/
theorem row_at (hL : ∀ d, L d ≤ 896) (d : Fin 24) (j r : ℕ) (hj : j < ng L d.val) (hr : r < 32) (c : Fin 512) :
    row L z zs emb es bv (start L d.val + j) r c = tok L z zs emb es bv d c (j * 32 + r) := by
  have ht : start L d.val + j < total L := lt_of_lt_of_le (by rw [start_succ]; omega) (start_le_total L (show d.val + 1 ≤ 24 by omega))
  have htot := total_le hL
  unfold row tok cntN
  rw [if_pos ht, cnt_at L d.isLt hj]
  have hm : ((start L d.val + j) * 32 + r) % 22016 = (start L d.val + j) * 32 + r := Nat.mod_eq_of_lt (by omega)
  have hq : ((start L d.val + j) * 32 + r) % 22016 / 32 = start L d.val + j := by rw [hm]; omega
  have hr' : ((start L d.val + j) * 32 + r) % 22016 % 32 = r := by rw [hm]; omega
  have hZ : ∀ k : Fin 1024, ZB L z (ix2 (⟨((start L d.val + j) * 32 + r) % 22016, Nat.mod_lt _ (by decide)⟩ : Fin 22016) k)
      = z (ix2 (⟨(896 * d.val + (j * 32 + r)) % 21504, Nat.mod_lt _ (by decide)⟩ : Fin 21504) k) := fun k => by
    unfold ZB
    refine (if_pos (show ((start L d.val + j) * 32 + r) % 22016 / 32 < total L by rw [hq]; exact ht)).trans ?_
    refine congrArg (fun x : Fin 21504 => z (ix2 x k)) (Fin.ext ?_)
    show (src L (((start L d.val + j) * 32 + r) % 22016 / 32) * 32 + ((start L d.val + j) * 32 + r) % 22016 % 32) % 21504 = (896 * d.val + (j * 32 + r)) % 21504
    rw [hq, hr', src_at L d.isLt hj, show (28 * d.val + j) * 32 + r = 896 * d.val + (j * 32 + r) by omega]
  have hS : SB L zs (ix2 (⟨((start L d.val + j) * 32 + r) % 22016, Nat.mod_lt _ (by decide)⟩ : Fin 22016) (⟨c.val % 128, Nat.mod_lt _ (by decide)⟩ : Fin 128))
      = zs (ix3 d (⟨(j * 32 + r) / 128 % 7, Nat.mod_lt _ (by decide)⟩ : Fin 7) (⟨(j * 32 + r) % 128, Nat.mod_lt _ (by decide)⟩ : Fin 128)) := by
    unfold SB
    refine (if_pos (show ((start L d.val + j) * 32 + r) % 22016 / 32 < total L by rw [hq]; exact ht)).trans ?_
    have h3 : ∀ {x x' : Fin 24} {y y' : Fin 7} {w w' : Fin 128}, x = x' → y = y' → w = w' → zs (ix3 x y w) = zs (ix3 x' y' w') := by
      rintro _ _ _ _ _ _ rfl rfl rfl; rfl
    refine h3 (Fin.ext ?_) (Fin.ext ?_) (Fin.ext ?_)
    · show docOf L (((start L d.val + j) * 32 + r) % 22016 / 32) % 24 = d.val
      rw [hq, docOf_at L d.isLt hj]; exact Nat.mod_eq_of_lt d.isLt
    · show (inDoc L (((start L d.val + j) * 32 + r) % 22016 / 32) * 32 + ((start L d.val + j) * 32 + r) % 22016 % 32) / 128 % 7 = _
      rw [hq, hr', inDoc_at L d.isLt hj]
    · show (inDoc L (((start L d.val + j) * 32 + r) % 22016 / 32) * 32 + ((start L d.val + j) * 32 + r) % 22016 % 32) % 128 = _
      rw [hq, hr', inDoc_at L d.isLt hj]
  simp only [hZ]
  rw [hS]
  by_cases h : j * 32 + r < L d.val
  · rw [if_pos h, if_pos (by omega)]
  · rw [if_neg h, if_neg (by omega)]

/-- The pooled block at a document and a column is the sum of the document's activations. -/
theorem outV_eq (hL : ∀ d, L d ≤ 896) (d : Fin 24) (c : Fin 512) :
    outV (F := Ideal) L z zs emb es bv (ix2 d c) = (∑ s ∈ Finset.range 896, tok L z zs emb es bv d c s : EReal) := by
  rw [outV_apply]
  have hlast : start L (d.val + 1) ≤ total L := start_le_total L (show d.val + 1 ≤ 24 by omega)
  have hs := start_succ L d.val
  have hN : total L ≤ nblk L * 16 := by unfold nblk; omega
  have hng := ng_le hL d.val
  have hLd : L d.val ≤ ng L d.val * 32 := by unfold ng; omega
  rw [sum_stretch _ (fun j => ∑ r ∈ Finset.range 32, tok L z zs emb es bv d c (j * 32 + r)) (start L d.val) (ng L d.val) _ (by omega) ?_ ?_, sum_groups]
  · symm
    refine sum_stretch _ _ 0 (ng L d.val * 32) 896 (by omega) (fun s _ => by rw [Nat.zero_add]) fun s _ h => ?_
    unfold tok
    exact if_neg (by omega)
  · intro j hj
    have hd : d.val = docN L (start L d.val + j) := by
      unfold docN; rw [if_pos (by omega), docOf_at L d.isLt hj]
    rw [if_pos hd]
    exact Finset.sum_congr rfl fun r hr => row_at L z zs emb es bv hL d j r hj (Finset.mem_range.mp hr) c
  · intro t _ h
    by_cases hd : d.val = docN L t
    · rw [if_pos hd]
      by_cases ht : t < total L
      · exfalso
        have := docOf_spec L ht
        unfold docN at hd
        rw [if_pos ht] at hd
        rw [← hd] at this
        omega
      · refine Finset.sum_eq_zero fun r _ => ?_
        unfold row cntN
        rw [if_neg ht]
        exact if_neg (by omega)
    · exact if_neg hd

end

end Cert.Proof.KernelIdeal
-- ==== Proof.Value3.lean ====
module

public import proofs.«01_k».proof.Proof.Value2
public import proofs.«01_k».proof.Proof.Run4
public import Idealize.ShloMosaic.Lib.Pipeline.ValueKit
public import Idealize.ShloMosaic.Lib.StableHlo.ReadAt

@[expose] public section

set_option maxRecDepth 16384

noncomputable section

namespace Cert.Proof.KernelIdeal

open Cert.KernelIdeal Cert.KernelIdeal.Gen Cert.Proof
open Idealize.ShloMosaic Idealize.ShloMosaic.TcCoe Idealize.SL.Sem
open Idealize.ShloMosaic.Pipeline (Dat Cfg Window)

/-- Axis 0 is an axis of a rank-2 array. -/
theorem lt02 : 0 < 2 := by decide
/-- Axis 1 is an axis of a rank-2 array. -/
theorem lt12 : 1 < 2 := by decide

/-- Where window 1 stands at step `t`, and how much of its block lies inside the array. -/
theorem ix_1 : ∀ t : Fin grid0.N, cc0_transform_2 (grid0.coords t) 0 = t.val ∧ cc0_transform_2 (grid0.coords t) 1 = 0
    ∧ (clip0_1 (grid0.coords t) 0).extent 512 = min 512 (50368 - t.val * 512) ∧ (clip0_1 (grid0.coords t) 1).extent 1024 = 1024 := by decide +kernel
/-- Where window 2 stands at step `t`, and how much of its block lies inside the array. -/
theorem ix_2 : ∀ t : Fin grid0.N, cc0_transform_3 (grid0.coords t) 0 = 0 ∧ cc0_transform_3 (grid0.coords t) 1 = t.val
    ∧ (clip0_2 (grid0.coords t) 0).extent 1 = 1 ∧ (clip0_2 (grid0.coords t) 1).extent 512 = min 512 (50368 - t.val * 512) := by decide +kernel
/-- Where window 3 stands at step `t`, and how much of its block lies inside the array. -/
theorem ix_3 : ∀ t : Fin grid0.N, cc0_transform_4 (grid0.coords t) 0 = 0 ∧ cc0_transform_4 (grid0.coords t) 1 = t.val
    ∧ (clip0_3 (grid0.coords t) 0).extent 1 = 1 ∧ (clip0_3 (grid0.coords t) 1).extent 512 = min 512 (50368 - t.val * 512) := by decide +kernel
/-- Where window 4 stands at step `t`, and how much of its block lies inside the array. -/
theorem ix_4 : ∀ t : Fin grid0.N, cc0_transform_5 (grid0.coords t) 0 = 0 ∧ cc0_transform_5 (grid0.coords t) 1 = t.val
    ∧ (clip0_4 (grid0.coords t) 0).extent 24 = 24 ∧ (clip0_4 (grid0.coords t) 1).extent 512 = min 512 (50368 - t.val * 512) := by decide +kernel

variable (m : (ℓ : Loc nD τ sig) → Buf (Elt Ideal) ℓ)

/-- The last column of a block that lies in the array. -/
theorem in_block {t j v : ℕ} (hv : v = t * 512 + j) (hj : j < 512) (h : v < 50368) : j < min 512 (50368 - t * 512) := by omega

/-- The table's block at point `t`, where it lies in the array. -/
theorem sblk1_apply (c : Dev nD) (t : Fin (cfgA m).N) (d : Vec Ideal S512x1024 .fp8e4m3) (j : Fin 512) (k : Fin 1024) (v : Fin 50368) (hv : v.val = t.val * 512 + j.val) :
    sblk m c 1 t d (ix2 j k) = (V m c main_arg3 : S50368x1024.Idx → EReal) (ix2 v k) := by
  have hx := ix_1 t
  have hb := in_block hv j.isLt v.isLt
  have h : ((cfgA m).win 1).moved ((cfgA m).grid.coords t) (ix2 j k) = true :=
    (Window.moved_iff ((cfgA m).win 1) ((cfgA m).grid.coords t) (ix2 j k)).mpr fun a => by
      match a with
      | ⟨0, _⟩ => exact lt_of_lt_of_eq hb hx.2.2.1.symm
      | ⟨1, _⟩ => exact lt_of_lt_of_eq k.isLt hx.2.2.2.symm
  unfold sblk Window.fill
  refine (dif_pos h).trans ?_
  unfold iblk
  refine congrArg (V m c main_arg3 : S50368x1024.Idx → EReal) ?_
  funext a
  refine Fin.ext ?_
  match a with
  | ⟨0, _⟩ =>
    refine (Window.rect_emb_val ((cfgA m).win 1) t _ ⟨0, lt02⟩).trans ?_
    show cc0_transform_2 (grid0.coords t) 0 * 512 + j.val = v.val
    rw [hx.1, hv]
  | ⟨1, _⟩ =>
    refine (Window.rect_emb_val ((cfgA m).win 1) t _ ⟨1, lt12⟩).trans ?_
    show cc0_transform_2 (grid0.coords t) 1 * 1024 + k.val = k.val
    rw [hx.2.1]; omega

/-- The column scales' block at point `t`, where it lies in the array. -/
theorem sblk2_apply (c : Dev nD) (t : Fin (cfgA m).N) (d : Vec Ideal S1x512 .f32) (j : Fin 512) (v : Fin 50368) (hv : v.val = t.val * 512 + j.val) :
    sblk m c 2 t d (ix2 0 j) = (V m c main_v1 : S1x50368.Idx → EReal) (ix2 0 v) := by
  have hx := ix_2 t
  have hb := in_block hv j.isLt v.isLt
  have h : ((cfgA m).win 2).moved ((cfgA m).grid.coords t) (ix2 (0 : Fin 1) j) = true :=
    (Window.moved_iff ((cfgA m).win 2) ((cfgA m).grid.coords t) (ix2 (0 : Fin 1) j)).mpr fun a => by
      match a with
      | ⟨0, _⟩ => exact lt_of_lt_of_eq Nat.zero_lt_one hx.2.2.1.symm
      | ⟨1, _⟩ => exact lt_of_lt_of_eq hb hx.2.2.2.symm
  unfold sblk Window.fill
  refine (dif_pos h).trans ?_
  unfold iblk
  refine congrArg (V m c main_v1 : S1x50368.Idx → EReal) ?_
  funext a
  refine Fin.ext ?_
  match a with
  | ⟨0, _⟩ =>
    refine (Window.rect_emb_val ((cfgA m).win 2) t _ ⟨0, lt02⟩).trans ?_
    show cc0_transform_3 (grid0.coords t) 0 * 1 + 0 = 0
    rw [hx.1]
  | ⟨1, _⟩ =>
    refine (Window.rect_emb_val ((cfgA m).win 2) t _ ⟨1, lt12⟩).trans ?_
    show cc0_transform_3 (grid0.coords t) 1 * 512 + j.val = v.val
    rw [hx.2.1, hv]

/-- The column biases' block at point `t`, where it lies in the array. -/
theorem sblk3_apply (c : Dev nD) (t : Fin (cfgA m).N) (d : Vec Ideal S1x512 .f32) (j : Fin 512) (v : Fin 50368) (hv : v.val = t.val * 512 + j.val) :
    sblk m c 3 t d (ix2 0 j) = (V m c main_v2 : S1x50368.Idx → EReal) (ix2 0 v) := by
  have hx := ix_3 t
  have hb := in_block hv j.isLt v.isLt
  have h : ((cfgA m).win 3).moved ((cfgA m).grid.coords t) (ix2 (0 : Fin 1) j) = true :=
    (Window.moved_iff ((cfgA m).win 3) ((cfgA m).grid.coords t) (ix2 (0 : Fin 1) j)).mpr fun a => by
      match a with
      | ⟨0, _⟩ => exact lt_of_lt_of_eq Nat.zero_lt_one hx.2.2.1.symm
      | ⟨1, _⟩ => exact lt_of_lt_of_eq hb hx.2.2.2.symm
  unfold sblk Window.fill
  refine (dif_pos h).trans ?_
  unfold iblk
  refine congrArg (V m c main_v2 : S1x50368.Idx → EReal) ?_
  funext a
  refine Fin.ext ?_
  match a with
  | ⟨0, _⟩ =>
    refine (Window.rect_emb_val ((cfgA m).win 3) t _ ⟨0, lt02⟩).trans ?_
    show cc0_transform_4 (grid0.coords t) 0 * 1 + 0 = 0
    rw [hx.1]
  | ⟨1, _⟩ =>
    refine (Window.rect_emb_val ((cfgA m).win 3) t _ ⟨1, lt12⟩).trans ?_
    show cc0_transform_4 (grid0.coords t) 1 * 512 + j.val = v.val
    rw [hx.2.1, hv]

/-- The row scales by document and row of 128, as the call takes them. -/
theorem V0_apply (c : Dev nD) (d : Fin 24) (a : Fin 7) (b : Fin 128) :
    (V m c main_v0 : S24x7x128.Idx → EReal) (ix3 d a b) = (m ((c : Thread nD τ).loc main_arg2) : S24x896.Idx → EReal) (ix2 d ⟨a.val * 128 + b.val, by omega⟩) := by
  unfold V
  after_reads_at

/-- The fifth argument as one row: column `v` keeps its value. -/
theorem V1_apply (c : Dev nD) (v : Fin 50368) :
    (V m c main_v1 : S1x50368.Idx → EReal) (ix2 0 v) = (m ((c : Thread nD τ).loc main_arg4) : S50368.Idx → EReal) (ix1 v) := by
  unfold V
  after_reads_at

/-- The sixth argument as one row: column `v` keeps its value. -/
theorem V2_apply (c : Dev nD) (v : Fin 50368) :
    (V m c main_v2 : S1x50368.Idx → EReal) (ix2 0 v) = (m ((c : Thread nD τ).loc main_arg5) : S50368.Idx → EReal) (ix1 v) := by
  unfold V
  after_reads_at

/-- The row scale of token `s` of document `d`. -/
theorem zs_apply (c : Dev nD) (d : Fin 24) (s : Fin 896) :
    (zsV m c) (ix3 d (⟨s.val / 128 % 7, Nat.mod_lt _ (by decide)⟩ : Fin 7) (⟨s.val % 128, Nat.mod_lt _ (by decide)⟩ : Fin 128))
      = (m ((c : Thread nD τ).loc main_arg2) : S24x896.Idx → EReal) (ix2 d s) := by
  have hs := s.isLt
  have h0 : ∀ y, (zsV m c) y = (V m c main_v0 : S24x7x128.Idx → EReal) y := fun y => by
    unfold zsV iblk
    refine congrArg (V m c main_v0 : S24x7x128.Idx → EReal) ?_
    funext a
    refine Fin.ext ?_
    match a with
    | ⟨0, _⟩ => refine (Window.rect_emb_val ((cfgA m).win 0) ⟨0, N_pos⟩ _ ⟨0, (show 0 < 3 by decide)⟩).trans ?_; exact Nat.zero_add _
    | ⟨1, _⟩ => refine (Window.rect_emb_val ((cfgA m).win 0) ⟨0, N_pos⟩ _ ⟨1, (show 1 < 3 by decide)⟩).trans ?_; exact Nat.zero_add _
    | ⟨2, _⟩ => refine (Window.rect_emb_val ((cfgA m).win 0) ⟨0, N_pos⟩ _ ⟨2, (show 2 < 3 by decide)⟩).trans ?_; exact Nat.zero_add _
  refine (h0 _).trans ((V0_apply m c d _ _).trans ?_)
  refine congrArg (fun x : Fin 896 => (m ((c : Thread nD τ).loc main_arg2) : S24x896.Idx → EReal) (ix2 d x)) (Fin.ext ?_)
  show s.val / 128 % 7 * 128 + s.val % 128 = s.val
  omega

/-- The pooled representation of document `d` at column `v`: over the document's tokens, the sum of `log1p` of the
    positive part of the product of the token's features with the column's, scaled by both and the bias added. -/
def pooledAt (lens : S24.Idx → BitVec 32) (z : S21504x1024.Idx → EReal) (zs : S24x896.Idx → EReal) (emb : S50368x1024.Idx → EReal)
    (es bv : S50368.Idx → EReal) (d : Fin 24) (v : Fin 50368) : EReal :=
  ∑ s : Fin 896, if s.val < (lens (ix1 d)).toNat then
    act (∑ k : Fin 1024, z (ix2 (⟨896 * d.val + s.val, by omega⟩ : Fin 21504) k) * emb (ix2 v k)) (zs (ix2 d s)) (es (ix1 v)) (bv (ix1 v)) else 0

/-- The same of a memory's arguments. -/
def pooledM (c : Dev nD) (d : Fin 24) (v : Fin 50368) : EReal :=
  pooledAt (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) d v

/-- The length of document `d` is the argument's word. -/
theorem len_at (c : Dev nD) (d : Fin 24) : len m d.val = ((m ((c : Thread nD τ).loc main_arg0) : S24.Idx → BitVec 32) (ix1 d)).toNat := by
  obtain rfl : c = 0 := Subsingleton.elim _ _
  unfold len
  rw [V_main_arg0]
  refine congrArg (fun x => ((m (((0 : Dev nD) : Thread nD τ).loc main_arg0) : S24.Idx → BitVec 32) x).toNat) ?_
  funext a
  match a with
  | ⟨0, _⟩ => exact Fin.ext (Nat.mod_eq_of_lt d.isLt)

/-- A pooled block at a document and a column, from the table's row, the scale and the bias of that column alone. -/
theorem outV_at (hL : ∀ d, len m d ≤ 896) (c : Dev nD) (E : Vec Ideal S512x1024 .fp8e4m3) (e b : Vec Ideal S1x512 .f32)
    (d : Fin 24) (j : Fin 512) (v : Fin 50368) (hE : ∀ k : Fin 1024, E (ix2 j k) = (V m c main_arg3 : S50368x1024.Idx → EReal) (ix2 v k))
    (he : e (ix2 0 j) = (V m c main_v1 : S1x50368.Idx → EReal) (ix2 0 v)) (hb : b (ix2 0 j) = (V m c main_v2 : S1x50368.Idx → EReal) (ix2 0 v)) :
    outV (F := Ideal) (len m) (zV m c) (zsV m c) E e b (ix2 d j) = pooledM m c d v := by
  rw [outV_eq _ _ _ _ _ _ hL, Finset.sum_range]
  unfold pooledM pooledAt
  refine Finset.sum_congr rfl fun s _ => ?_
  unfold tok
  rw [len_at m c d, zs_apply m c d s, he, hb, V1_apply, V2_apply]
  simp only [hE]
  have hz : ∀ k : Fin 1024, zV m c (ix2 (⟨(896 * d.val + s.val) % 21504, Nat.mod_lt _ (by decide)⟩ : Fin 21504) k)
      = (m ((c : Thread nD τ).loc main_arg1) : S21504x1024.Idx → EReal) (ix2 (⟨896 * d.val + s.val, by omega⟩ : Fin 21504) k) := fun k => by
    unfold zV
    rw [V_main_arg1]
    exact congrArg (fun x : Fin 21504 => (m ((c : Thread nD τ).loc main_arg1) : S21504x1024.Idx → EReal) (ix2 x k)) (Fin.ext (Nat.mod_eq_of_lt (by omega)))
  simp only [hz]
  rw [V_main_arg3]

/-- What a grid point leaves in the part of its block that lies in the array. -/
theorem outB_apply (hL : ∀ d, len m d ≤ 896) (c : Dev nD) (t : Fin (cfgA m).N) (d1 : Vec Ideal S512x1024 .fp8e4m3) (d2 d3 : Vec Ideal S1x512 .f32)
    (d : Fin 24) (j : Fin 512) (v : Fin 50368) (hv : v.val = t.val * 512 + j.val) :
    outB m c t d1 d2 d3 (ix2 d j) = pooledM m c d v :=
  outV_at m hL c _ _ _ d j v (fun k => sblk1_apply m c t d1 j k v hv) (sblk2_apply m c t d2 j v hv) (sblk3_apply m c t d3 j v hv)

/-- An entry of the part of the result's block that is written back, by document and column. -/
theorem out_cell (t : Fin (cfgA m).N) (y : (((cfgA m).win 4).xblock ((cfgA m).grid.coords t)).Idx) :
    ∃ (d : Fin 24) (j : Fin 512) (v : Fin 50368), v.val = t.val * 512 + j.val
      ∧ ((cfgA m).win 4).xinj ((cfgA m).grid.coords t) y = (ix2 d j : S24x512.Idx)
      ∧ (((cfgA m).win 4).blk t).view.emb y = (ix2 d v : S24x50368.Idx) := by
  have hx := ix_4 t
  have e0 : ((cfgA m).win 4).xsize ((cfgA m).grid.coords t) ⟨0, lt02⟩ = 24 := hx.2.2.1
  have e1 : ((cfgA m).win 4).xsize ((cfgA m).grid.coords t) ⟨1, lt12⟩ = min 512 (50368 - t.val * 512) := hx.2.2.2
  have h0 : (y ⟨0, lt02⟩).val < 24 := lt_of_lt_of_eq (y ⟨0, lt02⟩).isLt e0
  have h1 : (y ⟨1, lt12⟩).val < min 512 (50368 - t.val * 512) := lt_of_lt_of_eq (y ⟨1, lt12⟩).isLt e1
  refine ⟨⟨_, h0⟩, ⟨(y ⟨1, lt12⟩).val, by omega⟩, ⟨t.val * 512 + (y ⟨1, lt12⟩).val, by omega⟩, rfl, ?_, ?_⟩
  · funext a
    match a with
    | ⟨0, _⟩ => rfl
    | ⟨1, _⟩ => rfl
  · funext a
    refine Fin.ext ?_
    match a with
    | ⟨0, _⟩ =>
      refine (Window.rect_emb_val ((cfgA m).win 4) t _ ⟨0, lt02⟩).trans ?_
      show cc0_transform_5 (grid0.coords t) 0 * 24 + (y ⟨0, lt02⟩).val = (y ⟨0, lt02⟩).val
      rw [hx.1]; omega
    | ⟨1, _⟩ =>
      refine (Window.rect_emb_val ((cfgA m).win 4) t _ ⟨1, lt12⟩).trans ?_
      show cc0_transform_5 (grid0.coords t) 1 * 512 + (y ⟨1, lt12⟩).val = t.val * 512 + (y ⟨1, lt12⟩).val
      rw [hx.2.1]

/-- So the part that is written back does not depend on what lies past the arrays' ends. -/
theorem out_cut (hL : ∀ d, len m d ≤ 896) (c : Dev nD) (t : Fin (cfgA m).N) d1 d2 d3 :
    ((cfgA m).win 4).cut ((cfgA m).grid.coords t) (outB m c t d1 d2 d3)
      = ((cfgA m).win 4).cut ((cfgA m).grid.coords t) (outB m c t (junk m 1) (junk m 2) (junk m 3)) := by
  funext y
  obtain ⟨d, j, v, hv, hj, -⟩ := out_cell m t y
  show outB m c t d1 d2 d3 _ = outB m c t (junk m 1) (junk m 2) (junk m 3) _
  exact (congrArg (outB m c t d1 d2 d3) hj).trans ((outB_apply m hL c t d1 d2 d3 d j v hv).trans
    ((congrArg (outB m c t (junk m 1) (junk m 2) (junk m 3)) hj).trans (outB_apply m hL c t _ _ _ d j v hv)).symm)

/-- The result array after the run. -/
def pooled (c : Dev nD) : S24x50368.Idx → EReal := fun y => pooledM m c (⟨(y 0).val, (y 0).isLt⟩ : Fin 24) (⟨(y 1).val, (y 1).isLt⟩ : Fin 50368)

/-- The output block is written back after every step. -/
theorem flush_4 : ∀ t : Fin grid0.N, (t.val + 1 = grid0.N || decide (∃ h : t.val + 1 < grid0.N,
    cc0_transform_5 (grid0.coords ⟨t.val + 1, h⟩) ≠ cc0_transform_5 (grid0.coords t))) = true := by decide +kernel

/-- The blocks that are written back cover the result array. -/
theorem covers4 : ((cfgA m).win 4).Covers := by
  refine ⟨fun a => ?_, fun β => ?_⟩
  · match a with
    | ⟨0, _⟩ => exact (show 0 < 24 by decide)
    | ⟨1, _⟩ => exact (show 0 < 512 by decide)
  · have hb1 : (β ⟨1, lt12⟩).val < 99 := lt_of_lt_of_eq (β ⟨1, lt12⟩).isLt (show (50368 + 512 - 1) / 512 = 99 by decide)
    have hb0 : (β ⟨0, lt02⟩).val < 1 := lt_of_lt_of_eq (β ⟨0, lt02⟩).isLt (show (24 + 24 - 1) / 24 = 1 by decide)
    refine ⟨⟨(β ⟨1, lt12⟩).val, hb1.trans_eq N_0.symm⟩, flush_4 _, fun a => ?_⟩
    have hx := ix_4 ⟨(β ⟨1, lt12⟩).val, hb1.trans_eq N_0.symm⟩
    match a with
    | ⟨0, _⟩ =>
      refine ⟨hx.1.trans ?_, Or.inl hx.2.2.1⟩
      show 0 = (β ⟨0, lt02⟩).val
      omega
    | ⟨1, _⟩ =>
      refine ⟨hx.2.1, ?_⟩
      have e : ∀ x n k : ℕ, x = min 512 (50368 - n * 512) → k = n → x = 512 ∨ 50368 ≤ k * 512 + x := fun x n k h hk => by omega
      exact e _ _ _ hx.2.2.2 hx.2.1

/-- With lengths of at most 896, the kernel's output array is `pooled`. -/
theorem result_eq (hL : ∀ d, len m d ≤ 896) (c : Dev nD) : (dats m 0 c).arrAt 4 (cfgA m).N = pooled m c := by
  refine (dats m 0 c).arrAt_eq_of_covers 4 (pooled m c) (covers4 m) (fun t _ y => ?_)
  obtain ⟨d, j, v, hv, hj, he⟩ := out_cell m t y
  rw [after4]
  refine ((congrArg (outB m c t (junk m 1) (junk m 2) (junk m 3)) hj).trans (outB_apply m hL c t _ _ _ d j v hv)).trans ?_
  exact (congrArg (pooled m c) he).symm

set_option backward.isDefEq.respectTransparency.types false in
/-- The kernel's run leaves the pooled representation in the result array, and the arguments as they were. -/
theorem run_value (g : Dev nD → PrngReg) (hL : ∀ d, len m d ≤ 896) : θ_run defs (onTc (τ := τ) (main (F := Ideal))) ⟨m, fun _ => 0, g⟩ (fun r => ∀ c : Dev nD,
      r.2.mem ((c.tc : Thread nD τ).loc main_v3) = pooled m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨
      ((h.1 c).1 (4 : Fin 5)).trans (result_eq m hL c),
      ((h.1 c).2 main_arg0 (show main_arg0 ∈ Pipeline.restRefs sig spec0 from Pipeline.mem_restRefs_of main_arg0 (by decide) (by decide))).trans (V_main_arg0 m c),
      ((h.1 c).2 main_arg1 (show main_arg1 ∈ Pipeline.restRefs sig spec0 from Pipeline.mem_restRefs_of main_arg1 (by decide) (by decide))).trans (V_main_arg1 m c),
      ((h.1 c).2 main_arg2 (show main_arg2 ∈ Pipeline.restRefs sig spec0 from Pipeline.mem_restRefs_of main_arg2 (by decide) (by decide))).trans (V_main_arg2 m c),
      ((h.1 c).1 (1 : Fin 5)).trans (((dats m 0 c).arrAt_in 1 rfl _).trans ((A_eq m c 1).trans (V_main_arg3 m c))),
      ((h.1 c).2 main_arg4 (show main_arg4 ∈ Pipeline.restRefs sig spec0 from Pipeline.mem_restRefs_of main_arg4 (by decide) (by decide))).trans (V_main_arg4 m c),
      ((h.1 c).2 main_arg5 (show main_arg5 ∈ Pipeline.restRefs sig spec0 from Pipeline.mem_restRefs_of main_arg5 (by decide) (by decide))).trans (V_main_arg5 m c)⟩)
    (run_exact m g hL fun c t d1 d2 d3 => out_cut m hL c t d1 d2 d3)

end Cert.Proof.KernelIdeal
-- ==== Proof.Value4.lean ====
module

public import proofs.«01_k».proof.Proof.Value3
public import proofs.«01_k».proof.Proof.Gen.ReferenceIdeal.Value

@[expose] public section

set_option maxRecDepth 16384

noncomputable section

namespace Cert.Proof.ReferenceIdeal

open Cert.ReferenceIdeal Cert.ReferenceIdeal.Gen Cert.Proof
open Idealize.ShloMosaic Idealize.ShloMosaic.TcCoe Idealize.SL.Sem
open Idealize.ShloMosaic.Pipeline (Dat Cfg Window)
open Cert.Proof.KernelIdeal (pooledAt act slt_small)

/-- The reference's body at a document and a column. -/
theorem pay1_apply (z : Vec Ideal S21504x1024 .fp8e4m3) (emb : Vec Ideal S50368x1024 .fp8e4m3) (zs : Vec Ideal S24x896x1 .f32)
    (es bv : Vec Ideal S1x1x50368 .f32) (lens : Vec Ideal S24x1x1 .i32) (d : Fin 24) (v : Fin 50368)
    (hL : BitVec.toNat (lens (ix3 d (0 : Fin 1) (0 : Fin 1)) : BitVec 32) ≤ 896) :
    k0_pay1 z emb zs es bv lens (ix2 d v)
      = ∑ s : Fin 896, if s.val < BitVec.toNat (lens (ix3 d (0 : Fin 1) (0 : Fin 1)) : BitVec 32) then
          act (∑ k : Fin 1024, z (ix2 (⟨896 * d.val + s.val, by omega⟩ : Fin 21504) k) * emb (ix2 v k))
            (zs (ix3 d s (0 : Fin 1))) (es (ix3 (0 : Fin 1) (0 : Fin 1) v)) (bv (ix3 (0 : Fin 1) (0 : Fin 1) v)) else 0 := by
  pointwise [k0_pay1]
  refine Finset.sum_congr rfl fun s _ => ?_
  have hc : IntOp.cmpi .slt (BitVec.ofNat 32 s.val) (lens (ix3 d (0 : Fin 1) (0 : Fin 1)) : BitVec 32)
      = if s.val < BitVec.toNat (lens (ix3 d (0 : Fin 1) (0 : Fin 1)) : BitVec 32) then 1#1 else 0#1 := by
    have h := slt_small (a := s.val) (b := BitVec.toNat (lens (ix3 d (0 : Fin 1) (0 : Fin 1)) : BitVec 32)) (by omega) (by omega)
    rwa [BitVec.ofNat_toNat, BitVec.setWidth_eq] at h
  have hz : ∀ (k : Fin 1024) p, z (ix2 (⟨d.val * 896 + s.val, p⟩ : Fin 21504) k) = z (ix2 (⟨896 * d.val + s.val, by omega⟩ : Fin 21504) k) :=
    fun k p => congrArg (fun x : Fin 21504 => z (ix2 x k)) (Fin.ext (by show d.val * 896 + s.val = 896 * d.val + s.val; omega))
  rw [hc]
  simp only [hz]
  unfold act
  split <;> rfl

variable (m : (ℓ : Loc nD τ sig) → Buf (Elt Ideal) ℓ)

/-- Axis 0 is an axis of a rank-3 array. -/
theorem lt03 : 0 < 3 := by decide
/-- Axis 1 is an axis of a rank-3 array. -/
theorem lt13 : 1 < 3 := by decide
/-- Axis 2 is an axis of a rank-3 array. -/
theorem lt23 : 2 < 3 := by decide
/-- Axis 0 is an axis of a rank-2 array. -/
theorem lt02 : 0 < 2 := by decide
/-- Axis 1 is an axis of a rank-2 array. -/
theorem lt12 : 1 < 2 := by decide

/-- The block of window 0 is the whole of its array. -/
theorem iblk0_eq (c : Dev nD) (t : Fin cfg0.N) : iblk m c 0 t = (V m c main_v0 : S24x1x1.Idx → BitVec 32) := by
  funext y
  unfold iblk
  refine congrArg (V m c main_v0 : S24x1x1.Idx → BitVec 32) (funext fun a => Fin.ext ?_)
  refine (Window.rect_emb_val (cfg0.win 0) t y a).trans ?_
  exact (congrArg (· + (y a).val) (Nat.zero_mul _)).trans (Nat.zero_add _)
/-- The block of window 1 is the whole of its array. -/
theorem iblk1_eq (c : Dev nD) (t : Fin cfg0.N) : iblk m c 1 t = (V m c main_arg1 : S21504x1024.Idx → EReal) := by
  funext y
  unfold iblk
  refine congrArg (V m c main_arg1 : S21504x1024.Idx → EReal) (funext fun a => Fin.ext ?_)
  refine (Window.rect_emb_val (cfg0.win 1) t y a).trans ?_
  exact (congrArg (· + (y a).val) (Nat.zero_mul _)).trans (Nat.zero_add _)
/-- The block of window 2 is the whole of its array. -/
theorem iblk2_eq (c : Dev nD) (t : Fin cfg0.N) : iblk m c 2 t = (V m c main_v1 : S24x896x1.Idx → EReal) := by
  funext y
  unfold iblk
  refine congrArg (V m c main_v1 : S24x896x1.Idx → EReal) (funext fun a => Fin.ext ?_)
  refine (Window.rect_emb_val (cfg0.win 2) t y a).trans ?_
  exact (congrArg (· + (y a).val) (Nat.zero_mul _)).trans (Nat.zero_add _)
/-- The block of window 3 is the whole of its array. -/
theorem iblk3_eq (c : Dev nD) (t : Fin cfg0.N) : iblk m c 3 t = (V m c main_arg3 : S50368x1024.Idx → EReal) := by
  funext y
  unfold iblk
  refine congrArg (V m c main_arg3 : S50368x1024.Idx → EReal) (funext fun a => Fin.ext ?_)
  refine (Window.rect_emb_val (cfg0.win 3) t y a).trans ?_
  exact (congrArg (· + (y a).val) (Nat.zero_mul _)).trans (Nat.zero_add _)
/-- The block of window 4 is the whole of its array. -/
theorem iblk4_eq (c : Dev nD) (t : Fin cfg0.N) : iblk m c 4 t = (V m c main_v2 : S1x1x50368.Idx → EReal) := by
  funext y
  unfold iblk
  refine congrArg (V m c main_v2 : S1x1x50368.Idx → EReal) (funext fun a => Fin.ext ?_)
  refine (Window.rect_emb_val (cfg0.win 4) t y a).trans ?_
  exact (congrArg (· + (y a).val) (Nat.zero_mul _)).trans (Nat.zero_add _)
/-- The block of window 5 is the whole of its array. -/
theorem iblk5_eq (c : Dev nD) (t : Fin cfg0.N) : iblk m c 5 t = (V m c main_v3 : S1x1x50368.Idx → EReal) := by
  funext y
  unfold iblk
  refine congrArg (V m c main_v3 : S1x1x50368.Idx → EReal) (funext fun a => Fin.ext ?_)
  refine (Window.rect_emb_val (cfg0.win 5) t y a).trans ?_
  exact (congrArg (· + (y a).val) (Nat.zero_mul _)).trans (Nat.zero_add _)

/-- The lengths reshaped: document `d` keeps its length. -/
theorem V0_apply (c : Dev nD) (d : Fin 24) :
    (V m c main_v0 : S24x1x1.Idx → BitVec 32) (ix3 d 0 0) = (m ((c : Thread nD τ).loc main_arg0) : S24.Idx → BitVec 32) (ix1 d) := by
  unfold V
  after_reads_at

/-- The scales reshaped: position `s` of document `d` keeps its scale. -/
theorem V1_apply (c : Dev nD) (d : Fin 24) (s : Fin 896) :
    (V m c main_v1 : S24x896x1.Idx → EReal) (ix3 d s 0) = (m ((c : Thread nD τ).loc main_arg2) : S24x896.Idx → EReal) (ix2 d s) := by
  unfold V
  after_reads_at

/-- The fifth argument reshaped: column `v` keeps its value. -/
theorem V2_apply (c : Dev nD) (v : Fin 50368) :
    (V m c main_v2 : S1x1x50368.Idx → EReal) (ix3 0 0 v) = (m ((c : Thread nD τ).loc main_arg4) : S50368.Idx → EReal) (ix1 v) := by
  unfold V
  after_reads_at

/-- The sixth argument reshaped: column `v` keeps its value. -/
theorem V3_apply (c : Dev nD) (v : Fin 50368) :
    (V m c main_v3 : S1x1x50368.Idx → EReal) (ix3 0 0 v) = (m ((c : Thread nD τ).loc main_arg5) : S50368.Idx → EReal) (ix1 v) := by
  unfold V
  after_reads_at

/-- The body's result is its payload at the arrays: one store over the whole block, whole loads. -/
theorem out_eq (x0 : Vec Ideal S24x1x1 .i32) (x1 : Vec Ideal S21504x1024 .fp8e4m3) (x2 : Vec Ideal S24x896x1 .f32)
    (x3 : Vec Ideal S50368x1024 .fp8e4m3) (x4 x5 : Vec Ideal S1x1x50368 .f32) :
    out0_6 x0 x1 x2 x3 x4 x5 = k0_pay1 x1 x3 x2 x4 x5 x0 := by
  unfold out0_6
  have e1 : View.ld x1 r0_0 = x1 := View.ld_unit_lit inb_S21504x1024_S21504x1024_0_0 x1 (by decide)
  have e3 : View.ld x3 r0_1 = x3 := View.ld_unit_lit inb_S50368x1024_S50368x1024_0_0 x3 (by decide)
  have e2 : View.ld x2 r0_2 = x2 := View.ld_unit_lit inb_S24x896x1_S24x896x1_0_0_0 x2 (by decide)
  have e4 : View.ld x4 r0_3 = x4 := View.ld_unit_lit inb_S1x1x50368_S1x1x50368_0_0_0 x4 (by decide)
  have e5 : View.ld x5 r0_3 = x5 := View.ld_unit_lit inb_S1x1x50368_S1x1x50368_0_0_0 x5 (by decide)
  have e0 : View.ld x0 r0_4 = x0 := View.ld_unit_lit inb_S24x1x1_S24x1x1_0_0_0 x0 (by decide)
  rw [e0, e1, e2, e3, e4, e5]
  exact View.canon_cons_unit_lit inb_S24x50368_S24x50368_0_0 _ [] (by decide)

/-- The reference's result at a document and a column. -/
theorem out_apply (c : Dev nD) (t : Fin cfg0.N)
    (hL : ∀ d : Fin 24, ((m ((c : Thread nD τ).loc main_arg0) : S24.Idx → BitVec 32) (ix1 d)).toNat ≤ 896) (d : Fin 24) (v : Fin 50368) :
    out0_6 (iblk m c 0 t) (iblk m c 1 t) (iblk m c 2 t) (iblk m c 3 t) (iblk m c 4 t) (iblk m c 5 t) (ix2 d v)
      = pooledAt (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) d v := by
  rw [iblk0_eq, iblk1_eq, iblk2_eq, iblk3_eq, iblk4_eq, iblk5_eq, out_eq]
  refine (pay1_apply _ _ _ _ _ _ d v (by rw [V0_apply]; exact hL d)).trans ?_
  unfold pooledAt
  rw [V0_apply, V2_apply, V3_apply, V_main_arg1, V_main_arg3]
  exact Finset.sum_congr rfl fun s _ => by rw [V1_apply m c d s]

/-- Every entry of the output lies in some step's block. -/
theorem covers6 : (cfg0.win 6).Covers := by
  refine ⟨fun a => ?_, fun β => ?_⟩
  · match a with
    | ⟨0, _⟩ => exact (show 0 < 24 by decide)
    | ⟨1, _⟩ => exact (show 0 < 50368 by decide)
  · have hb1 : (β ⟨1, lt12⟩).val < 1 := lt_of_lt_of_eq (β ⟨1, lt12⟩).isLt (show (50368 + 50368 - 1) / 50368 = 1 by decide)
    have hb0 : (β ⟨0, lt02⟩).val < 1 := lt_of_lt_of_eq (β ⟨0, lt02⟩).isLt (show (24 + 24 - 1) / 24 = 1 by decide)
    refine ⟨⟨0, by decide⟩, by decide +kernel, fun a => ?_⟩
    match a with
    | ⟨0, _⟩ =>
      refine ⟨?_, Or.inl rfl⟩
      show 0 = (β ⟨0, lt02⟩).val
      omega
    | ⟨1, _⟩ =>
      refine ⟨?_, Or.inl rfl⟩
      show 0 = (β ⟨1, lt12⟩).val
      omega

/-- The result array after the reference's run. -/
theorem result_eq (c : Dev nD) (G : S24x50368.Idx → EReal)
    (hG : ∀ t, out0_6 (iblk m c 0 t) (iblk m c 1 t) (iblk m c 2 t) (iblk m c 3 t) (iblk m c 4 t) (iblk m c 5 t) = G) :
    (dats m 0 c).arrAt 6 cfg0.N = G := by
  refine (dats m 0 c).arrAt_eq_of_covers 6 G covers6 (fun t _ y => ?_)
  rw [after0_6, hG]
  refine congrArg G (funext fun a => Fin.ext ?_)
  refine Eq.trans ?_ (Window.rect_emb_val (cfg0.win 6) t y a).symm
  exact ((congrArg (· + (y a).val) (Nat.zero_mul _)).trans (Nat.zero_add _)).symm

/-- An index of the result array by its document and column. -/
theorem cell_eq (y : S24x50368.Idx) : y = ix2 (⟨(y 0).val, (y 0).isLt⟩ : Fin 24) (⟨(y 1).val, (y 1).isLt⟩ : Fin 50368) := by
  funext a
  match a with
  | ⟨0, _⟩ => rfl
  | ⟨1, _⟩ => rfl

end Cert.Proof.ReferenceIdeal
-- ==== Proof.Stats.lean ====
module

public import proofs.«01_k».proof.Proof.Gen.Stats.Frame
public import proofs.«01_k».proof.Proof.Gen.StatsIdeal.Value
public import proofs.«01_k».proof.Proof.Gen.StatsReferenceIdeal.Run
public import Idealize.ShloMosaic.Lib.Pointwise
public import Idealize.ShloMosaic.Lib.Pipeline.ValueKit
public import Idealize.ShloMosaic.Lib.StableHlo.ReadAt

@[expose] public section

set_option maxRecDepth 16384

noncomputable section

namespace Cert.Proof.Stats

open Cert.StatsReferenceIdeal Cert.StatsReferenceIdeal.Gen
open Cert.StatsIdeal.Gen (k0_pay1 k0_pay3 k0_pay4 k0_pay5 k0_pay6 k0_pay7 k0_pay2)
open Idealize.ShloMosaic Idealize.ShloMosaic.TcCoe Idealize.SL.Sem Idealize.ShloMosaic.StableHlo

variable {F : FTy → Type} [FloatOps F]

/-- The reference's largest entry of every row. -/
def amaxR (a : (⟨S24x50368, .f32⟩ : BufTy).Contents (Elt F)) : (⟨S24, .f32⟩ : BufTy).Contents (Elt F) :=
  Host.reduce FloatOps.maximumf a (constant S_ .f32 0xFF800000#32) reducesTo_S24x50368_S24_d1 h_S_

/-- The reference's row scale from the rows' largest entries. -/
def scaleRof (A : (⟨S24, .f32⟩ : BufTy).Contents (Elt F)) : (⟨S24, .f32⟩ : BufTy).Contents (Elt F) :=
  select (cmpf .oeq A (broadcastInDim S24 ![] bcast_S_S24 (constant S_ .f32 0x00000000#32))) (broadcastInDim S24 ![] bcast_S_S24 (id (constant S_ .f32 0x3F800000#32))) (Host.divf A (broadcastInDim S24 ![] bcast_S_S24 (constant S_ .f32 0x437F0000#32)))

/-- The reference's row scale: the row's largest entry over 255, or one. -/
def scaleR (a : (⟨S24x50368, .f32⟩ : BufTy).Contents (Elt F)) : (⟨S24, .f32⟩ : BufTy).Contents (Elt F) :=
  scaleRof (amaxR a)

/-- The reference's codes from the rows' scales. -/
def codesRof (a : (⟨S24x50368, .f32⟩ : BufTy).Contents (Elt F)) (B : (⟨S24, .f32⟩ : BufTy).Contents (Elt F)) : (⟨S24x50368, .i8⟩ : BufTy).Contents (Elt F) :=
  trunci 8 (fptosi 32 (minimumf (broadcastInDim S24x50368 ![] bcast_S_S24x50368 (id (constant S_ .f32 0x437F0000#32))) (maximumf (broadcastInDim S24x50368 ![] bcast_S_S24x50368 (id (constant S_ .f32 0x00000000#32))) (Host.roundeven (Host.divf a (broadcastInDim S24x50368 ![0, 1] bcast_S24x1_S24x50368_0_1 (broadcastInDim S24x1 ![0] bcast_S24_S24x1_0 B))))))) natLt_8_32

/-- The reference's result: the codes of the row quantiser. -/
def codes (a : (⟨S24x50368, .f32⟩ : BufTy).Contents (Elt F)) : (⟨S24x50368, .i8⟩ : BufTy).Contents (Elt F) :=
  codesRof a (scaleR a)

/-- The reference's result: the row scales, one in every lane. -/
def scales (a : (⟨S24x50368, .f32⟩ : BufTy).Contents (Elt F)) : (⟨S24x128, .f32⟩ : BufTy).Contents (Elt F) :=
  broadcastInDim S24x128 ![0, 1] bcast_S24x1_S24x128_0_1 (broadcastInDim S24x1 ![0] bcast_S24_S24x1_0 (scaleR a))

/-- The reference's result: the row sums, one in every lane. -/
def l1 (a : (⟨S24x50368, .f32⟩ : BufTy).Contents (Elt F)) : (⟨S24x128, .f32⟩ : BufTy).Contents (Elt F) :=
  broadcastInDim S24x128 ![0, 1] bcast_S24x1_S24x128_0_1 (broadcastInDim S24x1 ![0] bcast_S24_S24x1_0 (Host.reduceAdd a (constant S_ .f32 0x00000000#32) reducesTo_S24x50368_S24_d1 h_S_))

/-- The reference's result: the column means. -/
def meanAct (a : (⟨S24x50368, .f32⟩ : BufTy).Contents (Elt F)) : (⟨S1x50368, .f32⟩ : BufTy).Contents (Elt F) :=
  broadcastInDim S1x50368 ![1] bcast_S50368_S1x50368_1 (Host.divf (Host.reduceAdd a (constant S_ .f32 0x00000000#32) reducesTo_S24x50368_S50368_d0 h_S_) (broadcastInDim S50368 ![] bcast_S_S50368 (constant S_ .f32 0x41C00000#32)))

/-- The reference's result: the sum of the squares of the column means, one in every lane. -/
def flops (a : (⟨S24x50368, .f32⟩ : BufTy).Contents (Elt F)) : (⟨S1x128, .f32⟩ : BufTy).Contents (Elt F) :=
  broadcastInDim S1x128 ![0, 1] bcast_S1x1_S1x128_0_1 (broadcastInDim S1x1 ![0] bcast_S1_S1x1_0 (broadcastInDim S1 ![] bcast_S_S1 (Host.reduceAdd (mulf (Host.divf (Host.reduceAdd a (constant S_ .f32 0x00000000#32) reducesTo_S24x50368_S50368_d0 h_S_) (broadcastInDim S50368 ![] bcast_S_S50368 (constant S_ .f32 0x41C00000#32))) (Host.divf (Host.reduceAdd a (constant S_ .f32 0x00000000#32) reducesTo_S24x50368_S50368_d0 h_S_) (broadcastInDim S50368 ![] bcast_S_S50368 (constant S_ .f32 0x41C00000#32)))) (constant S_ .f32 0x00000000#32) reducesTo_S50368_S_d0 h_S_)))

/-- The kernel's largest entry of every row. -/
def amaxK (a : (⟨S24x50368, .f32⟩ : BufTy).Contents (Elt F)) : (⟨S24x1, .f32⟩ : BufTy).Contents (Elt F) :=
  shapeCast S24x1 (multiReduction .maximumf [1] S24 (a : Vec F S24x50368 .f32) 0xFF800000#32 Cert.StatsIdeal.Facts₀.reduces_S24x50368_S24 (.inl rfl) rfl) Cert.StatsIdeal.Facts₀.shapeCasts_S24_S24x1

/-- The kernel's row scale from the rows' largest entries. -/
def scaleOf (A : FVec F S24x1 .f32) : FVec F S24x1 .f32 :=
  select (cmpf .oeq A (broadcast S24x1 (Scalar.ofBits .f32 0x00000000#32))) (broadcast S24x1 (Scalar.ofBits .f32 0x3F800000#32)) (divf A (broadcast S24x1 (Scalar.ofBits .f32 0x437F0000#32)))

/-- The kernel's scales are `scaleOf` of its row maxima. -/
theorem pay2_eq (a : (⟨S24x50368, .f32⟩ : BufTy).Contents (Elt F)) : k0_pay2 a = scaleOf (amaxK a) := rfl

/-- A row's scale from its largest entry. -/
def scaleAt (A : EReal) : EReal := if A = 0 then 1 else Ideal.div A (Ideal.ofBits FTy.f32 1132396544#32)

/-- Entry `i` of the kernel's scales is the scale of row `i`'s maximum. -/
theorem scaleOf_apply (A : FVec Ideal S24x1 .f32) (i : Fin 24) : (scaleOf A : S24x1.Idx → EReal) (ix2 i 0) = scaleAt (A (ix2 i 0)) := by
  pointwise [scaleOf]
  rfl

/-- A row's largest entry. -/
def amaxAt (a : S24x50368.Idx → EReal) (i : Fin 24) : EReal := Finset.fold max (Ideal.ofBits FTy.f32 4286578688#32) (fun x : Fin 50368 => a (ix2 i x)) Finset.univ

/-- Entry `i` of the kernel's row maxima is the largest absolute value of row `i`. -/
theorem amaxK_apply (a : Vec Ideal S24x50368 .f32) (i : Fin 24) : (amaxK (F := Ideal) a : S24x1.Idx → EReal) (ix2 i 0) = amaxAt a i := by
  pointwise [amaxK, amaxAt]

/-- Entry `i` of the reference's row maxima is the largest absolute value of row `i`. -/
theorem amaxR_apply (a : Vec Ideal S24x50368 .f32) (i : Fin 24) : (amaxR (F := Ideal) a : S24.Idx → EReal) (ix1 i) = amaxAt a i := by
  pointwise [amaxR, amaxAt]

/-- Entry `i` of the reference's scales is the scale of row `i`'s maximum. -/
theorem scaleRof_apply (A : FVec Ideal S24 .f32) (i : Fin 24) : (scaleRof (F := Ideal) A : S24.Idx → EReal) (ix1 i) = scaleAt (A (ix1 i)) := by
  pointwise [scaleRof, id]
  rfl

/-- The reference's row scale. -/
theorem scaleR_apply (a : Vec Ideal S24x50368 .f32) (i : Fin 24) : (scaleR (F := Ideal) a : S24.Idx → EReal) (ix1 i) = scaleAt (amaxAt a i) := by
  unfold scaleR
  rw [scaleRof_apply, amaxR_apply]

/-- The kernel's row scale. -/
theorem pay2_apply (a : Vec Ideal S24x50368 .f32) (i : Fin 24) : (k0_pay2 (F := Ideal) a : S24x1.Idx → EReal) (ix2 i 0) = scaleAt (amaxAt a i) := by
  rw [pay2_eq, scaleOf_apply, amaxK_apply]

/-- The kernel's codes from the rows' scales. -/
def codesKof (a : FVec F S24x50368 .f32) (B : FVec F S24x1 .f32) : IVec S24x50368 8 :=
  have v9 : FVec F S24x50368 .f32 := broadcastTo S24x50368 B Cert.StatsIdeal.Facts₀.broadcasts_S24x1_S24x50368
  have v10 : FVec F S24x50368 .f32 := divf a v9
  have v11 : FVec F S24x50368 .f32 := roundeven v10
  have cst_4 : F .f32 := Scalar.ofBits .f32 0x00000000#32
  have cst_5 : F .f32 := Scalar.ofBits .f32 0x437F0000#32
  have v12 : FVec F S24x50368 .f32 := broadcast S24x50368 cst_4
  have v13 : FVec F S24x50368 .f32 := maximumf v12 v11
  have v14 : FVec F S24x50368 .f32 := broadcast S24x50368 cst_5
  have v15 : FVec F S24x50368 .f32 := minimumf v14 v13
  have v16 : IVec S24x50368 32 := fptosi 32 v15
  have v17 : IVec S24x50368 8 := trunci 8 v16 natLt_8_32
  v17

/-- The kernel's codes are `codesKof` of the array and its scales. -/
theorem pay3_eq (a : FVec F S24x50368 .f32) : k0_pay3 a = codesKof a (k0_pay2 a) := rfl

/-- An entry's code under a scale. -/
def codeAt (x s : EReal) : BitVec 8 :=
  BitVec.setWidth 8 (FloatOps.fptosi (F := Ideal) (φ := .f32) 32
    (min (Ideal.ofBits FTy.f32 1132396544#32) (max 0 (Ideal.liftRound Ideal.roundHalfEven (Ideal.div x s)))))

/-- Entry `(i, j)` of the reference's codes is the code of that value under row `i`'s scale. -/
theorem codesRof_apply (a : FVec Ideal S24x50368 .f32) (B : FVec Ideal S24 .f32) (i : Fin 24) (j : Fin 50368) :
    (codesRof (F := Ideal) a B) (ix2 i j) = codeAt (a (ix2 i j)) (B (ix1 i)) := by
  pointwise [codesRof, id]
  rfl

/-- Entry `(i, j)` of the kernel's codes is the code of that value under row `i`'s scale. -/
theorem codesKof_apply (a : FVec Ideal S24x50368 .f32) (B : FVec Ideal S24x1 .f32) (i : Fin 24) (j : Fin 50368) :
    (codesKof (F := Ideal) a B) (ix2 i j) = codeAt (a (ix2 i j)) (B (ix2 i 0)) := by
  pointwise [codesKof]
  rfl

/-- The kernel's codes are the reference's. -/
theorem codes_eq (a : Vec Ideal S24x50368 .f32) (i : Fin 24) (j : Fin 50368) : (k0_pay3 (F := Ideal) a) (ix2 i j) = (codes (F := Ideal) a) (ix2 i j) := by
  rw [pay3_eq, codesKof_apply, pay2_apply, ← scaleR_apply, ← codesRof_apply]
  rfl

/-- The kernel's scales are the reference's. -/
theorem scales_eq (a : Vec Ideal S24x50368 .f32) (i : Fin 24) (j : Fin 128) : (k0_pay4 (F := Ideal) a) (ix2 i j) = (scales (F := Ideal) a) (ix2 i j) := by
  have h := pay2_apply a i
  rw [← scaleR_apply a i] at h
  unfold k0_pay4 scales
  generalize k0_pay2 (F := Ideal) a = A at h ⊢
  generalize scaleR (F := Ideal) a = B at h ⊢
  pointwise [id]
  rw [h]

/-- The kernel's row sums are the reference's. -/
theorem l1_eq (a : Vec Ideal S24x50368 .f32) (i : Fin 24) (j : Fin 128) : (k0_pay5 (F := Ideal) a) (ix2 i j) = (l1 (F := Ideal) a) (ix2 i j) := by
  pointwise [id, l1, k0_pay5]

/-- The kernel's column means are the reference's. -/
theorem meanAct_eq (a : Vec Ideal S24x50368 .f32) (i : Fin 1) (j : Fin 50368) : (k0_pay6 (F := Ideal) a) (ix2 i j) = (meanAct (F := Ideal) a) (ix2 i j) := by
  pointwise [id, meanAct, k0_pay6]

/-- The kernel's sum of the squares of the column means is the reference's. -/
theorem flops_eq (a : Vec Ideal S24x50368 .f32) (i : Fin 1) (j : Fin 128) : (k0_pay1 (F := Ideal) (k0_pay7 a)) (ix2 i j) = (flops (F := Ideal) a) (ix2 i j) := by
  pointwise [id, flops, k0_pay1, k0_pay6, k0_pay7]

end Cert.Proof.Stats

namespace Cert.Proof.StatsRun

open Cert.StatsIdeal Cert.StatsIdeal.Gen Cert.Proof.Stats
open Idealize.ShloMosaic Idealize.ShloMosaic.TcCoe Idealize.SL.Sem
open Idealize.ShloMosaic.Pipeline (Dat Cfg Window)

variable {F : FTy → Type} [FloatOps F]

/-- Axis 0 is an axis of a rank-2 array. -/
theorem lt02 : 0 < 2 := by decide
/-- Axis 1 is an axis of a rank-2 array. -/
theorem lt12 : 1 < 2 := by decide

/-- The kernel's payload for result 1 is the reference's result, as an array. -/
theorem pay1_ref (a : Vec Ideal S24x50368 .f32) : k0_pay3 a = codes (F := Ideal) a := by
  funext y
  have hy : y = ix2 (⟨(y 0).val, (y 0).isLt⟩ : Fin 24) (⟨(y 1).val, (y 1).isLt⟩ : Fin 50368) := by
    funext b
    match b with
    | ⟨0, _⟩ => rfl
    | ⟨1, _⟩ => rfl
  rw [hy]
  exact codes_eq a _ _

/-- The kernel's payload for result 2 is the reference's result, as an array. -/
theorem pay2_ref (a : Vec Ideal S24x50368 .f32) : k0_pay4 a = scales (F := Ideal) a := by
  funext y
  have hy : y = ix2 (⟨(y 0).val, (y 0).isLt⟩ : Fin 24) (⟨(y 1).val, (y 1).isLt⟩ : Fin 128) := by
    funext b
    match b with
    | ⟨0, _⟩ => rfl
    | ⟨1, _⟩ => rfl
  rw [hy]
  exact scales_eq a _ _

/-- The kernel's payload for result 3 is the reference's result, as an array. -/
theorem pay3_ref (a : Vec Ideal S24x50368 .f32) : k0_pay5 a = l1 (F := Ideal) a := by
  funext y
  have hy : y = ix2 (⟨(y 0).val, (y 0).isLt⟩ : Fin 24) (⟨(y 1).val, (y 1).isLt⟩ : Fin 128) := by
    funext b
    match b with
    | ⟨0, _⟩ => rfl
    | ⟨1, _⟩ => rfl
  rw [hy]
  exact l1_eq a _ _

/-- The kernel's payload for result 4 is the reference's result, as an array. -/
theorem pay4_ref (a : Vec Ideal S24x50368 .f32) : k0_pay6 a = meanAct (F := Ideal) a := by
  funext y
  have hy : y = ix2 (⟨(y 0).val, (y 0).isLt⟩ : Fin 1) (⟨(y 1).val, (y 1).isLt⟩ : Fin 50368) := by
    funext b
    match b with
    | ⟨0, _⟩ => rfl
    | ⟨1, _⟩ => rfl
  rw [hy]
  exact meanAct_eq a _ _

/-- The kernel's payload for result 5 is the reference's result, as an array. -/
theorem pay5_ref (a : Vec Ideal S24x50368 .f32) : k0_pay1 (k0_pay7 a) = flops (F := Ideal) a := by
  funext y
  have hy : y = ix2 (⟨(y 0).val, (y 0).isLt⟩ : Fin 1) (⟨(y 1).val, (y 1).isLt⟩ : Fin 128) := by
    funext b
    match b with
    | ⟨0, _⟩ => rfl
    | ⟨1, _⟩ => rfl
  rw [hy]
  exact flops_eq a _ _

variable (m : (ℓ : Loc nD τ sig) → Buf (Elt Ideal) ℓ)

/-- The input's block is the whole input. -/
theorem iblk_eq (c : Dev nD) (t : Fin cfg0.N) : iblk m c 0 t = (m ((c : Thread nD τ).loc main_arg0) : S24x50368.Idx → EReal) := by
  rw [← V_main_arg0 m c]
  funext y
  unfold iblk
  refine congrArg (V m c main_arg0 : S24x50368.Idx → EReal) (funext fun a => Fin.ext ?_)
  refine (Window.rect_emb_val (cfg0.win 0) t y a).trans ?_
  exact (congrArg (· + (y a).val) (Nat.zero_mul _)).trans (Nat.zero_add _)

/-- What the kernel writes to window 1, as one function of the input. -/
theorem out1_eq (a : Vec F S24x50368 .f32) : out0_1 a = k0_pay3 a := by
  unfold out0_1
  rw [View.ld_unit_lit inb_S24x50368_S24x50368_0_0 a (by decide)]
  exact View.canon_cons_unit_lit inb_S24x50368_S24x50368_0_0 _ [] (by decide)

/-- Every entry of window 1's array lies in its block. -/
theorem covers1 : (cfg0.win 1).Covers := by
  refine ⟨fun a => ?_, fun β => ?_⟩
  · match a with
    | ⟨0, _⟩ => exact (show 0 < 24 by decide)
    | ⟨1, _⟩ => exact (show 0 < 50368 by decide)
  · have hb1 : (β ⟨1, lt12⟩).val < 1 := lt_of_lt_of_eq (β ⟨1, lt12⟩).isLt (show (50368 + 50368 - 1) / 50368 = 1 by decide)
    have hb0 : (β ⟨0, lt02⟩).val < 1 := lt_of_lt_of_eq (β ⟨0, lt02⟩).isLt (show (24 + 24 - 1) / 24 = 1 by decide)
    refine ⟨⟨0, by decide⟩, by decide +kernel, fun a => ?_⟩
    match a with
    | ⟨0, _⟩ =>
      refine ⟨?_, Or.inl rfl⟩
      show 0 = (β ⟨0, lt02⟩).val
      omega
    | ⟨1, _⟩ =>
      refine ⟨?_, Or.inl rfl⟩
      show 0 = (β ⟨1, lt12⟩).val
      omega

/-- A result array whose every written block is the block of `G` is `G`. -/
theorem arr1_eq (c : Dev nD) (G : S24x50368.Idx → BitVec 8) (hG : ∀ t, out0_1 (iblk m c 0 t) = G) :
    (dats m 0 c).arrAt 1 cfg0.N = G := by
  refine (dats m 0 c).arrAt_eq_of_covers 1 G covers1 (fun t _ y => ?_)
  rw [after0_1, hG]
  refine congrArg G (funext fun a => Fin.ext ?_)
  refine Eq.trans ?_ (Window.rect_emb_val (cfg0.win 1) t y a).symm
  exact ((congrArg (· + (y a).val) (Nat.zero_mul _)).trans (Nat.zero_add _)).symm

/-- Result array 1 after the kernel's run. -/
theorem result1_eq (c : Dev nD) : (dats m 0 c).arrAt 1 cfg0.N = codes (F := Ideal) (m ((c : Thread nD τ).loc main_arg0)) :=
  arr1_eq m c _ fun t => ((congrArg out0_1 (iblk_eq m c t)).trans (out1_eq _)).trans (pay1_ref _)

/-- What the kernel writes to window 2, as one function of the input. -/
theorem out2_eq (a : Vec F S24x50368 .f32) : out0_2 a = k0_pay4 a := by
  unfold out0_2
  rw [View.ld_unit_lit inb_S24x50368_S24x50368_0_0 a (by decide)]
  exact View.canon_cons_unit_lit inb_S24x128_S24x128_0_0 _ [] (by decide)

/-- Every entry of window 2's array lies in its block. -/
theorem covers2 : (cfg0.win 2).Covers := by
  refine ⟨fun a => ?_, fun β => ?_⟩
  · match a with
    | ⟨0, _⟩ => exact (show 0 < 24 by decide)
    | ⟨1, _⟩ => exact (show 0 < 128 by decide)
  · have hb1 : (β ⟨1, lt12⟩).val < 1 := lt_of_lt_of_eq (β ⟨1, lt12⟩).isLt (show (128 + 128 - 1) / 128 = 1 by decide)
    have hb0 : (β ⟨0, lt02⟩).val < 1 := lt_of_lt_of_eq (β ⟨0, lt02⟩).isLt (show (24 + 24 - 1) / 24 = 1 by decide)
    refine ⟨⟨0, by decide⟩, by decide +kernel, fun a => ?_⟩
    match a with
    | ⟨0, _⟩ =>
      refine ⟨?_, Or.inl rfl⟩
      show 0 = (β ⟨0, lt02⟩).val
      omega
    | ⟨1, _⟩ =>
      refine ⟨?_, Or.inl rfl⟩
      show 0 = (β ⟨1, lt12⟩).val
      omega

/-- A result array whose every written block is the block of `G` is `G`. -/
theorem arr2_eq (c : Dev nD) (G : S24x128.Idx → EReal) (hG : ∀ t, out0_2 (iblk m c 0 t) = G) :
    (dats m 0 c).arrAt 2 cfg0.N = G := by
  refine (dats m 0 c).arrAt_eq_of_covers 2 G covers2 (fun t _ y => ?_)
  rw [after0_2, hG]
  refine congrArg G (funext fun a => Fin.ext ?_)
  refine Eq.trans ?_ (Window.rect_emb_val (cfg0.win 2) t y a).symm
  exact ((congrArg (· + (y a).val) (Nat.zero_mul _)).trans (Nat.zero_add _)).symm

/-- Result array 2 after the kernel's run. -/
theorem result2_eq (c : Dev nD) : (dats m 0 c).arrAt 2 cfg0.N = scales (F := Ideal) (m ((c : Thread nD τ).loc main_arg0)) :=
  arr2_eq m c _ fun t => ((congrArg out0_2 (iblk_eq m c t)).trans (out2_eq _)).trans (pay2_ref _)

/-- What the kernel writes to window 3, as one function of the input. -/
theorem out3_eq (a : Vec F S24x50368 .f32) : out0_3 a = k0_pay5 a := by
  unfold out0_3
  rw [View.ld_unit_lit inb_S24x50368_S24x50368_0_0 a (by decide)]
  exact View.canon_cons_unit_lit inb_S24x128_S24x128_0_0 _ [] (by decide)

/-- Every entry of window 3's array lies in its block. -/
theorem covers3 : (cfg0.win 3).Covers := by
  refine ⟨fun a => ?_, fun β => ?_⟩
  · match a with
    | ⟨0, _⟩ => exact (show 0 < 24 by decide)
    | ⟨1, _⟩ => exact (show 0 < 128 by decide)
  · have hb1 : (β ⟨1, lt12⟩).val < 1 := lt_of_lt_of_eq (β ⟨1, lt12⟩).isLt (show (128 + 128 - 1) / 128 = 1 by decide)
    have hb0 : (β ⟨0, lt02⟩).val < 1 := lt_of_lt_of_eq (β ⟨0, lt02⟩).isLt (show (24 + 24 - 1) / 24 = 1 by decide)
    refine ⟨⟨0, by decide⟩, by decide +kernel, fun a => ?_⟩
    match a with
    | ⟨0, _⟩ =>
      refine ⟨?_, Or.inl rfl⟩
      show 0 = (β ⟨0, lt02⟩).val
      omega
    | ⟨1, _⟩ =>
      refine ⟨?_, Or.inl rfl⟩
      show 0 = (β ⟨1, lt12⟩).val
      omega

/-- A result array whose every written block is the block of `G` is `G`. -/
theorem arr3_eq (c : Dev nD) (G : S24x128.Idx → EReal) (hG : ∀ t, out0_3 (iblk m c 0 t) = G) :
    (dats m 0 c).arrAt 3 cfg0.N = G := by
  refine (dats m 0 c).arrAt_eq_of_covers 3 G covers3 (fun t _ y => ?_)
  rw [after0_3, hG]
  refine congrArg G (funext fun a => Fin.ext ?_)
  refine Eq.trans ?_ (Window.rect_emb_val (cfg0.win 3) t y a).symm
  exact ((congrArg (· + (y a).val) (Nat.zero_mul _)).trans (Nat.zero_add _)).symm

/-- Result array 3 after the kernel's run. -/
theorem result3_eq (c : Dev nD) : (dats m 0 c).arrAt 3 cfg0.N = l1 (F := Ideal) (m ((c : Thread nD τ).loc main_arg0)) :=
  arr3_eq m c _ fun t => ((congrArg out0_3 (iblk_eq m c t)).trans (out3_eq _)).trans (pay3_ref _)

/-- What the kernel writes to window 4, as one function of the input. -/
theorem out4_eq (a : Vec F S24x50368 .f32) : out0_4 a = k0_pay6 a := by
  unfold out0_4
  rw [View.ld_unit_lit inb_S24x50368_S24x50368_0_0 a (by decide)]
  exact View.canon_cons_unit_lit inb_S1x50368_S1x50368_0_0 _ [] (by decide)

/-- Every entry of window 4's array lies in its block. -/
theorem covers4 : (cfg0.win 4).Covers := by
  refine ⟨fun a => ?_, fun β => ?_⟩
  · match a with
    | ⟨0, _⟩ => exact (show 0 < 1 by decide)
    | ⟨1, _⟩ => exact (show 0 < 50368 by decide)
  · have hb1 : (β ⟨1, lt12⟩).val < 1 := lt_of_lt_of_eq (β ⟨1, lt12⟩).isLt (show (50368 + 50368 - 1) / 50368 = 1 by decide)
    have hb0 : (β ⟨0, lt02⟩).val < 1 := lt_of_lt_of_eq (β ⟨0, lt02⟩).isLt (show (1 + 1 - 1) / 1 = 1 by decide)
    refine ⟨⟨0, by decide⟩, by decide +kernel, fun a => ?_⟩
    match a with
    | ⟨0, _⟩ =>
      refine ⟨?_, Or.inl rfl⟩
      show 0 = (β ⟨0, lt02⟩).val
      omega
    | ⟨1, _⟩ =>
      refine ⟨?_, Or.inl rfl⟩
      show 0 = (β ⟨1, lt12⟩).val
      omega

/-- A result array whose every written block is the block of `G` is `G`. -/
theorem arr4_eq (c : Dev nD) (G : S1x50368.Idx → EReal) (hG : ∀ t, out0_4 (iblk m c 0 t) = G) :
    (dats m 0 c).arrAt 4 cfg0.N = G := by
  refine (dats m 0 c).arrAt_eq_of_covers 4 G covers4 (fun t _ y => ?_)
  rw [after0_4, hG]
  refine congrArg G (funext fun a => Fin.ext ?_)
  refine Eq.trans ?_ (Window.rect_emb_val (cfg0.win 4) t y a).symm
  exact ((congrArg (· + (y a).val) (Nat.zero_mul _)).trans (Nat.zero_add _)).symm

/-- Result array 4 after the kernel's run. -/
theorem result4_eq (c : Dev nD) : (dats m 0 c).arrAt 4 cfg0.N = meanAct (F := Ideal) (m ((c : Thread nD τ).loc main_arg0)) :=
  arr4_eq m c _ fun t => ((congrArg out0_4 (iblk_eq m c t)).trans (out4_eq _)).trans (pay4_ref _)

/-- What the kernel writes to window 5, as one function of the input. -/
theorem out5_eq (a : Vec F S24x50368 .f32) : out0_5 a = k0_pay1 (k0_pay7 a) := by
  unfold out0_5
  rw [View.ld_unit_lit inb_S24x50368_S24x50368_0_0 a (by decide)]
  exact View.canon_cons_unit_lit inb_S1x128_S1x128_0_0 _ [] (by decide)

/-- Every entry of window 5's array lies in its block. -/
theorem covers5 : (cfg0.win 5).Covers := by
  refine ⟨fun a => ?_, fun β => ?_⟩
  · match a with
    | ⟨0, _⟩ => exact (show 0 < 1 by decide)
    | ⟨1, _⟩ => exact (show 0 < 128 by decide)
  · have hb1 : (β ⟨1, lt12⟩).val < 1 := lt_of_lt_of_eq (β ⟨1, lt12⟩).isLt (show (128 + 128 - 1) / 128 = 1 by decide)
    have hb0 : (β ⟨0, lt02⟩).val < 1 := lt_of_lt_of_eq (β ⟨0, lt02⟩).isLt (show (1 + 1 - 1) / 1 = 1 by decide)
    refine ⟨⟨0, by decide⟩, by decide +kernel, fun a => ?_⟩
    match a with
    | ⟨0, _⟩ =>
      refine ⟨?_, Or.inl rfl⟩
      show 0 = (β ⟨0, lt02⟩).val
      omega
    | ⟨1, _⟩ =>
      refine ⟨?_, Or.inl rfl⟩
      show 0 = (β ⟨1, lt12⟩).val
      omega

/-- A result array whose every written block is the block of `G` is `G`. -/
theorem arr5_eq (c : Dev nD) (G : S1x128.Idx → EReal) (hG : ∀ t, out0_5 (iblk m c 0 t) = G) :
    (dats m 0 c).arrAt 5 cfg0.N = G := by
  refine (dats m 0 c).arrAt_eq_of_covers 5 G covers5 (fun t _ y => ?_)
  rw [after0_5, hG]
  refine congrArg G (funext fun a => Fin.ext ?_)
  refine Eq.trans ?_ (Window.rect_emb_val (cfg0.win 5) t y a).symm
  exact ((congrArg (· + (y a).val) (Nat.zero_mul _)).trans (Nat.zero_add _)).symm

/-- Result array 5 after the kernel's run. -/
theorem result5_eq (c : Dev nD) : (dats m 0 c).arrAt 5 cfg0.N = flops (F := Ideal) (m ((c : Thread nD τ).loc main_arg0)) :=
  arr5_eq m c _ fun t => ((congrArg out0_5 (iblk_eq m c t)).trans (out5_eq _)).trans (pay5_ref _)

end Cert.Proof.StatsRun
-- ==== Proof.Transform.lean ====
module

public import Idealize.ShloMosaic.Lib.Pointwise

@[expose] public section

set_option maxRecDepth 16384

noncomputable section

/-! The feed-forward step, one row at a time: what a token's row of codes becomes. -/

namespace Cert.Proof.Transform

open Idealize.ShloMosaic

/-- The scaled product with a column of the weights plus its bias, through the exact gaussian error unit. -/
def gAt (x : Fin 1024 → EReal) (w : Fin 1024 → Fin 1024 → EReal) (s : EReal) (ws bt : Fin 1024 → EReal) (c : Fin 1024) : EReal :=
  Ideal.ofBits FTy.f32 1056964608#32 * ((∑ k, x k * w k c) * s * ws c + bt c)
    * (1 + FloatOps.erf (F := Ideal) (φ := .f32) (((∑ k, x k * w k c) * s * ws c + bt c) * Ideal.ofBits FTy.f32 1060439283#32))

/-- A row less its mean. -/
def cenAt (g : Fin 1024 → EReal) (c : Fin 1024) : EReal := g c - Ideal.div (∑ x, g x) (Ideal.ofBits FTy.f32 1149239296#32)

/-- A row's variance. -/
def varAt (g : Fin 1024 → EReal) : EReal := Ideal.div (∑ x, cenAt g x * cenAt g x) (Ideal.ofBits FTy.f32 1149239296#32)

/-- A row less its mean over its standard deviation, times the gain. -/
def normAt (g gam : Fin 1024 → EReal) (c : Fin 1024) : EReal :=
  Ideal.div (cenAt g c) (Ideal.sqrt (varAt g + Ideal.ofBits FTy.f32 730643660#32)) * gam c

/-- A normalised row. -/
def yAt (g gam bet : Fin 1024 → EReal) (c : Fin 1024) : EReal := normAt g gam c + bet c

/-- A row's largest magnitude. -/
def amaxAt (y : Fin 1024 → EReal) : EReal :=
  Finset.fold max (Ideal.ofBits FTy.f32 4286578688#32) (fun x => FloatOps.absf (F := Ideal) (φ := .f32) (y x)) Finset.univ

/-- A row's scale. -/
def scaleAt (y : Fin 1024 → EReal) : EReal := if amaxAt y = 0 then 1 else Ideal.div (amaxAt y) (Ideal.ofBits FTy.f32 1138753536#32)

/-- An entry's code under a scale. -/
def codeAt (v s : EReal) : EReal :=
  min (Ideal.ofBits FTy.f32 1138753536#32) (max (Ideal.ofBits FTy.f32 3286237184#32) (Ideal.div v s))

/-- The normalised row of token `n`, the tokens counted through all documents. -/
def rowAt (X : Fin 24 → Fin 896 → Fin 1024 → EReal) (S : Fin 24 → Fin 896 → EReal) (W : Fin 1024 → Fin 1024 → EReal)
    (ws bt gam bet : Fin 1024 → EReal) (n : Fin 21504) : Fin 1024 → EReal :=
  yAt (gAt (X ⟨n.val / 896, by omega⟩ ⟨n.val % 896, by omega⟩) W (S ⟨n.val / 896, by omega⟩ ⟨n.val % 896, by omega⟩) ws bt) gam bet

/-- The codes of all rows. -/
def codesOfRows (R : Fin 21504 → Fin 1024 → EReal) : (⟨2, ![21504, 1024]⟩ : Shape).Idx → EReal := fun y =>
  codeAt (R ⟨(y 0).val, (y 0).isLt⟩ ⟨(y 1).val, (y 1).isLt⟩) (scaleAt (R ⟨(y 0).val, (y 0).isLt⟩))

/-- Row 128 `b` + `r` of block `a` of 256 rows. -/
def rowNo (a : Fin 84) (b : Fin 2) (r : Fin 128) : Fin 21504 := ⟨a.val * 256 + b.val * 128 + r.val, by omega⟩

/-- The scales of all rows, in blocks of two times 128. -/
def scalesOfRows (R : Fin 21504 → Fin 1024 → EReal) : (⟨3, ![84, 2, 128]⟩ : Shape).Idx → EReal := fun y =>
  scaleAt (R (rowNo ⟨(y 0).val, (y 0).isLt⟩ ⟨(y 1).val, (y 1).isLt⟩ ⟨(y 2).val, (y 2).isLt⟩))

/-- Entry `(n, c)` of the codes is the code of row `n`'s value at column `c`, under row `n`'s own scale. -/
theorem codesOfRows_at (R : Fin 21504 → Fin 1024 → EReal) (y : (⟨2, ![21504, 1024]⟩ : Shape).Idx) (n : Fin 21504) (c : Fin 1024)
    (h0 : (y 0).val = n.val) (h1 : (y 1).val = c.val) : codesOfRows R y = codeAt (R n c) (scaleAt (R n)) := by
  have e0 : (⟨(y 0).val, (y 0).isLt⟩ : Fin 21504) = n := Fin.ext h0
  have e1 : (⟨(y 1).val, (y 1).isLt⟩ : Fin 1024) = c := Fin.ext h1
  unfold codesOfRows
  rw [e0, e1]

/-- Entry `(a, b, r)` of the scales is the scale of row `rowNo a b r`. -/
theorem scalesOfRows_at (R : Fin 21504 → Fin 1024 → EReal) (y : (⟨3, ![84, 2, 128]⟩ : Shape).Idx) (a : Fin 84) (b : Fin 2) (r : Fin 128)
    (h0 : (y 0).val = a.val) (h1 : (y 1).val = b.val) (h2 : (y 2).val = r.val) : scalesOfRows R y = scaleAt (R (rowNo a b r)) := by
  have e0 : (⟨(y 0).val, (y 0).isLt⟩ : Fin 84) = a := Fin.ext h0
  have e1 : (⟨(y 1).val, (y 1).isLt⟩ : Fin 2) = b := Fin.ext h1
  have e2 : (⟨(y 2).val, (y 2).isLt⟩ : Fin 128) = r := Fin.ext h2
  unfold scalesOfRows
  rw [e0, e1, e2]

end Cert.Proof.Transform

end
-- ==== Proof.TransformRows.lean ====
module

public import proofs.«01_k».proof.Proof.Transform
public import proofs.«01_k».proof.Proof.Gen.TransformIdeal.Value
public import Idealize.ShloMosaic.Lib.Pipeline.ValueKit
public import Idealize.ShloMosaic.Lib.StableHlo.ReadAt

@[expose] public section

set_option maxRecDepth 16384

noncomputable section

namespace Cert.Proof.TransformIdeal

open Cert.TransformIdeal Cert.TransformIdeal.Gen Cert.Proof.Transform
open Idealize.ShloMosaic Idealize.ShloMosaic.TcCoe Idealize.SL.Sem
open Idealize.ShloMosaic.Pipeline (Dat Cfg Window)

/-- The centred row of the first half of a block. -/
theorem pay6_apply (v0 : Vec Ideal S256x1024 .fp8e4m3) (v2 : Vec Ideal S1024x1024 .fp8e4m3) (v4 : Vec Ideal S1x1x128 .f32)
    (v12 v16 : Vec Ideal S1x1024 .f32) (r : Fin 128) (c : Fin 1024) :
    k0_pay6 (F := Ideal) v0 v2 v4 v12 v16 (ix2 r c)
      = cenAt (gAt (fun k => v0 (ix2 (⟨r.val, by omega⟩ : Fin 256) k)) (fun k c => v2 (ix2 k c)) (v4 (ix3 0 0 r))
          (fun c => v12 (ix2 0 c)) (fun c => v16 (ix2 0 c))) c := by
  pointwise [k0_pay6, k0_pay5]
  simp only [dite_eq_ite, ite_self]
  rfl

/-- The variance of a row of the first half of a block. -/
theorem pay7_apply (v0 : Vec Ideal S256x1024 .fp8e4m3) (v2 : Vec Ideal S1024x1024 .fp8e4m3) (v4 : Vec Ideal S1x1x128 .f32)
    (v12 v16 : Vec Ideal S1x1024 .f32) (r : Fin 128) :
    k0_pay7 (F := Ideal) v0 v2 v4 v12 v16 (ix2 r 0)
      = varAt (gAt (fun k => v0 (ix2 (⟨r.val, by omega⟩ : Fin 256) k)) (fun k c => v2 (ix2 k c)) (v4 (ix3 0 0 r))
          (fun c => v12 (ix2 0 c)) (fun c => v16 (ix2 0 c))) := by
  have h := pay6_apply v0 v2 v4 v12 v16 r
  unfold k0_pay7
  generalize k0_pay6 (F := Ideal) v0 v2 v4 v12 v16 = C at h ⊢
  pointwise []
  simp only [h]
  rfl

/-- The normalised row of the first half of a block. -/
theorem pay8_apply (v33 : FVec Ideal S128x1024 .f32) (v38 : FVec Ideal S128x1 .f32) (v44 v48 : Vec Ideal S1x1024 .f32) (g : Fin 1024 → EReal)
    (r : Fin 128) (h33 : ∀ c, v33 (ix2 r c) = cenAt g c) (h38 : v38 (ix2 r 0) = varAt g) (c : Fin 1024) :
    k0_pay8 (F := Ideal) v33 v38 (Scalar.ofBits .f32 0x2B8CBCCC#32) v44 v48 (ix2 r c) = yAt g (fun c => v44 (ix2 0 c)) (fun c => v48 (ix2 0 c)) c := by
  pointwise [k0_pay8]
  rw [h33, h38]
  rfl

/-- The normalised row of the second half of a block, up to the bias. -/
theorem pay13_apply (v3 : FVec Ideal S256x1024 .f32) (v78 : FVec Ideal S1x128 .f32) (v84 v88 v116 : Vec Ideal S1x1024 .f32)
    (x : Fin 1024 → EReal) (w : Fin 1024 → Fin 1024 → EReal) (r : Fin 128)
    (h3 : ∀ c, v3 (ix2 (⟨128 + r.val, by omega⟩ : Fin 256) c) = ∑ k, x k * w k c) (c : Fin 1024) :
    k0_pay13 (F := Ideal) v3 v78 v84 v88 v116 (ix2 r c)
      = normAt (gAt x w (v78 (ix2 0 r)) (fun c => v84 (ix2 0 c)) (fun c => v88 (ix2 0 c))) (fun c => v116 (ix2 0 c)) c := by
  pointwise [k0_pay13]
  simp only [dite_eq_ite, ite_self, h3]
  rfl

/-- Entry `(r, c)` of the block's product is the sum over `k` of codes times weights. -/
theorem pay5_apply (v0 : Vec Ideal S256x1024 .fp8e4m3) (v2 : Vec Ideal S1024x1024 .fp8e4m3) (r : Fin 256) (c : Fin 1024) :
    k0_pay5 (F := Ideal) v0 v2 (ix2 r c) = ∑ k, v0 (ix2 r k) * v2 (ix2 k c) := by
  pointwise [k0_pay5]

/-- The half's scales, reshaped to one row: lane `r` keeps its value. -/
theorem pay12_apply (v76 : Vec Ideal S1x1x128 .f32) (r : Fin 128) : k0_pay12 (F := Ideal) v76 (ix2 0 r) = v76 (ix3 0 0 r) := by
  pointwise [k0_pay12]

/-- A row vector spread over 128 rows has the same value in each row. -/
theorem pay14_apply (v120 : Vec Ideal S1x1024 .f32) (r : Fin 128) (c : Fin 1024) : k0_pay14 (F := Ideal) v120 (ix2 r c) = v120 (ix2 0 c) := by
  pointwise [k0_pay14]

/-- The last addition acts entry by entry. -/
theorem pay1_apply (a b : FVec Ideal S128x1024 .f32) (r : Fin 128) (c : Fin 1024) : k0_pay1 (F := Ideal) a b (ix2 r c) = a (ix2 r c) + b (ix2 r c) := by
  pointwise [k0_pay1]

/-- The scale of a row of the first half of a block. -/
theorem pay9_apply (v33 : FVec Ideal S128x1024 .f32) (v38 : FVec Ideal S128x1 .f32) (e : EReal) (v44 v48 : Vec Ideal S1x1024 .f32) (y : Fin 1024 → EReal)
    (r : Fin 128) (h : ∀ c, k0_pay8 (F := Ideal) v33 v38 e v44 v48 (ix2 r c) = y c) :
    k0_pay9 (F := Ideal) v33 v38 e v44 v48 (ix2 r 0) = scaleAt y := by
  unfold k0_pay9
  generalize k0_pay8 (F := Ideal) v33 v38 e v44 v48 = Y at h ⊢
  pointwise []
  simp only [h]
  rfl

/-- The codes of a row of the first half of a block. -/
theorem pay10_apply (v33 : FVec Ideal S128x1024 .f32) (v38 : FVec Ideal S128x1 .f32) (e : EReal) (v44 v48 : Vec Ideal S1x1024 .f32) (y : Fin 1024 → EReal)
    (r : Fin 128) (h : ∀ c, k0_pay8 (F := Ideal) v33 v38 e v44 v48 (ix2 r c) = y c) (c : Fin 1024) :
    k0_pay10 (F := Ideal) v33 v38 e v44 v48 (ix2 r c) = codeAt (y c) (scaleAt y) := by
  have h9 := pay9_apply v33 v38 e v44 v48 y r h
  unfold k0_pay10
  generalize k0_pay8 (F := Ideal) v33 v38 e v44 v48 = Y at h ⊢
  generalize k0_pay9 (F := Ideal) v33 v38 e v44 v48 = S at h9 ⊢
  pointwise []
  rw [h, h9]
  rfl

/-- The scales of the rows of the first half of a block, as the kernel lays them out. -/
theorem pay11_apply (v33 : FVec Ideal S128x1024 .f32) (v38 : FVec Ideal S128x1 .f32) (e : EReal) (v44 v48 : Vec Ideal S1x1024 .f32) (y : Fin 1024 → EReal)
    (r : Fin 128) (h : ∀ c, k0_pay8 (F := Ideal) v33 v38 e v44 v48 (ix2 r c) = y c) :
    k0_pay11 (F := Ideal) v33 v38 e v44 v48 (ix3 0 0 r) = scaleAt y := by
  have h9 := pay9_apply v33 v38 e v44 v48 y r h
  unfold k0_pay11
  generalize k0_pay9 (F := Ideal) v33 v38 e v44 v48 = S at h9 ⊢
  pointwise []
  exact h9

/-- The scale of a row of the second half of a block. -/
theorem pay2_apply (a b : FVec Ideal S128x1024 .f32) (y : Fin 1024 → EReal) (r : Fin 128) (h : ∀ c, k0_pay1 (F := Ideal) a b (ix2 r c) = y c) :
    k0_pay2 (F := Ideal) a b (ix2 r 0) = scaleAt y := by
  unfold k0_pay2
  generalize k0_pay1 (F := Ideal) a b = Y at h ⊢
  pointwise []
  simp only [h]
  rfl

/-- The codes of a row of the second half of a block. -/
theorem pay3_apply (a b : FVec Ideal S128x1024 .f32) (y : Fin 1024 → EReal) (r : Fin 128) (h : ∀ c, k0_pay1 (F := Ideal) a b (ix2 r c) = y c) (c : Fin 1024) :
    k0_pay3 (F := Ideal) a b (ix2 r c) = codeAt (y c) (scaleAt y) := by
  have h9 := pay2_apply a b y r h
  unfold k0_pay3
  generalize k0_pay1 (F := Ideal) a b = Y at h ⊢
  generalize k0_pay2 (F := Ideal) a b = S at h9 ⊢
  pointwise []
  rw [h, h9]
  rfl

/-- The scales of the rows of the second half of a block, as the kernel lays them out. -/
theorem pay4_apply (a b : FVec Ideal S128x1024 .f32) (y : Fin 1024 → EReal) (r : Fin 128) (h : ∀ c, k0_pay1 (F := Ideal) a b (ix2 r c) = y c) :
    k0_pay4 (F := Ideal) a b (ix3 0 0 r) = scaleAt y := by
  have h9 := pay2_apply a b y r h
  unfold k0_pay4
  generalize k0_pay2 (F := Ideal) a b = S at h9 ⊢
  pointwise []
  exact h9

end Cert.Proof.TransformIdeal

end
-- ==== Proof.TransformRun.lean ====
module

public import proofs.«01_k».proof.Proof.TransformRows

@[expose] public section

set_option maxRecDepth 16384

noncomputable section

/-! What the feed-forward kernel leaves in its two result arrays: the codes and the scales of the normalised rows. -/

namespace Cert.Proof.TransformIdeal

open Cert.TransformIdeal Cert.TransformIdeal.Gen Cert.Proof.Transform
open Idealize.ShloMosaic Idealize.ShloMosaic.TcCoe Idealize.SL.Sem
open Idealize.ShloMosaic.Pipeline (Dat Cfg Window)

/-- Axis 0 is an axis of a rank-2 array. -/
theorem lt02 : 0 < 2 := by decide
/-- Axis 1 is an axis of a rank-2 array. -/
theorem lt12 : 1 < 2 := by decide
/-- Axis 0 is an axis of a rank-3 array. -/
theorem lt03 : 0 < 3 := by decide
/-- Axis 1 is an axis of a rank-3 array. -/
theorem lt13 : 1 < 3 := by decide
/-- Axis 2 is an axis of a rank-3 array. -/
theorem lt23 : 2 < 3 := by decide

section blocks

variable (x0 : Vec Ideal S256x1024 .fp8e4m3) (x1 : Vec Ideal S1x2x128 .f32) (x2 : Vec Ideal S1024x1024 .fp8e4m3) (x3 x4 x5 x6 : Vec Ideal S1x1024 .f32)

/-- Normalised row `r` of half `i` of a block. -/
def rowB (i : Fin 2) (r : Fin 128) : Fin 1024 → EReal :=
  yAt (gAt (fun k => x0 (ix2 (⟨i.val * 128 + r.val, by omega⟩ : Fin 256) k)) (fun k c => x2 (ix2 k c)) (x1 (ix3 0 i r))
    (fun c => x3 (ix2 0 c)) (fun c => x4 (ix2 0 c))) (fun c => x5 (ix2 0 c)) (fun c => x6 (ix2 0 c))

/-- Row `r` of half 0 is row `r` of the block. -/
theorem row_top (r : Fin 128) : (⟨(0 : Fin 2).val * 128 + r.val, by have := r.isLt; show 0 * 128 + r.val < 256; omega⟩ : Fin 256) = ⟨r.val, by omega⟩ :=
  Fin.ext (by show 0 * 128 + r.val = r.val; omega)

/-- Row `r` of half 1 is row `128 + r` of the block. -/
theorem row_bot (r : Fin 128) : (⟨(1 : Fin 2).val * 128 + r.val, by have := r.isLt; show 1 * 128 + r.val < 256; omega⟩ : Fin 256) = ⟨128 + r.val, by omega⟩ :=
  Fin.ext (by show 1 * 128 + r.val = 128 + r.val; omega)

/-- The load of half 0's scales reads lane `r` of half 0. -/
theorem ld_top (r : Fin 128) : View.ld x1 r0_2 (ix3 0 0 r) = x1 (ix3 0 0 r) := by
  refine congrArg x1 (funext fun a => Fin.ext ?_)
  match a with
  | ⟨0, _⟩ => rfl
  | ⟨1, _⟩ => rfl
  | ⟨2, _⟩ => show 0 + 1 * r.val = r.val; omega

/-- The load of half 1's scales reads lane `r` of half 1. -/
theorem ld_bot (r : Fin 128) : View.ld x1 r0_5 (ix3 0 0 r) = x1 (ix3 0 1 r) := by
  refine congrArg x1 (funext fun a => Fin.ext ?_)
  match a with
  | ⟨0, _⟩ => rfl
  | ⟨1, _⟩ => rfl
  | ⟨2, _⟩ => show 0 + 1 * r.val = r.val; omega

/-- Loading the whole block of codes gives the block. -/
theorem ld0 : View.ld x0 r0_0 = x0 := View.ld_unit_lit inb_S256x1024_S256x1024_0_0 x0 (by decide)
/-- Loading the whole weight matrix gives the matrix. -/
theorem ld2 : View.ld x2 r0_1 = x2 := View.ld_unit_lit inb_S1024x1024_S1024x1024_0_0 x2 (by decide)
/-- Loading a whole row vector gives the vector. -/
theorem ld3 (x : Vec Ideal S1x1024 .f32) : View.ld x r0_3 = x := View.ld_unit_lit inb_S1x1024_S1x1024_0_0 x (by decide)

/-- The value the kernel computes for half 0 is the block's row at half 0. -/
theorem top_rows (r : Fin 128) (c : Fin 1024) :
    k0_pay8 (F := Ideal) (k0_pay15 x0 x1 x2 x3 x4 x5 x6) (k0_pay16 x0 x1 x2 x3 x4 x5 x6) (Scalar.ofBits .f32 0x2B8CBCCC#32) (View.ld x5 r0_3) (View.ld x6 r0_3) (ix2 r c)
      = rowB x0 x1 x2 x3 x4 x5 x6 0 r c := by
  have h6 := pay6_apply x0 x2 (View.ld x1 r0_2) x3 x4 r
  have h7 := pay7_apply x0 x2 (View.ld x1 r0_2) x3 x4 r
  rw [ld_top] at h6 h7
  unfold k0_pay15 k0_pay16 rowB
  rw [ld0, ld2, ld3, ld3, ld3, ld3, row_top]
  exact pay8_apply _ _ _ _ _ r h6 h7 c

/-- The value the kernel computes for half 1 is the block's row at half 1. -/
theorem bot_rows (r : Fin 128) (c : Fin 1024) :
    k0_pay1 (F := Ideal) (k0_pay17 x0 x1 x2 x3 x4 x5 x6) (k0_pay18 x0 x1 x2 x3 x4 x5 x6) (ix2 r c)
      = rowB x0 x1 x2 x3 x4 x5 x6 1 r c := by
  have h13 := pay13_apply (k0_pay5 x0 x2) (k0_pay12 (View.ld x1 r0_5)) x3 x4 x5 (fun k => x0 (ix2 (⟨128 + r.val, by omega⟩ : Fin 256) k)) (fun k c => x2 (ix2 k c)) r
    (fun c => pay5_apply x0 x2 _ c) c
  rw [pay12_apply, ld_bot] at h13
  unfold k0_pay17 k0_pay18 rowB
  rw [ld0, ld2, ld3, ld3, ld3, ld3, row_bot, pay1_apply, h13, pay14_apply]
  rfl

/-- The codes of a block. -/
def codesB : S256x1024.Idx → EReal := fun y =>
  codeAt (rowB x0 x1 x2 x3 x4 x5 x6 ⟨(y 0).val / 128, by have : (y 0).val < 256 := (y 0).isLt; omega⟩ ⟨(y 0).val % 128, by omega⟩ ⟨(y 1).val, (y 1).isLt⟩)
    (scaleAt (rowB x0 x1 x2 x3 x4 x5 x6 ⟨(y 0).val / 128, by have : (y 0).val < 256 := (y 0).isLt; omega⟩ ⟨(y 0).val % 128, by omega⟩))

/-- The scales of a block. -/
def scalesB : S1x2x128.Idx → EReal := fun y =>
  scaleAt (rowB x0 x1 x2 x3 x4 x5 x6 ⟨(y 1).val, (y 1).isLt⟩ ⟨(y 2).val, (y 2).isLt⟩)

/-- An entry of the block's codes is the code of its row's value under that row's scale. -/
theorem codesB_at (y : S256x1024.Idx) (i : Fin 2) (r : Fin 128) (c : Fin 1024) (h0 : (y 0).val = i.val * 128 + r.val) (h1 : (y 1).val = c.val) :
    codesB x0 x1 x2 x3 x4 x5 x6 y = codeAt (rowB x0 x1 x2 x3 x4 x5 x6 i r c) (scaleAt (rowB x0 x1 x2 x3 x4 x5 x6 i r)) := by
  have e0 : (⟨(y 0).val / 128, by have : (y 0).val < 256 := (y 0).isLt; omega⟩ : Fin 2) = i := Fin.ext (by show (y 0).val / 128 = i.val; omega)
  have e1 : (⟨(y 0).val % 128, by omega⟩ : Fin 128) = r := Fin.ext (by show (y 0).val % 128 = r.val; omega)
  have e2 : (⟨(y 1).val, (y 1).isLt⟩ : Fin 1024) = c := Fin.ext h1
  unfold codesB
  rw [e0, e1, e2]

/-- An entry of the block's scales is the scale of its row. -/
theorem scalesB_at (y : S1x2x128.Idx) (i : Fin 2) (r : Fin 128) (h1 : (y 1).val = i.val) (h2 : (y 2).val = r.val) :
    scalesB x0 x1 x2 x3 x4 x5 x6 y = scaleAt (rowB x0 x1 x2 x3 x4 x5 x6 i r) := by
  have e1 : (⟨(y 1).val, (y 1).isLt⟩ : Fin 2) = i := Fin.ext h1
  have e2 : (⟨(y 2).val, (y 2).isLt⟩ : Fin 128) = r := Fin.ext h2
  unfold scalesB
  rw [e1, e2]

/-- An index of a half block is the pair of its row and its column. -/
theorem half_eq (x : S128x1024.Idx) : x = ix2 (⟨(x 0).val, (x 0).isLt⟩ : Fin 128) (⟨(x 1).val, (x 1).isLt⟩ : Fin 1024) := by
  funext b
  match b with
  | ⟨0, _⟩ => rfl
  | ⟨1, _⟩ => rfl

/-- An index of a half's scales is its lane. -/
theorem lane_eq (x : S1x1x128.Idx) : x = ix3 (0 : Fin 1) (0 : Fin 1) (⟨(x 2).val, (x 2).isLt⟩ : Fin 128) := by
  funext b
  match b with
  | ⟨0, _⟩ => exact Fin.ext (Nat.lt_one_iff.mp (show (x 0).val < 1 from (x 0).isLt))
  | ⟨1, _⟩ => exact Fin.ext (Nat.lt_one_iff.mp (show (x 1).val < 1 from (x 1).isLt))
  | ⟨2, _⟩ => rfl

/-- A half's scales known at every lane are known at every index. -/
theorem lane_all (P : Vec Ideal S1x1x128 .f32) (f : Fin 128 → EReal) (h : ∀ r, P (ix3 0 0 r) = f r) (x : S1x1x128.Idx) :
    P x = f ⟨(x 2).val, (x 2).isLt⟩ :=
  (congrArg P (lane_eq x)).trans (h _)

/-- What a grid point leaves in the first result's block. -/
theorem out7_apply (y : S256x1024.Idx) : out0_7 (F := Ideal) x0 x1 x2 x3 x4 x5 x6 y = codesB x0 x1 x2 x3 x4 x5 x6 y := by
  unfold out0_7
  refine View.canon_apply_of_pieces (Val := Elt Ideal) (codesB x0 x1 x2 x3 x4 x5 x6) _ ?_ y (cover0_7 _ _ y)
  intro pc hpc
  rcases List.mem_cons.mp hpc with rfl | hpc
  · intro x
    have h := pay3_apply _ _ _ (⟨(x 0).val, (x 0).isLt⟩ : Fin 128) (bot_rows x0 x1 x2 x3 x4 x5 x6 _) (⟨(x 1).val, (x 1).isLt⟩ : Fin 1024)
    refine ((congrArg _ (half_eq x)).trans h).trans (codesB_at x0 x1 x2 x3 x4 x5 x6 (r0_6.idx x) 1 ⟨(x 0).val, (x 0).isLt⟩ ⟨(x 1).val, (x 1).isLt⟩ ?_ ?_).symm
    · show 128 + 1 * (x 0).val = 1 * 128 + (x 0).val; omega
    · show 0 + 1 * (x 1).val = (x 1).val; omega
  rcases List.mem_cons.mp hpc with rfl | hpc
  · intro x
    have h := pay10_apply _ _ _ _ _ _ (⟨(x 0).val, (x 0).isLt⟩ : Fin 128) (top_rows x0 x1 x2 x3 x4 x5 x6 _) (⟨(x 1).val, (x 1).isLt⟩ : Fin 1024)
    refine ((congrArg _ (half_eq x)).trans h).trans (codesB_at x0 x1 x2 x3 x4 x5 x6 (r0_4.idx x) 0 ⟨(x 0).val, (x 0).isLt⟩ ⟨(x 1).val, (x 1).isLt⟩ ?_ ?_).symm
    · show 0 + 1 * (x 0).val = 0 * 128 + (x 0).val; omega
    · show 0 + 1 * (x 1).val = (x 1).val; omega
  nomatch hpc

/-- A block stored as its two halves holds what each half holds. -/
theorem canon8 (p1 p0 : Vec Ideal S1x1x128 .f32) (f : Fin 2 → Fin 128 → EReal) (h1 : ∀ r, p1 (ix3 0 0 r) = f 1 r) (h0 : ∀ r, p0 (ix3 0 0 r) = f 0 r)
    (y : S1x2x128.Idx) :
    View.canon (Val := Elt Ideal) (e := .f32) [⟨r0_5, p1⟩, ⟨r0_2, p0⟩] y = f ⟨(y 1).val, (y 1).isLt⟩ ⟨(y 2).val, (y 2).isLt⟩ := by
  refine View.canon_apply_of_pieces (Val := Elt Ideal) (fun y : S1x2x128.Idx => f ⟨(y 1).val, (y 1).isLt⟩ ⟨(y 2).val, (y 2).isLt⟩) _ ?_ y (cover0_8 _ _ y)
  intro pc hpc
  rcases List.mem_cons.mp hpc with rfl | hpc
  · intro x
    refine Eq.trans (b := f 1 ⟨(x 2).val, (x 2).isLt⟩) (lane_all p1 _ h1 x) ?_
    refine congrArg₂ f (Fin.ext ?_) (Fin.ext ?_)
    · have : (x 1).val < 1 := (x 1).isLt
      show 1 = 1 + 1 * (x 1).val; omega
    · show (x 2).val = 0 + 1 * (x 2).val; omega
  rcases List.mem_cons.mp hpc with rfl | hpc
  · intro x
    refine Eq.trans (b := f 0 ⟨(x 2).val, (x 2).isLt⟩) (lane_all p0 _ h0 x) ?_
    refine congrArg₂ f (Fin.ext ?_) (Fin.ext ?_)
    · have : (x 1).val < 1 := (x 1).isLt
      show 0 = 0 + 1 * (x 1).val; omega
    · show (x 2).val = 0 + 1 * (x 2).val; omega
  nomatch hpc

/-- What a grid point leaves in the second result's block. -/
theorem out8_apply (y : S1x2x128.Idx) : out0_8 (F := Ideal) x0 x1 x2 x3 x4 x5 x6 y = scalesB x0 x1 x2 x3 x4 x5 x6 y := by
  have h1 := fun r => pay4_apply _ _ _ r (bot_rows x0 x1 x2 x3 x4 x5 x6 r)
  have h0 := fun r => pay11_apply _ _ _ _ _ _ r (top_rows x0 x1 x2 x3 x4 x5 x6 r)
  unfold out0_8 scalesB
  exact canon8 _ _ (fun i r => scaleAt (rowB x0 x1 x2 x3 x4 x5 x6 i r)) h1 h0 y

end blocks

/-- At step `t`, window 0 stands at block `t`. -/
theorem ix_0 : ∀ t : Fin grid0.N, cc0_transform_0 (grid0.coords t) 0 = t.val ∧ cc0_transform_0 (grid0.coords t) 1 = 0 := by decide +kernel
/-- At step `t`, window 1 stands at block `t`. -/
theorem ix_1 : ∀ t : Fin grid0.N, cc0_transform_1 (grid0.coords t) 0 = t.val ∧ cc0_transform_1 (grid0.coords t) 1 = 0 ∧ cc0_transform_1 (grid0.coords t) 2 = 0 := by decide +kernel
/-- At every step, window 2 stands at block 0: it is the whole array. -/
theorem ix_2 : ∀ t : Fin grid0.N, cc0_transform_2 (grid0.coords t) 0 = 0 ∧ cc0_transform_2 (grid0.coords t) 1 = 0 := by decide +kernel
/-- At every step, window 3 stands at block 0: it is the whole array. -/
theorem ix_3 : ∀ t : Fin grid0.N, cc0_transform_3 (grid0.coords t) 0 = 0 ∧ cc0_transform_3 (grid0.coords t) 1 = 0 := by decide +kernel
/-- At every step, window 4 stands at block 0: it is the whole array. -/
theorem ix_4 : ∀ t : Fin grid0.N, cc0_transform_4 (grid0.coords t) 0 = 0 ∧ cc0_transform_4 (grid0.coords t) 1 = 0 := by decide +kernel
/-- At every step, window 5 stands at block 0: it is the whole array. -/
theorem ix_5 : ∀ t : Fin grid0.N, cc0_transform_5 (grid0.coords t) 0 = 0 ∧ cc0_transform_5 (grid0.coords t) 1 = 0 := by decide +kernel
/-- At every step, window 6 stands at block 0: it is the whole array. -/
theorem ix_6 : ∀ t : Fin grid0.N, cc0_transform_6 (grid0.coords t) 0 = 0 ∧ cc0_transform_6 (grid0.coords t) 1 = 0 := by decide +kernel
/-- At step `t`, window 7 stands at block `t`. -/
theorem ix_7 : ∀ t : Fin grid0.N, cc0_transform_7 (grid0.coords t) 0 = t.val ∧ cc0_transform_7 (grid0.coords t) 1 = 0 := by decide +kernel
/-- At step `t`, window 8 stands at block `t`. -/
theorem ix_8 : ∀ t : Fin grid0.N, cc0_transform_8 (grid0.coords t) 0 = t.val ∧ cc0_transform_8 (grid0.coords t) 1 = 0 ∧ cc0_transform_8 (grid0.coords t) 2 = 0 := by decide +kernel

variable (m : (ℓ : Loc nD τ sig) → Buf (Elt Ideal) ℓ)

/-- The codes with documents and positions joined: row `n` is position `n % 896` of document `n / 896`. -/
theorem V0_apply (c : Dev nD) (n : Fin 21504) (k : Fin 1024) :
    (V m c main_v0 : S21504x1024.Idx → EReal) (ix2 n k)
      = (m ((c : Thread nD τ).loc main_arg0) : S24x896x1024.Idx → EReal) (ix3 ⟨n.val / 896, by omega⟩ ⟨n.val % 896, by omega⟩ k) := by
  unfold V
  after_reads_at

/-- The fourth argument, as one row for the kernel: column `v` keeps its value. -/
theorem V2_apply (c : Dev nD) (v : Fin 1024) :
    (V m c main_v2 : S1x1024.Idx → EReal) (ix2 0 v) = (m ((c : Thread nD τ).loc main_arg3) : S1024.Idx → EReal) (ix1 v) := by
  unfold V
  after_reads_at

/-- The fifth argument, as one row for the kernel: column `v` keeps its value. -/
theorem V3_apply (c : Dev nD) (v : Fin 1024) :
    (V m c main_v3 : S1x1024.Idx → EReal) (ix2 0 v) = (m ((c : Thread nD τ).loc main_arg4) : S1024.Idx → EReal) (ix1 v) := by
  unfold V
  after_reads_at

/-- The sixth argument, as one row for the kernel: column `v` keeps its value. -/
theorem V4_apply (c : Dev nD) (v : Fin 1024) :
    (V m c main_v4 : S1x1024.Idx → EReal) (ix2 0 v) = (m ((c : Thread nD τ).loc main_arg5) : S1024.Idx → EReal) (ix1 v) := by
  unfold V
  after_reads_at

/-- The seventh argument, as one row for the kernel: column `v` keeps its value. -/
theorem V5_apply (c : Dev nD) (v : Fin 1024) :
    (V m c main_v5 : S1x1024.Idx → EReal) (ix2 0 v) = (m ((c : Thread nD τ).loc main_arg6) : S1024.Idx → EReal) (ix1 v) := by
  unfold V
  after_reads_at

/-- The input scales in blocks of two halves of 128: entry `(t, i, r)` is the scale of row `t * 256 + i * 128 + r`. -/
theorem V1_apply (c : Dev nD) (t : Fin 84) (i : Fin 2) (r : Fin 128) :
    (V m c main_v1 : S84x2x128.Idx → EReal) (ix3 t i r)
      = (m ((c : Thread nD τ).loc main_arg1) : S24x896.Idx → EReal) (ix2 ⟨(t.val * 256 + i.val * 128 + r.val) / 896, by omega⟩ ⟨(t.val * 256 + i.val * 128 + r.val) % 896, by omega⟩) := by
  unfold V
  after_reads_at

/-- The grid has 84 steps. -/
theorem lt84 (t : Fin cfg0.N) : t.val < 84 := t.isLt

/-- Row `j` of step `t`'s block of codes is row `t * 256 + j` of the argument. -/
theorem iblk0_apply (c : Dev nD) (t : Fin cfg0.N) (j : Fin 256) (n : Fin 21504) (hn : n.val = t.val * 256 + j.val) (k : Fin 1024) :
    (iblk m c 0 t : S256x1024.Idx → EReal) (ix2 j k)
      = (m ((c : Thread nD τ).loc main_arg0) : S24x896x1024.Idx → EReal) (ix3 ⟨n.val / 896, by omega⟩ ⟨n.val % 896, by omega⟩ k) := by
  have hx := ix_0 t
  rw [← V0_apply m c]
  unfold iblk
  refine congrArg (V m c main_v0 : S21504x1024.Idx → EReal) (funext fun a => Fin.ext ?_)
  match a with
  | ⟨0, _⟩ =>
    refine (Window.rect_emb_val (cfg0.win 0) t _ ⟨0, lt02⟩).trans ?_
    show cc0_transform_0 (grid0.coords t) 0 * 256 + j.val = n.val
    rw [hx.1, hn]
  | ⟨1, _⟩ =>
    refine (Window.rect_emb_val (cfg0.win 0) t _ ⟨1, lt12⟩).trans ?_
    show cc0_transform_0 (grid0.coords t) 1 * 1024 + k.val = k.val
    rw [hx.2]; omega

/-- Lane `r` of half `i` of step `t`'s scales is the argument's scale of that row. -/
theorem iblk1_apply (c : Dev nD) (t : Fin cfg0.N) (i : Fin 2) (r : Fin 128) :
    (iblk m c 1 t : S1x2x128.Idx → EReal) (ix3 0 i r)
      = (m ((c : Thread nD τ).loc main_arg1) : S24x896.Idx → EReal)
          (ix2 ⟨(rowNo ⟨t.val, lt84 t⟩ i r).val / 896, by omega⟩ ⟨(rowNo ⟨t.val, lt84 t⟩ i r).val % 896, by omega⟩) := by
  have hx := ix_1 t
  refine Eq.trans ?_ (V1_apply m c ⟨t.val, lt84 t⟩ i r)
  unfold iblk
  refine congrArg (V m c main_v1 : S84x2x128.Idx → EReal) (funext fun a => Fin.ext ?_)
  match a with
  | ⟨0, _⟩ =>
    refine (Window.rect_emb_val (cfg0.win 1) t _ ⟨0, lt03⟩).trans ?_
    show cc0_transform_1 (grid0.coords t) 0 * 1 + 0 = t.val
    rw [hx.1]; omega
  | ⟨1, _⟩ =>
    refine (Window.rect_emb_val (cfg0.win 1) t _ ⟨1, lt13⟩).trans ?_
    show cc0_transform_1 (grid0.coords t) 1 * 2 + i.val = i.val
    rw [hx.2.1]; omega
  | ⟨2, _⟩ =>
    refine (Window.rect_emb_val (cfg0.win 1) t _ ⟨2, lt23⟩).trans ?_
    show cc0_transform_1 (grid0.coords t) 2 * 128 + r.val = r.val
    rw [hx.2.2]; omega

/-- Every step's weight block is the weight argument. -/
theorem iblk2_apply (c : Dev nD) (t : Fin cfg0.N) (k : Fin 1024) (v : Fin 1024) :
    (iblk m c 2 t : S1024x1024.Idx → EReal) (ix2 k v) = (m ((c : Thread nD τ).loc main_arg2) : S1024x1024.Idx → EReal) (ix2 k v) := by
  have hx := ix_2 t
  rw [← V_main_arg2 m c]
  unfold iblk
  refine congrArg (V m c main_arg2 : S1024x1024.Idx → EReal) (funext fun a => Fin.ext ?_)
  match a with
  | ⟨0, _⟩ =>
    refine (Window.rect_emb_val (cfg0.win 2) t _ ⟨0, lt02⟩).trans ?_
    show cc0_transform_2 (grid0.coords t) 0 * 1024 + k.val = k.val
    rw [hx.1]; omega
  | ⟨1, _⟩ =>
    refine (Window.rect_emb_val (cfg0.win 2) t _ ⟨1, lt12⟩).trans ?_
    show cc0_transform_2 (grid0.coords t) 1 * 1024 + v.val = v.val
    rw [hx.2]; omega

/-- Every step's block of window 3 is the fourth argument. -/
theorem iblk3_apply (c : Dev nD) (t : Fin cfg0.N) (v : Fin 1024) :
    (iblk m c 3 t : S1x1024.Idx → EReal) (ix2 0 v) = (m ((c : Thread nD τ).loc main_arg3) : S1024.Idx → EReal) (ix1 v) := by
  have hx := ix_3 t
  rw [← V2_apply m c]
  unfold iblk
  refine congrArg (V m c main_v2 : S1x1024.Idx → EReal) (funext fun a => Fin.ext ?_)
  match a with
  | ⟨0, _⟩ =>
    refine (Window.rect_emb_val (cfg0.win 3) t _ ⟨0, lt02⟩).trans ?_
    show cc0_transform_3 (grid0.coords t) 0 * 1 + 0 = 0
    rw [hx.1]
  | ⟨1, _⟩ =>
    refine (Window.rect_emb_val (cfg0.win 3) t _ ⟨1, lt12⟩).trans ?_
    show cc0_transform_3 (grid0.coords t) 1 * 1024 + v.val = v.val
    rw [hx.2]; omega

/-- Every step's block of window 4 is the fifth argument. -/
theorem iblk4_apply (c : Dev nD) (t : Fin cfg0.N) (v : Fin 1024) :
    (iblk m c 4 t : S1x1024.Idx → EReal) (ix2 0 v) = (m ((c : Thread nD τ).loc main_arg4) : S1024.Idx → EReal) (ix1 v) := by
  have hx := ix_4 t
  rw [← V3_apply m c]
  unfold iblk
  refine congrArg (V m c main_v3 : S1x1024.Idx → EReal) (funext fun a => Fin.ext ?_)
  match a with
  | ⟨0, _⟩ =>
    refine (Window.rect_emb_val (cfg0.win 4) t _ ⟨0, lt02⟩).trans ?_
    show cc0_transform_4 (grid0.coords t) 0 * 1 + 0 = 0
    rw [hx.1]
  | ⟨1, _⟩ =>
    refine (Window.rect_emb_val (cfg0.win 4) t _ ⟨1, lt12⟩).trans ?_
    show cc0_transform_4 (grid0.coords t) 1 * 1024 + v.val = v.val
    rw [hx.2]; omega

/-- Every step's block of window 5 is the sixth argument. -/
theorem iblk5_apply (c : Dev nD) (t : Fin cfg0.N) (v : Fin 1024) :
    (iblk m c 5 t : S1x1024.Idx → EReal) (ix2 0 v) = (m ((c : Thread nD τ).loc main_arg5) : S1024.Idx → EReal) (ix1 v) := by
  have hx := ix_5 t
  rw [← V4_apply m c]
  unfold iblk
  refine congrArg (V m c main_v4 : S1x1024.Idx → EReal) (funext fun a => Fin.ext ?_)
  match a with
  | ⟨0, _⟩ =>
    refine (Window.rect_emb_val (cfg0.win 5) t _ ⟨0, lt02⟩).trans ?_
    show cc0_transform_5 (grid0.coords t) 0 * 1 + 0 = 0
    rw [hx.1]
  | ⟨1, _⟩ =>
    refine (Window.rect_emb_val (cfg0.win 5) t _ ⟨1, lt12⟩).trans ?_
    show cc0_transform_5 (grid0.coords t) 1 * 1024 + v.val = v.val
    rw [hx.2]; omega

/-- Every step's block of window 6 is the seventh argument. -/
theorem iblk6_apply (c : Dev nD) (t : Fin cfg0.N) (v : Fin 1024) :
    (iblk m c 6 t : S1x1024.Idx → EReal) (ix2 0 v) = (m ((c : Thread nD τ).loc main_arg6) : S1024.Idx → EReal) (ix1 v) := by
  have hx := ix_6 t
  rw [← V5_apply m c]
  unfold iblk
  refine congrArg (V m c main_v5 : S1x1024.Idx → EReal) (funext fun a => Fin.ext ?_)
  match a with
  | ⟨0, _⟩ =>
    refine (Window.rect_emb_val (cfg0.win 6) t _ ⟨0, lt02⟩).trans ?_
    show cc0_transform_6 (grid0.coords t) 0 * 1 + 0 = 0
    rw [hx.1]
  | ⟨1, _⟩ =>
    refine (Window.rect_emb_val (cfg0.win 6) t _ ⟨1, lt12⟩).trans ?_
    show cc0_transform_6 (grid0.coords t) 1 * 1024 + v.val = v.val
    rw [hx.2]; omega

/-- The normalised rows of the arguments. -/
def rows (c : Dev nD) : Fin 21504 → Fin 1024 → EReal :=
  rowAt (fun d s k => (m ((c : Thread nD τ).loc main_arg0) : S24x896x1024.Idx → EReal) (ix3 d s k))
    (fun d s => (m ((c : Thread nD τ).loc main_arg1) : S24x896.Idx → EReal) (ix2 d s))
    (fun k v => (m ((c : Thread nD τ).loc main_arg2) : S1024x1024.Idx → EReal) (ix2 k v))
    (fun v => (m ((c : Thread nD τ).loc main_arg3) : S1024.Idx → EReal) (ix1 v))
    (fun v => (m ((c : Thread nD τ).loc main_arg4) : S1024.Idx → EReal) (ix1 v))
    (fun v => (m ((c : Thread nD τ).loc main_arg5) : S1024.Idx → EReal) (ix1 v))
    (fun v => (m ((c : Thread nD τ).loc main_arg6) : S1024.Idx → EReal) (ix1 v))

/-- A block's rows are the arguments' rows. -/
theorem rowB_eq (c : Dev nD) (t : Fin cfg0.N) (i : Fin 2) (r : Fin 128) :
    rowB (iblk m c 0 t) (iblk m c 1 t) (iblk m c 2 t) (iblk m c 3 t) (iblk m c 4 t) (iblk m c 5 t) (iblk m c 6 t) i r = rows m c (rowNo ⟨t.val, lt84 t⟩ i r) := by
  have h0 : ∀ k : Fin 1024, (iblk m c 0 t : S256x1024.Idx → EReal) (ix2 (⟨i.val * 128 + r.val, by omega⟩ : Fin 256) k) = _ :=
    fun k => iblk0_apply m c t _ (rowNo ⟨t.val, lt84 t⟩ i r) (by show t.val * 256 + i.val * 128 + r.val = t.val * 256 + (i.val * 128 + r.val); omega) k
  unfold rowB rows rowAt
  rw [funext h0, funext fun k => funext fun v => iblk2_apply m c t k v, iblk1_apply m c t i r,
    funext (iblk3_apply m c t), funext (iblk4_apply m c t), funext (iblk5_apply m c t), funext (iblk6_apply m c t)]

/-- Every entry of the codes result lies in some step's block. -/
theorem covers7 : (cfg0.win 7).Covers := by decide +kernel
/-- Every entry of the scales result lies in some step's block. -/
theorem covers8 : (cfg0.win 8).Covers := by decide +kernel

/-- A first result array that holds, block by block, what the grid points leave. -/
theorem arr7_eq (c : Dev nD) (G : S21504x1024.Idx → EReal)
    (hG : ∀ (t : Fin cfg0.N) (j : Fin 256) (k : Fin 1024) (n : Fin 21504), n.val = t.val * 256 + j.val →
      out0_7 (iblk m c 0 t) (iblk m c 1 t) (iblk m c 2 t) (iblk m c 3 t) (iblk m c 4 t) (iblk m c 5 t) (iblk m c 6 t) (ix2 j k) = G (ix2 n k)) :
    (dats m 0 c).arrAt 7 cfg0.N = G := by
  refine (dats m 0 c).arrAt_eq_of_covers 7 G covers7 (fun t _ y => ?_)
  have hx := ix_7 t
  have ht := lt84 t
  have hy : (y ⟨0, lt02⟩).val < 256 := (y ⟨0, lt02⟩).isLt
  have ey : y = (ix2 (⟨(y ⟨0, lt02⟩).val, hy⟩ : Fin 256) (⟨(y ⟨1, lt12⟩).val, (y ⟨1, lt12⟩).isLt⟩ : Fin 1024) : S256x1024.Idx) := by
    funext b
    match b with
    | ⟨0, _⟩ => rfl
    | ⟨1, _⟩ => rfl
  have hB := hG t
  rw [after0_7]
  generalize out0_7 (iblk m c 0 t) (iblk m c 1 t) (iblk m c 2 t) (iblk m c 3 t) (iblk m c 4 t) (iblk m c 5 t) (iblk m c 6 t) = B at hB ⊢
  refine Eq.trans (b := B y) rfl ?_
  refine (congrArg B ey).trans ((hB _ _ ⟨t.val * 256 + (y ⟨0, lt02⟩).val, by omega⟩ rfl).trans ?_)
  refine congrArg G (funext fun a => Fin.ext ?_)
  match a with
  | ⟨0, _⟩ =>
    refine Eq.trans ?_ (Window.rect_emb_val (cfg0.win 7) t y ⟨0, lt02⟩).symm
    show t.val * 256 + (y ⟨0, lt02⟩).val = cc0_transform_7 (grid0.coords t) 0 * 256 + (y ⟨0, lt02⟩).val
    rw [hx.1]
  | ⟨1, _⟩ =>
    refine Eq.trans ?_ (Window.rect_emb_val (cfg0.win 7) t y ⟨1, lt12⟩).symm
    show (y ⟨1, lt12⟩).val = cc0_transform_7 (grid0.coords t) 1 * 1024 + (y ⟨1, lt12⟩).val
    rw [hx.2]; omega

/-- A second result array that holds, block by block, what the grid points leave. -/
theorem arr8_eq (c : Dev nD) (G : S84x2x128.Idx → EReal)
    (hG : ∀ (t : Fin cfg0.N) (i : Fin 2) (r : Fin 128),
      out0_8 (iblk m c 0 t) (iblk m c 1 t) (iblk m c 2 t) (iblk m c 3 t) (iblk m c 4 t) (iblk m c 5 t) (iblk m c 6 t) (ix3 0 i r) = G (ix3 ⟨t.val, lt84 t⟩ i r)) :
    (dats m 0 c).arrAt 8 cfg0.N = G := by
  refine (dats m 0 c).arrAt_eq_of_covers 8 G covers8 (fun t _ y => ?_)
  have hx := ix_8 t
  have hy : (y ⟨0, lt03⟩).val < 1 := (y ⟨0, lt03⟩).isLt
  have ey : y = (ix3 (0 : Fin 1) (⟨(y ⟨1, lt13⟩).val, (y ⟨1, lt13⟩).isLt⟩ : Fin 2) (⟨(y ⟨2, lt23⟩).val, (y ⟨2, lt23⟩).isLt⟩ : Fin 128) : S1x2x128.Idx) := by
    funext b
    match b with
    | ⟨0, _⟩ => exact Fin.ext (Nat.lt_one_iff.mp hy)
    | ⟨1, _⟩ => rfl
    | ⟨2, _⟩ => rfl
  have hB := hG t
  rw [after0_8]
  generalize out0_8 (iblk m c 0 t) (iblk m c 1 t) (iblk m c 2 t) (iblk m c 3 t) (iblk m c 4 t) (iblk m c 5 t) (iblk m c 6 t) = B at hB ⊢
  refine Eq.trans (b := B y) rfl ?_
  refine (congrArg B ey).trans ((hB _ _).trans ?_)
  refine congrArg G (funext fun a => Fin.ext ?_)
  match a with
  | ⟨0, _⟩ =>
    refine Eq.trans ?_ (Window.rect_emb_val (cfg0.win 8) t y ⟨0, lt03⟩).symm
    show t.val = cc0_transform_8 (grid0.coords t) 0 * 1 + (y ⟨0, lt03⟩).val
    rw [hx.1]; omega
  | ⟨1, _⟩ =>
    refine Eq.trans ?_ (Window.rect_emb_val (cfg0.win 8) t y ⟨1, lt13⟩).symm
    show (y ⟨1, lt13⟩).val = cc0_transform_8 (grid0.coords t) 1 * 2 + (y ⟨1, lt13⟩).val
    rw [hx.2.1]; omega
  | ⟨2, _⟩ =>
    refine Eq.trans ?_ (Window.rect_emb_val (cfg0.win 8) t y ⟨2, lt23⟩).symm
    show (y ⟨2, lt23⟩).val = cc0_transform_8 (grid0.coords t) 2 * 128 + (y ⟨2, lt23⟩).val
    rw [hx.2.2]; omega

/-- The first result array after the run: the codes. -/
theorem result7_eq (c : Dev nD) : (dats m 0 c).arrAt 7 cfg0.N = codesOfRows (rows m c) := by
  refine arr7_eq m c _ fun t j k n hn => ?_
  refine (out7_apply _ _ _ _ _ _ _ _).trans ?_
  refine (codesB_at _ _ _ _ _ _ _ (ix2 j k) (⟨j.val / 128, by omega⟩ : Fin 2) (⟨j.val % 128, by omega⟩ : Fin 128) k
    (by show j.val = j.val / 128 * 128 + j.val % 128; omega) rfl).trans ?_
  rw [rowB_eq]
  refine (codesOfRows_at (rows m c) (ix2 n k) _ k ?_ rfl).symm
  show n.val = t.val * 256 + j.val / 128 * 128 + j.val % 128
  omega

/-- The second result array after the run: the scales. -/
theorem result8_eq (c : Dev nD) : (dats m 0 c).arrAt 8 cfg0.N = scalesOfRows (rows m c) := by
  refine arr8_eq m c _ fun t i r => ?_
  refine (out8_apply _ _ _ _ _ _ _ _).trans ?_
  refine (scalesB_at _ _ _ _ _ _ _ (ix3 0 i r) i r rfl rfl).trans ?_
  rw [rowB_eq]
  exact (scalesOfRows_at (rows m c) (ix3 ⟨t.val, lt84 t⟩ i r) ⟨t.val, lt84 t⟩ i r rfl rfl rfl).symm

end Cert.Proof.TransformIdeal

end
-- ==== Proof.TransformReferenceRows.lean ====
module

public import proofs.«01_k».proof.Proof.Transform
public import proofs.«01_k».proof.Proof.Gen.TransformReferenceIdeal.Value
public import Idealize.ShloMosaic.Lib.Pipeline.ValueKit
public import Idealize.ShloMosaic.Lib.StableHlo.ReadAt

@[expose] public section

set_option maxRecDepth 16384

noncomputable section

namespace Cert.Proof.TransformReferenceIdeal

open Cert.TransformReferenceIdeal Cert.TransformReferenceIdeal.Gen Cert.Proof.Transform
open Idealize.ShloMosaic Idealize.ShloMosaic.TcCoe Idealize.SL.Sem
open Idealize.ShloMosaic.Pipeline (Dat Cfg Window)

/-- A row less its mean over its standard deviation. -/
theorem pay5_apply (v0 : Vec Ideal S21504x1024 .fp8e4m3) (v2 : Vec Ideal S1024x1024 .fp8e4m3) (v4 : Vec Ideal S21504x1 .f32)
    (v8 v12 : Vec Ideal S1x1024 .f32) (g : Fin 1024 → EReal) (r : Fin 21504)
    (hg : gAt (fun k => v0 (ix2 r k)) (fun k c => v2 (ix2 k c)) (v4 (ix2 r 0)) (fun c => v8 (ix2 0 c)) (fun c => v12 (ix2 0 c)) = g) (c : Fin 1024) :
    k0_pay5 (F := Ideal) v0 v2 v4 v8 v12 (ix2 r c)
      = Ideal.div (cenAt g c) (Ideal.sqrt (varAt g + Ideal.ofBits FTy.f32 730643660#32)) := by
  subst hg
  pointwise [k0_pay5]
  rfl

/-- The reference's last step multiplies each entry by its column's gain and adds its column's offset. -/
theorem pay1_apply (v39 : FVec Ideal S21504x1024 .f32) (v40 v44 : Vec Ideal S1x1024 .f32) (r : Fin 21504) (c : Fin 1024) :
    k0_pay1 (F := Ideal) v39 v40 v44 (ix2 r c) = v39 (ix2 r c) * v40 (ix2 0 c) + v44 (ix2 0 c) := by
  pointwise [k0_pay1]

section
variable {F : FTy → Type} [FloatOps F]

/-- Every row's largest magnitude. -/
def amaxOf (Y : FVec F S21504x1024 .f32) : FVec F S21504x1 .f32 :=
  have v48 : FVec F S21504x1024 .f32 := absf Y
  have v49 : FVec F S21504 .f32 := multiReduction .maximumf [1] S21504 v48 0xFF800000#32 reduces_S21504x1024_S21504 (.inl rfl) rfl
  have v50 : FVec F S21504x1 .f32 := shapeCast S21504x1 v49 shapeCasts_S21504_S21504x1
  v50

/-- The rows' scales from their largest magnitudes. -/
def scaleOf (A : FVec F S21504x1 .f32) : FVec F S21504x1 .f32 :=
  have cst_22 : F .f32 := Scalar.ofBits .f32 0x00000000#32
  have v51 : FVec F S21504x1 .f32 := broadcast S21504x1 cst_22
  have v52 : IVec S21504x1 1 := cmpf .oeq A v51
  have cst_23 : F .f32 := Scalar.ofBits .f32 0x43E00000#32
  have v53 : FVec F S21504x1 .f32 := broadcast S21504x1 cst_23
  have v54 : FVec F S21504x1 .f32 := divf A v53
  have cst_24 : F .f32 := Scalar.ofBits .f32 0x3F800000#32
  have v55 : FVec F S21504x1 .f32 := broadcast S21504x1 cst_24
  have v56 : FVec F S21504x1 .f32 := select v52 v55 v54
  v56

/-- The codes from the rows and their scales. -/
def codesOf (Y : FVec F S21504x1024 .f32) (S : FVec F S21504x1 .f32) : FVec F S21504x1024 .fp8e4m3 :=
  have v57 : FVec F S21504x1024 .f32 := broadcastTo S21504x1024 S broadcasts_S21504x1_S21504x1024
  have v58 : FVec F S21504x1024 .f32 := divf Y v57
  have cst_25 : F .f32 := Scalar.ofBits .f32 0xC3E00000#32
  have cst_26 : F .f32 := Scalar.ofBits .f32 0x43E00000#32
  have v59 : FVec F S21504x1024 .f32 := broadcast S21504x1024 cst_25
  have v60 : FVec F S21504x1024 .f32 := maximumf v59 v58
  have v61 : FVec F S21504x1024 .f32 := broadcast S21504x1024 cst_26
  have v62 : FVec F S21504x1024 .f32 := minimumf v61 v60
  have v63 : FVec F S21504x1024 .fp8e4m3 := truncf .fp8e4m3 v62 bitsLt_fp8e4m3_f32
  v63

/-- The scales laid out in blocks of two times 128. -/
def zsOf (S : FVec F S21504x1 .f32) : FVec F S84x2x128 .f32 :=
  have v65 : FVec F S84x2x128 .f32 := shapeCast S84x2x128 S shapeCasts_S21504x1_S84x2x128
  v65

/-- The reference's row scales are `scaleOf` of the rows' largest absolute values. -/
theorem pay2_eq (v39 : FVec F S21504x1024 .f32) (v40 v44 : Vec F S1x1024 .f32) : k0_pay2 v39 v40 v44 = scaleOf (amaxOf (k0_pay1 v39 v40 v44)) := rfl
/-- The reference's codes are `codesOf` of the rows and their scales. -/
theorem pay3_eq (v39 : FVec F S21504x1024 .f32) (v40 v44 : Vec F S1x1024 .f32) : k0_pay3 v39 v40 v44 = codesOf (k0_pay1 v39 v40 v44) (k0_pay2 v39 v40 v44) := rfl
/-- The reference's scales result is `zsOf` of the row scales. -/
theorem pay4_eq (v39 : FVec F S21504x1024 .f32) (v40 v44 : Vec F S1x1024 .f32) : k0_pay4 v39 v40 v44 = zsOf (k0_pay2 v39 v40 v44) := rfl
end

/-- Entry `r` of the row maxima is the largest absolute value of row `r`. -/
theorem amaxOf_apply (Y : FVec Ideal S21504x1024 .f32) (r : Fin 21504) : amaxOf (F := Ideal) Y (ix2 r 0) = amaxAt (fun c => Y (ix2 r c)) := by
  pointwise [amaxOf]
  rfl

/-- A row's scale is 1 if its largest absolute value is 0, else that value divided by the f32 constant of the kernel. -/
theorem scaleOf_apply (A : FVec Ideal S21504x1 .f32) (r : Fin 21504) :
    scaleOf (F := Ideal) A (ix2 r 0) = if A (ix2 r 0) = 0 then 1 else Ideal.div (A (ix2 r 0)) (Ideal.ofBits FTy.f32 1138753536#32) := by
  pointwise [scaleOf]

/-- Entry `(r, c)` of the codes is the code of that value under row `r`'s scale. -/
theorem codesOf_apply (Y : FVec Ideal S21504x1024 .f32) (S : FVec Ideal S21504x1 .f32) (r : Fin 21504) (c : Fin 1024) :
    codesOf (F := Ideal) Y S (ix2 r c) = codeAt (Y (ix2 r c)) (S (ix2 r 0)) := by
  pointwise [codesOf]
  rfl

/-- Entry `(a, b, r)` of the reshaped scales is the scale of row `a * 256 + b * 128 + r`. -/
theorem zsOf_apply (S : FVec Ideal S21504x1 .f32) (a : Fin 84) (b : Fin 2) (r : Fin 128) :
    zsOf (F := Ideal) S (ix3 a b r) = S (ix2 (⟨a.val * 256 + b.val * 128 + r.val, by omega⟩ : Fin 21504) 0) := by
  pointwise [zsOf]

/-- A row's scale. -/
theorem pay2_apply (v39 : FVec Ideal S21504x1024 .f32) (v40 v44 : Vec Ideal S1x1024 .f32) (y : Fin 1024 → EReal) (r : Fin 21504)
    (h : ∀ c, k0_pay1 (F := Ideal) v39 v40 v44 (ix2 r c) = y c) : k0_pay2 (F := Ideal) v39 v40 v44 (ix2 r 0) = scaleAt y := by
  rw [pay2_eq, scaleOf_apply, amaxOf_apply]
  simp only [h]
  rfl

/-- A row's codes. -/
theorem pay3_apply (v39 : FVec Ideal S21504x1024 .f32) (v40 v44 : Vec Ideal S1x1024 .f32) (y : Fin 1024 → EReal) (r : Fin 21504)
    (h : ∀ c, k0_pay1 (F := Ideal) v39 v40 v44 (ix2 r c) = y c) (c : Fin 1024) :
    k0_pay3 (F := Ideal) v39 v40 v44 (ix2 r c) = codeAt (y c) (scaleAt y) := by
  rw [pay3_eq, codesOf_apply, pay2_apply v39 v40 v44 y r h, h]

/-- The rows' scales, laid out in blocks of two times 128. -/
theorem pay4_apply (v39 : FVec Ideal S21504x1024 .f32) (v40 v44 : Vec Ideal S1x1024 .f32) (y : Fin 1024 → EReal) (a : Fin 84) (b : Fin 2) (r : Fin 128)
    (h : ∀ c, k0_pay1 (F := Ideal) v39 v40 v44 (ix2 (⟨a.val * 256 + b.val * 128 + r.val, by omega⟩ : Fin 21504) c) = y c) :
    k0_pay4 (F := Ideal) v39 v40 v44 (ix3 a b r) = scaleAt y := by
  rw [pay4_eq, zsOf_apply, pay2_apply v39 v40 v44 y _ h]

end Cert.Proof.TransformReferenceIdeal

end
-- ==== Proof.TransformReferenceRun.lean ====
module

public import proofs.«01_k».proof.Proof.TransformReferenceRows

@[expose] public section

set_option maxRecDepth 16384

noncomputable section

/-! What the feed-forward reference leaves in its two result arrays: the codes and the scales of the normalised rows. -/

namespace Cert.Proof.TransformReferenceIdeal

open Cert.TransformReferenceIdeal Cert.TransformReferenceIdeal.Gen Cert.Proof.Transform
open Idealize.ShloMosaic Idealize.ShloMosaic.TcCoe Idealize.SL.Sem
open Idealize.ShloMosaic.Pipeline (Dat Cfg Window)

/-- Axis 0 is an axis of a rank-2 array. -/
theorem lt02 : 0 < 2 := by decide
/-- Axis 1 is an axis of a rank-2 array. -/
theorem lt12 : 1 < 2 := by decide
/-- Axis 0 is an axis of a rank-3 array. -/
theorem lt03 : 0 < 3 := by decide
/-- Axis 1 is an axis of a rank-3 array. -/
theorem lt13 : 1 < 3 := by decide
/-- Axis 2 is an axis of a rank-3 array. -/
theorem lt23 : 2 < 3 := by decide

section blocks

variable (x0 : Vec Ideal S21504x1024 .fp8e4m3) (x1 : Vec Ideal S21504x1 .f32) (x2 : Vec Ideal S1024x1024 .fp8e4m3) (x3 x4 x5 x6 : Vec Ideal S1x1024 .f32)

/-- Normalised row `n` of the operands. -/
def rowB (n : Fin 21504) : Fin 1024 → EReal :=
  yAt (gAt (fun k => x0 (ix2 n k)) (fun k c => x2 (ix2 k c)) (x1 (ix2 n 0)) (fun c => x3 (ix2 0 c)) (fun c => x4 (ix2 0 c)))
    (fun c => x5 (ix2 0 c)) (fun c => x6 (ix2 0 c))

/-- Loading the whole block of codes gives the block. -/
theorem ld0 : View.ld x0 r0_0 = x0 := View.ld_unit_lit inb_S21504x1024_S21504x1024_0_0 x0 (by decide)
/-- Loading the whole column of scales gives the column. -/
theorem ld1 : View.ld x1 r0_2 = x1 := View.ld_unit_lit inb_S21504x1_S21504x1_0_0 x1 (by decide)
/-- Loading the whole weight matrix gives the matrix. -/
theorem ld2 : View.ld x2 r0_1 = x2 := View.ld_unit_lit inb_S1024x1024_S1024x1024_0_0 x2 (by decide)
/-- Loading a whole row vector gives the vector. -/
theorem ld3 (x : Vec Ideal S1x1024 .f32) : View.ld x r0_3 = x := View.ld_unit_lit inb_S1x1024_S1x1024_0_0 x (by decide)

/-- The value the reference computes for row `n` is row `n` of the specification's block. -/
theorem all_rows (n : Fin 21504) (c : Fin 1024) :
    k0_pay1 (F := Ideal) (k0_pay6 x0 x1 x2 x3 x4 x5 x6) (View.ld x5 r0_3) (View.ld x6 r0_3) (ix2 n c) = rowB x0 x1 x2 x3 x4 x5 x6 n c := by
  unfold k0_pay6
  rw [ld0, ld1, ld2, ld3, ld3, ld3, ld3, pay1_apply, pay5_apply x0 x2 x1 x3 x4 _ n rfl]
  rfl

/-- What the reference leaves in the first result. -/
theorem out7_apply (y : S21504x1024.Idx) : out0_7 (F := Ideal) x0 x1 x2 x3 x4 x5 x6 y = codesOfRows (rowB x0 x1 x2 x3 x4 x5 x6) y := by
  have hy : y = ix2 (⟨(y 0).val, (y 0).isLt⟩ : Fin 21504) (⟨(y 1).val, (y 1).isLt⟩ : Fin 1024) := by
    funext b
    match b with
    | ⟨0, _⟩ => rfl
    | ⟨1, _⟩ => rfl
  have h := pay3_apply _ _ _ _ (⟨(y 0).val, (y 0).isLt⟩ : Fin 21504) (all_rows x0 x1 x2 x3 x4 x5 x6 _) (⟨(y 1).val, (y 1).isLt⟩ : Fin 1024)
  unfold out0_7
  rw [View.canon_cons_unit_lit inb_S21504x1024_S21504x1024_0_0 _ [] (by decide)]
  exact ((congrArg _ hy).trans h).trans (codesOfRows_at _ y _ _ rfl rfl).symm

/-- What the reference leaves in the second result. -/
theorem out8_apply (y : S84x2x128.Idx) : out0_8 (F := Ideal) x0 x1 x2 x3 x4 x5 x6 y = scalesOfRows (rowB x0 x1 x2 x3 x4 x5 x6) y := by
  have hy : y = ix3 (⟨(y 0).val, (y 0).isLt⟩ : Fin 84) (⟨(y 1).val, (y 1).isLt⟩ : Fin 2) (⟨(y 2).val, (y 2).isLt⟩ : Fin 128) := by
    funext b
    match b with
    | ⟨0, _⟩ => rfl
    | ⟨1, _⟩ => rfl
    | ⟨2, _⟩ => rfl
  have h := pay4_apply _ _ _ _ (⟨(y 0).val, (y 0).isLt⟩ : Fin 84) (⟨(y 1).val, (y 1).isLt⟩ : Fin 2) (⟨(y 2).val, (y 2).isLt⟩ : Fin 128) (all_rows x0 x1 x2 x3 x4 x5 x6 _)
  unfold out0_8
  rw [View.canon_cons_unit_lit inb_S84x2x128_S84x2x128_0_0_0 _ [] (by decide)]
  exact ((congrArg _ hy).trans h).trans (scalesOfRows_at _ y _ _ _ rfl rfl rfl).symm

end blocks

variable (m : (ℓ : Loc nD τ sig) → Buf (Elt Ideal) ℓ)

/-- The codes with documents and positions joined: row `n` is position `n % 896` of document `n / 896`. -/
theorem V0_apply (c : Dev nD) (n : Fin 21504) (k : Fin 1024) :
    (V m c main_v0 : S21504x1024.Idx → EReal) (ix2 n k)
      = (m ((c : Thread nD τ).loc main_arg0) : S24x896x1024.Idx → EReal) (ix3 ⟨n.val / 896, by omega⟩ ⟨n.val % 896, by omega⟩ k) := by
  unfold V
  after_reads_at

/-- The fourth argument, as one row for the kernel: column `v` keeps its value. -/
theorem V2_apply (c : Dev nD) (v : Fin 1024) :
    (V m c main_v2 : S1x1024.Idx → EReal) (ix2 0 v) = (m ((c : Thread nD τ).loc main_arg3) : S1024.Idx → EReal) (ix1 v) := by
  unfold V
  after_reads_at

/-- The fifth argument, as one row for the kernel: column `v` keeps its value. -/
theorem V3_apply (c : Dev nD) (v : Fin 1024) :
    (V m c main_v3 : S1x1024.Idx → EReal) (ix2 0 v) = (m ((c : Thread nD τ).loc main_arg4) : S1024.Idx → EReal) (ix1 v) := by
  unfold V
  after_reads_at

/-- The sixth argument, as one row for the kernel: column `v` keeps its value. -/
theorem V4_apply (c : Dev nD) (v : Fin 1024) :
    (V m c main_v4 : S1x1024.Idx → EReal) (ix2 0 v) = (m ((c : Thread nD τ).loc main_arg5) : S1024.Idx → EReal) (ix1 v) := by
  unfold V
  after_reads_at

/-- The seventh argument, as one row for the kernel: column `v` keeps its value. -/
theorem V5_apply (c : Dev nD) (v : Fin 1024) :
    (V m c main_v5 : S1x1024.Idx → EReal) (ix2 0 v) = (m ((c : Thread nD τ).loc main_arg6) : S1024.Idx → EReal) (ix1 v) := by
  unfold V
  after_reads_at

/-- The input scales as one column: row `n` is position `n % 896` of document `n / 896`. -/
theorem V1_apply (c : Dev nD) (n : Fin 21504) :
    (V m c main_v1 : S21504x1.Idx → EReal) (ix2 n 0)
      = (m ((c : Thread nD τ).loc main_arg1) : S24x896.Idx → EReal) (ix2 ⟨n.val / 896, by omega⟩ ⟨n.val % 896, by omega⟩) := by
  unfold V
  after_reads_at

/-- The block of window 0 is the whole of its array. -/
theorem iblk0_eq (c : Dev nD) (t : Fin cfg0.N) : iblk m c 0 t = (V m c main_v0 : S21504x1024.Idx → EReal) := by
  funext y
  unfold iblk
  refine congrArg (V m c main_v0 : S21504x1024.Idx → EReal) (funext fun a => Fin.ext ?_)
  refine (Window.rect_emb_val (cfg0.win 0) t y a).trans ?_
  exact (congrArg (· + (y a).val) (Nat.zero_mul _)).trans (Nat.zero_add _)

/-- The block of window 1 is the whole of its array. -/
theorem iblk1_eq (c : Dev nD) (t : Fin cfg0.N) : iblk m c 1 t = (V m c main_v1 : S21504x1.Idx → EReal) := by
  funext y
  unfold iblk
  refine congrArg (V m c main_v1 : S21504x1.Idx → EReal) (funext fun a => Fin.ext ?_)
  refine (Window.rect_emb_val (cfg0.win 1) t y a).trans ?_
  exact (congrArg (· + (y a).val) (Nat.zero_mul _)).trans (Nat.zero_add _)

/-- The block of window 2 is the whole of its array. -/
theorem iblk2_eq (c : Dev nD) (t : Fin cfg0.N) : iblk m c 2 t = (V m c main_arg2 : S1024x1024.Idx → EReal) := by
  funext y
  unfold iblk
  refine congrArg (V m c main_arg2 : S1024x1024.Idx → EReal) (funext fun a => Fin.ext ?_)
  refine (Window.rect_emb_val (cfg0.win 2) t y a).trans ?_
  exact (congrArg (· + (y a).val) (Nat.zero_mul _)).trans (Nat.zero_add _)

/-- The block of window 3 is the whole of its array. -/
theorem iblk3_eq (c : Dev nD) (t : Fin cfg0.N) : iblk m c 3 t = (V m c main_v2 : S1x1024.Idx → EReal) := by
  funext y
  unfold iblk
  refine congrArg (V m c main_v2 : S1x1024.Idx → EReal) (funext fun a => Fin.ext ?_)
  refine (Window.rect_emb_val (cfg0.win 3) t y a).trans ?_
  exact (congrArg (· + (y a).val) (Nat.zero_mul _)).trans (Nat.zero_add _)

/-- The block of window 4 is the whole of its array. -/
theorem iblk4_eq (c : Dev nD) (t : Fin cfg0.N) : iblk m c 4 t = (V m c main_v3 : S1x1024.Idx → EReal) := by
  funext y
  unfold iblk
  refine congrArg (V m c main_v3 : S1x1024.Idx → EReal) (funext fun a => Fin.ext ?_)
  refine (Window.rect_emb_val (cfg0.win 4) t y a).trans ?_
  exact (congrArg (· + (y a).val) (Nat.zero_mul _)).trans (Nat.zero_add _)

/-- The block of window 5 is the whole of its array. -/
theorem iblk5_eq (c : Dev nD) (t : Fin cfg0.N) : iblk m c 5 t = (V m c main_v4 : S1x1024.Idx → EReal) := by
  funext y
  unfold iblk
  refine congrArg (V m c main_v4 : S1x1024.Idx → EReal) (funext fun a => Fin.ext ?_)
  refine (Window.rect_emb_val (cfg0.win 5) t y a).trans ?_
  exact (congrArg (· + (y a).val) (Nat.zero_mul _)).trans (Nat.zero_add _)

/-- The block of window 6 is the whole of its array. -/
theorem iblk6_eq (c : Dev nD) (t : Fin cfg0.N) : iblk m c 6 t = (V m c main_v5 : S1x1024.Idx → EReal) := by
  funext y
  unfold iblk
  refine congrArg (V m c main_v5 : S1x1024.Idx → EReal) (funext fun a => Fin.ext ?_)
  refine (Window.rect_emb_val (cfg0.win 6) t y a).trans ?_
  exact (congrArg (· + (y a).val) (Nat.zero_mul _)).trans (Nat.zero_add _)

/-- The normalised rows of the arguments. -/
def rows (c : Dev nD) : Fin 21504 → Fin 1024 → EReal :=
  rowAt (fun d s k => (m ((c : Thread nD τ).loc main_arg0) : S24x896x1024.Idx → EReal) (ix3 d s k))
    (fun d s => (m ((c : Thread nD τ).loc main_arg1) : S24x896.Idx → EReal) (ix2 d s))
    (fun k v => (m ((c : Thread nD τ).loc main_arg2) : S1024x1024.Idx → EReal) (ix2 k v))
    (fun v => (m ((c : Thread nD τ).loc main_arg3) : S1024.Idx → EReal) (ix1 v))
    (fun v => (m ((c : Thread nD τ).loc main_arg4) : S1024.Idx → EReal) (ix1 v))
    (fun v => (m ((c : Thread nD τ).loc main_arg5) : S1024.Idx → EReal) (ix1 v))
    (fun v => (m ((c : Thread nD τ).loc main_arg6) : S1024.Idx → EReal) (ix1 v))

/-- The operands' rows are the arguments' rows. -/
theorem rowB_eq (c : Dev nD) (t : Fin cfg0.N) :
    rowB (iblk m c 0 t) (iblk m c 1 t) (iblk m c 2 t) (iblk m c 3 t) (iblk m c 4 t) (iblk m c 5 t) (iblk m c 6 t) = rows m c := by
  rw [iblk0_eq m c t, iblk1_eq m c t, iblk2_eq m c t, iblk3_eq m c t, iblk4_eq m c t, iblk5_eq m c t, iblk6_eq m c t, V_main_arg2 m c]
  funext n
  unfold rowB rows rowAt
  rw [funext (V0_apply m c n), V1_apply m c n, funext (V2_apply m c), funext (V3_apply m c), funext (V4_apply m c), funext (V5_apply m c)]

/-- Every entry of the codes result lies in some step's block. -/
theorem covers7 : (cfg0.win 7).Covers := by decide +kernel
/-- Every entry of the scales result lies in some step's block. -/
theorem covers8 : (cfg0.win 8).Covers := by decide +kernel

/-- If the codes block equals `G` at every entry, the codes array after the run is `G`. -/
theorem arr7_eq (c : Dev nD) (G : S21504x1024.Idx → EReal)
    (hG : ∀ t y, out0_7 (iblk m c 0 t) (iblk m c 1 t) (iblk m c 2 t) (iblk m c 3 t) (iblk m c 4 t) (iblk m c 5 t) (iblk m c 6 t) y = G y) :
    (dats m 0 c).arrAt 7 cfg0.N = G := by
  refine (dats m 0 c).arrAt_eq_of_covers 7 G covers7 (fun t _ y => ?_)
  have hB := hG t
  rw [after0_7]
  generalize out0_7 (iblk m c 0 t) (iblk m c 1 t) (iblk m c 2 t) (iblk m c 3 t) (iblk m c 4 t) (iblk m c 5 t) (iblk m c 6 t) = B at hB ⊢
  refine Eq.trans (b := B y) rfl ?_
  refine (hB y).trans ?_
  refine congrArg G (funext fun a => Fin.ext ?_)
  refine Eq.trans ?_ (Window.rect_emb_val (cfg0.win 7) t y a).symm
  exact ((congrArg (· + (y a).val) (Nat.zero_mul _)).trans (Nat.zero_add _)).symm

/-- If the scales block equals `G` at every entry, the scales array after the run is `G`. -/
theorem arr8_eq (c : Dev nD) (G : S84x2x128.Idx → EReal)
    (hG : ∀ t y, out0_8 (iblk m c 0 t) (iblk m c 1 t) (iblk m c 2 t) (iblk m c 3 t) (iblk m c 4 t) (iblk m c 5 t) (iblk m c 6 t) y = G y) :
    (dats m 0 c).arrAt 8 cfg0.N = G := by
  refine (dats m 0 c).arrAt_eq_of_covers 8 G covers8 (fun t _ y => ?_)
  have hB := hG t
  rw [after0_8]
  generalize out0_8 (iblk m c 0 t) (iblk m c 1 t) (iblk m c 2 t) (iblk m c 3 t) (iblk m c 4 t) (iblk m c 5 t) (iblk m c 6 t) = B at hB ⊢
  refine Eq.trans (b := B y) rfl ?_
  refine (hB y).trans ?_
  refine congrArg G (funext fun a => Fin.ext ?_)
  refine Eq.trans ?_ (Window.rect_emb_val (cfg0.win 8) t y a).symm
  exact ((congrArg (· + (y a).val) (Nat.zero_mul _)).trans (Nat.zero_add _)).symm

/-- The first result array after the run: the codes. -/
theorem result7_eq (c : Dev nD) : (dats m 0 c).arrAt 7 cfg0.N = codesOfRows (rows m c) :=
  arr7_eq m c _ fun t y => (out7_apply _ _ _ _ _ _ _ y).trans (congrFun (congrArg codesOfRows (rowB_eq m c t)) y)

/-- The second result array after the run: the scales. -/
theorem result8_eq (c : Dev nD) : (dats m 0 c).arrAt 8 cfg0.N = scalesOfRows (rows m c) :=
  arr8_eq m c _ fun t y => (out8_apply _ _ _ _ _ _ _ y).trans (congrFun (congrArg scalesOfRows (rowB_eq m c t)) y)

end Cert.Proof.TransformReferenceIdeal

end
-- ==== Proof.lean ====
module

public import proofs.«01_k».proof.Proof.Lengths
public import proofs.«01_k».proof.Proof.Run4
public import proofs.«01_k».proof.Proof.Printed
public import proofs.«01_k».proof.Proof.Value4
public import proofs.«01_k».proof.Proof.Stats
public import proofs.«01_k».proof.Proof.TransformRun
public import proofs.«01_k».proof.Proof.TransformReferenceRun
public import proofs.«01_k».proof.Proof.Gen.Transform.Frame
public import proofs.«01_k».proof.Proof.Gen.ReferenceIdeal.Frame
public import Idealize.ShloMosaic.Lib.Quiescent

@[expose] public section

set_option maxRecDepth 16384

noncomputable section

namespace Cert.Proof

open Idealize.ShloMosaic Idealize.ShloMosaic.TcCoe Idealize.SL.Sem

/-- The precondition as the frame proof of the kernel takes it, at machine words and floats. -/
theorem len_bits (m : (ℓ : Loc Cert.Kernel.nD Cert.Kernel.τ Cert.Kernel.sig) → Buf (Elt Bits) ℓ)
    (h : letI := Cert.Pre_lens_in_range.Gen.facts; Cert.Pre_Kernel m) (d : ℕ) : Cert.Proof.KernelIdeal.len (mm m) d ≤ 896 := by
  unfold Cert.Proof.KernelIdeal.len
  rw [Cert.Proof.KernelIdeal.V_main_arg0]
  exact len_le _ _ _ _ _ _ (h 0) _

/-- The same at extended reals. -/
theorem len_ideal (m : (ℓ : Loc Cert.KernelIdeal.nD Cert.KernelIdeal.τ Cert.KernelIdeal.sig) → Buf (Elt Ideal) ℓ)
    (h : letI := Cert.Pre_lens_in_range.Gen.facts; Cert.Pre_KernelIdeal m) (d : ℕ) : Cert.Proof.KernelIdeal.len m d ≤ 896 := by
  unfold Cert.Proof.KernelIdeal.len
  rw [Cert.Proof.KernelIdeal.V_main_arg0]
  exact len_le _ _ _ _ _ _ (h 0) _

/-- A document's token count as the argument array holds it. -/
theorem len_arg (m : (ℓ : Loc Cert.KernelIdeal.nD Cert.KernelIdeal.τ Cert.KernelIdeal.sig) → Buf (Elt Ideal) ℓ)
    (h : letI := Cert.Pre_lens_in_range.Gen.facts; Cert.Pre_KernelIdeal m) (c : Dev Cert.KernelIdeal.nD) (d : Fin 24) :
    ((m ((c.tc : Thread Cert.KernelIdeal.nD Cert.KernelIdeal.τ).loc Cert.KernelIdeal.main_arg0) : Cert.KernelIdeal.S24.Idx → BitVec 32) (ix1 d)).toNat ≤ 896 :=
  (Cert.Proof.KernelIdeal.len_at m c d).symm.trans_le (len_ideal m h d)

/-- The kernel and the reference leave the same array: document by document and column by column, the pooled
    representation of the arguments. -/
theorem same_result : letI := Cert.KernelIdeal.Gen.facts; letI := Cert.ReferenceIdeal.Gen.facts; letI := Cert.Pre_lens_in_range.Gen.facts
    Cert.algebraic_KernelIdeal_ReferenceIdeal := by
  intro m g m' g' hpre hargs
  have hL := len_ideal m hpre
  refine ⟨fun c => Cert.Proof.KernelIdeal.pooled m c, ?_, ?_⟩
  · exact Cert.Proof.KernelIdeal.run_value m g hL
  · refine (θ_run _ _ _).mono ?_ (Cert.ReferenceIdeal.Value.run_blocks m' g')
    intro r h c
    obtain ⟨a0, a1, a2, a3, a4, a5⟩ := hargs c
    refine ⟨(h c).1.trans (Cert.Proof.ReferenceIdeal.result_eq m' c _ fun t => ?_), (h c).2⟩
    funext y
    refine (congrArg _ (Cert.Proof.ReferenceIdeal.cell_eq y)).trans
      ((Cert.Proof.ReferenceIdeal.out_apply m' c t (fun d => by rw [a0]; exact len_arg m hpre c d) _ _).trans ?_)
    rw [a0, a1, a2, a3, a4, a5]
    rfl

/-- The statistics' reference runs, leaves its argument unchanged and has no semaphore. -/
theorem frame_stats_reference (m : (ℓ : Loc Cert.StatsReferenceIdeal.nD Cert.StatsReferenceIdeal.τ Cert.StatsReferenceIdeal.sig) → Buf (Elt Ideal) ℓ)
    (ρ : Dev Cert.StatsReferenceIdeal.nD → PrngReg) :
    θ_run (Cert.StatsReferenceIdeal.defs (F := Ideal)) (onTc (τ := Cert.StatsReferenceIdeal.τ) (Cert.StatsReferenceIdeal.main (F := Ideal))) ⟨m, fun _ => 0, ρ⟩
      (fun r => (∀ c : Dev Cert.StatsReferenceIdeal.nD,
        r.2.mem ((c.tc : Thread Cert.StatsReferenceIdeal.nD Cert.StatsReferenceIdeal.τ).loc Cert.StatsReferenceIdeal.main_arg0)
          = m ((c.tc : Thread Cert.StatsReferenceIdeal.nD Cert.StatsReferenceIdeal.τ).loc Cert.StatsReferenceIdeal.main_arg0))
        ∧ r.2.sem = fun _ => 0) :=
  (θ_run _ _ _).mono (fun r h => ⟨fun c => (h c).2.2.2.2.2, sem_eq_zero_of_no_sems (by decide) _⟩) (Cert.StatsReferenceIdeal.Value.run m ρ)

/-- The statistics' kernel and reference leave the same five arrays: the codes and scales of the row quantiser,
    the row sums, the column means and the sum of their squares. -/
theorem same_stats : letI := Cert.StatsIdeal.Gen.facts; letI := Cert.StatsReferenceIdeal.Gen.facts
    Cert.algebraic_StatsIdeal_StatsReferenceIdeal := by
  intro m g m' g' _ hargs
  refine ⟨fun c => Stats.codes (F := Ideal) (m ((c.tc : Thread Cert.StatsIdeal.nD Cert.StatsIdeal.τ).loc Cert.StatsIdeal.main_arg0)),
    fun c => Stats.scales (F := Ideal) (m ((c.tc : Thread Cert.StatsIdeal.nD Cert.StatsIdeal.τ).loc Cert.StatsIdeal.main_arg0)),
    fun c => Stats.l1 (F := Ideal) (m ((c.tc : Thread Cert.StatsIdeal.nD Cert.StatsIdeal.τ).loc Cert.StatsIdeal.main_arg0)),
    fun c => Stats.meanAct (F := Ideal) (m ((c.tc : Thread Cert.StatsIdeal.nD Cert.StatsIdeal.τ).loc Cert.StatsIdeal.main_arg0)),
    fun c => Stats.flops (F := Ideal) (m ((c.tc : Thread Cert.StatsIdeal.nD Cert.StatsIdeal.τ).loc Cert.StatsIdeal.main_arg0)), ?_, ?_⟩
  · refine (θ_run _ _ _).mono ?_ (Cert.StatsIdeal.Value.run_blocks m g)
    intro r h c
    obtain ⟨h1, h2, h3, h4, h5, ha⟩ := h c
    exact ⟨h1.trans (StatsRun.result1_eq m c), h2.trans (StatsRun.result2_eq m c), h3.trans (StatsRun.result3_eq m c),
      h4.trans (StatsRun.result4_eq m c), h5.trans (StatsRun.result5_eq m c), ha⟩
  · refine (θ_run _ _ _).mono ?_ (Cert.StatsReferenceIdeal.Value.run m' g')
    intro r h c
    obtain ⟨h1, h2, h3, h4, h5, ha⟩ := h c
    have e := hargs c
    refine ⟨h1.trans ?_, h2.trans ?_, h3.trans ?_, h4.trans ?_, h5.trans ?_, ha⟩
    · beta_reduce
      unfold Stats.codes Stats.codesRof Stats.scaleR Stats.scaleRof Stats.amaxR
      rw [e]
    · beta_reduce
      unfold Stats.scales Stats.scaleR Stats.scaleRof Stats.amaxR
      rw [e]
    · beta_reduce
      unfold Stats.l1
      rw [e]
    · beta_reduce
      unfold Stats.meanAct
      rw [e]
    · beta_reduce
      unfold Stats.flops
      rw [e]

/-- The feed-forward kernel and its reference leave the same two arrays: the codes and the scales of the normalised rows. -/
theorem same_transform : letI := Cert.TransformIdeal.Gen.facts; letI := Cert.TransformReferenceIdeal.Gen.facts
    Cert.algebraic_TransformIdeal_TransformReferenceIdeal := by
  intro m g m' g' _ hargs
  refine ⟨fun c => Transform.codesOfRows (TransformIdeal.rows m c), fun c => Transform.scalesOfRows (TransformIdeal.rows m c), ?_, ?_⟩
  · refine (θ_run _ _ _).mono ?_ (Cert.TransformIdeal.Value.run_blocks m g)
    intro r h c
    obtain ⟨h7, h8, ha⟩ := h c
    exact ⟨h7.trans (TransformIdeal.result7_eq m c), h8.trans (TransformIdeal.result8_eq m c), ha⟩
  · refine (θ_run _ _ _).mono ?_ (Cert.TransformReferenceIdeal.Value.run_blocks m' g')
    intro r h c
    obtain ⟨h7, h8, ha⟩ := h c
    obtain ⟨a0, a1, a2, a3, a4, a5, a6⟩ := hargs c
    have e : TransformReferenceIdeal.rows m' c = TransformIdeal.rows m c := by
      unfold TransformReferenceIdeal.rows TransformIdeal.rows
      rw [a0, a1, a2, a3, a4, a5, a6]
    exact ⟨(h7.trans (TransformReferenceIdeal.result7_eq m' c)).trans (congrArg Transform.codesOfRows e),
      (h8.trans (TransformReferenceIdeal.result8_eq m' c)).trans (congrArg Transform.scalesOfRows e), ha⟩

theorem claim : Cert.Claim :=
  ⟨Cert.Kernel.Gen.facts, Cert.KernelIdeal.Gen.facts, Cert.ReferenceIdeal.Gen.facts,
    Cert.Transform.Gen.facts, Cert.TransformIdeal.Gen.facts, Cert.TransformReferenceIdeal.Gen.facts, Cert.Stats.Gen.facts, Cert.StatsIdeal.Gen.facts,
    Cert.StatsReferenceIdeal.Gen.facts, Cert.Pre_lens_in_range.Gen.facts,
    fun m ρ h => frame_bits m ρ (len_bits m h),
    fun m ρ h => Cert.Proof.KernelIdeal.frame m ρ (len_ideal m h),
    fun m ρ _ => Cert.ReferenceIdeal.Gen.frame m ρ,
    fun m ρ _ => Cert.ReferenceIdeal.Gen.frame m ρ,
    fun m ρ _ => Cert.Transform.Gen.frame m ρ,
    fun m ρ _ => Cert.TransformIdeal.Gen.frame m ρ,
    fun m ρ _ => Cert.TransformReferenceIdeal.Gen.frame m ρ,
    fun m ρ _ => Cert.Stats.Gen.frame m ρ,
    fun m ρ _ => Cert.StatsIdeal.Gen.frame m ρ,
    fun m ρ _ => frame_stats_reference m ρ,
    trivial,
    same_result,
    trivial,
    same_transform,
    trivial,
    same_stats⟩

end Cert.Proof
